-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdIdeal_act_finite [hPre_act_finite : Cert.Pre_act_finite.Facts] (m : (ℓ : Loc Cert.ActBwdIdeal.nD Cert.ActBwdIdeal.τ Cert.ActBwdIdeal.sig) → Buf (Elt Ideal) ℓ) : Prop :=
  ∀ c : Dev Cert.ActBwdIdeal.nD,
    (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2))).1 = (fun _ => 1#1)
    ∧ (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2))).2.1 = (fun _ => 1#1)
    ∧ (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)) (m ((c.tc : Thread Cert.ActBwdIdeal.nD Cert.ActBwdIdeal.τ).loc Cert.ActBwdIdeal.main_arg2))).2.2 = (fun _ => 1#1)

def Pre_ActBwdRefIdeal (m : (ℓ : Loc Cert.ActBwdRefIdeal.nD Cert.ActBwdRefIdeal.τ Cert.ActBwdRefIdeal.sig) → Buf (Elt Ideal) ℓ) : Prop :=
  True

def Pre_ActBwdRefIdeal_act_finite [hPre_act_finite : Cert.Pre_act_finite.Facts] (m : (ℓ : Loc Cert.ActBwdRefIdeal.nD Cert.ActBwdRefIdeal.τ Cert.ActBwdRefIdeal.sig) → Buf (Elt Ideal) ℓ) : Prop :=
  ∀ c : Dev Cert.ActBwdRefIdeal.nD,
    (Cert.Pre_act_finite.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2))).1 = (fun _ => 1#1)
    ∧ (Cert.Pre_act_finite.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2))).2.1 = (fun _ => 1#1)
    ∧ (Cert.Pre_act_finite.fn (F := Ideal) (m ((c.tc : Thread Cert.ActBwdRefIdeal.nD Cert.ActBwdRefIdeal.τ).loc Cert.ActBwdRefIdeal.main_arg0)) (m ((c.tc : Thread Cert.ActBwdRefIdeal.nD Cert.ActBwdRefIdeal.τ).loc Cert.ActBwdRefIdeal.main_arg1)) (m ((c.tc : Thread Cert.ActBwdRefIdeal.nD Cert.ActBwdRefIdeal.τ).loc Cert.ActBwdRefIdeal.main_arg2))).2.2 = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_finite [hPre_conv_finite : Cert.Pre_conv_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2))) = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_conv_finite [hPre_conv_finite : Cert.Pre_conv_finite.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2))) = (fun _ => 1#1)

def Pre_SbBwd (m : (ℓ : Loc Cert.SbBwd.nD Cert.SbBwd.τ Cert.SbBwd.sig) → Buf (Elt Bits) ℓ) : Prop :=
  True

def Pre_SbBwdIdeal (m : (ℓ : Loc Cert.SbBwdIdeal.nD Cert.SbBwdIdeal.τ Cert.SbBwdIdeal.sig) → Buf (Elt Ideal) ℓ) : Prop :=
  True

def Pre_SbBwdIdeal_sb_finite [hPre_sb_finite : Cert.Pre_sb_finite.Facts] (m : (ℓ : Loc Cert.SbBwdIdeal.nD Cert.SbBwdIdeal.τ Cert.SbBwdIdeal.sig) → Buf (Elt Ideal) ℓ) : Prop :=
  ∀ c : Dev Cert.SbBwdIdeal.nD,
    (Cert.Pre_sb_finite.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1))).1 = (fun _ => 1#1)
    ∧ (Cert.Pre_sb_finite.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1))).2 = (fun _ => 1#1)

def Pre_SbBwdRefIdeal (m : (ℓ : Loc Cert.SbBwdRefIdeal.nD Cert.SbBwdRefIdeal.τ Cert.SbBwdRefIdeal.sig) → Buf (Elt Ideal) ℓ) : Prop :=
  True

def Pre_SbBwdRefIdeal_sb_finite [hPre_sb_finite : Cert.Pre_sb_finite.Facts] (m : (ℓ : Loc Cert.SbBwdRefIdeal.nD Cert.SbBwdRefIdeal.τ Cert.SbBwdRefIdeal.sig) → Buf (Elt Ideal) ℓ) : Prop :=
  ∀ c : Dev Cert.SbBwdRefIdeal.nD,
    (Cert.Pre_sb_finite.fn (F := Ideal) (m ((c.tc : Thread Cert.SbBwdRefIdeal.nD Cert.SbBwdRefIdeal.τ).loc Cert.SbBwdRefIdeal.main_arg0)) (m ((c.tc : Thread Cert.SbBwdRefIdeal.nD Cert.SbBwdRefIdeal.τ).loc Cert.SbBwdRefIdeal.main_arg1))).1 = (fun _ => 1#1)
    ∧ (Cert.Pre_sb_finite.fn (F := Ideal) (m ((c.tc : Thread Cert.SbBwdRefIdeal.nD Cert.SbBwdRefIdeal.τ).loc Cert.SbBwdRefIdeal.main_arg0)) (m ((c.tc : Thread Cert.SbBwdRefIdeal.nD Cert.SbBwdRefIdeal.τ).loc Cert.SbBwdRefIdeal.main_arg1))).2 = (fun _ => 1#1)

def Pre_FfnLnBwd (m : (ℓ : Loc Cert.FfnLnBwd.nD Cert.FfnLnBwd.τ Cert.FfnLnBwd.sig) → Buf (Elt Bits) ℓ) : Prop :=
  True

def Pre_FfnLnBwdIdeal (m : (ℓ : Loc Cert.FfnLnBwdIdeal.nD Cert.FfnLnBwdIdeal.τ Cert.FfnLnBwdIdeal.sig) → Buf (Elt Ideal) ℓ) : Prop :=
  True

def Pre_FfnLnBwdRefIdeal (m : (ℓ : Loc Cert.FfnLnBwdRefIdeal.nD Cert.FfnLnBwdRefIdeal.τ Cert.FfnLnBwdRefIdeal.sig) → Buf (Elt Ideal) ℓ) : Prop :=
  True

def Pre_MixLnBwd (m : (ℓ : Loc Cert.MixLnBwd.nD Cert.MixLnBwd.τ Cert.MixLnBwd.sig) → Buf (Elt Bits) ℓ) : Prop :=
  True

def Pre_MixLnBwdIdeal (m : (ℓ : Loc Cert.MixLnBwdIdeal.nD Cert.MixLnBwdIdeal.τ Cert.MixLnBwdIdeal.sig) → Buf (Elt Ideal) ℓ) : Prop :=
  True

def Pre_MixLnBwdRefIdeal (m : (ℓ : Loc Cert.MixLnBwdRefIdeal.nD Cert.MixLnBwdRefIdeal.τ Cert.MixLnBwdRefIdeal.sig) → Buf (Elt Ideal) ℓ) : Prop :=
  True

def Pre_PleHead (m : (ℓ : Loc Cert.PleHead.nD Cert.PleHead.τ Cert.PleHead.sig) → Buf (Elt Bits) ℓ) : Prop :=
  True

def Pre_PleHeadIdeal (m : (ℓ : Loc Cert.PleHeadIdeal.nD Cert.PleHeadIdeal.τ Cert.PleHeadIdeal.sig) → Buf (Elt Ideal) ℓ) : Prop :=
  True

def Pre_PleHeadRefIdeal (m : (ℓ : Loc Cert.PleHeadRefIdeal.nD Cert.PleHeadRefIdeal.τ Cert.PleHeadRefIdeal.sig) → Buf (Elt Ideal) ℓ) : Prop :=
  True

def Pre_GdnFwdCall (m : (ℓ : Loc Cert.GdnFwdCall.nD Cert.GdnFwdCall.τ Cert.GdnFwdCall.sig) → Buf (Elt Bits) ℓ) : Prop :=
  True

def Pre_GdnFwdCallIdeal (m : (ℓ : Loc Cert.GdnFwdCallIdeal.nD Cert.GdnFwdCallIdeal.τ Cert.GdnFwdCallIdeal.sig) → Buf (Elt Ideal) ℓ) : Prop :=
  True

def Pre_GdnBwdCall (m : (ℓ : Loc Cert.GdnBwdCall.nD Cert.GdnBwdCall.τ Cert.GdnBwdCall.sig) → Buf (Elt Bits) ℓ) : Prop :=
  True

def Pre_GdnBwdCallIdeal (m : (ℓ : Loc Cert.GdnBwdCallIdeal.nD Cert.GdnBwdCallIdeal.τ Cert.GdnBwdCallIdeal.sig) → Buf (Elt Ideal) ℓ) : Prop :=
  True

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_sb_alive [hPre_sb_alive : Cert.Pre_sb_alive.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_sb_alive.fn (F := Ideal) (m ((c.tc : Thread Cert.SbFwdIdeal.nD Cert.SbFwdIdeal.τ).loc Cert.SbFwdIdeal.main_arg0))).1 = (fun _ => 1#1)
    ∧ (Cert.Pre_sb_alive.fn (F := Ideal) (m ((c.tc : Thread Cert.SbFwdIdeal.nD Cert.SbFwdIdeal.τ).loc Cert.SbFwdIdeal.main_arg0))).2 = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_sb_alive [hPre_sb_alive : Cert.Pre_sb_alive.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_sb_alive.fn (F := Ideal) (m ((c.tc : Thread Cert.SbFwdRefIdeal.nD Cert.SbFwdRefIdeal.τ).loc Cert.SbFwdRefIdeal.main_arg0))).1 = (fun _ => 1#1)
    ∧ (Cert.Pre_sb_alive.fn (F := Ideal) (m ((c.tc : Thread Cert.SbFwdRefIdeal.nD Cert.SbFwdRefIdeal.τ).loc Cert.SbFwdRefIdeal.main_arg0))).2 = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_FfnLnFwd (m : (ℓ : Loc Cert.FfnLnFwd.nD Cert.FfnLnFwd.τ Cert.FfnLnFwd.sig) → Buf (Elt Bits) ℓ) : Prop :=
  True

def Pre_FfnLnFwdIdeal (m : (ℓ : Loc Cert.FfnLnFwdIdeal.nD Cert.FfnLnFwdIdeal.τ Cert.FfnLnFwdIdeal.sig) → Buf (Elt Ideal) ℓ) : Prop :=
  True

def Pre_FfnLnFwdRefIdeal (m : (ℓ : Loc Cert.FfnLnFwdRefIdeal.nD Cert.FfnLnFwdRefIdeal.τ Cert.FfnLnFwdRefIdeal.sig) → Buf (Elt Ideal) ℓ) : Prop :=
  True

def Pre_MixLnFwd (m : (ℓ : Loc Cert.MixLnFwd.nD Cert.MixLnFwd.τ Cert.MixLnFwd.sig) → Buf (Elt Bits) ℓ) : Prop :=
  True

def Pre_MixLnFwdIdeal (m : (ℓ : Loc Cert.MixLnFwdIdeal.nD Cert.MixLnFwdIdeal.τ Cert.MixLnFwdIdeal.sig) → Buf (Elt Ideal) ℓ) : Prop :=
  True

def Pre_MixLnFwdRefIdeal (m : (ℓ : Loc Cert.MixLnFwdRefIdeal.nD Cert.MixLnFwdRefIdeal.τ Cert.MixLnFwdRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_MixGates (m : (ℓ : Loc Cert.MixGates.nD Cert.MixGates.τ Cert.MixGates.sig) → Buf (Elt Bits) ℓ) : Prop :=
  True

def Pre_MixGatesIdeal (m : (ℓ : Loc Cert.MixGatesIdeal.nD Cert.MixGatesIdeal.τ Cert.MixGatesIdeal.sig) → Buf (Elt Ideal) ℓ) : Prop :=
  True

def Pre_MixGatesRefIdeal (m : (ℓ : Loc Cert.MixGatesRefIdeal.nD Cert.MixGatesRefIdeal.τ Cert.MixGatesRefIdeal.sig) → Buf (Elt Ideal) ℓ) : Prop :=
  True

def Pre_MixInBwd (m : (ℓ : Loc Cert.MixInBwd.nD Cert.MixInBwd.τ Cert.MixInBwd.sig) → Buf (Elt Bits) ℓ) : Prop :=
  True

def Pre_MixInBwdIdeal (m : (ℓ : Loc Cert.MixInBwdIdeal.nD Cert.MixInBwdIdeal.τ Cert.MixInBwdIdeal.sig) → Buf (Elt Ideal) ℓ) : Prop :=
  True

def Pre_MixInBwdRefIdeal (m : (ℓ : Loc Cert.MixInBwdRefIdeal.nD Cert.MixInBwdRefIdeal.τ Cert.MixInBwdRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDwOut (m : (ℓ : Loc Cert.FfnDwOut.nD Cert.FfnDwOut.τ Cert.FfnDwOut.sig) → Buf (Elt Bits) ℓ) : Prop :=
  True

def Pre_FfnDwOutIdeal (m : (ℓ : Loc Cert.FfnDwOutIdeal.nD Cert.FfnDwOutIdeal.τ Cert.FfnDwOutIdeal.sig) → Buf (Elt Ideal) ℓ) : Prop :=
  True

def Pre_FfnDwOutRefIdeal (m : (ℓ : Loc Cert.FfnDwOutRefIdeal.nD Cert.FfnDwOutRefIdeal.τ Cert.FfnDwOutRefIdeal.sig) → Buf (Elt Ideal) ℓ) : Prop :=
  True

def Pre_FfnDwIn (m : (ℓ : Loc Cert.FfnDwIn.nD Cert.FfnDwIn.τ Cert.FfnDwIn.sig) → Buf (Elt Bits) ℓ) : Prop :=
  True

def Pre_FfnDwInIdeal (m : (ℓ : Loc Cert.FfnDwInIdeal.nD Cert.FfnDwInIdeal.τ Cert.FfnDwInIdeal.sig) → Buf (Elt Ideal) ℓ) : Prop :=
  True

def Pre_FfnDwInRefIdeal (m : (ℓ : Loc Cert.FfnDwInRefIdeal.nD Cert.FfnDwInRefIdeal.τ Cert.FfnDwInRefIdeal.sig) → Buf (Elt Ideal) ℓ) : Prop :=
  True

def Pre_FfnInBwd (m : (ℓ : Loc Cert.FfnInBwd.nD Cert.FfnInBwd.τ Cert.FfnInBwd.sig) → Buf (Elt Bits) ℓ) : Prop :=
  True

def Pre_FfnInBwdIdeal (m : (ℓ : Loc Cert.FfnInBwdIdeal.nD Cert.FfnInBwdIdeal.τ Cert.FfnInBwdIdeal.sig) → Buf (Elt Ideal) ℓ) : Prop :=
  True

def Pre_FfnInBwdRefIdeal (m : (ℓ : Loc Cert.FfnInBwdRefIdeal.nD Cert.FfnInBwdRefIdeal.τ Cert.FfnInBwdRefIdeal.sig) → Buf (Elt Ideal) ℓ) : Prop :=
  True

def Pre_PairAdd [hPre_core_index : Cert.Pre_core_index.Facts] (m : (ℓ : Loc Cert.PairAdd.nD Cert.PairAdd.τ Cert.PairAdd.sig) → Buf (Elt Bits) ℓ) : Prop :=
  ∀ c : Dev Cert.PairAdd.nD,
    (Cert.Pre_core_index.fn (F := Bits) (m ((c.tc : Thread Cert.PairAdd.nD Cert.PairAdd.τ).loc Cert.PairAdd.main_arg0)) (m ((c.tc : Thread Cert.PairAdd.nD Cert.PairAdd.τ).loc Cert.PairAdd.main_arg1)) (m ((c.tc : Thread Cert.PairAdd.nD Cert.PairAdd.τ).loc Cert.PairAdd.main_arg2))) = (fun _ => 1#1)

def Pre_PairAddIdeal [hPre_core_index : Cert.Pre_core_index.Facts] (m : (ℓ : Loc Cert.PairAddIdeal.nD Cert.PairAddIdeal.τ Cert.PairAddIdeal.sig) → Buf (Elt Ideal) ℓ) : Prop :=
  ∀ c : Dev Cert.PairAddIdeal.nD,
    (Cert.Pre_core_index.fn (F := Ideal) (m ((c.tc : Thread Cert.PairAddIdeal.nD Cert.PairAddIdeal.τ).loc Cert.PairAddIdeal.main_arg0)) (m ((c.tc : Thread Cert.PairAddIdeal.nD Cert.PairAddIdeal.τ).loc Cert.PairAddIdeal.main_arg1)) (m ((c.tc : Thread Cert.PairAddIdeal.nD Cert.PairAddIdeal.τ).loc Cert.PairAddIdeal.main_arg2))) = (fun _ => 1#1)

def Pre_PairAddRefIdeal (m : (ℓ : Loc Cert.PairAddRefIdeal.nD Cert.PairAddRefIdeal.τ Cert.PairAddRefIdeal.sig) → Buf (Elt Ideal) ℓ) : Prop :=
  True

def Pre_PairAddRefIdeal_core_index [hPre_core_index : Cert.Pre_core_index.Facts] (m : (ℓ : Loc Cert.PairAddRefIdeal.nD Cert.PairAddRefIdeal.τ Cert.PairAddRefIdeal.sig) → Buf (Elt Ideal) ℓ) : Prop :=
  ∀ c : Dev Cert.PairAddRefIdeal.nD,
    (Cert.Pre_core_index.fn (F := Ideal) (m ((c.tc : Thread Cert.PairAddRefIdeal.nD Cert.PairAddRefIdeal.τ).loc Cert.PairAddRefIdeal.main_arg0)) (m ((c.tc : Thread Cert.PairAddRefIdeal.nD Cert.PairAddRefIdeal.τ).loc Cert.PairAddRefIdeal.main_arg1)) (m ((c.tc : Thread Cert.PairAddRefIdeal.nD Cert.PairAddRefIdeal.τ).loc Cert.PairAddRefIdeal.main_arg2))) = (fun _ => 1#1)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1)
      ∧ r.2.mem ((c.tc : Thread Cert.ActBwd.nD Cert.ActBwd.τ).loc Cert.ActBwd.main_arg2) = m ((c.tc : Thread Cert.ActBwd.nD Cert.ActBwd.τ).loc Cert.ActBwd.main_arg2))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ r.2.sem = fun _ => 0)

def quiescent_ActBwdIdeal_pre_act_finite [hActBwdIdeal : Cert.ActBwdIdeal.Facts] [hPre_act_finite : Cert.Pre_act_finite.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal_act_finite m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ r.2.sem = fun _ => 0)

def quiescent_ActBwdRefIdeal [hActBwdRefIdeal : Cert.ActBwdRefIdeal.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2))
      ∧ r.2.sem = fun _ => 0)

def quiescent_ActBwdRefIdeal_pre_act_finite [hActBwdRefIdeal : Cert.ActBwdRefIdeal.Facts] [hPre_act_finite : Cert.Pre_act_finite.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal_act_finite m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdIdeal_pre_conv_finite [hConvBwdIdeal : Cert.ConvBwdIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_ConvBwdRefIdeal_pre_conv_finite [hConvBwdRefIdeal : Cert.ConvBwdRefIdeal.Facts] [hPre_conv_finite : Cert.Pre_conv_finite.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_conv_finite m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_SbBwd [hSbBwd : Cert.SbBwd.Facts] : Prop :=
  ∀ (m : (ℓ : Loc Cert.SbBwd.nD Cert.SbBwd.τ Cert.SbBwd.sig) → Buf (Elt Bits) ℓ) (g : Dev Cert.SbBwd.nD → PrngReg), Pre_SbBwd m →
    θ_run (Cert.SbBwd.defs (F := Bits)) (onTc (τ := Cert.SbBwd.τ) (Cert.SbBwd.main (F := Bits))) ⟨m, fun _ => 0, g⟩ (fun r => (∀ c : Dev Cert.SbBwd.nD,
      r.2.mem ((c.tc : Thread Cert.SbBwd.nD Cert.SbBwd.τ).loc Cert.SbBwd.main_arg0) = m ((c.tc : Thread Cert.SbBwd.nD Cert.SbBwd.τ).loc Cert.SbBwd.main_arg0)
      ∧ r.2.mem ((c.tc : Thread Cert.SbBwd.nD Cert.SbBwd.τ).loc Cert.SbBwd.main_arg1) = m ((c.tc : Thread Cert.SbBwd.nD Cert.SbBwd.τ).loc Cert.SbBwd.main_arg1))
      ∧ r.2.sem = fun _ => 0)

def quiescent_SbBwdIdeal [hSbBwdIdeal : Cert.SbBwdIdeal.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ r.2.sem = fun _ => 0)

def quiescent_SbBwdIdeal_pre_sb_finite [hSbBwdIdeal : Cert.SbBwdIdeal.Facts] [hPre_sb_finite : Cert.Pre_sb_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal_sb_finite m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ r.2.sem = fun _ => 0)

def quiescent_SbBwdRefIdeal [hSbBwdRefIdeal : Cert.SbBwdRefIdeal.Facts] : Prop :=
  ∀ (m : (ℓ : Loc Cert.SbBwdRefIdeal.nD Cert.SbBwdRefIdeal.τ Cert.SbBwdRefIdeal.sig) → Buf (Elt Ideal) ℓ) (g : Dev Cert.SbBwdRefIdeal.nD → PrngReg), Pre_SbBwdRefIdeal m →
    θ_run (Cert.SbBwdRefIdeal.defs (F := Ideal)) (onTc (τ := Cert.SbBwdRefIdeal.τ) (Cert.SbBwdRefIdeal.main (F := Ideal))) ⟨m, fun _ => 0, g⟩ (fun r => (∀ c : Dev Cert.SbBwdRefIdeal.nD,
      r.2.mem ((c.tc : Thread Cert.SbBwdRefIdeal.nD Cert.SbBwdRefIdeal.τ).loc Cert.SbBwdRefIdeal.main_arg0) = m ((c.tc : Thread Cert.SbBwdRefIdeal.nD Cert.SbBwdRefIdeal.τ).loc Cert.SbBwdRefIdeal.main_arg0)
      ∧ r.2.mem ((c.tc : Thread Cert.SbBwdRefIdeal.nD Cert.SbBwdRefIdeal.τ).loc Cert.SbBwdRefIdeal.main_arg1) = m ((c.tc : Thread Cert.SbBwdRefIdeal.nD Cert.SbBwdRefIdeal.τ).loc Cert.SbBwdRefIdeal.main_arg1))
      ∧ r.2.sem = fun _ => 0)

def quiescent_SbBwdRefIdeal_pre_sb_finite [hSbBwdRefIdeal : Cert.SbBwdRefIdeal.Facts] [hPre_sb_finite : Cert.Pre_sb_finite.Facts] : Prop :=
  ∀ (m : (ℓ : Loc Cert.SbBwdRefIdeal.nD Cert.SbBwdRefIdeal.τ Cert.SbBwdRefIdeal.sig) → Buf (Elt Ideal) ℓ) (g : Dev Cert.SbBwdRefIdeal.nD → PrngReg), Pre_SbBwdRefIdeal_sb_finite m →
    θ_run (Cert.SbBwdRefIdeal.defs (F := Ideal)) (onTc (τ := Cert.SbBwdRefIdeal.τ) (Cert.SbBwdRefIdeal.main (F := Ideal))) ⟨m, fun _ => 0, g⟩ (fun r => (∀ c : Dev Cert.SbBwdRefIdeal.nD,
      r.2.mem ((c.tc : Thread Cert.SbBwdRefIdeal.nD Cert.SbBwdRefIdeal.τ).loc Cert.SbBwdRefIdeal.main_arg0) = m ((c.tc : Thread Cert.SbBwdRefIdeal.nD Cert.SbBwdRefIdeal.τ).loc Cert.SbBwdRefIdeal.main_arg0)
      ∧ r.2.mem ((c.tc : Thread Cert.SbBwdRefIdeal.nD Cert.SbBwdRefIdeal.τ).loc Cert.SbBwdRefIdeal.main_arg1) = m ((c.tc : Thread Cert.SbBwdRefIdeal.nD Cert.SbBwdRefIdeal.τ).loc Cert.SbBwdRefIdeal.main_arg1))
      ∧ r.2.sem = fun _ => 0)

def quiescent_FfnLnBwd [hFfnLnBwd : Cert.FfnLnBwd.Facts] : Prop :=
  ∀ (m : (ℓ : Loc Cert.FfnLnBwd.nD Cert.FfnLnBwd.τ Cert.FfnLnBwd.sig) → Buf (Elt Bits) ℓ) (g : Dev Cert.FfnLnBwd.nD → PrngReg), Pre_FfnLnBwd m →
    θ_run (Cert.FfnLnBwd.defs (F := Bits)) (onTc (τ := Cert.FfnLnBwd.τ) (Cert.FfnLnBwd.main (F := Bits))) ⟨m, fun _ => 0, g⟩ (fun r => (∀ c : Dev Cert.FfnLnBwd.nD,
      r.2.mem ((c.tc : Thread Cert.FfnLnBwd.nD Cert.FfnLnBwd.τ).loc Cert.FfnLnBwd.main_arg0) = m ((c.tc : Thread Cert.FfnLnBwd.nD Cert.FfnLnBwd.τ).loc Cert.FfnLnBwd.main_arg0)
      ∧ r.2.mem ((c.tc : Thread Cert.FfnLnBwd.nD Cert.FfnLnBwd.τ).loc Cert.FfnLnBwd.main_arg1) = m ((c.tc : Thread Cert.FfnLnBwd.nD Cert.FfnLnBwd.τ).loc Cert.FfnLnBwd.main_arg1)
      ∧ r.2.mem ((c.tc : Thread Cert.FfnLnBwd.nD Cert.FfnLnBwd.τ).loc Cert.FfnLnBwd.main_arg2) = m ((c.tc : Thread Cert.FfnLnBwd.nD Cert.FfnLnBwd.τ).loc Cert.FfnLnBwd.main_arg2)
      ∧ r.2.mem ((c.tc : Thread Cert.FfnLnBwd.nD Cert.FfnLnBwd.τ).loc Cert.FfnLnBwd.main_arg3) = m ((c.tc : Thread Cert.FfnLnBwd.nD Cert.FfnLnBwd.τ).loc Cert.FfnLnBwd.main_arg3)
      ∧ r.2.mem ((c.tc : Thread Cert.FfnLnBwd.nD Cert.FfnLnBwd.τ).loc Cert.FfnLnBwd.main_arg4) = m ((c.tc : Thread Cert.FfnLnBwd.nD Cert.FfnLnBwd.τ).loc Cert.FfnLnBwd.main_arg4)
      ∧ r.2.mem ((c.tc : Thread Cert.FfnLnBwd.nD Cert.FfnLnBwd.τ).loc Cert.FfnLnBwd.main_arg5) = m ((c.tc : Thread Cert.FfnLnBwd.nD Cert.FfnLnBwd.τ).loc Cert.FfnLnBwd.main_arg5))
      ∧ r.2.sem = fun _ => 0)

def quiescent_FfnLnBwdIdeal [hFfnLnBwdIdeal : Cert.FfnLnBwdIdeal.Facts] : Prop :=
  ∀ (m : (ℓ : Loc Cert.FfnLnBwdIdeal.nD Cert.FfnLnBwdIdeal.τ Cert.FfnLnBwdIdeal.sig) → Buf (Elt Ideal) ℓ) (g : Dev Cert.FfnLnBwdIdeal.nD → PrngReg), Pre_FfnLnBwdIdeal m →
    θ_run (Cert.FfnLnBwdIdeal.defs (F := Ideal)) (onTc (τ := Cert.FfnLnBwdIdeal.τ) (Cert.FfnLnBwdIdeal.main (F := Ideal))) ⟨m, fun _ => 0, g⟩ (fun r => (∀ c : Dev Cert.FfnLnBwdIdeal.nD,
      r.2.mem ((c.tc : Thread Cert.FfnLnBwdIdeal.nD Cert.FfnLnBwdIdeal.τ).loc Cert.FfnLnBwdIdeal.main_arg0) = m ((c.tc : Thread Cert.FfnLnBwdIdeal.nD Cert.FfnLnBwdIdeal.τ).loc Cert.FfnLnBwdIdeal.main_arg0)
      ∧ r.2.mem ((c.tc : Thread Cert.FfnLnBwdIdeal.nD Cert.FfnLnBwdIdeal.τ).loc Cert.FfnLnBwdIdeal.main_arg1) = m ((c.tc : Thread Cert.FfnLnBwdIdeal.nD Cert.FfnLnBwdIdeal.τ).loc Cert.FfnLnBwdIdeal.main_arg1)
      ∧ r.2.mem ((c.tc : Thread Cert.FfnLnBwdIdeal.nD Cert.FfnLnBwdIdeal.τ).loc Cert.FfnLnBwdIdeal.main_arg2) = m ((c.tc : Thread Cert.FfnLnBwdIdeal.nD Cert.FfnLnBwdIdeal.τ).loc Cert.FfnLnBwdIdeal.main_arg2)
      ∧ r.2.mem ((c.tc : Thread Cert.FfnLnBwdIdeal.nD Cert.FfnLnBwdIdeal.τ).loc Cert.FfnLnBwdIdeal.main_arg3) = m ((c.tc : Thread Cert.FfnLnBwdIdeal.nD Cert.FfnLnBwdIdeal.τ).loc Cert.FfnLnBwdIdeal.main_arg3)
      ∧ r.2.mem ((c.tc : Thread Cert.FfnLnBwdIdeal.nD Cert.FfnLnBwdIdeal.τ).loc Cert.FfnLnBwdIdeal.main_arg4) = m ((c.tc : Thread Cert.FfnLnBwdIdeal.nD Cert.FfnLnBwdIdeal.τ).loc Cert.FfnLnBwdIdeal.main_arg4)
      ∧ r.2.mem ((c.tc : Thread Cert.FfnLnBwdIdeal.nD Cert.FfnLnBwdIdeal.τ).loc Cert.FfnLnBwdIdeal.main_arg5) = m ((c.tc : Thread Cert.FfnLnBwdIdeal.nD Cert.FfnLnBwdIdeal.τ).loc Cert.FfnLnBwdIdeal.main_arg5))
      ∧ r.2.sem = fun _ => 0)

def quiescent_FfnLnBwdRefIdeal [hFfnLnBwdRefIdeal : Cert.FfnLnBwdRefIdeal.Facts] : Prop :=
  ∀ (m : (ℓ : Loc Cert.FfnLnBwdRefIdeal.nD Cert.FfnLnBwdRefIdeal.τ Cert.FfnLnBwdRefIdeal.sig) → Buf (Elt Ideal) ℓ) (g : Dev Cert.FfnLnBwdRefIdeal.nD → PrngReg), Pre_FfnLnBwdRefIdeal m →
    θ_run (Cert.FfnLnBwdRefIdeal.defs (F := Ideal)) (onTc (τ := Cert.FfnLnBwdRefIdeal.τ) (Cert.FfnLnBwdRefIdeal.main (F := Ideal))) ⟨m, fun _ => 0, g⟩ (fun r => (∀ c : Dev Cert.FfnLnBwdRefIdeal.nD,
      r.2.mem ((c.tc : Thread Cert.FfnLnBwdRefIdeal.nD Cert.FfnLnBwdRefIdeal.τ).loc Cert.FfnLnBwdRefIdeal.main_arg0) = m ((c.tc : Thread Cert.FfnLnBwdRefIdeal.nD Cert.FfnLnBwdRefIdeal.τ).loc Cert.FfnLnBwdRefIdeal.main_arg0)
      ∧ r.2.mem ((c.tc : Thread Cert.FfnLnBwdRefIdeal.nD Cert.FfnLnBwdRefIdeal.τ).loc Cert.FfnLnBwdRefIdeal.main_arg1) = m ((c.tc : Thread Cert.FfnLnBwdRefIdeal.nD Cert.FfnLnBwdRefIdeal.τ).loc Cert.FfnLnBwdRefIdeal.main_arg1)
      ∧ r.2.mem ((c.tc : Thread Cert.FfnLnBwdRefIdeal.nD Cert.FfnLnBwdRefIdeal.τ).loc Cert.FfnLnBwdRefIdeal.main_arg2) = m ((c.tc : Thread Cert.FfnLnBwdRefIdeal.nD Cert.FfnLnBwdRefIdeal.τ).loc Cert.FfnLnBwdRefIdeal.main_arg2)
      ∧ r.2.mem ((c.tc : Thread Cert.FfnLnBwdRefIdeal.nD Cert.FfnLnBwdRefIdeal.τ).loc Cert.FfnLnBwdRefIdeal.main_arg3) = m ((c.tc : Thread Cert.FfnLnBwdRefIdeal.nD Cert.FfnLnBwdRefIdeal.τ).loc Cert.FfnLnBwdRefIdeal.main_arg3)
      ∧ r.2.mem ((c.tc : Thread Cert.FfnLnBwdRefIdeal.nD Cert.FfnLnBwdRefIdeal.τ).loc Cert.FfnLnBwdRefIdeal.main_arg4) = m ((c.tc : Thread Cert.FfnLnBwdRefIdeal.nD Cert.FfnLnBwdRefIdeal.τ).loc Cert.FfnLnBwdRefIdeal.main_arg4)
      ∧ r.2.mem ((c.tc : Thread Cert.FfnLnBwdRefIdeal.nD Cert.FfnLnBwdRefIdeal.τ).loc Cert.FfnLnBwdRefIdeal.main_arg5) = m ((c.tc : Thread Cert.FfnLnBwdRefIdeal.nD Cert.FfnLnBwdRefIdeal.τ).loc Cert.FfnLnBwdRefIdeal.main_arg5))
      ∧ r.2.sem = fun _ => 0)

def quiescent_MixLnBwd [hMixLnBwd : Cert.MixLnBwd.Facts] : Prop :=
  ∀ (m : (ℓ : Loc Cert.MixLnBwd.nD Cert.MixLnBwd.τ Cert.MixLnBwd.sig) → Buf (Elt Bits) ℓ) (g : Dev Cert.MixLnBwd.nD → PrngReg), Pre_MixLnBwd m →
    θ_run (Cert.MixLnBwd.defs (F := Bits)) (onTc (τ := Cert.MixLnBwd.τ) (Cert.MixLnBwd.main (F := Bits))) ⟨m, fun _ => 0, g⟩ (fun r => (∀ c : Dev Cert.MixLnBwd.nD,
      r.2.mem ((c.tc : Thread Cert.MixLnBwd.nD Cert.MixLnBwd.τ).loc Cert.MixLnBwd.main_arg0) = m ((c.tc : Thread Cert.MixLnBwd.nD Cert.MixLnBwd.τ).loc Cert.MixLnBwd.main_arg0)
      ∧ r.2.mem ((c.tc : Thread Cert.MixLnBwd.nD Cert.MixLnBwd.τ).loc Cert.MixLnBwd.main_arg1) = m ((c.tc : Thread Cert.MixLnBwd.nD Cert.MixLnBwd.τ).loc Cert.MixLnBwd.main_arg1)
      ∧ r.2.mem ((c.tc : Thread Cert.MixLnBwd.nD Cert.MixLnBwd.τ).loc Cert.MixLnBwd.main_arg2) = m ((c.tc : Thread Cert.MixLnBwd.nD Cert.MixLnBwd.τ).loc Cert.MixLnBwd.main_arg2)
      ∧ r.2.mem ((c.tc : Thread Cert.MixLnBwd.nD Cert.MixLnBwd.τ).loc Cert.MixLnBwd.main_arg3) = m ((c.tc : Thread Cert.MixLnBwd.nD Cert.MixLnBwd.τ).loc Cert.MixLnBwd.main_arg3)
      ∧ r.2.mem ((c.tc : Thread Cert.MixLnBwd.nD Cert.MixLnBwd.τ).loc Cert.MixLnBwd.main_arg4) = m ((c.tc : Thread Cert.MixLnBwd.nD Cert.MixLnBwd.τ).loc Cert.MixLnBwd.main_arg4)
      ∧ r.2.mem ((c.tc : Thread Cert.MixLnBwd.nD Cert.MixLnBwd.τ).loc Cert.MixLnBwd.main_arg5) = m ((c.tc : Thread Cert.MixLnBwd.nD Cert.MixLnBwd.τ).loc Cert.MixLnBwd.main_arg5))
      ∧ r.2.sem = fun _ => 0)

def quiescent_MixLnBwdIdeal [hMixLnBwdIdeal : Cert.MixLnBwdIdeal.Facts] : Prop :=
  ∀ (m : (ℓ : Loc Cert.MixLnBwdIdeal.nD Cert.MixLnBwdIdeal.τ Cert.MixLnBwdIdeal.sig) → Buf (Elt Ideal) ℓ) (g : Dev Cert.MixLnBwdIdeal.nD → PrngReg), Pre_MixLnBwdIdeal m →
    θ_run (Cert.MixLnBwdIdeal.defs (F := Ideal)) (onTc (τ := Cert.MixLnBwdIdeal.τ) (Cert.MixLnBwdIdeal.main (F := Ideal))) ⟨m, fun _ => 0, g⟩ (fun r => (∀ c : Dev Cert.MixLnBwdIdeal.nD,
      r.2.mem ((c.tc : Thread Cert.MixLnBwdIdeal.nD Cert.MixLnBwdIdeal.τ).loc Cert.MixLnBwdIdeal.main_arg0) = m ((c.tc : Thread Cert.MixLnBwdIdeal.nD Cert.MixLnBwdIdeal.τ).loc Cert.MixLnBwdIdeal.main_arg0)
      ∧ r.2.mem ((c.tc : Thread Cert.MixLnBwdIdeal.nD Cert.MixLnBwdIdeal.τ).loc Cert.MixLnBwdIdeal.main_arg1) = m ((c.tc : Thread Cert.MixLnBwdIdeal.nD Cert.MixLnBwdIdeal.τ).loc Cert.MixLnBwdIdeal.main_arg1)
      ∧ r.2.mem ((c.tc : Thread Cert.MixLnBwdIdeal.nD Cert.MixLnBwdIdeal.τ).loc Cert.MixLnBwdIdeal.main_arg2) = m ((c.tc : Thread Cert.MixLnBwdIdeal.nD Cert.MixLnBwdIdeal.τ).loc Cert.MixLnBwdIdeal.main_arg2)
      ∧ r.2.mem ((c.tc : Thread Cert.MixLnBwdIdeal.nD Cert.MixLnBwdIdeal.τ).loc Cert.MixLnBwdIdeal.main_arg3) = m ((c.tc : Thread Cert.MixLnBwdIdeal.nD Cert.MixLnBwdIdeal.τ).loc Cert.MixLnBwdIdeal.main_arg3)
      ∧ r.2.mem ((c.tc : Thread Cert.MixLnBwdIdeal.nD Cert.MixLnBwdIdeal.τ).loc Cert.MixLnBwdIdeal.main_arg4) = m ((c.tc : Thread Cert.MixLnBwdIdeal.nD Cert.MixLnBwdIdeal.τ).loc Cert.MixLnBwdIdeal.main_arg4)
      ∧ r.2.mem ((c.tc : Thread Cert.MixLnBwdIdeal.nD Cert.MixLnBwdIdeal.τ).loc Cert.MixLnBwdIdeal.main_arg5) = m ((c.tc : Thread Cert.MixLnBwdIdeal.nD Cert.MixLnBwdIdeal.τ).loc Cert.MixLnBwdIdeal.main_arg5))
      ∧ r.2.sem = fun _ => 0)

def quiescent_MixLnBwdRefIdeal [hMixLnBwdRefIdeal : Cert.MixLnBwdRefIdeal.Facts] : Prop :=
  ∀ (m : (ℓ : Loc Cert.MixLnBwdRefIdeal.nD Cert.MixLnBwdRefIdeal.τ Cert.MixLnBwdRefIdeal.sig) → Buf (Elt Ideal) ℓ) (g : Dev Cert.MixLnBwdRefIdeal.nD → PrngReg), Pre_MixLnBwdRefIdeal m →
    θ_run (Cert.MixLnBwdRefIdeal.defs (F := Ideal)) (onTc (τ := Cert.MixLnBwdRefIdeal.τ) (Cert.MixLnBwdRefIdeal.main (F := Ideal))) ⟨m, fun _ => 0, g⟩ (fun r => (∀ c : Dev Cert.MixLnBwdRefIdeal.nD,
      r.2.mem ((c.tc : Thread Cert.MixLnBwdRefIdeal.nD Cert.MixLnBwdRefIdeal.τ).loc Cert.MixLnBwdRefIdeal.main_arg0) = m ((c.tc : Thread Cert.MixLnBwdRefIdeal.nD Cert.MixLnBwdRefIdeal.τ).loc Cert.MixLnBwdRefIdeal.main_arg0)
      ∧ r.2.mem ((c.tc : Thread Cert.MixLnBwdRefIdeal.nD Cert.MixLnBwdRefIdeal.τ).loc Cert.MixLnBwdRefIdeal.main_arg1) = m ((c.tc : Thread Cert.MixLnBwdRefIdeal.nD Cert.MixLnBwdRefIdeal.τ).loc Cert.MixLnBwdRefIdeal.main_arg1)
      ∧ r.2.mem ((c.tc : Thread Cert.MixLnBwdRefIdeal.nD Cert.MixLnBwdRefIdeal.τ).loc Cert.MixLnBwdRefIdeal.main_arg2) = m ((c.tc : Thread Cert.MixLnBwdRefIdeal.nD Cert.MixLnBwdRefIdeal.τ).loc Cert.MixLnBwdRefIdeal.main_arg2)
      ∧ r.2.mem ((c.tc : Thread Cert.MixLnBwdRefIdeal.nD Cert.MixLnBwdRefIdeal.τ).loc Cert.MixLnBwdRefIdeal.main_arg3) = m ((c.tc : Thread Cert.MixLnBwdRefIdeal.nD Cert.MixLnBwdRefIdeal.τ).loc Cert.MixLnBwdRefIdeal.main_arg3)
      ∧ r.2.mem ((c.tc : Thread Cert.MixLnBwdRefIdeal.nD Cert.MixLnBwdRefIdeal.τ).loc Cert.MixLnBwdRefIdeal.main_arg4) = m ((c.tc : Thread Cert.MixLnBwdRefIdeal.nD Cert.MixLnBwdRefIdeal.τ).loc Cert.MixLnBwdRefIdeal.main_arg4)
      ∧ r.2.mem ((c.tc : Thread Cert.MixLnBwdRefIdeal.nD Cert.MixLnBwdRefIdeal.τ).loc Cert.MixLnBwdRefIdeal.main_arg5) = m ((c.tc : Thread Cert.MixLnBwdRefIdeal.nD Cert.MixLnBwdRefIdeal.τ).loc Cert.MixLnBwdRefIdeal.main_arg5))
      ∧ r.2.sem = fun _ => 0)

def quiescent_PleHead [hPleHead : Cert.PleHead.Facts] : Prop :=
  ∀ (m : (ℓ : Loc Cert.PleHead.nD Cert.PleHead.τ Cert.PleHead.sig) → Buf (Elt Bits) ℓ) (g : Dev Cert.PleHead.nD → PrngReg), Pre_PleHead m →
    θ_run (Cert.PleHead.defs (F := Bits)) (onTc (τ := Cert.PleHead.τ) (Cert.PleHead.main (F := Bits))) ⟨m, fun _ => 0, g⟩ (fun r => (∀ c : Dev Cert.PleHead.nD,
      r.2.mem ((c.tc : Thread Cert.PleHead.nD Cert.PleHead.τ).loc Cert.PleHead.main_arg0) = m ((c.tc : Thread Cert.PleHead.nD Cert.PleHead.τ).loc Cert.PleHead.main_arg0)
      ∧ r.2.mem ((c.tc : Thread Cert.PleHead.nD Cert.PleHead.τ).loc Cert.PleHead.main_arg1) = m ((c.tc : Thread Cert.PleHead.nD Cert.PleHead.τ).loc Cert.PleHead.main_arg1)
      ∧ r.2.mem ((c.tc : Thread Cert.PleHead.nD Cert.PleHead.τ).loc Cert.PleHead.main_arg2) = m ((c.tc : Thread Cert.PleHead.nD Cert.PleHead.τ).loc Cert.PleHead.main_arg2)
      ∧ r.2.mem ((c.tc : Thread Cert.PleHead.nD Cert.PleHead.τ).loc Cert.PleHead.main_arg3) = m ((c.tc : Thread Cert.PleHead.nD Cert.PleHead.τ).loc Cert.PleHead.main_arg3)
      ∧ r.2.mem ((c.tc : Thread Cert.PleHead.nD Cert.PleHead.τ).loc Cert.PleHead.main_arg4) = m ((c.tc : Thread Cert.PleHead.nD Cert.PleHead.τ).loc Cert.PleHead.main_arg4)
      ∧ r.2.mem ((c.tc : Thread Cert.PleHead.nD Cert.PleHead.τ).loc Cert.PleHead.main_arg5) = m ((c.tc : Thread Cert.PleHead.nD Cert.PleHead.τ).loc Cert.PleHead.main_arg5)
      ∧ r.2.mem ((c.tc : Thread Cert.PleHead.nD Cert.PleHead.τ).loc Cert.PleHead.main_arg6) = m ((c.tc : Thread Cert.PleHead.nD Cert.PleHead.τ).loc Cert.PleHead.main_arg6))
      ∧ r.2.sem = fun _ => 0)

def quiescent_PleHeadIdeal [hPleHeadIdeal : Cert.PleHeadIdeal.Facts] : Prop :=
  ∀ (m : (ℓ : Loc Cert.PleHeadIdeal.nD Cert.PleHeadIdeal.τ Cert.PleHeadIdeal.sig) → Buf (Elt Ideal) ℓ) (g : Dev Cert.PleHeadIdeal.nD → PrngReg), Pre_PleHeadIdeal m →
    θ_run (Cert.PleHeadIdeal.defs (F := Ideal)) (onTc (τ := Cert.PleHeadIdeal.τ) (Cert.PleHeadIdeal.main (F := Ideal))) ⟨m, fun _ => 0, g⟩ (fun r => (∀ c : Dev Cert.PleHeadIdeal.nD,
      r.2.mem ((c.tc : Thread Cert.PleHeadIdeal.nD Cert.PleHeadIdeal.τ).loc Cert.PleHeadIdeal.main_arg0) = m ((c.tc : Thread Cert.PleHeadIdeal.nD Cert.PleHeadIdeal.τ).loc Cert.PleHeadIdeal.main_arg0)
      ∧ r.2.mem ((c.tc : Thread Cert.PleHeadIdeal.nD Cert.PleHeadIdeal.τ).loc Cert.PleHeadIdeal.main_arg1) = m ((c.tc : Thread Cert.PleHeadIdeal.nD Cert.PleHeadIdeal.τ).loc Cert.PleHeadIdeal.main_arg1)
      ∧ r.2.mem ((c.tc : Thread Cert.PleHeadIdeal.nD Cert.PleHeadIdeal.τ).loc Cert.PleHeadIdeal.main_arg2) = m ((c.tc : Thread Cert.PleHeadIdeal.nD Cert.PleHeadIdeal.τ).loc Cert.PleHeadIdeal.main_arg2)
      ∧ r.2.mem ((c.tc : Thread Cert.PleHeadIdeal.nD Cert.PleHeadIdeal.τ).loc Cert.PleHeadIdeal.main_arg3) = m ((c.tc : Thread Cert.PleHeadIdeal.nD Cert.PleHeadIdeal.τ).loc Cert.PleHeadIdeal.main_arg3)
      ∧ r.2.mem ((c.tc : Thread Cert.PleHeadIdeal.nD Cert.PleHeadIdeal.τ).loc Cert.PleHeadIdeal.main_arg4) = m ((c.tc : Thread Cert.PleHeadIdeal.nD Cert.PleHeadIdeal.τ).loc Cert.PleHeadIdeal.main_arg4)
      ∧ r.2.mem ((c.tc : Thread Cert.PleHeadIdeal.nD Cert.PleHeadIdeal.τ).loc Cert.PleHeadIdeal.main_arg5) = m ((c.tc : Thread Cert.PleHeadIdeal.nD Cert.PleHeadIdeal.τ).loc Cert.PleHeadIdeal.main_arg5)
      ∧ r.2.mem ((c.tc : Thread Cert.PleHeadIdeal.nD Cert.PleHeadIdeal.τ).loc Cert.PleHeadIdeal.main_arg6) = m ((c.tc : Thread Cert.PleHeadIdeal.nD Cert.PleHeadIdeal.τ).loc Cert.PleHeadIdeal.main_arg6))
      ∧ r.2.sem = fun _ => 0)

def quiescent_PleHeadRefIdeal [hPleHeadRefIdeal : Cert.PleHeadRefIdeal.Facts] : Prop :=
  ∀ (m : (ℓ : Loc Cert.PleHeadRefIdeal.nD Cert.PleHeadRefIdeal.τ Cert.PleHeadRefIdeal.sig) → Buf (Elt Ideal) ℓ) (g : Dev Cert.PleHeadRefIdeal.nD → PrngReg), Pre_PleHeadRefIdeal m →
    θ_run (Cert.PleHeadRefIdeal.defs (F := Ideal)) (onTc (τ := Cert.PleHeadRefIdeal.τ) (Cert.PleHeadRefIdeal.main (F := Ideal))) ⟨m, fun _ => 0, g⟩ (fun r => (∀ c : Dev Cert.PleHeadRefIdeal.nD,
      r.2.mem ((c.tc : Thread Cert.PleHeadRefIdeal.nD Cert.PleHeadRefIdeal.τ).loc Cert.PleHeadRefIdeal.main_arg0) = m ((c.tc : Thread Cert.PleHeadRefIdeal.nD Cert.PleHeadRefIdeal.τ).loc Cert.PleHeadRefIdeal.main_arg0)
      ∧ r.2.mem ((c.tc : Thread Cert.PleHeadRefIdeal.nD Cert.PleHeadRefIdeal.τ).loc Cert.PleHeadRefIdeal.main_arg1) = m ((c.tc : Thread Cert.PleHeadRefIdeal.nD Cert.PleHeadRefIdeal.τ).loc Cert.PleHeadRefIdeal.main_arg1)
      ∧ r.2.mem ((c.tc : Thread Cert.PleHeadRefIdeal.nD Cert.PleHeadRefIdeal.τ).loc Cert.PleHeadRefIdeal.main_arg2) = m ((c.tc : Thread Cert.PleHeadRefIdeal.nD Cert.PleHeadRefIdeal.τ).loc Cert.PleHeadRefIdeal.main_arg2)
      ∧ r.2.mem ((c.tc : Thread Cert.PleHeadRefIdeal.nD Cert.PleHeadRefIdeal.τ).loc Cert.PleHeadRefIdeal.main_arg3) = m ((c.tc : Thread Cert.PleHeadRefIdeal.nD Cert.PleHeadRefIdeal.τ).loc Cert.PleHeadRefIdeal.main_arg3)
      ∧ r.2.mem ((c.tc : Thread Cert.PleHeadRefIdeal.nD Cert.PleHeadRefIdeal.τ).loc Cert.PleHeadRefIdeal.main_arg4) = m ((c.tc : Thread Cert.PleHeadRefIdeal.nD Cert.PleHeadRefIdeal.τ).loc Cert.PleHeadRefIdeal.main_arg4)
      ∧ r.2.mem ((c.tc : Thread Cert.PleHeadRefIdeal.nD Cert.PleHeadRefIdeal.τ).loc Cert.PleHeadRefIdeal.main_arg5) = m ((c.tc : Thread Cert.PleHeadRefIdeal.nD Cert.PleHeadRefIdeal.τ).loc Cert.PleHeadRefIdeal.main_arg5)
      ∧ r.2.mem ((c.tc : Thread Cert.PleHeadRefIdeal.nD Cert.PleHeadRefIdeal.τ).loc Cert.PleHeadRefIdeal.main_arg6) = m ((c.tc : Thread Cert.PleHeadRefIdeal.nD Cert.PleHeadRefIdeal.τ).loc Cert.PleHeadRefIdeal.main_arg6))
      ∧ r.2.sem = fun _ => 0)

def quiescent_GdnFwdCall [hGdnFwdCall : Cert.GdnFwdCall.Facts] : Prop :=
  ∀ (m : (ℓ : Loc Cert.GdnFwdCall.nD Cert.GdnFwdCall.τ Cert.GdnFwdCall.sig) → Buf (Elt Bits) ℓ) (g : Dev Cert.GdnFwdCall.nD → PrngReg), Pre_GdnFwdCall m →
    θ_run (Cert.GdnFwdCall.defs (F := Bits)) (onTc (τ := Cert.GdnFwdCall.τ) (Cert.GdnFwdCall.main (F := Bits))) ⟨m, fun _ => 0, g⟩ (fun r => (∀ c : Dev Cert.GdnFwdCall.nD,
      r.2.mem ((c.tc : Thread Cert.GdnFwdCall.nD Cert.GdnFwdCall.τ).loc Cert.GdnFwdCall.main_arg0) = m ((c.tc : Thread Cert.GdnFwdCall.nD Cert.GdnFwdCall.τ).loc Cert.GdnFwdCall.main_arg0)
      ∧ r.2.mem ((c.tc : Thread Cert.GdnFwdCall.nD Cert.GdnFwdCall.τ).loc Cert.GdnFwdCall.main_arg1) = m ((c.tc : Thread Cert.GdnFwdCall.nD Cert.GdnFwdCall.τ).loc Cert.GdnFwdCall.main_arg1)
      ∧ r.2.mem ((c.tc : Thread Cert.GdnFwdCall.nD Cert.GdnFwdCall.τ).loc Cert.GdnFwdCall.main_arg2) = m ((c.tc : Thread Cert.GdnFwdCall.nD Cert.GdnFwdCall.τ).loc Cert.GdnFwdCall.main_arg2)
      ∧ r.2.mem ((c.tc : Thread Cert.GdnFwdCall.nD Cert.GdnFwdCall.τ).loc Cert.GdnFwdCall.main_arg3) = m ((c.tc : Thread Cert.GdnFwdCall.nD Cert.GdnFwdCall.τ).loc Cert.GdnFwdCall.main_arg3)
      ∧ r.2.mem ((c.tc : Thread Cert.GdnFwdCall.nD Cert.GdnFwdCall.τ).loc Cert.GdnFwdCall.main_arg4) = m ((c.tc : Thread Cert.GdnFwdCall.nD Cert.GdnFwdCall.τ).loc Cert.GdnFwdCall.main_arg4)
      ∧ r.2.mem ((c.tc : Thread Cert.GdnFwdCall.nD Cert.GdnFwdCall.τ).loc Cert.GdnFwdCall.main_arg5) = m ((c.tc : Thread Cert.GdnFwdCall.nD Cert.GdnFwdCall.τ).loc Cert.GdnFwdCall.main_arg5))
      ∧ r.2.sem = fun _ => 0)

def quiescent_GdnFwdCallIdeal [hGdnFwdCallIdeal : Cert.GdnFwdCallIdeal.Facts] : Prop :=
  ∀ (m : (ℓ : Loc Cert.GdnFwdCallIdeal.nD Cert.GdnFwdCallIdeal.τ Cert.GdnFwdCallIdeal.sig) → Buf (Elt Ideal) ℓ) (g : Dev Cert.GdnFwdCallIdeal.nD → PrngReg), Pre_GdnFwdCallIdeal m →
    θ_run (Cert.GdnFwdCallIdeal.defs (F := Ideal)) (onTc (τ := Cert.GdnFwdCallIdeal.τ) (Cert.GdnFwdCallIdeal.main (F := Ideal))) ⟨m, fun _ => 0, g⟩ (fun r => (∀ c : Dev Cert.GdnFwdCallIdeal.nD,
      r.2.mem ((c.tc : Thread Cert.GdnFwdCallIdeal.nD Cert.GdnFwdCallIdeal.τ).loc Cert.GdnFwdCallIdeal.main_arg0) = m ((c.tc : Thread Cert.GdnFwdCallIdeal.nD Cert.GdnFwdCallIdeal.τ).loc Cert.GdnFwdCallIdeal.main_arg0)
      ∧ r.2.mem ((c.tc : Thread Cert.GdnFwdCallIdeal.nD Cert.GdnFwdCallIdeal.τ).loc Cert.GdnFwdCallIdeal.main_arg1) = m ((c.tc : Thread Cert.GdnFwdCallIdeal.nD Cert.GdnFwdCallIdeal.τ).loc Cert.GdnFwdCallIdeal.main_arg1)
      ∧ r.2.mem ((c.tc : Thread Cert.GdnFwdCallIdeal.nD Cert.GdnFwdCallIdeal.τ).loc Cert.GdnFwdCallIdeal.main_arg2) = m ((c.tc : Thread Cert.GdnFwdCallIdeal.nD Cert.GdnFwdCallIdeal.τ).loc Cert.GdnFwdCallIdeal.main_arg2)
      ∧ r.2.mem ((c.tc : Thread Cert.GdnFwdCallIdeal.nD Cert.GdnFwdCallIdeal.τ).loc Cert.GdnFwdCallIdeal.main_arg3) = m ((c.tc : Thread Cert.GdnFwdCallIdeal.nD Cert.GdnFwdCallIdeal.τ).loc Cert.GdnFwdCallIdeal.main_arg3)
      ∧ r.2.mem ((c.tc : Thread Cert.GdnFwdCallIdeal.nD Cert.GdnFwdCallIdeal.τ).loc Cert.GdnFwdCallIdeal.main_arg4) = m ((c.tc : Thread Cert.GdnFwdCallIdeal.nD Cert.GdnFwdCallIdeal.τ).loc Cert.GdnFwdCallIdeal.main_arg4)
      ∧ r.2.mem ((c.tc : Thread Cert.GdnFwdCallIdeal.nD Cert.GdnFwdCallIdeal.τ).loc Cert.GdnFwdCallIdeal.main_arg5) = m ((c.tc : Thread Cert.GdnFwdCallIdeal.nD Cert.GdnFwdCallIdeal.τ).loc Cert.GdnFwdCallIdeal.main_arg5))
      ∧ r.2.sem = fun _ => 0)

def quiescent_GdnBwdCall [hGdnBwdCall : Cert.GdnBwdCall.Facts] : Prop :=
  ∀ (m : (ℓ : Loc Cert.GdnBwdCall.nD Cert.GdnBwdCall.τ Cert.GdnBwdCall.sig) → Buf (Elt Bits) ℓ) (g : Dev Cert.GdnBwdCall.nD → PrngReg), Pre_GdnBwdCall m →
    θ_run (Cert.GdnBwdCall.defs (F := Bits)) (onTc (τ := Cert.GdnBwdCall.τ) (Cert.GdnBwdCall.main (F := Bits))) ⟨m, fun _ => 0, g⟩ (fun r => (∀ c : Dev Cert.GdnBwdCall.nD,
      r.2.mem ((c.tc : Thread Cert.GdnBwdCall.nD Cert.GdnBwdCall.τ).loc Cert.GdnBwdCall.main_arg0) = m ((c.tc : Thread Cert.GdnBwdCall.nD Cert.GdnBwdCall.τ).loc Cert.GdnBwdCall.main_arg0)
      ∧ r.2.mem ((c.tc : Thread Cert.GdnBwdCall.nD Cert.GdnBwdCall.τ).loc Cert.GdnBwdCall.main_arg1) = m ((c.tc : Thread Cert.GdnBwdCall.nD Cert.GdnBwdCall.τ).loc Cert.GdnBwdCall.main_arg1)
      ∧ r.2.mem ((c.tc : Thread Cert.GdnBwdCall.nD Cert.GdnBwdCall.τ).loc Cert.GdnBwdCall.main_arg2) = m ((c.tc : Thread Cert.GdnBwdCall.nD Cert.GdnBwdCall.τ).loc Cert.GdnBwdCall.main_arg2)
      ∧ r.2.mem ((c.tc : Thread Cert.GdnBwdCall.nD Cert.GdnBwdCall.τ).loc Cert.GdnBwdCall.main_arg3) = m ((c.tc : Thread Cert.GdnBwdCall.nD Cert.GdnBwdCall.τ).loc Cert.GdnBwdCall.main_arg3)
      ∧ r.2.mem ((c.tc : Thread Cert.GdnBwdCall.nD Cert.GdnBwdCall.τ).loc Cert.GdnBwdCall.main_arg4) = m ((c.tc : Thread Cert.GdnBwdCall.nD Cert.GdnBwdCall.τ).loc Cert.GdnBwdCall.main_arg4)
      ∧ r.2.mem ((c.tc : Thread Cert.GdnBwdCall.nD Cert.GdnBwdCall.τ).loc Cert.GdnBwdCall.main_arg5) = m ((c.tc : Thread Cert.GdnBwdCall.nD Cert.GdnBwdCall.τ).loc Cert.GdnBwdCall.main_arg5)
      ∧ r.2.mem ((c.tc : Thread Cert.GdnBwdCall.nD Cert.GdnBwdCall.τ).loc Cert.GdnBwdCall.main_arg6) = m ((c.tc : Thread Cert.GdnBwdCall.nD Cert.GdnBwdCall.τ).loc Cert.GdnBwdCall.main_arg6)
      ∧ r.2.mem ((c.tc : Thread Cert.GdnBwdCall.nD Cert.GdnBwdCall.τ).loc Cert.GdnBwdCall.main_arg7) = m ((c.tc : Thread Cert.GdnBwdCall.nD Cert.GdnBwdCall.τ).loc Cert.GdnBwdCall.main_arg7)
      ∧ r.2.mem ((c.tc : Thread Cert.GdnBwdCall.nD Cert.GdnBwdCall.τ).loc Cert.GdnBwdCall.main_arg8) = m ((c.tc : Thread Cert.GdnBwdCall.nD Cert.GdnBwdCall.τ).loc Cert.GdnBwdCall.main_arg8))
      ∧ r.2.sem = fun _ => 0)

def quiescent_GdnBwdCallIdeal [hGdnBwdCallIdeal : Cert.GdnBwdCallIdeal.Facts] : Prop :=
  ∀ (m : (ℓ : Loc Cert.GdnBwdCallIdeal.nD Cert.GdnBwdCallIdeal.τ Cert.GdnBwdCallIdeal.sig) → Buf (Elt Ideal) ℓ) (g : Dev Cert.GdnBwdCallIdeal.nD → PrngReg), Pre_GdnBwdCallIdeal m →
    θ_run (Cert.GdnBwdCallIdeal.defs (F := Ideal)) (onTc (τ := Cert.GdnBwdCallIdeal.τ) (Cert.GdnBwdCallIdeal.main (F := Ideal))) ⟨m, fun _ => 0, g⟩ (fun r => (∀ c : Dev Cert.GdnBwdCallIdeal.nD,
      r.2.mem ((c.tc : Thread Cert.GdnBwdCallIdeal.nD Cert.GdnBwdCallIdeal.τ).loc Cert.GdnBwdCallIdeal.main_arg0) = m ((c.tc : Thread Cert.GdnBwdCallIdeal.nD Cert.GdnBwdCallIdeal.τ).loc Cert.GdnBwdCallIdeal.main_arg0)
      ∧ r.2.mem ((c.tc : Thread Cert.GdnBwdCallIdeal.nD Cert.GdnBwdCallIdeal.τ).loc Cert.GdnBwdCallIdeal.main_arg1) = m ((c.tc : Thread Cert.GdnBwdCallIdeal.nD Cert.GdnBwdCallIdeal.τ).loc Cert.GdnBwdCallIdeal.main_arg1)
      ∧ r.2.mem ((c.tc : Thread Cert.GdnBwdCallIdeal.nD Cert.GdnBwdCallIdeal.τ).loc Cert.GdnBwdCallIdeal.main_arg2) = m ((c.tc : Thread Cert.GdnBwdCallIdeal.nD Cert.GdnBwdCallIdeal.τ).loc Cert.GdnBwdCallIdeal.main_arg2)
      ∧ r.2.mem ((c.tc : Thread Cert.GdnBwdCallIdeal.nD Cert.GdnBwdCallIdeal.τ).loc Cert.GdnBwdCallIdeal.main_arg3) = m ((c.tc : Thread Cert.GdnBwdCallIdeal.nD Cert.GdnBwdCallIdeal.τ).loc Cert.GdnBwdCallIdeal.main_arg3)
      ∧ r.2.mem ((c.tc : Thread Cert.GdnBwdCallIdeal.nD Cert.GdnBwdCallIdeal.τ).loc Cert.GdnBwdCallIdeal.main_arg4) = m ((c.tc : Thread Cert.GdnBwdCallIdeal.nD Cert.GdnBwdCallIdeal.τ).loc Cert.GdnBwdCallIdeal.main_arg4)
      ∧ r.2.mem ((c.tc : Thread Cert.GdnBwdCallIdeal.nD Cert.GdnBwdCallIdeal.τ).loc Cert.GdnBwdCallIdeal.main_arg5) = m ((c.tc : Thread Cert.GdnBwdCallIdeal.nD Cert.GdnBwdCallIdeal.τ).loc Cert.GdnBwdCallIdeal.main_arg5)
      ∧ r.2.mem ((c.tc : Thread Cert.GdnBwdCallIdeal.nD Cert.GdnBwdCallIdeal.τ).loc Cert.GdnBwdCallIdeal.main_arg6) = m ((c.tc : Thread Cert.GdnBwdCallIdeal.nD Cert.GdnBwdCallIdeal.τ).loc Cert.GdnBwdCallIdeal.main_arg6)
      ∧ r.2.mem ((c.tc : Thread Cert.GdnBwdCallIdeal.nD Cert.GdnBwdCallIdeal.τ).loc Cert.GdnBwdCallIdeal.main_arg7) = m ((c.tc : Thread Cert.GdnBwdCallIdeal.nD Cert.GdnBwdCallIdeal.τ).loc Cert.GdnBwdCallIdeal.main_arg7)
      ∧ r.2.mem ((c.tc : Thread Cert.GdnBwdCallIdeal.nD Cert.GdnBwdCallIdeal.τ).loc Cert.GdnBwdCallIdeal.main_arg8) = m ((c.tc : Thread Cert.GdnBwdCallIdeal.nD Cert.GdnBwdCallIdeal.τ).loc Cert.GdnBwdCallIdeal.main_arg8))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdIdeal_pre_sb_alive [hSbFwdIdeal : Cert.SbFwdIdeal.Facts] [hPre_sb_alive : Cert.Pre_sb_alive.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_sb_alive m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0))
      ∧ r.2.sem = fun _ => 0)

def quiescent_SbFwdRefIdeal_pre_sb_alive [hSbFwdRefIdeal : Cert.SbFwdRefIdeal.Facts] [hPre_sb_alive : Cert.Pre_sb_alive.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_sb_alive m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_FfnLnFwd [hFfnLnFwd : Cert.FfnLnFwd.Facts] : Prop :=
  ∀ (m : (ℓ : Loc Cert.FfnLnFwd.nD Cert.FfnLnFwd.τ Cert.FfnLnFwd.sig) → Buf (Elt Bits) ℓ) (g : Dev Cert.FfnLnFwd.nD → PrngReg), Pre_FfnLnFwd m →
    θ_run (Cert.FfnLnFwd.defs (F := Bits)) (onTc (τ := Cert.FfnLnFwd.τ) (Cert.FfnLnFwd.main (F := Bits))) ⟨m, fun _ => 0, g⟩ (fun r => (∀ c : Dev Cert.FfnLnFwd.nD,
      r.2.mem ((c.tc : Thread Cert.FfnLnFwd.nD Cert.FfnLnFwd.τ).loc Cert.FfnLnFwd.main_arg0) = m ((c.tc : Thread Cert.FfnLnFwd.nD Cert.FfnLnFwd.τ).loc Cert.FfnLnFwd.main_arg0)
      ∧ r.2.mem ((c.tc : Thread Cert.FfnLnFwd.nD Cert.FfnLnFwd.τ).loc Cert.FfnLnFwd.main_arg1) = m ((c.tc : Thread Cert.FfnLnFwd.nD Cert.FfnLnFwd.τ).loc Cert.FfnLnFwd.main_arg1)
      ∧ r.2.mem ((c.tc : Thread Cert.FfnLnFwd.nD Cert.FfnLnFwd.τ).loc Cert.FfnLnFwd.main_arg2) = m ((c.tc : Thread Cert.FfnLnFwd.nD Cert.FfnLnFwd.τ).loc Cert.FfnLnFwd.main_arg2)
      ∧ r.2.mem ((c.tc : Thread Cert.FfnLnFwd.nD Cert.FfnLnFwd.τ).loc Cert.FfnLnFwd.main_arg3) = m ((c.tc : Thread Cert.FfnLnFwd.nD Cert.FfnLnFwd.τ).loc Cert.FfnLnFwd.main_arg3))
      ∧ r.2.sem = fun _ => 0)

def quiescent_FfnLnFwdIdeal [hFfnLnFwdIdeal : Cert.FfnLnFwdIdeal.Facts] : Prop :=
  ∀ (m : (ℓ : Loc Cert.FfnLnFwdIdeal.nD Cert.FfnLnFwdIdeal.τ Cert.FfnLnFwdIdeal.sig) → Buf (Elt Ideal) ℓ) (g : Dev Cert.FfnLnFwdIdeal.nD → PrngReg), Pre_FfnLnFwdIdeal m →
    θ_run (Cert.FfnLnFwdIdeal.defs (F := Ideal)) (onTc (τ := Cert.FfnLnFwdIdeal.τ) (Cert.FfnLnFwdIdeal.main (F := Ideal))) ⟨m, fun _ => 0, g⟩ (fun r => (∀ c : Dev Cert.FfnLnFwdIdeal.nD,
      r.2.mem ((c.tc : Thread Cert.FfnLnFwdIdeal.nD Cert.FfnLnFwdIdeal.τ).loc Cert.FfnLnFwdIdeal.main_arg0) = m ((c.tc : Thread Cert.FfnLnFwdIdeal.nD Cert.FfnLnFwdIdeal.τ).loc Cert.FfnLnFwdIdeal.main_arg0)
      ∧ r.2.mem ((c.tc : Thread Cert.FfnLnFwdIdeal.nD Cert.FfnLnFwdIdeal.τ).loc Cert.FfnLnFwdIdeal.main_arg1) = m ((c.tc : Thread Cert.FfnLnFwdIdeal.nD Cert.FfnLnFwdIdeal.τ).loc Cert.FfnLnFwdIdeal.main_arg1)
      ∧ r.2.mem ((c.tc : Thread Cert.FfnLnFwdIdeal.nD Cert.FfnLnFwdIdeal.τ).loc Cert.FfnLnFwdIdeal.main_arg2) = m ((c.tc : Thread Cert.FfnLnFwdIdeal.nD Cert.FfnLnFwdIdeal.τ).loc Cert.FfnLnFwdIdeal.main_arg2)
      ∧ r.2.mem ((c.tc : Thread Cert.FfnLnFwdIdeal.nD Cert.FfnLnFwdIdeal.τ).loc Cert.FfnLnFwdIdeal.main_arg3) = m ((c.tc : Thread Cert.FfnLnFwdIdeal.nD Cert.FfnLnFwdIdeal.τ).loc Cert.FfnLnFwdIdeal.main_arg3))
      ∧ r.2.sem = fun _ => 0)

def quiescent_FfnLnFwdRefIdeal [hFfnLnFwdRefIdeal : Cert.FfnLnFwdRefIdeal.Facts] : Prop :=
  ∀ (m : (ℓ : Loc Cert.FfnLnFwdRefIdeal.nD Cert.FfnLnFwdRefIdeal.τ Cert.FfnLnFwdRefIdeal.sig) → Buf (Elt Ideal) ℓ) (g : Dev Cert.FfnLnFwdRefIdeal.nD → PrngReg), Pre_FfnLnFwdRefIdeal m →
    θ_run (Cert.FfnLnFwdRefIdeal.defs (F := Ideal)) (onTc (τ := Cert.FfnLnFwdRefIdeal.τ) (Cert.FfnLnFwdRefIdeal.main (F := Ideal))) ⟨m, fun _ => 0, g⟩ (fun r => (∀ c : Dev Cert.FfnLnFwdRefIdeal.nD,
      r.2.mem ((c.tc : Thread Cert.FfnLnFwdRefIdeal.nD Cert.FfnLnFwdRefIdeal.τ).loc Cert.FfnLnFwdRefIdeal.main_arg0) = m ((c.tc : Thread Cert.FfnLnFwdRefIdeal.nD Cert.FfnLnFwdRefIdeal.τ).loc Cert.FfnLnFwdRefIdeal.main_arg0)
      ∧ r.2.mem ((c.tc : Thread Cert.FfnLnFwdRefIdeal.nD Cert.FfnLnFwdRefIdeal.τ).loc Cert.FfnLnFwdRefIdeal.main_arg1) = m ((c.tc : Thread Cert.FfnLnFwdRefIdeal.nD Cert.FfnLnFwdRefIdeal.τ).loc Cert.FfnLnFwdRefIdeal.main_arg1)
      ∧ r.2.mem ((c.tc : Thread Cert.FfnLnFwdRefIdeal.nD Cert.FfnLnFwdRefIdeal.τ).loc Cert.FfnLnFwdRefIdeal.main_arg2) = m ((c.tc : Thread Cert.FfnLnFwdRefIdeal.nD Cert.FfnLnFwdRefIdeal.τ).loc Cert.FfnLnFwdRefIdeal.main_arg2)
      ∧ r.2.mem ((c.tc : Thread Cert.FfnLnFwdRefIdeal.nD Cert.FfnLnFwdRefIdeal.τ).loc Cert.FfnLnFwdRefIdeal.main_arg3) = m ((c.tc : Thread Cert.FfnLnFwdRefIdeal.nD Cert.FfnLnFwdRefIdeal.τ).loc Cert.FfnLnFwdRefIdeal.main_arg3))
      ∧ r.2.sem = fun _ => 0)

def quiescent_MixLnFwd [hMixLnFwd : Cert.MixLnFwd.Facts] : Prop :=
  ∀ (m : (ℓ : Loc Cert.MixLnFwd.nD Cert.MixLnFwd.τ Cert.MixLnFwd.sig) → Buf (Elt Bits) ℓ) (g : Dev Cert.MixLnFwd.nD → PrngReg), Pre_MixLnFwd m →
    θ_run (Cert.MixLnFwd.defs (F := Bits)) (onTc (τ := Cert.MixLnFwd.τ) (Cert.MixLnFwd.main (F := Bits))) ⟨m, fun _ => 0, g⟩ (fun r => (∀ c : Dev Cert.MixLnFwd.nD,
      r.2.mem ((c.tc : Thread Cert.MixLnFwd.nD Cert.MixLnFwd.τ).loc Cert.MixLnFwd.main_arg0) = m ((c.tc : Thread Cert.MixLnFwd.nD Cert.MixLnFwd.τ).loc Cert.MixLnFwd.main_arg0)
      ∧ r.2.mem ((c.tc : Thread Cert.MixLnFwd.nD Cert.MixLnFwd.τ).loc Cert.MixLnFwd.main_arg1) = m ((c.tc : Thread Cert.MixLnFwd.nD Cert.MixLnFwd.τ).loc Cert.MixLnFwd.main_arg1)
      ∧ r.2.mem ((c.tc : Thread Cert.MixLnFwd.nD Cert.MixLnFwd.τ).loc Cert.MixLnFwd.main_arg2) = m ((c.tc : Thread Cert.MixLnFwd.nD Cert.MixLnFwd.τ).loc Cert.MixLnFwd.main_arg2)
      ∧ r.2.mem ((c.tc : Thread Cert.MixLnFwd.nD Cert.MixLnFwd.τ).loc Cert.MixLnFwd.main_arg3) = m ((c.tc : Thread Cert.MixLnFwd.nD Cert.MixLnFwd.τ).loc Cert.MixLnFwd.main_arg3))
      ∧ r.2.sem = fun _ => 0)

def quiescent_MixLnFwdIdeal [hMixLnFwdIdeal : Cert.MixLnFwdIdeal.Facts] : Prop :=
  ∀ (m : (ℓ : Loc Cert.MixLnFwdIdeal.nD Cert.MixLnFwdIdeal.τ Cert.MixLnFwdIdeal.sig) → Buf (Elt Ideal) ℓ) (g : Dev Cert.MixLnFwdIdeal.nD → PrngReg), Pre_MixLnFwdIdeal m →
    θ_run (Cert.MixLnFwdIdeal.defs (F := Ideal)) (onTc (τ := Cert.MixLnFwdIdeal.τ) (Cert.MixLnFwdIdeal.main (F := Ideal))) ⟨m, fun _ => 0, g⟩ (fun r => (∀ c : Dev Cert.MixLnFwdIdeal.nD,
      r.2.mem ((c.tc : Thread Cert.MixLnFwdIdeal.nD Cert.MixLnFwdIdeal.τ).loc Cert.MixLnFwdIdeal.main_arg0) = m ((c.tc : Thread Cert.MixLnFwdIdeal.nD Cert.MixLnFwdIdeal.τ).loc Cert.MixLnFwdIdeal.main_arg0)
      ∧ r.2.mem ((c.tc : Thread Cert.MixLnFwdIdeal.nD Cert.MixLnFwdIdeal.τ).loc Cert.MixLnFwdIdeal.main_arg1) = m ((c.tc : Thread Cert.MixLnFwdIdeal.nD Cert.MixLnFwdIdeal.τ).loc Cert.MixLnFwdIdeal.main_arg1)
      ∧ r.2.mem ((c.tc : Thread Cert.MixLnFwdIdeal.nD Cert.MixLnFwdIdeal.τ).loc Cert.MixLnFwdIdeal.main_arg2) = m ((c.tc : Thread Cert.MixLnFwdIdeal.nD Cert.MixLnFwdIdeal.τ).loc Cert.MixLnFwdIdeal.main_arg2)
      ∧ r.2.mem ((c.tc : Thread Cert.MixLnFwdIdeal.nD Cert.MixLnFwdIdeal.τ).loc Cert.MixLnFwdIdeal.main_arg3) = m ((c.tc : Thread Cert.MixLnFwdIdeal.nD Cert.MixLnFwdIdeal.τ).loc Cert.MixLnFwdIdeal.main_arg3))
      ∧ r.2.sem = fun _ => 0)

def quiescent_MixLnFwdRefIdeal [hMixLnFwdRefIdeal : Cert.MixLnFwdRefIdeal.Facts] : Prop :=
  ∀ (m : (ℓ : Loc Cert.MixLnFwdRefIdeal.nD Cert.MixLnFwdRefIdeal.τ Cert.MixLnFwdRefIdeal.sig) → Buf (Elt Ideal) ℓ) (g : Dev Cert.MixLnFwdRefIdeal.nD → PrngReg), Pre_MixLnFwdRefIdeal m →
    θ_run (Cert.MixLnFwdRefIdeal.defs (F := Ideal)) (onTc (τ := Cert.MixLnFwdRefIdeal.τ) (Cert.MixLnFwdRefIdeal.main (F := Ideal))) ⟨m, fun _ => 0, g⟩ (fun r => (∀ c : Dev Cert.MixLnFwdRefIdeal.nD,
      r.2.mem ((c.tc : Thread Cert.MixLnFwdRefIdeal.nD Cert.MixLnFwdRefIdeal.τ).loc Cert.MixLnFwdRefIdeal.main_arg0) = m ((c.tc : Thread Cert.MixLnFwdRefIdeal.nD Cert.MixLnFwdRefIdeal.τ).loc Cert.MixLnFwdRefIdeal.main_arg0)
      ∧ r.2.mem ((c.tc : Thread Cert.MixLnFwdRefIdeal.nD Cert.MixLnFwdRefIdeal.τ).loc Cert.MixLnFwdRefIdeal.main_arg1) = m ((c.tc : Thread Cert.MixLnFwdRefIdeal.nD Cert.MixLnFwdRefIdeal.τ).loc Cert.MixLnFwdRefIdeal.main_arg1)
      ∧ r.2.mem ((c.tc : Thread Cert.MixLnFwdRefIdeal.nD Cert.MixLnFwdRefIdeal.τ).loc Cert.MixLnFwdRefIdeal.main_arg2) = m ((c.tc : Thread Cert.MixLnFwdRefIdeal.nD Cert.MixLnFwdRefIdeal.τ).loc Cert.MixLnFwdRefIdeal.main_arg2)
      ∧ r.2.mem ((c.tc : Thread Cert.MixLnFwdRefIdeal.nD Cert.MixLnFwdRefIdeal.τ).loc Cert.MixLnFwdRefIdeal.main_arg3) = m ((c.tc : Thread Cert.MixLnFwdRefIdeal.nD Cert.MixLnFwdRefIdeal.τ).loc Cert.MixLnFwdRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_MixGates [hMixGates : Cert.MixGates.Facts] : Prop :=
  ∀ (m : (ℓ : Loc Cert.MixGates.nD Cert.MixGates.τ Cert.MixGates.sig) → Buf (Elt Bits) ℓ) (g : Dev Cert.MixGates.nD → PrngReg), Pre_MixGates m →
    θ_run (Cert.MixGates.defs (F := Bits)) (onTc (τ := Cert.MixGates.τ) (Cert.MixGates.main (F := Bits))) ⟨m, fun _ => 0, g⟩ (fun r => (∀ c : Dev Cert.MixGates.nD,
      r.2.mem ((c.tc : Thread Cert.MixGates.nD Cert.MixGates.τ).loc Cert.MixGates.main_arg0) = m ((c.tc : Thread Cert.MixGates.nD Cert.MixGates.τ).loc Cert.MixGates.main_arg0)
      ∧ r.2.mem ((c.tc : Thread Cert.MixGates.nD Cert.MixGates.τ).loc Cert.MixGates.main_arg1) = m ((c.tc : Thread Cert.MixGates.nD Cert.MixGates.τ).loc Cert.MixGates.main_arg1))
      ∧ r.2.sem = fun _ => 0)

def quiescent_MixGatesIdeal [hMixGatesIdeal : Cert.MixGatesIdeal.Facts] : Prop :=
  ∀ (m : (ℓ : Loc Cert.MixGatesIdeal.nD Cert.MixGatesIdeal.τ Cert.MixGatesIdeal.sig) → Buf (Elt Ideal) ℓ) (g : Dev Cert.MixGatesIdeal.nD → PrngReg), Pre_MixGatesIdeal m →
    θ_run (Cert.MixGatesIdeal.defs (F := Ideal)) (onTc (τ := Cert.MixGatesIdeal.τ) (Cert.MixGatesIdeal.main (F := Ideal))) ⟨m, fun _ => 0, g⟩ (fun r => (∀ c : Dev Cert.MixGatesIdeal.nD,
      r.2.mem ((c.tc : Thread Cert.MixGatesIdeal.nD Cert.MixGatesIdeal.τ).loc Cert.MixGatesIdeal.main_arg0) = m ((c.tc : Thread Cert.MixGatesIdeal.nD Cert.MixGatesIdeal.τ).loc Cert.MixGatesIdeal.main_arg0)
      ∧ r.2.mem ((c.tc : Thread Cert.MixGatesIdeal.nD Cert.MixGatesIdeal.τ).loc Cert.MixGatesIdeal.main_arg1) = m ((c.tc : Thread Cert.MixGatesIdeal.nD Cert.MixGatesIdeal.τ).loc Cert.MixGatesIdeal.main_arg1))
      ∧ r.2.sem = fun _ => 0)

def quiescent_MixGatesRefIdeal [hMixGatesRefIdeal : Cert.MixGatesRefIdeal.Facts] : Prop :=
  ∀ (m : (ℓ : Loc Cert.MixGatesRefIdeal.nD Cert.MixGatesRefIdeal.τ Cert.MixGatesRefIdeal.sig) → Buf (Elt Ideal) ℓ) (g : Dev Cert.MixGatesRefIdeal.nD → PrngReg), Pre_MixGatesRefIdeal m →
    θ_run (Cert.MixGatesRefIdeal.defs (F := Ideal)) (onTc (τ := Cert.MixGatesRefIdeal.τ) (Cert.MixGatesRefIdeal.main (F := Ideal))) ⟨m, fun _ => 0, g⟩ (fun r => (∀ c : Dev Cert.MixGatesRefIdeal.nD,
      r.2.mem ((c.tc : Thread Cert.MixGatesRefIdeal.nD Cert.MixGatesRefIdeal.τ).loc Cert.MixGatesRefIdeal.main_arg0) = m ((c.tc : Thread Cert.MixGatesRefIdeal.nD Cert.MixGatesRefIdeal.τ).loc Cert.MixGatesRefIdeal.main_arg0)
      ∧ r.2.mem ((c.tc : Thread Cert.MixGatesRefIdeal.nD Cert.MixGatesRefIdeal.τ).loc Cert.MixGatesRefIdeal.main_arg1) = m ((c.tc : Thread Cert.MixGatesRefIdeal.nD Cert.MixGatesRefIdeal.τ).loc Cert.MixGatesRefIdeal.main_arg1))
      ∧ r.2.sem = fun _ => 0)

def quiescent_MixInBwd [hMixInBwd : Cert.MixInBwd.Facts] : Prop :=
  ∀ (m : (ℓ : Loc Cert.MixInBwd.nD Cert.MixInBwd.τ Cert.MixInBwd.sig) → Buf (Elt Bits) ℓ) (g : Dev Cert.MixInBwd.nD → PrngReg), Pre_MixInBwd m →
    θ_run (Cert.MixInBwd.defs (F := Bits)) (onTc (τ := Cert.MixInBwd.τ) (Cert.MixInBwd.main (F := Bits))) ⟨m, fun _ => 0, g⟩ (fun r => (∀ c : Dev Cert.MixInBwd.nD,
      r.2.mem ((c.tc : Thread Cert.MixInBwd.nD Cert.MixInBwd.τ).loc Cert.MixInBwd.main_arg0) = m ((c.tc : Thread Cert.MixInBwd.nD Cert.MixInBwd.τ).loc Cert.MixInBwd.main_arg0)
      ∧ r.2.mem ((c.tc : Thread Cert.MixInBwd.nD Cert.MixInBwd.τ).loc Cert.MixInBwd.main_arg1) = m ((c.tc : Thread Cert.MixInBwd.nD Cert.MixInBwd.τ).loc Cert.MixInBwd.main_arg1))
      ∧ r.2.sem = fun _ => 0)

def quiescent_MixInBwdIdeal [hMixInBwdIdeal : Cert.MixInBwdIdeal.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg), Pre_MixInBwdIdeal m →
    θ_run (Cert.MixInBwdIdeal.defs (F := Ideal)) (onTc (τ := Cert.MixInBwdIdeal.τ) (Cert.MixInBwdIdeal.main (F := Ideal))) ⟨m, fun _ => 0, g⟩ (fun r => (∀ c : Dev Cert.MixInBwdIdeal.nD,
      r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
      ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1))
      ∧ r.2.sem = fun _ => 0)

def quiescent_MixInBwdRefIdeal [hMixInBwdRefIdeal : Cert.MixInBwdRefIdeal.Facts] : Prop :=
  ∀ (m : (ℓ : Loc Cert.MixInBwdRefIdeal.nD Cert.MixInBwdRefIdeal.τ Cert.MixInBwdRefIdeal.sig) → Buf (Elt Ideal) ℓ) (g : Dev Cert.MixInBwdRefIdeal.nD → PrngReg), Pre_MixInBwdRefIdeal m →
    θ_run (Cert.MixInBwdRefIdeal.defs (F := Ideal)) (onTc (τ := Cert.MixInBwdRefIdeal.τ) (Cert.MixInBwdRefIdeal.main (F := Ideal))) ⟨m, fun _ => 0, g⟩ (fun r => (∀ c : Dev Cert.MixInBwdRefIdeal.nD,
      r.2.mem ((c.tc : Thread Cert.MixInBwdRefIdeal.nD Cert.MixInBwdRefIdeal.τ).loc Cert.MixInBwdRefIdeal.main_arg0) = m ((c.tc : Thread Cert.MixInBwdRefIdeal.nD Cert.MixInBwdRefIdeal.τ).loc Cert.MixInBwdRefIdeal.main_arg0)
      ∧ r.2.mem ((c.tc : Thread Cert.MixInBwdRefIdeal.nD Cert.MixInBwdRefIdeal.τ).loc Cert.MixInBwdRefIdeal.main_arg1) = m ((c.tc : Thread Cert.MixInBwdRefIdeal.nD Cert.MixInBwdRefIdeal.τ).loc Cert.MixInBwdRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_FfnDwOut [hFfnDwOut : Cert.FfnDwOut.Facts] : Prop :=
  ∀ (m : (ℓ : Loc Cert.FfnDwOut.nD Cert.FfnDwOut.τ Cert.FfnDwOut.sig) → Buf (Elt Bits) ℓ) (g : Dev Cert.FfnDwOut.nD → PrngReg), Pre_FfnDwOut m →
    θ_run (Cert.FfnDwOut.defs (F := Bits)) (onTc (τ := Cert.FfnDwOut.τ) (Cert.FfnDwOut.main (F := Bits))) ⟨m, fun _ => 0, g⟩ (fun r => (∀ c : Dev Cert.FfnDwOut.nD,
      r.2.mem ((c.tc : Thread Cert.FfnDwOut.nD Cert.FfnDwOut.τ).loc Cert.FfnDwOut.main_arg0) = m ((c.tc : Thread Cert.FfnDwOut.nD Cert.FfnDwOut.τ).loc Cert.FfnDwOut.main_arg0)
      ∧ r.2.mem ((c.tc : Thread Cert.FfnDwOut.nD Cert.FfnDwOut.τ).loc Cert.FfnDwOut.main_arg1) = m ((c.tc : Thread Cert.FfnDwOut.nD Cert.FfnDwOut.τ).loc Cert.FfnDwOut.main_arg1))
      ∧ r.2.sem = fun _ => 0)

def quiescent_FfnDwOutIdeal [hFfnDwOutIdeal : Cert.FfnDwOutIdeal.Facts] : Prop :=
  ∀ (m : (ℓ : Loc Cert.FfnDwOutIdeal.nD Cert.FfnDwOutIdeal.τ Cert.FfnDwOutIdeal.sig) → Buf (Elt Ideal) ℓ) (g : Dev Cert.FfnDwOutIdeal.nD → PrngReg), Pre_FfnDwOutIdeal m →
    θ_run (Cert.FfnDwOutIdeal.defs (F := Ideal)) (onTc (τ := Cert.FfnDwOutIdeal.τ) (Cert.FfnDwOutIdeal.main (F := Ideal))) ⟨m, fun _ => 0, g⟩ (fun r => (∀ c : Dev Cert.FfnDwOutIdeal.nD,
      r.2.mem ((c.tc : Thread Cert.FfnDwOutIdeal.nD Cert.FfnDwOutIdeal.τ).loc Cert.FfnDwOutIdeal.main_arg0) = m ((c.tc : Thread Cert.FfnDwOutIdeal.nD Cert.FfnDwOutIdeal.τ).loc Cert.FfnDwOutIdeal.main_arg0)
      ∧ r.2.mem ((c.tc : Thread Cert.FfnDwOutIdeal.nD Cert.FfnDwOutIdeal.τ).loc Cert.FfnDwOutIdeal.main_arg1) = m ((c.tc : Thread Cert.FfnDwOutIdeal.nD Cert.FfnDwOutIdeal.τ).loc Cert.FfnDwOutIdeal.main_arg1))
      ∧ r.2.sem = fun _ => 0)

def quiescent_FfnDwOutRefIdeal [hFfnDwOutRefIdeal : Cert.FfnDwOutRefIdeal.Facts] : Prop :=
  ∀ (m : (ℓ : Loc Cert.FfnDwOutRefIdeal.nD Cert.FfnDwOutRefIdeal.τ Cert.FfnDwOutRefIdeal.sig) → Buf (Elt Ideal) ℓ) (g : Dev Cert.FfnDwOutRefIdeal.nD → PrngReg), Pre_FfnDwOutRefIdeal m →
    θ_run (Cert.FfnDwOutRefIdeal.defs (F := Ideal)) (onTc (τ := Cert.FfnDwOutRefIdeal.τ) (Cert.FfnDwOutRefIdeal.main (F := Ideal))) ⟨m, fun _ => 0, g⟩ (fun r => (∀ c : Dev Cert.FfnDwOutRefIdeal.nD,
      r.2.mem ((c.tc : Thread Cert.FfnDwOutRefIdeal.nD Cert.FfnDwOutRefIdeal.τ).loc Cert.FfnDwOutRefIdeal.main_arg0) = m ((c.tc : Thread Cert.FfnDwOutRefIdeal.nD Cert.FfnDwOutRefIdeal.τ).loc Cert.FfnDwOutRefIdeal.main_arg0)
      ∧ r.2.mem ((c.tc : Thread Cert.FfnDwOutRefIdeal.nD Cert.FfnDwOutRefIdeal.τ).loc Cert.FfnDwOutRefIdeal.main_arg1) = m ((c.tc : Thread Cert.FfnDwOutRefIdeal.nD Cert.FfnDwOutRefIdeal.τ).loc Cert.FfnDwOutRefIdeal.main_arg1))
      ∧ r.2.sem = fun _ => 0)

def quiescent_FfnDwIn [hFfnDwIn : Cert.FfnDwIn.Facts] : Prop :=
  ∀ (m : (ℓ : Loc Cert.FfnDwIn.nD Cert.FfnDwIn.τ Cert.FfnDwIn.sig) → Buf (Elt Bits) ℓ) (g : Dev Cert.FfnDwIn.nD → PrngReg), Pre_FfnDwIn m →
    θ_run (Cert.FfnDwIn.defs (F := Bits)) (onTc (τ := Cert.FfnDwIn.τ) (Cert.FfnDwIn.main (F := Bits))) ⟨m, fun _ => 0, g⟩ (fun r => (∀ c : Dev Cert.FfnDwIn.nD,
      r.2.mem ((c.tc : Thread Cert.FfnDwIn.nD Cert.FfnDwIn.τ).loc Cert.FfnDwIn.main_arg0) = m ((c.tc : Thread Cert.FfnDwIn.nD Cert.FfnDwIn.τ).loc Cert.FfnDwIn.main_arg0)
      ∧ r.2.mem ((c.tc : Thread Cert.FfnDwIn.nD Cert.FfnDwIn.τ).loc Cert.FfnDwIn.main_arg1) = m ((c.tc : Thread Cert.FfnDwIn.nD Cert.FfnDwIn.τ).loc Cert.FfnDwIn.main_arg1))
      ∧ r.2.sem = fun _ => 0)

def quiescent_FfnDwInIdeal [hFfnDwInIdeal : Cert.FfnDwInIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg), Pre_FfnDwInIdeal m →
    θ_run (Cert.FfnDwInIdeal.defs (F := Ideal)) (onTc (τ := Cert.FfnDwInIdeal.τ) (Cert.FfnDwInIdeal.main (F := Ideal))) ⟨m, fun _ => 0, g⟩ (fun r => (∀ c : Dev Cert.FfnDwInIdeal.nD,
      r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
      ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ r.2.sem = fun _ => 0)

def quiescent_FfnDwInRefIdeal [hFfnDwInRefIdeal : Cert.FfnDwInRefIdeal.Facts] : Prop :=
  ∀ (m : (ℓ : Loc Cert.FfnDwInRefIdeal.nD Cert.FfnDwInRefIdeal.τ Cert.FfnDwInRefIdeal.sig) → Buf (Elt Ideal) ℓ) (g : Dev Cert.FfnDwInRefIdeal.nD → PrngReg), Pre_FfnDwInRefIdeal m →
    θ_run (Cert.FfnDwInRefIdeal.defs (F := Ideal)) (onTc (τ := Cert.FfnDwInRefIdeal.τ) (Cert.FfnDwInRefIdeal.main (F := Ideal))) ⟨m, fun _ => 0, g⟩ (fun r => (∀ c : Dev Cert.FfnDwInRefIdeal.nD,
      r.2.mem ((c.tc : Thread Cert.FfnDwInRefIdeal.nD Cert.FfnDwInRefIdeal.τ).loc Cert.FfnDwInRefIdeal.main_arg0) = m ((c.tc : Thread Cert.FfnDwInRefIdeal.nD Cert.FfnDwInRefIdeal.τ).loc Cert.FfnDwInRefIdeal.main_arg0)
      ∧ r.2.mem ((c.tc : Thread Cert.FfnDwInRefIdeal.nD Cert.FfnDwInRefIdeal.τ).loc Cert.FfnDwInRefIdeal.main_arg1) = m ((c.tc : Thread Cert.FfnDwInRefIdeal.nD Cert.FfnDwInRefIdeal.τ).loc Cert.FfnDwInRefIdeal.main_arg1))
      ∧ r.2.sem = fun _ => 0)

def quiescent_FfnInBwd [hFfnInBwd : Cert.FfnInBwd.Facts] : Prop :=
  ∀ (m : (ℓ : Loc Cert.FfnInBwd.nD Cert.FfnInBwd.τ Cert.FfnInBwd.sig) → Buf (Elt Bits) ℓ) (g : Dev Cert.FfnInBwd.nD → PrngReg), Pre_FfnInBwd m →
    θ_run (Cert.FfnInBwd.defs (F := Bits)) (onTc (τ := Cert.FfnInBwd.τ) (Cert.FfnInBwd.main (F := Bits))) ⟨m, fun _ => 0, g⟩ (fun r => (∀ c : Dev Cert.FfnInBwd.nD,
      r.2.mem ((c.tc : Thread Cert.FfnInBwd.nD Cert.FfnInBwd.τ).loc Cert.FfnInBwd.main_arg0) = m ((c.tc : Thread Cert.FfnInBwd.nD Cert.FfnInBwd.τ).loc Cert.FfnInBwd.main_arg0)
      ∧ r.2.mem ((c.tc : Thread Cert.FfnInBwd.nD Cert.FfnInBwd.τ).loc Cert.FfnInBwd.main_arg1) = m ((c.tc : Thread Cert.FfnInBwd.nD Cert.FfnInBwd.τ).loc Cert.FfnInBwd.main_arg1))
      ∧ r.2.sem = fun _ => 0)

def quiescent_FfnInBwdIdeal [hFfnInBwdIdeal : Cert.FfnInBwdIdeal.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg), Pre_FfnInBwdIdeal m →
    θ_run (Cert.FfnInBwdIdeal.defs (F := Ideal)) (onTc (τ := Cert.FfnInBwdIdeal.τ) (Cert.FfnInBwdIdeal.main (F := Ideal))) ⟨m, fun _ => 0, g⟩ (fun r => (∀ c : Dev Cert.FfnInBwdIdeal.nD,
      r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
      ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1))
      ∧ r.2.sem = fun _ => 0)

def quiescent_FfnInBwdRefIdeal [hFfnInBwdRefIdeal : Cert.FfnInBwdRefIdeal.Facts] : Prop :=
  ∀ (m : (ℓ : Loc Cert.FfnInBwdRefIdeal.nD Cert.FfnInBwdRefIdeal.τ Cert.FfnInBwdRefIdeal.sig) → Buf (Elt Ideal) ℓ) (g : Dev Cert.FfnInBwdRefIdeal.nD → PrngReg), Pre_FfnInBwdRefIdeal m →
    θ_run (Cert.FfnInBwdRefIdeal.defs (F := Ideal)) (onTc (τ := Cert.FfnInBwdRefIdeal.τ) (Cert.FfnInBwdRefIdeal.main (F := Ideal))) ⟨m, fun _ => 0, g⟩ (fun r => (∀ c : Dev Cert.FfnInBwdRefIdeal.nD,
      r.2.mem ((c.tc : Thread Cert.FfnInBwdRefIdeal.nD Cert.FfnInBwdRefIdeal.τ).loc Cert.FfnInBwdRefIdeal.main_arg0) = m ((c.tc : Thread Cert.FfnInBwdRefIdeal.nD Cert.FfnInBwdRefIdeal.τ).loc Cert.FfnInBwdRefIdeal.main_arg0)
      ∧ r.2.mem ((c.tc : Thread Cert.FfnInBwdRefIdeal.nD Cert.FfnInBwdRefIdeal.τ).loc Cert.FfnInBwdRefIdeal.main_arg1) = m ((c.tc : Thread Cert.FfnInBwdRefIdeal.nD Cert.FfnInBwdRefIdeal.τ).loc Cert.FfnInBwdRefIdeal.main_arg1))
      ∧ r.2.sem = fun _ => 0)

def quiescent_PairAdd [hPairAdd : Cert.PairAdd.Facts] [hPre_core_index : Cert.Pre_core_index.Facts] : Prop :=
  ∀ (m : (ℓ : Loc Cert.PairAdd.nD Cert.PairAdd.τ Cert.PairAdd.sig) → Buf (Elt Bits) ℓ) (g : Dev Cert.PairAdd.nD → PrngReg), Pre_PairAdd m →
    θ_run (Cert.PairAdd.defs (F := Bits)) (onTc (τ := Cert.PairAdd.τ) (Cert.PairAdd.main (F := Bits))) ⟨m, fun _ => 0, g⟩ (fun r => (∀ c : Dev Cert.PairAdd.nD,
      r.2.mem ((c.tc : Thread Cert.PairAdd.nD Cert.PairAdd.τ).loc Cert.PairAdd.main_arg0) = m ((c.tc : Thread Cert.PairAdd.nD Cert.PairAdd.τ).loc Cert.PairAdd.main_arg0)
      ∧ r.2.mem ((c.tc : Thread Cert.PairAdd.nD Cert.PairAdd.τ).loc Cert.PairAdd.main_arg1) = m ((c.tc : Thread Cert.PairAdd.nD Cert.PairAdd.τ).loc Cert.PairAdd.main_arg1)
      ∧ r.2.mem ((c.tc : Thread Cert.PairAdd.nD Cert.PairAdd.τ).loc Cert.PairAdd.main_arg2) = m ((c.tc : Thread Cert.PairAdd.nD Cert.PairAdd.τ).loc Cert.PairAdd.main_arg2))
      ∧ r.2.sem = fun _ => 0)

def quiescent_PairAddIdeal [hPairAddIdeal : Cert.PairAddIdeal.Facts] [hPre_core_index : Cert.Pre_core_index.Facts] : Prop :=
  ∀ (m : (ℓ : Loc Cert.PairAddIdeal.nD Cert.PairAddIdeal.τ Cert.PairAddIdeal.sig) → Buf (Elt Ideal) ℓ) (g : Dev Cert.PairAddIdeal.nD → PrngReg), Pre_PairAddIdeal m →
    θ_run (Cert.PairAddIdeal.defs (F := Ideal)) (onTc (τ := Cert.PairAddIdeal.τ) (Cert.PairAddIdeal.main (F := Ideal))) ⟨m, fun _ => 0, g⟩ (fun r => (∀ c : Dev Cert.PairAddIdeal.nD,
      r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
      ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1)
      ∧ r.2.mem ((c.tc : Thread Cert.PairAddIdeal.nD Cert.PairAddIdeal.τ).loc Cert.PairAddIdeal.main_arg2) = m ((c.tc : Thread Cert.PairAddIdeal.nD Cert.PairAddIdeal.τ).loc Cert.PairAddIdeal.main_arg2))
      ∧ r.2.sem = fun _ => 0)

def quiescent_PairAddRefIdeal [hPairAddRefIdeal : Cert.PairAddRefIdeal.Facts] : Prop :=
  ∀ (m : (ℓ : Loc Cert.PairAddRefIdeal.nD Cert.PairAddRefIdeal.τ Cert.PairAddRefIdeal.sig) → Buf (Elt Ideal) ℓ) (g : Dev Cert.PairAddRefIdeal.nD → PrngReg), Pre_PairAddRefIdeal m →
    θ_run (Cert.PairAddRefIdeal.defs (F := Ideal)) (onTc (τ := Cert.PairAddRefIdeal.τ) (Cert.PairAddRefIdeal.main (F := Ideal))) ⟨m, fun _ => 0, g⟩ (fun r => (∀ c : Dev Cert.PairAddRefIdeal.nD,
      r.2.mem ((c.tc : Thread Cert.PairAddRefIdeal.nD Cert.PairAddRefIdeal.τ).loc Cert.PairAddRefIdeal.main_arg0) = m ((c.tc : Thread Cert.PairAddRefIdeal.nD Cert.PairAddRefIdeal.τ).loc Cert.PairAddRefIdeal.main_arg0)
      ∧ r.2.mem ((c.tc : Thread Cert.PairAddRefIdeal.nD Cert.PairAddRefIdeal.τ).loc Cert.PairAddRefIdeal.main_arg1) = m ((c.tc : Thread Cert.PairAddRefIdeal.nD Cert.PairAddRefIdeal.τ).loc Cert.PairAddRefIdeal.main_arg1)
      ∧ r.2.mem ((c.tc : Thread Cert.PairAddRefIdeal.nD Cert.PairAddRefIdeal.τ).loc Cert.PairAddRefIdeal.main_arg2) = m ((c.tc : Thread Cert.PairAddRefIdeal.nD Cert.PairAddRefIdeal.τ).loc Cert.PairAddRefIdeal.main_arg2))
      ∧ r.2.sem = fun _ => 0)

def quiescent_PairAddRefIdeal_pre_core_index [hPairAddRefIdeal : Cert.PairAddRefIdeal.Facts] [hPre_core_index : Cert.Pre_core_index.Facts] : Prop :=
  ∀ (m : (ℓ : Loc Cert.PairAddRefIdeal.nD Cert.PairAddRefIdeal.τ Cert.PairAddRefIdeal.sig) → Buf (Elt Ideal) ℓ) (g : Dev Cert.PairAddRefIdeal.nD → PrngReg), Pre_PairAddRefIdeal_core_index m →
    θ_run (Cert.PairAddRefIdeal.defs (F := Ideal)) (onTc (τ := Cert.PairAddRefIdeal.τ) (Cert.PairAddRefIdeal.main (F := Ideal))) ⟨m, fun _ => 0, g⟩ (fun r => (∀ c : Dev Cert.PairAddRefIdeal.nD,
      r.2.mem ((c.tc : Thread Cert.PairAddRefIdeal.nD Cert.PairAddRefIdeal.τ).loc Cert.PairAddRefIdeal.main_arg0) = m ((c.tc : Thread Cert.PairAddRefIdeal.nD Cert.PairAddRefIdeal.τ).loc Cert.PairAddRefIdeal.main_arg0)
      ∧ r.2.mem ((c.tc : Thread Cert.PairAddRefIdeal.nD Cert.PairAddRefIdeal.τ).loc Cert.PairAddRefIdeal.main_arg1) = m ((c.tc : Thread Cert.PairAddRefIdeal.nD Cert.PairAddRefIdeal.τ).loc Cert.PairAddRefIdeal.main_arg1)
      ∧ r.2.mem ((c.tc : Thread Cert.PairAddRefIdeal.nD Cert.PairAddRefIdeal.τ).loc Cert.PairAddRefIdeal.main_arg2) = m ((c.tc : Thread Cert.PairAddRefIdeal.nD Cert.PairAddRefIdeal.τ).loc Cert.PairAddRefIdeal.main_arg2))
      ∧ r.2.sem = fun _ => 0)

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v2_0)) (v1 : (c : Dev Cert.MergeBwdIdeal.nD) → Buf (Elt Ideal) ((c.tc : Thread Cert.MergeBwdIdeal.nD Cert.MergeBwdIdeal.τ).loc Cert.MergeBwdIdeal.main_v2_1)) (v2 : (c : Dev Cert.MergeBwdIdeal.nD) → Buf (Elt Ideal) ((c.tc : Thread Cert.MergeBwdIdeal.nD Cert.MergeBwdIdeal.τ).loc Cert.MergeBwdIdeal.main_v2_2)) (v3 : (c : Dev Cert.MergeBwdIdeal.nD) → Buf (Elt Ideal) ((c.tc : Thread Cert.MergeBwdIdeal.nD Cert.MergeBwdIdeal.τ).loc Cert.MergeBwdIdeal.main_v2_3)) (v4 : (c : Dev Cert.MergeBwdIdeal.nD) → Buf (Elt Ideal) ((c.tc : Thread Cert.MergeBwdIdeal.nD Cert.MergeBwdIdeal.τ).loc Cert.MergeBwdIdeal.main_v2_4)) (v5 : (c : Dev Cert.MergeBwdIdeal.nD) → Buf (Elt Ideal) ((c.tc : Thread Cert.MergeBwdIdeal.nD Cert.MergeBwdIdeal.τ).loc Cert.MergeBwdIdeal.main_v2_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v2_0) = v0 c
          ∧ r.2.mem ((c.tc : Thread Cert.MergeBwdIdeal.nD Cert.MergeBwdIdeal.τ).loc Cert.MergeBwdIdeal.main_v2_1) = v1 c
          ∧ r.2.mem ((c.tc : Thread Cert.MergeBwdIdeal.nD Cert.MergeBwdIdeal.τ).loc Cert.MergeBwdIdeal.main_v2_2) = v2 c
          ∧ r.2.mem ((c.tc : Thread Cert.MergeBwdIdeal.nD Cert.MergeBwdIdeal.τ).loc Cert.MergeBwdIdeal.main_v2_3) = v3 c
          ∧ r.2.mem ((c.tc : Thread Cert.MergeBwdIdeal.nD Cert.MergeBwdIdeal.τ).loc Cert.MergeBwdIdeal.main_v2_4) = v4 c
          ∧ r.2.mem ((c.tc : Thread Cert.MergeBwdIdeal.nD Cert.MergeBwdIdeal.τ).loc Cert.MergeBwdIdeal.main_v2_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v49) = v0 c
          ∧ r.2.mem ((c.tc : Thread Cert.MergeBwdRefIdeal.nD Cert.MergeBwdRefIdeal.τ).loc Cert.MergeBwdRefIdeal.main_v50) = v1 c
          ∧ r.2.mem ((c.tc : Thread Cert.MergeBwdRefIdeal.nD Cert.MergeBwdRefIdeal.τ).loc Cert.MergeBwdRefIdeal.main_v51) = v2 c
          ∧ r.2.mem ((c.tc : Thread Cert.MergeBwdRefIdeal.nD Cert.MergeBwdRefIdeal.τ).loc Cert.MergeBwdRefIdeal.main_v52) = v3 c
          ∧ r.2.mem ((c.tc : Thread Cert.MergeBwdRefIdeal.nD Cert.MergeBwdRefIdeal.τ).loc Cert.MergeBwdRefIdeal.main_v54) = v4 c
          ∧ r.2.mem ((c.tc : Thread Cert.MergeBwdRefIdeal.nD Cert.MergeBwdRefIdeal.τ).loc Cert.MergeBwdRefIdeal.main_v56) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_ActBwd_ActBwdIdeal : Prop :=
  True

def algebraic_ActBwdIdeal_ActBwdRefIdeal_pre_act_finite [hActBwdIdeal : Cert.ActBwdIdeal.Facts] [hActBwdRefIdeal : Cert.ActBwdRefIdeal.Facts] [hPre_act_finite : Cert.Pre_act_finite.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdRefIdeal.nD Cert.ActBwdRefIdeal.τ Cert.ActBwdRefIdeal.sig) → Buf (Elt Ideal) ℓ) (g' : Dev Cert.ActBwdRefIdeal.nD → PrngReg), Pre_ActBwdIdeal_act_finite m →
    (∀ c : Dev Cert.ActBwdIdeal.nD,
      m' ((c.tc : Thread Cert.ActBwdRefIdeal.nD Cert.ActBwdRefIdeal.τ).loc Cert.ActBwdRefIdeal.main_arg0) = m ((c.tc : Thread Cert.ActBwdIdeal.nD Cert.ActBwdIdeal.τ).loc Cert.ActBwdIdeal.main_arg0)
      ∧ m' ((c.tc : Thread Cert.ActBwdRefIdeal.nD Cert.ActBwdRefIdeal.τ).loc Cert.ActBwdRefIdeal.main_arg1) = m ((c.tc : Thread Cert.ActBwdIdeal.nD Cert.ActBwdIdeal.τ).loc Cert.ActBwdIdeal.main_arg1)
      ∧ m' ((c.tc : Thread Cert.ActBwdRefIdeal.nD Cert.ActBwdRefIdeal.τ).loc Cert.ActBwdRefIdeal.main_arg2) = m ((c.tc : Thread Cert.ActBwdIdeal.nD Cert.ActBwdIdeal.τ).loc Cert.ActBwdIdeal.main_arg2)) →
    ∃ (v0 : (c : Dev Cert.ActBwdIdeal.nD) → Buf (Elt Ideal) ((c.tc : Thread Cert.ActBwdIdeal.nD Cert.ActBwdIdeal.τ).loc Cert.ActBwdIdeal.main_v7)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v7) = v0 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
          ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ θ_run (Cert.ActBwdRefIdeal.defs (F := Ideal)) (onTc (τ := Cert.ActBwdRefIdeal.τ) (Cert.ActBwdRefIdeal.main (F := Ideal))) ⟨m', fun _ => 0, g'⟩ (fun r => ∀ c : Dev Cert.ActBwdRefIdeal.nD,
          r.2.mem ((c.tc : Thread Cert.ActBwdRefIdeal.nD Cert.ActBwdRefIdeal.τ).loc Cert.ActBwdRefIdeal.main_v12) = v0 c
          ∧ r.2.mem ((c.tc : Thread Cert.ActBwdRefIdeal.nD Cert.ActBwdRefIdeal.τ).loc Cert.ActBwdRefIdeal.main_arg0) = m' ((c.tc : Thread Cert.ActBwdRefIdeal.nD Cert.ActBwdRefIdeal.τ).loc Cert.ActBwdRefIdeal.main_arg0)
          ∧ r.2.mem ((c.tc : Thread Cert.ActBwdRefIdeal.nD Cert.ActBwdRefIdeal.τ).loc Cert.ActBwdRefIdeal.main_arg1) = m' ((c.tc : Thread Cert.ActBwdRefIdeal.nD Cert.ActBwdRefIdeal.τ).loc Cert.ActBwdRefIdeal.main_arg1)
          ∧ r.2.mem ((c.tc : Thread Cert.ActBwdRefIdeal.nD Cert.ActBwdRefIdeal.τ).loc Cert.ActBwdRefIdeal.main_arg2) = m' ((c.tc : Thread Cert.ActBwdRefIdeal.nD Cert.ActBwdRefIdeal.τ).loc Cert.ActBwdRefIdeal.main_arg2))

def preserves_ConvBwd_ConvBwdIdeal : Prop :=
  True

def algebraic_ConvBwdIdeal_ConvBwdRefIdeal_pre_conv_finite [hConvBwdIdeal : Cert.ConvBwdIdeal.Facts] [hConvBwdRefIdeal : Cert.ConvBwdRefIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_conv_finite m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v79) = v0 c
          ∧ r.2.mem ((c.tc : Thread Cert.ConvBwdRefIdeal.nD Cert.ConvBwdRefIdeal.τ).loc Cert.ConvBwdRefIdeal.main_v80) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_SbBwd_SbBwdIdeal : Prop :=
  True

def algebraic_SbBwdIdeal_SbBwdRefIdeal_pre_sb_finite [hSbBwdIdeal : Cert.SbBwdIdeal.Facts] [hSbBwdRefIdeal : Cert.SbBwdRefIdeal.Facts] [hPre_sb_finite : Cert.Pre_sb_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg)
    (m' : (ℓ : Loc Cert.SbBwdRefIdeal.nD Cert.SbBwdRefIdeal.τ Cert.SbBwdRefIdeal.sig) → Buf (Elt Ideal) ℓ) (g' : Dev Cert.SbBwdRefIdeal.nD → PrngReg), Pre_SbBwdIdeal_sb_finite m →
    (∀ c : Dev Cert.SbBwdIdeal.nD,
      m' ((c.tc : Thread Cert.SbBwdRefIdeal.nD Cert.SbBwdRefIdeal.τ).loc Cert.SbBwdRefIdeal.main_arg0) = m ((c.tc : Thread Cert.SbBwdIdeal.nD Cert.SbBwdIdeal.τ).loc Cert.SbBwdIdeal.main_arg0)
      ∧ m' ((c.tc : Thread Cert.SbBwdRefIdeal.nD Cert.SbBwdRefIdeal.τ).loc Cert.SbBwdRefIdeal.main_arg1) = m ((c.tc : Thread Cert.SbBwdIdeal.nD Cert.SbBwdIdeal.τ).loc Cert.SbBwdIdeal.main_arg1)) →
    ∃ (v0 : (c : Dev Cert.SbBwdIdeal.nD) → Buf (Elt Ideal) ((c.tc : Thread Cert.SbBwdIdeal.nD Cert.SbBwdIdeal.τ).loc Cert.SbBwdIdeal.main_v30_0)) (v1 : (c : Dev Cert.SbBwdIdeal.nD) → Buf (Elt Ideal) ((c.tc : Thread Cert.SbBwdIdeal.nD Cert.SbBwdIdeal.τ).loc Cert.SbBwdIdeal.main_v30_1)) (v2 : (c : Dev Cert.SbBwdIdeal.nD) → Buf (Elt Ideal) ((c.tc : Thread Cert.SbBwdIdeal.nD Cert.SbBwdIdeal.τ).loc Cert.SbBwdIdeal.main_v30_2)),
      θ_run (Cert.SbBwdIdeal.defs (F := Ideal)) (onTc (τ := Cert.SbBwdIdeal.τ) (Cert.SbBwdIdeal.main (F := Ideal))) ⟨m, fun _ => 0, g⟩ (fun r => ∀ c : Dev Cert.SbBwdIdeal.nD,
          r.2.mem ((c.tc : Thread Cert.SbBwdIdeal.nD Cert.SbBwdIdeal.τ).loc Cert.SbBwdIdeal.main_v30_0) = v0 c
          ∧ r.2.mem ((c.tc : Thread Cert.SbBwdIdeal.nD Cert.SbBwdIdeal.τ).loc Cert.SbBwdIdeal.main_v30_1) = v1 c
          ∧ r.2.mem ((c.tc : Thread Cert.SbBwdIdeal.nD Cert.SbBwdIdeal.τ).loc Cert.SbBwdIdeal.main_v30_2) = v2 c
          ∧ r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
          ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ θ_run (Cert.SbBwdRefIdeal.defs (F := Ideal)) (onTc (τ := Cert.SbBwdRefIdeal.τ) (Cert.SbBwdRefIdeal.main (F := Ideal))) ⟨m', fun _ => 0, g'⟩ (fun r => ∀ c : Dev Cert.SbBwdRefIdeal.nD,
          r.2.mem ((c.tc : Thread Cert.SbBwdRefIdeal.nD Cert.SbBwdRefIdeal.τ).loc Cert.SbBwdRefIdeal.main_v48) = v0 c
          ∧ r.2.mem ((c.tc : Thread Cert.SbBwdRefIdeal.nD Cert.SbBwdRefIdeal.τ).loc Cert.SbBwdRefIdeal.main_v49) = v1 c
          ∧ r.2.mem ((c.tc : Thread Cert.SbBwdRefIdeal.nD Cert.SbBwdRefIdeal.τ).loc Cert.SbBwdRefIdeal.main_v50) = v2 c
          ∧ r.2.mem ((c.tc : Thread Cert.SbBwdRefIdeal.nD Cert.SbBwdRefIdeal.τ).loc Cert.SbBwdRefIdeal.main_arg0) = m' ((c.tc : Thread Cert.SbBwdRefIdeal.nD Cert.SbBwdRefIdeal.τ).loc Cert.SbBwdRefIdeal.main_arg0)
          ∧ r.2.mem ((c.tc : Thread Cert.SbBwdRefIdeal.nD Cert.SbBwdRefIdeal.τ).loc Cert.SbBwdRefIdeal.main_arg1) = m' ((c.tc : Thread Cert.SbBwdRefIdeal.nD Cert.SbBwdRefIdeal.τ).loc Cert.SbBwdRefIdeal.main_arg1))

def preserves_FfnLnBwd_FfnLnBwdIdeal : Prop :=
  True

def algebraic_FfnLnBwdIdeal_FfnLnBwdRefIdeal [hFfnLnBwdIdeal : Cert.FfnLnBwdIdeal.Facts] [hFfnLnBwdRefIdeal : Cert.FfnLnBwdRefIdeal.Facts] : Prop :=
  ∀ (m : (ℓ : Loc Cert.FfnLnBwdIdeal.nD Cert.FfnLnBwdIdeal.τ Cert.FfnLnBwdIdeal.sig) → Buf (Elt Ideal) ℓ) (g : Dev Cert.FfnLnBwdIdeal.nD → PrngReg)
    (m' : (ℓ : Loc Cert.FfnLnBwdRefIdeal.nD Cert.FfnLnBwdRefIdeal.τ Cert.FfnLnBwdRefIdeal.sig) → Buf (Elt Ideal) ℓ) (g' : Dev Cert.FfnLnBwdRefIdeal.nD → PrngReg), Pre_FfnLnBwdIdeal m →
    (∀ c : Dev Cert.FfnLnBwdIdeal.nD,
      m' ((c.tc : Thread Cert.FfnLnBwdRefIdeal.nD Cert.FfnLnBwdRefIdeal.τ).loc Cert.FfnLnBwdRefIdeal.main_arg0) = m ((c.tc : Thread Cert.FfnLnBwdIdeal.nD Cert.FfnLnBwdIdeal.τ).loc Cert.FfnLnBwdIdeal.main_arg0)
      ∧ m' ((c.tc : Thread Cert.FfnLnBwdRefIdeal.nD Cert.FfnLnBwdRefIdeal.τ).loc Cert.FfnLnBwdRefIdeal.main_arg1) = m ((c.tc : Thread Cert.FfnLnBwdIdeal.nD Cert.FfnLnBwdIdeal.τ).loc Cert.FfnLnBwdIdeal.main_arg1)
      ∧ m' ((c.tc : Thread Cert.FfnLnBwdRefIdeal.nD Cert.FfnLnBwdRefIdeal.τ).loc Cert.FfnLnBwdRefIdeal.main_arg2) = m ((c.tc : Thread Cert.FfnLnBwdIdeal.nD Cert.FfnLnBwdIdeal.τ).loc Cert.FfnLnBwdIdeal.main_arg2)
      ∧ m' ((c.tc : Thread Cert.FfnLnBwdRefIdeal.nD Cert.FfnLnBwdRefIdeal.τ).loc Cert.FfnLnBwdRefIdeal.main_arg3) = m ((c.tc : Thread Cert.FfnLnBwdIdeal.nD Cert.FfnLnBwdIdeal.τ).loc Cert.FfnLnBwdIdeal.main_arg3)
      ∧ m' ((c.tc : Thread Cert.FfnLnBwdRefIdeal.nD Cert.FfnLnBwdRefIdeal.τ).loc Cert.FfnLnBwdRefIdeal.main_arg4) = m ((c.tc : Thread Cert.FfnLnBwdIdeal.nD Cert.FfnLnBwdIdeal.τ).loc Cert.FfnLnBwdIdeal.main_arg4)
      ∧ m' ((c.tc : Thread Cert.FfnLnBwdRefIdeal.nD Cert.FfnLnBwdRefIdeal.τ).loc Cert.FfnLnBwdRefIdeal.main_arg5) = m ((c.tc : Thread Cert.FfnLnBwdIdeal.nD Cert.FfnLnBwdIdeal.τ).loc Cert.FfnLnBwdIdeal.main_arg5)) →
    ∃ (v0 : (c : Dev Cert.FfnLnBwdIdeal.nD) → Buf (Elt Ideal) ((c.tc : Thread Cert.FfnLnBwdIdeal.nD Cert.FfnLnBwdIdeal.τ).loc Cert.FfnLnBwdIdeal.main_v5_0)) (v1 : (c : Dev Cert.FfnLnBwdIdeal.nD) → Buf (Elt Ideal) ((c.tc : Thread Cert.FfnLnBwdIdeal.nD Cert.FfnLnBwdIdeal.τ).loc Cert.FfnLnBwdIdeal.main_v5_1)) (v2 : (c : Dev Cert.FfnLnBwdIdeal.nD) → Buf (Elt Ideal) ((c.tc : Thread Cert.FfnLnBwdIdeal.nD Cert.FfnLnBwdIdeal.τ).loc Cert.FfnLnBwdIdeal.main_v5_2)) (v3 : (c : Dev Cert.FfnLnBwdIdeal.nD) → Buf (Elt Ideal) ((c.tc : Thread Cert.FfnLnBwdIdeal.nD Cert.FfnLnBwdIdeal.τ).loc Cert.FfnLnBwdIdeal.main_v5_3)),
      θ_run (Cert.FfnLnBwdIdeal.defs (F := Ideal)) (onTc (τ := Cert.FfnLnBwdIdeal.τ) (Cert.FfnLnBwdIdeal.main (F := Ideal))) ⟨m, fun _ => 0, g⟩ (fun r => ∀ c : Dev Cert.FfnLnBwdIdeal.nD,
          r.2.mem ((c.tc : Thread Cert.FfnLnBwdIdeal.nD Cert.FfnLnBwdIdeal.τ).loc Cert.FfnLnBwdIdeal.main_v5_0) = v0 c
          ∧ r.2.mem ((c.tc : Thread Cert.FfnLnBwdIdeal.nD Cert.FfnLnBwdIdeal.τ).loc Cert.FfnLnBwdIdeal.main_v5_1) = v1 c
          ∧ r.2.mem ((c.tc : Thread Cert.FfnLnBwdIdeal.nD Cert.FfnLnBwdIdeal.τ).loc Cert.FfnLnBwdIdeal.main_v5_2) = v2 c
          ∧ r.2.mem ((c.tc : Thread Cert.FfnLnBwdIdeal.nD Cert.FfnLnBwdIdeal.τ).loc Cert.FfnLnBwdIdeal.main_v5_3) = v3 c
          ∧ r.2.mem ((c.tc : Thread Cert.FfnLnBwdIdeal.nD Cert.FfnLnBwdIdeal.τ).loc Cert.FfnLnBwdIdeal.main_arg0) = m ((c.tc : Thread Cert.FfnLnBwdIdeal.nD Cert.FfnLnBwdIdeal.τ).loc Cert.FfnLnBwdIdeal.main_arg0)
          ∧ r.2.mem ((c.tc : Thread Cert.FfnLnBwdIdeal.nD Cert.FfnLnBwdIdeal.τ).loc Cert.FfnLnBwdIdeal.main_arg1) = m ((c.tc : Thread Cert.FfnLnBwdIdeal.nD Cert.FfnLnBwdIdeal.τ).loc Cert.FfnLnBwdIdeal.main_arg1)
          ∧ r.2.mem ((c.tc : Thread Cert.FfnLnBwdIdeal.nD Cert.FfnLnBwdIdeal.τ).loc Cert.FfnLnBwdIdeal.main_arg2) = m ((c.tc : Thread Cert.FfnLnBwdIdeal.nD Cert.FfnLnBwdIdeal.τ).loc Cert.FfnLnBwdIdeal.main_arg2)
          ∧ r.2.mem ((c.tc : Thread Cert.FfnLnBwdIdeal.nD Cert.FfnLnBwdIdeal.τ).loc Cert.FfnLnBwdIdeal.main_arg3) = m ((c.tc : Thread Cert.FfnLnBwdIdeal.nD Cert.FfnLnBwdIdeal.τ).loc Cert.FfnLnBwdIdeal.main_arg3)
          ∧ r.2.mem ((c.tc : Thread Cert.FfnLnBwdIdeal.nD Cert.FfnLnBwdIdeal.τ).loc Cert.FfnLnBwdIdeal.main_arg4) = m ((c.tc : Thread Cert.FfnLnBwdIdeal.nD Cert.FfnLnBwdIdeal.τ).loc Cert.FfnLnBwdIdeal.main_arg4)
          ∧ r.2.mem ((c.tc : Thread Cert.FfnLnBwdIdeal.nD Cert.FfnLnBwdIdeal.τ).loc Cert.FfnLnBwdIdeal.main_arg5) = m ((c.tc : Thread Cert.FfnLnBwdIdeal.nD Cert.FfnLnBwdIdeal.τ).loc Cert.FfnLnBwdIdeal.main_arg5))
      ∧ θ_run (Cert.FfnLnBwdRefIdeal.defs (F := Ideal)) (onTc (τ := Cert.FfnLnBwdRefIdeal.τ) (Cert.FfnLnBwdRefIdeal.main (F := Ideal))) ⟨m', fun _ => 0, g'⟩ (fun r => ∀ c : Dev Cert.FfnLnBwdRefIdeal.nD,
          r.2.mem ((c.tc : Thread Cert.FfnLnBwdRefIdeal.nD Cert.FfnLnBwdRefIdeal.τ).loc Cert.FfnLnBwdRefIdeal.main_v67) = v0 c
          ∧ r.2.mem ((c.tc : Thread Cert.FfnLnBwdRefIdeal.nD Cert.FfnLnBwdRefIdeal.τ).loc Cert.FfnLnBwdRefIdeal.main_v68) = v1 c
          ∧ r.2.mem ((c.tc : Thread Cert.FfnLnBwdRefIdeal.nD Cert.FfnLnBwdRefIdeal.τ).loc Cert.FfnLnBwdRefIdeal.main_v69) = v2 c
          ∧ r.2.mem ((c.tc : Thread Cert.FfnLnBwdRefIdeal.nD Cert.FfnLnBwdRefIdeal.τ).loc Cert.FfnLnBwdRefIdeal.main_v70) = v3 c
          ∧ r.2.mem ((c.tc : Thread Cert.FfnLnBwdRefIdeal.nD Cert.FfnLnBwdRefIdeal.τ).loc Cert.FfnLnBwdRefIdeal.main_arg0) = m' ((c.tc : Thread Cert.FfnLnBwdRefIdeal.nD Cert.FfnLnBwdRefIdeal.τ).loc Cert.FfnLnBwdRefIdeal.main_arg0)
          ∧ r.2.mem ((c.tc : Thread Cert.FfnLnBwdRefIdeal.nD Cert.FfnLnBwdRefIdeal.τ).loc Cert.FfnLnBwdRefIdeal.main_arg1) = m' ((c.tc : Thread Cert.FfnLnBwdRefIdeal.nD Cert.FfnLnBwdRefIdeal.τ).loc Cert.FfnLnBwdRefIdeal.main_arg1)
          ∧ r.2.mem ((c.tc : Thread Cert.FfnLnBwdRefIdeal.nD Cert.FfnLnBwdRefIdeal.τ).loc Cert.FfnLnBwdRefIdeal.main_arg2) = m' ((c.tc : Thread Cert.FfnLnBwdRefIdeal.nD Cert.FfnLnBwdRefIdeal.τ).loc Cert.FfnLnBwdRefIdeal.main_arg2)
          ∧ r.2.mem ((c.tc : Thread Cert.FfnLnBwdRefIdeal.nD Cert.FfnLnBwdRefIdeal.τ).loc Cert.FfnLnBwdRefIdeal.main_arg3) = m' ((c.tc : Thread Cert.FfnLnBwdRefIdeal.nD Cert.FfnLnBwdRefIdeal.τ).loc Cert.FfnLnBwdRefIdeal.main_arg3)
          ∧ r.2.mem ((c.tc : Thread Cert.FfnLnBwdRefIdeal.nD Cert.FfnLnBwdRefIdeal.τ).loc Cert.FfnLnBwdRefIdeal.main_arg4) = m' ((c.tc : Thread Cert.FfnLnBwdRefIdeal.nD Cert.FfnLnBwdRefIdeal.τ).loc Cert.FfnLnBwdRefIdeal.main_arg4)
          ∧ r.2.mem ((c.tc : Thread Cert.FfnLnBwdRefIdeal.nD Cert.FfnLnBwdRefIdeal.τ).loc Cert.FfnLnBwdRefIdeal.main_arg5) = m' ((c.tc : Thread Cert.FfnLnBwdRefIdeal.nD Cert.FfnLnBwdRefIdeal.τ).loc Cert.FfnLnBwdRefIdeal.main_arg5))

def preserves_MixLnBwd_MixLnBwdIdeal : Prop :=
  True

def algebraic_MixLnBwdIdeal_MixLnBwdRefIdeal [hMixLnBwdIdeal : Cert.MixLnBwdIdeal.Facts] [hMixLnBwdRefIdeal : Cert.MixLnBwdRefIdeal.Facts] : Prop :=
  ∀ (m : (ℓ : Loc Cert.MixLnBwdIdeal.nD Cert.MixLnBwdIdeal.τ Cert.MixLnBwdIdeal.sig) → Buf (Elt Ideal) ℓ) (g : Dev Cert.MixLnBwdIdeal.nD → PrngReg)
    (m' : (ℓ : Loc Cert.MixLnBwdRefIdeal.nD Cert.MixLnBwdRefIdeal.τ Cert.MixLnBwdRefIdeal.sig) → Buf (Elt Ideal) ℓ) (g' : Dev Cert.MixLnBwdRefIdeal.nD → PrngReg), Pre_MixLnBwdIdeal m →
    (∀ c : Dev Cert.MixLnBwdIdeal.nD,
      m' ((c.tc : Thread Cert.MixLnBwdRefIdeal.nD Cert.MixLnBwdRefIdeal.τ).loc Cert.MixLnBwdRefIdeal.main_arg0) = m ((c.tc : Thread Cert.MixLnBwdIdeal.nD Cert.MixLnBwdIdeal.τ).loc Cert.MixLnBwdIdeal.main_arg0)
      ∧ m' ((c.tc : Thread Cert.MixLnBwdRefIdeal.nD Cert.MixLnBwdRefIdeal.τ).loc Cert.MixLnBwdRefIdeal.main_arg1) = m ((c.tc : Thread Cert.MixLnBwdIdeal.nD Cert.MixLnBwdIdeal.τ).loc Cert.MixLnBwdIdeal.main_arg1)
      ∧ m' ((c.tc : Thread Cert.MixLnBwdRefIdeal.nD Cert.MixLnBwdRefIdeal.τ).loc Cert.MixLnBwdRefIdeal.main_arg2) = m ((c.tc : Thread Cert.MixLnBwdIdeal.nD Cert.MixLnBwdIdeal.τ).loc Cert.MixLnBwdIdeal.main_arg2)
      ∧ m' ((c.tc : Thread Cert.MixLnBwdRefIdeal.nD Cert.MixLnBwdRefIdeal.τ).loc Cert.MixLnBwdRefIdeal.main_arg3) = m ((c.tc : Thread Cert.MixLnBwdIdeal.nD Cert.MixLnBwdIdeal.τ).loc Cert.MixLnBwdIdeal.main_arg3)
      ∧ m' ((c.tc : Thread Cert.MixLnBwdRefIdeal.nD Cert.MixLnBwdRefIdeal.τ).loc Cert.MixLnBwdRefIdeal.main_arg4) = m ((c.tc : Thread Cert.MixLnBwdIdeal.nD Cert.MixLnBwdIdeal.τ).loc Cert.MixLnBwdIdeal.main_arg4)
      ∧ m' ((c.tc : Thread Cert.MixLnBwdRefIdeal.nD Cert.MixLnBwdRefIdeal.τ).loc Cert.MixLnBwdRefIdeal.main_arg5) = m ((c.tc : Thread Cert.MixLnBwdIdeal.nD Cert.MixLnBwdIdeal.τ).loc Cert.MixLnBwdIdeal.main_arg5)) →
    ∃ (v0 : (c : Dev Cert.MixLnBwdIdeal.nD) → Buf (Elt Ideal) ((c.tc : Thread Cert.MixLnBwdIdeal.nD Cert.MixLnBwdIdeal.τ).loc Cert.MixLnBwdIdeal.main_v3_0)) (v1 : (c : Dev Cert.MixLnBwdIdeal.nD) → Buf (Elt Ideal) ((c.tc : Thread Cert.MixLnBwdIdeal.nD Cert.MixLnBwdIdeal.τ).loc Cert.MixLnBwdIdeal.main_v3_1)) (v2 : (c : Dev Cert.MixLnBwdIdeal.nD) → Buf (Elt Ideal) ((c.tc : Thread Cert.MixLnBwdIdeal.nD Cert.MixLnBwdIdeal.τ).loc Cert.MixLnBwdIdeal.main_v3_2)) (v3 : (c : Dev Cert.MixLnBwdIdeal.nD) → Buf (Elt Ideal) ((c.tc : Thread Cert.MixLnBwdIdeal.nD Cert.MixLnBwdIdeal.τ).loc Cert.MixLnBwdIdeal.main_v3_3)),
      θ_run (Cert.MixLnBwdIdeal.defs (F := Ideal)) (onTc (τ := Cert.MixLnBwdIdeal.τ) (Cert.MixLnBwdIdeal.main (F := Ideal))) ⟨m, fun _ => 0, g⟩ (fun r => ∀ c : Dev Cert.MixLnBwdIdeal.nD,
          r.2.mem ((c.tc : Thread Cert.MixLnBwdIdeal.nD Cert.MixLnBwdIdeal.τ).loc Cert.MixLnBwdIdeal.main_v3_0) = v0 c
          ∧ r.2.mem ((c.tc : Thread Cert.MixLnBwdIdeal.nD Cert.MixLnBwdIdeal.τ).loc Cert.MixLnBwdIdeal.main_v3_1) = v1 c
          ∧ r.2.mem ((c.tc : Thread Cert.MixLnBwdIdeal.nD Cert.MixLnBwdIdeal.τ).loc Cert.MixLnBwdIdeal.main_v3_2) = v2 c
          ∧ r.2.mem ((c.tc : Thread Cert.MixLnBwdIdeal.nD Cert.MixLnBwdIdeal.τ).loc Cert.MixLnBwdIdeal.main_v3_3) = v3 c
          ∧ r.2.mem ((c.tc : Thread Cert.MixLnBwdIdeal.nD Cert.MixLnBwdIdeal.τ).loc Cert.MixLnBwdIdeal.main_arg0) = m ((c.tc : Thread Cert.MixLnBwdIdeal.nD Cert.MixLnBwdIdeal.τ).loc Cert.MixLnBwdIdeal.main_arg0)
          ∧ r.2.mem ((c.tc : Thread Cert.MixLnBwdIdeal.nD Cert.MixLnBwdIdeal.τ).loc Cert.MixLnBwdIdeal.main_arg1) = m ((c.tc : Thread Cert.MixLnBwdIdeal.nD Cert.MixLnBwdIdeal.τ).loc Cert.MixLnBwdIdeal.main_arg1)
          ∧ r.2.mem ((c.tc : Thread Cert.MixLnBwdIdeal.nD Cert.MixLnBwdIdeal.τ).loc Cert.MixLnBwdIdeal.main_arg2) = m ((c.tc : Thread Cert.MixLnBwdIdeal.nD Cert.MixLnBwdIdeal.τ).loc Cert.MixLnBwdIdeal.main_arg2)
          ∧ r.2.mem ((c.tc : Thread Cert.MixLnBwdIdeal.nD Cert.MixLnBwdIdeal.τ).loc Cert.MixLnBwdIdeal.main_arg3) = m ((c.tc : Thread Cert.MixLnBwdIdeal.nD Cert.MixLnBwdIdeal.τ).loc Cert.MixLnBwdIdeal.main_arg3)
          ∧ r.2.mem ((c.tc : Thread Cert.MixLnBwdIdeal.nD Cert.MixLnBwdIdeal.τ).loc Cert.MixLnBwdIdeal.main_arg4) = m ((c.tc : Thread Cert.MixLnBwdIdeal.nD Cert.MixLnBwdIdeal.τ).loc Cert.MixLnBwdIdeal.main_arg4)
          ∧ r.2.mem ((c.tc : Thread Cert.MixLnBwdIdeal.nD Cert.MixLnBwdIdeal.τ).loc Cert.MixLnBwdIdeal.main_arg5) = m ((c.tc : Thread Cert.MixLnBwdIdeal.nD Cert.MixLnBwdIdeal.τ).loc Cert.MixLnBwdIdeal.main_arg5))
      ∧ θ_run (Cert.MixLnBwdRefIdeal.defs (F := Ideal)) (onTc (τ := Cert.MixLnBwdRefIdeal.τ) (Cert.MixLnBwdRefIdeal.main (F := Ideal))) ⟨m', fun _ => 0, g'⟩ (fun r => ∀ c : Dev Cert.MixLnBwdRefIdeal.nD,
          r.2.mem ((c.tc : Thread Cert.MixLnBwdRefIdeal.nD Cert.MixLnBwdRefIdeal.τ).loc Cert.MixLnBwdRefIdeal.main_v63) = v0 c
          ∧ r.2.mem ((c.tc : Thread Cert.MixLnBwdRefIdeal.nD Cert.MixLnBwdRefIdeal.τ).loc Cert.MixLnBwdRefIdeal.main_v64) = v1 c
          ∧ r.2.mem ((c.tc : Thread Cert.MixLnBwdRefIdeal.nD Cert.MixLnBwdRefIdeal.τ).loc Cert.MixLnBwdRefIdeal.main_v65) = v2 c
          ∧ r.2.mem ((c.tc : Thread Cert.MixLnBwdRefIdeal.nD Cert.MixLnBwdRefIdeal.τ).loc Cert.MixLnBwdRefIdeal.main_v66) = v3 c
          ∧ r.2.mem ((c.tc : Thread Cert.MixLnBwdRefIdeal.nD Cert.MixLnBwdRefIdeal.τ).loc Cert.MixLnBwdRefIdeal.main_arg0) = m' ((c.tc : Thread Cert.MixLnBwdRefIdeal.nD Cert.MixLnBwdRefIdeal.τ).loc Cert.MixLnBwdRefIdeal.main_arg0)
          ∧ r.2.mem ((c.tc : Thread Cert.MixLnBwdRefIdeal.nD Cert.MixLnBwdRefIdeal.τ).loc Cert.MixLnBwdRefIdeal.main_arg1) = m' ((c.tc : Thread Cert.MixLnBwdRefIdeal.nD Cert.MixLnBwdRefIdeal.τ).loc Cert.MixLnBwdRefIdeal.main_arg1)
          ∧ r.2.mem ((c.tc : Thread Cert.MixLnBwdRefIdeal.nD Cert.MixLnBwdRefIdeal.τ).loc Cert.MixLnBwdRefIdeal.main_arg2) = m' ((c.tc : Thread Cert.MixLnBwdRefIdeal.nD Cert.MixLnBwdRefIdeal.τ).loc Cert.MixLnBwdRefIdeal.main_arg2)
          ∧ r.2.mem ((c.tc : Thread Cert.MixLnBwdRefIdeal.nD Cert.MixLnBwdRefIdeal.τ).loc Cert.MixLnBwdRefIdeal.main_arg3) = m' ((c.tc : Thread Cert.MixLnBwdRefIdeal.nD Cert.MixLnBwdRefIdeal.τ).loc Cert.MixLnBwdRefIdeal.main_arg3)
          ∧ r.2.mem ((c.tc : Thread Cert.MixLnBwdRefIdeal.nD Cert.MixLnBwdRefIdeal.τ).loc Cert.MixLnBwdRefIdeal.main_arg4) = m' ((c.tc : Thread Cert.MixLnBwdRefIdeal.nD Cert.MixLnBwdRefIdeal.τ).loc Cert.MixLnBwdRefIdeal.main_arg4)
          ∧ r.2.mem ((c.tc : Thread Cert.MixLnBwdRefIdeal.nD Cert.MixLnBwdRefIdeal.τ).loc Cert.MixLnBwdRefIdeal.main_arg5) = m' ((c.tc : Thread Cert.MixLnBwdRefIdeal.nD Cert.MixLnBwdRefIdeal.τ).loc Cert.MixLnBwdRefIdeal.main_arg5))

def preserves_PleHead_PleHeadIdeal : Prop :=
  True

def algebraic_PleHeadIdeal_PleHeadRefIdeal [hPleHeadIdeal : Cert.PleHeadIdeal.Facts] [hPleHeadRefIdeal : Cert.PleHeadRefIdeal.Facts] : Prop :=
  ∀ (m : (ℓ : Loc Cert.PleHeadIdeal.nD Cert.PleHeadIdeal.τ Cert.PleHeadIdeal.sig) → Buf (Elt Ideal) ℓ) (g : Dev Cert.PleHeadIdeal.nD → PrngReg)
    (m' : (ℓ : Loc Cert.PleHeadRefIdeal.nD Cert.PleHeadRefIdeal.τ Cert.PleHeadRefIdeal.sig) → Buf (Elt Ideal) ℓ) (g' : Dev Cert.PleHeadRefIdeal.nD → PrngReg), Pre_PleHeadIdeal m →
    (∀ c : Dev Cert.PleHeadIdeal.nD,
      m' ((c.tc : Thread Cert.PleHeadRefIdeal.nD Cert.PleHeadRefIdeal.τ).loc Cert.PleHeadRefIdeal.main_arg0) = m ((c.tc : Thread Cert.PleHeadIdeal.nD Cert.PleHeadIdeal.τ).loc Cert.PleHeadIdeal.main_arg0)
      ∧ m' ((c.tc : Thread Cert.PleHeadRefIdeal.nD Cert.PleHeadRefIdeal.τ).loc Cert.PleHeadRefIdeal.main_arg1) = m ((c.tc : Thread Cert.PleHeadIdeal.nD Cert.PleHeadIdeal.τ).loc Cert.PleHeadIdeal.main_arg1)
      ∧ m' ((c.tc : Thread Cert.PleHeadRefIdeal.nD Cert.PleHeadRefIdeal.τ).loc Cert.PleHeadRefIdeal.main_arg2) = m ((c.tc : Thread Cert.PleHeadIdeal.nD Cert.PleHeadIdeal.τ).loc Cert.PleHeadIdeal.main_arg2)
      ∧ m' ((c.tc : Thread Cert.PleHeadRefIdeal.nD Cert.PleHeadRefIdeal.τ).loc Cert.PleHeadRefIdeal.main_arg3) = m ((c.tc : Thread Cert.PleHeadIdeal.nD Cert.PleHeadIdeal.τ).loc Cert.PleHeadIdeal.main_arg3)
      ∧ m' ((c.tc : Thread Cert.PleHeadRefIdeal.nD Cert.PleHeadRefIdeal.τ).loc Cert.PleHeadRefIdeal.main_arg4) = m ((c.tc : Thread Cert.PleHeadIdeal.nD Cert.PleHeadIdeal.τ).loc Cert.PleHeadIdeal.main_arg4)
      ∧ m' ((c.tc : Thread Cert.PleHeadRefIdeal.nD Cert.PleHeadRefIdeal.τ).loc Cert.PleHeadRefIdeal.main_arg5) = m ((c.tc : Thread Cert.PleHeadIdeal.nD Cert.PleHeadIdeal.τ).loc Cert.PleHeadIdeal.main_arg5)
      ∧ m' ((c.tc : Thread Cert.PleHeadRefIdeal.nD Cert.PleHeadRefIdeal.τ).loc Cert.PleHeadRefIdeal.main_arg6) = m ((c.tc : Thread Cert.PleHeadIdeal.nD Cert.PleHeadIdeal.τ).loc Cert.PleHeadIdeal.main_arg6)) →
    ∃ (v0 : (c : Dev Cert.PleHeadIdeal.nD) → Buf (Elt Ideal) ((c.tc : Thread Cert.PleHeadIdeal.nD Cert.PleHeadIdeal.τ).loc Cert.PleHeadIdeal.main_v0_0)) (v1 : (c : Dev Cert.PleHeadIdeal.nD) → Buf (Elt Ideal) ((c.tc : Thread Cert.PleHeadIdeal.nD Cert.PleHeadIdeal.τ).loc Cert.PleHeadIdeal.main_v0_1)) (v2 : (c : Dev Cert.PleHeadIdeal.nD) → Buf (Elt Ideal) ((c.tc : Thread Cert.PleHeadIdeal.nD Cert.PleHeadIdeal.τ).loc Cert.PleHeadIdeal.main_v0_2)) (v3 : (c : Dev Cert.PleHeadIdeal.nD) → Buf (Elt Ideal) ((c.tc : Thread Cert.PleHeadIdeal.nD Cert.PleHeadIdeal.τ).loc Cert.PleHeadIdeal.main_v0_3)) (v4 : (c : Dev Cert.PleHeadIdeal.nD) → Buf (Elt Ideal) ((c.tc : Thread Cert.PleHeadIdeal.nD Cert.PleHeadIdeal.τ).loc Cert.PleHeadIdeal.main_v0_4)) (v5 : (c : Dev Cert.PleHeadIdeal.nD) → Buf (Elt Ideal) ((c.tc : Thread Cert.PleHeadIdeal.nD Cert.PleHeadIdeal.τ).loc Cert.PleHeadIdeal.main_v0_5)) (v6 : (c : Dev Cert.PleHeadIdeal.nD) → Buf (Elt Ideal) ((c.tc : Thread Cert.PleHeadIdeal.nD Cert.PleHeadIdeal.τ).loc Cert.PleHeadIdeal.main_v0_6)),
      θ_run (Cert.PleHeadIdeal.defs (F := Ideal)) (onTc (τ := Cert.PleHeadIdeal.τ) (Cert.PleHeadIdeal.main (F := Ideal))) ⟨m, fun _ => 0, g⟩ (fun r => ∀ c : Dev Cert.PleHeadIdeal.nD,
          r.2.mem ((c.tc : Thread Cert.PleHeadIdeal.nD Cert.PleHeadIdeal.τ).loc Cert.PleHeadIdeal.main_v0_0) = v0 c
          ∧ r.2.mem ((c.tc : Thread Cert.PleHeadIdeal.nD Cert.PleHeadIdeal.τ).loc Cert.PleHeadIdeal.main_v0_1) = v1 c
          ∧ r.2.mem ((c.tc : Thread Cert.PleHeadIdeal.nD Cert.PleHeadIdeal.τ).loc Cert.PleHeadIdeal.main_v0_2) = v2 c
          ∧ r.2.mem ((c.tc : Thread Cert.PleHeadIdeal.nD Cert.PleHeadIdeal.τ).loc Cert.PleHeadIdeal.main_v0_3) = v3 c
          ∧ r.2.mem ((c.tc : Thread Cert.PleHeadIdeal.nD Cert.PleHeadIdeal.τ).loc Cert.PleHeadIdeal.main_v0_4) = v4 c
          ∧ r.2.mem ((c.tc : Thread Cert.PleHeadIdeal.nD Cert.PleHeadIdeal.τ).loc Cert.PleHeadIdeal.main_v0_5) = v5 c
          ∧ r.2.mem ((c.tc : Thread Cert.PleHeadIdeal.nD Cert.PleHeadIdeal.τ).loc Cert.PleHeadIdeal.main_v0_6) = v6 c
          ∧ r.2.mem ((c.tc : Thread Cert.PleHeadIdeal.nD Cert.PleHeadIdeal.τ).loc Cert.PleHeadIdeal.main_arg0) = m ((c.tc : Thread Cert.PleHeadIdeal.nD Cert.PleHeadIdeal.τ).loc Cert.PleHeadIdeal.main_arg0)
          ∧ r.2.mem ((c.tc : Thread Cert.PleHeadIdeal.nD Cert.PleHeadIdeal.τ).loc Cert.PleHeadIdeal.main_arg1) = m ((c.tc : Thread Cert.PleHeadIdeal.nD Cert.PleHeadIdeal.τ).loc Cert.PleHeadIdeal.main_arg1)
          ∧ r.2.mem ((c.tc : Thread Cert.PleHeadIdeal.nD Cert.PleHeadIdeal.τ).loc Cert.PleHeadIdeal.main_arg2) = m ((c.tc : Thread Cert.PleHeadIdeal.nD Cert.PleHeadIdeal.τ).loc Cert.PleHeadIdeal.main_arg2)
          ∧ r.2.mem ((c.tc : Thread Cert.PleHeadIdeal.nD Cert.PleHeadIdeal.τ).loc Cert.PleHeadIdeal.main_arg3) = m ((c.tc : Thread Cert.PleHeadIdeal.nD Cert.PleHeadIdeal.τ).loc Cert.PleHeadIdeal.main_arg3)
          ∧ r.2.mem ((c.tc : Thread Cert.PleHeadIdeal.nD Cert.PleHeadIdeal.τ).loc Cert.PleHeadIdeal.main_arg4) = m ((c.tc : Thread Cert.PleHeadIdeal.nD Cert.PleHeadIdeal.τ).loc Cert.PleHeadIdeal.main_arg4)
          ∧ r.2.mem ((c.tc : Thread Cert.PleHeadIdeal.nD Cert.PleHeadIdeal.τ).loc Cert.PleHeadIdeal.main_arg5) = m ((c.tc : Thread Cert.PleHeadIdeal.nD Cert.PleHeadIdeal.τ).loc Cert.PleHeadIdeal.main_arg5)
          ∧ r.2.mem ((c.tc : Thread Cert.PleHeadIdeal.nD Cert.PleHeadIdeal.τ).loc Cert.PleHeadIdeal.main_arg6) = m ((c.tc : Thread Cert.PleHeadIdeal.nD Cert.PleHeadIdeal.τ).loc Cert.PleHeadIdeal.main_arg6))
      ∧ θ_run (Cert.PleHeadRefIdeal.defs (F := Ideal)) (onTc (τ := Cert.PleHeadRefIdeal.τ) (Cert.PleHeadRefIdeal.main (F := Ideal))) ⟨m', fun _ => 0, g'⟩ (fun r => ∀ c : Dev Cert.PleHeadRefIdeal.nD,
          r.2.mem ((c.tc : Thread Cert.PleHeadRefIdeal.nD Cert.PleHeadRefIdeal.τ).loc Cert.PleHeadRefIdeal.main_v91) = v0 c
          ∧ r.2.mem ((c.tc : Thread Cert.PleHeadRefIdeal.nD Cert.PleHeadRefIdeal.τ).loc Cert.PleHeadRefIdeal.main_v98) = v1 c
          ∧ r.2.mem ((c.tc : Thread Cert.PleHeadRefIdeal.nD Cert.PleHeadRefIdeal.τ).loc Cert.PleHeadRefIdeal.main_v99) = v2 c
          ∧ r.2.mem ((c.tc : Thread Cert.PleHeadRefIdeal.nD Cert.PleHeadRefIdeal.τ).loc Cert.PleHeadRefIdeal.main_v100) = v3 c
          ∧ r.2.mem ((c.tc : Thread Cert.PleHeadRefIdeal.nD Cert.PleHeadRefIdeal.τ).loc Cert.PleHeadRefIdeal.main_v101) = v4 c
          ∧ r.2.mem ((c.tc : Thread Cert.PleHeadRefIdeal.nD Cert.PleHeadRefIdeal.τ).loc Cert.PleHeadRefIdeal.main_v102) = v5 c
          ∧ r.2.mem ((c.tc : Thread Cert.PleHeadRefIdeal.nD Cert.PleHeadRefIdeal.τ).loc Cert.PleHeadRefIdeal.main_v103) = v6 c
          ∧ r.2.mem ((c.tc : Thread Cert.PleHeadRefIdeal.nD Cert.PleHeadRefIdeal.τ).loc Cert.PleHeadRefIdeal.main_arg0) = m' ((c.tc : Thread Cert.PleHeadRefIdeal.nD Cert.PleHeadRefIdeal.τ).loc Cert.PleHeadRefIdeal.main_arg0)
          ∧ r.2.mem ((c.tc : Thread Cert.PleHeadRefIdeal.nD Cert.PleHeadRefIdeal.τ).loc Cert.PleHeadRefIdeal.main_arg1) = m' ((c.tc : Thread Cert.PleHeadRefIdeal.nD Cert.PleHeadRefIdeal.τ).loc Cert.PleHeadRefIdeal.main_arg1)
          ∧ r.2.mem ((c.tc : Thread Cert.PleHeadRefIdeal.nD Cert.PleHeadRefIdeal.τ).loc Cert.PleHeadRefIdeal.main_arg2) = m' ((c.tc : Thread Cert.PleHeadRefIdeal.nD Cert.PleHeadRefIdeal.τ).loc Cert.PleHeadRefIdeal.main_arg2)
          ∧ r.2.mem ((c.tc : Thread Cert.PleHeadRefIdeal.nD Cert.PleHeadRefIdeal.τ).loc Cert.PleHeadRefIdeal.main_arg3) = m' ((c.tc : Thread Cert.PleHeadRefIdeal.nD Cert.PleHeadRefIdeal.τ).loc Cert.PleHeadRefIdeal.main_arg3)
          ∧ r.2.mem ((c.tc : Thread Cert.PleHeadRefIdeal.nD Cert.PleHeadRefIdeal.τ).loc Cert.PleHeadRefIdeal.main_arg4) = m' ((c.tc : Thread Cert.PleHeadRefIdeal.nD Cert.PleHeadRefIdeal.τ).loc Cert.PleHeadRefIdeal.main_arg4)
          ∧ r.2.mem ((c.tc : Thread Cert.PleHeadRefIdeal.nD Cert.PleHeadRefIdeal.τ).loc Cert.PleHeadRefIdeal.main_arg5) = m' ((c.tc : Thread Cert.PleHeadRefIdeal.nD Cert.PleHeadRefIdeal.τ).loc Cert.PleHeadRefIdeal.main_arg5)
          ∧ r.2.mem ((c.tc : Thread Cert.PleHeadRefIdeal.nD Cert.PleHeadRefIdeal.τ).loc Cert.PleHeadRefIdeal.main_arg6) = m' ((c.tc : Thread Cert.PleHeadRefIdeal.nD Cert.PleHeadRefIdeal.τ).loc Cert.PleHeadRefIdeal.main_arg6))

def preserves_GdnFwdCall_GdnFwdCallIdeal : Prop :=
  True

def preserves_GdnBwdCall_GdnBwdCallIdeal : Prop :=
  True

def preserves_SbFwd_SbFwdIdeal : Prop :=
  True

def algebraic_SbFwdIdeal_SbFwdRefIdeal_pre_sb_alive [hSbFwdIdeal : Cert.SbFwdIdeal.Facts] [hSbFwdRefIdeal : Cert.SbFwdRefIdeal.Facts] [hPre_sb_alive : Cert.Pre_sb_alive.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_sb_alive m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)) →
    ∃ (v0 : (c : Dev Cert.SbFwdIdeal.nD) → Buf (Elt Ideal) ((c.tc : Thread Cert.SbFwdIdeal.nD Cert.SbFwdIdeal.τ).loc Cert.SbFwdIdeal.main_v1_0)) (v1 : (c : Dev Cert.SbFwdIdeal.nD) → Buf (Elt Ideal) ((c.tc : Thread Cert.SbFwdIdeal.nD Cert.SbFwdIdeal.τ).loc Cert.SbFwdIdeal.main_v1_1)) (v2 : (c : Dev Cert.SbFwdIdeal.nD) → Buf (Elt Ideal) ((c.tc : Thread Cert.SbFwdIdeal.nD Cert.SbFwdIdeal.τ).loc Cert.SbFwdIdeal.main_v1_2)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v1_0) = v0 c
          ∧ r.2.mem ((c.tc : Thread Cert.SbFwdIdeal.nD Cert.SbFwdIdeal.τ).loc Cert.SbFwdIdeal.main_v1_1) = v1 c
          ∧ r.2.mem ((c.tc : Thread Cert.SbFwdIdeal.nD Cert.SbFwdIdeal.τ).loc Cert.SbFwdIdeal.main_v1_2) = v2 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          r.2.mem ((c.tc : Thread Cert.SbFwdRefIdeal.nD Cert.SbFwdRefIdeal.τ).loc Cert.SbFwdRefIdeal.main_v28) = v0 c
          ∧ r.2.mem ((c.tc : Thread Cert.SbFwdRefIdeal.nD Cert.SbFwdRefIdeal.τ).loc Cert.SbFwdRefIdeal.main_v32) = v1 c
          ∧ r.2.mem ((c.tc : Thread Cert.SbFwdRefIdeal.nD Cert.SbFwdRefIdeal.τ).loc Cert.SbFwdRefIdeal.main_v34) = v2 c
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v2) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v27) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v32) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_FfnLnFwd_FfnLnFwdIdeal : Prop :=
  True

def algebraic_FfnLnFwdIdeal_FfnLnFwdRefIdeal [hFfnLnFwdIdeal : Cert.FfnLnFwdIdeal.Facts] [hFfnLnFwdRefIdeal : Cert.FfnLnFwdRefIdeal.Facts] : Prop :=
  ∀ (m : (ℓ : Loc Cert.FfnLnFwdIdeal.nD Cert.FfnLnFwdIdeal.τ Cert.FfnLnFwdIdeal.sig) → Buf (Elt Ideal) ℓ) (g : Dev Cert.FfnLnFwdIdeal.nD → PrngReg)
    (m' : (ℓ : Loc Cert.FfnLnFwdRefIdeal.nD Cert.FfnLnFwdRefIdeal.τ Cert.FfnLnFwdRefIdeal.sig) → Buf (Elt Ideal) ℓ) (g' : Dev Cert.FfnLnFwdRefIdeal.nD → PrngReg), Pre_FfnLnFwdIdeal m →
    (∀ c : Dev Cert.FfnLnFwdIdeal.nD,
      m' ((c.tc : Thread Cert.FfnLnFwdRefIdeal.nD Cert.FfnLnFwdRefIdeal.τ).loc Cert.FfnLnFwdRefIdeal.main_arg0) = m ((c.tc : Thread Cert.FfnLnFwdIdeal.nD Cert.FfnLnFwdIdeal.τ).loc Cert.FfnLnFwdIdeal.main_arg0)
      ∧ m' ((c.tc : Thread Cert.FfnLnFwdRefIdeal.nD Cert.FfnLnFwdRefIdeal.τ).loc Cert.FfnLnFwdRefIdeal.main_arg1) = m ((c.tc : Thread Cert.FfnLnFwdIdeal.nD Cert.FfnLnFwdIdeal.τ).loc Cert.FfnLnFwdIdeal.main_arg1)
      ∧ m' ((c.tc : Thread Cert.FfnLnFwdRefIdeal.nD Cert.FfnLnFwdRefIdeal.τ).loc Cert.FfnLnFwdRefIdeal.main_arg2) = m ((c.tc : Thread Cert.FfnLnFwdIdeal.nD Cert.FfnLnFwdIdeal.τ).loc Cert.FfnLnFwdIdeal.main_arg2)
      ∧ m' ((c.tc : Thread Cert.FfnLnFwdRefIdeal.nD Cert.FfnLnFwdRefIdeal.τ).loc Cert.FfnLnFwdRefIdeal.main_arg3) = m ((c.tc : Thread Cert.FfnLnFwdIdeal.nD Cert.FfnLnFwdIdeal.τ).loc Cert.FfnLnFwdIdeal.main_arg3)) →
    ∃ (v0 : (c : Dev Cert.FfnLnFwdIdeal.nD) → Buf (Elt Ideal) ((c.tc : Thread Cert.FfnLnFwdIdeal.nD Cert.FfnLnFwdIdeal.τ).loc Cert.FfnLnFwdIdeal.main_v0_0)) (v1 : (c : Dev Cert.FfnLnFwdIdeal.nD) → Buf (Elt Ideal) ((c.tc : Thread Cert.FfnLnFwdIdeal.nD Cert.FfnLnFwdIdeal.τ).loc Cert.FfnLnFwdIdeal.main_v0_1)) (v2 : (c : Dev Cert.FfnLnFwdIdeal.nD) → Buf (Elt Ideal) ((c.tc : Thread Cert.FfnLnFwdIdeal.nD Cert.FfnLnFwdIdeal.τ).loc Cert.FfnLnFwdIdeal.main_v0_2)),
      θ_run (Cert.FfnLnFwdIdeal.defs (F := Ideal)) (onTc (τ := Cert.FfnLnFwdIdeal.τ) (Cert.FfnLnFwdIdeal.main (F := Ideal))) ⟨m, fun _ => 0, g⟩ (fun r => ∀ c : Dev Cert.FfnLnFwdIdeal.nD,
          r.2.mem ((c.tc : Thread Cert.FfnLnFwdIdeal.nD Cert.FfnLnFwdIdeal.τ).loc Cert.FfnLnFwdIdeal.main_v0_0) = v0 c
          ∧ r.2.mem ((c.tc : Thread Cert.FfnLnFwdIdeal.nD Cert.FfnLnFwdIdeal.τ).loc Cert.FfnLnFwdIdeal.main_v0_1) = v1 c
          ∧ r.2.mem ((c.tc : Thread Cert.FfnLnFwdIdeal.nD Cert.FfnLnFwdIdeal.τ).loc Cert.FfnLnFwdIdeal.main_v0_2) = v2 c
          ∧ r.2.mem ((c.tc : Thread Cert.FfnLnFwdIdeal.nD Cert.FfnLnFwdIdeal.τ).loc Cert.FfnLnFwdIdeal.main_arg0) = m ((c.tc : Thread Cert.FfnLnFwdIdeal.nD Cert.FfnLnFwdIdeal.τ).loc Cert.FfnLnFwdIdeal.main_arg0)
          ∧ r.2.mem ((c.tc : Thread Cert.FfnLnFwdIdeal.nD Cert.FfnLnFwdIdeal.τ).loc Cert.FfnLnFwdIdeal.main_arg1) = m ((c.tc : Thread Cert.FfnLnFwdIdeal.nD Cert.FfnLnFwdIdeal.τ).loc Cert.FfnLnFwdIdeal.main_arg1)
          ∧ r.2.mem ((c.tc : Thread Cert.FfnLnFwdIdeal.nD Cert.FfnLnFwdIdeal.τ).loc Cert.FfnLnFwdIdeal.main_arg2) = m ((c.tc : Thread Cert.FfnLnFwdIdeal.nD Cert.FfnLnFwdIdeal.τ).loc Cert.FfnLnFwdIdeal.main_arg2)
          ∧ r.2.mem ((c.tc : Thread Cert.FfnLnFwdIdeal.nD Cert.FfnLnFwdIdeal.τ).loc Cert.FfnLnFwdIdeal.main_arg3) = m ((c.tc : Thread Cert.FfnLnFwdIdeal.nD Cert.FfnLnFwdIdeal.τ).loc Cert.FfnLnFwdIdeal.main_arg3))
      ∧ θ_run (Cert.FfnLnFwdRefIdeal.defs (F := Ideal)) (onTc (τ := Cert.FfnLnFwdRefIdeal.τ) (Cert.FfnLnFwdRefIdeal.main (F := Ideal))) ⟨m', fun _ => 0, g'⟩ (fun r => ∀ c : Dev Cert.FfnLnFwdRefIdeal.nD,
          r.2.mem ((c.tc : Thread Cert.FfnLnFwdRefIdeal.nD Cert.FfnLnFwdRefIdeal.τ).loc Cert.FfnLnFwdRefIdeal.main_v4) = v0 c
          ∧ r.2.mem ((c.tc : Thread Cert.FfnLnFwdRefIdeal.nD Cert.FfnLnFwdRefIdeal.τ).loc Cert.FfnLnFwdRefIdeal.main_v28) = v1 c
          ∧ r.2.mem ((c.tc : Thread Cert.FfnLnFwdRefIdeal.nD Cert.FfnLnFwdRefIdeal.τ).loc Cert.FfnLnFwdRefIdeal.main_v29) = v2 c
          ∧ r.2.mem ((c.tc : Thread Cert.FfnLnFwdRefIdeal.nD Cert.FfnLnFwdRefIdeal.τ).loc Cert.FfnLnFwdRefIdeal.main_arg0) = m' ((c.tc : Thread Cert.FfnLnFwdRefIdeal.nD Cert.FfnLnFwdRefIdeal.τ).loc Cert.FfnLnFwdRefIdeal.main_arg0)
          ∧ r.2.mem ((c.tc : Thread Cert.FfnLnFwdRefIdeal.nD Cert.FfnLnFwdRefIdeal.τ).loc Cert.FfnLnFwdRefIdeal.main_arg1) = m' ((c.tc : Thread Cert.FfnLnFwdRefIdeal.nD Cert.FfnLnFwdRefIdeal.τ).loc Cert.FfnLnFwdRefIdeal.main_arg1)
          ∧ r.2.mem ((c.tc : Thread Cert.FfnLnFwdRefIdeal.nD Cert.FfnLnFwdRefIdeal.τ).loc Cert.FfnLnFwdRefIdeal.main_arg2) = m' ((c.tc : Thread Cert.FfnLnFwdRefIdeal.nD Cert.FfnLnFwdRefIdeal.τ).loc Cert.FfnLnFwdRefIdeal.main_arg2)
          ∧ r.2.mem ((c.tc : Thread Cert.FfnLnFwdRefIdeal.nD Cert.FfnLnFwdRefIdeal.τ).loc Cert.FfnLnFwdRefIdeal.main_arg3) = m' ((c.tc : Thread Cert.FfnLnFwdRefIdeal.nD Cert.FfnLnFwdRefIdeal.τ).loc Cert.FfnLnFwdRefIdeal.main_arg3))

def preserves_MixLnFwd_MixLnFwdIdeal : Prop :=
  True

def algebraic_MixLnFwdIdeal_MixLnFwdRefIdeal [hMixLnFwdIdeal : Cert.MixLnFwdIdeal.Facts] [hMixLnFwdRefIdeal : Cert.MixLnFwdRefIdeal.Facts] : Prop :=
  ∀ (m : (ℓ : Loc Cert.MixLnFwdIdeal.nD Cert.MixLnFwdIdeal.τ Cert.MixLnFwdIdeal.sig) → Buf (Elt Ideal) ℓ) (g : Dev Cert.MixLnFwdIdeal.nD → PrngReg)
    (m' : (ℓ : Loc Cert.MixLnFwdRefIdeal.nD Cert.MixLnFwdRefIdeal.τ Cert.MixLnFwdRefIdeal.sig) → Buf (Elt Ideal) ℓ) (g' : Dev Cert.MixLnFwdRefIdeal.nD → PrngReg), Pre_MixLnFwdIdeal m →
    (∀ c : Dev Cert.MixLnFwdIdeal.nD,
      m' ((c.tc : Thread Cert.MixLnFwdRefIdeal.nD Cert.MixLnFwdRefIdeal.τ).loc Cert.MixLnFwdRefIdeal.main_arg0) = m ((c.tc : Thread Cert.MixLnFwdIdeal.nD Cert.MixLnFwdIdeal.τ).loc Cert.MixLnFwdIdeal.main_arg0)
      ∧ m' ((c.tc : Thread Cert.MixLnFwdRefIdeal.nD Cert.MixLnFwdRefIdeal.τ).loc Cert.MixLnFwdRefIdeal.main_arg1) = m ((c.tc : Thread Cert.MixLnFwdIdeal.nD Cert.MixLnFwdIdeal.τ).loc Cert.MixLnFwdIdeal.main_arg1)
      ∧ m' ((c.tc : Thread Cert.MixLnFwdRefIdeal.nD Cert.MixLnFwdRefIdeal.τ).loc Cert.MixLnFwdRefIdeal.main_arg2) = m ((c.tc : Thread Cert.MixLnFwdIdeal.nD Cert.MixLnFwdIdeal.τ).loc Cert.MixLnFwdIdeal.main_arg2)
      ∧ m' ((c.tc : Thread Cert.MixLnFwdRefIdeal.nD Cert.MixLnFwdRefIdeal.τ).loc Cert.MixLnFwdRefIdeal.main_arg3) = m ((c.tc : Thread Cert.MixLnFwdIdeal.nD Cert.MixLnFwdIdeal.τ).loc Cert.MixLnFwdIdeal.main_arg3)) →
    ∃ (v0 : (c : Dev Cert.MixLnFwdIdeal.nD) → Buf (Elt Ideal) ((c.tc : Thread Cert.MixLnFwdIdeal.nD Cert.MixLnFwdIdeal.τ).loc Cert.MixLnFwdIdeal.main_v0_0)) (v1 : (c : Dev Cert.MixLnFwdIdeal.nD) → Buf (Elt Ideal) ((c.tc : Thread Cert.MixLnFwdIdeal.nD Cert.MixLnFwdIdeal.τ).loc Cert.MixLnFwdIdeal.main_v0_1)) (v2 : (c : Dev Cert.MixLnFwdIdeal.nD) → Buf (Elt Ideal) ((c.tc : Thread Cert.MixLnFwdIdeal.nD Cert.MixLnFwdIdeal.τ).loc Cert.MixLnFwdIdeal.main_v0_2)),
      θ_run (Cert.MixLnFwdIdeal.defs (F := Ideal)) (onTc (τ := Cert.MixLnFwdIdeal.τ) (Cert.MixLnFwdIdeal.main (F := Ideal))) ⟨m, fun _ => 0, g⟩ (fun r => ∀ c : Dev Cert.MixLnFwdIdeal.nD,
          r.2.mem ((c.tc : Thread Cert.MixLnFwdIdeal.nD Cert.MixLnFwdIdeal.τ).loc Cert.MixLnFwdIdeal.main_v0_0) = v0 c
          ∧ r.2.mem ((c.tc : Thread Cert.MixLnFwdIdeal.nD Cert.MixLnFwdIdeal.τ).loc Cert.MixLnFwdIdeal.main_v0_1) = v1 c
          ∧ r.2.mem ((c.tc : Thread Cert.MixLnFwdIdeal.nD Cert.MixLnFwdIdeal.τ).loc Cert.MixLnFwdIdeal.main_v0_2) = v2 c
          ∧ r.2.mem ((c.tc : Thread Cert.MixLnFwdIdeal.nD Cert.MixLnFwdIdeal.τ).loc Cert.MixLnFwdIdeal.main_arg0) = m ((c.tc : Thread Cert.MixLnFwdIdeal.nD Cert.MixLnFwdIdeal.τ).loc Cert.MixLnFwdIdeal.main_arg0)
          ∧ r.2.mem ((c.tc : Thread Cert.MixLnFwdIdeal.nD Cert.MixLnFwdIdeal.τ).loc Cert.MixLnFwdIdeal.main_arg1) = m ((c.tc : Thread Cert.MixLnFwdIdeal.nD Cert.MixLnFwdIdeal.τ).loc Cert.MixLnFwdIdeal.main_arg1)
          ∧ r.2.mem ((c.tc : Thread Cert.MixLnFwdIdeal.nD Cert.MixLnFwdIdeal.τ).loc Cert.MixLnFwdIdeal.main_arg2) = m ((c.tc : Thread Cert.MixLnFwdIdeal.nD Cert.MixLnFwdIdeal.τ).loc Cert.MixLnFwdIdeal.main_arg2)
          ∧ r.2.mem ((c.tc : Thread Cert.MixLnFwdIdeal.nD Cert.MixLnFwdIdeal.τ).loc Cert.MixLnFwdIdeal.main_arg3) = m ((c.tc : Thread Cert.MixLnFwdIdeal.nD Cert.MixLnFwdIdeal.τ).loc Cert.MixLnFwdIdeal.main_arg3))
      ∧ θ_run (Cert.MixLnFwdRefIdeal.defs (F := Ideal)) (onTc (τ := Cert.MixLnFwdRefIdeal.τ) (Cert.MixLnFwdRefIdeal.main (F := Ideal))) ⟨m', fun _ => 0, g'⟩ (fun r => ∀ c : Dev Cert.MixLnFwdRefIdeal.nD,
          r.2.mem ((c.tc : Thread Cert.MixLnFwdRefIdeal.nD Cert.MixLnFwdRefIdeal.τ).loc Cert.MixLnFwdRefIdeal.main_v2) = v0 c
          ∧ r.2.mem ((c.tc : Thread Cert.MixLnFwdRefIdeal.nD Cert.MixLnFwdRefIdeal.τ).loc Cert.MixLnFwdRefIdeal.main_v26) = v1 c
          ∧ r.2.mem ((c.tc : Thread Cert.MixLnFwdRefIdeal.nD Cert.MixLnFwdRefIdeal.τ).loc Cert.MixLnFwdRefIdeal.main_v27) = v2 c
          ∧ r.2.mem ((c.tc : Thread Cert.MixLnFwdRefIdeal.nD Cert.MixLnFwdRefIdeal.τ).loc Cert.MixLnFwdRefIdeal.main_arg0) = m' ((c.tc : Thread Cert.MixLnFwdRefIdeal.nD Cert.MixLnFwdRefIdeal.τ).loc Cert.MixLnFwdRefIdeal.main_arg0)
          ∧ r.2.mem ((c.tc : Thread Cert.MixLnFwdRefIdeal.nD Cert.MixLnFwdRefIdeal.τ).loc Cert.MixLnFwdRefIdeal.main_arg1) = m' ((c.tc : Thread Cert.MixLnFwdRefIdeal.nD Cert.MixLnFwdRefIdeal.τ).loc Cert.MixLnFwdRefIdeal.main_arg1)
          ∧ r.2.mem ((c.tc : Thread Cert.MixLnFwdRefIdeal.nD Cert.MixLnFwdRefIdeal.τ).loc Cert.MixLnFwdRefIdeal.main_arg2) = m' ((c.tc : Thread Cert.MixLnFwdRefIdeal.nD Cert.MixLnFwdRefIdeal.τ).loc Cert.MixLnFwdRefIdeal.main_arg2)
          ∧ r.2.mem ((c.tc : Thread Cert.MixLnFwdRefIdeal.nD Cert.MixLnFwdRefIdeal.τ).loc Cert.MixLnFwdRefIdeal.main_arg3) = m' ((c.tc : Thread Cert.MixLnFwdRefIdeal.nD Cert.MixLnFwdRefIdeal.τ).loc Cert.MixLnFwdRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v10) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v1_0)) (v1 : (c : Dev Cert.AdamWIdeal.nD) → Buf (Elt Ideal) ((c.tc : Thread Cert.AdamWIdeal.nD Cert.AdamWIdeal.τ).loc Cert.AdamWIdeal.main_v1_1)) (v2 : (c : Dev Cert.AdamWIdeal.nD) → Buf (Elt Ideal) ((c.tc : Thread Cert.AdamWIdeal.nD Cert.AdamWIdeal.τ).loc Cert.AdamWIdeal.main_v1_2)) (v3 : (c : Dev Cert.AdamWIdeal.nD) → Buf (Elt Ideal) ((c.tc : Thread Cert.AdamWIdeal.nD Cert.AdamWIdeal.τ).loc Cert.AdamWIdeal.main_v1_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v1_0) = v0 c
          ∧ r.2.mem ((c.tc : Thread Cert.AdamWIdeal.nD Cert.AdamWIdeal.τ).loc Cert.AdamWIdeal.main_v1_1) = v1 c
          ∧ r.2.mem ((c.tc : Thread Cert.AdamWIdeal.nD Cert.AdamWIdeal.τ).loc Cert.AdamWIdeal.main_v1_2) = v2 c
          ∧ r.2.mem ((c.tc : Thread Cert.AdamWIdeal.nD Cert.AdamWIdeal.τ).loc Cert.AdamWIdeal.main_v1_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v0) = v0 c
          ∧ r.2.mem ((c.tc : Thread Cert.AdamWRefIdeal.nD Cert.AdamWRefIdeal.τ).loc Cert.AdamWRefIdeal.main_v24) = v1 c
          ∧ r.2.mem ((c.tc : Thread Cert.AdamWRefIdeal.nD Cert.AdamWRefIdeal.τ).loc Cert.AdamWRefIdeal.main_v5) = v2 c
          ∧ r.2.mem ((c.tc : Thread Cert.AdamWRefIdeal.nD Cert.AdamWRefIdeal.τ).loc Cert.AdamWRefIdeal.main_v11) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_MixGates_MixGatesIdeal : Prop :=
  True

def algebraic_MixGatesIdeal_MixGatesRefIdeal [hMixGatesIdeal : Cert.MixGatesIdeal.Facts] [hMixGatesRefIdeal : Cert.MixGatesRefIdeal.Facts] : Prop :=
  ∀ (m : (ℓ : Loc Cert.MixGatesIdeal.nD Cert.MixGatesIdeal.τ Cert.MixGatesIdeal.sig) → Buf (Elt Ideal) ℓ) (g : Dev Cert.MixGatesIdeal.nD → PrngReg)
    (m' : (ℓ : Loc Cert.MixGatesRefIdeal.nD Cert.MixGatesRefIdeal.τ Cert.MixGatesRefIdeal.sig) → Buf (Elt Ideal) ℓ) (g' : Dev Cert.MixGatesRefIdeal.nD → PrngReg), Pre_MixGatesIdeal m →
    (∀ c : Dev Cert.MixGatesIdeal.nD,
      m' ((c.tc : Thread Cert.MixGatesRefIdeal.nD Cert.MixGatesRefIdeal.τ).loc Cert.MixGatesRefIdeal.main_arg0) = m ((c.tc : Thread Cert.MixGatesIdeal.nD Cert.MixGatesIdeal.τ).loc Cert.MixGatesIdeal.main_arg0)
      ∧ m' ((c.tc : Thread Cert.MixGatesRefIdeal.nD Cert.MixGatesRefIdeal.τ).loc Cert.MixGatesRefIdeal.main_arg1) = m ((c.tc : Thread Cert.MixGatesIdeal.nD Cert.MixGatesIdeal.τ).loc Cert.MixGatesIdeal.main_arg1)) →
    ∃ (v0 : (c : Dev Cert.MixGatesIdeal.nD) → Buf (Elt Ideal) ((c.tc : Thread Cert.MixGatesIdeal.nD Cert.MixGatesIdeal.τ).loc Cert.MixGatesIdeal.main_v2)),
      θ_run (Cert.MixGatesIdeal.defs (F := Ideal)) (onTc (τ := Cert.MixGatesIdeal.τ) (Cert.MixGatesIdeal.main (F := Ideal))) ⟨m, fun _ => 0, g⟩ (fun r => ∀ c : Dev Cert.MixGatesIdeal.nD,
          r.2.mem ((c.tc : Thread Cert.MixGatesIdeal.nD Cert.MixGatesIdeal.τ).loc Cert.MixGatesIdeal.main_v2) = v0 c
          ∧ r.2.mem ((c.tc : Thread Cert.MixGatesIdeal.nD Cert.MixGatesIdeal.τ).loc Cert.MixGatesIdeal.main_arg0) = m ((c.tc : Thread Cert.MixGatesIdeal.nD Cert.MixGatesIdeal.τ).loc Cert.MixGatesIdeal.main_arg0)
          ∧ r.2.mem ((c.tc : Thread Cert.MixGatesIdeal.nD Cert.MixGatesIdeal.τ).loc Cert.MixGatesIdeal.main_arg1) = m ((c.tc : Thread Cert.MixGatesIdeal.nD Cert.MixGatesIdeal.τ).loc Cert.MixGatesIdeal.main_arg1))
      ∧ θ_run (Cert.MixGatesRefIdeal.defs (F := Ideal)) (onTc (τ := Cert.MixGatesRefIdeal.τ) (Cert.MixGatesRefIdeal.main (F := Ideal))) ⟨m', fun _ => 0, g'⟩ (fun r => ∀ c : Dev Cert.MixGatesRefIdeal.nD,
          r.2.mem ((c.tc : Thread Cert.MixGatesRefIdeal.nD Cert.MixGatesRefIdeal.τ).loc Cert.MixGatesRefIdeal.main_v1) = v0 c
          ∧ r.2.mem ((c.tc : Thread Cert.MixGatesRefIdeal.nD Cert.MixGatesRefIdeal.τ).loc Cert.MixGatesRefIdeal.main_arg0) = m' ((c.tc : Thread Cert.MixGatesRefIdeal.nD Cert.MixGatesRefIdeal.τ).loc Cert.MixGatesRefIdeal.main_arg0)
          ∧ r.2.mem ((c.tc : Thread Cert.MixGatesRefIdeal.nD Cert.MixGatesRefIdeal.τ).loc Cert.MixGatesRefIdeal.main_arg1) = m' ((c.tc : Thread Cert.MixGatesRefIdeal.nD Cert.MixGatesRefIdeal.τ).loc Cert.MixGatesRefIdeal.main_arg1))

def preserves_MixInBwd_MixInBwdIdeal : Prop :=
  True

def algebraic_MixInBwdIdeal_MixInBwdRefIdeal [hMixInBwdIdeal : Cert.MixInBwdIdeal.Facts] [hMixInBwdRefIdeal : Cert.MixInBwdRefIdeal.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg)
    (m' : (ℓ : Loc Cert.MixInBwdRefIdeal.nD Cert.MixInBwdRefIdeal.τ Cert.MixInBwdRefIdeal.sig) → Buf (Elt Ideal) ℓ) (g' : Dev Cert.MixInBwdRefIdeal.nD → PrngReg), Pre_MixInBwdIdeal m →
    (∀ c : Dev Cert.MixInBwdIdeal.nD,
      m' ((c.tc : Thread Cert.MixInBwdRefIdeal.nD Cert.MixInBwdRefIdeal.τ).loc Cert.MixInBwdRefIdeal.main_arg0) = m ((c.tc : Thread Cert.MixInBwdIdeal.nD Cert.MixInBwdIdeal.τ).loc Cert.MixInBwdIdeal.main_arg0)
      ∧ m' ((c.tc : Thread Cert.MixInBwdRefIdeal.nD Cert.MixInBwdRefIdeal.τ).loc Cert.MixInBwdRefIdeal.main_arg1) = m ((c.tc : Thread Cert.MixInBwdIdeal.nD Cert.MixInBwdIdeal.τ).loc Cert.MixInBwdIdeal.main_arg1)) →
    ∃ (v0 : (c : Dev Cert.MixInBwdIdeal.nD) → Buf (Elt Ideal) ((c.tc : Thread Cert.MixInBwdIdeal.nD Cert.MixInBwdIdeal.τ).loc Cert.MixInBwdIdeal.main_v2)),
      θ_run (Cert.MixInBwdIdeal.defs (F := Ideal)) (onTc (τ := Cert.MixInBwdIdeal.τ) (Cert.MixInBwdIdeal.main (F := Ideal))) ⟨m, fun _ => 0, g⟩ (fun r => ∀ c : Dev Cert.MixInBwdIdeal.nD,
          r.2.mem ((c.tc : Thread Cert.MixInBwdIdeal.nD Cert.MixInBwdIdeal.τ).loc Cert.MixInBwdIdeal.main_v2) = v0 c
          ∧ r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
          ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1))
      ∧ θ_run (Cert.MixInBwdRefIdeal.defs (F := Ideal)) (onTc (τ := Cert.MixInBwdRefIdeal.τ) (Cert.MixInBwdRefIdeal.main (F := Ideal))) ⟨m', fun _ => 0, g'⟩ (fun r => ∀ c : Dev Cert.MixInBwdRefIdeal.nD,
          r.2.mem ((c.tc : Thread Cert.MixInBwdRefIdeal.nD Cert.MixInBwdRefIdeal.τ).loc Cert.MixInBwdRefIdeal.main_v2) = v0 c
          ∧ r.2.mem ((c.tc : Thread Cert.MixInBwdRefIdeal.nD Cert.MixInBwdRefIdeal.τ).loc Cert.MixInBwdRefIdeal.main_arg0) = m' ((c.tc : Thread Cert.MixInBwdRefIdeal.nD Cert.MixInBwdRefIdeal.τ).loc Cert.MixInBwdRefIdeal.main_arg0)
          ∧ r.2.mem ((c.tc : Thread Cert.MixInBwdRefIdeal.nD Cert.MixInBwdRefIdeal.τ).loc Cert.MixInBwdRefIdeal.main_arg1) = m' ((c.tc : Thread Cert.MixInBwdRefIdeal.nD Cert.MixInBwdRefIdeal.τ).loc Cert.MixInBwdRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v2)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v2) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v4) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v5)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v5) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v0) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_FfnDwOut_FfnDwOutIdeal : Prop :=
  True

def algebraic_FfnDwOutIdeal_FfnDwOutRefIdeal [hFfnDwOutIdeal : Cert.FfnDwOutIdeal.Facts] [hFfnDwOutRefIdeal : Cert.FfnDwOutRefIdeal.Facts] : Prop :=
  ∀ (m : (ℓ : Loc Cert.FfnDwOutIdeal.nD Cert.FfnDwOutIdeal.τ Cert.FfnDwOutIdeal.sig) → Buf (Elt Ideal) ℓ) (g : Dev Cert.FfnDwOutIdeal.nD → PrngReg)
    (m' : (ℓ : Loc Cert.FfnDwOutRefIdeal.nD Cert.FfnDwOutRefIdeal.τ Cert.FfnDwOutRefIdeal.sig) → Buf (Elt Ideal) ℓ) (g' : Dev Cert.FfnDwOutRefIdeal.nD → PrngReg), Pre_FfnDwOutIdeal m →
    (∀ c : Dev Cert.FfnDwOutIdeal.nD,
      m' ((c.tc : Thread Cert.FfnDwOutRefIdeal.nD Cert.FfnDwOutRefIdeal.τ).loc Cert.FfnDwOutRefIdeal.main_arg0) = m ((c.tc : Thread Cert.FfnDwOutIdeal.nD Cert.FfnDwOutIdeal.τ).loc Cert.FfnDwOutIdeal.main_arg0)
      ∧ m' ((c.tc : Thread Cert.FfnDwOutRefIdeal.nD Cert.FfnDwOutRefIdeal.τ).loc Cert.FfnDwOutRefIdeal.main_arg1) = m ((c.tc : Thread Cert.FfnDwOutIdeal.nD Cert.FfnDwOutIdeal.τ).loc Cert.FfnDwOutIdeal.main_arg1)) →
    ∃ (v0 : (c : Dev Cert.FfnDwOutIdeal.nD) → Buf (Elt Ideal) ((c.tc : Thread Cert.FfnDwOutIdeal.nD Cert.FfnDwOutIdeal.τ).loc Cert.FfnDwOutIdeal.main_v4)),
      θ_run (Cert.FfnDwOutIdeal.defs (F := Ideal)) (onTc (τ := Cert.FfnDwOutIdeal.τ) (Cert.FfnDwOutIdeal.main (F := Ideal))) ⟨m, fun _ => 0, g⟩ (fun r => ∀ c : Dev Cert.FfnDwOutIdeal.nD,
          r.2.mem ((c.tc : Thread Cert.FfnDwOutIdeal.nD Cert.FfnDwOutIdeal.τ).loc Cert.FfnDwOutIdeal.main_v4) = v0 c
          ∧ r.2.mem ((c.tc : Thread Cert.FfnDwOutIdeal.nD Cert.FfnDwOutIdeal.τ).loc Cert.FfnDwOutIdeal.main_arg0) = m ((c.tc : Thread Cert.FfnDwOutIdeal.nD Cert.FfnDwOutIdeal.τ).loc Cert.FfnDwOutIdeal.main_arg0)
          ∧ r.2.mem ((c.tc : Thread Cert.FfnDwOutIdeal.nD Cert.FfnDwOutIdeal.τ).loc Cert.FfnDwOutIdeal.main_arg1) = m ((c.tc : Thread Cert.FfnDwOutIdeal.nD Cert.FfnDwOutIdeal.τ).loc Cert.FfnDwOutIdeal.main_arg1))
      ∧ θ_run (Cert.FfnDwOutRefIdeal.defs (F := Ideal)) (onTc (τ := Cert.FfnDwOutRefIdeal.τ) (Cert.FfnDwOutRefIdeal.main (F := Ideal))) ⟨m', fun _ => 0, g'⟩ (fun r => ∀ c : Dev Cert.FfnDwOutRefIdeal.nD,
          r.2.mem ((c.tc : Thread Cert.FfnDwOutRefIdeal.nD Cert.FfnDwOutRefIdeal.τ).loc Cert.FfnDwOutRefIdeal.main_v5) = v0 c
          ∧ r.2.mem ((c.tc : Thread Cert.FfnDwOutRefIdeal.nD Cert.FfnDwOutRefIdeal.τ).loc Cert.FfnDwOutRefIdeal.main_arg0) = m' ((c.tc : Thread Cert.FfnDwOutRefIdeal.nD Cert.FfnDwOutRefIdeal.τ).loc Cert.FfnDwOutRefIdeal.main_arg0)
          ∧ r.2.mem ((c.tc : Thread Cert.FfnDwOutRefIdeal.nD Cert.FfnDwOutRefIdeal.τ).loc Cert.FfnDwOutRefIdeal.main_arg1) = m' ((c.tc : Thread Cert.FfnDwOutRefIdeal.nD Cert.FfnDwOutRefIdeal.τ).loc Cert.FfnDwOutRefIdeal.main_arg1))

def preserves_FfnDwIn_FfnDwInIdeal : Prop :=
  True

def algebraic_FfnDwInIdeal_FfnDwInRefIdeal [hFfnDwInIdeal : Cert.FfnDwInIdeal.Facts] [hFfnDwInRefIdeal : Cert.FfnDwInRefIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg)
    (m' : (ℓ : Loc Cert.FfnDwInRefIdeal.nD Cert.FfnDwInRefIdeal.τ Cert.FfnDwInRefIdeal.sig) → Buf (Elt Ideal) ℓ) (g' : Dev Cert.FfnDwInRefIdeal.nD → PrngReg), Pre_FfnDwInIdeal m →
    (∀ c : Dev Cert.FfnDwInIdeal.nD,
      m' ((c.tc : Thread Cert.FfnDwInRefIdeal.nD Cert.FfnDwInRefIdeal.τ).loc Cert.FfnDwInRefIdeal.main_arg0) = m ((c.tc : Thread Cert.FfnDwInIdeal.nD Cert.FfnDwInIdeal.τ).loc Cert.FfnDwInIdeal.main_arg0)
      ∧ m' ((c.tc : Thread Cert.FfnDwInRefIdeal.nD Cert.FfnDwInRefIdeal.τ).loc Cert.FfnDwInRefIdeal.main_arg1) = m ((c.tc : Thread Cert.FfnDwInIdeal.nD Cert.FfnDwInIdeal.τ).loc Cert.FfnDwInIdeal.main_arg1)) →
    ∃ (v0 : (c : Dev Cert.FfnDwInIdeal.nD) → Buf (Elt Ideal) ((c.tc : Thread Cert.FfnDwInIdeal.nD Cert.FfnDwInIdeal.τ).loc Cert.FfnDwInIdeal.main_v4)),
      θ_run (Cert.FfnDwInIdeal.defs (F := Ideal)) (onTc (τ := Cert.FfnDwInIdeal.τ) (Cert.FfnDwInIdeal.main (F := Ideal))) ⟨m, fun _ => 0, g⟩ (fun r => ∀ c : Dev Cert.FfnDwInIdeal.nD,
          r.2.mem ((c.tc : Thread Cert.FfnDwInIdeal.nD Cert.FfnDwInIdeal.τ).loc Cert.FfnDwInIdeal.main_v4) = v0 c
          ∧ r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
          ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ θ_run (Cert.FfnDwInRefIdeal.defs (F := Ideal)) (onTc (τ := Cert.FfnDwInRefIdeal.τ) (Cert.FfnDwInRefIdeal.main (F := Ideal))) ⟨m', fun _ => 0, g'⟩ (fun r => ∀ c : Dev Cert.FfnDwInRefIdeal.nD,
          r.2.mem ((c.tc : Thread Cert.FfnDwInRefIdeal.nD Cert.FfnDwInRefIdeal.τ).loc Cert.FfnDwInRefIdeal.main_v6) = v0 c
          ∧ r.2.mem ((c.tc : Thread Cert.FfnDwInRefIdeal.nD Cert.FfnDwInRefIdeal.τ).loc Cert.FfnDwInRefIdeal.main_arg0) = m' ((c.tc : Thread Cert.FfnDwInRefIdeal.nD Cert.FfnDwInRefIdeal.τ).loc Cert.FfnDwInRefIdeal.main_arg0)
          ∧ r.2.mem ((c.tc : Thread Cert.FfnDwInRefIdeal.nD Cert.FfnDwInRefIdeal.τ).loc Cert.FfnDwInRefIdeal.main_arg1) = m' ((c.tc : Thread Cert.FfnDwInRefIdeal.nD Cert.FfnDwInRefIdeal.τ).loc Cert.FfnDwInRefIdeal.main_arg1))

def preserves_FfnInBwd_FfnInBwdIdeal : Prop :=
  True

def algebraic_FfnInBwdIdeal_FfnInBwdRefIdeal [hFfnInBwdIdeal : Cert.FfnInBwdIdeal.Facts] [hFfnInBwdRefIdeal : Cert.FfnInBwdRefIdeal.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg)
    (m' : (ℓ : Loc Cert.FfnInBwdRefIdeal.nD Cert.FfnInBwdRefIdeal.τ Cert.FfnInBwdRefIdeal.sig) → Buf (Elt Ideal) ℓ) (g' : Dev Cert.FfnInBwdRefIdeal.nD → PrngReg), Pre_FfnInBwdIdeal m →
    (∀ c : Dev Cert.FfnInBwdIdeal.nD,
      m' ((c.tc : Thread Cert.FfnInBwdRefIdeal.nD Cert.FfnInBwdRefIdeal.τ).loc Cert.FfnInBwdRefIdeal.main_arg0) = m ((c.tc : Thread Cert.FfnInBwdIdeal.nD Cert.FfnInBwdIdeal.τ).loc Cert.FfnInBwdIdeal.main_arg0)
      ∧ m' ((c.tc : Thread Cert.FfnInBwdRefIdeal.nD Cert.FfnInBwdRefIdeal.τ).loc Cert.FfnInBwdRefIdeal.main_arg1) = m ((c.tc : Thread Cert.FfnInBwdIdeal.nD Cert.FfnInBwdIdeal.τ).loc Cert.FfnInBwdIdeal.main_arg1)) →
    ∃ (v0 : (c : Dev Cert.FfnInBwdIdeal.nD) → Buf (Elt Ideal) ((c.tc : Thread Cert.FfnInBwdIdeal.nD Cert.FfnInBwdIdeal.τ).loc Cert.FfnInBwdIdeal.main_v6)),
      θ_run (Cert.FfnInBwdIdeal.defs (F := Ideal)) (onTc (τ := Cert.FfnInBwdIdeal.τ) (Cert.FfnInBwdIdeal.main (F := Ideal))) ⟨m, fun _ => 0, g⟩ (fun r => ∀ c : Dev Cert.FfnInBwdIdeal.nD,
          r.2.mem ((c.tc : Thread Cert.FfnInBwdIdeal.nD Cert.FfnInBwdIdeal.τ).loc Cert.FfnInBwdIdeal.main_v6) = v0 c
          ∧ r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
          ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1))
      ∧ θ_run (Cert.FfnInBwdRefIdeal.defs (F := Ideal)) (onTc (τ := Cert.FfnInBwdRefIdeal.τ) (Cert.FfnInBwdRefIdeal.main (F := Ideal))) ⟨m', fun _ => 0, g'⟩ (fun r => ∀ c : Dev Cert.FfnInBwdRefIdeal.nD,
          r.2.mem ((c.tc : Thread Cert.FfnInBwdRefIdeal.nD Cert.FfnInBwdRefIdeal.τ).loc Cert.FfnInBwdRefIdeal.main_v2) = v0 c
          ∧ r.2.mem ((c.tc : Thread Cert.FfnInBwdRefIdeal.nD Cert.FfnInBwdRefIdeal.τ).loc Cert.FfnInBwdRefIdeal.main_arg0) = m' ((c.tc : Thread Cert.FfnInBwdRefIdeal.nD Cert.FfnInBwdRefIdeal.τ).loc Cert.FfnInBwdRefIdeal.main_arg0)
          ∧ r.2.mem ((c.tc : Thread Cert.FfnInBwdRefIdeal.nD Cert.FfnInBwdRefIdeal.τ).loc Cert.FfnInBwdRefIdeal.main_arg1) = m' ((c.tc : Thread Cert.FfnInBwdRefIdeal.nD Cert.FfnInBwdRefIdeal.τ).loc Cert.FfnInBwdRefIdeal.main_arg1))

def preserves_PairAdd_PairAddIdeal : Prop :=
  True

def algebraic_PairAddIdeal_PairAddRefIdeal [hPairAddIdeal : Cert.PairAddIdeal.Facts] [hPairAddRefIdeal : Cert.PairAddRefIdeal.Facts] [hPre_core_index : Cert.Pre_core_index.Facts] : Prop :=
  ∀ (m : (ℓ : Loc Cert.PairAddIdeal.nD Cert.PairAddIdeal.τ Cert.PairAddIdeal.sig) → Buf (Elt Ideal) ℓ) (g : Dev Cert.PairAddIdeal.nD → PrngReg)
    (m' : (ℓ : Loc Cert.PairAddRefIdeal.nD Cert.PairAddRefIdeal.τ Cert.PairAddRefIdeal.sig) → Buf (Elt Ideal) ℓ) (g' : Dev Cert.PairAddRefIdeal.nD → PrngReg), Pre_PairAddIdeal m →
    (∀ c : Dev Cert.PairAddIdeal.nD,
      m' ((c.tc : Thread Cert.PairAddRefIdeal.nD Cert.PairAddRefIdeal.τ).loc Cert.PairAddRefIdeal.main_arg0) = m ((c.tc : Thread Cert.PairAddIdeal.nD Cert.PairAddIdeal.τ).loc Cert.PairAddIdeal.main_arg0)
      ∧ m' ((c.tc : Thread Cert.PairAddRefIdeal.nD Cert.PairAddRefIdeal.τ).loc Cert.PairAddRefIdeal.main_arg1) = m ((c.tc : Thread Cert.PairAddIdeal.nD Cert.PairAddIdeal.τ).loc Cert.PairAddIdeal.main_arg1)
      ∧ m' ((c.tc : Thread Cert.PairAddRefIdeal.nD Cert.PairAddRefIdeal.τ).loc Cert.PairAddRefIdeal.main_arg2) = m ((c.tc : Thread Cert.PairAddIdeal.nD Cert.PairAddIdeal.τ).loc Cert.PairAddIdeal.main_arg2)) →
    ∃ (v0 : (c : Dev Cert.PairAddIdeal.nD) → Buf (Elt Ideal) ((c.tc : Thread Cert.PairAddIdeal.nD Cert.PairAddIdeal.τ).loc Cert.PairAddIdeal.main_v3)),
      θ_run (Cert.PairAddIdeal.defs (F := Ideal)) (onTc (τ := Cert.PairAddIdeal.τ) (Cert.PairAddIdeal.main (F := Ideal))) ⟨m, fun _ => 0, g⟩ (fun r => ∀ c : Dev Cert.PairAddIdeal.nD,
          r.2.mem ((c.tc : Thread Cert.PairAddIdeal.nD Cert.PairAddIdeal.τ).loc Cert.PairAddIdeal.main_v3) = v0 c
          ∧ r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
          ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1)
          ∧ r.2.mem ((c.tc : Thread Cert.PairAddIdeal.nD Cert.PairAddIdeal.τ).loc Cert.PairAddIdeal.main_arg2) = m ((c.tc : Thread Cert.PairAddIdeal.nD Cert.PairAddIdeal.τ).loc Cert.PairAddIdeal.main_arg2))
      ∧ θ_run (Cert.PairAddRefIdeal.defs (F := Ideal)) (onTc (τ := Cert.PairAddRefIdeal.τ) (Cert.PairAddRefIdeal.main (F := Ideal))) ⟨m', fun _ => 0, g'⟩ (fun r => ∀ c : Dev Cert.PairAddRefIdeal.nD,
          r.2.mem ((c.tc : Thread Cert.PairAddRefIdeal.nD Cert.PairAddRefIdeal.τ).loc Cert.PairAddRefIdeal.main_v9) = v0 c
          ∧ r.2.mem ((c.tc : Thread Cert.PairAddRefIdeal.nD Cert.PairAddRefIdeal.τ).loc Cert.PairAddRefIdeal.main_arg0) = m' ((c.tc : Thread Cert.PairAddRefIdeal.nD Cert.PairAddRefIdeal.τ).loc Cert.PairAddRefIdeal.main_arg0)
          ∧ r.2.mem ((c.tc : Thread Cert.PairAddRefIdeal.nD Cert.PairAddRefIdeal.τ).loc Cert.PairAddRefIdeal.main_arg1) = m' ((c.tc : Thread Cert.PairAddRefIdeal.nD Cert.PairAddRefIdeal.τ).loc Cert.PairAddRefIdeal.main_arg1)
          ∧ r.2.mem ((c.tc : Thread Cert.PairAddRefIdeal.nD Cert.PairAddRefIdeal.τ).loc Cert.PairAddRefIdeal.main_arg2) = m' ((c.tc : Thread Cert.PairAddRefIdeal.nD Cert.PairAddRefIdeal.τ).loc Cert.PairAddRefIdeal.main_arg2))

def Claim : Prop :=
  ∃ (hMergeBwd : Cert.MergeBwd.Facts) (hMergeBwdIdeal : Cert.MergeBwdIdeal.Facts) (hMergeBwdRefIdeal : Cert.MergeBwdRefIdeal.Facts) (hActBwd : Cert.ActBwd.Facts) (hActBwdIdeal : Cert.ActBwdIdeal.Facts) (hActBwdRefIdeal : Cert.ActBwdRefIdeal.Facts) (hConvBwd : Cert.ConvBwd.Facts) (hConvBwdIdeal : Cert.ConvBwdIdeal.Facts) (hConvBwdRefIdeal : Cert.ConvBwdRefIdeal.Facts) (hSbBwd : Cert.SbBwd.Facts) (hSbBwdIdeal : Cert.SbBwdIdeal.Facts) (hSbBwdRefIdeal : Cert.SbBwdRefIdeal.Facts) (hFfnLnBwd : Cert.FfnLnBwd.Facts) (hFfnLnBwdIdeal : Cert.FfnLnBwdIdeal.Facts) (hFfnLnBwdRefIdeal : Cert.FfnLnBwdRefIdeal.Facts) (hMixLnBwd : Cert.MixLnBwd.Facts) (hMixLnBwdIdeal : Cert.MixLnBwdIdeal.Facts) (hMixLnBwdRefIdeal : Cert.MixLnBwdRefIdeal.Facts) (hPleHead : Cert.PleHead.Facts) (hPleHeadIdeal : Cert.PleHeadIdeal.Facts) (hPleHeadRefIdeal : Cert.PleHeadRefIdeal.Facts) (hGdnFwdCall : Cert.GdnFwdCall.Facts) (hGdnFwdCallIdeal : Cert.GdnFwdCallIdeal.Facts) (hGdnBwdCall : Cert.GdnBwdCall.Facts) (hGdnBwdCallIdeal : Cert.GdnBwdCallIdeal.Facts) (hSbFwd : Cert.SbFwd.Facts) (hSbFwdIdeal : Cert.SbFwdIdeal.Facts) (hSbFwdRefIdeal : Cert.SbFwdRefIdeal.Facts) (hMergeFwd : Cert.MergeFwd.Facts) (hMergeFwdIdeal : Cert.MergeFwdIdeal.Facts) (hMergeFwdRefIdeal : Cert.MergeFwdRefIdeal.Facts) (hConvFwd : Cert.ConvFwd.Facts) (hConvFwdIdeal : Cert.ConvFwdIdeal.Facts) (hConvFwdRefIdeal : Cert.ConvFwdRefIdeal.Facts) (hFfnLnFwd : Cert.FfnLnFwd.Facts) (hFfnLnFwdIdeal : Cert.FfnLnFwdIdeal.Facts) (hFfnLnFwdRefIdeal : Cert.FfnLnFwdRefIdeal.Facts) (hMixLnFwd : Cert.MixLnFwd.Facts) (hMixLnFwdIdeal : Cert.MixLnFwdIdeal.Facts) (hMixLnFwdRefIdeal : Cert.MixLnFwdRefIdeal.Facts) (hFfnUp : Cert.FfnUp.Facts) (hFfnUpIdeal : Cert.FfnUpIdeal.Facts) (hFfnUpRefIdeal : Cert.FfnUpRefIdeal.Facts) (hAdamW : Cert.AdamW.Facts) (hAdamWIdeal : Cert.AdamWIdeal.Facts) (hAdamWRefIdeal : Cert.AdamWRefIdeal.Facts) (hMixGates : Cert.MixGates.Facts) (hMixGatesIdeal : Cert.MixGatesIdeal.Facts) (hMixGatesRefIdeal : Cert.MixGatesRefIdeal.Facts) (hMixInBwd : Cert.MixInBwd.Facts) (hMixInBwdIdeal : Cert.MixInBwdIdeal.Facts) (hMixInBwdRefIdeal : Cert.MixInBwdRefIdeal.Facts) (hMixDw : Cert.MixDw.Facts) (hMixDwIdeal : Cert.MixDwIdeal.Facts) (hMixDwRefIdeal : Cert.MixDwRefIdeal.Facts) (hFfnDown : Cert.FfnDown.Facts) (hFfnDownIdeal : Cert.FfnDownIdeal.Facts) (hFfnDownRefIdeal : Cert.FfnDownRefIdeal.Facts) (hFfnDwOut : Cert.FfnDwOut.Facts) (hFfnDwOutIdeal : Cert.FfnDwOutIdeal.Facts) (hFfnDwOutRefIdeal : Cert.FfnDwOutRefIdeal.Facts) (hFfnDwIn : Cert.FfnDwIn.Facts) (hFfnDwInIdeal : Cert.FfnDwInIdeal.Facts) (hFfnDwInRefIdeal : Cert.FfnDwInRefIdeal.Facts) (hFfnInBwd : Cert.FfnInBwd.Facts) (hFfnInBwdIdeal : Cert.FfnInBwdIdeal.Facts) (hFfnInBwdRefIdeal : Cert.FfnInBwdRefIdeal.Facts) (hPairAdd : Cert.PairAdd.Facts) (hPairAddIdeal : Cert.PairAddIdeal.Facts) (hPairAddRefIdeal : Cert.PairAddRefIdeal.Facts) (hPre_act_finite : Cert.Pre_act_finite.Facts) (hPre_conv_finite : Cert.Pre_conv_finite.Facts) (hPre_sb_finite : Cert.Pre_sb_finite.Facts) (hPre_sb_alive : Cert.Pre_sb_alive.Facts) (hPre_core_index : Cert.Pre_core_index.Facts),
    quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_ActBwd (hActBwd := hActBwd)
    ∧ quiescent_ActBwdIdeal (hActBwdIdeal := hActBwdIdeal)
    ∧ quiescent_ActBwdIdeal_pre_act_finite (hActBwdIdeal := hActBwdIdeal) (hPre_act_finite := hPre_act_finite)
    ∧ quiescent_ActBwdRefIdeal (hActBwdRefIdeal := hActBwdRefIdeal)
    ∧ quiescent_ActBwdRefIdeal_pre_act_finite (hActBwdRefIdeal := hActBwdRefIdeal) (hPre_act_finite := hPre_act_finite)
    ∧ quiescent_ConvBwd (hConvBwd := hConvBwd)
    ∧ quiescent_ConvBwdIdeal (hConvBwdIdeal := hConvBwdIdeal)
    ∧ quiescent_ConvBwdIdeal_pre_conv_finite (hConvBwdIdeal := hConvBwdIdeal) (hPre_conv_finite := hPre_conv_finite)
    ∧ quiescent_ConvBwdRefIdeal (hConvBwdRefIdeal := hConvBwdRefIdeal)
    ∧ quiescent_ConvBwdRefIdeal_pre_conv_finite (hConvBwdRefIdeal := hConvBwdRefIdeal) (hPre_conv_finite := hPre_conv_finite)
    ∧ quiescent_SbBwd (hSbBwd := hSbBwd)
    ∧ quiescent_SbBwdIdeal (hSbBwdIdeal := hSbBwdIdeal)
    ∧ quiescent_SbBwdIdeal_pre_sb_finite (hSbBwdIdeal := hSbBwdIdeal) (hPre_sb_finite := hPre_sb_finite)
    ∧ quiescent_SbBwdRefIdeal (hSbBwdRefIdeal := hSbBwdRefIdeal)
    ∧ quiescent_SbBwdRefIdeal_pre_sb_finite (hSbBwdRefIdeal := hSbBwdRefIdeal) (hPre_sb_finite := hPre_sb_finite)
    ∧ quiescent_FfnLnBwd (hFfnLnBwd := hFfnLnBwd)
    ∧ quiescent_FfnLnBwdIdeal (hFfnLnBwdIdeal := hFfnLnBwdIdeal)
    ∧ quiescent_FfnLnBwdRefIdeal (hFfnLnBwdRefIdeal := hFfnLnBwdRefIdeal)
    ∧ quiescent_MixLnBwd (hMixLnBwd := hMixLnBwd)
    ∧ quiescent_MixLnBwdIdeal (hMixLnBwdIdeal := hMixLnBwdIdeal)
    ∧ quiescent_MixLnBwdRefIdeal (hMixLnBwdRefIdeal := hMixLnBwdRefIdeal)
    ∧ quiescent_PleHead (hPleHead := hPleHead)
    ∧ quiescent_PleHeadIdeal (hPleHeadIdeal := hPleHeadIdeal)
    ∧ quiescent_PleHeadRefIdeal (hPleHeadRefIdeal := hPleHeadRefIdeal)
    ∧ quiescent_GdnFwdCall (hGdnFwdCall := hGdnFwdCall)
    ∧ quiescent_GdnFwdCallIdeal (hGdnFwdCallIdeal := hGdnFwdCallIdeal)
    ∧ quiescent_GdnBwdCall (hGdnBwdCall := hGdnBwdCall)
    ∧ quiescent_GdnBwdCallIdeal (hGdnBwdCallIdeal := hGdnBwdCallIdeal)
    ∧ quiescent_SbFwd (hSbFwd := hSbFwd)
    ∧ quiescent_SbFwdIdeal (hSbFwdIdeal := hSbFwdIdeal)
    ∧ quiescent_SbFwdIdeal_pre_sb_alive (hSbFwdIdeal := hSbFwdIdeal) (hPre_sb_alive := hPre_sb_alive)
    ∧ quiescent_SbFwdRefIdeal (hSbFwdRefIdeal := hSbFwdRefIdeal)
    ∧ quiescent_SbFwdRefIdeal_pre_sb_alive (hSbFwdRefIdeal := hSbFwdRefIdeal) (hPre_sb_alive := hPre_sb_alive)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_FfnLnFwd (hFfnLnFwd := hFfnLnFwd)
    ∧ quiescent_FfnLnFwdIdeal (hFfnLnFwdIdeal := hFfnLnFwdIdeal)
    ∧ quiescent_FfnLnFwdRefIdeal (hFfnLnFwdRefIdeal := hFfnLnFwdRefIdeal)
    ∧ quiescent_MixLnFwd (hMixLnFwd := hMixLnFwd)
    ∧ quiescent_MixLnFwdIdeal (hMixLnFwdIdeal := hMixLnFwdIdeal)
    ∧ quiescent_MixLnFwdRefIdeal (hMixLnFwdRefIdeal := hMixLnFwdRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_MixGates (hMixGates := hMixGates)
    ∧ quiescent_MixGatesIdeal (hMixGatesIdeal := hMixGatesIdeal)
    ∧ quiescent_MixGatesRefIdeal (hMixGatesRefIdeal := hMixGatesRefIdeal)
    ∧ quiescent_MixInBwd (hMixInBwd := hMixInBwd)
    ∧ quiescent_MixInBwdIdeal (hMixInBwdIdeal := hMixInBwdIdeal)
    ∧ quiescent_MixInBwdRefIdeal (hMixInBwdRefIdeal := hMixInBwdRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDwOut (hFfnDwOut := hFfnDwOut)
    ∧ quiescent_FfnDwOutIdeal (hFfnDwOutIdeal := hFfnDwOutIdeal)
    ∧ quiescent_FfnDwOutRefIdeal (hFfnDwOutRefIdeal := hFfnDwOutRefIdeal)
    ∧ quiescent_FfnDwIn (hFfnDwIn := hFfnDwIn)
    ∧ quiescent_FfnDwInIdeal (hFfnDwInIdeal := hFfnDwInIdeal)
    ∧ quiescent_FfnDwInRefIdeal (hFfnDwInRefIdeal := hFfnDwInRefIdeal)
    ∧ quiescent_FfnInBwd (hFfnInBwd := hFfnInBwd)
    ∧ quiescent_FfnInBwdIdeal (hFfnInBwdIdeal := hFfnInBwdIdeal)
    ∧ quiescent_FfnInBwdRefIdeal (hFfnInBwdRefIdeal := hFfnInBwdRefIdeal)
    ∧ quiescent_PairAdd (hPairAdd := hPairAdd) (hPre_core_index := hPre_core_index)
    ∧ quiescent_PairAddIdeal (hPairAddIdeal := hPairAddIdeal) (hPre_core_index := hPre_core_index)
    ∧ quiescent_PairAddRefIdeal (hPairAddRefIdeal := hPairAddRefIdeal)
    ∧ quiescent_PairAddRefIdeal_pre_core_index (hPairAddRefIdeal := hPairAddRefIdeal) (hPre_core_index := hPre_core_index)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_ActBwd_ActBwdIdeal
    ∧ algebraic_ActBwdIdeal_ActBwdRefIdeal_pre_act_finite (hActBwdIdeal := hActBwdIdeal) (hActBwdRefIdeal := hActBwdRefIdeal) (hPre_act_finite := hPre_act_finite)
    ∧ preserves_ConvBwd_ConvBwdIdeal
    ∧ algebraic_ConvBwdIdeal_ConvBwdRefIdeal_pre_conv_finite (hConvBwdIdeal := hConvBwdIdeal) (hConvBwdRefIdeal := hConvBwdRefIdeal) (hPre_conv_finite := hPre_conv_finite)
    ∧ preserves_SbBwd_SbBwdIdeal
    ∧ algebraic_SbBwdIdeal_SbBwdRefIdeal_pre_sb_finite (hSbBwdIdeal := hSbBwdIdeal) (hSbBwdRefIdeal := hSbBwdRefIdeal) (hPre_sb_finite := hPre_sb_finite)
    ∧ preserves_FfnLnBwd_FfnLnBwdIdeal
    ∧ algebraic_FfnLnBwdIdeal_FfnLnBwdRefIdeal (hFfnLnBwdIdeal := hFfnLnBwdIdeal) (hFfnLnBwdRefIdeal := hFfnLnBwdRefIdeal)
    ∧ preserves_MixLnBwd_MixLnBwdIdeal
    ∧ algebraic_MixLnBwdIdeal_MixLnBwdRefIdeal (hMixLnBwdIdeal := hMixLnBwdIdeal) (hMixLnBwdRefIdeal := hMixLnBwdRefIdeal)
    ∧ preserves_PleHead_PleHeadIdeal
    ∧ algebraic_PleHeadIdeal_PleHeadRefIdeal (hPleHeadIdeal := hPleHeadIdeal) (hPleHeadRefIdeal := hPleHeadRefIdeal)
    ∧ preserves_GdnFwdCall_GdnFwdCallIdeal
    ∧ preserves_GdnBwdCall_GdnBwdCallIdeal
    ∧ preserves_SbFwd_SbFwdIdeal
    ∧ algebraic_SbFwdIdeal_SbFwdRefIdeal_pre_sb_alive (hSbFwdIdeal := hSbFwdIdeal) (hSbFwdRefIdeal := hSbFwdRefIdeal) (hPre_sb_alive := hPre_sb_alive)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_FfnLnFwd_FfnLnFwdIdeal
    ∧ algebraic_FfnLnFwdIdeal_FfnLnFwdRefIdeal (hFfnLnFwdIdeal := hFfnLnFwdIdeal) (hFfnLnFwdRefIdeal := hFfnLnFwdRefIdeal)
    ∧ preserves_MixLnFwd_MixLnFwdIdeal
    ∧ algebraic_MixLnFwdIdeal_MixLnFwdRefIdeal (hMixLnFwdIdeal := hMixLnFwdIdeal) (hMixLnFwdRefIdeal := hMixLnFwdRefIdeal)
    ∧ preserves_FfnUp_FfnUpIdeal
    ∧ algebraic_FfnUpIdeal_FfnUpRefIdeal (hFfnUpIdeal := hFfnUpIdeal) (hFfnUpRefIdeal := hFfnUpRefIdeal)
    ∧ preserves_AdamW_AdamWIdeal
    ∧ algebraic_AdamWIdeal_AdamWRefIdeal (hAdamWIdeal := hAdamWIdeal) (hAdamWRefIdeal := hAdamWRefIdeal)
    ∧ preserves_MixGates_MixGatesIdeal
    ∧ algebraic_MixGatesIdeal_MixGatesRefIdeal (hMixGatesIdeal := hMixGatesIdeal) (hMixGatesRefIdeal := hMixGatesRefIdeal)
    ∧ preserves_MixInBwd_MixInBwdIdeal
    ∧ algebraic_MixInBwdIdeal_MixInBwdRefIdeal (hMixInBwdIdeal := hMixInBwdIdeal) (hMixInBwdRefIdeal := hMixInBwdRefIdeal)
    ∧ preserves_MixDw_MixDwIdeal
    ∧ algebraic_MixDwIdeal_MixDwRefIdeal (hMixDwIdeal := hMixDwIdeal) (hMixDwRefIdeal := hMixDwRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDwOut_FfnDwOutIdeal
    ∧ algebraic_FfnDwOutIdeal_FfnDwOutRefIdeal (hFfnDwOutIdeal := hFfnDwOutIdeal) (hFfnDwOutRefIdeal := hFfnDwOutRefIdeal)
    ∧ preserves_FfnDwIn_FfnDwInIdeal
    ∧ algebraic_FfnDwInIdeal_FfnDwInRefIdeal (hFfnDwInIdeal := hFfnDwInIdeal) (hFfnDwInRefIdeal := hFfnDwInRefIdeal)
    ∧ preserves_FfnInBwd_FfnInBwdIdeal
    ∧ algebraic_FfnInBwdIdeal_FfnInBwdRefIdeal (hFfnInBwdIdeal := hFfnInBwdIdeal) (hFfnInBwdRefIdeal := hFfnInBwdRefIdeal)
    ∧ preserves_PairAdd_PairAddIdeal
    ∧ algebraic_PairAddIdeal_PairAddRefIdeal (hPairAddIdeal := hPairAddIdeal) (hPairAddRefIdeal := hPairAddRefIdeal) (hPre_core_index := hPre_core_index)
-- ==== Pre_act_finite.lean ====
abbrev S8192x1024 : Shape := ⟨2, ![8192, 1024]⟩
abbrev S2816x1024 : Shape := ⟨2, ![2816, 1024]⟩
abbrev S8192x5632 : Shape := ⟨2, ![8192, 5632]⟩
abbrev S_ : Shape := ⟨0, ![]⟩
abbrev S8192x2816 : Shape := ⟨2, ![8192, 2816]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  slices_S8192x5632_S8192x2816_0_2816 : S8192x5632.Slices ![0, 2816] S8192x2816
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .f32) (main_arg2 : FVec F S8192x5632 .f32) : IVec S8192x1024 1 × IVec S2816x1024 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x2816 .f32 := (extractStridedSlice S8192x2816 ![0, 2816] · slices_S8192x5632_S8192x2816_0_2816) main_arg2
  let main_v7 : FVec F S8192x2816 .f32 := Host.absf main_v6
  let main_cst_1 : FVec F S_ .f32 := constant S_ .f32 0x7F800000#32
  let main_v8 : FVec F S8192x2816 .f32 := broadcastInDim S8192x2816 ![] bcast_S_S8192x2816 main_cst_1
  let main_v9 : IVec S8192x2816 1 := cmpf .olt main_v7 main_v8
  (main_v2, main_v5, main_v9)
-- ==== Pre_conv_finite.lean ====
abbrev S8192x2048 : Shape := ⟨2, ![8192, 2048]⟩
abbrev S4x1536 : Shape := ⟨2, ![4, 1536]⟩
abbrev S8192x1536 : Shape := ⟨2, ![8192, 1536]⟩
abbrev S_ : Shape := ⟨0, ![]⟩

class Facts : Prop where
  bcast_S_S8192x1536 : S_.BroadcastsInDim S8192x1536 (![] : Fin 0 → Fin S8192x1536.rank)

variable [Facts]

def fn {F : FTy → Type} [FloatOps F] (main_arg0 : FVec F S8192x2048 .f32) (main_arg1 : FVec F S4x1536 .f32) (main_arg2 : FVec F S8192x1536 .f32) : IVec S8192x1536 1 :=
  let main_v0 : FVec F S8192x1536 .f32 := Host.absf main_arg2
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  main_v2
-- ==== Pre_core_index.lean ====
abbrev S1 : Shape := ⟨1, ![1]⟩
abbrev S8x1024x704 : Shape := ⟨3, ![8, 1024, 704]⟩
abbrev S4x1024x704 : Shape := ⟨3, ![4, 1024, 704]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x1024x704 .f32) (main_arg2 : FVec F S4x1024x704 .f32) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_sb_alive.lean ====
abbrev S8192x1536 : Shape := ⟨2, ![8192, 1536]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x7936 : Shape := ⟨3, ![8, 8192, 7936]⟩
abbrev S8x8192 : Shape := ⟨2, ![8, 8192]⟩
abbrev S4x2x16x512 : Shape := ⟨4, ![4, 2, 16, 512]⟩
abbrev S4x16 : Shape := ⟨2, ![4, 16]⟩

class Facts : Prop where
  slices_S8192x1536_S8192x512_0_0 : S8192x1536.Slices ![0, 0] S8192x512
  shapeCasts_S8192x512_S8192x8x64 : S8192x512.ShapeCasts S8192x8x64
  slices_S8192x1536_S8192x512_0_512 : S8192x1536.Slices ![0, 512] S8192x512
  bcast_S_S8x8192x8192 : S_.BroadcastsInDim S8x8192x8192 (![] : Fin 0 → Fin S8x8192x8192.rank)
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S8192x8192_S8x8192x8192_1_2 : S8192x8192.BroadcastsInDim S8x8192x8192 (![1, 2] : Fin 2 → Fin S8x8192x8192.rank)
  slices_S8x8192x8192_S8x8192x7936_0_0_256 : S8x8192x8192.Slices ![0, 0, 256] S8x8192x7936
  reducesTo_S8x8192x7936_S8x8192_d2 : S8x8192x7936.ReducesTo [2] S8x8192
  h_S_ : 0 < S_.numel
  shapeCasts_S8x8192_S4x2x16x512 : S8x8192.ShapeCasts S4x2x16x512
  bcast_S_S8192x1536 : S_.BroadcastsInDim S8192x1536 (![] : Fin 0 → Fin S8192x1536.rank)
  reducesTo_S4x2x16x512_S4x16_d1_3 : S4x2x16x512.ReducesTo [1, 3] S4x16
  bcast_S_S4x16 : S_.BroadcastsInDim S4x16 (![] : Fin 0 → Fin S4x16.rank)
  dot_S8192x8x64_S8192x8x64_S8x8192x8192_2_2_0_0_1_1_wf : DotDims.WF S8192x8x64 S8192x8x64 S8x8192x8192 [2] [2] [0] [0] [1] [1]

variable [Facts]

def dot_S8192x8x64_S8192x8x64_S8x8192x8192_2_2_0_0_1_1 : DotDims S8192x8x64 S8192x8x64 S8x8192x8192 where
  lhsContracting := [2]
  rhsContracting := [2]
  lhsNonContracting := [0]
  rhsNonContracting := [0]
  lhsBatch := [1]
  rhsBatch := [1]
  wf := dot_S8192x8x64_S8192x8x64_S8x8192x8192_2_2_0_0_1_1_wf
def fn_softplus {F : FTy → Type} [FloatOps F] (arg0 : FVec F S8x8192x8192 .f32) : FVec F S8x8192x8192 .f32 :=
  let cst : FVec F S_ .f32 := constant S_ .f32 0x00000000#32
  let v0 : FVec F S8x8192x8192 .f32 := broadcastInDim S8x8192x8192 ![] bcast_S_S8x8192x8192 cst
  let v1 : FVec F S8x8192x8192 .f32 := maximumf arg0 v0
  let v2 : FVec F S8x8192x8192 .f32 := broadcastInDim S8x8192x8192 ![] bcast_S_S8x8192x8192 cst
  let v3 : FVec F S8x8192x8192 .f32 := subf arg0 v2
  let v4 : IVec S8x8192x8192 1 := cmpf .une v3 v3
  let v5 : FVec F S8x8192x8192 .f32 := broadcastInDim S8x8192x8192 ![] bcast_S_S8x8192x8192 cst
  let v6 : FVec F S8x8192x8192 .f32 := addf arg0 v5
  let v7 : FVec F S8x8192x8192 .f32 := Host.absf v3
  let v8 : FVec F S8x8192x8192 .f32 := Host.negf v7
  let v9 : FVec F S8x8192x8192 .f32 := Host.exp v8
  let v10 : FVec F S8x8192x8192 .f32 := Host.log1p v9
  let v11 : FVec F S8x8192x8192 .f32 := addf v1 v10
  let v12 : FVec F S8x8192x8192 .f32 := select v4 v6 v11
  v12

def fn_where {F : FTy → Type} [FloatOps F] (arg0 : IVec S8192x8192 1) (arg1 : FVec F S8x8192x8192 .f32) (arg2 : FVec F S_ .f32) : FVec F S8x8192x8192 .f32 :=
  let v0 : FVec F S_ .f32 := id arg2
  let v1 : IVec S8x8192x8192 1 := broadcastInDim S8x8192x8192 ![1, 2] bcast_S8192x8192_S8x8192x8192_1_2 arg0
  let v2 : FVec F S8x8192x8192 .f32 := broadcastInDim S8x8192x8192 ![] bcast_S_S8x8192x8192 v0
  let v3 : FVec F S8x8192x8192 .f32 := select v1 arg1 v2
  v3

def fn_part1 {F : FTy → Type} [FloatOps F] (main_v19 : FVec F S4x2x16x512 .f32) (main_v20 : FVec F S8192x1536 .f32) : IVec S8192x1536 1 × IVec S4x16 1 :=
  let main_cst_2 : FVec F S_ .f32 := constant S_ .f32 0x7F800000#32
  let main_v21 : FVec F S8192x1536 .f32 := broadcastInDim S8192x1536 ![] bcast_S_S8192x1536 main_cst_2
  let main_v22 : IVec S8192x1536 1 := cmpf .olt main_v20 main_v21
  let main_cst_3 : FVec F S_ .f32 := constant S_ .f32 0xFF800000#32
  let main_v23 : FVec F S4x16 .f32 := (fun x v => Host.reduce FloatOps.maximumf x v reducesTo_S4x2x16x512_S4x16_d1_3 h_S_) main_v19 main_cst_3
  let main_cst_4 : FVec F S_ .f32 := constant S_ .f32 0xC2DC0000#32
  let main_v24 : FVec F S4x16 .f32 := broadcastInDim S4x16 ![] bcast_S_S4x16 main_cst_4
  let main_v25 : IVec S4x16 1 := cmpf .ogt main_v23 main_v24
  (main_v22, main_v25)

def fn {F : FTy → Type} [FloatOps F] (main_arg0 : FVec F S8192x1536 .f32) : IVec S8192x1536 1 × IVec S4x16 1 :=
  let main_v0 : FVec F S8192x512 .f32 := (extractStridedSlice S8192x512 ![0, 0] · slices_S8192x1536_S8192x512_0_0) main_arg0
  let main_v1 : FVec F S8192x8x64 .f32 := shapeCast S8192x8x64 main_v0 shapeCasts_S8192x512_S8192x8x64
  let main_v2 : FVec F S8192x512 .f32 := (extractStridedSlice S8192x512 ![0, 512] · slices_S8192x1536_S8192x512_0_512) main_arg0
  let main_v3 : FVec F S8192x8x64 .f32 := shapeCast S8192x8x64 main_v2 shapeCasts_S8192x512_S8192x8x64
  let main_v4 : FVec F S8x8192x8192 .f32 := (fun l r => Host.dotGeneral dot_S8192x8x64_S8192x8x64_S8x8192x8192_2_2_0_0_1_1 none l r) main_v1 main_v3
  let main_cst : FVec F S_ .f32 := constant S_ .f32 0x3E000000#32
  let main_v5 : FVec F S8x8192x8192 .f32 := broadcastInDim S8x8192x8192 ![] bcast_S_S8x8192x8192 main_cst
  let main_v6 : FVec F S8x8192x8192 .f32 := mulf main_v4 main_v5
  let main_v7 : IVec S8192 32 := iotaInDim S8192 32 0
  let main_v8 : IVec S1x8192 32 := broadcastInDim S1x8192 ![1] bcast_S8192_S1x8192_1 main_v7
  let main_v9 : IVec S8192 32 := iotaInDim S8192 32 0
  let main_v10 : IVec S8192x1 32 := broadcastInDim S8192x1 ![0] bcast_S8192_S8192x1_0 main_v9
  let main_v11 : IVec S8192x8192 32 := broadcastInDim S8192x8192 ![0, 1] bcast_S1x8192_S8192x8192_0_1 main_v8
  let main_v12 : IVec S8192x8192 32 := broadcastInDim S8192x8192 ![0, 1] bcast_S8192x1_S8192x8192_0_1 main_v10
  let main_v13 : IVec S8192x8192 1 := cmpi .slt main_v11 main_v12
  let main_v14 : FVec F S8x8192x8192 .f32 := fn_softplus (F := F) main_v6
  let main_v15 : FVec F S8x8192x8192 .f32 := Host.negf main_v14
  let main_cst_0 : FVec F S_ .f32 := constant S_ .f32 0x00000000#32
  let main_v16 : FVec F S8x8192x8192 .f32 := fn_where (F := F) main_v13 main_v15 main_cst_0
  let main_v17 : FVec F S8x8192x7936 .f32 := (extractStridedSlice S8x8192x7936 ![0, 0, 256] · slices_S8x8192x8192_S8x8192x7936_0_0_256) main_v16
  let main_cst_1 : FVec F S_ .f32 := constant S_ .f32 0x00000000#32
  let main_v18 : FVec F S8x8192 .f32 := (fun x v => Host.reduceAdd x v reducesTo_S8x8192x7936_S8x8192_d2 h_S_) main_v17 main_cst_1
  let main_v19 : FVec F S4x2x16x512 .f32 := shapeCast S4x2x16x512 main_v18 shapeCasts_S8x8192_S4x2x16x512
  let main_v20 : FVec F S8192x1536 .f32 := Host.absf main_arg0
  fn_part1 (F := F) main_v19 main_v20
-- ==== Pre_sb_finite.lean ====
abbrev S8192x1536 : Shape := ⟨2, ![8192, 1536]⟩
abbrev S8192x512 : Shape := ⟨2, ![8192, 512]⟩
abbrev S_ : Shape := ⟨0, ![]⟩

class Facts : Prop where
  bcast_S_S8192x1536 : S_.BroadcastsInDim S8192x1536 (![] : Fin 0 → Fin S8192x1536.rank)
  bcast_S_S8192x512 : S_.BroadcastsInDim S8192x512 (![] : Fin 0 → Fin S8192x512.rank)

variable [Facts]

def fn {F : FTy → Type} [FloatOps F] (main_arg0 : FVec F S8192x1536 .f32) (main_arg1 : FVec F S8192x512 .f32) : IVec S8192x1536 1 × IVec S8192x512 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  (main_v2, main_v5)
-- ==== MergeBwd.lean ====
abbrev S8192x1024 : Shape := ⟨2, ![8192, 1024]⟩
abbrev S8192x2048 : Shape := ⟨2, ![8192, 2048]⟩
abbrev S1x2048 : Shape := ⟨2, ![1, 2048]⟩
abbrev S1x1024 : Shape := ⟨2, ![1, 1024]⟩
abbrev S256x1024 : Shape := ⟨2, ![256, 1024]⟩
abbrev S1024 : Shape := ⟨1, ![1024]⟩

abbrev nBuf : Space → Nat
  | .hbm => 13
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S1x2048, .f32⟩
  | .hbm, ⟨5, _⟩ => ⟨S1x1024, .f32⟩
  | .hbm, ⟨6, _⟩ => ⟨S1x1024, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S1x1024, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_30 : BitVec 32 := 0#32
  let v53 : BitVec 1 := Scalar.cmpi .ne v52 c0_i32_30
  v53

def k0_cond2 (i : grid0.Coords) : BitVec 1 :=
  let arg0 : BitVec 32 := BitVec.ofNat 32 (i 0).val
  let c0_i32_31 : BitVec 32 := 0#32
  let v54 : BitVec 1 := Scalar.cmpi .sgt arg0 c0_i32_31
  let v55 : BitVec 32 := Scalar.extui v54
  let c0_i32_32 : BitVec 32 := 0#32
  let v56 : BitVec 1 := Scalar.cmpi .ne v55 c0_i32_32
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MergeBwdRefIdeal.lean ====
abbrev S8192x1024 : Shape := ⟨2, ![8192, 1024]⟩
abbrev S8192x2048 : Shape := ⟨2, ![8192, 2048]⟩
abbrev S1x2048 : Shape := ⟨2, ![1, 2048]⟩
abbrev S2048 : Shape := ⟨1, ![2048]⟩
abbrev S1024 : Shape := ⟨1, ![1024]⟩
abbrev S1x1024 : Shape := ⟨2, ![1, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S1x2048, .f32⟩
  | .hbm, ⟨5, _⟩ => ⟨S8192x1024, .f32⟩
  | .hbm, ⟨6, _⟩ => ⟨S8192x1024, .f32⟩
  | .hbm, ⟨7, _⟩ => ⟨S2048, .f32⟩
  | .hbm, ⟨8, _⟩ => ⟨S1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S_, .f32⟩
  | .hbm, ⟨56, _⟩ => ⟨S2048, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S8192x1024, .bf16⟩
  | .hbm, ⟨67, _⟩ => ⟨S8192x1024, .bf16⟩
  | .hbm, ⟨68, _⟩ => ⟨S8192x1024, .bf16⟩
  | .hbm, ⟨69, _⟩ => ⟨S8192x1024, .bf16⟩
  | .hbm, ⟨70, _⟩ => ⟨S1024, .f32⟩
  | .hbm, ⟨71, _⟩ => ⟨S1x1024, .f32⟩
  | .hbm, ⟨72, _⟩ => ⟨S1024, .f32⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== ActBwd.lean ====
abbrev S8192x1024 : Shape := ⟨2, ![8192, 1024]⟩
abbrev S2816x1024 : Shape := ⟨2, ![2816, 1024]⟩
abbrev S8192x5632 : Shape := ⟨2, ![8192, 5632]⟩
abbrev S4x704x1024 : Shape := ⟨3, ![4, 704, 1024]⟩
abbrev S8192x8x704 : Shape := ⟨3, ![8192, 8, 704]⟩
abbrev S8x8192x704 : Shape := ⟨3, ![8, 8192, 704]⟩
abbrev S2x4x8192x704 : Shape := ⟨4, ![2, 4, 8192, 704]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 11
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x5632, .f32⟩
  | .hbm, ⟨3, _⟩ => ⟨S2816x1024, .bf16⟩
  | .hbm, ⟨4, _⟩ => ⟨S4x704x1024, .bf16⟩
  | .hbm, ⟨5, _⟩ => ⟨S8192x5632, .bf16⟩
  | .hbm, ⟨6, _⟩ => ⟨S8192x8x704, .bf16⟩
  | .hbm, ⟨7, _⟩ => ⟨S8x8192x704, .bf16⟩
  | .hbm, ⟨8, _⟩ => ⟨S2x4x8192x704, .bf16⟩
  | .hbm, ⟨9, _⟩ => ⟨S8192x1024, .bf16⟩
  | .hbm, ⟨10, _⟩ => ⟨S2x4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x1024x704, .bf16⟩
  | .local _ .vmem, ⟨7, _⟩ => ⟨S2x1x1024x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ActBwdRefIdeal.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩
abbrev S8192x2x4x704 : Shape := ⟨4, ![8192, 2, 4, 704]⟩
abbrev S2x4x8192x704 : Shape := ⟨4, ![2, 4, 8192, 704]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x5632, .f32⟩
  | .hbm, ⟨28, _⟩ => ⟨S8192x2x4x704, .f32⟩
  | .hbm, ⟨29, _⟩ => ⟨S2x4x8192x704, .f32⟩
  | .hbm, ⟨30, _⟩ => ⟨S2x4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== ConvBwd.lean ====
abbrev S8192x2048 : Shape := ⟨2, ![8192, 2048]⟩
abbrev S4x1536 : Shape := ⟨2, ![4, 1536]⟩
abbrev S8192x1536 : Shape := ⟨2, ![8192, 1536]⟩
abbrev S8x1536 : Shape := ⟨2, ![8, 1536]⟩
abbrev S256x1536 : Shape := ⟨2, ![256, 1536]⟩
abbrev S272x1536 : Shape := ⟨2, ![272, 1536]⟩
abbrev S1x1536 : Shape := ⟨2, ![1, 1536]⟩
abbrev S272x1 : Shape := ⟨2, ![272, 1]⟩
abbrev S1536 : Shape := ⟨1, ![1536]⟩

abbrev nBuf : Space → Nat
  | .hbm => 5
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S4x1536, .f32⟩
  | .hbm, ⟨2, _⟩ => ⟨S8192x1536, .f32⟩
  | .hbm, ⟨3, _⟩ => ⟨S8192x1536, .bf16⟩
  | .hbm, ⟨4, _⟩ => ⟨S8x1536, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S4x1536, .f32⟩
  | .local _ .vmem, ⟨7, _⟩ => ⟨S256x1536, .f32⟩
  | .local _ .vmem, ⟨8, _⟩ => ⟨S256x1536, .f32⟩
  | .local _ .vmem, ⟨9, _⟩ => ⟨S8x1536, .f32⟩
  | .local _ .vmem, ⟨10, _⟩ => ⟨S8x1536, .f32⟩
  | .local _ .vmem, ⟨11, _⟩ => ⟨S256x1536, .bf16⟩
  | .local _ .vmem, ⟨12, _⟩ => ⟨S256x1536, .bf16⟩
  | .local _ .vmem, ⟨13, _⟩ => ⟨S8x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_43 : BitVec 32 := 0#32
  let v100 : BitVec 1 := Scalar.cmpi .eq arg0 c0_i32_43
  let v101 : BitVec 32 := Scalar.extui v100
  let c0_i32_44 : BitVec 32 := 0#32
  let v102 : BitVec 1 := Scalar.cmpi .ne v101 c0_i32_44
  v102

def k0_cond2 (i : grid0.Coords) : BitVec 1 :=
  let arg0 : BitVec 32 := BitVec.ofNat 32 (i 0).val
  let c0_i32_45 : BitVec 32 := 0#32
  let v103 : BitVec 1 := Scalar.cmpi .sgt arg0 c0_i32_45
  let v104 : BitVec 32 := Scalar.extui v103
  let c0_i32_46 : BitVec 32 := 0#32
  let v105 : BitVec 1 := Scalar.cmpi .ne v104 c0_i32_46
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvBwdRefIdeal.lean ====
abbrev S8192x2048 : Shape := ⟨2, ![8192, 2048]⟩
abbrev S4x1536 : Shape := ⟨2, ![4, 1536]⟩
abbrev S8192x1536 : Shape := ⟨2, ![8192, 1536]⟩
abbrev S_ : Shape := ⟨0, ![]⟩
abbrev S3x1536 : Shape := ⟨2, ![3, 1536]⟩
abbrev S8195x1536 : Shape := ⟨2, ![8195, 1536]⟩
abbrev S1x1536 : Shape := ⟨2, ![1, 1536]⟩
abbrev S1536 : Shape := ⟨1, ![1536]⟩
abbrev S8x1536 : Shape := ⟨2, ![8, 1536]⟩

abbrev nBuf : Space → Nat
  | .hbm => 120
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1536, .f32⟩
  | .hbm, ⟨2, _⟩ => ⟨S8192x1536, .f32⟩
  | .hbm, ⟨3, _⟩ => ⟨S8192x1536, .f32⟩
  | .hbm, ⟨4, _⟩ => ⟨S_, .f32⟩
  | .hbm, ⟨5, _⟩ => ⟨S3x1536, .f32⟩
  | .hbm, ⟨6, _⟩ => ⟨S8195x1536, .f32⟩
  | .hbm, ⟨7, _⟩ => ⟨S_, .f32⟩
  | .hbm, ⟨8, _⟩ => ⟨S3x1536, .f32⟩
  | .hbm, ⟨9, _⟩ => ⟨S1x1536, .f32⟩
  | .hbm, ⟨10, _⟩ => ⟨S1536, .f32⟩
  | .hbm, ⟨11, _⟩ => ⟨S8192x1536, .f32⟩
  | .hbm, ⟨12, _⟩ => ⟨S1x1536, .f32⟩
  | .hbm, ⟨13, _⟩ => ⟨S8192x1536, .f32⟩
  | .hbm, ⟨14, _⟩ => ⟨S8192x1536, .f32⟩
  | .hbm, ⟨15, _⟩ => ⟨S_, .f32⟩
  | .hbm, ⟨16, _⟩ => ⟨S8192x1536, .f32⟩
  | .hbm, ⟨17, _⟩ => ⟨S8192x1536, .f32⟩
  | .hbm, ⟨18, _⟩ => ⟨S1x1536, .f32⟩
  | .hbm, ⟨19, _⟩ => ⟨S1536, .f32⟩
  | .hbm, ⟨20, _⟩ => ⟨S8192x1536, .f32⟩
  | .hbm, ⟨21, _⟩ => ⟨S1x1536, .f32⟩
  | .hbm, ⟨22, _⟩ => ⟨S8192x1536, .f32⟩
  | .hbm, ⟨23, _⟩ => ⟨S8192x1536, .f32⟩
  | .hbm, ⟨24, _⟩ => ⟨S8192x1536, .f32⟩
  | .hbm, ⟨25, _⟩ => ⟨S1x1536, .f32⟩
  | .hbm, ⟨26, _⟩ => ⟨S1536, .f32⟩
  | .hbm, ⟨27, _⟩ => ⟨S8192x1536, .f32⟩
  | .hbm, ⟨28, _⟩ => ⟨S1x1536, .f32⟩
  | .hbm, ⟨29, _⟩ => ⟨S8192x1536, .f32⟩
  | .hbm, ⟨30, _⟩ => ⟨S8192x1536, .f32⟩
  | .hbm, ⟨31, _⟩ => ⟨S8192x1536, .f32⟩
  | .hbm, ⟨32, _⟩ => ⟨S1x1536, .f32⟩
  | .hbm, ⟨33, _⟩ => ⟨S1536, .f32⟩
  | .hbm, ⟨34, _⟩ => ⟨S8192x1536, .f32⟩
  | .hbm, ⟨35, _⟩ => ⟨S1x1536, .f32⟩
  | .hbm, ⟨36, _⟩ => ⟨S8192x1536, .f32⟩
  | .hbm, ⟨37, _⟩ => ⟨S8192x1536, .f32⟩
  | .hbm, ⟨38, _⟩ => ⟨S8192x1536, .f32⟩
  | .hbm, ⟨39, _⟩ => ⟨S8192x1536, .f32⟩
  | .hbm, ⟨40, _⟩ => ⟨S8192x1536, .f32⟩
  | .hbm, ⟨41, _⟩ => ⟨S_, .f32⟩
  | .hbm, ⟨42, _⟩ => ⟨S8192x1536, .f32⟩
  | .hbm, ⟨43, _⟩ => ⟨S8192x1536, .f32⟩
  | .hbm, ⟨44, _⟩ => ⟨S_, .f32⟩
  | .hbm, ⟨45, _⟩ => ⟨S8192x1536, .f32⟩
  | .hbm, ⟨46, _⟩ => ⟨S8192x1536, .f32⟩
  | .hbm, ⟨47, _⟩ => ⟨S_, .f32⟩
  | .hbm, ⟨48, _⟩ => ⟨S8192x1536, .f32⟩
  | .hbm, ⟨49, _⟩ => ⟨S8192x1536, .f32⟩
  | .hbm, ⟨50, _⟩ => ⟨S8192x1536, .f32⟩
  | .hbm, ⟨51, _⟩ => ⟨S8192x1536, .f32⟩
  | .hbm, ⟨52, _⟩ => ⟨S8192x1536, .f32⟩
  | .hbm, ⟨53, _⟩ => ⟨S8192x1536, .f32⟩
  | .hbm, ⟨54, _⟩ => ⟨S8192x1536, .f32⟩
  | .hbm, ⟨55, _⟩ => ⟨S8192x1536, .f32⟩
  | .hbm, ⟨56, _⟩ => ⟨S8192x1536, .f32⟩
  | .hbm, ⟨57, _⟩ => ⟨S8192x1536, .f32⟩
  | .hbm, ⟨58, _⟩ => ⟨S8192x1536, .f32⟩
  | .hbm, ⟨59, _⟩ => ⟨S_, .f32⟩
  | .hbm, ⟨60, _⟩ => ⟨S1536, .f32⟩
  | .hbm, ⟨61, _⟩ => ⟨S1x1536, .f32⟩
  | .hbm, ⟨62, _⟩ => ⟨S_, .f32⟩
  | .hbm, ⟨63, _⟩ => ⟨S1536, .f32⟩
  | .hbm, ⟨64, _⟩ => ⟨S_, .f32⟩
  | .hbm, ⟨65, _⟩ => ⟨S8195x1536, .f32⟩
  | .hbm, ⟨66, _⟩ => ⟨S1x1536, .f32⟩
  | .hbm, ⟨67, _⟩ => ⟨S_, .f32⟩
  | .hbm, ⟨68, _⟩ => ⟨S4x1536, .f32⟩
  | .hbm, ⟨69, _⟩ => ⟨S8192x1536, .f32⟩
  | .hbm, ⟨70, _⟩ => ⟨S8192x1536, .f32⟩
  | .hbm, ⟨71, _⟩ => ⟨S8192x1536, .f32⟩
  | .hbm, ⟨72, _⟩ => ⟨S_, .f32⟩
  | .hbm, ⟨73, _⟩ => ⟨S1536, .f32⟩
  | .hbm, ⟨74, _⟩ => ⟨S1x1536, .f32⟩
  | .hbm, ⟨75, _⟩ => ⟨S_, .f32⟩
  | .hbm, ⟨76, _⟩ => ⟨S1536, .f32⟩
  | .hbm, ⟨77, _⟩ => ⟨S_, .f32⟩
  | .hbm, ⟨78, _⟩ => ⟨S8195x1536, .f32⟩
  | .hbm, ⟨79, _⟩ => ⟨S8195x1536, .f32⟩
  | .hbm, ⟨80, _⟩ => ⟨S1x1536, .f32⟩
  | .hbm, ⟨81, _⟩ => ⟨S_, .f32⟩
  | .hbm, ⟨82, _⟩ => ⟨S4x1536, .f32⟩
  | .hbm, ⟨83, _⟩ => ⟨S4x1536, .f32⟩
  | .hbm, ⟨84, _⟩ => ⟨S8192x1536, .f32⟩
  | .hbm, ⟨85, _⟩ => ⟨S8192x1536, .f32⟩
  | .hbm, ⟨86, _⟩ => ⟨S8192x1536, .f32⟩
  | .hbm, ⟨87, _⟩ => ⟨S_, .f32⟩
  | .hbm, ⟨88, _⟩ => ⟨S1536, .f32⟩
  | .hbm, ⟨89, _⟩ => ⟨S1x1536, .f32⟩
  | .hbm, ⟨90, _⟩ => ⟨S_, .f32⟩
  | .hbm, ⟨91, _⟩ => ⟨S1536, .f32⟩
  | .hbm, ⟨92, _⟩ => ⟨S_, .f32⟩
  | .hbm, ⟨93, _⟩ => ⟨S8195x1536, .f32⟩
  | .hbm, ⟨94, _⟩ => ⟨S8195x1536, .f32⟩
  | .hbm, ⟨95, _⟩ => ⟨S1x1536, .f32⟩
  | .hbm, ⟨96, _⟩ => ⟨S_, .f32⟩
  | .hbm, ⟨97, _⟩ => ⟨S4x1536, .f32⟩
  | .hbm, ⟨98, _⟩ => ⟨S4x1536, .f32⟩
  | .hbm, ⟨99, _⟩ => ⟨S8192x1536, .f32⟩
  | .hbm, ⟨100, _⟩ => ⟨S8192x1536, .f32⟩
  | .hbm, ⟨101, _⟩ => ⟨S8192x1536, .f32⟩
  | .hbm, ⟨102, _⟩ => ⟨S_, .f32⟩
  | .hbm, ⟨103, _⟩ => ⟨S1536, .f32⟩
  | .hbm, ⟨104, _⟩ => ⟨S1x1536, .f32⟩
  | .hbm, ⟨105, _⟩ => ⟨S_, .f32⟩
  | .hbm, ⟨106, _⟩ => ⟨S1536, .f32⟩
  | .hbm, ⟨107, _⟩ => ⟨S_, .f32⟩
  | .hbm, ⟨108, _⟩ => ⟨S8195x1536, .f32⟩
  | .hbm, ⟨109, _⟩ => ⟨S8195x1536, .f32⟩
  | .hbm, ⟨110, _⟩ => ⟨S1x1536, .f32⟩
  | .hbm, ⟨111, _⟩ => ⟨S_, .f32⟩
  | .hbm, ⟨112, _⟩ => ⟨S4x1536, .f32⟩
  | .hbm, ⟨113, _⟩ => ⟨S4x1536, .f32⟩
  | .hbm, ⟨114, _⟩ => ⟨S3x1536, .f32⟩
  | .hbm, ⟨115, _⟩ => ⟨S8192x1536, .f32⟩
  | .hbm, ⟨116, _⟩ => ⟨S8192x1536, .bf16⟩
  | .hbm, ⟨117, _⟩ => ⟨S_, .i32⟩
  | .hbm, ⟨118, _⟩ => ⟨S_, .f32⟩
  | .hbm, ⟨119, _⟩ => ⟨S8x1536, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v33_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v33_1 : Ref sig .tc := ⟨.hbm, 50, rfl⟩
abbrev main_v33_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c : Ref sig .tc := ⟨.hbm, 117, rfl⟩
abbrev main_call2_v0 : Ref sig .tc := ⟨.hbm, 118, rfl⟩
abbrev main_v80 : Ref sig .tc := ⟨.hbm, 119, rfl⟩

abbrev nD : Nat := 1
abbrev τ : Topo := Topo.v7x

variable {F : FTy → Type} [FloatOps F]
-- ==== SbBwd.lean ====
abbrev S8192x1536 : Shape := ⟨2, ![8192, 1536]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S4x2x8192x1 : Shape := ⟨4, ![4, 2, 8192, 1]⟩
abbrev S16 : Shape := ⟨1, ![16]⟩
abbrev S1x16 : Shape := ⟨2, ![1, 16]⟩
abbrev S4x16 : Shape := ⟨2, ![4, 16]⟩
abbrev S4x1x8192x1 : Shape := ⟨4, ![4, 1, 8192, 1]⟩
abbrev S4x8192x1 : Shape := ⟨3, ![4, 8192, 1]⟩
abbrev S512x128 : Shape := ⟨2, ![512, 128]⟩
abbrev S8192x128 : Shape := ⟨2, ![8192, 128]⟩
abbrev S1x512x1 : Shape := ⟨3, ![1, 512, 1]⟩
abbrev S512x512 : Shape := ⟨2, ![512, 512]⟩
abbrev S512x1 : Shape := ⟨2, ![512, 1]⟩
abbrev S1024x512 : Shape := ⟨2, ![1024, 512]⟩
abbrev S256x128 : Shape := ⟨2, ![256, 128]⟩
abbrev S1x1 : Shape := ⟨2, ![1, 1]⟩
abbrev S512x1024 : Shape := ⟨2, ![512, 1024]⟩
abbrev S512x256 : Shape := ⟨2, ![512, 256]⟩
abbrev S512 : Shape := ⟨1, ![512]⟩

abbrev nBuf : Space → Nat
  | .hbm => 55
  | .vmem => 18
  | .smem => 1
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x512, .f32⟩
  | .hbm, ⟨3, _⟩ => ⟨S8192x8x64, .f32⟩
  | .hbm, ⟨4, _⟩ => ⟨S8192x512, .f32⟩
  | .hbm, ⟨5, _⟩ => ⟨S8192x8x64, .f32⟩
  | .hbm, ⟨6, _⟩ => ⟨S8x8192x8192, .f32⟩
  | .hbm, ⟨7, _⟩ => ⟨S_, .f32⟩
  | .hbm, ⟨8, _⟩ => ⟨S8x8192x8192, .f32⟩
  | .hbm, ⟨9, _⟩ => ⟨S8x8192x8192, .f32⟩
  | .hbm, ⟨10, _⟩ => ⟨S8192, .i32⟩
  | .hbm, ⟨11, _⟩ => ⟨S1x8192, .i32⟩
  | .hbm, ⟨12, _⟩ => ⟨S8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S_, .f32⟩
  | .hbm, ⟨34, _⟩ => ⟨S8x8192x8192, .i1⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S4x2x8192x1, .f32⟩
  | .hbm, ⟨40, _⟩ => ⟨S16, .i32⟩
  | .hbm, ⟨41, _⟩ => ⟨S1x16, .i32⟩
  | .hbm, ⟨42, _⟩ => ⟨S_, .i32⟩
  | .hbm, ⟨43, _⟩ => ⟨S1x16, .i32⟩
  | .hbm, ⟨44, _⟩ => ⟨S1x16, .i32⟩
  | .hbm, ⟨45, _⟩ => ⟨S4x16, .i32⟩
  | .hbm, ⟨46, _⟩ => ⟨S8192x1536, .bf16⟩
  | .hbm, ⟨47, _⟩ => ⟨S4x1x8192x1, .f32⟩
  | .hbm, ⟨48, _⟩ => ⟨S4x8192x1, .f32⟩
  | .hbm, ⟨49, _⟩ => ⟨S4x1x8192x1, .f32⟩
  | .hbm, ⟨50, _⟩ => ⟨S4x8192x1, .f32⟩
  | .hbm, ⟨51, _⟩ => ⟨S8192x512, .bf16⟩
  | .hbm, ⟨52, _⟩ => ⟨S8192x512, .f32⟩
  | .hbm, ⟨53, _⟩ => ⟨S8192x512, .f32⟩
  | .hbm, ⟨54, _⟩ => ⟨S8192x512, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S512x128, .bf16⟩
  | .local _ .vmem, ⟨11, _⟩ => ⟨S512x128, .bf16⟩
  | .local _ .vmem, ⟨12, _⟩ => ⟨S512x128, .f32⟩
  | .local _ .vmem, ⟨13, _⟩ => ⟨S512x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .smem, ⟨0, _⟩ => ⟨S4x16, .i32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_v30_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 16], ![false, false]⟩

def k0_off1 (i : grid0.Coords) : Fin 2 → Nat :=
  let arg0 : BitVec 32 := BitVec.ofNat 32 (i 0).val
  let v153 : Index := Scalar.indexCast arg0
  let arg1 : BitVec 32 := BitVec.ofNat 32 (i 1).val
  let v154 : Index := Scalar.indexCast arg1
  ![v153.toNat, v154.toNat]
@[reducible] def k0_t1_loop (v155 : BitVec 32) : Scf.Loop 32 :=
  let c0_i32_49 : BitVec 32 := 0#32
  let v157 : BitVec 32 := Scalar.subi v155 c0_i32_49
  let c1_i32_50 : BitVec 32 := 1#32
  let v159 : BitVec 32 := Scalar.divsi v157 c1_i32_50
  let v160 : BitVec 32 := Scalar.muli v159 c1_i32_50
  let v161 : BitVec 32 := Scalar.addi c0_i32_49 v160
  let c1_i32_51 : BitVec 32 := 1#32
  ⟨c0_i32_49, v161, c1_i32_51⟩

def k0_mult1 (i : grid0.Coords) (v155 : BitVec 32) (k0_t1 : Fin (k0_t1_loop v155).trips) : BitVec 32 :=
  let arg1 : BitVec 32 := BitVec.ofNat 32 (i 1).val
  let c2_i32_48 : BitVec 32 := 2#32
  let v152 : BitVec 32 := Scalar.muli arg1 c2_i32_48
  let v156 : BitVec 32 := Scalar.subi v152 v155
  let c0_i32_49 : BitVec 32 := 0#32
  let c1_i32_51 : BitVec 32 := 1#32
  let arg12 : BitVec 32 := Scf.iv c0_i32_49 c1_i32_51 k0_t1
  let v169 : BitVec 32 := Scalar.addi v156 arg12
  let c256_i32_60 : BitVec 32 := 256#32
  let v170 : BitVec 32 := Scalar.muli v169 c256_i32_60
  v170
def k0_off2 (i : grid0.Coords) (v155 : BitVec 32) (k0_t1 : Fin (k0_t1_loop v155).trips) : Fin 2 → Nat :=
  let arg1 : BitVec 32 := BitVec.ofNat 32 (i 1).val
  let c2_i32_48 : BitVec 32 := 2#32
  let v152 : BitVec 32 := Scalar.muli arg1 c2_i32_48
  let v156 : BitVec 32 := Scalar.subi v152 v155
  let c0_i32_49 : BitVec 32 := 0#32
  let c1_i32_51 : BitVec 32 := 1#32
  let arg12 : BitVec 32 := Scf.iv c0_i32_49 c1_i32_51 k0_t1
  let v169 : BitVec 32 := Scalar.addi v156 arg12
  let c256_i32_60 : BitVec 32 := 256#32
  let v170 : BitVec 32 := Scalar.muli v169 c256_i32_60
  let v171 : BitVec 32 := v170
  let v172 : Index := Scalar.indexCast v171
  let c0_61 : Index := 0#32
  ![v172.toNat, 0]
@[reducible] def k0_t2_loop (v155 : BitVec 32) : Scf.Loop 32 :=
  let c0_i32_49 : BitVec 32 := 0#32
  let v157 : BitVec 32 := Scalar.subi v155 c0_i32_49
  let c1_i32_50 : BitVec 32 := 1#32
  let v159 : BitVec 32 := Scalar.divsi v157 c1_i32_50
  let v160 : BitVec 32 := Scalar.muli v159 c1_i32_50
  let v161 : BitVec 32 := Scalar.addi c0_i32_49 v160
  let v158 : BitVec 32 := Scalar.addi c0_i32_49 v157
  let c1_i32_52 : BitVec 32 := 1#32
  ⟨v161, v158, c1_i32_52⟩
def k0_mult2 (i : grid0.Coords) (v155 : BitVec 32) (k0_t2 : Fin (k0_t2_loop v155).trips) : BitVec 32 :=
  let arg1 : BitVec 32 := BitVec.ofNat 32 (i 1).val
  let c2_i32_48 : BitVec 32 := 2#32
  let v152 : BitVec 32 := Scalar.muli arg1 c2_i32_48
  let v156 : BitVec 32 := Scalar.subi v152 v155
  let c0_i32_49 : BitVec 32 := 0#32
  let v157 : BitVec 32 := Scalar.subi v155 c0_i32_49
  let c1_i32_50 : BitVec 32 := 1#32
  let v159 : BitVec 32 := Scalar.divsi v157 c1_i32_50
  let v160 : BitVec 32 := Scalar.muli v159 c1_i32_50
  let v161 : BitVec 32 := Scalar.addi c0_i32_49 v160
  let c1_i32_52 : BitVec 32 := 1#32
  let arg12 : BitVec 32 := Scf.iv v161 c1_i32_52 k0_t2
  let v169 : BitVec 32 := Scalar.addi v156 arg12
  let c256_i32_60 : BitVec 32 := 256#32
  let v170 : BitVec 32 := Scalar.muli v169 c256_i32_60
  v170
def k0_off3 (i : grid0.Coords) (v155 : BitVec 32) (k0_t2 : Fin (k0_t2_loop v155).trips) : Fin 2 → Nat :=
  let arg1 : BitVec 32 := BitVec.ofNat 32 (i 1).val
  let c2_i32_48 : BitVec 32 := 2#32
  let v152 : BitVec 32 := Scalar.muli arg1 c2_i32_48
  let v156 : BitVec 32 := Scalar.subi v152 v155
  let c0_i32_49 : BitVec 32 := 0#32
  let v157 : BitVec 32 := Scalar.subi v155 c0_i32_49
  let c1_i32_50 : BitVec 32 := 1#32
  let v159 : BitVec 32 := Scalar.divsi v157 c1_i32_50
  let v160 : BitVec 32 := Scalar.muli v159 c1_i32_50
  let v161 : BitVec 32 := Scalar.addi c0_i32_49 v160
  let c1_i32_52 : BitVec 32 := 1#32
  let arg12 : BitVec 32 := Scf.iv v161 c1_i32_52 k0_t2
  let v169 : BitVec 32 := Scalar.addi v156 arg12
  let c256_i32_60 : BitVec 32 := 256#32
  let v170 : BitVec 32 := Scalar.muli v169 c256_i32_60
  let v171 : BitVec 32 := v170
  let v172 : Index := Scalar.indexCast v171
  let c0_61 : Index := 0#32
  ![v172.toNat, 0]

def k0_chk1 (i : grid0.Coords) (v155 : BitVec 32) : Prop :=
  ((k0_t1_loop v155).OK) ∧
  (∀ k0_t1 : Fin (k0_t1_loop v155).trips, 256 ∣ (k0_mult1 i v155 k0_t1).toNat) ∧
  (∀ k0_t1 : Fin (k0_t1_loop v155).trips, ∀ a, (k0_off2 i v155 k0_t1) a + S256x128.size a ≤ S8192x128.size a) ∧
  ((k0_t2_loop v155).OK) ∧
  (∀ k0_t2 : Fin (k0_t2_loop v155).trips, 256 ∣ (k0_mult2 i v155 k0_t2).toNat) ∧
  (∀ k0_t2 : Fin (k0_t2_loop v155).trips, ∀ a, (k0_off3 i v155 k0_t2) a + S256x128.size a ≤ S8192x128.size a)
theorem k0_t1_ok : ∀ (i : grid0.Coords) (v155 : BitVec 32) (k0_hw1 : k0_chk1 i v155), (k0_t1_loop v155).OK := fun i v155 k0_hw1 => k0_hw1.1
theorem k0_mult1_dvd : ∀ (i : grid0.Coords) (v155 : BitVec 32) (k0_hw1 : k0_chk1 i v155) (k0_t1 : Fin (k0_t1_loop v155).trips), 256 ∣ (k0_mult1 i v155 k0_t1).toNat := fun i v155 k0_hw1 k0_t1 => k0_hw1.2.1 k0_t1
theorem k0_off2_inb : ∀ (i : grid0.Coords) (v155 : BitVec 32) (k0_hw1 : k0_chk1 i v155) (k0_t1 : Fin (k0_t1_loop v155).trips), ∀ a, (k0_off2 i v155 k0_t1) a + S256x128.size a ≤ S8192x128.size a := fun i v155 k0_hw1 k0_t1 => k0_hw1.2.2.1 k0_t1
theorem k0_t2_ok : ∀ (i : grid0.Coords) (v155 : BitVec 32) (k0_hw1 : k0_chk1 i v155), (k0_t2_loop v155).OK := fun i v155 k0_hw1 => k0_hw1.2.2.2.1
theorem k0_mult2_dvd : ∀ (i : grid0.Coords) (v155 : BitVec 32) (k0_hw1 : k0_chk1 i v155) (k0_t2 : Fin (k0_t2_loop v155).trips), 256 ∣ (k0_mult2 i v155 k0_t2).toNat := fun i v155 k0_hw1 k0_t2 => k0_hw1.2.2.2.2.1 k0_t2
theorem k0_off3_inb : ∀ (i : grid0.Coords) (v155 : BitVec 32) (k0_hw1 : k0_chk1 i v155) (k0_t2 : Fin (k0_t2_loop v155).trips), ∀ a, (k0_off3 i v155 k0_t2) a + S256x128.size a ≤ S8192x128.size a := fun i v155 k0_hw1 k0_t2 => k0_hw1.2.2.2.2.2 k0_t2

@[reducible] def k0_t3_loop : Scf.Loop 32 :=
  let c0_i32_53 : BitVec 32 := 0#32
  let c2_i32_54 : BitVec 32 := 2#32
  let v164 : BitVec 32 := Scalar.addi c0_i32_53 c2_i32_54
  let c1_i32_55 : BitVec 32 := 1#32
  ⟨c0_i32_53, v164, c1_i32_55⟩
def k0_mult3 (i : grid0.Coords) (k0_t3 : Fin k0_t3_loop.trips) : BitVec 32 :=
  let arg1 : BitVec 32 := BitVec.ofNat 32 (i 1).val
  let c2_i32_48 : BitVec 32 := 2#32
  let v152 : BitVec 32 := Scalar.muli arg1 c2_i32_48
  let c0_i32_53 : BitVec 32 := 0#32
  let c1_i32_55 : BitVec 32 := 1#32
  let arg12 : BitVec 32 := Scf.iv c0_i32_53 c1_i32_55 k0_t3
  let v169 : BitVec 32 := Scalar.addi v152 arg12
  let c256_i32_60 : BitVec 32 := 256#32
  let v170 : BitVec 32 := Scalar.muli v169 c256_i32_60
  v170
def k0_off4 (i : grid0.Coords) (k0_t3 : Fin k0_t3_loop.trips) : Fin 2 → Nat :=
  let arg1 : BitVec 32 := BitVec.ofNat 32 (i 1).val
  let c2_i32_48 : BitVec 32 := 2#32
  let v152 : BitVec 32 := Scalar.muli arg1 c2_i32_48
  let c0_i32_53 : BitVec 32 := 0#32
  let c1_i32_55 : BitVec 32 := 1#32
  let arg12 : BitVec 32 := Scf.iv c0_i32_53 c1_i32_55 k0_t3
  let v169 : BitVec 32 := Scalar.addi v152 arg12
  let c256_i32_60 : BitVec 32 := 256#32
  let v170 : BitVec 32 := Scalar.muli v169 c256_i32_60
  let v171 : BitVec 32 := v170
  let v172 : Index := Scalar.indexCast v171
  let c0_61 : Index := 0#32
  ![v172.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S4x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== SbBwdRefIdeal.lean ====
abbrev S8192x1536 : Shape := ⟨2, ![8192, 1536]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 169
  | .vmem => 0
  | .smem => 0
  | _ => 0

abbrev hbmTy0_0 (i : Nat) : BufTy := match i % 128 with
  | 0 => ⟨S8192x1536, .f32⟩
  | 1 => ⟨S8192x512, .f32⟩
  | 2 => ⟨S8192x512, .f32⟩
  | 3 => ⟨S8192x8x64, .f32⟩
  | 4 => ⟨S8192x512, .f32⟩
  | 5 => ⟨S8192x8x64, .f32⟩
  | 6 => ⟨S8192x512, .f32⟩
  | 7 => ⟨S8192x8x64, .f32⟩
  | 8 => ⟨S8x8192x8192, .f32⟩
  | 9 => ⟨S_, .f32⟩
  | 10 => ⟨S8x8192x8192, .f32⟩
  | 11 => ⟨S8x8192x8192, .f32⟩
  | 12 => ⟨S8192, .i32⟩
  | 13 => ⟨S1x8192, .i32⟩
  | 14 => ⟨S8192, .i32⟩
  | 15 => ⟨S8192x1, .i32⟩
  | 16 => ⟨S8192x8192, .i32⟩
  | 17 => ⟨S8192x8192, .i32⟩
  | 18 => ⟨S8192x8192, .i1⟩
  | 19 => ⟨S_, .f32⟩
  | 20 => ⟨S8x8192x8192, .f32⟩
  | 21 => ⟨S8x8192x8192, .f32⟩
  | 22 => ⟨S8x8192x8192, .f32⟩
  | 23 => ⟨S8x8192x8192, .f32⟩
  | 24 => ⟨S8x8192x8192, .i1⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S_, .f32⟩
  | 34 => ⟨S8x8192x8192, .f32⟩
  | 35 => ⟨S8x8192x8192, .i1⟩
  | 36 => ⟨S_, .f32⟩
  | 37 => ⟨S8x8192x8192, .f32⟩
  | 38 => ⟨S8x8192x8192, .f32⟩
  | 39 => ⟨S_, .f32⟩
  | 40 => ⟨S8x8192x8192, .f32⟩
  | 41 => ⟨S8x8192x8192, .i1⟩
  | 42 => ⟨S_, .f32⟩
  | 43 => ⟨S8x8192x8192, .f32⟩
  | 44 => ⟨S8x8192x8192, .f32⟩
  | 45 => ⟨S8x8192x8192, .f32⟩
  | 46 => ⟨S8x8192x8192, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8x8192x8192, .f32⟩
  | 55 => ⟨S8x8192x8192, .i1⟩
  | 56 => ⟨S_, .f32⟩
  | 57 => ⟨S8x8192x8192, .f32⟩
  | 58 => ⟨S8x8192x8192, .f32⟩
  | 59 => ⟨S8x8192x8192, .f32⟩
  | 60 => ⟨S8x8192x8192, .f32⟩
  | 61 => ⟨S8x8192x8192, .f32⟩
  | 62 => ⟨S_, .f32⟩
  | 63 => ⟨S8x8192x8192, .f32⟩
  | 64 => ⟨S8x8192x8192, .f32⟩
  | 65 => ⟨S8x8192x8192, .f32⟩
  | 66 => ⟨S_, .f32⟩
  | 67 => ⟨S_, .f32⟩
  | 68 => ⟨S8x8192x8192, .i1⟩
  | 69 => ⟨S8x8192x8192, .f32⟩
  | 70 => ⟨S8x8192x8192, .f32⟩
  | 71 => ⟨S_, .f32⟩
  | 72 => ⟨S8x8192x8192, .f32⟩
  | 73 => ⟨S_, .f32⟩
  | 74 => ⟨S_, .f32⟩
  | 75 => ⟨S8x8192x8192, .f32⟩
  | 76 => ⟨S8x8192x8192, .f32⟩
  | 77 => ⟨S8x8192x8192, .f32⟩
  | 78 => ⟨S_, .f32⟩
  | 79 => ⟨S8x8192x8192, .f32⟩
  | 80 => ⟨S8x8192x8192, .f32⟩
  | 81 => ⟨S8x8192x8192, .f32⟩
  | 82 => ⟨S8x8192x8192, .f32⟩
  | 83 => ⟨S8x8192x8192, .i1⟩
  | 84 => ⟨S8x8192x8192, .f32⟩
  | 85 => ⟨S8x8192x8192, .f32⟩
  | 86 => ⟨S8x8192x8192, .f32⟩
  | 87 => ⟨S8x8192x8192, .f32⟩
  | 88 => ⟨S8x8192x8192, .f32⟩
  | 89 => ⟨S8x8192x8192, .f32⟩
  | 90 => ⟨S8x8192x8192, .f32⟩
  | 91 => ⟨S8x8192x8192, .f32⟩
  | 92 => ⟨S_, .f32⟩
  | 93 => ⟨S8x8192x8192, .f32⟩
  | 94 => ⟨S8x8192x8192, .i1⟩
  | 95 => ⟨S_, .f32⟩
  | 96 => ⟨S8x8192x8192, .f32⟩
  | 97 => ⟨S8x8192x8192, .f32⟩
  | 98 => ⟨S_, .f32⟩
  | 99 => ⟨S8x8192x8192, .f32⟩
  | 100 => ⟨S8x8192x8192, .i1⟩
  | 101 => ⟨S_, .f32⟩
  | 102 => ⟨S8x8192x8192, .f32⟩
  | 103 => ⟨S8x8192x8192, .f32⟩
  | 104 => ⟨S8x8192x8192, .f32⟩
  | 105 => ⟨S8x8192x8192, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S8x8192x8192, .f32⟩
  | 114 => ⟨S8x8192x8192, .i1⟩
  | 115 => ⟨S_, .f32⟩
  | 116 => ⟨S8x8192x8192, .f32⟩
  | 117 => ⟨S8x8192x8192, .f32⟩
  | 118 => ⟨S8x8192x8192, .f32⟩
  | 119 => ⟨S8x8192x8192, .f32⟩
  | 120 => ⟨S8x8192x8192, .f32⟩
  | 121 => ⟨S_, .f32⟩
  | 122 => ⟨S8x8192x8192, .f32⟩
  | 123 => ⟨S8x8192x8192, .f32⟩
  | 124 => ⟨S8x8192x8192, .f32⟩
  | 125 => ⟨S8x8192x8192, .f32⟩
  | 126 => ⟨S8x8192x8192, .f32⟩
  | 127 => ⟨S_, .f32⟩
  | _ => ⟨S8192x1536, .f32⟩

abbrev hbmTy0_1 (i : Nat) : BufTy := match i % 128 with
  | 0 => ⟨S_, .f32⟩
  | 1 => ⟨S8x8192x8192, .i1⟩
  | 2 => ⟨S8x8192x8192, .f32⟩
  | 3 => ⟨S8x8192x8192, .f32⟩
  | 4 => ⟨S_, .f32⟩
  | 5 => ⟨S8x8192x8192, .f32⟩
  | 6 => ⟨S8x64x8192, .f32⟩
  | 7 => ⟨S8192x8x64, .f32⟩
  | 8 => ⟨S8192x8x64, .f32⟩
  | 9 => ⟨S8x64x8192, .f32⟩
  | 10 => ⟨S8x8192x8192, .f32⟩
  | 11 => ⟨S8x64x8192, .f32⟩
  | 12 => ⟨S8192x8x64, .f32⟩
  | 13 => ⟨S_, .f32⟩
  | 14 => ⟨S8x8192x8192, .f32⟩
  | 15 => ⟨S8x8192x8192, .f32⟩
  | 16 => ⟨S8x8192x8192, .f32⟩
  | 17 => ⟨S8x8192x8192, .f32⟩
  | 18 => ⟨S8x8192x8192, .f32⟩
  | 19 => ⟨S8x8192x8192, .f32⟩
  | 20 => ⟨S8x8192x8192, .f32⟩
  | 21 => ⟨S_, .f32⟩
  | 22 => ⟨S_, .f32⟩
  | 23 => ⟨S8x8192x8192, .f32⟩
  | 24 => ⟨S8x8192x8192, .f32⟩
  | 25 => ⟨S_, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S_, .f32⟩
  | 32 => ⟨S8x8192x8192, .f32⟩
  | 33 => ⟨S8x8192x8192, .f32⟩
  | 34 => ⟨S8x8192x64, .f32⟩
  | 35 => ⟨S8192x8x64, .f32⟩
  | 36 => ⟨S8x8192x64, .f32⟩
  | 37 => ⟨S8192x8x64, .f32⟩
  | 38 => ⟨S8192x512, .f32⟩
  | 39 => ⟨S8192x512, .f32⟩
  | 40 => ⟨S8192x512, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v16_0 : Ref sig .tc := ⟨.hbm, 32, rfl⟩
abbrev main_call0_cst_0 : Ref sig .tc := ⟨.hbm, 33, rfl⟩
abbrev main_call0_v13 : Ref sig .tc := ⟨.hbm, 34, rfl⟩
abbrev main_call0_v14 : Ref sig .tc := ⟨.hbm, 35, rfl⟩
abbrev main_call0_cst_1 : Ref sig .tc := ⟨.hbm, 36, rfl⟩
abbrev main_call0_v15 : Ref sig .tc := ⟨.hbm, 37, rfl⟩
abbrev main_call0_v16 : Ref sig .tc := ⟨.hbm, 38, rfl⟩
abbrev main_call0_cst_2 : Ref sig .tc := ⟨.hbm, 39, rfl⟩
abbrev main_call0_v17 : Ref sig .tc := ⟨.hbm, 40, rfl⟩
abbrev main_call0_v18 : Ref sig .tc := ⟨.hbm, 41, rfl⟩
abbrev main_call0_cst_3 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_v16_1 : Ref sig .tc := ⟨.hbm, 46, rfl⟩
abbrev main_call0_cst_4 : Ref sig .tc := ⟨.hbm, 47, rfl⟩
abbrev main_call0_cst_5 : Ref sig .tc := ⟨.hbm, 48, rfl⟩
abbrev main_call0_v23 : Ref sig .tc := ⟨.hbm, 49, rfl⟩
abbrev main_call0_cst_6 : Ref sig .tc := ⟨.hbm, 50, rfl⟩
abbrev main_call0_cst_7 : Ref sig .tc := ⟨.hbm, 51, rfl⟩
abbrev main_call0_v24 : Ref sig .tc := ⟨.hbm, 52, rfl⟩
abbrev main_call0_cst_8 : Ref sig .tc := ⟨.hbm, 53, rfl⟩
abbrev main_call0_v25 : Ref sig .tc := ⟨.hbm, 54, rfl⟩
abbrev main_call0_v26 : Ref sig .tc := ⟨.hbm, 55, rfl⟩
abbrev main_call0_cst_9 : Ref sig .tc := ⟨.hbm, 56, rfl⟩
abbrev main_call0_v27 : Ref sig .tc := ⟨.hbm, 57, rfl⟩
abbrev main_call0_v28 : Ref sig .tc := ⟨.hbm, 58, rfl⟩
abbrev main_call0_v29 : Ref sig .tc := ⟨.hbm, 59, rfl⟩
abbrev main_call0_v30 : Ref sig .tc := ⟨.hbm, 60, rfl⟩
abbrev main_call0_v31 : Ref sig .tc := ⟨.hbm, 61, rfl⟩
abbrev main_call0_cst_10 : Ref sig .tc := ⟨.hbm, 62, rfl⟩
abbrev main_call0_v32 : Ref sig .tc := ⟨.hbm, 63, rfl⟩
abbrev main_v16_2 : Ref sig .tc := ⟨.hbm, 64, rfl⟩
abbrev main_v17 : Ref sig .tc := ⟨.hbm, 65, rfl⟩
abbrev main_cst_0 : Ref sig .tc := ⟨.hbm, 66, rfl⟩
abbrev main_call1_v0 : Ref sig .tc := ⟨.hbm, 67, rfl⟩
abbrev main_v18_1 : Ref sig .tc := ⟨.hbm, 68, rfl⟩
abbrev main_call1_v2 : Ref sig .tc := ⟨.hbm, 69, rfl⟩
abbrev main_v18_0 : Ref sig .tc := ⟨.hbm, 70, rfl⟩
abbrev main_call1_cst : Ref sig .tc := ⟨.hbm, 71, rfl⟩
abbrev main_v18_2 : Ref sig .tc := ⟨.hbm, 72, rfl⟩
abbrev main_call2_cst : Ref sig .tc := ⟨.hbm, 73, rfl⟩
abbrev main_call2_v0 : Ref sig .tc := ⟨.hbm, 74, rfl⟩
abbrev main_v19 : Ref sig .tc := ⟨.hbm, 75, rfl⟩
abbrev main_v20 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1_0 : Ref sig .tc := ⟨.hbm, 91, rfl⟩
abbrev main_call3_call0_cst_0 : Ref sig .tc := ⟨.hbm, 92, rfl⟩
abbrev main_call3_call0_v13 : Ref sig .tc := ⟨.hbm, 93, rfl⟩
abbrev main_call3_call0_v14 : Ref sig .tc := ⟨.hbm, 94, rfl⟩
abbrev main_call3_call0_cst_1 : Ref sig .tc := ⟨.hbm, 95, rfl⟩
abbrev main_call3_call0_v15 : Ref sig .tc := ⟨.hbm, 96, rfl⟩
abbrev main_call3_call0_v16 : Ref sig .tc := ⟨.hbm, 97, rfl⟩
abbrev main_call3_call0_cst_2 : Ref sig .tc := ⟨.hbm, 98, rfl⟩
abbrev main_call3_call0_v17 : Ref sig .tc := ⟨.hbm, 99, rfl⟩
abbrev main_call3_call0_v18 : Ref sig .tc := ⟨.hbm, 100, rfl⟩
abbrev main_call3_call0_cst_3 : Ref sig .tc := ⟨.hbm, 101, rfl⟩
abbrev main_call3_call0_v19 : Ref sig .tc := ⟨.hbm, 102, rfl⟩
abbrev main_call3_call0_v20 : Ref sig .tc := ⟨.hbm, 103, rfl⟩
abbrev main_call3_call0_v21 : Ref sig .tc := ⟨.hbm, 104, rfl⟩
abbrev main_v21_1 : Ref sig .tc := ⟨.hbm, 105, rfl⟩
abbrev main_call3_call0_cst_4 : Ref sig .tc := ⟨.hbm, 106, rfl⟩
abbrev main_call3_call0_cst_5 : Ref sig .tc := ⟨.hbm, 107, rfl⟩
abbrev main_call3_call0_v23 : Ref sig .tc := ⟨.hbm, 108, rfl⟩
abbrev main_call3_call0_cst_6 : Ref sig .tc := ⟨.hbm, 109, rfl⟩
abbrev main_call3_call0_cst_7 : Ref sig .tc := ⟨.hbm, 110, rfl⟩
abbrev main_call3_call0_v24 : Ref sig .tc := ⟨.hbm, 111, rfl⟩
abbrev main_call3_call0_cst_8 : Ref sig .tc := ⟨.hbm, 112, rfl⟩
abbrev main_call3_call0_v25 : Ref sig .tc := ⟨.hbm, 113, rfl⟩
abbrev main_call3_call0_v26 : Ref sig .tc := ⟨.hbm, 114, rfl⟩
abbrev main_call3_call0_cst_9 : Ref sig .tc := ⟨.hbm, 115, rfl⟩
abbrev main_call3_call0_v27 : Ref sig .tc := ⟨.hbm, 116, rfl⟩
abbrev main_call3_call0_v28 : Ref sig .tc := ⟨.hbm, 117, rfl⟩
abbrev main_call3_call0_v29 : Ref sig .tc := ⟨.hbm, 118, rfl⟩
abbrev main_call3_call0_v30 : Ref sig .tc := ⟨.hbm, 119, rfl⟩
abbrev main_call3_call0_v31 : Ref sig .tc := ⟨.hbm, 120, rfl⟩
abbrev main_call3_call0_cst_10 : Ref sig .tc := ⟨.hbm, 121, rfl⟩
abbrev main_call3_call0_v32 : Ref sig .tc := ⟨.hbm, 122, rfl⟩
abbrev main_v21_2 : Ref sig .tc := ⟨.hbm, 123, rfl⟩
abbrev main_v21_0 : Ref sig .tc := ⟨.hbm, 124, rfl⟩
abbrev main_v22 : Ref sig .tc := ⟨.hbm, 125, rfl⟩
abbrev main_v23 : Ref sig .tc := ⟨.hbm, 126, rfl⟩
abbrev main_cst_1 : Ref sig .tc := ⟨.hbm, 127, rfl⟩
abbrev main_call4_v0 : Ref sig .tc := ⟨.hbm, 128, rfl⟩
abbrev main_v24_1 : Ref sig .tc := ⟨.hbm, 129, rfl⟩
abbrev main_call4_v2 : Ref sig .tc := ⟨.hbm, 130, rfl⟩
abbrev main_v24_0 : Ref sig .tc := ⟨.hbm, 131, rfl⟩
abbrev main_call4_cst : Ref sig .tc := ⟨.hbm, 132, rfl⟩
abbrev main_v24_2 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_call5_cst : Ref sig .tc := ⟨.hbm, 141, rfl⟩
abbrev main_call5_v0 : Ref sig .tc := ⟨.hbm, 142, rfl⟩
abbrev main_v32 : Ref sig .tc := ⟨.hbm, 143, rfl⟩
abbrev main_v33 : Ref sig .tc := ⟨.hbm, 144, rfl⟩
abbrev main_call6_v0 : Ref sig .tc := ⟨.hbm, 145, rfl⟩
abbrev main_call6_v1 : Ref sig .tc := ⟨.hbm, 146, rfl⟩
abbrev main_v34 : Ref sig .tc := ⟨.hbm, 147, rfl⟩
abbrev main_v35 : Ref sig .tc := ⟨.hbm, 148, rfl⟩
abbrev main_call7_cst : Ref sig .tc := ⟨.hbm, 149, rfl⟩
abbrev main_call7_v0 : Ref sig .tc := ⟨.hbm, 150, rfl⟩
abbrev main_v36 : Ref sig .tc := ⟨.hbm, 151, rfl⟩
abbrev main_v37 : Ref sig .tc := ⟨.hbm, 152, rfl⟩
abbrev main_call8_cst : Ref sig .tc := ⟨.hbm, 153, rfl⟩
abbrev main_call8_v0 : Ref sig .tc := ⟨.hbm, 154, rfl⟩
abbrev main_v38 : Ref sig .tc := ⟨.hbm, 155, rfl⟩
abbrev main_v39 : Ref sig .tc := ⟨.hbm, 156, rfl⟩
abbrev main_v40 : Ref sig .tc := ⟨.hbm, 157, rfl⟩
abbrev main_v41 : Ref sig .tc := ⟨.hbm, 158, rfl⟩
abbrev main_cst_2 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩

abbrev nD : Nat := 1
abbrev τ : Topo := Topo.v7x

variable {F : FTy → Type} [FloatOps F]
-- ==== FfnLnBwd.lean ====
abbrev S8192x1024 : Shape := ⟨2, ![8192, 1024]⟩
abbrev S1x1024 : Shape := ⟨2, ![1, 1024]⟩
abbrev S_ : Shape := ⟨0, ![]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S1x1024, .f32⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_27 : BitVec 32 := 0#32
  let v66 : BitVec 1 := Scalar.cmpi .ne v65 c0_i32_27
  v66

def k0_cond2 (i : grid0.Coords) : BitVec 1 :=
  let arg0 : BitVec 32 := BitVec.ofNat 32 (i 0).val
  let c0_i32_28 : BitVec 32 := 0#32
  let v67 : BitVec 1 := Scalar.cmpi .sgt arg0 c0_i32_28
  let v68 : BitVec 32 := Scalar.extui v67
  let c0_i32_29 : BitVec 32 := 0#32
  let v69 : BitVec 1 := Scalar.cmpi .ne v68 c0_i32_29
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnLnBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192x1024, .f32⟩
  | .hbm, ⟨93, _⟩ => ⟨S8192x1024, .f32⟩
  | .hbm, ⟨94, _⟩ => ⟨S8192x1024, .bf16⟩
  | .hbm, ⟨95, _⟩ => ⟨S1x1024, .f32⟩
  | .hbm, ⟨96, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== MixLnBwd.lean ====
abbrev S8192x1024 : Shape := ⟨2, ![8192, 1024]⟩
abbrev S1x1024 : Shape := ⟨2, ![1, 1024]⟩
abbrev S_ : Shape := ⟨0, ![]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_26 : BitVec 32 := 0#32
  let v64 : BitVec 1 := Scalar.cmpi .ne v63 c0_i32_26
  v64

def k0_cond2 (i : grid0.Coords) : BitVec 1 :=
  let arg0 : BitVec 32 := BitVec.ofNat 32 (i 0).val
  let c0_i32_27 : BitVec 32 := 0#32
  let v65 : BitVec 1 := Scalar.cmpi .sgt arg0 c0_i32_27
  let v66 : BitVec 32 := Scalar.extui v65
  let c0_i32_28 : BitVec 32 := 0#32
  let v67 : BitVec 1 := Scalar.cmpi .ne v66 c0_i32_28
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixLnBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S8192x1024, .bf16⟩
  | .hbm, ⟨89, _⟩ => ⟨S1x1024, .f32⟩
  | .hbm, ⟨90, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== PleHead.lean ====
abbrev S8192x1024 : Shape := ⟨2, ![8192, 1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩

abbrev nBuf : Space → Nat
  | .hbm => 14
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S1x1, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v109 : BitVec 1 := Scalar.cmpi .eq arg0 c0_i32
  let v110 : BitVec 32 := Scalar.extui v109
  let c0_i32_48 : BitVec 32 := 0#32
  let v111 : BitVec 1 := Scalar.cmpi .ne v110 c0_i32_48
  v111

def k0_cond2 (i : grid0.Coords) : BitVec 1 :=
  let arg0 : BitVec 32 := BitVec.ofNat 32 (i 0).val
  let c0_i32_49 : BitVec 32 := 0#32
  let v112 : BitVec 1 := Scalar.cmpi .sgt arg0 c0_i32_49
  let v113 : BitVec 32 := Scalar.extui v112
  let c0_i32_50 : BitVec 32 := 0#32
  let v114 : BitVec 1 := Scalar.cmpi .ne v113 c0_i32_50
  v114

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PleHeadRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S1x1024, .f32⟩
  | 5 => ⟨S1x1024, .f32⟩
  | 6 => ⟨S1x1024, .f32⟩
  | 7 => ⟨S1024, .f32⟩
  | 8 => ⟨S1024, .f32⟩
  | 9 => ⟨S1024, .f32⟩
  | 10 => ⟨S1x1024, .f32⟩
  | 11 => ⟨S8192x1024, .f32⟩
  | 12 => ⟨S8192x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S8192x1024, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S1x1024, .f32⟩
  | 56 => ⟨S8192x1024, .f32⟩
  | 57 => ⟨S8192x1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192, .f32⟩
  | 68 => ⟨S_, .f32⟩
  | 69 => ⟨S8192, .f32⟩
  | 70 => ⟨S8192, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S8192, .f32⟩
  | 79 => ⟨S_, .f32⟩
  | 80 => ⟨S8192, .f32⟩
  | 81 => ⟨S8192, .f32⟩
  | 82 => ⟨S8192x1024, .f32⟩
  | 83 => ⟨S8192x1024, .f32⟩
  | 84 => ⟨S_, .f32⟩
  | 85 => ⟨S1024, .f32⟩
  | 86 => ⟨S1x1024, .f32⟩
  | 87 => ⟨S_, .f32⟩
  | 88 => ⟨S1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S8192x1024, .f32⟩
  | 95 => ⟨S_, .f32⟩
  | 96 => ⟨S1024, .f32⟩
  | 97 => ⟨S8192x1024, .f32⟩
  | 98 => ⟨S_, .f32⟩
  | 99 => ⟨S8192, .f32⟩
  | 100 => ⟨S8192x1, .f32⟩
  | 101 => ⟨S8192x1024, .f32⟩
  | 102 => ⟨S8192x1024, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S8192, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x1024, .f32⟩
  | 124 => ⟨S8192x1024, .f32⟩
  | 125 => ⟨S_, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S1024, .f32⟩
  | 5 => ⟨S1x1024, .f32⟩
  | 6 => ⟨S_, .f32⟩
  | 7 => ⟨S1024, .f32⟩
  | 8 => ⟨S8192x1024, .bf16⟩
  | 9 => ⟨S8192x1024, .bf16⟩
  | 10 => ⟨S1x1, .f32⟩
  | 11 => ⟨S1x1024, .f32⟩
  | 12 => ⟨S1x1024, .f32⟩
  | 13 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_cst_14 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_cst_16 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_cst_19 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_cst_21 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_22 : Ref sig .tc := ⟨.hbm, 104, rfl⟩
abbrev main_v74 : Ref sig .tc := ⟨.hbm, 105, rfl⟩
abbrev main_v75 : Ref sig .tc := ⟨.hbm, 106, rfl⟩
abbrev main_cst_23 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_24 : Ref sig .tc := ⟨.hbm, 115, rfl⟩
abbrev main_v83 : Ref sig .tc := ⟨.hbm, 116, rfl⟩
abbrev main_v84 : Ref sig .tc := ⟨.hbm, 117, rfl⟩
abbrev main_cst_25 : Ref sig .tc := ⟨.hbm, 118, rfl⟩
abbrev main_v85 : Ref sig .tc := ⟨.hbm, 119, rfl⟩
abbrev main_v86 : Ref sig .tc := ⟨.hbm, 120, rfl⟩
abbrev main_cst_26 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_27 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_28 : Ref sig .tc := ⟨.hbm, 131, rfl⟩
abbrev main_v95 : Ref sig .tc := ⟨.hbm, 132, rfl⟩
abbrev main_v96 : Ref sig .tc := ⟨.hbm, 133, rfl⟩
abbrev main_cst_29 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩

abbrev nD : Nat := 1
abbrev τ : Topo := Topo.v7x

variable {F : FTy → Type} [FloatOps F]
-- ==== GdnFwdCall.lean ====
abbrev S8192x1536 : Shape := ⟨2, ![8192, 1536]⟩
abbrev S8192x2048 : Shape := ⟨2, ![8192, 2048]⟩
abbrev S8192x128 : Shape := ⟨2, ![8192, 128]⟩
abbrev S1x512 : Shape := ⟨2, ![1, 512]⟩
abbrev S8192x512 : Shape := ⟨2, ![8192, 512]⟩
abbrev S64x4x128x128 : Shape := ⟨4, ![64, 4, 128, 128]⟩
abbrev S64x8x128x128 : Shape := ⟨4, ![64, 8, 128, 128]⟩
abbrev S128x1536 : Shape := ⟨2, ![128, 1536]⟩
abbrev S128x512 : Shape := ⟨2, ![128, 512]⟩
abbrev S128x128 : Shape := ⟨2, ![128, 128]⟩
abbrev S1x4x128x128 : Shape := ⟨4, ![1, 4, 128, 128]⟩
abbrev S1x8x128x128 : Shape := ⟨4, ![1, 8, 128, 128]⟩
abbrev S4x128x128 : Shape := ⟨3, ![4, 128, 128]⟩
abbrev S1x1x128 : Shape := ⟨3, ![1, 1, 128]⟩
abbrev S128x1024 : Shape := ⟨2, ![128, 1024]⟩
abbrev S1x128x128 : Shape := ⟨3, ![1, 128, 128]⟩
abbrev S4x128 : Shape := ⟨2, ![4, 128]⟩
abbrev S4x128x1 : Shape := ⟨3, ![4, 128, 1]⟩
abbrev S4x1x128x1 : Shape := ⟨4, ![4, 1, 128, 1]⟩
abbrev S4x2x128x1 : Shape := ⟨4, ![4, 2, 128, 1]⟩
abbrev S8x128x1 : Shape := ⟨3, ![8, 128, 1]⟩
abbrev S4x1x128x128 : Shape := ⟨4, ![4, 1, 128, 128]⟩
abbrev S4x2x128x128 : Shape := ⟨4, ![4, 2, 128, 128]⟩
abbrev S8x128x128 : Shape := ⟨3, ![8, 128, 128]⟩
abbrev S8x128 : Shape := ⟨2, ![8, 128]⟩
abbrev S8x1x128 : Shape := ⟨3, ![8, 1, 128]⟩
abbrev S8x1 : Shape := ⟨2, ![8, 1]⟩
abbrev S8x1x1 : Shape := ⟨3, ![8, 1, 1]⟩
abbrev S4x2x1x1 : Shape := ⟨4, ![4, 2, 1, 1]⟩
abbrev S4x1x1x1 : Shape := ⟨4, ![4, 1, 1, 1]⟩
abbrev S4x1x1 : Shape := ⟨3, ![4, 1, 1]⟩
abbrev S4x1x128 : Shape := ⟨3, ![4, 1, 128]⟩
abbrev S1x128 : Shape := ⟨2, ![1, 128]⟩

abbrev nBuf : Space → Nat
  | .hbm => 9
  | .vmem => 16
  | .smem => 0
  | _ => 0

abbrev bufTy : (tb : Table) → Fin (tcTables nBuf tb) → BufTy
  | .hbm, ⟨0, _⟩ => ⟨S8192x1536, .f32⟩
  | .hbm, ⟨1, _⟩ => ⟨S8192x2048, .f32⟩
  | .hbm, ⟨2, _⟩ => ⟨S8192x128, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S8192x512, .bf16⟩
  | .hbm, ⟨7, _⟩ => ⟨S64x4x128x128, .f32⟩
  | .hbm, ⟨8, _⟩ => ⟨S64x8x128x128, .f32⟩
  | .local _ .vmem, ⟨0, _⟩ => ⟨S128x1536, .f32⟩
  | .local _ .vmem, ⟨1, _⟩ => ⟨S128x1536, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S128x512, .bf16⟩
  | .local _ .vmem, ⟨10, _⟩ => ⟨S128x512, .bf16⟩
  | .local _ .vmem, ⟨11, _⟩ => ⟨S1x4x128x128, .f32⟩
  | .local _ .vmem, ⟨12, _⟩ => ⟨S1x4x128x128, .f32⟩
  | .local _ .vmem, ⟨13, _⟩ => ⟨S1x8x128x128, .f32⟩
  | .local _ .vmem, ⟨14, _⟩ => ⟨S1x8x128x128, .f32⟩
  | .local _ .vmem, ⟨15, _⟩ => ⟨S4x128x128, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GdnBwdCall.lean ====
abbrev S8192x1536 : Shape := ⟨2, ![8192, 1536]⟩
abbrev S8192x2048 : Shape := ⟨2, ![8192, 2048]⟩
abbrev S8192x128 : Shape := ⟨2, ![8192, 128]⟩
abbrev S1x512 : Shape := ⟨2, ![1, 512]⟩
abbrev S64x4x128x128 : Shape := ⟨4, ![64, 4, 128, 128]⟩
abbrev S64x8x128x128 : Shape := ⟨4, ![64, 8, 128, 128]⟩
abbrev S8192x512 : Shape := ⟨2, ![8192, 512]⟩
abbrev S128x1536 : Shape := ⟨2, ![128, 1536]⟩
abbrev S128x512 : Shape := ⟨2, ![128, 512]⟩
abbrev S128x128 : Shape := ⟨2, ![128, 128]⟩
abbrev S1x4x128x128 : Shape := ⟨4, ![1, 4, 128, 128]⟩
abbrev S1x8x128x128 : Shape := ⟨4, ![1, 8, 128, 128]⟩
abbrev S4x128x128 : Shape := ⟨3, ![4, 128, 128]⟩
abbrev S8x128x128 : Shape := ⟨3, ![8, 128, 128]⟩
abbrev S1x1x128 : Shape := ⟨3, ![1, 1, 128]⟩
abbrev S128x1024 : Shape := ⟨2, ![128, 1024]⟩
abbrev S1x128x128 : Shape := ⟨3, ![1, 128, 128]⟩
abbrev S4x128 : Shape := ⟨2, ![4, 128]⟩
abbrev S4x128x1 : Shape := ⟨3, ![4, 128, 1]⟩
abbrev S4x1x128x1 : Shape := ⟨4, ![4, 1, 128, 1]⟩
abbrev S4x2x128x1 : Shape := ⟨4, ![4, 2, 128, 1]⟩
abbrev S8x128x1 : Shape := ⟨3, ![8, 128, 1]⟩
abbrev S4x1x128x128 : Shape := ⟨4, ![4, 1, 128, 128]⟩
abbrev S4x2x128x128 : Shape := ⟨4, ![4, 2, 128, 128]⟩
abbrev S8x128 : Shape := ⟨2, ![8, 128]⟩
abbrev S8x1x128 : Shape := ⟨3, ![8, 1, 128]⟩
abbrev S8x1 : Shape := ⟨2, ![8, 1]⟩
abbrev S8x1x1 : Shape := ⟨3, ![8, 1, 1]⟩
abbrev S4x2x1x1 : Shape := ⟨4, ![4, 2, 1, 1]⟩
abbrev S4x1x1x1 : Shape := ⟨4, ![4, 1, 1, 1]⟩
abbrev S4x1x1 : Shape := ⟨3, ![4, 1, 1]⟩
abbrev S4x1x128 : Shape := ⟨3, ![4, 1, 128]⟩
abbrev S1x128 : Shape := ⟨2, ![1, 128]⟩
abbrev S3x128x128 : Shape := ⟨3, ![3, 128, 128]⟩
abbrev S2x128x128 : Shape := ⟨3, ![2, 128, 128]⟩
abbrev S128x384 : Shape := ⟨2, ![128, 384]⟩
abbrev S128x256 : Shape := ⟨2, ![128, 256]⟩
abbrev S1x384 : Shape := ⟨2, ![1, 384]⟩
abbrev S1x256 : Shape := ⟨2, ![1, 256]⟩
abbrev S4 : Shape := ⟨1, ![4]⟩
abbrev S8 : Shape := ⟨1, ![8]⟩
abbrev S512 : Shape := ⟨1, ![512]⟩

abbrev nBuf : Space → Nat
  | .hbm => 15
  | .vmem => 25
  | .smem => 0
  | _ => 0

abbrev bufTy : (tb : Table) → Fin (tcTables nBuf tb) → BufTy
  | .hbm, ⟨0, _⟩ => ⟨S8192x1536, .f32⟩
  | .hbm, ⟨1, _⟩ => ⟨S8192x2048, .f32⟩
  | .hbm, ⟨2, _⟩ => ⟨S8192x128, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S64x4x128x128, .f32⟩
  | .hbm, ⟨7, _⟩ => ⟨S64x8x128x128, .f32⟩
  | .hbm, ⟨8, _⟩ => ⟨S8192x512, .f32⟩
  | .hbm, ⟨9, _⟩ => ⟨S8192x1536, .f32⟩
  | .hbm, ⟨10, _⟩ => ⟨S8192x512, .bf16⟩
  | .hbm, ⟨11, _⟩ => ⟨S8192x128, .f32⟩
  | .hbm, ⟨12, _⟩ => ⟨S1x512, .f32⟩
  | .hbm, ⟨13, _⟩ => ⟨S1x512, .f32⟩
  | .hbm, ⟨14, _⟩ => ⟨S1x512, .f32⟩
  | .local _ .vmem, ⟨0, _⟩ => ⟨S128x1536, .f32⟩
  | .local _ .vmem, ⟨1, _⟩ => ⟨S128x1536, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x4x128x128, .f32⟩
  | .local _ .vmem, ⟨10, _⟩ => ⟨S1x4x128x128, .f32⟩
  | .local _ .vmem, ⟨11, _⟩ => ⟨S1x8x128x128, .f32⟩
  | .local _ .vmem, ⟨12, _⟩ => ⟨S1x8x128x128, .f32⟩
  | .local _ .vmem, ⟨13, _⟩ => ⟨S128x512, .f32⟩
  | .local _ .vmem, ⟨14, _⟩ => ⟨S128x512, .f32⟩
  | .local _ .vmem, ⟨15, _⟩ => ⟨S128x1536, .f32⟩
  | .local _ .vmem, ⟨16, _⟩ => ⟨S128x1536, .f32⟩
  | .local _ .vmem, ⟨17, _⟩ => ⟨S128x512, .bf16⟩
  | .local _ .vmem, ⟨18, _⟩ => ⟨S128x512, .bf16⟩
  | .local _ .vmem, ⟨19, _⟩ => ⟨S128x128, .f32⟩
  | .local _ .vmem, ⟨20, _⟩ => ⟨S128x128, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S4x128x128, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SbFwd.lean ====
abbrev S8192x1536 : Shape := ⟨2, ![8192, 1536]⟩
abbrev S8192x512 : Shape := ⟨2, ![8192, 512]⟩
abbrev S4x8192x1 : Shape := ⟨3, ![4, 8192, 1]⟩
abbrev S4x16 : Shape := ⟨2, ![4, 16]⟩
abbrev S512x128 : Shape := ⟨2, ![512, 128]⟩
abbrev S8192x128 : Shape := ⟨2, ![8192, 128]⟩
abbrev S1x512x1 : Shape := ⟨3, ![1, 512, 1]⟩
abbrev S512x512 : Shape := ⟨2, ![512, 512]⟩
abbrev S1024x512 : Shape := ⟨2, ![1024, 512]⟩
abbrev S256x128 : Shape := ⟨2, ![256, 128]⟩
abbrev S512x1 : Shape := ⟨2, ![512, 1]⟩
abbrev S512x1024 : Shape := ⟨2, ![512, 1024]⟩
abbrev S512x256 : Shape := ⟨2, ![512, 256]⟩
abbrev S512 : Shape := ⟨1, ![512]⟩
abbrev S1 : Shape := ⟨1, ![1]⟩
abbrev S1x1x1 : Shape := ⟨3, ![1, 1, 1]⟩
abbrev S1x1 : Shape := ⟨2, ![1, 1]⟩

abbrev nBuf : Space → Nat
  | .hbm => 6
  | .vmem => 12
  | .smem => 1
  | _ => 0

abbrev bufTy : (tb : Table) → Fin (tcTables nBuf tb) → BufTy
  | .hbm, ⟨0, _⟩ => ⟨S8192x1536, .f32⟩
  | .hbm, ⟨1, _⟩ => ⟨S8192x1536, .bf16⟩
  | .hbm, ⟨2, _⟩ => ⟨S8192x512, .bf16⟩
  | .hbm, ⟨3, _⟩ => ⟨S4x8192x1, .f32⟩
  | .hbm, ⟨4, _⟩ => ⟨S4x8192x1, .f32⟩
  | .hbm, ⟨5, _⟩ => ⟨S4x16, .i32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .smem, ⟨0, _⟩ => ⟨S4x16, .i32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_39 : BitVec 32 := 0#32
  let c2_i32_40 : BitVec 32 := 2#32
  let v139 : BitVec 32 := Scalar.addi c0_i32_39 c2_i32_40
  let c1_i32_41 : BitVec 32 := 1#32
  ⟨c0_i32_39, v139, c1_i32_41⟩
def k0_mult1 (i : grid0.Coords) (k0_t1 : Fin k0_t1_loop.trips) : BitVec 32 :=
  let arg1 : BitVec 32 := BitVec.ofNat 32 (i 1).val
  let c2_i32_38 : BitVec 32 := 2#32
  let v138 : BitVec 32 := Scalar.muli arg1 c2_i32_38
  let c2_i32_55 : BitVec 32 := 2#32
  let v163 : BitVec 32 := Scalar.addi v138 c2_i32_55
  let c1_i32_56 : BitVec 32 := 1#32
  let v164 : BitVec 32 := Scalar.subi v163 c1_i32_56
  let c0_i32_39 : BitVec 32 := 0#32
  let c1_i32_41 : BitVec 32 := 1#32
  let arg9 : BitVec 32 := Scf.iv c0_i32_39 c1_i32_41 k0_t1
  let v165 : BitVec 32 := Scalar.subi v164 arg9
  let c256_i32_57 : BitVec 32 := 256#32
  let v166 : BitVec 32 := Scalar.muli v165 c256_i32_57
  v166
def k0_off1 (i : grid0.Coords) (k0_t1 : Fin k0_t1_loop.trips) : Fin 2 → Nat :=
  let arg1 : BitVec 32 := BitVec.ofNat 32 (i 1).val
  let c2_i32_38 : BitVec 32 := 2#32
  let v138 : BitVec 32 := Scalar.muli arg1 c2_i32_38
  let c2_i32_55 : BitVec 32 := 2#32
  let v163 : BitVec 32 := Scalar.addi v138 c2_i32_55
  let c1_i32_56 : BitVec 32 := 1#32
  let v164 : BitVec 32 := Scalar.subi v163 c1_i32_56
  let c0_i32_39 : BitVec 32 := 0#32
  let c1_i32_41 : BitVec 32 := 1#32
  let arg9 : BitVec 32 := Scf.iv c0_i32_39 c1_i32_41 k0_t1
  let v165 : BitVec 32 := Scalar.subi v164 arg9
  let c256_i32_57 : BitVec 32 := 256#32
  let v166 : BitVec 32 := Scalar.muli v165 c256_i32_57
  let v167 : BitVec 32 := v166
  let v168 : Index := Scalar.indexCast v167
  let c0_58 : Index := 0#32
  ![v168.toNat, 0]
def k0_mult2 (i : grid0.Coords) (arg9 : BitVec 32) : BitVec 32 :=
  let arg1 : BitVec 32 := BitVec.ofNat 32 (i 1).val
  let c2_i32_38 : BitVec 32 := 2#32
  let v138 : BitVec 32 := Scalar.muli arg1 c2_i32_38
  let c1_i32_55 : BitVec 32 := 1#32
  let v163 : BitVec 32 := Scalar.subi v138 c1_i32_55
  let v164 : BitVec 32 := Scalar.subi v163 arg9
  let c256_i32_56 : BitVec 32 := 256#32
  let v165 : BitVec 32 := Scalar.muli v164 c256_i32_56
  v165

def k0_off2 (i : grid0.Coords) (arg9 : BitVec 32) : Fin 2 → Nat :=
  let arg1 : BitVec 32 := BitVec.ofNat 32 (i 1).val
  let c2_i32_38 : BitVec 32 := 2#32
  let v138 : BitVec 32 := Scalar.muli arg1 c2_i32_38
  let c1_i32_55 : BitVec 32 := 1#32
  let v163 : BitVec 32 := Scalar.subi v138 c1_i32_55
  let v164 : BitVec 32 := Scalar.subi v163 arg9
  let c256_i32_56 : BitVec 32 := 256#32
  let v165 : BitVec 32 := Scalar.muli v164 c256_i32_56
  let v166 : BitVec 32 := v165
  let v167 : Index := Scalar.indexCast v166
  let c0_57 : Index := 0#32
  ![v167.toNat, 0]

def k0_chk1 (i : grid0.Coords) (arg9 : BitVec 32) : Prop :=
  (256 ∣ (k0_mult2 i arg9).toNat) ∧
  (∀ a, (k0_off2 i arg9) a + S256x128.size a ≤ S8192x128.size a)
theorem k0_mult2_dvd : ∀ (i : grid0.Coords) (arg9 : BitVec 32) (k0_hw1 : k0_chk1 i arg9), 256 ∣ (k0_mult2 i arg9).toNat := fun i arg9 k0_hw1 => k0_hw1.1
theorem k0_off2_inb : ∀ (i : grid0.Coords) (arg9 : BitVec 32) (k0_hw1 : k0_chk1 i arg9), ∀ a, (k0_off2 i arg9) a + S256x128.size a ≤ S8192x128.size a := fun i arg9 k0_hw1 => k0_hw1.2

def k0_off3 (i : grid0.Coords) : Fin 2 → Nat :=
  let arg0 : BitVec 32 := BitVec.ofNat 32 (i 0).val
  let v160 : Index := Scalar.indexCast arg0
  let arg1 : BitVec 32 := BitVec.ofNat 32 (i 1).val
  let v161 : Index := Scalar.indexCast arg1
  ![v160.toNat, v161.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .smem S4x16 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== SbFwdRefIdeal.lean ====
abbrev S8192x1536 : Shape := ⟨2, ![8192, 1536]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192 : Shape := ⟨2, ![8, 8192]⟩
abbrev S4x2x8192x1 : Shape := ⟨4, ![4, 2, 8192, 1]⟩
abbrev S4x1x8192x1 : Shape := ⟨4, ![4, 1, 8192, 1]⟩
abbrev S4x8192x1 : Shape := ⟨3, ![4, 8192, 1]⟩

abbrev nBuf : Space → Nat
  | .hbm => 76
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x8x64, .f32⟩
  | .hbm, ⟨3, _⟩ => ⟨S8192x512, .f32⟩
  | .hbm, ⟨4, _⟩ => ⟨S8192x8x64, .f32⟩
  | .hbm, ⟨5, _⟩ => ⟨S8192x512, .f32⟩
  | .hbm, ⟨6, _⟩ => ⟨S8192x8x64, .f32⟩
  | .hbm, ⟨7, _⟩ => ⟨S8x8192x8192, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S_, .f32⟩
  | .hbm, ⟨35, _⟩ => ⟨S8x8192x8192, .i1⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S_, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S8x8192x8192, .i1⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S_, .f32⟩
  | .hbm, ⟨62, _⟩ => ⟨S8x8192x8192, .i1⟩
  | .hbm, ⟨63, _⟩ => ⟨S8x8192x8192, .f32⟩
  | .hbm, ⟨64, _⟩ => ⟨S8x8192x8192, .f32⟩
  | .hbm, ⟨65, _⟩ => ⟨S8x64x8192, .f32⟩
  | .hbm, ⟨66, _⟩ => ⟨S8192x8x64, .f32⟩
  | .hbm, ⟨67, _⟩ => ⟨S8192x512, .f32⟩
  | .hbm, ⟨68, _⟩ => ⟨S8192x512, .bf16⟩
  | .hbm, ⟨69, _⟩ => ⟨S_, .f32⟩
  | .hbm, ⟨70, _⟩ => ⟨S8x8192, .f32⟩
  | .hbm, ⟨71, _⟩ => ⟨S4x2x8192x1, .f32⟩
  | .hbm, ⟨72, _⟩ => ⟨S4x1x8192x1, .f32⟩
  | .hbm, ⟨73, _⟩ => ⟨S4x8192x1, .f32⟩
  | .hbm, ⟨74, _⟩ => ⟨S4x1x8192x1, .f32⟩
  | .hbm, ⟨75, _⟩ => ⟨S4x8192x1, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v18 : Ref sig .tc := ⟨.hbm, 37, rfl⟩
abbrev main_call2_cst : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_2 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩

abbrev nD : Nat := 1
abbrev τ : Topo := Topo.v7x

variable {F : FTy → Type} [FloatOps F]
-- ==== MergeFwd.lean ====
abbrev S8192x2048 : Shape := ⟨2, ![8192, 2048]⟩
abbrev S8192x1024 : Shape := ⟨2, ![8192, 1024]⟩
abbrev S1x2048 : Shape := ⟨2, ![1, 2048]⟩
abbrev S1x1024 : Shape := ⟨2, ![1, 1024]⟩
abbrev S256x1024 : Shape := ⟨2, ![256, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x2048, .f32⟩
  | .hbm, ⟨4, _⟩ => ⟨S1x1024, .f32⟩
  | .hbm, ⟨5, _⟩ => ⟨S1x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFwdRefIdeal.lean ====
abbrev S8192x2048 : Shape := ⟨2, ![8192, 2048]⟩
abbrev S8192x1024 : Shape := ⟨2, ![8192, 1024]⟩
abbrev S1x2048 : Shape := ⟨2, ![1, 2048]⟩
abbrev S1x1024 : Shape := ⟨2, ![1, 1024]⟩
abbrev S1024 : Shape := ⟨1, ![1024]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x2048, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== ConvFwd.lean ====
abbrev S8192x2048 : Shape := ⟨2, ![8192, 2048]⟩
abbrev S4x1536 : Shape := ⟨2, ![4, 1536]⟩
abbrev S8192x1536 : Shape := ⟨2, ![8192, 1536]⟩
abbrev S256x1536 : Shape := ⟨2, ![256, 1536]⟩
abbrev S8x1536 : Shape := ⟨2, ![8, 1536]⟩
abbrev S264x1536 : Shape := ⟨2, ![264, 1536]⟩
abbrev S1x1536 : Shape := ⟨2, ![1, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S4x1536, .f32⟩
  | .hbm, ⟨2, _⟩ => ⟨S8192x1536, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S4x1536, .f32⟩
  | .local _ .vmem, ⟨5, _⟩ => ⟨S256x1536, .f32⟩
  | .local _ .vmem, ⟨6, _⟩ => ⟨S256x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvFwdRefIdeal.lean ====
abbrev S8192x2048 : Shape := ⟨2, ![8192, 2048]⟩
abbrev S4x1536 : Shape := ⟨2, ![4, 1536]⟩
abbrev S_ : Shape := ⟨0, ![]⟩
abbrev S3x1536 : Shape := ⟨2, ![3, 1536]⟩
abbrev S8192x1536 : Shape := ⟨2, ![8192, 1536]⟩
abbrev S8195x1536 : Shape := ⟨2, ![8195, 1536]⟩
abbrev S1x1536 : Shape := ⟨2, ![1, 1536]⟩
abbrev S1536 : Shape := ⟨1, ![1536]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1536, .f32⟩
  | .hbm, ⟨2, _⟩ => ⟨S_, .f32⟩
  | .hbm, ⟨3, _⟩ => ⟨S3x1536, .f32⟩
  | .hbm, ⟨4, _⟩ => ⟨S8192x1536, .f32⟩
  | .hbm, ⟨5, _⟩ => ⟨S8195x1536, .f32⟩
  | .hbm, ⟨6, _⟩ => ⟨S1x1536, .f32⟩
  | .hbm, ⟨7, _⟩ => ⟨S1536, .f32⟩
  | .hbm, ⟨8, _⟩ => ⟨S8192x1536, .f32⟩
  | .hbm, ⟨9, _⟩ => ⟨S1x1536, .f32⟩
  | .hbm, ⟨10, _⟩ => ⟨S8192x1536, .f32⟩
  | .hbm, ⟨11, _⟩ => ⟨S8192x1536, .f32⟩
  | .hbm, ⟨12, _⟩ => ⟨S_, .f32⟩
  | .hbm, ⟨13, _⟩ => ⟨S8192x1536, .f32⟩
  | .hbm, ⟨14, _⟩ => ⟨S8192x1536, .f32⟩
  | .hbm, ⟨15, _⟩ => ⟨S1x1536, .f32⟩
  | .hbm, ⟨16, _⟩ => ⟨S1536, .f32⟩
  | .hbm, ⟨17, _⟩ => ⟨S8192x1536, .f32⟩
  | .hbm, ⟨18, _⟩ => ⟨S1x1536, .f32⟩
  | .hbm, ⟨19, _⟩ => ⟨S8192x1536, .f32⟩
  | .hbm, ⟨20, _⟩ => ⟨S8192x1536, .f32⟩
  | .hbm, ⟨21, _⟩ => ⟨S8192x1536, .f32⟩
  | .hbm, ⟨22, _⟩ => ⟨S1x1536, .f32⟩
  | .hbm, ⟨23, _⟩ => ⟨S1536, .f32⟩
  | .hbm, ⟨24, _⟩ => ⟨S8192x1536, .f32⟩
  | .hbm, ⟨25, _⟩ => ⟨S1x1536, .f32⟩
  | .hbm, ⟨26, _⟩ => ⟨S8192x1536, .f32⟩
  | .hbm, ⟨27, _⟩ => ⟨S8192x1536, .f32⟩
  | .hbm, ⟨28, _⟩ => ⟨S8192x1536, .f32⟩
  | .hbm, ⟨29, _⟩ => ⟨S1x1536, .f32⟩
  | .hbm, ⟨30, _⟩ => ⟨S1536, .f32⟩
  | .hbm, ⟨31, _⟩ => ⟨S8192x1536, .f32⟩
  | .hbm, ⟨32, _⟩ => ⟨S1x1536, .f32⟩
  | .hbm, ⟨33, _⟩ => ⟨S8192x1536, .f32⟩
  | .hbm, ⟨34, _⟩ => ⟨S8192x1536, .f32⟩
  | .hbm, ⟨35, _⟩ => ⟨S8192x1536, .f32⟩
  | .hbm, ⟨36, _⟩ => ⟨S8192x1536, .f32⟩
  | .hbm, ⟨37, _⟩ => ⟨S8192x1536, .f32⟩
  | .hbm, ⟨38, _⟩ => ⟨S_, .f32⟩
  | .hbm, ⟨39, _⟩ => ⟨S8192x1536, .f32⟩
  | .hbm, ⟨40, _⟩ => ⟨S8192x1536, .f32⟩
  | .hbm, ⟨41, _⟩ => ⟨S_, .f32⟩
  | .hbm, ⟨42, _⟩ => ⟨S8192x1536, .f32⟩
  | .hbm, ⟨43, _⟩ => ⟨S8192x1536, .f32⟩
  | .hbm, ⟨44, _⟩ => ⟨S8192x1536, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== FfnLnFwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnLnFwdRefIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== MixLnFwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixLnFwdRefIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== FfnUp.lean ====
abbrev S8192x1024 : Shape := ⟨2, ![8192, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S4x8192x704 : Shape := ⟨3, ![4, 8192, 704]⟩
abbrev S2x4x8192x704 : Shape := ⟨4, ![2, 4, 8192, 704]⟩
abbrev S1024x1024 : Shape := ⟨2, ![1024, 1024]⟩
abbrev S1x1024x704 : Shape := ⟨3, ![1, 1024, 704]⟩
abbrev S2x1x1024x704 : Shape := ⟨4, ![2, 1, 1024, 704]⟩
abbrev S1024x704 : Shape := ⟨2, ![1024, 704]⟩
abbrev S1x1x1024x704 : Shape := ⟨4, ![1, 1, 1024, 704]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S1024x8x704, .bf16⟩
  | .hbm, ⟨4, _⟩ => ⟨S8x1024x704, .bf16⟩
  | .hbm, ⟨5, _⟩ => ⟨S8192x1024, .bf16⟩
  | .hbm, ⟨6, _⟩ => ⟨S4x8192x704, .bf16⟩
  | .hbm, ⟨7, _⟩ => ⟨S2x4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S2x1x1024x704, .bf16⟩
  | .local _ .vmem, ⟨9, _⟩ => ⟨S2x1x1024x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩
abbrev S8192x2x4x704 : Shape := ⟨4, ![8192, 2, 4, 704]⟩
abbrev S2x4x8192x704 : Shape := ⟨4, ![2, 4, 8192, 704]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x4x704, .f32⟩
  | .hbm, ⟨16, _⟩ => ⟨S4x8192x704, .f32⟩
  | .hbm, ⟨17, _⟩ => ⟨S4x8192x704, .bf16⟩
  | .hbm, ⟨18, _⟩ => ⟨S8192x2x4x704, .f32⟩
  | .hbm, ⟨19, _⟩ => ⟨S2x4x8192x704, .f32⟩
  | .hbm, ⟨20, _⟩ => ⟨S2x4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== AdamW.lean ====
abbrev S4x1024x704 : Shape := ⟨3, ![4, 1024, 704]⟩
abbrev S1024x704 : Shape := ⟨2, ![1024, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 9
  | .vmem => 16
  | .smem => 0
  | _ => 0

abbrev bufTy : (tb : Table) → Fin (tcTables nBuf tb) → BufTy
  | .hbm, ⟨0, _⟩ => ⟨S4x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S4x1024x704, .bf16⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S4x256x704, .bf16⟩
  | .local _ .vmem, ⟨1, _⟩ => ⟨S4x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S4x1024x704 : Shape := ⟨3, ![4, 1024, 704]⟩
abbrev S1024x704 : Shape := ⟨2, ![1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== MixGates.lean ====
abbrev S8192x1024 : Shape := ⟨2, ![8192, 1024]⟩
abbrev S1024x5760 : Shape := ⟨2, ![1024, 5760]⟩
abbrev S8192x2048 : Shape := ⟨2, ![8192, 2048]⟩
abbrev S1024x1024 : Shape := ⟨2, ![1024, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5760, .f32⟩
  | .hbm, ⟨2, _⟩ => ⟨S8192x1024, .bf16⟩
  | .hbm, ⟨3, _⟩ => ⟨S1024x5760, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg1 c7_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixGatesRefIdeal.lean ====
abbrev S8192x1024 : Shape := ⟨2, ![8192, 1024]⟩
abbrev S1024x5760 : Shape := ⟨2, ![1024, 5760]⟩
abbrev S8192x5760 : Shape := ⟨2, ![8192, 5760]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5760, .f32⟩
  | .hbm, ⟨2, _⟩ => ⟨S8192x5760, .f32⟩
  | .hbm, ⟨3, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixInBwd.lean ====
abbrev S8192x5760 : Shape := ⟨2, ![8192, 5760]⟩
abbrev S1024x5760 : Shape := ⟨2, ![1024, 5760]⟩
abbrev S8192x1024 : Shape := ⟨2, ![8192, 1024]⟩
abbrev S1024x1152 : Shape := ⟨2, ![1024, 1152]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5760, .f32⟩
  | .hbm, ⟨1, _⟩ => ⟨S1024x5760, .f32⟩
  | .hbm, ⟨2, _⟩ => ⟨S8192x5760, .bf16⟩
  | .hbm, ⟨3, _⟩ => ⟨S1024x5760, .bf16⟩
  | .hbm, ⟨4, _⟩ => ⟨S8192x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInBwdRefIdeal.lean ====
abbrev S8192x5760 : Shape := ⟨2, ![8192, 5760]⟩
abbrev S1024x5760 : Shape := ⟨2, ![1024, 5760]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5760, .f32⟩
  | .hbm, ⟨1, _⟩ => ⟨S1024x5760, .f32⟩
  | .hbm, ⟨2, _⟩ => ⟨S_, .f32⟩
  | .hbm, ⟨3, _⟩ => ⟨S8192x1024, .f32⟩
  | .hbm, ⟨4, _⟩ => ⟨S8192x5760, .f32⟩
  | .hbm, ⟨5, _⟩ => ⟨S8192x1024, .f32⟩
  | _, _ => ⟨S8192x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixDw.lean ====
abbrev S8192x1024 : Shape := ⟨2, ![8192, 1024]⟩
abbrev S8192x5760 : Shape := ⟨2, ![8192, 5760]⟩
abbrev S1024x5760 : Shape := ⟨2, ![1024, 5760]⟩
abbrev S1024x1024 : Shape := ⟨2, ![1024, 1024]⟩
abbrev S1024x640 : Shape := ⟨2, ![1024, 640]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5760, .f32⟩
  | .hbm, ⟨2, _⟩ => ⟨S8192x1024, .bf16⟩
  | .hbm, ⟨3, _⟩ => ⟨S8192x5760, .bf16⟩
  | .hbm, ⟨4, _⟩ => ⟨S1024x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwRefIdeal.lean ====
abbrev S8192x1024 : Shape := ⟨2, ![8192, 1024]⟩
abbrev S8192x5760 : Shape := ⟨2, ![8192, 5760]⟩
abbrev S_ : Shape := ⟨0, ![]⟩
abbrev S1024x5760 : Shape := ⟨2, ![1024, 5760]⟩
abbrev S5760x1024 : Shape := ⟨2, ![5760, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5760, .f32⟩
  | .hbm, ⟨2, _⟩ => ⟨S_, .f32⟩
  | .hbm, ⟨3, _⟩ => ⟨S1024x5760, .f32⟩
  | .hbm, ⟨4, _⟩ => ⟨S8192x5760, .f32⟩
  | .hbm, ⟨5, _⟩ => ⟨S5760x1024, .f32⟩
  | .hbm, ⟨6, _⟩ => ⟨S1024x5760, .f32⟩
  | .hbm, ⟨7, _⟩ => ⟨S1024x5760, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S8192x1024 : Shape := ⟨2, ![8192, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S8192x4x704, .bf16⟩
  | .hbm, ⟨4, _⟩ => ⟨S4x8192x704, .bf16⟩
  | .hbm, ⟨5, _⟩ => ⟨S2816x1024, .bf16⟩
  | .hbm, ⟨6, _⟩ => ⟨S4x704x1024, .bf16⟩
  | .hbm, ⟨7, _⟩ => ⟨S8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnDwOut.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x4x704, .bf16⟩
  | .hbm, ⟨4, _⟩ => ⟨S4x8192x704, .bf16⟩
  | .hbm, ⟨5, _⟩ => ⟨S8192x1024, .bf16⟩
  | .hbm, ⟨6, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwOutRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDwIn.lean ====
abbrev S8192x1024 : Shape := ⟨2, ![8192, 1024]⟩
abbrev S8192x5632 : Shape := ⟨2, ![8192, 5632]⟩
abbrev S8192x8x704 : Shape := ⟨3, ![8192, 8, 704]⟩
abbrev S8x8192x704 : Shape := ⟨3, ![8, 8192, 704]⟩
abbrev S8x1024x704 : Shape := ⟨3, ![8, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x5632, .bf16⟩
  | .hbm, ⟨3, _⟩ => ⟨S8192x8x704, .bf16⟩
  | .hbm, ⟨4, _⟩ => ⟨S8x8192x704, .bf16⟩
  | .hbm, ⟨5, _⟩ => ⟨S8192x1024, .bf16⟩
  | .hbm, ⟨6, _⟩ => ⟨S8x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwInRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x8x704, .f32⟩
  | .hbm, ⟨8, _⟩ => ⟨S8x1024x704, .f32⟩
  | .hbm, ⟨9, _⟩ => ⟨S8x1024x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnInBwd.lean ====
abbrev S8192x5632 : Shape := ⟨2, ![8192, 5632]⟩
abbrev S1024x5632 : Shape := ⟨2, ![1024, 5632]⟩
abbrev S8192x8x704 : Shape := ⟨3, ![8192, 8, 704]⟩
abbrev S8x8192x704 : Shape := ⟨3, ![8, 8192, 704]⟩
abbrev S1024x8x704 : Shape := ⟨3, ![1024, 8, 704]⟩
abbrev S8x1024x704 : Shape := ⟨3, ![8, 1024, 704]⟩
abbrev S8192x1024 : Shape := ⟨2, ![8192, 1024]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 9
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x5632, .bf16⟩
  | .hbm, ⟨3, _⟩ => ⟨S8192x8x704, .bf16⟩
  | .hbm, ⟨4, _⟩ => ⟨S8x8192x704, .bf16⟩
  | .hbm, ⟨5, _⟩ => ⟨S1024x5632, .bf16⟩
  | .hbm, ⟨6, _⟩ => ⟨S1024x8x704, .bf16⟩
  | .hbm, ⟨7, _⟩ => ⟨S8x1024x704, .bf16⟩
  | .hbm, ⟨8, _⟩ => ⟨S8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInBwdRefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PairAdd.lean ====
abbrev S1 : Shape := ⟨1, ![1]⟩
abbrev S8x1024x704 : Shape := ⟨3, ![8, 1024, 704]⟩
abbrev S4x1024x704 : Shape := ⟨3, ![4, 1024, 704]⟩
abbrev S4x2x1024x704 : Shape := ⟨4, ![4, 2, 1024, 704]⟩
abbrev S1x1x256x704 : Shape := ⟨4, ![1, 1, 256, 704]⟩
abbrev S1x256x704 : Shape := ⟨3, ![1, 256, 704]⟩
abbrev S256x704 : Shape := ⟨2, ![256, 704]⟩

abbrev nBuf : Space → Nat
  | .hbm => 6
  | .vmem => 6
  | .smem => 1
  | _ => 0

abbrev bufTy : (tb : Table) → Fin (tcTables nBuf tb) → BufTy
  | .hbm, ⟨0, _⟩ => ⟨S8x1024x704, .f32⟩
  | .hbm, ⟨1, _⟩ => ⟨S4x1024x704, .f32⟩
  | .hbm, ⟨2, _⟩ => ⟨S8x1024x704, .bf16⟩
  | .hbm, ⟨3, _⟩ => ⟨S4x1024x704, .bf16⟩
  | .hbm, ⟨4, _⟩ => ⟨S4x2x1024x704, .bf16⟩
  | .hbm, ⟨5, _⟩ => ⟨S4x1024x704, .bf16⟩
  | .local _ .vmem, ⟨0, _⟩ => ⟨S1x1x256x704, .bf16⟩
  | .local _ .vmem, ⟨1, _⟩ => ⟨S1x1x256x704, .bf16⟩
  | .local _ .vmem, ⟨2, _⟩ => ⟨S1x256x704, .bf16⟩
  | .local _ .vmem, ⟨3, _⟩ => ⟨S1x256x704, .bf16⟩
  | .local _ .vmem, ⟨4, _⟩ => ⟨S1x256x704, .bf16⟩
  | .local _ .vmem, ⟨5, _⟩ => ⟨S1x256x704, .bf16⟩
  | .local _ .smem, ⟨0, _⟩ => ⟨S1, .i32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddRefIdeal.lean ====
abbrev S1 : Shape := ⟨1, ![1]⟩
abbrev S8x1024x704 : Shape := ⟨3, ![8, 1024, 704]⟩
abbrev S4x1024x704 : Shape := ⟨3, ![4, 1024, 704]⟩
abbrev S4x2x1024x704 : Shape := ⟨4, ![4, 2, 1024, 704]⟩
abbrev S_ : Shape := ⟨0, ![]⟩
abbrev S4x1x1024x704 : Shape := ⟨4, ![4, 1, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x704, .f32⟩
  | .hbm, ⟨2, _⟩ => ⟨S4x1024x704, .f32⟩
  | .hbm, ⟨3, _⟩ => ⟨S4x2x1024x704, .f32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x1x1024x704, .f32⟩
  | .hbm, ⟨8, _⟩ => ⟨S4x1024x704, .f32⟩
  | .hbm, ⟨9, _⟩ => ⟨S4x1x1024x704, .f32⟩
  | .hbm, ⟨10, _⟩ => ⟨S4x1024x704, .f32⟩
  | .hbm, ⟨11, _⟩ => ⟨S4x1024x704, .f32⟩
  | .hbm, ⟨12, _⟩ => ⟨S4x1024x704, .f32⟩
  | .hbm, ⟨13, _⟩ => ⟨S4x1024x704, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Merge.lean ====
/- The gates' backward call: every result array of the kernel is the reference's term.  The two
programs differ in the order of the factors of a product and in the column sums, which the kernel
adds up over 32 blocks of 256 rows. -/
module

public import proofs.«01_k».proof.Proof.Gen.MergeBwdIdeal.Value
public import proofs.«01_k».proof.Defs
public import proofs.«01_k».proof.Proof.Gen.MergeBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MergeBwdIdeal.Value
open Cert.MergeBwdIdeal Cert.MergeBwdIdeal.Gen

variable (m : (ℓ : Loc nD τ sig) → Buf (Elt Ideal) ℓ)

/-- The block index of every window at every point. -/
theorem idx_val : ∀ t : Fin cfg0.N, win0_0.index t = ![t.val, 0]
    ∧ win0_1.index t = ![t.val, 0]
    ∧ win0_2.index t = ![t.val, 1]
    ∧ win0_3.index t = ![t.val, 0]
    ∧ win0_4.index t = ![t.val, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![t.val, 0]
    ∧ win0_11.index t = ![0, 0]
    ∧ win0_12.index t = ![0, 0] :=
  (by decide +kernel : ∀ t : Fin grid0.N, _)

/-- The reference's result `main_v49` over the arguments it reads. -/
abbrev R49 (a0 : FVec Ideal Cert.MergeBwdRefIdeal.S8192x1024 .f32) (a1 : FVec Ideal Cert.MergeBwdRefIdeal.S8192x2048 .f32) (a2 : FVec Ideal Cert.MergeBwdRefIdeal.S8192x1024 .f32) (a4 : FVec Ideal Cert.MergeBwdRefIdeal.S1x2048 .f32) :
    FVec Ideal Cert.MergeBwdRefIdeal.S8192x1024 .bf16 := Cert.MergeBwdRefIdeal.Read.val_main_v49 (F := Ideal) a0 a1 a2 a4

/-- The reference's result `main_v50` over the arguments it reads. -/
abbrev R50 (a0 : FVec Ideal Cert.MergeBwdRefIdeal.S8192x1024 .f32) (a1 : FVec Ideal Cert.MergeBwdRefIdeal.S8192x2048 .f32) (a3 : FVec Ideal Cert.MergeBwdRefIdeal.S8192x1024 .f32) (a4 : FVec Ideal Cert.MergeBwdRefIdeal.S1x2048 .f32) :
    FVec Ideal Cert.MergeBwdRefIdeal.S8192x1024 .bf16 := Cert.MergeBwdRefIdeal.Read.val_main_v50 (F := Ideal) a0 a1 a3 a4

/-- The reference's result `main_v51` over the arguments it reads. -/
abbrev R51 (a0 : FVec Ideal Cert.MergeBwdRefIdeal.S8192x1024 .f32) (a1 : FVec Ideal Cert.MergeBwdRefIdeal.S8192x2048 .f32) (a4 : FVec Ideal Cert.MergeBwdRefIdeal.S1x2048 .f32) :
    FVec Ideal Cert.MergeBwdRefIdeal.S8192x1024 .bf16 := Cert.MergeBwdRefIdeal.Read.val_main_v51 (F := Ideal) a0 a1 a4

/-- The reference's result `main_v52` over the arguments it reads. -/
abbrev R52 (a0 : FVec Ideal Cert.MergeBwdRefIdeal.S8192x1024 .f32) (a1 : FVec Ideal Cert.MergeBwdRefIdeal.S8192x2048 .f32) (a4 : FVec Ideal Cert.MergeBwdRefIdeal.S1x2048 .f32) :
    FVec Ideal Cert.MergeBwdRefIdeal.S8192x1024 .bf16 := Cert.MergeBwdRefIdeal.Read.val_main_v52 (F := Ideal) a0 a1 a4

/-- The reference's result `main_v54` over the arguments it reads. -/
abbrev R54 (a0 : FVec Ideal Cert.MergeBwdRefIdeal.S8192x1024 .f32) (a1 : FVec Ideal Cert.MergeBwdRefIdeal.S8192x2048 .f32) (a2 : FVec Ideal Cert.MergeBwdRefIdeal.S8192x1024 .f32) (a3 : FVec Ideal Cert.MergeBwdRefIdeal.S8192x1024 .f32) (a4 : FVec Ideal Cert.MergeBwdRefIdeal.S1x2048 .f32) :
    FVec Ideal Cert.MergeBwdRefIdeal.S1x1024 .f32 := Cert.MergeBwdRefIdeal.Read.val_main_v54 (F := Ideal) a0 a1 a2 a3 a4

/-- The reference's result `main_v56` over the arguments it reads. -/
abbrev R56 (a0 : FVec Ideal Cert.MergeBwdRefIdeal.S8192x1024 .f32) (a1 : FVec Ideal Cert.MergeBwdRefIdeal.S8192x2048 .f32) (a2 : FVec Ideal Cert.MergeBwdRefIdeal.S8192x1024 .f32) (a3 : FVec Ideal Cert.MergeBwdRefIdeal.S8192x1024 .f32) (a4 : FVec Ideal Cert.MergeBwdRefIdeal.S1x2048 .f32) :
    FVec Ideal Cert.MergeBwdRefIdeal.S1x1024 .f32 := Cert.MergeBwdRefIdeal.Read.val_main_v56 (F := Ideal) a0 a1 a2 a3 a4

section
open Cert.MergeBwdRefIdeal.Read

/-- Row `r` of block `t`, as stored by window 7, is row `t * 256 + r` of the reference. -/
theorem core7 (c : Dev nD) (t : Fin cfg0.N) (r : Fin 256) (l : Fin 1024) (i : S8192x1024.Idx)
    (h0 : (i 0 : ℕ) = t.val * 256 + r.val) (h1 : (i 1 : ℕ) = l.val) :
    k0_pay11 (iblk m c 0 t) (iblk m c 1 t) (iblk m c 3 t) (iblk m c 5 t) (ix2 r l) =
      R49 (m ((c : Thread nD τ).loc main_arg0)) (m ((c : Thread nD τ).loc main_arg1)) (m ((c : Thread nD τ).loc main_arg2)) (m ((c : Thread nD τ).loc main_arg4)) i := by
  pointwise [k0_pay11, k0_pay9, R49, val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_cst_2, val_main_v22, val_main_v23, val_main_cst_3, val_main_v24, val_main_v25, val_main_cst_4, val_main_v26, val_main_v27, val_main_v28, val_main_v29, val_main_v30, val_main_v31, val_main_v32, val_main_v33, val_main_v34, val_main_v35, val_main_v36, val_main_v37, val_main_v38, val_main_cst_5, val_main_v39, val_main_v40, val_main_cst_6, val_main_v41, val_main_cst_7, val_main_v42, val_main_v43, val_main_cst_8, val_main_v44, val_main_v45, val_main_cst_9, val_main_v46, val_main_cst_10, val_main_v47, val_main_v48, val_main_v49, val_main_v50, val_main_v51, val_main_v52, val_main_v53, val_main_v54, val_main_v55, val_main_v56]
  simp only [zero_sub, mul_assoc]
  blk_point [iblk, V, idx_val t]

/-- Row `r` of block `t`, as stored by window 8, is row `t * 256 + r` of the reference. -/
theorem core8 (c : Dev nD) (t : Fin cfg0.N) (r : Fin 256) (l : Fin 1024) (i : S8192x1024.Idx)
    (h0 : (i 0 : ℕ) = t.val * 256 + r.val) (h1 : (i 1 : ℕ) = l.val) :
    k0_pay12 (iblk m c 0 t) (iblk m c 2 t) (iblk m c 4 t) (iblk m c 6 t) (ix2 r l) =
      R50 (m ((c : Thread nD τ).loc main_arg0)) (m ((c : Thread nD τ).loc main_arg1)) (m ((c : Thread nD τ).loc main_arg3)) (m ((c : Thread nD τ).loc main_arg4)) i := by
  pointwise [k0_pay12, k0_pay10, R50, val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_cst_2, val_main_v22, val_main_v23, val_main_cst_3, val_main_v24, val_main_v25, val_main_cst_4, val_main_v26, val_main_v27, val_main_v28, val_main_v29, val_main_v30, val_main_v31, val_main_v32, val_main_v33, val_main_v34, val_main_v35, val_main_v36, val_main_v37, val_main_v38, val_main_cst_5, val_main_v39, val_main_v40, val_main_cst_6, val_main_v41, val_main_cst_7, val_main_v42, val_main_v43, val_main_cst_8, val_main_v44, val_main_v45, val_main_cst_9, val_main_v46, val_main_cst_10, val_main_v47, val_main_v48, val_main_v49, val_main_v50, val_main_v51, val_main_v52, val_main_v53, val_main_v54, val_main_v55, val_main_v56]
  simp only [zero_sub, mul_assoc]
  blk_point [iblk, V, idx_val t]

/-- Row `r` of block `t`, as stored by window 9, is row `t * 256 + r` of the reference. -/
theorem core9 (c : Dev nD) (t : Fin cfg0.N) (r : Fin 256) (l : Fin 1024) (i : S8192x1024.Idx)
    (h0 : (i 0 : ℕ) = t.val * 256 + r.val) (h1 : (i 1 : ℕ) = l.val) :
    k0_pay5 (iblk m c 0 t) (k0_pay9 (iblk m c 1 t) (iblk m c 5 t)) (ix2 r l) =
      R51 (m ((c : Thread nD τ).loc main_arg0)) (m ((c : Thread nD τ).loc main_arg1)) (m ((c : Thread nD τ).loc main_arg4)) i := by
  pointwise [k0_pay5, k0_pay9, R51, val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_cst_2, val_main_v22, val_main_v23, val_main_cst_3, val_main_v24, val_main_v25, val_main_cst_4, val_main_v26, val_main_v27, val_main_v28, val_main_v29, val_main_v30, val_main_v31, val_main_v32, val_main_v33, val_main_v34, val_main_v35, val_main_v36, val_main_v37, val_main_v38, val_main_cst_5, val_main_v39, val_main_v40, val_main_cst_6, val_main_v41, val_main_cst_7, val_main_v42, val_main_v43, val_main_cst_8, val_main_v44, val_main_v45, val_main_cst_9, val_main_v46, val_main_cst_10, val_main_v47, val_main_v48, val_main_v49, val_main_v50, val_main_v51, val_main_v52, val_main_v53, val_main_v54, val_main_v55, val_main_v56]
  simp only [zero_sub, mul_assoc]
  blk_point [iblk, V, idx_val t]

/-- Row `r` of block `t`, as stored by window 10, is row `t * 256 + r` of the reference. -/
theorem core10 (c : Dev nD) (t : Fin cfg0.N) (r : Fin 256) (l : Fin 1024) (i : S8192x1024.Idx)
    (h0 : (i 0 : ℕ) = t.val * 256 + r.val) (h1 : (i 1 : ℕ) = l.val) :
    k0_pay6 (iblk m c 0 t) (k0_pay10 (iblk m c 2 t) (iblk m c 6 t)) (ix2 r l) =
      R52 (m ((c : Thread nD τ).loc main_arg0)) (m ((c : Thread nD τ).loc main_arg1)) (m ((c : Thread nD τ).loc main_arg4)) i := by
  pointwise [k0_pay6, k0_pay10, R52, val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_cst_2, val_main_v22, val_main_v23, val_main_cst_3, val_main_v24, val_main_v25, val_main_cst_4, val_main_v26, val_main_v27, val_main_v28, val_main_v29, val_main_v30, val_main_v31, val_main_v32, val_main_v33, val_main_v34, val_main_v35, val_main_v36, val_main_v37, val_main_v38, val_main_cst_5, val_main_v39, val_main_v40, val_main_cst_6, val_main_v41, val_main_cst_7, val_main_v42, val_main_v43, val_main_cst_8, val_main_v44, val_main_v45, val_main_cst_9, val_main_v46, val_main_cst_10, val_main_v47, val_main_v48, val_main_v49, val_main_v50, val_main_v51, val_main_v52, val_main_v53, val_main_v54, val_main_v55, val_main_v56]
  simp only [zero_sub, mul_assoc]
  blk_point [iblk, V, idx_val t]

/-- The reference's gradient of a bias is the column sum of the gradient of the gate. -/
theorem href54 (a0 a1 a2 a3 a4 j) : R54 a0 a1 a2 a3 a4 j = ∑ r : Fin 8192, R49 a0 a1 a2 a4 (ix2 r (j 1)) := by
  idx_vars j
  pointwise [R54, R49, val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_cst_2, val_main_v22, val_main_v23, val_main_cst_3, val_main_v24, val_main_v25, val_main_cst_4, val_main_v26, val_main_v27, val_main_v28, val_main_v29, val_main_v30, val_main_v31, val_main_v32, val_main_v33, val_main_v34, val_main_v35, val_main_v36, val_main_v37, val_main_v38, val_main_cst_5, val_main_v39, val_main_v40, val_main_cst_6, val_main_v41, val_main_cst_7, val_main_v42, val_main_v43, val_main_cst_8, val_main_v44, val_main_v45, val_main_cst_9, val_main_v46, val_main_cst_10, val_main_v47, val_main_v48, val_main_v49, val_main_v50, val_main_v51, val_main_v52, val_main_v53, val_main_v54, val_main_v55, val_main_v56]
  simp

/-- The reference's gradient of a bias is the column sum of the gradient of the gate. -/
theorem href56 (a0 a1 a2 a3 a4 j) : R56 a0 a1 a2 a3 a4 j = ∑ r : Fin 8192, R50 a0 a1 a3 a4 (ix2 r (j 1)) := by
  idx_vars j
  pointwise [R56, R50, val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_cst_2, val_main_v22, val_main_v23, val_main_cst_3, val_main_v24, val_main_v25, val_main_cst_4, val_main_v26, val_main_v27, val_main_v28, val_main_v29, val_main_v30, val_main_v31, val_main_v32, val_main_v33, val_main_v34, val_main_v35, val_main_v36, val_main_v37, val_main_v38, val_main_cst_5, val_main_v39, val_main_v40, val_main_cst_6, val_main_v41, val_main_cst_7, val_main_v42, val_main_v43, val_main_cst_8, val_main_v44, val_main_v45, val_main_cst_9, val_main_v46, val_main_cst_10, val_main_v47, val_main_v48, val_main_v49, val_main_v50, val_main_v51, val_main_v52, val_main_v53, val_main_v54, val_main_v55, val_main_v56]
  simp

end

theorem hpay1 (x : FVec Ideal S256x1024 .f32) (j) : k0_pay1 x j = 0 + ∑ r : Fin 256, x (ix2 r (j 1)) := by
  pointwise [k0_pay1]

theorem hpay7 (x : FVec Ideal S256x1024 .f32) (a : FVec Ideal S1x1024 .f32) (j) :
    k0_pay7 x a j = a j + ∑ r : Fin 256, x (ix2 r (j 1)) := by
  pointwise [k0_pay7, k0_pay1]

theorem hpay2 (x : FVec Ideal S256x1024 .f32) (j) : k0_pay2 x j = 0 + ∑ r : Fin 256, x (ix2 r (j 1)) := by
  pointwise [k0_pay2]

theorem hpay8 (x : FVec Ideal S256x1024 .f32) (a : FVec Ideal S1x1024 .f32) (j) :
    k0_pay8 x a j = a j + ∑ r : Fin 256, x (ix2 r (j 1)) := by
  pointwise [k0_pay8, k0_pay2]

/-- The result array of window 7. -/
theorem final7 (c : Dev nD) : (dats m 0 c).arrAt 7 (cfgs 0).N =
    R49 (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  rw [after0_7]
  have h32 := lt_of_lt_of_eq t.isLt N_0
  have key := core7 m c t (y 0) (y 1) (((cfg0.win 7).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The result array of window 8. -/
theorem final8 (c : Dev nD) : (dats m 0 c).arrAt 8 (cfgs 0).N =
    R50 (m ((c : Thread nD τ).loc main_arg0)) (m ((c : Thread nD τ).loc main_arg1)) (m ((c : Thread nD τ).loc main_arg3)) (m ((c : Thread nD τ).loc main_arg4)) := by
  refine (dats m 0 c).arrAt_eq_of_covers 8 _ (by decide +kernel) fun t hf y => ?_
  blk_simp
  rw [after0_8]
  have h32 := lt_of_lt_of_eq t.isLt N_0
  have key := core8 m c t (y 0) (y 1) (((cfg0.win 8).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The result array of window 9. -/
theorem final9 (c : Dev nD) : (dats m 0 c).arrAt 9 (cfgs 0).N =
    R51 (m ((c : Thread nD τ).loc main_arg0)) (m ((c : Thread nD τ).loc main_arg1)) (m ((c : Thread nD τ).loc main_arg4)) := by
  refine (dats m 0 c).arrAt_eq_of_covers 9 _ (by decide +kernel) fun t hf y => ?_
  blk_simp
  rw [after0_9]
  have h32 := lt_of_lt_of_eq t.isLt N_0
  have key := core9 m c t (y 0) (y 1) (((cfg0.win 9).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The result array of window 10. -/
theorem final10 (c : Dev nD) : (dats m 0 c).arrAt 10 (cfgs 0).N =
    R52 (m ((c : Thread nD τ).loc main_arg0)) (m ((c : Thread nD τ).loc main_arg1)) (m ((c : Thread nD τ).loc main_arg4)) := by
  refine (dats m 0 c).arrAt_eq_of_covers 10 _ (by decide +kernel) fun t hf y => ?_
  blk_simp
  rw [after0_10]
  have h32 := lt_of_lt_of_eq t.isLt N_0
  have key := core10 m c t (y 0) (y 1) (((cfg0.win 10).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The result array of window 11: the sums over the blocks are the sum over all rows. -/
theorem final11 (c : Dev nD) : (dats m 0 c).arrAt 11 (cfgs 0).N =
    R54 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  blk_simp
  rw [after0_11, Pipeline.eq_sum_fin_of_reset_step_apply_of_flush (fun n h => (outsAt0 m c n h).2.2.2.2.1) 32 (fun _ => 0) _
    (fun t h j => by rw [outsAt0_A m c t h (by have := lt_of_lt_of_eq t.isLt N_0; omega)]; frame_out; rw [hpay1])
    (fun t h j => by rw [outsAt0_B m c t h (by omega)]; frame_out; rw [hpay7])
    t ((flush0_11 t).mp hf) _, zero_add, href54]
  have ht := lt_of_lt_of_eq t.isLt N_0
  refine Fin.sum_mul_add_congr fun s k hl => ?_
  refine core7 m c _ k (y 1) _ ?_ ?_
  · show s.val * 256 + k.val = (32 * (t.val / 32) + s.val) * 256 + k.val; omega
  · blk_simp [idx_val t]

/-- The result array of window 12: the sums over the blocks are the sum over all rows. -/
theorem final12 (c : Dev nD) : (dats m 0 c).arrAt 12 (cfgs 0).N =
    R56 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 32 (fun _ => 0) _
    (fun t h j => by rw [outsAt0_A m c t h (by have := lt_of_lt_of_eq t.isLt N_0; omega)]; frame_out; rw [hpay2])
    (fun t h j => by rw [outsAt0_B m c t h (by omega)]; frame_out; rw [hpay8])
    t ((flush0_12 t).mp hf) _, zero_add, href56]
  have ht := lt_of_lt_of_eq t.isLt N_0
  refine Fin.sum_mul_add_congr fun s k hl => ?_
  refine core8 m c _ k (y 1) _ ?_ ?_
  · show s.val * 256 + k.val = (32 * (t.val / 32) + s.val) * 256 + k.val; omega
  · blk_simp [idx_val t]

/-- The kernel's run with every result named by the reference's term. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2_0) = R49 (m ((c : Thread nD τ).loc main_arg0)) (m ((c : Thread nD τ).loc main_arg1)) (m ((c : Thread nD τ).loc main_arg2)) (m ((c : Thread nD τ).loc main_arg4))
      ∧ r.2.mem ((c : Thread nD τ).loc main_v2_1) = R50 (m ((c : Thread nD τ).loc main_arg0)) (m ((c : Thread nD τ).loc main_arg1)) (m ((c : Thread nD τ).loc main_arg3)) (m ((c : Thread nD τ).loc main_arg4))
      ∧ r.2.mem ((c : Thread nD τ).loc main_v2_2) = R51 (m ((c : Thread nD τ).loc main_arg0)) (m ((c : Thread nD τ).loc main_arg1)) (m ((c : Thread nD τ).loc main_arg4))
      ∧ r.2.mem ((c : Thread nD τ).loc main_v2_3) = R52 (m ((c : Thread nD τ).loc main_arg0)) (m ((c : Thread nD τ).loc main_arg1)) (m ((c : Thread nD τ).loc main_arg4))
      ∧ r.2.mem ((c : Thread nD τ).loc main_v2_4) = R54 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v2_5) = R56 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h7, h8, h9, h10, h11, h12, hr⟩ := h c
    exact ⟨h7.trans (final7 m c), h8.trans (final8 m c), h9.trans (final9 m c), h10.trans (final10 m c),
      h11.trans (final11 m c), h12.trans (final12 m c), hr⟩) (run_blocks m ρ)

end Cert.MergeBwdIdeal.Value

namespace Cert.MergeBwdRefIdeal.Read
open Cert.MergeBwdRefIdeal Cert.MergeBwdRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = val_main_v49 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v50) = val_main_v50 (F := Ideal) (m ((c : Thread nD τ).loc main_arg0)) (m ((c : Thread nD τ).loc main_arg1)) (m ((c : Thread nD τ).loc main_arg3)) (m ((c : Thread nD τ).loc main_arg4))
      ∧ r.2.mem ((c.tc : Thread nD τ).loc main_v51) = val_main_v51 (F := Ideal) (m ((c : Thread nD τ).loc main_arg0)) (m ((c : Thread nD τ).loc main_arg1)) (m ((c : Thread nD τ).loc main_arg4))
      ∧ r.2.mem ((c.tc : Thread nD τ).loc main_v52) = val_main_v52 (F := Ideal) (m ((c : Thread nD τ).loc main_arg0)) (m ((c : Thread nD τ).loc main_arg1)) (m ((c : Thread nD τ).loc main_arg4))
      ∧ r.2.mem ((c.tc : Thread nD τ).loc main_v54) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v56) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h0, h1, h2, h3, h4, h5, hr⟩ := h c
    exact ⟨h0.trans (val_main_v49_eq _ _ _ _), h1.trans (val_main_v50_eq _ _ _ _), h2.trans (val_main_v51_eq _ _ _), h3.trans (val_main_v52_eq _ _ _), h4.trans (val_main_v54_eq _ _ _ _ _), h5.trans (val_main_v56_eq _ _ _ _ _), hr⟩) (Value.run m ρ)

/-- The reference terminates with its arguments unchanged. -/
theorem frame : Cert.quiescent_MergeBwdRefIdeal := fun m ρ _ =>
  (θ_run _ _ _).mono (fun r h => ⟨fun c => (h c).2.2.2.2.2.2, sem_eq_zero_of_no_sems rfl r.2⟩) (run_val m ρ)

end Cert.MergeBwdRefIdeal.Read

/-- The backward call of the gates computes the gradients of the reference. -/
theorem Cert.MergeBwdIdeal.Value.algebraic : Cert.algebraic_MergeBwdIdeal_MergeBwdRefIdeal := by
  intro m g m' g' _ hag
  refine ⟨_, _, _, _, _, _, Cert.MergeBwdIdeal.Value.run m g, (θ_run _ _ _).mono (fun r h c => ?_) (Cert.MergeBwdRefIdeal.Read.run_val m' g')⟩
  obtain ⟨e0, e1, e2, e3, e4⟩ := hag c
  obtain ⟨h0, h1, h2, h3, h4, h5, hr⟩ := h c
  simp only [e0, e1, e2, e3, e4] at h0 h1 h2 h3 h4 h5
  exact ⟨h0, h1, h2, h3, h4, h5, hr⟩

end
-- ==== Proof.Scalars.lean ====
/- Facts about single extended reals: which ones are real numbers, and the logistic function and the gate built on it. -/
module

public import Idealize.ShloMosaic.Lib.Pipeline.ValueKit

@[expose] public section

open Idealize.ShloMosaic
open scoped BigOperators

namespace Cert.Scalars

/-- An extended real that is a real number. -/
def Fin' (x : EReal) : Prop := ∃ r : ℝ, x = (r : EReal)

theorem Fin'.coe (r : ℝ) : Fin' (r : EReal) := ⟨r, rfl⟩
theorem Fin'.zero : Fin' 0 := ⟨0, rfl⟩
theorem Fin'.one : Fin' 1 := ⟨1, rfl⟩
theorem Fin'.add {x y : EReal} : Fin' x → Fin' y → Fin' (x + y)
  | ⟨a, ha⟩, ⟨b, hb⟩ => ⟨a + b, by rw [ha, hb, EReal.coe_add]⟩
theorem Fin'.mul {x y : EReal} : Fin' x → Fin' y → Fin' (x * y)
  | ⟨a, ha⟩, ⟨b, hb⟩ => ⟨a * b, by rw [ha, hb, EReal.coe_mul]⟩
theorem Fin'.sum {ι : Type} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih

/-- The single-precision word of positive infinity. -/
theorem ofBits_inf : Ideal.ofBits .f32 0x7F800000#32 = ⊤ := by
  simp [Ideal.ofBits, Ideal.ieee]

/-- A value whose magnitude is below infinity is a real number. -/
theorem fin_of_abs {x : EReal} (h : max x (-x) < ⊤) : Fin' x := by
  induction x with
  | bot => simp at h
  | top => simp at h
  | coe r => exact ⟨r, rfl⟩

/-- The comparison of a magnitude with infinity that comes out true. -/
theorem fin_of_cmp {x : EReal} (h : Ideal.cmp .olt (max x (-x)) (Ideal.ofBits .f32 0x7F800000#32) = 1#1) : Fin' x := by
  apply fin_of_abs
  rw [ofBits_inf] at h
  by_contra hn
  simp [Ideal.cmp, hn] at h

/-- One over one plus the exponential of the negative. -/
noncomputable def sg (z : EReal) : EReal := Ideal.div 1 (1 + Ideal.exp (-z))

theorem sg_top : sg ⊤ = 1 := Ideal.logistic_top
theorem sg_bot : sg ⊥ = 0 := Ideal.logistic_bot
theorem sg_coe (r : ℝ) : sg r = (((1 + Real.exp (-r))⁻¹ : ℝ) : EReal) := Ideal.logistic_coe r

/-- The gradient of `g * sg g`, with its two parts apart and together. -/
theorem silu_grad {c : EReal} (hc : Fin' c) (g : EReal) :
    c * (sg g * (1 + g * (1 - sg g))) = c * sg g + g * c * (sg g * (1 - sg g)) := by
  obtain ⟨c, rfl⟩ := hc
  induction g with
  | bot =>
    rw [sg_bot]; simp
  | top =>
    rw [sg_top]
    have h : (1 : EReal) - 1 = 0 := by rw [← EReal.coe_one, ← EReal.coe_sub, sub_self, EReal.coe_zero]
    simp [h]
  | coe r =>
    rw [sg_coe]
    norm_cast
    ring_nf

end Cert.Scalars
-- ==== Proof.Act.lean ====
/- The backward call of the gated activation: every result array of the kernel is the reference's term.
The gradient by the gate is one product in the kernel and a sum of two in the reference, which agree
where the cotangent of the gated product is a real number. -/
module

public import proofs.«01_k».proof.Proof.Gen.ActBwdIdeal.Value
public import proofs.«01_k».proof.Proof.Gen.ActBwdRefIdeal.Read
public import proofs.«01_k».proof.Defs
public import proofs.«01_k».proof.Proof.Scalars

@[expose] public section

set_option maxRecDepth 16384

noncomputable section

open Idealize.ShloMosaic Idealize.ShloMosaic.TcCoe Idealize.SL.Sem
open Idealize.ShloMosaic.Pipeline (Dat)
open scoped BigOperators

namespace Cert.ActBwdIdeal.Value
open Cert.ActBwdIdeal Cert.ActBwdIdeal.Gen Cert.Scalars

variable (m : (ℓ : Loc nD τ sig) → Buf (Elt Ideal) ℓ)

/-- The block index of every window at every point. -/
theorem idx_val : ∀ t : Fin cfg0.N, win0_0.index t = ![t.val / 4, 0]
    ∧ win0_1.index t = ![t.val % 4, 0, 0]
    ∧ win0_2.index t = ![0, t.val % 4, t.val / 4, 0]
    ∧ win0_3.index t = ![0, t.val % 4, t.val / 4, 0] :=
  (by decide +kernel : ∀ t : Fin grid0.N, _)

/-- The reference's result over its arguments. -/
abbrev R12 (a0 : FVec Ideal Cert.ActBwdRefIdeal.S8192x1024 .f32) (a1 : FVec Ideal Cert.ActBwdRefIdeal.S2816x1024 .f32) (a2 : FVec Ideal Cert.ActBwdRefIdeal.S8192x5632 .f32) :
    FVec Ideal Cert.ActBwdRefIdeal.S2x4x8192x704 .bf16 := Cert.ActBwdRefIdeal.Read.val_main_v12 (F := Ideal) a0 a1 a2

/-- The precondition: the cotangent, the output weights and the up half are real numbers. -/
theorem real_of_pre [Cert.Pre_act_finite.Facts] (hp : Cert.Pre_ActBwdIdeal_act_finite m) (c : Dev nD) :
    (∀ j, Fin' (m ((c : Thread nD τ).loc main_arg0) j)) ∧ (∀ j, Fin' (m ((c : Thread nD τ).loc main_arg1) j))
      ∧ ∀ (a : Fin 8192) (b : Fin 2816), Fin' (m ((c : Thread nD τ).loc main_arg2) (ix2 a ⟨2816 + b.val, by omega⟩)) := by
  obtain ⟨p0, p1, p2⟩ := hp c
  refine ⟨fun j => fin_of_cmp (congrFun p0 j), fun j => fin_of_cmp (congrFun p1 j), fun a b => ?_⟩
  have h := fin_of_cmp (congrFun p2 (ix2 a b))
  convert h using 2
  pointwise

section
open Cert.ActBwdRefIdeal.Read

/-- The gate half: row `r`, column `l` of the block is the reference's entry. -/
theorem coreG (c : Dev nD) (t : Fin cfg0.N) (r : Fin 1024) (l : Fin 704) (v5 v8 : FVec Ideal S1x1x1024x704 .bf16) (i : S2x4x8192x704.Idx)
    (h0 : (i 0 : ℕ) = 0) (h1 : (i 1 : ℕ) = t.val % 4) (h2 : (i 2 : ℕ) = t.val / 4 * 1024 + r.val) (h3 : (i 3 : ℕ) = l.val)
    (H5 : v5 (ix4 0 0 r l) = iblk m c 2 t (ix4 0 0 r l)) (H8 : v8 (ix4 0 0 r l) = iblk m c 2 t (ix4 1 0 r l))
    (f0 : ∀ j, Fin' (m ((c : Thread nD τ).loc main_arg0) j)) (f1 : ∀ j, Fin' (m ((c : Thread nD τ).loc main_arg1) j))
    (f2 : ∀ (a : Fin 8192) (b : Fin 2816), Fin' (m ((c : Thread nD τ).loc main_arg2) (ix2 a ⟨2816 + b.val, by omega⟩))) :
    k0_pay5 (F := Ideal) (iblk m c 0 t) (iblk m c 1 t) v5 v8 (ix4 0 0 r l) = R12 (m ((c : Thread nD τ).loc main_arg0)) (m ((c : Thread nD τ).loc main_arg1)) (m ((c : Thread nD τ).loc main_arg2)) i := by
  have hs : (i 0 : ℕ) * 2816 + (i 1 : ℕ) * 704 + (i 3 : ℕ) < 2816 := by have := l.isLt; omega
  pointwise [k0_pay2, k0_pay3, k0_pay4, k0_pay5, R12, val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_v6, val_main_v7, val_main_call1_v0, val_main_call1_v1, val_main_call1_v2, val_main_v8, val_main_v9, val_main_v10, val_main_v11, val_main_v12]
  rw [dif_pos hs]
  refine Eq.trans ?_ (silu_grad (Fin'.mul (Fin'.sum _ fun x => (f0 _).mul (f1 _)) (f2 (i 2) ⟨_, hs⟩)) _)
  simp only [zero_sub, sg, H5, H8]
  blk_point [iblk, V, idx_val t]

/-- The up half: row `r`, column `l` of the block is the reference's entry. -/
theorem coreU (c : Dev nD) (t : Fin cfg0.N) (r : Fin 1024) (l : Fin 704) (v5 : FVec Ideal S1x1x1024x704 .bf16) (i : S2x4x8192x704.Idx)
    (h0 : (i 0 : ℕ) = 1) (h1 : (i 1 : ℕ) = t.val % 4) (h2 : (i 2 : ℕ) = t.val / 4 * 1024 + r.val) (h3 : (i 3 : ℕ) = l.val)
    (H5 : v5 (ix4 0 0 r l) = iblk m c 2 t (ix4 0 0 r l)) :
    k0_pay1 (k0_pay6 (F := Ideal) (iblk m c 0 t) (iblk m c 1 t) v5) (ix4 0 0 r l) = R12 (m ((c : Thread nD τ).loc main_arg0)) (m ((c : Thread nD τ).loc main_arg1)) (m ((c : Thread nD τ).loc main_arg2)) i := by
  have hs : ¬ (i 0 : ℕ) * 2816 + (i 1 : ℕ) * 704 + (i 3 : ℕ) < 2816 := by omega
  pointwise [k0_pay1, k0_pay2, k0_pay3, k0_pay4, k0_pay6, R12, val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_v6, val_main_v7, val_main_call1_v0, val_main_call1_v1, val_main_call1_v2, val_main_v8, val_main_v9, val_main_v10, val_main_v11, val_main_v12]
  rw [dif_neg hs]
  simp only [zero_sub, H5]
  blk_point [iblk, V, idx_val t]
end

/-- The result array of the kernel. -/
theorem final3 [Cert.Pre_act_finite.Facts] (hp : Cert.Pre_ActBwdIdeal_act_finite m) (c : Dev nD) :
    (dats m 0 c).arrAt 3 (cfgs 0).N = R12 (m ((c : Thread nD τ).loc main_arg0)) (m ((c : Thread nD τ).loc main_arg1)) (m ((c : Thread nD τ).loc main_arg2)) := by
  obtain ⟨f0, f1, f2⟩ := real_of_pre m hp c
  refine (dats m 0 c).arrAt_eq_of_covers 3 _ (by decide +kernel) fun t hf y => ?_
  blk_simp
  rw [after0_3]
  unfold out0_3
  canon_tiles x h
  · frame_out
    idx_vars x
    rw [Fin.fin_one_eq_zero x0, Fin.fin_one_eq_zero x1]
    refine coreU m c t x2 x3 _ _ ?_ ?_ ?_ ?_ ?_
    all_goals try blk_simp [idx_val t]
    all_goals first | omega | (pointwise; blk_ext []) | blk_point []
  · frame_out
    idx_vars x
    rw [Fin.fin_one_eq_zero x0, Fin.fin_one_eq_zero x1]
    refine coreG m c t x2 x3 _ _ _ ?_ ?_ ?_ ?_ ?_ ?_ f0 f1 f2
    all_goals try blk_simp [idx_val t]
    all_goals first | omega | (pointwise; blk_ext []) | blk_point []

/-- The kernel's run with its result named by the reference's term. -/
theorem run [Cert.Pre_act_finite.Facts] (hp : Cert.Pre_ActBwdIdeal_act_finite m) (ρ : Dev nD → PrngReg) :
    θ_run defs (onTc (τ := τ) (main (F := Ideal))) ⟨m, fun _ => 0, ρ⟩ fun r => ∀ c : Dev nD,
      r.2.mem ((c : Thread nD τ).loc main_v7) = R12 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨h3, hr⟩ := h c
    exact ⟨h3.trans (final3 m hp c), hr⟩) (run_blocks m ρ)

end Cert.ActBwdIdeal.Value

namespace Cert.ActBwdRefIdeal.Read
open Cert.ActBwdRefIdeal Cert.ActBwdRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = val_main_v12 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨h0, hr⟩ := h c
    exact ⟨h0.trans (val_main_v12_eq _ _ _), hr⟩) (Value.run m ρ)

/-- The reference terminates with its arguments unchanged. -/
theorem frame : Cert.quiescent_ActBwdRefIdeal := fun m ρ _ =>
  (θ_run _ _ _).mono (fun r h => ⟨fun c => (h c).2, sem_eq_zero_of_no_sems rfl r.2⟩) (run_val m ρ)

end Cert.ActBwdRefIdeal.Read

/-- The backward call of the gated activation computes the gradient of the reference. -/
theorem Cert.ActBwdIdeal.Value.algebraic [Cert.Pre_act_finite.Facts] : Cert.algebraic_ActBwdIdeal_ActBwdRefIdeal_pre_act_finite := by
  intro m g m' g' hp hag
  refine ⟨_, Cert.ActBwdIdeal.Value.run m hp g, (θ_run _ _ _).mono (fun r h c => ?_) (Cert.ActBwdRefIdeal.Read.run_val m' g')⟩
  obtain ⟨e0, e1, e2⟩ := hag c
  obtain ⟨h0, hr⟩ := h c
  simp only [e0, e1, e2] at h0
  exact ⟨h0, hr⟩

end
-- ==== Proof.Conv.lean ====
/- The backward call of the causal convolution: every result array of the kernel is the reference's term. -/
module

public import proofs.«01_k».proof.Proof.Gen.ConvBwdIdeal.Value
public import proofs.«01_k».proof.Proof.Gen.ConvBwdRefIdeal.Read
public import proofs.«01_k».proof.Defs
public import proofs.«01_k».proof.Proof.Scalars

@[expose] public section

set_option maxRecDepth 16384

noncomputable section

open Idealize.ShloMosaic Idealize.ShloMosaic.TcCoe Idealize.SL.Sem
open Idealize.ShloMosaic.Pipeline (Dat)
open scoped BigOperators

namespace Cert.ConvBwdRefIdeal.Read
open Cert.ConvBwdRefIdeal Cert.ConvBwdRefIdeal.Gen Cert.Scalars

/-- The signal with 8 zero rows before it and zero rows after it. -/
def Xp (a0 : FVec Ideal Cert.ConvBwdRefIdeal.S8192x2048 .f32) (n : ℕ) (l : Fin 1536) : EReal :=
  if h : 8 ≤ n ∧ n < 8200 then a0 (ix2 ⟨n - 8, by omega⟩ ⟨l.val, by omega⟩) else 0

/-- The cotangent with 8 zero rows before it and zero rows after it. -/
def Dp (a2 : FVec Ideal Cert.ConvBwdRefIdeal.S8192x1536 .f32) (n : ℕ) (l : Fin 1536) : EReal :=
  if h : 8 ≤ n ∧ n < 8200 then a2 (ix2 ⟨n - 8, by omega⟩ l) else 0

/-- The convolution at a padded row. -/
def Yp (a0 : FVec Ideal Cert.ConvBwdRefIdeal.S8192x2048 .f32) (a1 : FVec Ideal Cert.ConvBwdRefIdeal.S4x1536 .f32) (n : ℕ) (l : Fin 1536) : EReal :=
  a1 (ix2 0 l) * Xp a0 (n - 3) l + a1 (ix2 1 l) * Xp a0 (n - 2) l + a1 (ix2 2 l) * Xp a0 (n - 1) l + a1 (ix2 3 l) * Xp a0 n l

/-- The convolution's gradient at a padded row. -/
def DYp (a0 : FVec Ideal Cert.ConvBwdRefIdeal.S8192x2048 .f32) (a1 : FVec Ideal Cert.ConvBwdRefIdeal.S4x1536 .f32) (a2 : FVec Ideal Cert.ConvBwdRefIdeal.S8192x1536 .f32) (n : ℕ) (l : Fin 1536) : EReal :=
  Dp a2 n l * (sg (Yp a0 a1 n l) * (1 + Yp a0 a1 n l * (1 - sg (Yp a0 a1 n l))))

theorem rv2 (a0 : FVec Ideal Cert.ConvBwdRefIdeal.S8192x2048 .f32) (k : Fin 8195) (l : Fin 1536) :
    val_main_v2 (F := Ideal) a0 (ix2 k l) = Xp a0 (k.val + 5) l := by
  pointwise [val_main_v0, val_main_v1, val_main_cst, val_main_v2, Xp]
  by_cases h : k.val < 3
  · rw [dif_pos h, dif_neg (by omega)]
  · rw [dif_neg h, dif_pos (by omega)]
    congr 3

theorem rv32 (a0 : FVec Ideal Cert.ConvBwdRefIdeal.S8192x2048 .f32) (a1 : FVec Ideal Cert.ConvBwdRefIdeal.S4x1536 .f32) (s : Fin 8192) (l : Fin 1536) :
    val_main_v32 (F := Ideal) a0 a1 (ix2 s l) = Yp a0 a1 (s.val + 8) l := by
  pointwise [val_main_cst_0, val_main_v3, val_main_v4, val_main_v5, val_main_v6, val_main_v7, val_main_v8, val_main_v9, val_main_cst_1, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, rv2, Yp]
  rw [show 1 + s.val + 5 = s.val + 8 - 2 by omega, show 2 + s.val + 5 = s.val + 8 - 1 by omega,
    show 3 + s.val + 5 = s.val + 8 by omega, show s.val + 8 - 3 = s.val + 5 by omega]

theorem Dp_at (a2 : FVec Ideal Cert.ConvBwdRefIdeal.S8192x1536 .f32) (s : Fin 8192) (l : Fin 1536) : Dp a2 (s.val + 8) l = a2 (ix2 s l) := by
  unfold Dp
  rw [dif_pos (by omega)]
  congr 2

/-- Past the last row the gradient is zero. -/
theorem DYp_out (a0 : FVec Ideal Cert.ConvBwdRefIdeal.S8192x2048 .f32) (a1 : FVec Ideal Cert.ConvBwdRefIdeal.S4x1536 .f32) (a2 : FVec Ideal Cert.ConvBwdRefIdeal.S8192x1536 .f32) (n : ℕ) (h : 8200 ≤ n) (l : Fin 1536) : DYp a0 a1 a2 n l = 0 := by
  unfold DYp Dp
  rw [dif_neg (by omega), zero_mul]

theorem rv34 (a0 : FVec Ideal Cert.ConvBwdRefIdeal.S8192x2048 .f32) (a1 : FVec Ideal Cert.ConvBwdRefIdeal.S4x1536 .f32) (a2 : FVec Ideal Cert.ConvBwdRefIdeal.S8192x1536 .f32) (hf : ∀ j, Fin' (a2 j)) (s : Fin 8192) (l : Fin 1536) :
    val_main_v34 (F := Ideal) a0 a1 a2 (ix2 s l) = DYp a0 a1 a2 (s.val + 8) l := by
  pointwise [val_main_call0_v0, val_main_call0_v1, val_main_call0_cst, val_main_call0_v2, val_main_call0_v3, val_main_call0_cst_0, val_main_call0_v4, val_main_v33_2, val_main_call0_cst_1, val_main_call0_v6, val_main_call0_v7, val_main_v33_1, val_main_v33_0, val_main_call1_v0, val_main_call1_v1, val_main_call1_v2, val_main_v34, rv32, DYp]
  rw [Dp_at]
  exact (silu_grad (hf _) _).symm

theorem rv79 (a0 : FVec Ideal Cert.ConvBwdRefIdeal.S8192x2048 .f32) (a1 : FVec Ideal Cert.ConvBwdRefIdeal.S4x1536 .f32) (a2 : FVec Ideal Cert.ConvBwdRefIdeal.S8192x1536 .f32) (hf : ∀ j, Fin' (a2 j)) (s : Fin 8192) (l : Fin 1536) :
    val_main_v79 (F := Ideal) a0 a1 a2 (ix2 s l) =
      a1 (ix2 0 l) * DYp a0 a1 a2 (s.val + 11) l + a1 (ix2 1 l) * DYp a0 a1 a2 (s.val + 10) l
        + a1 (ix2 2 l) * DYp a0 a1 a2 (s.val + 9) l + a1 (ix2 3 l) * DYp a0 a1 a2 (s.val + 8) l := by
  pointwise [val_main_v0, val_main_cst, val_main_v1, val_main_v2, val_main_cst_0, val_main_v3, val_main_v4, val_main_v5, val_main_v6, val_main_v7, val_main_v8, val_main_v9, val_main_cst_1, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_call0_v0, val_main_call0_v1, val_main_call0_cst, val_main_call0_v2, val_main_call0_v3, val_main_call0_cst_0, val_main_call0_v4, val_main_v33_2, val_main_call0_cst_1, val_main_call0_v6, val_main_call0_v7, val_main_v33_1, val_main_v33_0, val_main_call1_v0, val_main_call1_v1, val_main_call1_v2, val_main_v35, val_main_v36, val_main_v37, val_main_cst_2, val_main_v38, val_main_v39, val_main_cst_3, val_main_v40, val_main_cst_4, val_main_v41, val_main_v42, val_main_cst_5, val_main_v43, val_main_v44, val_main_v45, val_main_v46, val_main_cst_6, val_main_v47, val_main_v48, val_main_cst_7, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_cst_12, val_main_v61, val_main_v62, val_main_v63, val_main_cst_13, val_main_v64, val_main_v65, val_main_v66, val_main_v67, val_main_v68, val_main_cst_14, val_main_v69, val_main_v70, val_main_cst_15, val_main_v71, val_main_cst_16, val_main_v72, val_main_v73, val_main_v74, val_main_cst_17, val_main_v75, val_main_v76, val_main_v77, val_main_v78, val_main_v79, val_main_c, val_main_call2_v0, val_main_v80, rv34 a0 a1 a2 hf]
  have e : ∀ (w : EReal) (q n : ℕ), n = q + 8 → (if h : q < 8192 then w * DYp a0 a1 a2 (q + 8) l else 0) = w * DYp a0 a1 a2 n l := by
    rintro w q n rfl
    by_cases h : q < 8192
    · rw [dif_pos h]
    · rw [dif_neg h, DYp_out a0 a1 a2 _ (by omega), mul_zero]
  have e2 : 2 ≤ 3 + s.val := by omega
  have e1 : 1 ≤ 3 + s.val := by omega
  simp only [e1, e2, true_and]
  rw [e _ _ (s.val + 9) (by omega), e _ _ (s.val + 10) (by omega), e _ _ (s.val + 11) (by omega)]
  have e4 : ∀ x y z w : EReal, x + y + z + w = w + z + y + x := fun x y z w => by ac_rfl
  exact e4 _ _ _ _

theorem rv79' (a0 : FVec Ideal Cert.ConvBwdRefIdeal.S8192x2048 .f32) (a1 : FVec Ideal Cert.ConvBwdRefIdeal.S4x1536 .f32) (a2 : FVec Ideal Cert.ConvBwdRefIdeal.S8192x1536 .f32) (hf : ∀ j, Fin' (a2 j)) (i : S8192x1536.Idx) (s : ℕ) (l : Fin 1536) (h0 : (i 0 : ℕ) = s) (h1 : (i 1 : ℕ) = l.val) :
    val_main_v79 (F := Ideal) a0 a1 a2 i =
      a1 (ix2 0 l) * DYp a0 a1 a2 (s + 11) l + a1 (ix2 1 l) * DYp a0 a1 a2 (s + 10) l
        + a1 (ix2 2 l) * DYp a0 a1 a2 (s + 9) l + a1 (ix2 3 l) * DYp a0 a1 a2 (s + 8) l := by
  subst h0
  obtain rfl : l = i 1 := Fin.ext h1.symm
  exact (congrArg _ (eq_ix2 i)).trans (rv79 a0 a1 a2 hf (i 0) (i 1))

theorem rv80 (a0 : FVec Ideal Cert.ConvBwdRefIdeal.S8192x2048 .f32) (a1 : FVec Ideal Cert.ConvBwdRefIdeal.S4x1536 .f32) (a2 : FVec Ideal Cert.ConvBwdRefIdeal.S8192x1536 .f32) (hf : ∀ j, Fin' (a2 j)) (s : Fin 8) (l : Fin 1536) :
    val_main_v80 (F := Ideal) a0 a1 a2 (ix2 s l) =
      if s.val < 4 then ∑ x : Fin 8192, DYp a0 a1 a2 (x.val + 8) l * Xp a0 (x.val + 5 + s.val) l else 0 := by
  pointwise [val_main_v0, val_main_cst, val_main_v1, val_main_cst_0, val_main_v3, val_main_v4, val_main_v5, val_main_v6, val_main_v7, val_main_v8, val_main_v9, val_main_cst_1, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_call0_v0, val_main_call0_v1, val_main_call0_cst, val_main_call0_v2, val_main_call0_v3, val_main_call0_cst_0, val_main_call0_v4, val_main_v33_2, val_main_call0_cst_1, val_main_call0_v6, val_main_call0_v7, val_main_v33_1, val_main_v33_0, val_main_call1_v0, val_main_call1_v1, val_main_call1_v2, val_main_v35, val_main_v36, val_main_v37, val_main_cst_2, val_main_v38, val_main_v39, val_main_cst_3, val_main_v40, val_main_cst_4, val_main_v41, val_main_v42, val_main_cst_5, val_main_v43, val_main_v44, val_main_v45, val_main_v46, val_main_cst_6, val_main_v47, val_main_v48, val_main_cst_7, val_main_v49, val_main_cst_8, val_main_v50, val_main_v51, val_main_v52, val_main_cst_9, val_main_v53, val_main_v54, val_main_v55, val_main_v56, val_main_v57, val_main_cst_10, val_main_v58, val_main_v59, val_main_cst_11, val_main_v60, val_main_cst_12, val_main_v61, val_main_v62, val_main_v63, val_main_cst_13, val_main_v64, val_main_v65, val_main_v66, val_main_v67, val_main_v68, val_main_cst_14, val_main_v69, val_main_v70, val_main_cst_15, val_main_v71, val_main_cst_16, val_main_v72, val_main_v73, val_main_v74, val_main_cst_17, val_main_v75, val_main_v76, val_main_v77, val_main_v78, val_main_v79, val_main_c, val_main_call2_v0, val_main_v80, rv34 a0 a1 a2 hf, rv2]
  fin_vals s with hs
  all_goals simp only [hs]
  all_goals try simp
  all_goals first
    | (refine Finset.sum_congr rfl fun x _ => ?_; congr 2; omega)
    | (show ((((0#32 : BitVec 32).toInt : ℤ) : ℝ) : EReal) = 0; simp)
end Cert.ConvBwdRefIdeal.Read

namespace Cert.ConvBwdIdeal.Value
open Cert.ConvBwdIdeal Cert.ConvBwdIdeal.Gen Cert.Scalars Cert.ConvBwdRefIdeal.Read

variable (m : (ℓ : Loc nD τ sig) → Buf (Elt Ideal) ℓ)

/-- The block index of every window at every point. -/
theorem idx_val : ∀ t : Fin cfg0.N, win0_0.index t = ![t.val, 0]
    ∧ win0_1.index t = ![t.val * 32 - 1, 0]
    ∧ win0_2.index t = ![min ((t.val + 1) * 32) 1023, 0]
    ∧ win0_3.index t = ![0, 0]
    ∧ win0_4.index t = ![t.val, 0]
    ∧ win0_5.index t = ![min ((t.val + 1) * 32) 1023, 0]
    ∧ win0_6.index t = ![t.val, 0]
    ∧ win0_7.index t = ![0, 0] :=
  (by decide +kernel : ∀ t : Fin grid0.N, _)

/-- The two comparisons of the grid coordinate. -/
theorem coord_cmp : ∀ t : Fin cfg0.N,
    Scalar.cmpi .sgt (BitVec.ofNat 32 (grid0.coords t 0).val) 0#32 = (if 0 < t.val then 1#1 else 0#1)
    ∧ Scalar.cmpi .eq (BitVec.ofNat 32 (grid0.coords t 0).val) 31#32 = (if t.val = 31 then 1#1 else 0#1) :=
  (by decide +kernel : ∀ t : Fin grid0.N, _)

/-- The precondition: the cotangent is a real number everywhere. -/
theorem real_of_pre [Cert.Pre_conv_finite.Facts] (hp : Cert.Pre_ConvBwdIdeal_conv_finite m) (c : Dev nD) :
    ∀ j, Fin' (m ((c : Thread nD τ).loc main_arg2) j) :=
  fun j => fin_of_cmp (congrFun (hp c) j)

theorem sel_if (p : Prop) [Decidable p] (x y : EReal) : Scalar.select (if p then 1#1 else 0#1) x y = if p then x else y := by
  by_cases h : p
  · simp [h, Scalar.select]
  · simp [h, Scalar.select]

theorem X0_at (c : Dev nD) (t : Fin cfg0.N) (r : Fin 256) (l : Fin 1536) :
    X0_0 m c t (ix2 r l) = Xp (m ((c : Thread nD τ).loc main_arg0)) (t.val * 256 + (r.val + 8)) l := by
  have h32 := lt_of_lt_of_eq t.isLt N_0
  unfold X0_0 Pipeline.Window.fill Xp
  rw [dif_pos (moved0_0 t _), dif_pos (by omega)]
  blk_ext [iblk, V, idx_val t]

theorem X1_at (c : Dev nD) (t : Fin cfg0.N) (ht : 0 < t.val) (r : Fin 8) (l : Fin 1536) :
    X0_1 m c t (ix2 r l) = Xp (m ((c : Thread nD τ).loc main_arg0)) (t.val * 256 + r.val) l := by
  have h32 := lt_of_lt_of_eq t.isLt N_0
  unfold X0_1 Pipeline.Window.fill Xp
  rw [dif_pos (moved0_1 t _), dif_pos (by omega)]
  blk_ext [iblk, V, idx_val t]

theorem X2_at (c : Dev nD) (t : Fin cfg0.N) (ht : t.val ≠ 31) (r : Fin 8) (l : Fin 1536) :
    X0_2 m c t (ix2 r l) = Xp (m ((c : Thread nD τ).loc main_arg0)) (t.val * 256 + (r.val + 264)) l := by
  have h32 := lt_of_lt_of_eq t.isLt N_0
  unfold X0_2 Pipeline.Window.fill Xp
  rw [dif_pos (moved0_2 t _), dif_pos (by omega)]
  blk_ext [iblk, V, idx_val t]

/-- The signal's rows around block `t`. -/
theorem xe_at (c : Dev nD) (t : Fin cfg0.N) (e : Fin 272) (l : Fin 1536) :
    k0_pay3 (F := Ideal) (grid0.coords t) (X0_1 m c t) (X0_2 m c t) (X0_0 m c t) (ix2 e l) =
      Xp (m ((c : Thread nD τ).loc main_arg0)) (t.val * 256 + e.val) l := by
  obtain ⟨h0, h1⟩ := coord_cmp t
  have h32 := lt_of_lt_of_eq t.isLt N_0
  pointwise [k0_pay3]
  rw [h0, h1]
  by_cases e8 : e.val < 8
  · rw [dif_pos e8]
    refine (sel_if _ _ _).trans ?_
    by_cases ht : 0 < t.val
    · rw [if_pos ht, X1_at m c t ht]
    · rw [if_neg ht]; unfold Xp; rw [dif_neg (by omega)]
  · rw [dif_neg e8]
    by_cases e9 : e.val - 8 < 256
    · rw [dif_pos e9, X0_at m c t]; congr 1; show t.val * 256 + (e.val - 8 + 8) = _; omega
    · rw [dif_neg e9]
      refine (sel_if _ _ _).trans ?_
      by_cases ht : t.val = 31
      · rw [if_pos ht]; unfold Xp; rw [dif_neg (by omega)]
      · rw [if_neg ht, X2_at m c t ht]; congr 1; show t.val * 256 + (e.val - 8 - 256 + 264) = _; omega

/-- The cotangent's rows from block `t` on. -/
theorem de_at (c : Dev nD) (t : Fin cfg0.N) (e : Fin 272) (he : 8 ≤ e.val) (l : Fin 1536) :
    k0_pay4 (F := Ideal) (grid0.coords t) (iblk m c 5 t) (iblk m c 4 t) (ix2 e l) =
      Dp (m ((c : Thread nD τ).loc main_arg2)) (t.val * 256 + e.val) l := by
  obtain ⟨h0, h1⟩ := coord_cmp t
  have h32 := lt_of_lt_of_eq t.isLt N_0
  pointwise [k0_pay4]
  rw [h1, dif_neg (by omega)]
  unfold Dp
  by_cases e9 : e.val - 8 < 256
  · rw [dif_pos e9, dif_pos (by omega)]
    blk_ext [iblk, V, idx_val t]
  · rw [dif_neg e9]
    refine (sel_if _ _ _).trans ?_
    by_cases ht : t.val = 31
    · rw [if_pos ht, dif_neg (by omega)]
    · rw [if_neg ht, dif_pos (by omega)]
      blk_ext [iblk, V, idx_val t]

section
variable (c : Dev nD) (t : Fin cfg0.N) (w0 w1 w2 w3 : Vec Ideal S1x1536 .f32)

theorem hpay2 (v12 v49 x j) : k0_pay2 (F := Ideal) v12 v49 x j = x j + k0_pay1 v12 v49 j := by
  pointwise [k0_pay2]

/-- The four rows of the weight. -/
def Rows : Prop := ∀ l : Fin 1536, w0 (ix2 0 l) = m ((c : Thread nD τ).loc main_arg1) (ix2 0 l)
  ∧ w1 (ix2 0 l) = m ((c : Thread nD τ).loc main_arg1) (ix2 1 l)
  ∧ w2 (ix2 0 l) = m ((c : Thread nD τ).loc main_arg1) (ix2 2 l)
  ∧ w3 (ix2 0 l) = m ((c : Thread nD τ).loc main_arg1) (ix2 3 l)

/-- The convolution's gradient on the rows from block `t` on. -/
theorem dy_at (hw : Rows m c w0 w1 w2 w3) (e : Fin 272) (he : 8 ≤ e.val) (l : Fin 1536) :
    k0_pay6 (F := Ideal) (k0_pay3 (grid0.coords t) (X0_1 m c t) (X0_2 m c t) (X0_0 m c t))
      (k0_pay4 (grid0.coords t) (iblk m c 5 t) (iblk m c 4 t))
      (k0_pay5 (grid0.coords t) (X0_1 m c t) (X0_2 m c t) (X0_0 m c t) w0 w1 w2) w3 (ix2 e l) =
      DYp (m ((c : Thread nD τ).loc main_arg0)) (m ((c : Thread nD τ).loc main_arg1)) (m ((c : Thread nD τ).loc main_arg2)) (t.val * 256 + e.val) l := by
  obtain ⟨e0, e1, e2, e3⟩ := hw l
  pointwise [k0_pay6, k0_pay5]
  simp only [xe_at, de_at m c t e he, e0, e1, e2, e3, zero_sub]
  have a1 : (e.val + 272 - 1) % 272 = e.val - 1 := by omega
  have a2 : (e.val + 272 - 2) % 272 = e.val - 2 := by omega
  have a3 : (e.val + 272 - 3) % 272 = e.val - 3 := by omega
  simp only [a1, a2, a3, DYp, Yp, sg]
  rw [show t.val * 256 + e.val - 1 = t.val * 256 + (e.val - 1) by omega, show t.val * 256 + e.val - 2 = t.val * 256 + (e.val - 2) by omega,
    show t.val * 256 + e.val - 3 = t.val * 256 + (e.val - 3) by omega]

/-- Row `r` of block `t` of the signal's gradient is the reference's row. -/
theorem dx_at (hf : ∀ j, Fin' (m ((c : Thread nD τ).loc main_arg2) j)) (hw : Rows m c w0 w1 w2 w3) (r : Fin 256) (l : Fin 1536)
    (i : S8192x1536.Idx) (h0 : (i 0 : ℕ) = t.val * 256 + r.val) (h1 : (i 1 : ℕ) = l.val) :
    k0_pay7 (F := Ideal) (k0_pay3 (grid0.coords t) (X0_1 m c t) (X0_2 m c t) (X0_0 m c t))
      (k0_pay4 (grid0.coords t) (iblk m c 5 t) (iblk m c 4 t))
      (k0_pay5 (grid0.coords t) (X0_1 m c t) (X0_2 m c t) (X0_0 m c t) w0 w1 w2) w3 w0 w1 w2 w3 (ix2 r l) =
      val_main_v79 (F := Ideal) (m ((c : Thread nD τ).loc main_arg0)) (m ((c : Thread nD τ).loc main_arg1)) (m ((c : Thread nD τ).loc main_arg2)) i := by
  obtain ⟨e0, e1, e2, e3⟩ := hw l
  refine Eq.trans ?_ (rv79' (m ((c : Thread nD τ).loc main_arg0)) (m ((c : Thread nD τ).loc main_arg1)) (m ((c : Thread nD τ).loc main_arg2)) hf i _ l h0 h1).symm
  pointwise [k0_pay7]
  have b1 : (8 + r.val + 272 - 269) % 272 = r.val + 11 := by omega
  have b2 : (8 + r.val + 272 - 270) % 272 = r.val + 10 := by omega
  have b3 : (8 + r.val + 272 - 271) % 272 = r.val + 9 := by omega
  simp only [b1, b2, b3]
  rw [dy_at m c t w0 w1 w2 w3 hw _ (by show 8 ≤ r.val + 11; omega), dy_at m c t w0 w1 w2 w3 hw _ (by show 8 ≤ r.val + 10; omega),
    dy_at m c t w0 w1 w2 w3 hw _ (by show 8 ≤ r.val + 9; omega), dy_at m c t w0 w1 w2 w3 hw _ (by show 8 ≤ 8 + r.val; omega), e0, e1, e2, e3]
  simp only [Nat.add_assoc, Nat.add_comm 8]

theorem own_cmp : ∀ x : Fin 272, IntOp.andi (IntOp.cmpi CmpIPredicate.sge (BitVec.ofNat 32 x.val) 8#32)
    (IntOp.cmpi CmpIPredicate.slt (BitVec.ofNat 32 x.val) 264#32) = (if 8 ≤ x.val ∧ x.val < 264 then 1#1 else 0#1) := by
  decide +kernel

/-- A sum over the extended rows that keeps the block's own rows. -/
theorem sum_own (f : Fin 272 → EReal) :
    (∑ x : Fin 272, if 8 ≤ x.val ∧ x.val < 264 then f x else 0) = ∑ r : Fin 256, f ⟨r.val + 8, by omega⟩ := by
  symm
  refine Finset.sum_of_injOn (fun r => ⟨r.val + 8, by omega⟩) ?_ ?_ ?_ ?_
  · intro a _ b _ h
    have := congrArg Fin.val h
    exact Fin.ext (by simpa using this)
  · intro a _; simp
  · intro x _ hx
    rw [if_neg]
    intro h
    exact hx ⟨⟨x.val - 8, by omega⟩, by simp, Fin.ext (by show x.val - 8 + 8 = x.val; omega)⟩
  · intro r _
    rw [if_pos (by show 8 ≤ r.val + 8 ∧ r.val + 8 < 264; omega)]

/-- The block's part of the weight's gradient. -/
theorem dw_at (hw : Rows m c w0 w1 w2 w3) (j : Fin 8) (l : Fin 1536) :
    k0_pay1 (F := Ideal) (k0_pay3 (grid0.coords t) (X0_1 m c t) (X0_2 m c t) (X0_0 m c t))
      (k0_pay6 (k0_pay3 (grid0.coords t) (X0_1 m c t) (X0_2 m c t) (X0_0 m c t))
      (k0_pay4 (grid0.coords t) (iblk m c 5 t) (iblk m c 4 t))
      (k0_pay5 (grid0.coords t) (X0_1 m c t) (X0_2 m c t) (X0_0 m c t) w0 w1 w2) w3) (ix2 j l) =
      ∑ r : Fin 256, if j.val < 4 then DYp (m ((c : Thread nD τ).loc main_arg0)) (m ((c : Thread nD τ).loc main_arg1)) (m ((c : Thread nD τ).loc main_arg2)) (t.val * 256 + r.val + 8) l
        * Xp (m ((c : Thread nD τ).loc main_arg0)) (t.val * 256 + r.val + 5 + j.val) l else 0 := by
  pointwise [k0_pay1]
  simp only [own_cmp, sel_if, sum_own, xe_at]
  have hd : ∀ r : Fin 256, 8 ≤ (⟨r.val + 8, by omega⟩ : Fin 272).val := fun r => by show 8 ≤ r.val + 8; omega
  simp only [dy_at m c t w0 w1 w2 w3 hw _ (hd _)]
  fin_vals j with hs
  all_goals simp only [hs]
  all_goals try simp
  all_goals refine Finset.sum_congr rfl fun r _ => ?_
  all_goals congr 2
  all_goals omega
end

theorem rows_of (c : Dev nD) (t : Fin cfg0.N) : Rows m c
    (View.ld (iblk m c 3 t) (Rect.unit ![0, 0] ![1, 1536] inb_S4x1536_S1x1536_0_0))
    (View.ld (iblk m c 3 t) (Rect.unit ![1, 0] ![1, 1536] inb_S4x1536_S1x1536_1_0))
    (View.ld (iblk m c 3 t) (Rect.unit ![2, 0] ![1, 1536] inb_S4x1536_S1x1536_2_0))
    (View.ld (iblk m c 3 t) (Rect.unit ![3, 0] ![1, 1536] inb_S4x1536_S1x1536_3_0)) := by
  intro l
  refine ⟨?_, ?_, ?_, ?_⟩
  all_goals (pointwise; blk_ext [iblk, V, idx_val t])

/-- The signal's gradient. -/
theorem final6 (c : Dev nD) (hf : ∀ j, Fin' (m ((c : Thread nD τ).loc main_arg2) j)) :
    (dats m 0 c).arrAt 6 (cfgs 0).N = val_main_v79 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  have h32 := lt_of_lt_of_eq t.isLt N_0
  have key := dx_at m c t _ _ _ _ hf (rows_of m c t) (y 0) (y 1) (((cfg0.win 6).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The weight's gradient: the sums over the blocks are the sum over all rows. -/
theorem final7 (c : Dev nD) (hf : ∀ j, Fin' (m ((c : Thread nD τ).loc main_arg2) j)) :
    (dats m 0 c).arrAt 7 (cfgs 0).N = val_main_v80 (F := Ideal) (m ((c : Thread nD τ).loc main_arg0)) (m ((c : Thread nD τ).loc main_arg1)) (m ((c : Thread nD τ).loc main_arg2)) := by
  refine (dats m 0 c).arrAt_eq_of_covers 7 _ (by decide +kernel) fun t hfl y => ?_
  have ht := lt_of_lt_of_eq t.isLt N_0
  blk_simp
  rw [after0_7, Pipeline.eq_sum_fin_of_reset_step_apply_of_flush (fun n h => (outsAt0 m c n h).2) 32 (fun _ => 0)
    (fun t y => ∑ r : Fin 256, if (y 0 : ℕ) < 4 then DYp (m ((c : Thread nD τ).loc main_arg0)) (m ((c : Thread nD τ).loc main_arg1)) (m ((c : Thread nD τ).loc main_arg2)) (t.val * 256 + r.val + 8) (y 1)
        * Xp (m ((c : Thread nD τ).loc main_arg0)) (t.val * 256 + r.val + 5 + (y 0 : ℕ)) (y 1) else 0)
    (fun t h j => by
      rw [outsAt0_A m c t h (by have := lt_of_lt_of_eq t.isLt N_0; omega)]; frame_out
      have key := dw_at m c t _ _ _ _ (rows_of m c t) (j 0) (j 1)
      rw [← eq_ix2 j] at key
      rw [zero_add]; exact key)
    (fun t h j => by
      rw [outsAt0_B m c t h (by omega)]; frame_out
      have key := dw_at m c t _ _ _ _ (rows_of m c t) (j 0) (j 1)
      rw [← eq_ix2 j] at key
      rw [hpay2]; exact congrArg _ key)
    t ((flush0_7 t).mp hfl) _, zero_add]
  have hi : ((win0_7.blk t).view.emb y) = ix2 (y 0) (y 1) := by blk_ext [idx_val t]
  refine Eq.trans ?_ ((congrArg _ hi).trans (rv80 (m ((c : Thread nD τ).loc main_arg0)) (m ((c : Thread nD τ).loc main_arg1)) (m ((c : Thread nD τ).loc main_arg2)) hf (y 0) (y 1))).symm
  by_cases h4 : (y 0 : ℕ) < 4
  · simp only [if_pos h4]
    refine Fin.sum_mul_add_congr fun s k hl => ?_
    rw [show 32 * (t.val / 32) + s.val = s.val by omega]
  · simp only [if_neg h4]
    simp

/-- The kernel's run with its results named by the reference's terms. -/
theorem run [Cert.Pre_conv_finite.Facts] (hp : Cert.Pre_ConvBwdIdeal_conv_finite m) (ρ : Dev nD → PrngReg) :
    θ_run defs (onTc (τ := τ) (main (F := Ideal))) ⟨m, fun _ => 0, ρ⟩ fun r => ∀ c : Dev nD,
      r.2.mem ((c : Thread nD τ).loc main_v0_0) = val_main_v79 (F := Ideal) (m ((c : Thread nD τ).loc main_arg0)) (m ((c : Thread nD τ).loc main_arg1)) (m ((c : Thread nD τ).loc main_arg2))
      ∧ r.2.mem ((c : Thread nD τ).loc main_v0_1) = val_main_v80 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨h6, h7, hr⟩ := h c
    exact ⟨h6.trans (final6 m c (real_of_pre m hp c)), h7.trans (final7 m c (real_of_pre m hp c)), hr⟩) (run_blocks m ρ)

end Cert.ConvBwdIdeal.Value

namespace Cert.ConvBwdRefIdeal.Read
open Cert.ConvBwdRefIdeal Cert.ConvBwdRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79) = val_main_v79 (F := Ideal) (m ((c : Thread nD τ).loc main_arg0)) (m ((c : Thread nD τ).loc main_arg1)) (m ((c : Thread nD τ).loc main_arg2))
      ∧ r.2.mem ((c.tc : Thread nD τ).loc main_v80) = val_main_v80 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨h0, h1, hr⟩ := h c
    exact ⟨h0.trans (val_main_v79_eq _ _), h1.trans (val_main_v80_eq _ _), hr⟩) (Value.run m ρ)

/-- The reference terminates with its arguments unchanged. -/
theorem frame : Cert.quiescent_ConvBwdRefIdeal := fun m ρ _ =>
  (θ_run _ _ _).mono (fun r h => ⟨fun c => (h c).2.2, sem_eq_zero_of_no_sems rfl r.2⟩) (run_val m ρ)

end Cert.ConvBwdRefIdeal.Read

/-- The backward call of the convolution computes the gradients of the reference. -/
theorem Cert.ConvBwdIdeal.Value.algebraic [Cert.Pre_conv_finite.Facts] : Cert.algebraic_ConvBwdIdeal_ConvBwdRefIdeal_pre_conv_finite := by
  intro m g m' g' hp hag
  refine ⟨_, _, Cert.ConvBwdIdeal.Value.run m hp g, (θ_run _ _ _).mono (fun r h c => ?_) (Cert.ConvBwdRefIdeal.Read.run_val m' g')⟩
  obtain ⟨e0, e1, e2⟩ := hag c
  obtain ⟨h0, h1, hr⟩ := h c
  simp only [e0, e1, e2] at h0 h1
  exact ⟨h0, h1, hr⟩

end
-- ==== Proof.SbRun.lean ====
module

public import proofs.«01_k».proof.Proof.Gen.SbBwdIdeal.Frame
public import proofs.«01_k».proof.Proof.Gen.SbBwdIdeal.Loops

@[expose] public section

set_option maxRecDepth 16384

noncomputable section

namespace Cert.SbBwdIdeal.Sb

open Cert.SbBwdIdeal Cert.SbBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body of the backward call at one grid point, run on any staging buffers: once at the first point of a
pair of heads, where the gradients of the keys and the values start at zero, and once at every other point,
where they go on from what the point before left. The number of full tiles is a word of the counts; the run
takes the side condition the body assumes of it. -/

/-! ## The body's branch conditions -/

/-- The point is the first of its pair of heads. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- A staging buffer of each output, through which its contents are stated. -/
abbrev VO0_7 : View sig .tc .vmem S512x128 .f32 := (Memref.whole cc0_stg7_0 : Memref sig .tc .vmem S512x128 .f32).view
abbrev VO0_8 : View sig .tc .vmem S8192x128 .f32 := (Memref.whole cc0_stg8_0 : Memref sig .tc .vmem S8192x128 .f32).view
abbrev VO0_9 : View sig .tc .vmem S8192x128 .f32 := (Memref.whole cc0_stg9_0 : Memref sig .tc .vmem S8192x128 .f32).view
/-- The staging buffers at point `t`. -/
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S4x16 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8192x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8192x128 .f32 := win0_9.stage (cfg0.slots t 9)
abbrev hs0_9 (t : Fin cfg0.N) : (ms0_9 t).IsWhole := hstage0_9 ((cfg0.slots t 9).cast nbuf0_9)

/-- The cell of the counts the body reads at grid point `i`. -/
abbrev wix (i : grid0.Coords) : S4x16.Idx :=
  (Rect.unit (s := S4x16) (k0_off1 i) S1x1.size (k0_off1_inb i)).toLoadRect.idx (Shape.Idx.first (s := S1x1) (by decide))

set_option maxHeartbeats 1000000 in
/-- The body at the first point of a pair of heads, and what it stores. -/
noncomputable def kernelRun0_A (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) :
    Σ' (L7 : List (View.Piece (Elt F) S512x128 .f32)), Σ' (L8 : List (View.Piece (Elt F) S8192x128 .f32)), { L9 : List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_sb_bwd_eq_skeleton]; unfold cc0_sb_bwd_skel
    simp only [k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | exact hk _ (congrFun (harg7.read_unread x5) _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

set_option maxHeartbeats 1000000 in
/-- The body at any other point, over what the point before left. -/
noncomputable def kernelRun0_B (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : ¬cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) (xo8 : Vec F S8192x128 .f32) (xo9 : Vec F S8192x128 .f32) :
    Σ' (L7 : List (View.Piece (Elt F) S512x128 .f32)), Σ' (L8 : List (View.Piece (Elt F) S8192x128 .f32)), { L9 : List (View.Piece (Elt F) S8192x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xo8) L8) ∗ (arg11.view.loc (c : Thread nD τ) ↦[arg11.view.set]{fullShare} arg11.view.writes (Elt F) (harg11.unread xo9) L9)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_sb_bwd_eq_skeleton]; unfold cc0_sb_bwd_skel
    simp only [k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | exact hk _ (congrFun (harg7.read_unread x5) _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexact H8
    iexact H9

end Cert.SbBwdIdeal.Sb

end
-- ==== Proof.SbFrame.lean ====
module

public import proofs.«01_k».proof.Proof.SbRun
public import Idealize.ShloMosaic.Lib.Pipeline.ValueKit

@[expose] public section

set_option maxRecDepth 16384

noncomputable section

namespace Cert.SbBwdIdeal.Sb

open Cert.SbBwdIdeal Cert.SbBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The counts are one block. -/
theorem idx5 : ∀ t : Fin cfg0.N, win0_5.index t = ![0, 0] :=
  (by decide +kernel : ∀ t : Fin grid0.N, _)

/-- The counts: twice the number of the query block, for each pair of heads. -/
theorem counts_apply (c : Dev nD) (t : Fin cfg0.N) (j : S4x16.Idx) :
    (iblk m c 5 t : Vec F S4x16 .i32) j = BitVec.ofNat 32 (j 1).val * 2#32 := by
  have hV : ∀ y, V m c main_v23 y = BitVec.ofNat 32 (y 1).val * 2#32 := by
    intro y
    have e : V m c main_v23 = broadcastInDim S4x16 ![0, 1] bcast_S1x16_S4x16_0_1
      (muli (broadcastInDim S1x16 ![1] bcast_S16_S1x16_1 (iotaInDim S16 32 0))
        (broadcastInDim S1x16 (![] : Fin 0 → Fin S1x16.rank) bcast_S_S1x16 (fun _ : S_.Idx => 2#32))) := rfl
    rw [e]
    rfl
  have hi : ((cfg0.win 5).blk t).view.emb j = j := by blk_ext [idx5 t]
  exact (hV _).trans (by rw [hi])

theorem chk_ok : ∀ i : grid0.Coords, k0_chk1 i (BitVec.ofNat 32 (i 1).val * 2#32) := by decide +kernel

theorem wix_one (i : grid0.Coords) : (wix i 1).val = (i 1).val :=
  (by decide +kernel : ∀ i : grid0.Coords, (wix i 1).val = (i 1).val) i

/-- The side condition holds of the word read. -/
theorem hkAt (c : Dev nD) (t : Fin cfg0.N) (w : Elt F .i32) (hw : w = iblk m c 5 t (wix (grid0.coords t))) :
    k0_chk1 (grid0.coords t) w := by
  have e : w = BitVec.ofNat 32 (grid0.coords t 1).val * 2#32 := by
    rw [hw, counts_apply, wix_one]
  rw [e]; exact chk_ok _

theorem cover0_A_7 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) (y : S512x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 hk).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 hk).1 S512x128.size (by sl_kernel_rfl) y

def out0_A_7 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) : Vec F S512x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 x6 hk).1)

theorem cover0_A_8 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) (y : S8192x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 hk).2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 x0 x1 x2 x3 x4 x5 x6 hk).2.1 (by sl_whole_mem) y

def out0_A_8 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) : Vec F S8192x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6 hk).2.1)

theorem cover0_A_9 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) (y : S8192x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 hk).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 x0 x1 x2 x3 x4 x5 x6 hk).2.2.1 (by sl_whole_mem) y

def out0_A_9 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) : Vec F S8192x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2 x3 x4 x5 x6 hk).2.2.1)

theorem cover0_B_7 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : ¬cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) (xo8 : Vec F S8192x128 .f32) (xo9 : Vec F S8192x128 .f32) (y : S512x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 hk xo8 xo9).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 hk xo8 xo9).1 S512x128.size (by sl_kernel_rfl) y

def out0_B_7 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : ¬cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) (xo8 : Vec F S8192x128 .f32) (xo9 : Vec F S8192x128 .f32) : Vec F S512x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 x6 hk xo8 xo9).1)

def out0_B_8 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : ¬cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) (xo8 : Vec F S8192x128 .f32) (xo9 : Vec F S8192x128 .f32) : Vec F S8192x128 .f32 :=
  arg10.view.read (Elt F) (arg10.view.writes (Elt F) (harg10.unread xo8) (kernelRun0_B c i arg2 harg2 arg3 harg3 arg4 harg4 arg5 harg5 arg6 harg6 arg7 harg7 arg8 harg8 arg9 harg9 arg10 harg10 arg11 harg11 hc0 x0 x1 x2 x3 x4 x5 x6 hk xo8 xo9).2.1)

def out0_B_9 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : ¬cond0_0 i)
    (x0 : Vec F S512x128 .bf16) (x1 : Vec F S8192x128 .bf16) (x2 : Vec F S8192x128 .bf16) (x3 : Vec F S1x512x1 .f32) (x4 : Vec F S1x512x1 .f32) (x5 : Vec F S4x16 .i32) (x6 : Vec F S512x128 .bf16) (hk : ∀ w : Elt F .i32, w = x5 (wix i) → k0_chk1 i w) (xo8 : Vec F S8192x128 .f32) (xo9 : Vec F S8192x128 .f32) : Vec F S8192x128 .f32 :=
  arg11.view.read (Elt F) (arg11.view.writes (Elt F) (harg11.unread xo9) (kernelRun0_B c i arg2 harg2 arg3 harg3 arg4 harg4 arg5 harg5 arg6 harg6 arg7 harg7 arg8 harg8 arg9 harg9 arg10 harg10 arg11 harg11 hc0 x0 x1 x2 x3 x4 x5 x6 hk xo8 xo9).2.2.1)

attribute [local irreducible] kernelRun0_A kernelRun0_B

/-! ## What the outputs hold after each point -/

def outsAt0 (c : Dev nD) : (n : ℕ) → n < cfg0.N → Vec F S512x128 .f32 × Vec F S8192x128 .f32 × Vec F S8192x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (hkAt m c ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (hkAt m c ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (hkAt m c ⟨0, hn⟩))
  | n + 1, hn =>
    if h0 : (n + 1) % 16 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (hkAt m c ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (hkAt m c ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (hkAt m c ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (hkAt m c ⟨n + 1, hn⟩) (outsAt0 c n (Nat.lt_of_succ_lt hn)).2.1 (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (hkAt m c ⟨n + 1, hn⟩) (outsAt0 c n (Nat.lt_of_succ_lt hn)).2.1 (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (hkAt m c ⟨n + 1, hn⟩) (outsAt0 c n (Nat.lt_of_succ_lt hn)).2.1 (outsAt0 c n (Nat.lt_of_succ_lt hn)).2.2)

theorem outsAt0_A (c : Dev nD) (t : Fin cfg0.N) (h0 : t.val % 16 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (hkAt m c t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (hkAt m c t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (hkAt m c t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (hkAt m c t) (outsAt0 m c (t.val - 1) (Nat.lt_of_le_of_lt (Nat.sub_le _ _) t.isLt)).2.1 (outsAt0 m c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (hkAt m c t) (outsAt0 m c (t.val - 1) (Nat.lt_of_le_of_lt (Nat.sub_le _ _) t.isLt)).2.1 (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (hkAt m c t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_8_B (c : Dev nD) (t : Fin cfg0.N) (h0 : ¬t.val % 16 = 0) (d) :
    (dats m 0 c).before 8 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 8 rfl t (by omega) (Bool.eq_false_iff.mpr fun h => by have := (flush0_8 _).mp h; dsimp only at this; omega)
    (fun _ => rfl) (fun _ _ => rfl)]
  dsimp only [dats]
theorem before0_9_B (c : Dev nD) (t : Fin cfg0.N) (h0 : ¬t.val % 16 = 0) (d) :
    (dats m 0 c).before 9 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  have hN : t.val < 64 := lt_of_lt_of_eq t.isLt (show cfg0.N = 64 from N_0)
  by_cases h0 : t.val % 16 = 0
  · rw [outsAt0_A m c t h0]
    unfold out0_A_7 out0_A_8 out0_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (hkAt m c t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (hkAt m c t))
    isplitl [H8]
    · unfold owns; iexists _; isplitr
      swap; · iexact H8
      ipureintro; exact View.read_writes_of_cover _ _ _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (hkAt m c t))
    unfold owns; iexists _; isplitr
    swap; · iexact H9
    ipureintro; exact View.read_writes_of_cover _ _ _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (hkAt m c t))
  · rw [outsAt0_B m c t h0]
    simp only [before0_8_B m c t h0, before0_9_B m c t h0]
    unfold out0_B_7 out0_B_8 out0_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (hkAt m c t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (hkAt m c t) (outsAt0 m c (t.val - 1) (Nat.lt_of_le_of_lt (Nat.sub_le _ _) t.isLt)).2.1 (outsAt0 m c (t.val - 1) (Nat.lt_of_le_of_lt (Nat.sub_le _ _) t.isLt)).2.2)
    isplitl [H8]
    · unfold owns; iexists _; isplitr
      swap; · iexact H8
      ipureintro; rfl
    unfold owns; iexists _; isplitr
    swap; · iexact H9
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.SbBwdIdeal.Sb

end
-- ==== Proof.FrameSbBwd.lean ====
/- The frames of `sb_bwd`: one run serves the kernel as printed and its idealized reading. -/
module

public import proofs.«01_k».proof.Proof.SbFrame
public import proofs.«01_k».proof.Defs
public import proofs.«01_k».proof.Proof.Gen.SbBwd
public import proofs.«01_k».proof.Proof.Gen.SbBwdIdeal

@[expose] public section

open Idealize.ShloMosaic Idealize.SL.Sem

namespace Cert.SbBwd.Body

/-- The kernel as printed is the idealized program read at machine floats. -/
theorem frame_eq : Cert.quiescent_SbBwd (hSbBwd := Cert.SbBwd.Gen.facts) =
    ∀ (m : (ℓ : Loc Cert.SbBwdIdeal.nD Cert.SbBwdIdeal.τ Cert.SbBwdIdeal.sig) → Buf (Elt Bits) ℓ) (g : Dev Cert.SbBwdIdeal.nD → PrngReg), True →
    θ_run (Cert.SbBwdIdeal.defs (F := Bits)) (onTc (τ := Cert.SbBwdIdeal.τ) (Cert.SbBwdIdeal.main (F := Bits))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ r.2.sem = fun _ => 0) := by sl_kernel_rfl

theorem frame : Cert.quiescent_SbBwd (hSbBwd := Cert.SbBwd.Gen.facts) :=
  frame_eq.mpr fun m ρ _ => Cert.SbBwdIdeal.Sb.frame (F := Bits) m ρ

end Cert.SbBwd.Body

namespace Cert.SbBwdIdeal.Body

theorem frame : Cert.quiescent_SbBwdIdeal (hSbBwdIdeal := Cert.SbBwdIdeal.Gen.facts) := fun m ρ _ => Cert.SbBwdIdeal.Sb.frame (F := Ideal) m ρ

end Cert.SbBwdIdeal.Body

end
-- ==== Proof.SbTrip.lean ====
module

public import proofs.«01_k».proof.Proof.SbFrame

@[expose] public section

set_option maxRecDepth 16384

noncomputable section

namespace Cert.SbBwdIdeal.Sb

open Cert.SbBwdIdeal Cert.SbBwdIdeal.Gen
open Idealize.ShloMosaic Idealize.ShloMosaic.TcCoe

variable {F : FTy → Type} [FloatOps F]

/-! One tile of keys: what the loop's body makes of the carried values and the two tiles it reads. -/

/-- What the tiles carry: the gradient of the queries and, for either head, the running sums. -/
abbrev Carry (F : FTy → Type) := FVec F S512x128 .f32 × FVec F S512x1 .f32 × FVec F S512x1 .f32 × FVec F S512x1 .f32 × FVec F S512x1 .f32

/-- A tile below the diagonal: the carried values after it. -/
def full (v8 v10 : FVec F S512x128 .bf16) (v17 : IVec S512x512 1) (v42 : FVec F S512x512 .f32) (tri : FVec F S1024x512 .bf16)
    (k v : Vec F S256x128 .bf16) (a : Carry F) : Carry F :=
  (k0_pay12 v10 v17 v42 tri a.1 a.2.2.2.1 a.2.2.2.2 (k0_pay1 k0_pay58 k) (k0_pay2 k0_pay58 v) (k0_pay4 v8 k0_pay58 k) (k0_pay5 v8 k0_pay58 k) (k0_pay6 v8 k0_pay58 k) (k0_pay7 a.2.1) (k0_pay8 a.2.2.1),
    k0_pay61 a.2.1 (k0_pay4 v8 k0_pay58 k), k0_pay62 a.2.2.1 (k0_pay4 v8 k0_pay58 k),
    k0_pay63 a.2.2.2.1 (k0_pay10 v10 v17 v42 tri (k0_pay2 k0_pay58 v) (k0_pay4 v8 k0_pay58 k) (k0_pay6 v8 k0_pay58 k) (k0_pay7 a.2.1) (k0_pay8 a.2.2.1)),
    k0_pay64 a.2.2.2.2 (k0_pay10 v10 v17 v42 tri (k0_pay2 k0_pay58 v) (k0_pay4 v8 k0_pay58 k) (k0_pay6 v8 k0_pay58 k) (k0_pay7 a.2.1) (k0_pay8 a.2.2.1)))

/-- A tile below the diagonal: the keys' gradient after it. -/
def fullK (v8 v10 : FVec F S512x128 .bf16) (v17 : IVec S512x512 1) (v42 : FVec F S512x512 .f32) (tri : FVec F S1024x512 .bf16)
    (k v : Vec F S256x128 .bf16) (a : Carry F) (d : Vec F S256x128 .f32) : FVec F S256x128 .f32 :=
  k0_pay13 v8 v10 v17 v42 tri k0_pay58 a.2.2.2.1 a.2.2.2.2 (k0_pay2 k0_pay58 v) (k0_pay4 v8 k0_pay58 k) (k0_pay5 v8 k0_pay58 k) (k0_pay6 v8 k0_pay58 k) (k0_pay7 a.2.1) (k0_pay8 a.2.2.1) d

/-- A tile below the diagonal: the values' gradient after it. -/
def fullV (v8 v10 : FVec F S512x128 .bf16) (v17 : IVec S512x512 1) (v42 : FVec F S512x512 .f32) (tri : FVec F S1024x512 .bf16)
    (k v : Vec F S256x128 .bf16) (a : Carry F) (d : Vec F S256x128 .f32) : FVec F S256x128 .f32 :=
  k0_pay14 v10 v17 v42 tri k0_pay58 (k0_pay4 v8 k0_pay58 k) (k0_pay6 v8 k0_pay58 k) (k0_pay7 a.2.1) (k0_pay8 a.2.2.1) d

/-- A tile on the diagonal: the carried values after it. -/
def diag (v152 : BitVec 32) (n : Fin k0_t3_loop.trips) (v8 v10 : FVec F S512x128 .bf16) (v14 : IVec S512x512 32) (v17 : IVec S512x512 1) (v33 : IVec S512x512 32) (v42 : FVec F S512x512 .f32) (tri : FVec F S1024x512 .bf16)
    (k v : Vec F S256x128 .bf16) (a : Carry F) : Carry F :=
  (k0_pay40 v10 v17 v42 tri a.1 a.2.1 a.2.2.1 a.2.2.2.1 a.2.2.2.2 (k0_pay29 k0_pay58 k) (k0_pay30 k0_pay58 v) (k0_pay31 v14 v33 v152 0#32 1#32 n) (k0_pay34 v8 k0_pay58 k) (k0_pay35 v8 v14 v33 k0_pay58 v152 0#32 1#32 n k) (k0_pay36 v8 v14 v33 k0_pay58 v152 0#32 1#32 n k),
    k0_pay70 a.2.1 (k0_pay35 v8 v14 v33 k0_pay58 v152 0#32 1#32 n k), k0_pay71 a.2.2.1 (k0_pay35 v8 v14 v33 k0_pay58 v152 0#32 1#32 n k),
    k0_pay72 a.2.2.2.1 (k0_pay38 v10 v17 v42 tri a.2.1 a.2.2.1 (k0_pay30 k0_pay58 v) (k0_pay31 v14 v33 v152 0#32 1#32 n) (k0_pay35 v8 v14 v33 k0_pay58 v152 0#32 1#32 n k) (k0_pay36 v8 v14 v33 k0_pay58 v152 0#32 1#32 n k)),
    k0_pay73 a.2.2.2.2 (k0_pay38 v10 v17 v42 tri a.2.1 a.2.2.1 (k0_pay30 k0_pay58 v) (k0_pay31 v14 v33 v152 0#32 1#32 n) (k0_pay35 v8 v14 v33 k0_pay58 v152 0#32 1#32 n k) (k0_pay36 v8 v14 v33 k0_pay58 v152 0#32 1#32 n k)))

/-- A tile on the diagonal: the keys' gradient after it. -/
def diagK (v152 : BitVec 32) (n : Fin k0_t3_loop.trips) (v8 v10 : FVec F S512x128 .bf16) (v14 : IVec S512x512 32) (v17 : IVec S512x512 1) (v33 : IVec S512x512 32) (v42 : FVec F S512x512 .f32) (tri : FVec F S1024x512 .bf16)
    (k v : Vec F S256x128 .bf16) (a : Carry F) (d : Vec F S256x128 .f32) : FVec F S256x128 .f32 :=
  k0_pay42 v8 v10 v17 v42 tri k0_pay58 a.2.1 a.2.2.1 a.2.2.2.1 a.2.2.2.2 (k0_pay30 k0_pay58 v) (k0_pay31 v14 v33 v152 0#32 1#32 n) (k0_pay34 v8 k0_pay58 k) (k0_pay35 v8 v14 v33 k0_pay58 v152 0#32 1#32 n k) (k0_pay36 v8 v14 v33 k0_pay58 v152 0#32 1#32 n k) d

/-- A tile on the diagonal: the values' gradient after it. -/
def diagV (v152 : BitVec 32) (n : Fin k0_t3_loop.trips) (v8 v10 : FVec F S512x128 .bf16) (v14 : IVec S512x512 32) (v17 : IVec S512x512 1) (v33 : IVec S512x512 32) (v42 : FVec F S512x512 .f32) (tri : FVec F S1024x512 .bf16)
    (k v : Vec F S256x128 .bf16) (a : Carry F) (d : Vec F S256x128 .f32) : FVec F S256x128 .f32 :=
  k0_pay69 (k0_pay41 v10 v17 v42 tri a.2.1 a.2.2.1 (k0_pay31 v14 v33 v152 0#32 1#32 n) (k0_pay35 v8 v14 v33 k0_pay58 v152 0#32 1#32 n k) (k0_pay36 v8 v14 v33 k0_pay58 v152 0#32 1#32 n k)) d

/-- One trip of the loop. -/
theorem t1_trip (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v8 v10 : FVec F S512x128 .bf16) (v14 : IVec S512x512 32) (v17 : IVec S512x512 1) (v33 : IVec S512x512 32) (v42 : FVec F S512x512 .f32) (v44 : IVec S1024x512 32) (v109 : IVec S1024x512 1) (v125 : IVec S1024x512 32) (c256 : BitVec 32) (v126 : BitVec 1) (c1 : BitVec 32) (v155 : Elt F .i32) (hw : k0_chk1 i v155) (v156 : BitVec 32) (X3 : BufTy.Contents (Elt F) arg3.view.ty) (X4 : BufTy.Contents (Elt F) arg4.view.ty) (k : Fin (k0_t1_loop v155).trips) (a : Carry F) (f10 : BufTy.Contents (Elt F) arg10.view.ty) (f11 : BufTy.Contents (Elt F) arg11.view.ty) :
    (trip_k0_t1 (F := F) Variants.none c none i arg2 harg2 arg3 harg3 arg4 harg4 arg5 harg5 arg6 harg6 arg7 harg7 arg8 harg8 arg9 harg9 arg10 harg10 arg11 harg11 arg0 arg1 v8 v10 v14 v17 v33 v42 v44 v109 v125 c256 v126 c1 v155 hw v156 X3 X4 k).1 a f10 f11 = full v8 v10 v17 v42 (k0_pay57 (F := F) v44 v109 v125 c256 v126 c1) (arg3.view.readAt (Elt F) (Rect.unit (s := S8192x128) (k0_off2 i v155 k) S256x128.size (k0_off2_inb i v155 hw k)).toLoadRect X3) (arg4.view.readAt (Elt F) (Rect.unit (s := S8192x128) (k0_off2 i v155 k) S256x128.size (k0_off2_inb i v155 hw k)).toLoadRect X4) a
    ∧ (trip_k0_t1 (F := F) Variants.none c none i arg2 harg2 arg3 harg3 arg4 harg4 arg5 harg5 arg6 harg6 arg7 harg7 arg8 harg8 arg9 harg9 arg10 harg10 arg11 harg11 arg0 arg1 v8 v10 v14 v17 v33 v42 v44 v109 v125 c256 v126 c1 v155 hw v156 X3 X4 k).2.1 a f10 f11 = [⟨(Rect.unit (s := S8192x128) (k0_off2 i v155 k) S256x128.size (k0_off2_inb i v155 hw k)), fullK v8 v10 v17 v42 (k0_pay57 (F := F) v44 v109 v125 c256 v126 c1) (arg3.view.readAt (Elt F) (Rect.unit (s := S8192x128) (k0_off2 i v155 k) S256x128.size (k0_off2_inb i v155 hw k)).toLoadRect X3) (arg4.view.readAt (Elt F) (Rect.unit (s := S8192x128) (k0_off2 i v155 k) S256x128.size (k0_off2_inb i v155 hw k)).toLoadRect X4) a (arg10.view.readAt (Elt F) (Rect.unit (s := S8192x128) (k0_off2 i v155 k) S256x128.size (k0_off2_inb i v155 hw k)).toLoadRect f10)⟩]
    ∧ (trip_k0_t1 (F := F) Variants.none c none i arg2 harg2 arg3 harg3 arg4 harg4 arg5 harg5 arg6 harg6 arg7 harg7 arg8 harg8 arg9 harg9 arg10 harg10 arg11 harg11 arg0 arg1 v8 v10 v14 v17 v33 v42 v44 v109 v125 c256 v126 c1 v155 hw v156 X3 X4 k).2.2.1 a f10 f11 = [⟨(Rect.unit (s := S8192x128) (k0_off2 i v155 k) S256x128.size (k0_off2_inb i v155 hw k)), fullV v8 v10 v17 v42 (k0_pay57 (F := F) v44 v109 v125 c256 v126 c1) (arg3.view.readAt (Elt F) (Rect.unit (s := S8192x128) (k0_off2 i v155 k) S256x128.size (k0_off2_inb i v155 hw k)).toLoadRect X3) (arg4.view.readAt (Elt F) (Rect.unit (s := S8192x128) (k0_off2 i v155 k) S256x128.size (k0_off2_inb i v155 hw k)).toLoadRect X4) a (arg11.view.readAt (Elt F) (Rect.unit (s := S8192x128) (k0_off2 i v155 k) S256x128.size (k0_off2_inb i v155 hw k)).toLoadRect f11)⟩] := by
  unfold trip_k0_t1
  exact ⟨rfl, rfl, rfl⟩

/-- One trip of the loop. -/
theorem t3_trip (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v8 v10 : FVec F S512x128 .bf16) (v14 : IVec S512x512 32) (v17 : IVec S512x512 1) (v33 : IVec S512x512 32) (v42 : FVec F S512x512 .f32) (v44 : IVec S1024x512 32) (v109 : IVec S1024x512 1) (v125 : IVec S1024x512 32) (c256 : BitVec 32) (v126 : BitVec 1) (c1 : BitVec 32) (v152 : BitVec 32) (X3 : BufTy.Contents (Elt F) arg3.view.ty) (X4 : BufTy.Contents (Elt F) arg4.view.ty) (k : Fin k0_t3_loop.trips) (a : Carry F) (f10 : BufTy.Contents (Elt F) arg10.view.ty) (f11 : BufTy.Contents (Elt F) arg11.view.ty) :
    (trip_k0_t3 (F := F) Variants.none c none i arg2 harg2 arg3 harg3 arg4 harg4 arg5 harg5 arg6 harg6 arg7 harg7 arg8 harg8 arg9 harg9 arg10 harg10 arg11 harg11 arg0 arg1 v8 v10 v14 v17 v33 v42 v44 v109 v125 c256 v126 c1 v152 X3 X4 k).1 a f10 f11 = diag v152 k v8 v10 v14 v17 v33 v42 (k0_pay57 (F := F) v44 v109 v125 c256 v126 c1) (arg3.view.readAt (Elt F) (Rect.unit (s := S8192x128) (k0_off4 i k) S256x128.size (k0_off4_inb i k)).toLoadRect X3) (arg4.view.readAt (Elt F) (Rect.unit (s := S8192x128) (k0_off4 i k) S256x128.size (k0_off4_inb i k)).toLoadRect X4) a
    ∧ (trip_k0_t3 (F := F) Variants.none c none i arg2 harg2 arg3 harg3 arg4 harg4 arg5 harg5 arg6 harg6 arg7 harg7 arg8 harg8 arg9 harg9 arg10 harg10 arg11 harg11 arg0 arg1 v8 v10 v14 v17 v33 v42 v44 v109 v125 c256 v126 c1 v152 X3 X4 k).2.1 a f10 f11 = [⟨(Rect.unit (s := S8192x128) (k0_off4 i k) S256x128.size (k0_off4_inb i k)), diagK v152 k v8 v10 v14 v17 v33 v42 (k0_pay57 (F := F) v44 v109 v125 c256 v126 c1) (arg3.view.readAt (Elt F) (Rect.unit (s := S8192x128) (k0_off4 i k) S256x128.size (k0_off4_inb i k)).toLoadRect X3) (arg4.view.readAt (Elt F) (Rect.unit (s := S8192x128) (k0_off4 i k) S256x128.size (k0_off4_inb i k)).toLoadRect X4) a (arg10.view.readAt (Elt F) (Rect.unit (s := S8192x128) (k0_off4 i k) S256x128.size (k0_off4_inb i k)).toLoadRect f10)⟩]
    ∧ (trip_k0_t3 (F := F) Variants.none c none i arg2 harg2 arg3 harg3 arg4 harg4 arg5 harg5 arg6 harg6 arg7 harg7 arg8 harg8 arg9 harg9 arg10 harg10 arg11 harg11 arg0 arg1 v8 v10 v14 v17 v33 v42 v44 v109 v125 c256 v126 c1 v152 X3 X4 k).2.2.1 a f10 f11 = [⟨(Rect.unit (s := S8192x128) (k0_off4 i k) S256x128.size (k0_off4_inb i k)), diagV v152 k v8 v10 v14 v17 v33 v42 (k0_pay57 (F := F) v44 v109 v125 c256 v126 c1) (arg3.view.readAt (Elt F) (Rect.unit (s := S8192x128) (k0_off4 i k) S256x128.size (k0_off4_inb i k)).toLoadRect X3) (arg4.view.readAt (Elt F) (Rect.unit (s := S8192x128) (k0_off4 i k) S256x128.size (k0_off4_inb i k)).toLoadRect X4) a (arg11.view.readAt (Elt F) (Rect.unit (s := S8192x128) (k0_off4 i k) S256x128.size (k0_off4_inb i k)).toLoadRect f11)⟩] := by
  unfold trip_k0_t3
  exact ⟨rfl, rfl, rfl⟩

end Cert.SbBwdIdeal.Sb

end
-- ==== Proof.SbInt.lean ====
module

public import proofs.«01_k».proof.Proof.SbTrip
public import proofs.«01_k».proof.Proof.Scalars

@[expose] public section

set_option maxRecDepth 16384

noncomputable section

open Idealize.ShloMosaic Idealize.ShloMosaic.TcCoe
open scoped BigOperators

namespace Cert.SbBwdIdeal.Sb
open Cert.SbBwdIdeal Cert.SbBwdIdeal.Gen Cert.Scalars

/-! The integer arrays of the body, entry by entry. -/

theorem small_lt : ∀ a : Fin 512, IntOp.cmpi .slt (BitVec.ofNat 32 a.val) 64#32 = (if a.val < 64 then 1#1 else 0#1)
    ∧ IntOp.cmpi .slt (BitVec.ofNat 32 a.val) 256#32 = (if a.val < 256 then 1#1 else 0#1) := by decide +kernel

theorem sel_if {α : Type} (p : Prop) [Decidable p] (a b : α) : Scalar.select (if p then 1#1 else 0#1) a b = if p then a else b := by
  by_cases h : p <;> simp [Scalar.select, h]

theorem lane (s : Fin 256) (l : Fin 128) : (k0_pay58 (ix2 s l) : BitVec 1) = if l.val < 64 then 1#1 else 0#1 := by
  pointwise [k0_pay58]
  exact (small_lt ⟨l.val, by omega⟩).1

theorem half (r c : Fin 512) : (k0_pay48 (ix2 r c) : BitVec 1) = if c.val < 256 then 1#1 else 0#1 := by
  pointwise [k0_pay48]
  exact (small_lt c).2

/-- The quotient by 256, rounded down. -/
def dvw (w : BitVec 32) : BitVec 32 :=
  Scalar.select (IntOp.andi (IntOp.cmpi .ne (IntOp.subi ((IntOp.cmpi .sgt w 0#32).setWidth 32) ((IntOp.cmpi .slt w 0#32).setWidth 32))
      (Scalar.subi (Scalar.extui (Scalar.cmpi .sgt 256#32 0#32)) (Scalar.extui (Scalar.cmpi .slt 256#32 0#32))))
      (IntOp.cmpi .ne (IntOp.remsi .vector w 256#32) 0#32))
    (IntOp.subi (IntOp.divsi .vector w 256#32) 1#32) (IntOp.divsi .vector w 256#32)

/-- The remainder, with the divisor's sign. -/
def mdw (m w : BitVec 32) : BitVec 32 :=
  Scalar.select (IntOp.andi (IntOp.xori (IntOp.cmpi .slt (IntOp.remsi .vector w m) 0#32) (Scalar.cmpi .slt m 0#32)) (IntOp.cmpi .ne (IntOp.remsi .vector w m) 0#32))
    (IntOp.addi (IntOp.remsi .vector w m) m) (IntOp.remsi .vector w m)

theorem row_words : ∀ a : Fin 1024, mdw (Scalar.select (Scalar.cmpi .eq 2#32 0#32) 1#32 2#32) (dvw (BitVec.ofNat 32 a.val)) = BitVec.ofNat 32 (a.val / 256 % 2)
    ∧ mdw (Scalar.select (Scalar.cmpi .eq 256#32 0#32) 1#32 256#32) (BitVec.ofNat 32 a.val) = BitVec.ofNat 32 (a.val % 256)
    ∧ dvw (BitVec.ofNat 32 a.val) = BitVec.ofNat 32 (a.val / 256) := by decide +kernel

theorem head_eq : ∀ x : Fin 2, ∀ y : Fin 2, IntOp.cmpi .eq (BitVec.ofNat 32 x.val) (BitVec.ofNat 32 y.val) = if x.val = y.val then 1#1 else 0#1 := by decide +kernel
theorem col_le : ∀ x : Fin 256, ∀ y : Fin 256, IntOp.cmpi .sle (BitVec.ofNat 32 x.val) (BitVec.ofNat 32 y.val) = if x.val ≤ y.val then 1#1 else 0#1 := by decide +kernel

theorem colw (r c : Fin 512) : (k0_pay49 (ix2 r c) : BitVec 32) = BitVec.ofNat 32 (c.val % 256) := by
  pointwise [k0_pay49]
  exact (row_words ⟨c.val, by omega⟩).2.1

/-- The triangle of a tile: one where the two columns belong to the same head and the first is not after the second. -/
theorem triv (a : Fin 1024) (c : Fin 512) : (k0_pay57 (F := Ideal) (iota .tc S1024x512 32 [1] iota_S1024x512_d1_w32) (k0_pay55 (iota .tc S1024x512 32 [1] iota_S1024x512_d1_w32) k0_pay52 k0_pay53 k0_pay54) (k0_pay56 (iota .tc S1024x512 32 [0] iota_S1024x512_d0_w32)) 256#32 (Scalar.cmpi .eq 256#32 0#32) 1#32 (ix2 a c) : EReal) = if a.val / 256 % 2 = c.val / 256 ∧ a.val % 256 ≤ c.val % 256 then 1 else 0 := by
  pointwise [k0_pay57, k0_pay55, k0_pay56, k0_pay52, k0_pay53, k0_pay54]
  show (((((IntOp.andi (IntOp.cmpi .eq (mdw (Scalar.select (Scalar.cmpi .eq 2#32 0#32) 1#32 2#32) (dvw (BitVec.ofNat 32 a.val))) (dvw (BitVec.ofNat 32 c.val)))
    (IntOp.cmpi .sle (mdw (Scalar.select (Scalar.cmpi .eq 256#32 0#32) 1#32 256#32) (BitVec.ofNat 32 a.val)) (mdw (Scalar.select (Scalar.cmpi .eq 256#32 0#32) 1#32 256#32) (BitVec.ofNat 32 c.val)))).setWidth 32).toInt : ℤ) : ℝ) : EReal) = _
  have hc := row_words ⟨c.val, by omega⟩
  rw [(row_words a).1, (row_words a).2.1, hc.2.1, hc.2.2, head_eq ⟨a.val / 256 % 2, Nat.mod_lt _ (by norm_num)⟩ ⟨c.val / 256, by omega⟩,
    col_le ⟨a.val % 256, Nat.mod_lt _ (by norm_num)⟩ ⟨c.val % 256, Nat.mod_lt _ (by norm_num)⟩]
  by_cases h : a.val / 256 % 2 = c.val / 256 <;> by_cases h' : a.val % 256 ≤ c.val % 256 <;> simp [h, h', IntOp.andi]

/-- The keys of a tile, one head above the other, the other head's lanes zero. -/
theorem kcv (x : Vec Ideal S256x128 .bf16) (c : Fin 512) (l : Fin 128) : (k0_pay29 k0_pay58 x (ix2 c l) : EReal) = if l.val / 64 = c.val / 256 then (x (ix2 ⟨c.val % 256, Nat.mod_lt _ (by norm_num)⟩ l) : EReal) else 0 := by
  pointwise [k0_pay29, lane]
  by_cases hc : c.val < 256 <;> by_cases hl : l.val < 64
  · have e : l.val / 64 = c.val / 256 := by omega
    have e' : c.val % 256 = c.val := by omega
    simp [hc, hl, e, e', Scalar.select]
  · have e : ¬ l.val / 64 = c.val / 256 := by omega
    simp [hc, hl, e, Scalar.select]
  · have e : ¬ l.val / 64 = c.val / 256 := by omega
    simp [hc, hl, e, Scalar.select]
  · have e : l.val / 64 = c.val / 256 := by omega
    have e' : c.val % 256 = c.val - 256 := by omega
    simp [hc, hl, e, e', Scalar.select]

end Cert.SbBwdIdeal.Sb

end
-- ==== Proof.SbModel.lean ====
module

public import proofs.«01_k».proof.Proof.SbInt

@[expose] public section

set_option maxRecDepth 16384

noncomputable section

open Idealize.ShloMosaic Idealize.ShloMosaic.TcCoe
open scoped BigOperators

namespace Cert.SbBwdIdeal.Sb
open Cert.SbBwdIdeal Cert.SbBwdIdeal.Gen Cert.Scalars

/-! One tile with its mask, for every tile. -/

/-- The masked logarithm of not stopping. -/
def tlf {F : FTy → Type} [FloatOps F] (mask : IVec S512x512 1) (v8 : FVec F S512x128 .bf16) (k : Vec F S256x128 .bf16) : FVec F S512x512 .f32 :=
  select mask (k0_pay33 v8 k0_pay58 k) (broadcast S512x512 (Scalar.ofBits .f32 0x00000000#32))
/-- The score plus the masked logarithm. -/
def tlw {F : FTy → Type} [FloatOps F] (mask : IVec S512x512 1) (v8 : FVec F S512x128 .bf16) (k : Vec F S256x128 .bf16) : FVec F S512x512 .f32 :=
  addf (k0_pay32 v8 k0_pay58 k) (tlf mask v8 k)

/-- A tile: the carried values after it. -/
def tile {F : FTy → Type} [FloatOps F] (mask : IVec S512x512 1) (v8 v10 : FVec F S512x128 .bf16) (v17 : IVec S512x512 1) (v42 : FVec F S512x512 .f32) (tri : FVec F S1024x512 .bf16)
    (k v : Vec F S256x128 .bf16) (a : Carry F) : Carry F :=
  (k0_pay40 v10 v17 v42 tri a.1 a.2.1 a.2.2.1 a.2.2.2.1 a.2.2.2.2 (k0_pay29 k0_pay58 k) (k0_pay30 k0_pay58 v) mask (k0_pay34 v8 k0_pay58 k) (tlf mask v8 k) (tlw mask v8 k),
    k0_pay70 a.2.1 (tlf mask v8 k), k0_pay71 a.2.2.1 (tlf mask v8 k),
    k0_pay72 a.2.2.2.1 (k0_pay38 v10 v17 v42 tri a.2.1 a.2.2.1 (k0_pay30 k0_pay58 v) mask (tlf mask v8 k) (tlw mask v8 k)),
    k0_pay73 a.2.2.2.2 (k0_pay38 v10 v17 v42 tri a.2.1 a.2.2.1 (k0_pay30 k0_pay58 v) mask (tlf mask v8 k) (tlw mask v8 k)))
/-- A tile: the keys' gradient after it. -/
def tileK {F : FTy → Type} [FloatOps F] (mask : IVec S512x512 1) (v8 v10 : FVec F S512x128 .bf16) (v17 : IVec S512x512 1) (v42 : FVec F S512x512 .f32) (tri : FVec F S1024x512 .bf16)
    (k v : Vec F S256x128 .bf16) (a : Carry F) (d : Vec F S256x128 .f32) : FVec F S256x128 .f32 :=
  k0_pay42 v8 v10 v17 v42 tri k0_pay58 a.2.1 a.2.2.1 a.2.2.2.1 a.2.2.2.2 (k0_pay30 k0_pay58 v) mask (k0_pay34 v8 k0_pay58 k) (tlf mask v8 k) (tlw mask v8 k) d
/-- A tile: the values' gradient after it. -/
def tileV {F : FTy → Type} [FloatOps F] (mask : IVec S512x512 1) (v8 v10 : FVec F S512x128 .bf16) (v17 : IVec S512x512 1) (v42 : FVec F S512x512 .f32) (tri : FVec F S1024x512 .bf16)
    (k v : Vec F S256x128 .bf16) (a : Carry F) (d : Vec F S256x128 .f32) : FVec F S256x128 .f32 :=
  k0_pay69 (k0_pay41 v10 v17 v42 tri a.2.1 a.2.2.1 mask (tlf mask v8 k) (tlw mask v8 k)) d

theorem diag_eq {F : FTy → Type} [FloatOps F] (v152 : BitVec 32) (n : Fin k0_t3_loop.trips) (v8 v10 : FVec F S512x128 .bf16) (v14 : IVec S512x512 32) (v17 : IVec S512x512 1) (v33 : IVec S512x512 32) (v42 : FVec F S512x512 .f32) (tri : FVec F S1024x512 .bf16)
    (k v : Vec F S256x128 .bf16) (a : Carry F) (d : Vec F S256x128 .f32) :
    diag v152 n v8 v10 v14 v17 v33 v42 tri k v a = tile (k0_pay31 v14 v33 v152 0#32 1#32 n) v8 v10 v17 v42 tri k v a
    ∧ diagK v152 n v8 v10 v14 v17 v33 v42 tri k v a d = tileK (k0_pay31 v14 v33 v152 0#32 1#32 n) v8 v10 v17 v42 tri k v a d
    ∧ diagV v152 n v8 v10 v14 v17 v33 v42 tri k v a d = tileV (k0_pay31 v14 v33 v152 0#32 1#32 n) v8 v10 v17 v42 tri k v a d := ⟨rfl, rfl, rfl⟩

theorem full_eq {F : FTy → Type} [FloatOps F] (v8 v10 : FVec F S512x128 .bf16) (v17 : IVec S512x512 1) (v42 : FVec F S512x512 .f32) (tri : FVec F S1024x512 .bf16)
    (k v : Vec F S256x128 .bf16) (a : Carry F) (d : Vec F S256x128 .f32) :
    full v8 v10 v17 v42 tri k v a = tile (fun _ => 1#1) v8 v10 v17 v42 tri k v a
    ∧ fullK v8 v10 v17 v42 tri k v a d = tileK (fun _ => 1#1) v8 v10 v17 v42 tri k v a d
    ∧ fullV v8 v10 v17 v42 tri k v a d = tileV (fun _ => 1#1) v8 v10 v17 v42 tri k v a d := ⟨rfl, rfl, rfl⟩

/-! The same on real numbers. -/

section Model
variable (q k v d : ℕ → ℕ → ℝ) (tot : ℕ → ℕ → ℝ)

/-- The logarithm of not stopping at a score. -/
def lfs (z : ℝ) : ℝ := -(max z 0 + Real.log (1 + Real.exp (-|z|)))
/-- The scores of head `b` of the pair. -/
def zr (b R s : ℕ) : ℝ := ∑ l ∈ Finset.range 128, q R l * (if l / 64 = b then k s l else 0)
def lfr (b R s : ℕ) : ℝ := if s < R then lfs (zr q k b R s) else 0
def plr (b R n : ℕ) : ℝ := ∑ s ∈ Finset.range n, lfr q k b R s
def wr (b R s : ℕ) : ℝ := if s < R then Real.exp (zr q k b R s + lfr q k b R s + (tot b R - plr q k b R (s + 1))) else 0
def glr (b R s : ℕ) : ℝ := zr d v b R s * wr q k tot b R s
def pgr (b R n : ℕ) : ℝ := ∑ s ∈ Finset.range n, glr q k v d tot b R s
def dzr (b R s : ℕ) : ℝ :=
  if s < R then glr q k v d tot b R s - Real.exp (zr q k b R s + lfs (zr q k b R s)) * pgr q k v d tot b R (s + 1) else 0
def dqr (n R l : ℕ) : ℝ := ∑ s ∈ Finset.range n, dzr q k v d tot (l / 64) R s * k s l

end Model

end Cert.SbBwdIdeal.Sb

end
-- ==== Proof.SbTile.lean ====
module

public import proofs.«01_k».proof.Proof.SbModel

@[expose] public section

set_option maxRecDepth 16384

noncomputable section

open Idealize.ShloMosaic Idealize.ShloMosaic.TcCoe
open scoped BigOperators

namespace Cert.SbBwdIdeal.Sb
open Cert.SbBwdIdeal Cert.SbBwdIdeal.Gen Cert.Scalars

/-! The arrays of one tile, entry by entry. -/

/-- A sum of real numbers. -/
theorem esum {n : ℕ} {F : Fin n → EReal} (f : ℕ → ℝ) (h : ∀ x : Fin n, F x = ((f x.val : ℝ) : EReal)) :
    ∑ x, F x = ((∑ x ∈ Finset.range n, f x : ℝ) : EReal) := by
  rw [Finset.sum_congr rfl fun x _ => h x, ← Fin.sum_univ_eq_sum_range]
  induction n with
  | zero => simp
  | succ n ih =>
    rw [Fin.sum_univ_castSucc, Fin.sum_univ_castSucc, EReal.coe_add]
    exact congrArg₂ _ (ih fun x => rfl) rfl

/-- What a tile is given. -/
structure TileIn (q k v d : ℕ → ℕ → ℝ) (tot : ℕ → ℕ → ℝ) (R0 S0 : ℕ) (mask : IVec S512x512 1) (v8 v10 : FVec Ideal S512x128 .bf16)
    (v42 : FVec Ideal S512x512 .f32) (tri : FVec Ideal S1024x512 .bf16) (kt vt : Vec Ideal S256x128 .bf16) (a : Carry Ideal) : Prop where
  q : ∀ (r : Fin 512) (l : Fin 128), v8 (ix2 r l) = ((q (R0 + r.val) l.val : ℝ) : EReal)
  d : ∀ (r : Fin 512) (l : Fin 128), v10 (ix2 r l) = ((d (R0 + r.val) l.val : ℝ) : EReal)
  tot : ∀ (r : Fin 512) (c : Fin 512), v42 (ix2 r c) = ((tot (c.val / 256) (R0 + r.val) : ℝ) : EReal)
  tri : ∀ (x : Fin 1024) (c : Fin 512), (tri (ix2 x c) : EReal) = if x.val / 256 % 2 = c.val / 256 ∧ x.val % 256 ≤ c.val % 256 then 1 else 0
  mask : ∀ (r : Fin 512) (c : Fin 512), mask (ix2 r c) = if S0 + c.val % 256 < R0 + r.val then 1#1 else 0#1
  k : ∀ (e : Fin 256) (l : Fin 128), kt (ix2 e l) = ((k (S0 + e.val) l.val : ℝ) : EReal)
  v : ∀ (e : Fin 256) (l : Fin 128), vt (ix2 e l) = ((v (S0 + e.val) l.val : ℝ) : EReal)

/-- What the tiles before it have left. -/
structure CarryAt (q k v d : ℕ → ℕ → ℝ) (tot : ℕ → ℕ → ℝ) (R0 S0 : ℕ) (a : Carry Ideal) : Prop where
  dq : ∀ (r : Fin 512) (l : Fin 128), a.1 (ix2 r l) = ((dqr q k v d tot S0 (R0 + r.val) l.val : ℝ) : EReal)
  p0 : ∀ (r : Fin 512), a.2.1 (ix2 r (0 : Fin 1)) = ((plr q k 0 (R0 + r.val) S0 : ℝ) : EReal)
  p1 : ∀ (r : Fin 512), a.2.2.1 (ix2 r (0 : Fin 1)) = ((plr q k 1 (R0 + r.val) S0 : ℝ) : EReal)
  g0 : ∀ (r : Fin 512), a.2.2.2.1 (ix2 r (0 : Fin 1)) = ((pgr q k v d tot 0 (R0 + r.val) S0 : ℝ) : EReal)
  g1 : ∀ (r : Fin 512), a.2.2.2.2 (ix2 r (0 : Fin 1)) = ((pgr q k v d tot 1 (R0 + r.val) S0 : ℝ) : EReal)

section TileValues
variable {q k v d : ℕ → ℕ → ℝ} {tot : ℕ → ℕ → ℝ} {R0 S0 : ℕ} {mask : IVec S512x512 1} {v8 v10 : FVec Ideal S512x128 .bf16}
  {v42 : FVec Ideal S512x512 .f32} {tri : FVec Ideal S1024x512 .bf16} {kt vt : Vec Ideal S256x128 .bf16} {a : Carry Ideal}
  (T : TileIn q k v d tot R0 S0 mask v8 v10 v42 tri kt vt a)

theorem coe_ite (p : Prop) [Decidable p] (x y : ℝ) : (((if p then x else y : ℝ)) : EReal) = if p then (x : EReal) else (y : EReal) := by
  by_cases h : p <;> simp [h]

theorem score_sum (f g : ℕ → ℕ → ℝ) (R0 S0 : ℕ) (x : FVec Ideal S512x128 .bf16) (y : Vec Ideal S256x128 .bf16)
    (hx : ∀ (r : Fin 512) (l : Fin 128), x (ix2 r l) = ((f (R0 + r.val) l.val : ℝ) : EReal))
    (hy : ∀ (e : Fin 256) (l : Fin 128), y (ix2 e l) = ((g (S0 + e.val) l.val : ℝ) : EReal)) (r c : Fin 512) :
    (∑ l : Fin 128, (x (ix2 r l) : EReal) * (k0_pay29 k0_pay58 y (ix2 c l) : EReal)) = ((zr f g (c.val / 256) (R0 + r.val) (S0 + c.val % 256) : ℝ) : EReal) := by
  refine esum (fun l => f (R0 + r.val) l * (if l / 64 = c.val / 256 then g (S0 + c.val % 256) l else 0)) fun l => ?_
  rw [hx, kcv, hy, EReal.coe_mul, coe_ite, EReal.coe_zero]

include T in
theorem t_z (r c : Fin 512) : (k0_pay32 v8 k0_pay58 kt (ix2 r c) : EReal) = ((zr q k (c.val / 256) (R0 + r.val) (S0 + c.val % 256) : ℝ) : EReal) := by
  pointwise [k0_pay32]
  exact score_sum q k R0 S0 v8 kt T.q T.k r c

include T in
theorem t_gv (r c : Fin 512) : (∑ l : Fin 128, (v10 (ix2 r l) : EReal) * (k0_pay30 k0_pay58 vt (ix2 c l) : EReal)) = ((zr d v (c.val / 256) (R0 + r.val) (S0 + c.val % 256) : ℝ) : EReal) :=
  score_sum d v R0 S0 v10 vt T.d T.v r c

theorem log_coe {x : ℝ} (h : 0 < x) : Ideal.log (x : EReal) = ((Real.log x : ℝ) : EReal) :=
  if_neg (not_le.mpr h)

theorem exp_coe (x : ℝ) : Ideal.exp (x : EReal) = ((Real.exp x : ℝ) : EReal) := rfl

theorem lfs_coe (z : ℝ) : (0 : EReal) - (max (z : EReal) 0 + Ideal.log (1 + Ideal.exp (0 - (max (z : EReal) (-(z : EReal)))))) = ((lfs z : ℝ) : EReal) := by
  have e1 : max (z : EReal) (-(z : EReal)) = ((|z| : ℝ) : EReal) := by
    rw [← EReal.coe_neg, abs, EReal.coe_strictMono.monotone.map_max]
  have e2 : (0 : EReal) - ((|z| : ℝ) : EReal) = ((-|z| : ℝ) : EReal) := by rw [zero_sub, EReal.coe_neg]
  have e3 : max (z : EReal) 0 = ((max z 0 : ℝ) : EReal) := by rw [EReal.coe_strictMono.monotone.map_max, EReal.coe_zero]
  have e4 : (1 : EReal) + ((Real.exp (-|z|) : ℝ) : EReal) = ((1 + Real.exp (-|z|) : ℝ) : EReal) := by rw [EReal.coe_add, EReal.coe_one]
  rw [e1, e2, exp_coe, e3, e4, log_coe (by positivity), ← EReal.coe_add, zero_sub, ← EReal.coe_neg]
  rfl

include T in
theorem t_lf0 (r c : Fin 512) : (k0_pay33 v8 k0_pay58 kt (ix2 r c) : EReal) = ((lfs (zr q k (c.val / 256) (R0 + r.val) (S0 + c.val % 256)) : ℝ) : EReal) := by
  pointwise [k0_pay33, t_z T]
  exact lfs_coe _

include T in
theorem t_lf (r c : Fin 512) : (tlf mask v8 kt (ix2 r c) : EReal) = ((lfr q k (c.val / 256) (R0 + r.val) (S0 + c.val % 256) : ℝ) : EReal) := by
  pointwise [tlf, t_lf0 T, T.mask]
  exact (sel_if _ _ _).trans (coe_ite _ _ 0).symm

include T in
theorem t_lw (r c : Fin 512) : (tlw mask v8 kt (ix2 r c) : EReal) = ((zr q k (c.val / 256) (R0 + r.val) (S0 + c.val % 256) + lfr q k (c.val / 256) (R0 + r.val) (S0 + c.val % 256) : ℝ) : EReal) := by
  pointwise [tlw, t_lf T, t_z T]
  exact (EReal.coe_add _ _).symm

include T in
theorem t_sg (r c : Fin 512) : (k0_pay34 v8 k0_pay58 kt (ix2 r c) : EReal) = ((Real.exp (zr q k (c.val / 256) (R0 + r.val) (S0 + c.val % 256) + lfs (zr q k (c.val / 256) (R0 + r.val) (S0 + c.val % 256))) : ℝ) : EReal) := by
  pointwise [k0_pay34, t_lf0 T, t_z T]
  exact (congrArg Ideal.exp (EReal.coe_add _ _).symm).trans (exp_coe _)

/-- A sum over both heads' columns that keeps one head. -/
theorem head_sum (h : ℕ → ℝ) (b : ℕ) (hb : b < 2) : ∑ x ∈ Finset.range 512, (if x / 256 = b then h (x % 256) else 0) = ∑ e ∈ Finset.range 256, h e := by
  rw [show (512 : ℕ) = 256 + 256 from rfl, Finset.sum_range_add]
  have h0 : ∀ x ∈ Finset.range 256, (if x / 256 = b then h (x % 256) else 0) = if b = 0 then h x else 0 := fun x hx => by
    have := Finset.mem_range.mp hx
    rw [show x / 256 = 0 by omega, show x % 256 = x by omega]
    by_cases hb0 : b = 0
    · rw [if_pos hb0, if_pos hb0.symm]
    · rw [if_neg hb0, if_neg (Ne.symm hb0)]
  have h1 : ∀ x ∈ Finset.range 256, (if (256 + x) / 256 = b then h ((256 + x) % 256) else 0) = if b = 1 then h x else 0 := fun x hx => by
    have := Finset.mem_range.mp hx
    rw [show (256 + x) / 256 = 1 by omega, show (256 + x) % 256 = x by omega]
    by_cases hb0 : b = 1
    · rw [if_pos hb0, if_pos hb0.symm]
    · rw [if_neg hb0, if_neg (Ne.symm hb0)]
  rw [Finset.sum_congr rfl h0, Finset.sum_congr rfl h1]
  obtain rfl | rfl : b = 0 ∨ b = 1 := by omega
  · simp
  · simp

/-- The product with the triangle: the sum over a head's keys up to one. -/
theorem tri_sum (f : ℕ → ℕ → ℝ) (S0 b e : ℕ) (hb : b < 2) (he : e < 256) :
    (∑ x : Fin 512, ((f (x.val / 256) (S0 + x.val % 256) : ℝ) : EReal) * (if x.val / 256 % 2 = b ∧ x.val % 256 ≤ e then 1 else 0))
      + (∑ x : Fin 512, (((f (x.val / 256) (S0 + x.val % 256) : ℝ) : EReal) - ((f (x.val / 256) (S0 + x.val % 256) : ℝ) : EReal))
          * (if (512 + x.val) / 256 % 2 = b ∧ (512 + x.val) % 256 ≤ e then 1 else 0))
      = ((∑ s ∈ Finset.range (e + 1), f b (S0 + s) : ℝ) : EReal) := by
  have h2 : ∀ x : Fin 512, (((f (x.val / 256) (S0 + x.val % 256) : ℝ) : EReal) - ((f (x.val / 256) (S0 + x.val % 256) : ℝ) : EReal))
          * (if (512 + x.val) / 256 % 2 = b ∧ (512 + x.val) % 256 ≤ e then 1 else 0) = 0 := fun x => by
    rw [← EReal.coe_sub, sub_self, EReal.coe_zero, zero_mul]
  rw [Finset.sum_congr rfl fun x _ => h2 x, Finset.sum_const_zero, add_zero]
  rw [esum (fun x => if x / 256 = b then (if x % 256 ≤ e then f b (S0 + x % 256) else 0) else 0)]
  · rw [head_sum (fun y => if y ≤ e then f b (S0 + y) else 0) b hb, ← Finset.sum_filter]
    congr 1
    refine Finset.sum_congr (Finset.ext fun y => ?_) fun _ _ => rfl
    simp only [Finset.mem_filter, Finset.mem_range]
    omega
  · intro x
    have : x.val / 256 % 2 = x.val / 256 := by omega
    rw [this]
    by_cases h : x.val / 256 = b
    · by_cases h' : x.val % 256 ≤ e
      · rw [if_pos ⟨h, h'⟩, if_pos h, if_pos h', mul_one, h]
      · rw [if_neg (fun k => h' k.2), if_pos h, if_neg h', mul_zero, EReal.coe_zero]
    · rw [if_neg (fun k => h k.1), if_neg h, mul_zero, EReal.coe_zero]

theorem pick (P : ℕ → ℝ) (c : Fin 512) : Scalar.select (if c.val < 256 then 1#1 else 0#1) ((P 0 : ℝ) : EReal) ((P 1 : ℝ) : EReal) = ((P (c.val / 256) : ℝ) : EReal) := by
  rw [sel_if]
  by_cases h : c.val < 256
  · rw [if_pos h, show c.val / 256 = 0 by omega]
  · rw [if_neg h, show c.val / 256 = 1 by omega]

/-- The carried sum and the tile's triangle: the sum over every key up to one. -/
theorem run_sum (f : ℕ → ℕ → ℝ) (S0 : ℕ) (c : Fin 512) :
    Scalar.select (if c.val < 256 then 1#1 else 0#1) ((∑ s ∈ Finset.range S0, f 0 s : ℝ) : EReal) ((∑ s ∈ Finset.range S0, f 1 s : ℝ) : EReal)
      + ((∑ x : Fin 512, ((f (x.val / 256) (S0 + x.val % 256) : ℝ) : EReal) * (if x.val / 256 % 2 = c.val / 256 ∧ x.val % 256 ≤ c.val % 256 then 1 else 0))
      + (∑ x : Fin 512, (((f (x.val / 256) (S0 + x.val % 256) : ℝ) : EReal) - ((f (x.val / 256) (S0 + x.val % 256) : ℝ) : EReal))
          * (if (512 + x.val) / 256 % 2 = c.val / 256 ∧ (512 + x.val) % 256 ≤ c.val % 256 then 1 else 0)))
      = ((∑ s ∈ Finset.range (S0 + c.val % 256 + 1), f (c.val / 256) s : ℝ) : EReal) := by
  rw [pick (fun b => ∑ s ∈ Finset.range S0, f b s), tri_sum f S0 _ _ (by omega) (Nat.mod_lt _ (by norm_num)), ← EReal.coe_add, Nat.add_assoc S0, Finset.sum_range_add (fun s => f (c.val / 256) s) S0]

include T in
theorem t_w (A : CarryAt q k v d tot R0 S0 a) (r c : Fin 512) : (k0_pay37 k0_pay48 v42 tri a.2.1 a.2.2.1 mask (tlf mask v8 kt) (tlw mask v8 kt) (ix2 r c) : EReal) = ((wr q k tot (c.val / 256) (R0 + r.val) (S0 + c.val % 256) : ℝ) : EReal) := by
  pointwise [k0_pay37, t_lf T, t_lw T, T.mask, half, T.tot, T.tri, A.p0, A.p1]
  refine (sel_if _ _ _).trans ((coe_ite _ _ 0).trans ?_).symm
  rw [EReal.coe_zero]
  refine congrArg (fun y => if S0 + c.val % 256 < R0 + r.val then y else 0) ?_
  rw [← exp_coe, EReal.coe_add, EReal.coe_sub]
  exact congrArg (fun y => Ideal.exp (_ + (_ - y))) (run_sum (fun b s => lfr q k b (R0 + r.val) s) S0 c).symm

include T in
theorem t_gl (A : CarryAt q k v d tot R0 S0 a) (r c : Fin 512) : (k0_pay38 v10 k0_pay48 v42 tri a.2.1 a.2.2.1 (k0_pay30 k0_pay58 vt) mask (tlf mask v8 kt) (tlw mask v8 kt) (ix2 r c) : EReal) = ((glr q k v d tot (c.val / 256) (R0 + r.val) (S0 + c.val % 256) : ℝ) : EReal) := by
  pointwise [k0_pay38, t_w T A]
  exact (congrArg (· * _) (t_gv T r c)).trans (EReal.coe_mul _ _).symm

include T in
theorem t_dz (A : CarryAt q k v d tot R0 S0 a) (r c : Fin 512) : (k0_pay39 v10 k0_pay48 v42 tri a.2.1 a.2.2.1 a.2.2.2.1 a.2.2.2.2 (k0_pay30 k0_pay58 vt) mask (k0_pay34 v8 k0_pay58 kt) (tlf mask v8 kt) (tlw mask v8 kt) (ix2 r c) : EReal) = ((dzr q k v d tot (c.val / 256) (R0 + r.val) (S0 + c.val % 256) : ℝ) : EReal) := by
  pointwise [k0_pay39, t_gl T A, t_sg T, T.mask, half, T.tri, A.g0, A.g1]
  refine (sel_if _ _ _).trans ((coe_ite _ _ 0).trans ?_).symm
  rw [EReal.coe_zero]
  refine congrArg (fun y => if S0 + c.val % 256 < R0 + r.val then y else 0) ?_
  rw [EReal.coe_sub, EReal.coe_mul]
  exact congrArg (fun y => _ - _ * y) (run_sum (fun b s => glr q k v d tot b (R0 + r.val) s) S0 c).symm

/-- A sum over the tile's columns against the keys of one lane. -/
theorem lane_sum (f g : ℕ → ℕ → ℝ) (S0 : ℕ) (y : Vec Ideal S256x128 .bf16) (hy : ∀ (e : Fin 256) (l : Fin 128), y (ix2 e l) = ((g (S0 + e.val) l.val : ℝ) : EReal)) (l : Fin 128) :
    (∑ c : Fin 512, ((f (c.val / 256) (S0 + c.val % 256) : ℝ) : EReal) * (k0_pay29 k0_pay58 y (ix2 c l) : EReal)) = ((∑ e ∈ Finset.range 256, f (l.val / 64) (S0 + e) * g (S0 + e) l.val : ℝ) : EReal) := by
  rw [← head_sum (fun e => f (l.val / 64) (S0 + e) * g (S0 + e) l.val) (l.val / 64) (by omega)]
  refine esum (fun c => if c / 256 = l.val / 64 then f (l.val / 64) (S0 + c % 256) * g (S0 + c % 256) l.val else 0) fun c => ?_
  rw [kcv, hy]
  by_cases h : c.val / 256 = l.val / 64
  · rw [if_pos h, if_pos h.symm, h, EReal.coe_mul]
  · rw [if_neg h, if_neg (Ne.symm h), mul_zero, EReal.coe_zero]

/-- A sum over one head's columns of the tile. -/
theorem cols_sum (f : ℕ → ℕ → ℝ) (S0 b o : ℕ) (hb : b < 2) (ho : o = 256 * b) (x : FVec Ideal S512x512 .f32) (r : Fin 512) (hx : ∀ c : Fin 512, x (ix2 r c) = ((f (c.val / 256) (S0 + c.val % 256) : ℝ) : EReal)) :
    (∑ e : Fin 256, (x (ix2 r ⟨o + e.val, by omega⟩) : EReal)) = ((∑ e ∈ Finset.range 256, f b (S0 + e) : ℝ) : EReal) := by
  refine esum (fun e => f b (S0 + e)) fun e => ?_
  rw [hx]
  dsimp only
  rw [show (o + e.val) / 256 = b by omega, show (o + e.val) % 256 = e.val by omega]

include T in
/-- The carried values after the tile. -/
theorem tile_carry (A : CarryAt q k v d tot R0 S0 a) : CarryAt q k v d tot R0 (S0 + 256) (tile mask v8 v10 k0_pay48 v42 tri kt vt a) where
  dq r l := by
    show (k0_pay40 v10 k0_pay48 v42 tri a.1 a.2.1 a.2.2.1 a.2.2.2.1 a.2.2.2.2 (k0_pay29 k0_pay58 kt) (k0_pay30 k0_pay58 vt) mask (k0_pay34 v8 k0_pay58 kt) (tlf mask v8 kt) (tlw mask v8 kt) (ix2 r l) : EReal) = _
    pointwise [k0_pay40, t_dz T A, A.dq]
    refine (congrArg (_ + ·) (lane_sum (fun b s => dzr q k v d tot b (R0 + r.val) s) k S0 kt T.k l)).trans ?_
    rw [← EReal.coe_add, dqr, dqr, Finset.sum_range_add]
  p0 r := by
    show (k0_pay70 a.2.1 (tlf mask v8 kt) (ix2 r 0) : EReal) = _
    pointwise [k0_pay70, A.p0]
    refine (congrArg (_ + ·) ((Finset.sum_congr rfl fun x _ => by congr 2; exact Fin.ext (Nat.zero_add _).symm).trans (cols_sum (fun b s => lfr q k b (R0 + r.val) s) S0 0 0 (by norm_num) rfl _ r fun c => t_lf T r c))).trans ?_
    rw [← EReal.coe_add, plr, plr, Finset.sum_range_add]
  p1 r := by
    show (k0_pay71 a.2.2.1 (tlf mask v8 kt) (ix2 r 0) : EReal) = _
    pointwise [k0_pay71, A.p1]
    refine (congrArg (_ + ·) (cols_sum (fun b s => lfr q k b (R0 + r.val) s) S0 1 256 (by norm_num) rfl _ r fun c => t_lf T r c)).trans ?_
    rw [← EReal.coe_add, plr, plr, Finset.sum_range_add]
  g0 r := by
    show (k0_pay72 a.2.2.2.1 (k0_pay38 v10 k0_pay48 v42 tri a.2.1 a.2.2.1 (k0_pay30 k0_pay58 vt) mask (tlf mask v8 kt) (tlw mask v8 kt)) (ix2 r 0) : EReal) = _
    pointwise [k0_pay72, A.g0]
    refine (congrArg (_ + ·) ((Finset.sum_congr rfl fun x _ => by congr 2; exact Fin.ext (Nat.zero_add _).symm).trans (cols_sum (fun b s => glr q k v d tot b (R0 + r.val) s) S0 0 0 (by norm_num) rfl _ r fun c => t_gl T A r c))).trans ?_
    rw [← EReal.coe_add, pgr, pgr, Finset.sum_range_add]
  g1 r := by
    show (k0_pay73 a.2.2.2.2 (k0_pay38 v10 k0_pay48 v42 tri a.2.1 a.2.2.1 (k0_pay30 k0_pay58 vt) mask (tlf mask v8 kt) (tlw mask v8 kt)) (ix2 r 0) : EReal) = _
    pointwise [k0_pay73, A.g1]
    refine (congrArg (_ + ·) (cols_sum (fun b s => glr q k v d tot b (R0 + r.val) s) S0 1 256 (by norm_num) rfl _ r fun c => t_gl T A r c)).trans ?_
    rw [← EReal.coe_add, pgr, pgr, Finset.sum_range_add]

include T in
/-- The keys' gradient after the tile. -/
theorem tile_K (A : CarryAt q k v d tot R0 S0 a) (x : Vec Ideal S256x128 .f32) (e : Fin 256) (l : Fin 128) :
    (tileK mask v8 v10 k0_pay48 v42 tri kt vt a x (ix2 e l) : EReal) = (x (ix2 e l) : EReal) + ((∑ r ∈ Finset.range 512, dzr q k v d tot (l.val / 64) (R0 + r) (S0 + e.val) * q (R0 + r) l.val : ℝ) : EReal) := by
  pointwise [tileK, k0_pay42, t_dz T A, lane, T.q]
  refine congrArg (_ + ·) ((sel_if _ _ _).trans ?_)
  by_cases hl : l.val < 64
  · rw [if_pos hl, show l.val / 64 = 0 by omega]
    refine esum (fun r => dzr q k v d tot 0 (R0 + r) (S0 + e.val) * q (R0 + r) l.val) fun r => ?_
    rw [show e.val / 256 = 0 by omega, show e.val % 256 = e.val by omega, EReal.coe_mul]
  · rw [if_neg hl, show l.val / 64 = 1 by omega]
    refine esum (fun r => dzr q k v d tot 1 (R0 + r) (S0 + e.val) * q (R0 + r) l.val) fun r => ?_
    rw [show (256 + e.val) / 256 = 1 by omega, show (256 + e.val) % 256 = e.val by omega, EReal.coe_mul]

include T in
/-- The values' gradient after the tile. -/
theorem tile_V (A : CarryAt q k v d tot R0 S0 a) (x : Vec Ideal S256x128 .f32) (e : Fin 256) (l : Fin 128) :
    (tileV mask v8 v10 k0_pay48 v42 tri kt vt a x (ix2 e l) : EReal) = (x (ix2 e l) : EReal) + ((∑ r ∈ Finset.range 512, wr q k tot (l.val / 64) (R0 + r) (S0 + e.val) * d (R0 + r) l.val : ℝ) : EReal) := by
  pointwise [tileV, k0_pay69, k0_pay41, t_w T A, lane, T.d]
  refine congrArg (_ + ·) ((sel_if _ _ _).trans ?_)
  by_cases hl : l.val < 64
  · rw [if_pos hl, show l.val / 64 = 0 by omega]
    refine esum (fun r => wr q k tot 0 (R0 + r) (S0 + e.val) * d (R0 + r) l.val) fun r => ?_
    rw [show e.val / 256 = 0 by omega, show e.val % 256 = e.val by omega, EReal.coe_mul]
  · rw [if_neg hl, show l.val / 64 = 1 by omega]
    refine esum (fun r => wr q k tot 1 (R0 + r) (S0 + e.val) * d (R0 + r) l.val) fun r => ?_
    rw [show (256 + e.val) / 256 = 1 by omega, show (256 + e.val) % 256 = e.val by omega, EReal.coe_mul]

end TileValues

end Cert.SbBwdIdeal.Sb

end
-- ==== Proof.SbLoop.lean ====
module

public import proofs.«01_k».proof.Proof.SbTile
public import Idealize.ShloMosaic.Lib.WritesUnit

@[expose] public section

set_option maxRecDepth 16384

noncomputable section

open Idealize.ShloMosaic Idealize.ShloMosaic.TcCoe
open scoped BigOperators

namespace Cert.SbBwdIdeal.Sb
open Cert.SbBwdIdeal Cert.SbBwdIdeal.Gen Cert.Scalars

/-! The two loops over the tiles of keys of one block of queries. -/

theorem t1_trips : ∀ i : grid0.Coords, (k0_t1_loop (BitVec.ofNat 32 (i 1).val * 2#32)).trips = 2 * (i 1).val := by decide +kernel
theorem t2_trips : ∀ i : grid0.Coords, (k0_t2_loop (BitVec.ofNat 32 (i 1).val * 2#32)).trips = 0 := by decide +kernel
theorem t1_off : ∀ (i : grid0.Coords) (n : Fin (k0_t1_loop (BitVec.ofNat 32 (i 1).val * 2#32)).trips), k0_off2 i (BitVec.ofNat 32 (i 1).val * 2#32) n = ![256 * n.val, 0] := by decide +kernel
theorem t3_off : ∀ (i : grid0.Coords) (n : Fin k0_t3_loop.trips), k0_off4 i n = ![512 * (i 1).val + 256 * n.val, 0] := by decide +kernel
theorem t3_trips : k0_t3_loop.trips = 2 := by decide +kernel

theorem slt_nat (a b : ℕ) (ha : a < 2 ^ 31) (hb : b < 2 ^ 31) : IntOp.cmpi .slt (BitVec.ofNat 32 a) (BitVec.ofNat 32 b) = if a < b then 1#1 else 0#1 := by
  have h1 : (BitVec.ofNat 32 a).toInt = a := by rw [BitVec.toInt_ofNat']; exact Int.bmod_eq_of_le (by omega) (by omega)
  have h2 : (BitVec.ofNat 32 b).toInt = b := by rw [BitVec.toInt_ofNat']; exact Int.bmod_eq_of_le (by omega) (by omega)
  by_cases h : a < b <;> simp [IntOp.cmpi, BitVec.slt, h1, h2, h]

/-- The mask of a tile on the diagonal. -/
theorem diag_mask (i : grid0.Coords) (n : Fin k0_t3_loop.trips) (r c : Fin 512) :
    k0_pay31 (k0_pay47 i) k0_pay49 (BitVec.ofNat 32 (i 1).val * 2#32) 0#32 1#32 n (ix2 r c)
      = if 512 * (i 1).val + 256 * n.val + c.val % 256 < 512 * (i 1).val + r.val then 1#1 else 0#1 := by
  pointwise [k0_pay31, k0_pay47, colw]
  have hi : (i 1).val < 16 := (i 1).isLt
  have hn : n.val < 2 := n.isLt
  have e1 : Scalar.muli (Scalar.addi (BitVec.ofNat 32 (i 1).val * 2#32) (Scf.iv 0#32 1#32 n.val)) 256#32 = BitVec.ofNat 32 (512 * (i 1).val + 256 * n.val) :=
    (by decide +kernel : ∀ (i : Fin 16) (n : Fin 2), Scalar.muli (Scalar.addi (BitVec.ofNat 32 i.val * 2#32) (Scf.iv 0#32 1#32 n.val)) 256#32 = BitVec.ofNat 32 (512 * i.val + 256 * n.val)) (i 1) n
  have e2 : Scalar.muli (BitVec.ofNat 32 (i 1).val) 512#32 = BitVec.ofNat 32 (512 * (i 1).val) :=
    (by decide +kernel : ∀ i : Fin 16, Scalar.muli (BitVec.ofNat 32 i.val) 512#32 = BitVec.ofNat 32 (512 * i.val)) (i 1)
  rw [e1, e2]
  refine (congrArg₂ (IntOp.cmpi .slt) (BitVec.ofNat_add _ _).symm (BitVec.ofNat_add _ _).symm).trans ?_
  rw [slt_nat _ _ (by omega) (by omega), Nat.add_comm (c.val % 256)]

/-- What a row's gradients gain from one block of queries, as far as the tiles have come. -/
structure LoopAt (q k v d : ℕ → ℕ → ℝ) (tot : ℕ → ℕ → ℝ) (R0 S0 : ℕ) (a : Carry Ideal) (b10 b11 g10 g11 : S8192x128.Idx → EReal) : Prop where
  carry : CarryAt q k v d tot R0 S0 a
  K : ∀ (s : Fin 8192) (l : Fin 128), g10 (ix2 s l) = b10 (ix2 s l) + (((if s.val < S0 then ∑ r ∈ Finset.range 512, dzr q k v d tot (l.val / 64) (R0 + r) s.val * q (R0 + r) l.val else 0 : ℝ)) : EReal)
  V : ∀ (s : Fin 8192) (l : Fin 128), g11 (ix2 s l) = b11 (ix2 s l) + (((if s.val < S0 then ∑ r ∈ Finset.range 512, wr q k tot (l.val / 64) (R0 + r) s.val * d (R0 + r) l.val else 0 : ℝ)) : EReal)

theorem rows_idx (off : Fin 2 → ℕ) (inb) (S : ℕ) (hoff : off = ![S, 0]) (e : Fin 256) (l : Fin 128) (h : S + e.val < 8192) :
    (Rect.unit (s := S8192x128) off S256x128.size inb).toLoadRect.idx (ix2 e l) = ix2 ⟨S + e.val, h⟩ l := by
  subst hoff
  funext a
  refine Fin.ext ?_
  fin_cases a
  · exact congrArg (S + ·) (Nat.one_mul _)
  · exact (Nat.zero_add _).trans (Nat.one_mul _)

/-- A tile adds to its rows and leaves the others. -/
theorem rows_add (M : Memref sig .tc .vmem S8192x128 .f32) (f : BufTy.Contents (Elt Ideal) M.view.ty) (off : Fin 2 → ℕ) (inb) (S : ℕ) (hoff : off = ![S, 0]) (hS : S + 256 ≤ 8192)
    (b : S8192x128.Idx → EReal) (t : ℕ → ℕ → ℝ)
    (hb : ∀ (s : Fin 8192) (l : Fin 128), (M.view.read (Elt Ideal) f (ix2 s l) : EReal) = b (ix2 s l) + (((if s.val < S then t s.val l.val else 0 : ℝ)) : EReal))
    (w : Vec Ideal S256x128 .f32) (hw : ∀ (e : Fin 256) (l : Fin 128), (w (ix2 e l) : EReal) = (M.view.readAt (Elt Ideal) (Rect.unit (s := S8192x128) off S256x128.size inb).toLoadRect f (ix2 e l) : EReal) + ((t (S + e.val) l.val : ℝ) : EReal))
    (s : Fin 8192) (l : Fin 128) :
    (M.view.read (Elt Ideal) (M.view.writes (Elt Ideal) f [⟨Rect.unit (s := S8192x128) off S256x128.size inb, w⟩]) (ix2 s l) : EReal)
      = b (ix2 s l) + (((if s.val < S + 256 then t s.val l.val else 0 : ℝ)) : EReal) := by
  by_cases h : S ≤ s.val ∧ s.val < S + 256
  · have hx : (⟨S + (s.val - S), by omega⟩ : Fin 8192) = s := Fin.ext (by show S + (s.val - S) = s.val; omega)
    refine (View.read_writes_cons_rows_of_mem M.view f inb w [] (ix2 s l) (ix2 (⟨s.val - S, by omega⟩ : Fin 256) l) hoff (by show s.val = S + (s.val - S); omega) rfl).trans ?_
    refine (hw _ _).trans ?_
    rw [show M.view.readAt (Elt Ideal) (Rect.unit (s := S8192x128) off S256x128.size inb).toLoadRect f (ix2 (⟨s.val - S, by omega⟩ : Fin 256) l) = M.view.read (Elt Ideal) f (ix2 s l) from
      congrArg (M.view.read (Elt Ideal) f) ((rows_idx off inb S hoff _ l (by show S + (s.val - S) < 8192; omega)).trans (congrArg (ix2 · l) hx)), hb, if_neg (by omega), if_pos h.2, EReal.coe_zero, add_zero]
    rw [show S + (s.val - S) = s.val by omega]
  · refine (View.read_writes_cons_rows_of_not_mem M.view f inb w [] (ix2 s l) hoff rfl (by show s.val < S ∨ S + 256 ≤ s.val; omega)).trans ?_
    refine (hb s l).trans ?_
    congr 2
    by_cases h' : s.val < S
    · rw [if_pos h', if_pos (by omega)]
    · rw [if_neg h', if_neg (by omega)]

/-- One tile. -/
theorem loop_step {q k v d : ℕ → ℕ → ℝ} {tot : ℕ → ℕ → ℝ} {R0 S : ℕ} {mask : IVec S512x512 1} {v8 v10 : FVec Ideal S512x128 .bf16} {v42 : FVec Ideal S512x512 .f32} {tri : FVec Ideal S1024x512 .bf16}
    (M3 M4 : Memref sig .tc .vmem S8192x128 .bf16) (M10 M11 : Memref sig .tc .vmem S8192x128 .f32) (X3 : BufTy.Contents (Elt Ideal) M3.view.ty) (X4 : BufTy.Contents (Elt Ideal) M4.view.ty) (f10 : BufTy.Contents (Elt Ideal) M10.view.ty) (f11 : BufTy.Contents (Elt Ideal) M11.view.ty)
    (off : Fin 2 → ℕ) (inb : ∀ a, off a + S256x128.size a ≤ S8192x128.size a) (hoff : off = ![S, 0]) (hS : S + 256 ≤ 8192) (a : Carry Ideal) (b10 b11 : S8192x128.Idx → EReal)
    (hq : ∀ (r : Fin 512) (l : Fin 128), v8 (ix2 r l) = ((q (R0 + r.val) l.val : ℝ) : EReal))
    (hd : ∀ (r : Fin 512) (l : Fin 128), v10 (ix2 r l) = ((d (R0 + r.val) l.val : ℝ) : EReal))
    (ht : ∀ (r : Fin 512) (c : Fin 512), v42 (ix2 r c) = ((tot (c.val / 256) (R0 + r.val) : ℝ) : EReal))
    (htri : ∀ (x : Fin 1024) (c : Fin 512), (tri (ix2 x c) : EReal) = if x.val / 256 % 2 = c.val / 256 ∧ x.val % 256 ≤ c.val % 256 then 1 else 0)
    (hm : ∀ (r : Fin 512) (c : Fin 512), mask (ix2 r c) = if S + c.val % 256 < R0 + r.val then 1#1 else 0#1)
    (hk : ∀ (s : Fin 8192) (l : Fin 128), M3.view.read (Elt Ideal) X3 (ix2 s l) = ((k s.val l.val : ℝ) : EReal))
    (hv : ∀ (s : Fin 8192) (l : Fin 128), M4.view.read (Elt Ideal) X4 (ix2 s l) = ((v s.val l.val : ℝ) : EReal))
    (I : LoopAt q k v d tot R0 S a b10 b11 (M10.view.read (Elt Ideal) f10) (M11.view.read (Elt Ideal) f11)) :
    LoopAt q k v d tot R0 (S + 256)
      (tile mask v8 v10 k0_pay48 v42 tri (M3.view.readAt (Elt Ideal) (Rect.unit (s := S8192x128) off S256x128.size inb).toLoadRect X3) (M4.view.readAt (Elt Ideal) (Rect.unit (s := S8192x128) off S256x128.size inb).toLoadRect X4) a) b10 b11
      (M10.view.read (Elt Ideal) (M10.view.writes (Elt Ideal) f10 [⟨Rect.unit (s := S8192x128) off S256x128.size inb, tileK mask v8 v10 k0_pay48 v42 tri (M3.view.readAt (Elt Ideal) (Rect.unit (s := S8192x128) off S256x128.size inb).toLoadRect X3) (M4.view.readAt (Elt Ideal) (Rect.unit (s := S8192x128) off S256x128.size inb).toLoadRect X4) a (M10.view.readAt (Elt Ideal) (Rect.unit (s := S8192x128) off S256x128.size inb).toLoadRect f10)⟩]))
      (M11.view.read (Elt Ideal) (M11.view.writes (Elt Ideal) f11 [⟨Rect.unit (s := S8192x128) off S256x128.size inb, tileV mask v8 v10 k0_pay48 v42 tri (M3.view.readAt (Elt Ideal) (Rect.unit (s := S8192x128) off S256x128.size inb).toLoadRect X3) (M4.view.readAt (Elt Ideal) (Rect.unit (s := S8192x128) off S256x128.size inb).toLoadRect X4) a (M11.view.readAt (Elt Ideal) (Rect.unit (s := S8192x128) off S256x128.size inb).toLoadRect f11)⟩])) := by
  have T : TileIn q k v d tot R0 S mask v8 v10 v42 tri (M3.view.readAt (Elt Ideal) (Rect.unit (s := S8192x128) off S256x128.size inb).toLoadRect X3) (M4.view.readAt (Elt Ideal) (Rect.unit (s := S8192x128) off S256x128.size inb).toLoadRect X4) a :=
    ⟨hq, hd, ht, htri, hm, fun e l => (congrArg (M3.view.read (Elt Ideal) X3) (rows_idx off inb S hoff e l (by omega))).trans (hk _ l),
      fun e l => (congrArg (M4.view.read (Elt Ideal) X4) (rows_idx off inb S hoff e l (by omega))).trans (hv _ l)⟩
  refine ⟨tile_carry T I.carry, fun s l => ?_, fun s l => ?_⟩
  · exact rows_add M10 f10 off inb S hoff hS b10 (fun s l => ∑ r ∈ Finset.range 512, dzr q k v d tot (l / 64) (R0 + r) s * q (R0 + r) l) I.K _ (fun e l => tile_K T I.carry _ e l) s l
  · exact rows_add M11 f11 off inb S hoff hS b11 (fun s l => ∑ r ∈ Finset.range 512, wr q k tot (l / 64) (R0 + r) s * d (R0 + r) l) I.V _ (fun e l => tile_V T I.carry _ e l) s l

/-- The tiles below the diagonal. -/
theorem t1_loop (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v8 v10 : FVec Ideal S512x128 .bf16) (v14 : IVec S512x512 32) (v42 : FVec Ideal S512x512 .f32) (v44 : IVec S1024x512 32) (v109 : IVec S1024x512 1) (v125 : IVec S1024x512 32) (v126 : BitVec 1) (hw : k0_chk1 i (BitVec.ofNat 32 (i 1).val * 2#32)) (v156 : BitVec 32) (X3 : BufTy.Contents (Elt Ideal) arg3.view.ty) (X4 : BufTy.Contents (Elt Ideal) arg4.view.ty) (G10 : BufTy.Contents (Elt Ideal) arg10.view.ty) (G11 : BufTy.Contents (Elt Ideal) arg11.view.ty) (init : Carry Ideal) (q k v d : ℕ → ℕ → ℝ) (tot : ℕ → ℕ → ℝ)
    (hq : ∀ (r : Fin 512) (l : Fin 128), v8 (ix2 r l) = ((q (512 * (i 1).val + r.val) l.val : ℝ) : EReal))
    (hd : ∀ (r : Fin 512) (l : Fin 128), v10 (ix2 r l) = ((d (512 * (i 1).val + r.val) l.val : ℝ) : EReal))
    (ht : ∀ (r : Fin 512) (c : Fin 512), v42 (ix2 r c) = ((tot (c.val / 256) (512 * (i 1).val + r.val) : ℝ) : EReal))
    (htri : ∀ (x : Fin 1024) (c : Fin 512), (k0_pay57 (F := Ideal) v44 v109 v125 256#32 v126 1#32 (ix2 x c) : EReal) = if x.val / 256 % 2 = c.val / 256 ∧ x.val % 256 ≤ c.val % 256 then 1 else 0)
    (hk : ∀ (s : Fin 8192) (l : Fin 128), arg3.view.read (Elt Ideal) X3 (ix2 s l) = ((k s.val l.val : ℝ) : EReal))
    (hv : ∀ (s : Fin 8192) (l : Fin 128), arg4.view.read (Elt Ideal) X4 (ix2 s l) = ((v s.val l.val : ℝ) : EReal))
    (b10 b11 : S8192x128.Idx → EReal) (I : LoopAt q k v d tot (512 * (i 1).val) (0) init b10 b11 (arg10.view.read (Elt Ideal) G10) (arg11.view.read (Elt Ideal) G11)) :
    ∀ n, n ≤ (k0_t1_loop (BitVec.ofNat 32 (i 1).val * 2#32)).trips → LoopAt q k v d tot (512 * (i 1).val) (256 * n) (st_k0_t1 (F := Ideal) Variants.none c none i arg2 harg2 arg3 harg3 arg4 harg4 arg5 harg5 arg6 harg6 arg7 harg7 arg8 harg8 arg9 harg9 arg10 harg10 arg11 harg11 arg0 arg1 v8 v10 v14 k0_pay48 k0_pay49 v42 v44 v109 v125 256#32 v126 1#32 (BitVec.ofNat 32 (i 1).val * 2#32) hw v156 X3 X4 G10 G11 init n).1 b10 b11
      (arg10.view.read (Elt Ideal) (arg10.view.writes (Elt Ideal) G10 (st_k0_t1 (F := Ideal) Variants.none c none i arg2 harg2 arg3 harg3 arg4 harg4 arg5 harg5 arg6 harg6 arg7 harg7 arg8 harg8 arg9 harg9 arg10 harg10 arg11 harg11 arg0 arg1 v8 v10 v14 k0_pay48 k0_pay49 v42 v44 v109 v125 256#32 v126 1#32 (BitVec.ofNat 32 (i 1).val * 2#32) hw v156 X3 X4 G10 G11 init n).2.1))
      (arg11.view.read (Elt Ideal) (arg11.view.writes (Elt Ideal) G11 (st_k0_t1 (F := Ideal) Variants.none c none i arg2 harg2 arg3 harg3 arg4 harg4 arg5 harg5 arg6 harg6 arg7 harg7 arg8 harg8 arg9 harg9 arg10 harg10 arg11 harg11 arg0 arg1 v8 v10 v14 k0_pay48 k0_pay49 v42 v44 v109 v125 256#32 v126 1#32 (BitVec.ofNat 32 (i 1).val * 2#32) hw v156 X3 X4 G10 G11 init n).2.2)) := by
  intro n
  induction n with
  | zero => exact fun _ => I
  | succ n ih =>
    intro hn
    have J := ih (by omega)
    have hi : (i 1).val < 16 := (i 1).isLt
    rw [show (st_k0_t1 (F := Ideal) Variants.none c none i arg2 harg2 arg3 harg3 arg4 harg4 arg5 harg5 arg6 harg6 arg7 harg7 arg8 harg8 arg9 harg9 arg10 harg10 arg11 harg11 arg0 arg1 v8 v10 v14 k0_pay48 k0_pay49 v42 v44 v109 v125 256#32 v126 1#32 (BitVec.ofNat 32 (i 1).val * 2#32) hw v156 X3 X4 G10 G11 init (n + 1)) = _ from st_k0_t1_succ (F := Ideal) Variants.none c none i arg2 harg2 arg3 harg3 arg4 harg4 arg5 harg5 arg6 harg6 arg7 harg7 arg8 harg8 arg9 harg9 arg10 harg10 arg11 harg11 arg0 arg1 v8 v10 v14 k0_pay48 k0_pay49 v42 v44 v109 v125 256#32 v126 1#32 (BitVec.ofNat 32 (i 1).val * 2#32) hw v156 X3 X4 G10 G11 init ⟨n, hn⟩]
    have e := t1_trip c i arg2 harg2 arg3 harg3 arg4 harg4 arg5 harg5 arg6 harg6 arg7 harg7 arg8 harg8 arg9 harg9 arg10 harg10 arg11 harg11 arg0 arg1 v8 v10 v14 k0_pay48 k0_pay49 v42 v44 v109 v125 256#32 v126 1#32 (BitVec.ofNat 32 (i 1).val * 2#32) hw v156 X3 X4 ⟨n, hn⟩ (st_k0_t1 (F := Ideal) Variants.none c none i arg2 harg2 arg3 harg3 arg4 harg4 arg5 harg5 arg6 harg6 arg7 harg7 arg8 harg8 arg9 harg9 arg10 harg10 arg11 harg11 arg0 arg1 v8 v10 v14 k0_pay48 k0_pay49 v42 v44 v109 v125 256#32 v126 1#32 (BitVec.ofNat 32 (i 1).val * 2#32) hw v156 X3 X4 G10 G11 init n).1 (arg10.view.writes (Elt Ideal) G10 (st_k0_t1 (F := Ideal) Variants.none c none i arg2 harg2 arg3 harg3 arg4 harg4 arg5 harg5 arg6 harg6 arg7 harg7 arg8 harg8 arg9 harg9 arg10 harg10 arg11 harg11 arg0 arg1 v8 v10 v14 k0_pay48 k0_pay49 v42 v44 v109 v125 256#32 v126 1#32 (BitVec.ofNat 32 (i 1).val * 2#32) hw v156 X3 X4 G10 G11 init n).2.1) (arg11.view.writes (Elt Ideal) G11 (st_k0_t1 (F := Ideal) Variants.none c none i arg2 harg2 arg3 harg3 arg4 harg4 arg5 harg5 arg6 harg6 arg7 harg7 arg8 harg8 arg9 harg9 arg10 harg10 arg11 harg11 arg0 arg1 v8 v10 v14 k0_pay48 k0_pay49 v42 v44 v109 v125 256#32 v126 1#32 (BitVec.ofNat 32 (i 1).val * 2#32) hw v156 X3 X4 G10 G11 init n).2.2)
    generalize (st_k0_t1 (F := Ideal) Variants.none c none i arg2 harg2 arg3 harg3 arg4 harg4 arg5 harg5 arg6 harg6 arg7 harg7 arg8 harg8 arg9 harg9 arg10 harg10 arg11 harg11 arg0 arg1 v8 v10 v14 k0_pay48 k0_pay49 v42 v44 v109 v125 256#32 v126 1#32 (BitVec.ofNat 32 (i 1).val * 2#32) hw v156 X3 X4 G10 G11 init n) = st at J e ⊢
    unfold tripR_k0_t1 tripL_k0_t1
    dsimp only
    rw [View.writes_append, View.writes_append, e.1, e.2.1, e.2.2, (full_eq v8 v10 k0_pay48 v42 _ _ _ st.1 (fun _ => 0)).1, (full_eq v8 v10 k0_pay48 v42 _ _ _ st.1 _).2.1, (full_eq v8 v10 k0_pay48 v42 _ _ _ st.1 _).2.2]
    exact loop_step arg3 arg4 arg10 arg11 X3 X4 _ _ _ _ (t1_off i ⟨n, hn⟩) (by have := t1_trips i; omega) st.1 b10 b11 hq hd ht htri (fun r c => (if_pos (by have := t1_trips i; omega)).symm) hk hv J

/-- The tiles on the diagonal. -/
theorem t3_loop (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v8 v10 : FVec Ideal S512x128 .bf16) (v42 : FVec Ideal S512x512 .f32) (v44 : IVec S1024x512 32) (v109 : IVec S1024x512 1) (v125 : IVec S1024x512 32) (v126 : BitVec 1)  (X3 : BufTy.Contents (Elt Ideal) arg3.view.ty) (X4 : BufTy.Contents (Elt Ideal) arg4.view.ty) (G10 : BufTy.Contents (Elt Ideal) arg10.view.ty) (G11 : BufTy.Contents (Elt Ideal) arg11.view.ty) (init : Carry Ideal) (q k v d : ℕ → ℕ → ℝ) (tot : ℕ → ℕ → ℝ)
    (hq : ∀ (r : Fin 512) (l : Fin 128), v8 (ix2 r l) = ((q (512 * (i 1).val + r.val) l.val : ℝ) : EReal))
    (hd : ∀ (r : Fin 512) (l : Fin 128), v10 (ix2 r l) = ((d (512 * (i 1).val + r.val) l.val : ℝ) : EReal))
    (ht : ∀ (r : Fin 512) (c : Fin 512), v42 (ix2 r c) = ((tot (c.val / 256) (512 * (i 1).val + r.val) : ℝ) : EReal))
    (htri : ∀ (x : Fin 1024) (c : Fin 512), (k0_pay57 (F := Ideal) v44 v109 v125 256#32 v126 1#32 (ix2 x c) : EReal) = if x.val / 256 % 2 = c.val / 256 ∧ x.val % 256 ≤ c.val % 256 then 1 else 0)
    (hk : ∀ (s : Fin 8192) (l : Fin 128), arg3.view.read (Elt Ideal) X3 (ix2 s l) = ((k s.val l.val : ℝ) : EReal))
    (hv : ∀ (s : Fin 8192) (l : Fin 128), arg4.view.read (Elt Ideal) X4 (ix2 s l) = ((v s.val l.val : ℝ) : EReal))
    (b10 b11 : S8192x128.Idx → EReal) (I : LoopAt q k v d tot (512 * (i 1).val) (512 * (i 1).val) init b10 b11 (arg10.view.read (Elt Ideal) G10) (arg11.view.read (Elt Ideal) G11)) :
    ∀ n, n ≤ k0_t3_loop.trips → LoopAt q k v d tot (512 * (i 1).val) (512 * (i 1).val + 256 * n) (st_k0_t3 (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 (BitVec.ofNat 32 (i 1).val * 2#32) X3 X4 G10 G11 init n).1 b10 b11
      (arg10.view.read (Elt Ideal) (arg10.view.writes (Elt Ideal) G10 (st_k0_t3 (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 (BitVec.ofNat 32 (i 1).val * 2#32) X3 X4 G10 G11 init n).2.1))
      (arg11.view.read (Elt Ideal) (arg11.view.writes (Elt Ideal) G11 (st_k0_t3 (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 (BitVec.ofNat 32 (i 1).val * 2#32) X3 X4 G10 G11 init n).2.2)) := by
  intro n
  induction n with
  | zero => exact fun _ => I
  | succ n ih =>
    intro hn
    have J := ih (by omega)
    have hi : (i 1).val < 16 := (i 1).isLt
    rw [show (st_k0_t3 (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 (BitVec.ofNat 32 (i 1).val * 2#32) X3 X4 G10 G11 init (n + 1)) = _ from st_k0_t3_succ (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 (BitVec.ofNat 32 (i 1).val * 2#32) X3 X4 G10 G11 init ⟨n, hn⟩]
    have e := t3_trip c i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 (BitVec.ofNat 32 (i 1).val * 2#32) X3 X4 ⟨n, hn⟩ (st_k0_t3 (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 (BitVec.ofNat 32 (i 1).val * 2#32) X3 X4 G10 G11 init n).1 (arg10.view.writes (Elt Ideal) G10 (st_k0_t3 (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 (BitVec.ofNat 32 (i 1).val * 2#32) X3 X4 G10 G11 init n).2.1) (arg11.view.writes (Elt Ideal) G11 (st_k0_t3 (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 (BitVec.ofNat 32 (i 1).val * 2#32) X3 X4 G10 G11 init n).2.2)
    generalize (st_k0_t3 (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 (BitVec.ofNat 32 (i 1).val * 2#32) X3 X4 G10 G11 init n) = st at J e ⊢
    unfold tripR_k0_t3 tripL_k0_t3
    dsimp only
    rw [View.writes_append, View.writes_append, e.1, e.2.1, e.2.2, (diag_eq (BitVec.ofNat 32 (i 1).val * 2#32) ⟨n, hn⟩ v8 v10 (k0_pay47 i) k0_pay48 k0_pay49 v42 _ _ _ st.1 (fun _ => 0)).1, (diag_eq (BitVec.ofNat 32 (i 1).val * 2#32) ⟨n, hn⟩ v8 v10 (k0_pay47 i) k0_pay48 k0_pay49 v42 _ _ _ st.1 _).2.1, (diag_eq (BitVec.ofNat 32 (i 1).val * 2#32) ⟨n, hn⟩ v8 v10 (k0_pay47 i) k0_pay48 k0_pay49 v42 _ _ _ st.1 _).2.2]
    exact loop_step arg3 arg4 arg10 arg11 X3 X4 _ _ _ _ (t3_off i ⟨n, hn⟩) (by have := t3_trips; omega) st.1 b10 b11 hq hd ht htri (fun r c => diag_mask i ⟨n, hn⟩ r c) hk hv J

end Cert.SbBwdIdeal.Sb

end
-- ==== Proof.SbOut.lean ====
module

public import proofs.«01_k».proof.Proof.SbLoop

@[expose] public section

set_option maxRecDepth 16384

noncomputable section

open Idealize.ShloMosaic Idealize.ShloMosaic.TcCoe
open scoped BigOperators

namespace Cert.SbBwdIdeal.Sb
open Cert.SbBwdIdeal Cert.SbBwdIdeal.Gen Cert.Scalars

/-! One block of queries: every tile of keys it sees. -/

/-- The tiles below the diagonal, all of them. -/
def st1 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v8 v10 : FVec Ideal S512x128 .bf16) (v42 : FVec Ideal S512x512 .f32) (v44 : IVec S1024x512 32) (v109 : IVec S1024x512 1) (v125 : IVec S1024x512 32) (v126 : BitVec 1) (v156 v161 v152 : BitVec 32) (X3 : BufTy.Contents (Elt Ideal) arg3.view.ty) (X4 : BufTy.Contents (Elt Ideal) arg4.view.ty) (G10 : BufTy.Contents (Elt Ideal) arg10.view.ty) (G11 : BufTy.Contents (Elt Ideal) arg11.view.ty) (init : Carry Ideal) (w : BitVec 32) (hw : k0_chk1 i w) : Carry Ideal × List (View.Piece (Elt Ideal) S8192x128 .f32) × List (View.Piece (Elt Ideal) S8192x128 .f32) :=
  (st_k0_t1 (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 w hw v156 X3 X4 G10 G11 init (k0_t1_loop w).trips)
/-- The loop that is left over and has no trip. -/
def st2 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v8 v10 : FVec Ideal S512x128 .bf16) (v42 : FVec Ideal S512x512 .f32) (v44 : IVec S1024x512 32) (v109 : IVec S1024x512 1) (v125 : IVec S1024x512 32) (v126 : BitVec 1) (v156 v161 v152 : BitVec 32) (X3 : BufTy.Contents (Elt Ideal) arg3.view.ty) (X4 : BufTy.Contents (Elt Ideal) arg4.view.ty) (G10 : BufTy.Contents (Elt Ideal) arg10.view.ty) (G11 : BufTy.Contents (Elt Ideal) arg11.view.ty) (init : Carry Ideal) (w : BitVec 32) (hw : k0_chk1 i w) : Carry Ideal × List (View.Piece (Elt Ideal) S8192x128 .f32) × List (View.Piece (Elt Ideal) S8192x128 .f32) :=
  (st_k0_t2 (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 w hw v156 v161 X3 X4 (arg10.view.writes (Elt Ideal) G10 (st1 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.1) (arg11.view.writes (Elt Ideal) G11 (st1 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.2) ((st1 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).1.1, (st1 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).1.2.1, (st1 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).1.2.2.1, (st1 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).1.2.2.2.1, (st1 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).1.2.2.2.2) (k0_t2_loop w).trips)
/-- The tiles on the diagonal. -/
def st3 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v8 v10 : FVec Ideal S512x128 .bf16) (v42 : FVec Ideal S512x512 .f32) (v44 : IVec S1024x512 32) (v109 : IVec S1024x512 1) (v125 : IVec S1024x512 32) (v126 : BitVec 1) (v156 v161 v152 : BitVec 32) (X3 : BufTy.Contents (Elt Ideal) arg3.view.ty) (X4 : BufTy.Contents (Elt Ideal) arg4.view.ty) (G10 : BufTy.Contents (Elt Ideal) arg10.view.ty) (G11 : BufTy.Contents (Elt Ideal) arg11.view.ty) (init : Carry Ideal) (w : BitVec 32) (hw : k0_chk1 i w) : Carry Ideal × List (View.Piece (Elt Ideal) S8192x128 .f32) × List (View.Piece (Elt Ideal) S8192x128 .f32) :=
  (st_k0_t3 (F := Ideal) Variants.none c none i arg2 harg2 arg3 harg3 arg4 harg4 arg5 harg5 arg6 harg6 arg7 harg7 arg8 harg8 arg9 harg9 arg10 harg10 arg11 harg11 arg0 arg1 v8 v10 (k0_pay47 i) k0_pay48 k0_pay49 v42 v44 v109 v125 256#32 v126 1#32 v152 X3 X4 (arg10.view.writes (Elt Ideal) G10 ((st2 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.1 ++ (st1 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.1)) (arg11.view.writes (Elt Ideal) G11 ((st2 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.2 ++ (st1 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.2)) ((st2 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).1.1, (st2 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).1.2.1, (st2 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).1.2.2.1, (st2 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).1.2.2.2.1, (st2 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).1.2.2.2.2) k0_t3_loop.trips)

theorem block_loops (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v8 v10 : FVec Ideal S512x128 .bf16) (v42 : FVec Ideal S512x512 .f32) (v44 : IVec S1024x512 32) (v109 : IVec S1024x512 1) (v125 : IVec S1024x512 32) (v126 : BitVec 1) (v156 v161 v152 : BitVec 32) (X3 : BufTy.Contents (Elt Ideal) arg3.view.ty) (X4 : BufTy.Contents (Elt Ideal) arg4.view.ty) (G10 : BufTy.Contents (Elt Ideal) arg10.view.ty) (G11 : BufTy.Contents (Elt Ideal) arg11.view.ty) (init : Carry Ideal) (w : BitVec 32) (hw : k0_chk1 i w) (hwi : w = (BitVec.ofNat 32 (i 1).val * 2#32)) (hv152 : v152 = (BitVec.ofNat 32 (i 1).val * 2#32)) (q k v d : ℕ → ℕ → ℝ) (tot : ℕ → ℕ → ℝ)
    (hq : ∀ (r : Fin 512) (l : Fin 128), v8 (ix2 r l) = ((q (512 * (i 1).val + r.val) l.val : ℝ) : EReal))
    (hd : ∀ (r : Fin 512) (l : Fin 128), v10 (ix2 r l) = ((d (512 * (i 1).val + r.val) l.val : ℝ) : EReal))
    (ht : ∀ (r : Fin 512) (c : Fin 512), v42 (ix2 r c) = ((tot (c.val / 256) (512 * (i 1).val + r.val) : ℝ) : EReal))
    (htri : ∀ (x : Fin 1024) (c : Fin 512), (k0_pay57 (F := Ideal) v44 v109 v125 256#32 v126 1#32 (ix2 x c) : EReal) = if x.val / 256 % 2 = c.val / 256 ∧ x.val % 256 ≤ c.val % 256 then 1 else 0)
    (hk : ∀ (s : Fin 8192) (l : Fin 128), arg3.view.read (Elt Ideal) X3 (ix2 s l) = ((k s.val l.val : ℝ) : EReal))
    (hv : ∀ (s : Fin 8192) (l : Fin 128), arg4.view.read (Elt Ideal) X4 (ix2 s l) = ((v s.val l.val : ℝ) : EReal))
    (b10 b11 : S8192x128.Idx → EReal) (I : LoopAt q k v d tot (512 * (i 1).val) 0 init b10 b11 (arg10.view.read (Elt Ideal) G10) (arg11.view.read (Elt Ideal) G11)) :
    LoopAt q k v d tot (512 * (i 1).val) (512 * (i 1).val + 512) (st3 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).1 b10 b11
      (arg10.view.read (Elt Ideal) (arg10.view.writes (Elt Ideal) G10 ((st3 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.1 ++ ((st2 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.1 ++ (st1 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.1))))
      (arg11.view.read (Elt Ideal) (arg11.view.writes (Elt Ideal) G11 ((st3 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.2 ++ ((st2 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.2 ++ (st1 c i arg2 harg2 arg3 harg3 arg4 harg4 arg5 harg5 arg6 harg6 arg7 harg7 arg8 harg8 arg9 harg9 arg10 harg10 arg11 harg11 arg0 arg1 v8 v10 v42 v44 v109 v125 v126 v156 v161 v152 X3 X4 G10 G11 init w hw).2.2)))) := by
  subst hwi
  subst hv152
  have h1 := t1_loop c i arg2 harg2 arg3 harg3 arg4 harg4 arg5 harg5 arg6 harg6 arg7 harg7 arg8 harg8 arg9 harg9 arg10 harg10 arg11 harg11 arg0 arg1 v8 v10 (k0_pay47 i) v42 v44 v109 v125 v126 hw v156 X3 X4 G10 G11 init q k v d tot hq hd ht htri hk hv b10 b11 I _ (le_refl _)
  rw [show 256 * (k0_t1_loop (BitVec.ofNat 32 (i 1).val * 2#32)).trips = 512 * (i 1).val by rw [t1_trips]; omega] at h1
  have e2 : st2 c i arg2 harg2 arg3 harg3 arg4 harg4 arg5 harg5 arg6 harg6 arg7 harg7 arg8 harg8 arg9 harg9 arg10 harg10 arg11 harg11 arg0 arg1 v8 v10 v42 v44 v109 v125 v126 v156 v161 (BitVec.ofNat 32 (i 1).val * 2#32) X3 X4 G10 G11 init (BitVec.ofNat 32 (i 1).val * 2#32) hw = ((st1 c i arg2 harg2 arg3 harg3 arg4 harg4 arg5 harg5 arg6 harg6 arg7 harg7 arg8 harg8 arg9 harg9 arg10 harg10 arg11 harg11 arg0 arg1 v8 v10 v42 v44 v109 v125 v126 v156 v161 (BitVec.ofNat 32 (i 1).val * 2#32) X3 X4 G10 G11 init (BitVec.ofNat 32 (i 1).val * 2#32) hw).1, [], []) := by
    unfold st2
    rw [t2_trips i]
    rfl
  have h3 := t3_loop c i arg2 harg2 arg3 harg3 arg4 harg4 arg5 harg5 arg6 harg6 arg7 harg7 arg8 harg8 arg9 harg9 arg10 harg10 arg11 harg11 arg0 arg1 v8 v10 v42 v44 v109 v125 v126 X3 X4 _ _ _ q k v d tot hq hd ht htri hk hv b10 b11 h1 _ (le_refl _)
  rw [show 512 * (i 1).val + 256 * k0_t3_loop.trips = 512 * (i 1).val + 512 by rw [t3_trips]] at h3
  unfold st3
  rw [e2]
  dsimp only
  rw [List.nil_append, List.nil_append, View.writes_append, View.writes_append]
  exact h3

theorem word_B (c : Dev nD) (i : grid0.Coords) (arg7 : Memref sig .tc .smem S4x16 .i32) (harg7 : arg7.IsWhole) (x5 : Vec Ideal S4x16 .i32) : kernelRun0_B.sl.r_4 (F := Ideal) c i arg7 harg7 x5 = x5 (wix i) :=
  congrFun (harg7.read_unread x5) _
theorem run_B_7 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : ¬ cond0_0 i) (x0 : Vec Ideal S512x128 .bf16) (x1 : Vec Ideal S8192x128 .bf16) (x2 : Vec Ideal S8192x128 .bf16) (x3 : Vec Ideal S1x512x1 .f32) (x4 : Vec Ideal S1x512x1 .f32) (x5 : Vec Ideal S4x16 .i32) (x6 : Vec Ideal S512x128 .bf16) (hk : ∀ w : Elt Ideal .i32, w = x5 (wix i) → k0_chk1 i w) (xo8 xo9 : Vec Ideal S8192x128 .f32) :
    (kernelRun0_B c i arg2 harg2 arg3 harg3 arg4 harg4 arg5 harg5 arg6 harg6 arg7 harg7 arg8 harg8 arg9 harg9 arg10 harg10 arg11 harg11 hc0 x0 x1 x2 x3 x4 x5 x6 hk xo8 xo9).1 = [⟨Rect.unit (s := S512x128) ![0, 0] S512x128.size inb_S512x128_S512x128_0_0, k0_pay74 (st3 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5))).1.1⟩] := by
  unfold kernelRun0_B
  dsimp only
  unfold kernelRun0_B.sl.r_5
  generalize hs1 : st_k0_t1 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (k0_pay47 i) k0_pay48 k0_pay49 (kernelRun0_B.sl.r_3 c arg5 harg5 arg6 harg6 x3 x4) kernelRun0_B.sl.v44 (k0_pay55 kernelRun0_B.sl.v44 k0_pay52 k0_pay53 k0_pay54) (k0_pay56 kernelRun0_B.sl.v43) 256#32 0#1 1#32 (kernelRun0_B.sl.r_4 c i arg7 harg7 x5) _ _ _ _ _ _ _ _ = s1
  have h1 : st1 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5)) = s1 := hs1
  clear hs1
  generalize hs2 : st_k0_t2 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (k0_pay47 i) k0_pay48 k0_pay49 (kernelRun0_B.sl.r_3 c arg5 harg5 arg6 harg6 x3 x4) kernelRun0_B.sl.v44 (k0_pay55 kernelRun0_B.sl.v44 k0_pay52 k0_pay53 k0_pay54) (k0_pay56 kernelRun0_B.sl.v43) 256#32 0#1 1#32 (kernelRun0_B.sl.r_4 c i arg7 harg7 x5) _ _ _ _ _ _ _ _ _ = s2
  have h2 : st2 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5)) = s2 := by
    unfold st2
    rw [h1]

    exact hs2
  clear hs2
  unfold st3
  rw [h2, h1]
theorem run_B_8 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : ¬ cond0_0 i) (x0 : Vec Ideal S512x128 .bf16) (x1 : Vec Ideal S8192x128 .bf16) (x2 : Vec Ideal S8192x128 .bf16) (x3 : Vec Ideal S1x512x1 .f32) (x4 : Vec Ideal S1x512x1 .f32) (x5 : Vec Ideal S4x16 .i32) (x6 : Vec Ideal S512x128 .bf16) (hk : ∀ w : Elt Ideal .i32, w = x5 (wix i) → k0_chk1 i w) (xo8 xo9 : Vec Ideal S8192x128 .f32) :
    (kernelRun0_B c i arg2 harg2 arg3 harg3 arg4 harg4 arg5 harg5 arg6 harg6 arg7 harg7 arg8 harg8 arg9 harg9 arg10 harg10 arg11 harg11 hc0 x0 x1 x2 x3 x4 x5 x6 hk xo8 xo9).2.1 = ((st3 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5))).2.1 ++ ((st2 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5))).2.1 ++ (st1 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5))).2.1)) := by
  unfold kernelRun0_B
  dsimp only
  generalize hs1 : st_k0_t1 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (k0_pay47 i) k0_pay48 k0_pay49 (kernelRun0_B.sl.r_3 c arg5 harg5 arg6 harg6 x3 x4) kernelRun0_B.sl.v44 (k0_pay55 kernelRun0_B.sl.v44 k0_pay52 k0_pay53 k0_pay54) (k0_pay56 kernelRun0_B.sl.v43) 256#32 0#1 1#32 (kernelRun0_B.sl.r_4 c i arg7 harg7 x5) _ _ _ _ _ _ _ _ = s1
  have h1 : st1 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5)) = s1 := hs1
  clear hs1
  generalize hs2 : st_k0_t2 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (k0_pay47 i) k0_pay48 k0_pay49 (kernelRun0_B.sl.r_3 c arg5 harg5 arg6 harg6 x3 x4) kernelRun0_B.sl.v44 (k0_pay55 kernelRun0_B.sl.v44 k0_pay52 k0_pay53 k0_pay54) (k0_pay56 kernelRun0_B.sl.v43) 256#32 0#1 1#32 (kernelRun0_B.sl.r_4 c i arg7 harg7 x5) _ _ _ _ _ _ _ _ _ = s2
  have h2 : st2 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5)) = s2 := by
    unfold st2
    rw [h1]

    exact hs2
  clear hs2
  unfold st3
  rw [h2, h1]
theorem run_B_9 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : ¬ cond0_0 i) (x0 : Vec Ideal S512x128 .bf16) (x1 : Vec Ideal S8192x128 .bf16) (x2 : Vec Ideal S8192x128 .bf16) (x3 : Vec Ideal S1x512x1 .f32) (x4 : Vec Ideal S1x512x1 .f32) (x5 : Vec Ideal S4x16 .i32) (x6 : Vec Ideal S512x128 .bf16) (hk : ∀ w : Elt Ideal .i32, w = x5 (wix i) → k0_chk1 i w) (xo8 xo9 : Vec Ideal S8192x128 .f32) :
    (kernelRun0_B c i arg2 harg2 arg3 harg3 arg4 harg4 arg5 harg5 arg6 harg6 arg7 harg7 arg8 harg8 arg9 harg9 arg10 harg10 arg11 harg11 hc0 x0 x1 x2 x3 x4 x5 x6 hk xo8 xo9).2.2.1 = ((st3 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5))).2.2 ++ ((st2 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5))).2.2 ++ (st1 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5))).2.2)) := by
  unfold kernelRun0_B
  dsimp only
  generalize hs1 : st_k0_t1 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (k0_pay47 i) k0_pay48 k0_pay49 (kernelRun0_B.sl.r_3 c arg5 harg5 arg6 harg6 x3 x4) kernelRun0_B.sl.v44 (k0_pay55 kernelRun0_B.sl.v44 k0_pay52 k0_pay53 k0_pay54) (k0_pay56 kernelRun0_B.sl.v43) 256#32 0#1 1#32 (kernelRun0_B.sl.r_4 c i arg7 harg7 x5) _ _ _ _ _ _ _ _ = s1
  have h1 : st1 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5)) = s1 := hs1
  clear hs1
  generalize hs2 : st_k0_t2 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (k0_pay47 i) k0_pay48 k0_pay49 (kernelRun0_B.sl.r_3 c arg5 harg5 arg6 harg6 x3 x4) kernelRun0_B.sl.v44 (k0_pay55 kernelRun0_B.sl.v44 k0_pay52 k0_pay53 k0_pay54) (k0_pay56 kernelRun0_B.sl.v43) 256#32 0#1 1#32 (kernelRun0_B.sl.r_4 c i arg7 harg7 x5) _ _ _ _ _ _ _ _ _ = s2
  have h2 : st2 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5)) = s2 := by
    unfold st2
    rw [h1]

    exact hs2
  clear hs2
  unfold st3
  rw [h2, h1]

theorem word_A (c : Dev nD) (i : grid0.Coords) (arg7 : Memref sig .tc .smem S4x16 .i32) (harg7 : arg7.IsWhole) (x5 : Vec Ideal S4x16 .i32) : kernelRun0_A.sl.r_4 (F := Ideal) c i arg7 harg7 x5 = x5 (wix i) :=
  congrFun (harg7.read_unread x5) _
theorem run_A_7 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : cond0_0 i) (x0 : Vec Ideal S512x128 .bf16) (x1 : Vec Ideal S8192x128 .bf16) (x2 : Vec Ideal S8192x128 .bf16) (x3 : Vec Ideal S1x512x1 .f32) (x4 : Vec Ideal S1x512x1 .f32) (x5 : Vec Ideal S4x16 .i32) (x6 : Vec Ideal S512x128 .bf16) (hk : ∀ w : Elt Ideal .i32, w = x5 (wix i) → k0_chk1 i w)  :
    (kernelRun0_A c i arg2 harg2 arg3 harg3 arg4 harg4 arg5 harg5 arg6 harg6 arg7 harg7 arg8 harg8 arg9 harg9 arg10 harg10 arg11 harg11 hc0 x0 x1 x2 x3 x4 x5 x6 hk).1 = [⟨Rect.unit (s := S512x128) ![0, 0] S512x128.size inb_S512x128_S512x128_0_0, k0_pay74 (st3 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5))).1.1⟩] := by
  unfold kernelRun0_A
  dsimp only
  unfold kernelRun0_A.sl.r_5
  generalize hs1 : st_k0_t1 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (k0_pay47 i) k0_pay48 k0_pay49 (kernelRun0_A.sl.r_3 c arg5 harg5 arg6 harg6 x3 x4) kernelRun0_A.sl.v44 (k0_pay55 kernelRun0_A.sl.v44 k0_pay52 k0_pay53 k0_pay54) (k0_pay56 kernelRun0_A.sl.v43) 256#32 0#1 1#32 (kernelRun0_A.sl.r_4 c i arg7 harg7 x5) _ _ _ _ _ _ _ _ = s1
  have h1 : st1 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5)) = s1 := hs1
  clear hs1
  generalize hs2 : st_k0_t2 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (k0_pay47 i) k0_pay48 k0_pay49 (kernelRun0_A.sl.r_3 c arg5 harg5 arg6 harg6 x3 x4) kernelRun0_A.sl.v44 (k0_pay55 kernelRun0_A.sl.v44 k0_pay52 k0_pay53 k0_pay54) (k0_pay56 kernelRun0_A.sl.v43) 256#32 0#1 1#32 (kernelRun0_A.sl.r_4 c i arg7 harg7 x5) _ _ _ _ _ _ _ _ _ = s2
  have h2 : st2 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5)) = s2 := by
    unfold st2
    rw [h1]
    rw [View.writes_append, View.writes_append] at hs2
    exact hs2
  clear hs2
  unfold st3
  rw [h2, h1]
  simp only [View.writes_append]
  rfl
theorem run_A_8 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : cond0_0 i) (x0 : Vec Ideal S512x128 .bf16) (x1 : Vec Ideal S8192x128 .bf16) (x2 : Vec Ideal S8192x128 .bf16) (x3 : Vec Ideal S1x512x1 .f32) (x4 : Vec Ideal S1x512x1 .f32) (x5 : Vec Ideal S4x16 .i32) (x6 : Vec Ideal S512x128 .bf16) (hk : ∀ w : Elt Ideal .i32, w = x5 (wix i) → k0_chk1 i w)  :
    (kernelRun0_A c i arg2 harg2 arg3 harg3 arg4 harg4 arg5 harg5 arg6 harg6 arg7 harg7 arg8 harg8 arg9 harg9 arg10 harg10 arg11 harg11 hc0 x0 x1 x2 x3 x4 x5 x6 hk).2.1 = (st3 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5))).2.1 ++ ((st2 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5))).2.1 ++ ((st1 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5))).2.1 ++ [⟨Rect.unit (s := S8192x128) ![0, 0] S8192x128.size inb_S8192x128_S8192x128_0_0, k0_pay43 (F := Ideal)⟩])) := by
  unfold kernelRun0_A
  dsimp only
  generalize hs1 : st_k0_t1 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (k0_pay47 i) k0_pay48 k0_pay49 (kernelRun0_A.sl.r_3 c arg5 harg5 arg6 harg6 x3 x4) kernelRun0_A.sl.v44 (k0_pay55 kernelRun0_A.sl.v44 k0_pay52 k0_pay53 k0_pay54) (k0_pay56 kernelRun0_A.sl.v43) 256#32 0#1 1#32 (kernelRun0_A.sl.r_4 c i arg7 harg7 x5) _ _ _ _ _ _ _ _ = s1
  have h1 : st1 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5)) = s1 := hs1
  clear hs1
  generalize hs2 : st_k0_t2 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (k0_pay47 i) k0_pay48 k0_pay49 (kernelRun0_A.sl.r_3 c arg5 harg5 arg6 harg6 x3 x4) kernelRun0_A.sl.v44 (k0_pay55 kernelRun0_A.sl.v44 k0_pay52 k0_pay53 k0_pay54) (k0_pay56 kernelRun0_A.sl.v43) 256#32 0#1 1#32 (kernelRun0_A.sl.r_4 c i arg7 harg7 x5) _ _ _ _ _ _ _ _ _ = s2
  have h2 : st2 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5)) = s2 := by
    unfold st2
    rw [h1]
    rw [View.writes_append, View.writes_append] at hs2
    exact hs2
  clear hs2
  unfold st3
  rw [h2, h1]
  simp only [View.writes_append]
  rfl
theorem run_A_9 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : cond0_0 i) (x0 : Vec Ideal S512x128 .bf16) (x1 : Vec Ideal S8192x128 .bf16) (x2 : Vec Ideal S8192x128 .bf16) (x3 : Vec Ideal S1x512x1 .f32) (x4 : Vec Ideal S1x512x1 .f32) (x5 : Vec Ideal S4x16 .i32) (x6 : Vec Ideal S512x128 .bf16) (hk : ∀ w : Elt Ideal .i32, w = x5 (wix i) → k0_chk1 i w)  :
    (kernelRun0_A c i arg2 harg2 arg3 harg3 arg4 harg4 arg5 harg5 arg6 harg6 arg7 harg7 arg8 harg8 arg9 harg9 arg10 harg10 arg11 harg11 hc0 x0 x1 x2 x3 x4 x5 x6 hk).2.2.1 = (st3 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5))).2.2 ++ ((st2 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5))).2.2 ++ ((st1 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5))).2.2 ++ [⟨Rect.unit (s := S8192x128) ![0, 0] S8192x128.size inb_S8192x128_S8192x128_0_0, k0_pay44 (F := Ideal)⟩])) := by
  unfold kernelRun0_A
  dsimp only
  generalize hs1 : st_k0_t1 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (k0_pay47 i) k0_pay48 k0_pay49 (kernelRun0_A.sl.r_3 c arg5 harg5 arg6 harg6 x3 x4) kernelRun0_A.sl.v44 (k0_pay55 kernelRun0_A.sl.v44 k0_pay52 k0_pay53 k0_pay54) (k0_pay56 kernelRun0_A.sl.v43) 256#32 0#1 1#32 (kernelRun0_A.sl.r_4 c i arg7 harg7 x5) _ _ _ _ _ _ _ _ = s1
  have h1 : st1 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5)) = s1 := hs1
  clear hs1
  generalize hs2 : st_k0_t2 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (k0_pay47 i) k0_pay48 k0_pay49 (kernelRun0_A.sl.r_3 c arg5 harg5 arg6 harg6 x3 x4) kernelRun0_A.sl.v44 (k0_pay55 kernelRun0_A.sl.v44 k0_pay52 k0_pay53 k0_pay54) (k0_pay56 kernelRun0_A.sl.v43) 256#32 0#1 1#32 (kernelRun0_A.sl.r_4 c i arg7 harg7 x5) _ _ _ _ _ _ _ _ _ = s2
  have h2 : st2 c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5)) = s2 := by
    unfold st2
    rw [h1]
    rw [View.writes_append, View.writes_append] at hs2
    exact hs2
  clear hs2
  unfold st3
  rw [h2, h1]
  simp only [View.writes_append]
  rfl

end Cert.SbBwdIdeal.Sb

end
-- ==== Proof.SbVal.lean ====
module

public import proofs.«01_k».proof.Proof.SbOut

@[expose] public section

set_option maxRecDepth 16384

noncomputable section

open Idealize.ShloMosaic Idealize.ShloMosaic.TcCoe
open scoped BigOperators

namespace Cert.SbBwdIdeal.Sb
open Cert.SbBwdIdeal Cert.SbBwdIdeal.Gen Cert.Scalars

/-! What one block of queries leaves in the outputs. -/

theorem read_whole {s : Shape} {e : EltTy} {sp : Space} (M : Memref sig .tc sp s e) (hM : M.IsWhole) (x : Vec Ideal s e) (r : Rect s) (j : r.shape.Idx) (y : s.Idx) (h : r.toLoadRect.idx j = y) :
    M.view.readAt (Elt Ideal) r.toLoadRect (hM.unread x) j = x y :=
  (congrFun (hM.read_unread x) _).trans (congrArg x h)

theorem ofBits_eighth : (Ideal.ofBits .f32 0x3E000000#32 : EReal) = ((1 / 8 : ℝ) : EReal) := by
  simp [Ideal.ofBits, Ideal.ieee]
  rw [← EReal.coe_mul]
  norm_num

theorem whole2 {a b : ℕ} (inb : ∀ x : Fin 2, (![0, 0] : Fin 2 → ℕ) x + (![a, b] : Fin 2 → ℕ) x ≤ (![a, b] : Fin 2 → ℕ) x) (j : (⟨2, ![a, b]⟩ : Shape).Idx) : (Rect.unit (s := ⟨2, ![a, b]⟩) ![0, 0] ![a, b] inb).toLoadRect.idx j = j := by
  funext x
  refine Fin.ext ?_
  fin_cases x
  · exact (Nat.zero_add _).trans (Nat.one_mul _)
  · exact (Nat.zero_add _).trans (Nat.one_mul _)
theorem whole3 {a b c : ℕ} (inb : ∀ x : Fin 3, (![0, 0, 0] : Fin 3 → ℕ) x + (![a, b, c] : Fin 3 → ℕ) x ≤ (![a, b, c] : Fin 3 → ℕ) x) (j : (⟨3, ![a, b, c]⟩ : Shape).Idx) : (Rect.unit (s := ⟨3, ![a, b, c]⟩) ![0, 0, 0] ![a, b, c] inb).toLoadRect.idx j = j := by
  funext x
  refine Fin.ext ?_
  fin_cases x
  · exact (Nat.zero_add _).trans (Nat.one_mul _)
  · exact (Nat.zero_add _).trans (Nat.one_mul _)
  · exact (Nat.zero_add _).trans (Nat.one_mul _)

theorem r_q (x : Vec Ideal S512x128 .bf16) (qs : ℕ → ℕ → ℝ) (R0 : ℕ) (h : ∀ (r : Fin 512) (l : Fin 128), x (ix2 r l) = ((qs (R0 + r.val) l.val : ℝ) : EReal)) (r : Fin 512) (l : Fin 128) :
    k0_pay45 x (ix2 r l) = ((qs (R0 + r.val) l.val * (1 / 8) : ℝ) : EReal) := by
  pointwise [k0_pay45, h]
  exact (congrArg (_ * ·) ofBits_eighth).trans (EReal.coe_mul _ _).symm
theorem r_d (x : Vec Ideal S512x128 .bf16) (r : Fin 512) (l : Fin 128) :
    k0_pay46 x (ix2 r l) = x (ix2 r l) := by
  pointwise [k0_pay46]
theorem r_tot (a b : Vec Ideal S1x512x1 .f32) (r : Fin 512) (c : Fin 512) (t : ℕ → ℕ → ℝ) (R : ℕ) (ha : a (ix3 (0 : Fin 1) r (0 : Fin 1)) = ((t 0 R : ℝ) : EReal)) (hb : b (ix3 (0 : Fin 1) r (0 : Fin 1)) = ((t 1 R : ℝ) : EReal)) :
    k0_pay51 k0_pay48 (k0_pay50 a) b (ix2 r c) = ((t (c.val / 256) R : ℝ) : EReal) := by
  pointwise [k0_pay51, k0_pay50, half]
  rw [ha, hb]
  exact pick (fun b => t b R) c
theorem r_dq (x : FVec Ideal S512x128 .f32) (r : Fin 512) (l : Fin 128) (y : ℝ) (h : x (ix2 r l) = ((y : ℝ) : EReal)) :
    (k0_pay74 x (ix2 r l) : EReal) = ((y * (1 / 8) : ℝ) : EReal) := by
  pointwise [k0_pay74]
  rw [h]
  exact (congrArg (_ * ·) ofBits_eighth).trans (EReal.coe_mul _ _).symm

/-- Nothing yet. -/
theorem init_at (q k v d : ℕ → ℕ → ℝ) (tot : ℕ → ℕ → ℝ) (R0 : ℕ) (b10 b11 : S8192x128.Idx → EReal) : LoopAt q k v d tot R0 0 ((k0_pay60, k0_pay59, k0_pay59, k0_pay59, k0_pay59) : Carry Ideal) b10 b11 b10 b11 := by
  have z : ∀ r : Fin 512, (k0_pay59 (F := Ideal) (ix2 r (0 : Fin 1)) : EReal) = ((0 : ℝ) : EReal) := fun r => by
    pointwise [k0_pay59]
    exact EReal.coe_zero.symm
  refine ⟨⟨fun r l => ?_, fun r => z r, fun r => z r, fun r => z r, fun r => z r⟩, fun s l => ?_, fun s l => ?_⟩
  · show (k0_pay60 (F := Ideal) (ix2 r l) : EReal) = ((0 : ℝ) : EReal)
    pointwise [k0_pay60]
    exact EReal.coe_zero.symm
  · rw [if_neg (Nat.not_lt_zero _), EReal.coe_zero, add_zero]
  · rw [if_neg (Nat.not_lt_zero _), EReal.coe_zero, add_zero]

theorem zero_whole (M : Memref sig .tc .vmem S8192x128 .f32) (f : BufTy.Contents (Elt Ideal) M.view.ty) (w : Vec Ideal S8192x128 .f32) (hw : ∀ (s : Fin 8192) (l : Fin 128), (w (ix2 s l) : EReal) = 0) (inb) :
    M.view.read (Elt Ideal) (M.view.writes (Elt Ideal) f [⟨Rect.unit (s := S8192x128) ![0, 0] S8192x128.size inb, w⟩]) = fun _ => (0 : EReal) := by
  funext y
  rw [eq_ix2 y]
  exact (View.read_writes_cons_rows_of_mem M.view f inb w [] _ (ix2 (y 0) (y 1)) rfl (Nat.zero_add _).symm rfl).trans (hw _ _)

attribute [local irreducible] kernelRun0_A kernelRun0_B st1 st2 st3

theorem out_B (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : ¬ cond0_0 i) (x0 : Vec Ideal S512x128 .bf16) (x1 : Vec Ideal S8192x128 .bf16) (x2 : Vec Ideal S8192x128 .bf16) (x3 : Vec Ideal S1x512x1 .f32) (x4 : Vec Ideal S1x512x1 .f32) (x5 : Vec Ideal S4x16 .i32) (x6 : Vec Ideal S512x128 .bf16) (hk : ∀ w : Elt Ideal .i32, w = x5 (wix i) → k0_chk1 i w) (xo8 xo9 : Vec Ideal S8192x128 .f32) (qs k v d : ℕ → ℕ → ℝ) (tot : ℕ → ℕ → ℝ)
    (h0 : ∀ (r : Fin 512) (l : Fin 128), x0 (ix2 r l) = ((qs (512 * (i 1).val + r.val) l.val : ℝ) : EReal))
    (h1 : ∀ (s : Fin 8192) (l : Fin 128), x1 (ix2 s l) = ((k s.val l.val : ℝ) : EReal))
    (h2 : ∀ (s : Fin 8192) (l : Fin 128), x2 (ix2 s l) = ((v s.val l.val : ℝ) : EReal))
    (h3 : ∀ (r : Fin 512), x3 (ix3 (0 : Fin 1) r (0 : Fin 1)) = ((tot 0 (512 * (i 1).val + r.val) : ℝ) : EReal))
    (h4 : ∀ (r : Fin 512), x4 (ix3 (0 : Fin 1) r (0 : Fin 1)) = ((tot 1 (512 * (i 1).val + r.val) : ℝ) : EReal))
    (h5 : x5 (wix i) = BitVec.ofNat 32 (i 1).val * 2#32)
    (h6 : ∀ (r : Fin 512) (l : Fin 128), x6 (ix2 r l) = ((d (512 * (i 1).val + r.val) l.val : ℝ) : EReal)) :
    (∀ (r : Fin 512) (l : Fin 128), ((out0_B_7 c i arg2 harg2 arg3 harg3 arg4 harg4 arg5 harg5 arg6 harg6 arg7 harg7 arg8 harg8 arg9 harg9 arg10 harg10 arg11 harg11 hc0 x0 x1 x2 x3 x4 x5 x6 hk xo8 xo9) (ix2 r l) : EReal) = ((dqr (fun R l => qs R l * (1 / 8)) k v d tot (512 * (i 1).val + 512) (512 * (i 1).val + r.val) l.val * (1 / 8) : ℝ) : EReal))
    ∧ (∀ (s : Fin 8192) (l : Fin 128), ((out0_B_8 c i arg2 harg2 arg3 harg3 arg4 harg4 arg5 harg5 arg6 harg6 arg7 harg7 arg8 harg8 arg9 harg9 arg10 harg10 arg11 harg11 hc0 x0 x1 x2 x3 x4 x5 x6 hk xo8 xo9) (ix2 s l) : EReal) = xo8 (ix2 s l) + (((if s.val < 512 * (i 1).val + 512 then ∑ r ∈ Finset.range 512, dzr (fun R l => qs R l * (1 / 8)) k v d tot (l.val / 64) (512 * (i 1).val + r) s.val * (fun R l => qs R l * (1 / 8)) (512 * (i 1).val + r) l.val else 0 : ℝ)) : EReal))
    ∧ (∀ (s : Fin 8192) (l : Fin 128), ((out0_B_9 c i arg2 harg2 arg3 harg3 arg4 harg4 arg5 harg5 arg6 harg6 arg7 harg7 arg8 harg8 arg9 harg9 arg10 harg10 arg11 harg11 hc0 x0 x1 x2 x3 x4 x5 x6 hk xo8 xo9) (ix2 s l) : EReal) = xo9 (ix2 s l) + (((if s.val < 512 * (i 1).val + 512 then ∑ r ∈ Finset.range 512, wr (fun R l => qs R l * (1 / 8)) k tot (l.val / 64) (512 * (i 1).val + r) s.val * d (512 * (i 1).val + r) l.val else 0 : ℝ)) : EReal)) := by
  have P := block_loops c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_B.sl.r c arg2 harg2 x0) (kernelRun0_B.sl.r_1 c arg8 harg8 x6) (kernelRun0_B.sl.r_3 c arg5 harg5 arg6 harg6 x3 x4) kernelRun0_B.sl.v44 (k0_pay55 kernelRun0_B.sl.v44 k0_pay52 k0_pay53 k0_pay54) (k0_pay56 kernelRun0_B.sl.v43) 0#1 (kernelRun0_B.sl.v156 c i arg7 harg7 x5) (kernelRun0_B.sl.v161 c i arg7 harg7 x5) (kernelRun0_B.sl.v152 i) (harg3.unread x1) (harg4.unread x2) (harg10.unread xo8) (harg11.unread xo9) (k0_pay60, k0_pay59, k0_pay59, k0_pay59, k0_pay59) (kernelRun0_B.sl.r_4 c i arg7 harg7 x5) (hk _ (word_B c i arg7 harg7 x5)) ((word_B c i arg7 harg7 x5).trans h5) rfl
    (fun R l => qs R l * (1 / 8)) k v d tot
    (fun r l => r_q _ qs (512 * (i 1).val) (fun r l => (read_whole arg2 harg2 x0 _ _ _ (whole2 _ _)).trans (h0 r l)) r l)
    (fun r l => (r_d _ r l).trans ((read_whole arg8 harg8 x6 _ _ _ (whole2 _ _)).trans (h6 r l)))
    (fun r e => r_tot _ _ r e tot (512 * (i 1).val + r.val) ((read_whole arg5 harg5 x3 _ _ _ (whole3 _ _)).trans (h3 r)) ((read_whole arg6 harg6 x4 _ _ _ (whole3 _ _)).trans (h4 r)))
    triv (fun s l => (congrFun (harg3.read_unread x1) _).trans (h1 s l)) (fun s l => (congrFun (harg4.read_unread x2) _).trans (h2 s l)) xo8 xo9 (by rw [harg10.read_unread xo8, harg11.read_unread xo9]; exact init_at (fun R l => qs R l * (1 / 8)) k v d tot (512 * (i 1).val) xo8 xo9)
  refine ⟨fun r l => ?_, fun s l => ?_, fun s l => ?_⟩
  · unfold out0_B_7
    rw [run_B_7]
    refine (View.read_writes_cons_rows_of_mem VO0_7 VO0_7.junk _ _ [] (ix2 r l) (ix2 r l) rfl (Nat.zero_add _).symm rfl).trans ?_
    exact r_dq _ r l _ (P.carry.dq r l)
  · refine Eq.trans ?_ (P.K s l)
    unfold out0_B_8
    rw [run_B_8]
  · refine Eq.trans ?_ (P.V s l)
    unfold out0_B_9
    rw [run_B_9]

theorem out_A (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (hc0 : cond0_0 i) (x0 : Vec Ideal S512x128 .bf16) (x1 : Vec Ideal S8192x128 .bf16) (x2 : Vec Ideal S8192x128 .bf16) (x3 : Vec Ideal S1x512x1 .f32) (x4 : Vec Ideal S1x512x1 .f32) (x5 : Vec Ideal S4x16 .i32) (x6 : Vec Ideal S512x128 .bf16) (hk : ∀ w : Elt Ideal .i32, w = x5 (wix i) → k0_chk1 i w)  (qs k v d : ℕ → ℕ → ℝ) (tot : ℕ → ℕ → ℝ)
    (h0 : ∀ (r : Fin 512) (l : Fin 128), x0 (ix2 r l) = ((qs (512 * (i 1).val + r.val) l.val : ℝ) : EReal))
    (h1 : ∀ (s : Fin 8192) (l : Fin 128), x1 (ix2 s l) = ((k s.val l.val : ℝ) : EReal))
    (h2 : ∀ (s : Fin 8192) (l : Fin 128), x2 (ix2 s l) = ((v s.val l.val : ℝ) : EReal))
    (h3 : ∀ (r : Fin 512), x3 (ix3 (0 : Fin 1) r (0 : Fin 1)) = ((tot 0 (512 * (i 1).val + r.val) : ℝ) : EReal))
    (h4 : ∀ (r : Fin 512), x4 (ix3 (0 : Fin 1) r (0 : Fin 1)) = ((tot 1 (512 * (i 1).val + r.val) : ℝ) : EReal))
    (h5 : x5 (wix i) = BitVec.ofNat 32 (i 1).val * 2#32)
    (h6 : ∀ (r : Fin 512) (l : Fin 128), x6 (ix2 r l) = ((d (512 * (i 1).val + r.val) l.val : ℝ) : EReal)) :
    (∀ (r : Fin 512) (l : Fin 128), ((out0_A_7 c i arg2 harg2 arg3 harg3 arg4 harg4 arg5 harg5 arg6 harg6 arg7 harg7 arg8 harg8 arg9 harg9 arg10 harg10 arg11 harg11 hc0 x0 x1 x2 x3 x4 x5 x6 hk) (ix2 r l) : EReal) = ((dqr (fun R l => qs R l * (1 / 8)) k v d tot (512 * (i 1).val + 512) (512 * (i 1).val + r.val) l.val * (1 / 8) : ℝ) : EReal))
    ∧ (∀ (s : Fin 8192) (l : Fin 128), ((out0_A_8 c i arg2 harg2 arg3 harg3 arg4 harg4 arg5 harg5 arg6 harg6 arg7 harg7 arg8 harg8 arg9 harg9 arg10 harg10 arg11 harg11 hc0 x0 x1 x2 x3 x4 x5 x6 hk) (ix2 s l) : EReal) = (fun _ => (0 : EReal)) (ix2 s l) + (((if s.val < 512 * (i 1).val + 512 then ∑ r ∈ Finset.range 512, dzr (fun R l => qs R l * (1 / 8)) k v d tot (l.val / 64) (512 * (i 1).val + r) s.val * (fun R l => qs R l * (1 / 8)) (512 * (i 1).val + r) l.val else 0 : ℝ)) : EReal))
    ∧ (∀ (s : Fin 8192) (l : Fin 128), ((out0_A_9 c i arg2 harg2 arg3 harg3 arg4 harg4 arg5 harg5 arg6 harg6 arg7 harg7 arg8 harg8 arg9 harg9 arg10 harg10 arg11 harg11 hc0 x0 x1 x2 x3 x4 x5 x6 hk) (ix2 s l) : EReal) = (fun _ => (0 : EReal)) (ix2 s l) + (((if s.val < 512 * (i 1).val + 512 then ∑ r ∈ Finset.range 512, wr (fun R l => qs R l * (1 / 8)) k tot (l.val / 64) (512 * (i 1).val + r) s.val * d (512 * (i 1).val + r) l.val else 0 : ℝ)) : EReal)) := by
  have P := block_loops c i arg2 harg2 arg3 harg3 arg4 harg4 arg5 harg5 arg6 harg6 arg7 harg7 arg8 harg8 arg9 harg9 arg10 harg10 arg11 harg11 (BitVec.ofNat 32 (i 0).val) (BitVec.ofNat 32 (i 1).val) (kernelRun0_A.sl.r c arg2 harg2 x0) (kernelRun0_A.sl.r_1 c arg8 harg8 x6) (kernelRun0_A.sl.r_3 c arg5 harg5 arg6 harg6 x3 x4) kernelRun0_A.sl.v44 (k0_pay55 kernelRun0_A.sl.v44 k0_pay52 k0_pay53 k0_pay54) (k0_pay56 kernelRun0_A.sl.v43) 0#1 (kernelRun0_A.sl.v156 c i arg7 harg7 x5) (kernelRun0_A.sl.v161 c i arg7 harg7 x5) (kernelRun0_A.sl.v152 i) (harg3.unread x1) (harg4.unread x2) (arg10.view.writes (Elt Ideal) arg10.view.junk [⟨Rect.unit (s := S8192x128) ![0, 0] S8192x128.size inb_S8192x128_S8192x128_0_0, k0_pay43 (F := Ideal)⟩]) (arg11.view.writes (Elt Ideal) arg11.view.junk [⟨Rect.unit (s := S8192x128) ![0, 0] S8192x128.size inb_S8192x128_S8192x128_0_0, k0_pay44 (F := Ideal)⟩]) (k0_pay60, k0_pay59, k0_pay59, k0_pay59, k0_pay59) (kernelRun0_A.sl.r_4 c i arg7 harg7 x5) (hk _ (word_A c i arg7 harg7 x5)) ((word_A c i arg7 harg7 x5).trans h5) rfl
    (fun R l => qs R l * (1 / 8)) k v d tot
    (fun r l => r_q _ qs (512 * (i 1).val) (fun r l => (read_whole arg2 harg2 x0 _ _ _ (whole2 _ _)).trans (h0 r l)) r l)
    (fun r l => (r_d _ r l).trans ((read_whole arg8 harg8 x6 _ _ _ (whole2 _ _)).trans (h6 r l)))
    (fun r e => r_tot _ _ r e tot (512 * (i 1).val + r.val) ((read_whole arg5 harg5 x3 _ _ _ (whole3 _ _)).trans (h3 r)) ((read_whole arg6 harg6 x4 _ _ _ (whole3 _ _)).trans (h4 r)))
    triv (fun s l => (congrFun (harg3.read_unread x1) _).trans (h1 s l)) (fun s l => (congrFun (harg4.read_unread x2) _).trans (h2 s l)) (fun _ => (0 : EReal)) (fun _ => (0 : EReal)) (by rw [zero_whole arg10 _ _ (fun s l => by pointwise [k0_pay43]), zero_whole arg11 _ _ (fun s l => by pointwise [k0_pay44])]; exact init_at (fun R l => qs R l * (1 / 8)) k v d tot (512 * (i 1).val) _ _)
  refine ⟨fun r l => ?_, fun s l => ?_, fun s l => ?_⟩
  · unfold out0_A_7
    rw [run_A_7]
    refine (View.read_writes_cons_rows_of_mem VO0_7 VO0_7.junk _ _ [] (ix2 r l) (ix2 r l) rfl (Nat.zero_add _).symm rfl).trans ?_
    exact r_dq _ r l _ (P.carry.dq r l)
  · refine Eq.trans ?_ (P.K s l)
    unfold out0_A_8
    rw [View.read_writes_of_cover VO0_8 VO0_8.junk arg10.view arg10.view.junk _ (cover0_A_8 c i arg2 harg2 arg3 harg3 arg4 harg4 arg5 harg5 arg6 harg6 arg7 harg7 arg8 harg8 arg9 harg9 arg10 harg10 arg11 harg11 hc0 x0 x1 x2 x3 x4 x5 x6 hk), run_A_8]
    simp only [← List.append_assoc]
    rw [View.writes_append]
  · refine Eq.trans ?_ (P.V s l)
    unfold out0_A_9
    rw [View.read_writes_of_cover VO0_9 VO0_9.junk arg11.view arg11.view.junk _ (cover0_A_9 c i arg2 harg2 arg3 harg3 arg4 harg4 arg5 harg5 arg6 harg6 arg7 harg7 arg8 harg8 arg9 harg9 arg10 harg10 arg11 harg11 hc0 x0 x1 x2 x3 x4 x5 x6 hk), run_A_9]
    simp only [← List.append_assoc]
    rw [View.writes_append]

end Cert.SbBwdIdeal.Sb

end
-- ==== Proof.SbRef.lean ====
module

public import proofs.«01_k».proof.Proof.SbLoop
public import proofs.«01_k».proof.Proof.Gen.SbBwdRefIdeal.Read

@[expose] public section

set_option maxRecDepth 16384

noncomputable section

open Idealize.ShloMosaic Idealize.ShloMosaic.TcCoe
open scoped BigOperators

/-! Attention that stops at a key, and its gradient, on real numbers. -/

namespace Cert.SbBwdIdeal.Sb

/-- One pair of heads: the scaled queries, the keys, the values and the gradient of the output. -/
def Q (f : ℕ → ℕ → ℝ) (p : ℕ) : ℕ → ℕ → ℝ := fun R l => f R (128 * p + l) * (1 / 8)
def K (f : ℕ → ℕ → ℝ) (p : ℕ) : ℕ → ℕ → ℝ := fun s l => f s (512 + 128 * p + l)
def W (f : ℕ → ℕ → ℝ) (p : ℕ) : ℕ → ℕ → ℝ := fun s l => f s (1024 + 128 * p + l)
def D (g : ℕ → ℕ → ℝ) (p : ℕ) : ℕ → ℕ → ℝ := fun R l => g R (128 * p + l)
/-- The logarithms of not stopping, summed over every key. -/
def T (f : ℕ → ℕ → ℝ) (p : ℕ) : ℕ → ℕ → ℝ := fun b R => plr (Q f p) (K f p) b R 8192

theorem zr_head (q k : ℕ → ℕ → ℝ) (b R s : ℕ) (hb : b < 2) :
    zr q k b R s = ∑ e ∈ Finset.range 64, q R (64 * b + e) * k s (64 * b + e) := by
  unfold zr
  rw [show 128 = 64 + 64 from rfl, Finset.sum_range_add]
  have h1 : ∀ e ∈ Finset.range 64, e / 64 = 0 := fun e he => Nat.div_eq_of_lt (Finset.mem_range.mp he)
  have h2 : ∀ e ∈ Finset.range 64, (64 + e) / 64 = 1 := fun e he => by have := Finset.mem_range.mp he; omega
  rcases (by omega : b = 0 ∨ b = 1) with rfl | rfl
  · rw [Finset.sum_congr rfl fun e he => by rw [h1 e he, if_pos rfl], Finset.sum_eq_zero (s := Finset.range 64) (f := fun e => q R (64 + e) * _) fun e he => by rw [h2 e he, if_neg (by decide), mul_zero], add_zero]
    simp
  · rw [Finset.sum_eq_zero (s := Finset.range 64) (f := fun e => q R e * _) fun e he => by rw [h1 e he, if_neg (by decide), mul_zero], zero_add]
    exact Finset.sum_congr rfl fun e he => by rw [h2 e he, if_pos rfl, mul_one]

/-- The logarithm of not stopping, in one piece. -/
theorem lfs_eq (z : ℝ) : lfs z = -Real.log (1 + Real.exp z) := by
  unfold lfs
  rcases le_total 0 z with h | h
  · rw [max_eq_left h, abs_of_nonneg h, ← Real.log_exp z, ← Real.log_mul (Real.exp_pos _).ne' (by positivity), Real.log_exp, mul_add, ← Real.exp_add, mul_one, add_neg_cancel, Real.exp_zero, add_comm]
  · rw [max_eq_right h, abs_of_nonpos h, neg_neg, zero_add]

/-- The logarithm of stopping. -/
theorem lfs_neg (z : ℝ) : lfs (-z) = z + lfs z := by
  unfold lfs
  rw [abs_neg]
  have : max (-z) 0 = max z 0 - z := by
    rcases le_total 0 z with h | h
    · rw [max_eq_left h, max_eq_right (by linarith)]; ring
    · rw [max_eq_right h, max_eq_left (by linarith)]; ring
  rw [this]; ring

/-- Stopping and not stopping are all there is. -/
theorem stop_add (z : ℝ) : Real.exp (lfs z) + Real.exp (z + lfs z) = 1 := by
  have h : (0 : ℝ) < 1 + Real.exp z := by positivity
  rw [Real.exp_add, lfs_eq, Real.exp_neg, Real.exp_log h]
  field_simp

theorem dqr_eight (q k v d : ℕ → ℕ → ℝ) (tot : ℕ → ℕ → ℝ) (n R l : ℕ) (h : R ≤ n) (hn : n ≤ 8192) :
    dqr q k v d tot n R l = dqr q k v d tot 8192 R l := by
  unfold dqr
  refine Finset.sum_subset (Finset.range_mono hn) fun s _ hs => ?_
  have : ¬s < R := by rw [Finset.mem_range] at hs; omega
  unfold dzr
  rw [if_neg this, zero_mul]

end Cert.SbBwdIdeal.Sb

namespace Cert.SbBwdRefIdeal.Sb
open Cert.SbBwdRefIdeal Cert.SbBwdRefIdeal.Gen Cert.SbBwdRefIdeal.Read Cert.Scalars Cert.SbBwdIdeal.Sb

theorem eighth : (Ideal.ofBits .f32 0x3E000000#32 : EReal) = ((1 / 8 : ℝ) : EReal) := by
  simp [Ideal.ofBits, Ideal.ieee]
  rw [← EReal.coe_mul]
  norm_num

theorem zero_bits : (Ideal.ofBits .f32 0x00000000#32 : EReal) = 0 := by simp [Ideal.ofBits, Ideal.ieee]

/-- The softplus as the reference writes it. -/
theorem sp_coe (z : ℝ) :
    Scalar.select (Ideal.cmp .une ((z : EReal) - 0) ((z : EReal) - 0)) ((z : EReal) + 0)
      (max (z : EReal) 0 + Ideal.log (1 + Ideal.exp (-(max ((z : EReal) - 0) (-((z : EReal) - 0)))))) = ((-lfs z : ℝ) : EReal) := by
  have h : Ideal.cmp .une ((z : EReal) - 0) ((z : EReal) - 0) = 0#1 := by simp [Ideal.cmp]
  rw [h, EReal.coe_neg, ← lfs_coe]
  simp only [Scalar.select, sub_zero, zero_sub, neg_neg]
  rfl

/-- The derivative of the softplus as the reference writes it. -/
theorem dsp_coe (z y : ℝ) :
    Ideal.exp (Scalar.select (Ideal.cmp .oeq (z : EReal) ⊤) 0 (z : EReal) - Scalar.select (Ideal.cmp .oeq (y : EReal) ⊤) 0 (y : EReal)) = ((Real.exp (z - y) : ℝ) : EReal) := by
  have h : ∀ x : ℝ, Ideal.cmp .oeq (x : EReal) ⊤ = 0#1 := fun x => by simp [Ideal.cmp]
  rw [h, h, ← exp_coe, EReal.coe_sub]
  rfl

theorem fold_sum {ι : Type} (l : List ι) (F : ι → EReal) (v : EReal) : l.foldl (fun r n => r + F n) v = v + (l.map F).sum := by
  induction l generalizing v with
  | nil => simp
  | cons a l ih => rw [List.foldl_cons, ih, List.map_cons, List.sum_cons, add_assoc]

theorem window_ideal {s t u : Shape} (window strides lo hi : Fin s.rank → ℕ) (x : FVec Ideal s .f32) (init : u.Idx → EReal)
    (h : s.ReduceWindows window strides lo hi t) (hu : 0 < u.numel) :
    (Host.reduceWindowAdd (F := Ideal) (φ := .f32) window strides lo hi x init h hu : t.Idx → EReal) = Ideal.hostReduceWindowAdd window strides lo hi h x (init (Shape.Idx.first hu)) := rfl

/-- A sum over a window along the last axis. -/
theorem window_gen (a b N lo hi : ℕ) (h : (⟨3, ![a, b, N]⟩ : Shape).ReduceWindows ![1, 1, N] ![1, 1, 1] ![0, 0, lo] ![0, 0, hi] ⟨3, ![a, b, N]⟩)
    (x : (⟨3, ![a, b, N]⟩ : Shape).Idx → EReal) (init : EReal) (h0 : init = 0) (j : (⟨3, ![a, b, N]⟩ : Shape).Idx) (w : ℕ → ℝ)
    (hx : ∀ i : (⟨3, ![a, b, N]⟩ : Shape).Idx, (i 0).val = (j 0).val → (i 1).val = (j 1).val → x i = ((w (i 2).val : ℝ) : EReal)) :
    Ideal.hostReduceWindowAdd ![1, 1, N] ![1, 1, 1] ![0, 0, lo] ![0, 0, hi] h x init j
      = ((∑ n ∈ Finset.range N, (if lo ≤ (j 2).val + n ∧ (j 2).val + n - lo < N then w ((j 2).val + n - lo) else 0) : ℝ) : EReal) := by
  subst h0
  unfold Ideal.hostReduceWindowAdd Host.reduceWindow
  refine (fold_sum _ _ _).trans ?_
  rw [zero_add]
  have hN : (⟨3, ![1, 1, N]⟩ : Shape).numel = N := by simp [Shape.numel, Fin.prod_univ_succ]
  refine (Fin.sum_univ_def _).symm.trans ((esum (fun n => if lo ≤ (j 2).val + n ∧ (j 2).val + n - lo < N then w ((j 2).val + n - lo) else 0) fun n => ?_).trans (by
    rw [show (⟨(⟨3, ![a, b, N]⟩ : Shape).rank, ![1, 1, N]⟩ : Shape).numel = N from hN]))
  have e := Shape.rowMajor_val_three ((⟨3, ![1, 1, N]⟩ : Shape).rowMajor.symm n)
  rw [Equiv.apply_symm_apply] at e
  have y0 : (((⟨3, ![1, 1, N]⟩ : Shape).rowMajor.symm n) 0).val < 1 := (((⟨3, ![1, 1, N]⟩ : Shape).rowMajor.symm n) 0).isLt
  have y1 : (((⟨3, ![1, 1, N]⟩ : Shape).rowMajor.symm n) 1).val < 1 := (((⟨3, ![1, 1, N]⟩ : Shape).rowMajor.symm n) 1).isLt
  have z0 : (((⟨3, ![1, 1, N]⟩ : Shape).rowMajor.symm n) 0).val = 0 := by omega
  have z1 : (((⟨3, ![1, 1, N]⟩ : Shape).rowMajor.symm n) 1).val = 0 := by omega
  have z2 : (((⟨3, ![1, 1, N]⟩ : Shape).rowMajor.symm n) 2).val = n.val := by rw [e, z0, z1]; simp
  have j0 : (j 0).val < a := (j 0).isLt
  have j1 : (j 1).val < b := (j 1).isLt
  by_cases c : lo ≤ (j 2).val + n.val ∧ (j 2).val + n.val - lo < N
  · rw [if_pos c]
    refine (dif_pos ?_).trans ?_
    · intro k
      fin_cases k
      · show 0 ≤ (j 0).val * 1 + (((⟨3, ![1, 1, N]⟩ : Shape).rowMajor.symm n) 0).val ∧ (j 0).val * 1 + (((⟨3, ![1, 1, N]⟩ : Shape).rowMajor.symm n) 0).val - 0 < a
        omega
      · show 0 ≤ (j 1).val * 1 + (((⟨3, ![1, 1, N]⟩ : Shape).rowMajor.symm n) 1).val ∧ (j 1).val * 1 + (((⟨3, ![1, 1, N]⟩ : Shape).rowMajor.symm n) 1).val - 0 < b
        omega
      · show lo ≤ (j 2).val * 1 + (((⟨3, ![1, 1, N]⟩ : Shape).rowMajor.symm n) 2).val ∧ (j 2).val * 1 + (((⟨3, ![1, 1, N]⟩ : Shape).rowMajor.symm n) 2).val - lo < N
        omega
    refine (hx _ ?_ ?_).trans (congrArg (fun k => ((w k : ℝ) : EReal)) ?_)
    · show (j 0).val * 1 + (((⟨3, ![1, 1, N]⟩ : Shape).rowMajor.symm n) 0).val - 0 = _
      omega
    · show (j 1).val * 1 + (((⟨3, ![1, 1, N]⟩ : Shape).rowMajor.symm n) 1).val - 0 = _
      omega
    · show (j 2).val * 1 + (((⟨3, ![1, 1, N]⟩ : Shape).rowMajor.symm n) 2).val - lo = _
      omega
  · rw [if_neg c, EReal.coe_zero]
    refine dif_neg fun hk => c ?_
    have h2 : lo ≤ (j 2).val * 1 + (((⟨3, ![1, 1, N]⟩ : Shape).rowMajor.symm n) 2).val ∧ (j 2).val * 1 + (((⟨3, ![1, 1, N]⟩ : Shape).rowMajor.symm n) 2).val - lo < N := hk 2
    omega

theorem rev_sum (w : ℕ → ℝ) (s N : ℕ) (hs : s < N) :
    ∑ n ∈ Finset.range N, (if 0 ≤ s + n ∧ s + n - 0 < N then w (s + n - 0) else 0) = ∑ n ∈ Finset.range N, w n - ∑ n ∈ Finset.range s, w n := by
  obtain ⟨m, rfl⟩ : ∃ m, N = s + m := ⟨N - s, by omega⟩
  rw [Finset.sum_range_add w s m, add_sub_cancel_left, add_comm s m, Finset.sum_range_add _ m s, Finset.sum_eq_zero (s := Finset.range s) fun n hn => if_neg (by omega), add_zero]
  exact Finset.sum_congr rfl fun n hn => by
    have := Finset.mem_range.mp hn
    rw [if_pos (by omega), Nat.sub_zero]

theorem fwd_sum (w : ℕ → ℝ) (s N : ℕ) (hs : s < N) :
    ∑ n ∈ Finset.range N, (if N - 1 ≤ s + n ∧ s + n - (N - 1) < N then w (s + n - (N - 1)) else 0) = ∑ n ∈ Finset.range (s + 1), w n := by
  obtain ⟨m, rfl⟩ : ∃ m, N = m + (s + 1) := ⟨N - (s + 1), by omega⟩
  rw [Finset.sum_range_add _ m (s + 1), Finset.sum_eq_zero (s := Finset.range m) fun n hn => if_neg (by have := Finset.mem_range.mp hn; omega), zero_add]
  exact Finset.sum_congr rfl fun n hn => by
    have := Finset.mem_range.mp hn
    rw [if_pos (by omega), show s + (m + n) - (m + (s + 1) - 1) = n by omega]

theorem sp_eq (a c0 c2 c5 : EReal) (z : ℝ) (ha : a = (z : EReal)) (h0 : c0 = 0) (h2 : c2 = 0) (h5 : c5 = 0) :
    Scalar.select (Ideal.cmp .une (a - c2) (a - c2)) (a + c5) (max a c0 + Ideal.log (1 + Ideal.exp (-(max (a - c2) (-(a - c2)))))) = ((-lfs z : ℝ) : EReal) := by
  subst ha h0 h2 h5
  exact sp_coe z

theorem dsp_eq (a c c1 c2 c3 y : EReal) (z w : ℝ) (ha : a = (z : EReal)) (hc : c = ⊤) (h1 : c1 = 0) (h2 : c2 = ⊤) (h3 : c3 = 0) (hy : y = (w : EReal)) :
    Ideal.exp (Scalar.select (Ideal.cmp .oeq a c) c1 a - Scalar.select (Ideal.cmp .oeq y c2) c3 y) = ((Real.exp (z - w) : ℝ) : EReal) := by
  subst ha hc h1 h2 h3 hy
  exact dsp_coe z w

section Values
variable (f g : ℕ → ℕ → ℝ) {x0 : (⟨S8192x1536, .f32⟩ : BufTy).Contents (Elt Ideal)} {x1 : (⟨S8192x512, .f32⟩ : BufTy).Contents (Elt Ideal)}

/-- The same by head. -/
def rz (h R s : ℕ) : ℝ := zr (Q f (h / 2)) (K f (h / 2)) (h % 2) R s
def rl (h R s : ℕ) : ℝ := lfr (Q f (h / 2)) (K f (h / 2)) (h % 2) R s
def rp (h R n : ℕ) : ℝ := plr (Q f (h / 2)) (K f (h / 2)) (h % 2) R n
def rw' (h R s : ℕ) : ℝ := wr (Q f (h / 2)) (K f (h / 2)) (T f (h / 2)) (h % 2) R s
def rg (h R s : ℕ) : ℝ := glr (Q f (h / 2)) (K f (h / 2)) (W f (h / 2)) (D g (h / 2)) (T f (h / 2)) (h % 2) R s
def rpg (h R n : ℕ) : ℝ := pgr (Q f (h / 2)) (K f (h / 2)) (W f (h / 2)) (D g (h / 2)) (T f (h / 2)) (h % 2) R n
def rdz (h R s : ℕ) : ℝ := dzr (Q f (h / 2)) (K f (h / 2)) (W f (h / 2)) (D g (h / 2)) (T f (h / 2)) (h % 2) R s

theorem coe2 (F : ℕ → ℕ → ℝ) {a b a' b' : ℕ} (h1 : a = a') (h2 : b = b') : ((F a b : ℝ) : EReal) = ((F a' b' : ℝ) : EReal) := by rw [h1, h2]

variable (hx : ∀ j : S8192x1536.Idx, (x0 j : EReal) = ((f (j 0).val (j 1).val : ℝ) : EReal))
  (hg : ∀ j : S8192x512.Idx, (x1 j : EReal) = ((g (j 0).val (j 1).val : ℝ) : EReal))

include hx in
theorem v1_at (i : S8192x8x64.Idx) : (val_main_v1 (F := Ideal) x0 i : EReal) = ((f (i 0).val (64 * (i 1).val + (i 2).val) : ℝ) : EReal) := by
  have h0 : (i 0).val < 8192 := (i 0).isLt; have h1 : (i 1).val < 8 := (i 1).isLt; have h2 : (i 2).val < 64 := (i 2).isLt
  rw [val_main_v1_apply, val_main_v0_apply]
  refine (hx _).trans (coe2 f ?_ ?_)
  · show (((i 0).val * 8 + (i 1).val) * 64 + (i 2).val) / 512 = _; omega
  · show (((i 0).val * 8 + (i 1).val) * 64 + (i 2).val) % 512 = _; omega

include hx in
theorem v3_at (i : S8192x8x64.Idx) : (val_main_v3 (F := Ideal) x0 i : EReal) = ((f (i 0).val (512 + (64 * (i 1).val + (i 2).val)) : ℝ) : EReal) := by
  have h0 : (i 0).val < 8192 := (i 0).isLt; have h1 : (i 1).val < 8 := (i 1).isLt; have h2 : (i 2).val < 64 := (i 2).isLt
  rw [val_main_v3_apply, val_main_v2_apply]
  refine (hx _).trans (coe2 f ?_ ?_)
  · show (((i 0).val * 8 + (i 1).val) * 64 + (i 2).val) / 512 = _; omega
  · show 512 + (((i 0).val * 8 + (i 1).val) * 64 + (i 2).val) % 512 = _; omega

include hx in
theorem v5_at (i : S8192x8x64.Idx) : (val_main_v5 (F := Ideal) x0 i : EReal) = ((f (i 0).val (1024 + (64 * (i 1).val + (i 2).val)) : ℝ) : EReal) := by
  have h0 : (i 0).val < 8192 := (i 0).isLt; have h1 : (i 1).val < 8 := (i 1).isLt; have h2 : (i 2).val < 64 := (i 2).isLt
  rw [val_main_v5_apply, val_main_v4_apply]
  refine (hx _).trans (coe2 f ?_ ?_)
  · show (((i 0).val * 8 + (i 1).val) * 64 + (i 2).val) / 512 = _; omega
  · show 1024 + (((i 0).val * 8 + (i 1).val) * 64 + (i 2).val) % 512 = _; omega

include hg in
theorem v28_at (i : S8x64x8192.Idx) : (val_main_v28 (F := Ideal) x1 i : EReal) = ((g (i 2).val (64 * (i 0).val + (i 1).val) : ℝ) : EReal) := by
  have h0 : (i 0).val < 8 := (i 0).isLt; have h1 : (i 1).val < 64 := (i 1).isLt; have h2 : (i 2).val < 8192 := (i 2).isLt
  rw [val_main_v28_apply, val_main_v27_apply]
  refine (hg _).trans (coe2 g ?_ ?_)
  · show (((i 2).val * 8 + (i 0).val) * 64 + (i 1).val) / 512 = _; omega
  · show (((i 2).val * 8 + (i 0).val) * 64 + (i 1).val) % 512 = _; omega

theorem lane (h e : ℕ) : 128 * (h / 2) + (64 * (h % 2) + e) = 64 * h + e := by omega

include hx in
theorem z_at (i : S8x8192x8192.Idx) : (val_main_v8 (F := Ideal) x0 i : EReal) = ((rz f (i 0).val (i 1).val (i 2).val : ℝ) : EReal) := by
  have e : (val_main_v6 (F := Ideal) x0 i : EReal) = ((∑ e ∈ Finset.range 64, f (i 1).val (64 * (i 0).val + e) * f (i 2).val (512 + (64 * (i 0).val + e)) : ℝ) : EReal) :=
    (val_main_v6_apply x0 i).trans (esum (fun e => f (i 1).val (64 * (i 0).val + e) * f (i 2).val (512 + (64 * (i 0).val + e))) fun k => by
      rw [EReal.coe_mul]; exact congrArg₂ (· * ·) (v1_at f hx (lidx_main_v6 i k)) (v3_at f hx (ridx_main_v6 i k)))
  show (val_main_v6 (F := Ideal) x0 i : EReal) * (Ideal.ofBits .f32 0x3E000000#32 : EReal) = _
  rw [e, eighth, ← EReal.coe_mul, rz, zr_head _ _ _ _ _ (Nat.mod_lt _ (by decide)), Finset.sum_mul]
  congr 1
  refine Finset.sum_congr rfl fun e he => ?_
  show _ = f (i 1).val (128 * ((i 0).val / 2) + (64 * ((i 0).val % 2) + e)) * (1 / 8) * f (i 2).val (512 + 128 * ((i 0).val / 2) + (64 * ((i 0).val % 2) + e))
  rw [Nat.add_assoc 512, lane]
  ring

theorem m_at (i : S8192x8192.Idx) : val_main_v15 (F := Ideal) i = if (i 1).val < (i 0).val then 1#1 else 0#1 := by
  have h0 : (i 0).val < 8192 := (i 0).isLt; have h1 : (i 1).val < 8192 := (i 1).isLt
  rw [val_main_v15_apply, val_main_v13_apply, val_main_v14_apply, val_main_v10_apply, val_main_v12_apply, val_main_v9_apply, val_main_v11_apply]
  exact slt_nat (i 1).val (i 0).val (by omega) (by omega)

theorem m1_at (i : S8x8192x8192.Idx) : val_main_v18_1 (F := Ideal) i = if (i 2).val < (i 1).val then 1#1 else 0#1 :=
  (val_main_v18_1_apply i).trans (m_at _)
theorem m4_at (i : S8x8192x8192.Idx) : val_main_v24_1 (F := Ideal) i = if (i 2).val < (i 1).val then 1#1 else 0#1 :=
  (val_main_v24_1_apply i).trans (m_at _)

theorem sel_coe (p : Prop) [Decidable p] (x y : EReal) (r : ℝ) (hx : p → x = ((r : ℝ) : EReal)) (hy : y = 0) :
    Scalar.select (if p then 1#1 else 0#1) x y = (((if p then r else 0 : ℝ)) : EReal) := by
  by_cases h : p
  · simp [h, Scalar.select, hx h]
  · simp [h, Scalar.select, hy]

include hx in
theorem sp_at (i : S8x8192x8192.Idx) : (val_main_v16_0 (F := Ideal) x0 i : EReal) = ((-lfs (rz f (i 0).val (i 1).val (i 2).val) : ℝ) : EReal) :=
  sp_eq (val_main_v8 (F := Ideal) x0 i) (val_main_call0_v0 (F := Ideal) i) (val_main_call0_v2 (F := Ideal) i) (val_main_call0_v5 (F := Ideal) i) _ (z_at f hx i) zero_bits zero_bits zero_bits

include hx in
theorem sg_at (i : S8x8192x8192.Idx) : (val_main_v16_1 (F := Ideal) x0 i : EReal) = ((Real.exp (rz f (i 0).val (i 1).val (i 2).val + lfs (rz f (i 0).val (i 1).val (i 2).val)) : ℝ) : EReal) := by
  refine (dsp_eq (val_main_v8 (F := Ideal) x0 i) (val_main_call0_v13 (F := Ideal) i) (val_main_call0_v15 (F := Ideal) i) (val_main_call0_v17 (F := Ideal) i) (val_main_call0_v19 (F := Ideal) i)
    (val_main_v16_0 (F := Ideal) x0 i) _ _ (z_at f hx i) ofBits_inf zero_bits ofBits_inf zero_bits (sp_at f hx i)).trans ?_
  rw [sub_neg_eq_add]

include hx in
theorem l_at (i : S8x8192x8192.Idx) : (val_main_v18_0 (F := Ideal) x0 i : EReal) = ((rl f (i 0).val (i 1).val (i 2).val : ℝ) : EReal) := by
  rw [val_main_v18_0_apply, m1_at]
  refine sel_coe _ _ _ _ (fun _ => ?_) zero_bits
  show -(val_main_v16_0 (F := Ideal) x0 i : EReal) = _
  rw [sp_at f hx, ← EReal.coe_neg, neg_neg]
  rfl

include hx in
theorem rev_at (i : S8x8192x8192.Idx) : (val_main_v19 (F := Ideal) x0 i : EReal) = ((rp f (i 0).val (i 1).val 8192 - rp f (i 0).val (i 1).val (i 2).val : ℝ) : EReal) := by
  have h2 : (i 2).val < 8192 := (i 2).isLt
  have hw := window_gen 8 8192 8192 0 8191 reduceWindows_S8x8192x8192_S8x8192x8192_w1s1p0_0_w1s1p0_0_w8192s1p0_8191 (val_main_v18_0 (F := Ideal) x0)
    (val_main_call2_v0 (F := Ideal) (Shape.Idx.first h_S_)) zero_bits i (rl f (i 0).val (i 1).val) fun j e0 e1 => by rw [← e0, ← e1]; exact l_at f hx j
  rw [rev_sum _ _ _ h2] at hw
  unfold val_main_v19
  exact (congrFun (window_ideal _ _ _ _ _ _ _ _) i).trans hw

include hx in
theorem aft_at (i : S8x8192x8192.Idx) : (val_main_v20 (F := Ideal) x0 i : EReal) = ((rp f (i 0).val (i 1).val 8192 - rp f (i 0).val (i 1).val ((i 2).val + 1) : ℝ) : EReal) := by
  show (val_main_v19 (F := Ideal) x0 i : EReal) - (val_main_v18_0 (F := Ideal) x0 i : EReal) = _
  rw [rev_at f hx, l_at f hx, ← EReal.coe_sub, sub_sub]
  congr 2
  exact (Finset.sum_range_succ _ _).symm

include hx in
theorem nz_at (i : S8x8192x8192.Idx) : (val_main_call3_v0 (F := Ideal) x0 i : EReal) = ((-rz f (i 0).val (i 1).val (i 2).val : ℝ) : EReal) := by
  show -(val_main_v8 (F := Ideal) x0 i : EReal) = _
  rw [z_at f hx, EReal.coe_neg]

include hx in
theorem nsp_at (i : S8x8192x8192.Idx) : (val_main_call3_v1_0 (F := Ideal) x0 i : EReal) = ((-lfs (-rz f (i 0).val (i 1).val (i 2).val) : ℝ) : EReal) :=
  sp_eq (val_main_call3_v0 (F := Ideal) x0 i) (val_main_call3_call0_v0 (F := Ideal) i) (val_main_call3_call0_v2 (F := Ideal) i) (val_main_call3_call0_v5 (F := Ideal) i) _ (nz_at f hx i) zero_bits zero_bits zero_bits

include hx in
theorem nsg_at (i : S8x8192x8192.Idx) : (val_main_v21_1 (F := Ideal) x0 i : EReal) = ((Real.exp (lfs (rz f (i 0).val (i 1).val (i 2).val)) : ℝ) : EReal) := by
  refine (dsp_eq (val_main_call3_v0 (F := Ideal) x0 i) (val_main_call3_call0_v13 (F := Ideal) i) (val_main_call3_call0_v15 (F := Ideal) i) (val_main_call3_call0_v17 (F := Ideal) i) (val_main_call3_call0_v19 (F := Ideal) i)
    (val_main_call3_v1_0 (F := Ideal) x0 i) _ _ (nz_at f hx i) ofBits_inf zero_bits ofBits_inf zero_bits (nsp_at f hx i)).trans ?_
  rw [sub_neg_eq_add, lfs_neg, neg_add_cancel_left]

include hx in
theorem e_at (i : S8x8192x8192.Idx) : (val_main_v23 (F := Ideal) x0 i : EReal) = ((Real.exp (rz f (i 0).val (i 1).val (i 2).val + lfs (rz f (i 0).val (i 1).val (i 2).val)
    + (rp f (i 0).val (i 1).val 8192 - rp f (i 0).val (i 1).val ((i 2).val + 1))) : ℝ) : EReal) := by
  show Ideal.exp (-(val_main_call3_v1_0 (F := Ideal) x0 i : EReal) + (val_main_v20 (F := Ideal) x0 i : EReal)) = _
  rw [nsp_at f hx, aft_at f hx, ← EReal.coe_neg, neg_neg, lfs_neg, ← EReal.coe_add, exp_coe]

include hx in
theorem w_at (i : S8x8192x8192.Idx) : (val_main_v24_0 (F := Ideal) x0 i : EReal) = ((rw' f (i 0).val (i 1).val (i 2).val : ℝ) : EReal) := by
  rw [val_main_v24_0_apply, m4_at]
  refine sel_coe _ _ _ _ (fun h => (e_at f hx i).trans ?_) zero_bits
  unfold lfr
  rw [if_pos h]
  rfl

include hx hg in
theorem gv_at (i : S8x8192x8192.Idx) : (val_main_v29 (F := Ideal) x0 x1 i : EReal) = ((zr (D g ((i 0).val / 2)) (W f ((i 0).val / 2)) ((i 0).val % 2) (i 1).val (i 2).val : ℝ) : EReal) := by
  rw [zr_head _ _ _ _ _ (Nat.mod_lt _ (by decide))]
  refine (val_main_v29_apply x0 x1 i).trans (esum _ fun k => ?_)
  rw [EReal.coe_mul]
  refine congrArg₂ (· * ·) ((v28_at g hg (lidx_main_v29 i k)).trans (coe2 g rfl (lane _ _).symm)) ((v5_at f hx (ridx_main_v29 i k)).trans (coe2 f rfl ?_))
  rw [Nat.add_assoc 1024, lane]

include hx hg in
theorem g_at (i : S8x8192x8192.Idx) : (val_main_v33 (F := Ideal) x0 x1 i : EReal) = ((rg f g (i 0).val (i 1).val (i 2).val : ℝ) : EReal) := by
  rw [val_main_v33_apply, val_main_v32_apply, m4_at]
  refine (congrArg₂ (fun a b : EReal => a * b) (sel_coe _ _ _ _ (fun _ => gv_at f g hx hg i) zero_bits) (e_at f hx i)).trans ?_
  rw [← EReal.coe_mul]
  congr 1
  unfold rg glr wr lfr
  by_cases h : (i 2).val < (i 1).val
  · simp only [if_pos h]; rfl
  · simp only [if_neg h, zero_mul, mul_zero]

include hx hg in
theorem cum_at (i : S8x8192x8192.Idx) : (val_main_v36 (F := Ideal) x0 x1 i : EReal) = ((rpg f g (i 0).val (i 1).val ((i 2).val + 1) : ℝ) : EReal) := by
  have h2 : (i 2).val < 8192 := (i 2).isLt
  have hw := window_gen 8 8192 8192 8191 0 reduceWindows_S8x8192x8192_S8x8192x8192_w1s1p0_0_w1s1p0_0_w8192s1p8191_0 (val_main_v33 (F := Ideal) x0 x1)
    (val_main_call7_v0 (F := Ideal) (Shape.Idx.first h_S_)) zero_bits i (rg f g (i 0).val (i 1).val) fun j e0 e1 => by rw [← e0, ← e1]; exact g_at f g hx hg j
  unfold val_main_v36
  exact (congrFun (window_ideal _ _ _ _ _ _ _ _) i).trans (hw.trans (congrArg _ (fwd_sum (rg f g (i 0).val (i 1).val) _ 8192 h2)))

include hx hg in
theorem dz_at (i : S8x8192x8192.Idx) : (val_main_v41 (F := Ideal) x0 x1 i : EReal) = ((rdz f g (i 0).val (i 1).val (i 2).val : ℝ) : EReal) := by
  have h38 : (val_main_v38 (F := Ideal) x0 x1 i : EReal) = (((if (i 2).val < (i 1).val then -rg f g (i 0).val (i 1).val (i 2).val + rpg f g (i 0).val (i 1).val ((i 2).val + 1) else 0 : ℝ)) : EReal) := by
    rw [val_main_v38_apply, m1_at]
    refine sel_coe _ _ _ _ (fun h => ?_) zero_bits
    show -(val_main_v33 (F := Ideal) x0 x1 i : EReal) + (val_main_v36 (F := Ideal) x0 x1 i : EReal) = _
    rw [g_at f g hx hg, cum_at f g hx hg, ← EReal.coe_neg, ← EReal.coe_add]
  show -(-(val_main_v33 (F := Ideal) x0 x1 i : EReal) * (val_main_v21_1 (F := Ideal) x0 i : EReal)) + -(val_main_v38 (F := Ideal) x0 x1 i : EReal) * (val_main_v16_1 (F := Ideal) x0 i : EReal) = _
  rw [g_at f g hx hg, nsg_at f hx, h38, sg_at f hx, ← EReal.coe_neg, ← EReal.coe_mul, ← EReal.coe_neg, ← EReal.coe_neg, ← EReal.coe_mul, ← EReal.coe_add]
  congr 1
  have hs := stop_add (rz f (i 0).val (i 1).val (i 2).val)
  unfold rdz dzr
  by_cases h : (i 2).val < (i 1).val
  · simp only [if_pos h]
    show _ = rg f g (i 0).val (i 1).val (i 2).val - Real.exp (rz f (i 0).val (i 1).val (i 2).val + lfs (rz f (i 0).val (i 1).val (i 2).val)) * rpg f g (i 0).val (i 1).val ((i 2).val + 1)
    linear_combination rg f g (i 0).val (i 1).val (i 2).val * hs
  · have hr : rg f g (i 0).val (i 1).val (i 2).val = 0 := by
      unfold rg glr wr
      rw [if_neg h, mul_zero]
    simp only [if_neg h, hr]
    ring

include hx hg in
theorem dz8_at (i : S8x8192x8192.Idx) : (val_main_v43 (F := Ideal) x0 x1 i : EReal) = ((rdz f g (i 0).val (i 1).val (i 2).val * (1 / 8) : ℝ) : EReal) := by
  show (val_main_v41 (F := Ideal) x0 x1 i : EReal) * (Ideal.ofBits .f32 0x3E000000#32 : EReal) = _
  rw [dz_at f g hx hg, eighth, ← EReal.coe_mul]

/-- The gradient of the queries. -/
theorem dq_at (i : S8192x512.Idx) (hx : ∀ j : S8192x1536.Idx, (x0 j : EReal) = ((f (j 0).val (j 1).val : ℝ) : EReal))
    (hg : ∀ j : S8192x512.Idx, (x1 j : EReal) = ((g (j 0).val (j 1).val : ℝ) : EReal)) (p l : ℕ) (hl : l < 128) (hc : (i 1).val = 128 * p + l) :
    (val_main_v48 (F := Ideal) x0 x1 i : EReal) = ((dqr (Q f p) (K f p) (W f p) (D g p) (T f p) 8192 (i 0).val l * (1 / 8) : ℝ) : EReal) := by
  have h0 : (i 0).val < 8192 := (i 0).isLt; have h1 : (i 1).val < 512 := (i 1).isLt
  rw [val_main_v48_apply, val_main_v47_apply]
  unfold dqr
  rw [Finset.sum_mul]
  refine (val_main_v46_apply x0 x1 _).trans (esum _ fun k => ?_)
  refine (congrArg₂ (· * ·) (dz8_at f g hx hg _) (v3_at f hx _)).trans ?_
  rw [← EReal.coe_mul]
  show ((rdz f g (((i 0).val * 512 + (i 1).val) / 64 % 8) (((i 0).val * 512 + (i 1).val) / 512) k.val * (1 / 8) * f k.val (512 + (64 * (((i 0).val * 512 + (i 1).val) / 64 % 8) + ((i 0).val * 512 + (i 1).val) % 64)) : ℝ) : EReal) = _
  rw [show ((i 0).val * 512 + (i 1).val) / 512 = (i 0).val by omega, show 512 + (64 * (((i 0).val * 512 + (i 1).val) / 64 % 8) + ((i 0).val * 512 + (i 1).val) % 64) = 512 + 128 * p + l by omega]
  unfold rdz
  rw [show ((i 0).val * 512 + (i 1).val) / 64 % 8 / 2 = p by omega, show ((i 0).val * 512 + (i 1).val) / 64 % 8 % 2 = l / 64 by omega]
  congr 1
  show _ = _ * f k.val (512 + 128 * p + l) * (1 / 8)
  ring

/-- The gradient of the keys. -/
theorem dk_at (i : S8192x512.Idx) (hx : ∀ j : S8192x1536.Idx, (x0 j : EReal) = ((f (j 0).val (j 1).val : ℝ) : EReal))
    (hg : ∀ j : S8192x512.Idx, (x1 j : EReal) = ((g (j 0).val (j 1).val : ℝ) : EReal)) (p l : ℕ) (hl : l < 128) (hc : (i 1).val = 128 * p + l) :
    (val_main_v49 (F := Ideal) x0 x1 i : EReal) = ((∑ R ∈ Finset.range 8192, dzr (Q f p) (K f p) (W f p) (D g p) (T f p) (l / 64) R (i 0).val * Q f p R l : ℝ) : EReal) := by
  have h0 : (i 0).val < 8192 := (i 0).isLt; have h1 : (i 1).val < 512 := (i 1).isLt
  rw [val_main_v49_apply, val_main_v45_apply]
  refine (val_main_v44_apply x0 x1 _).trans (esum _ fun k => ?_)
  refine (congrArg₂ (· * ·) (dz8_at f g hx hg _) (v1_at f hx _)).trans ?_
  rw [← EReal.coe_mul]
  show ((rdz f g (((i 0).val * 512 + (i 1).val) / 64 % 8) k.val (((i 0).val * 512 + (i 1).val) / 512) * (1 / 8) * f k.val (64 * (((i 0).val * 512 + (i 1).val) / 64 % 8) + ((i 0).val * 512 + (i 1).val) % 64) : ℝ) : EReal) = _
  rw [show ((i 0).val * 512 + (i 1).val) / 512 = (i 0).val by omega, show 64 * (((i 0).val * 512 + (i 1).val) / 64 % 8) + ((i 0).val * 512 + (i 1).val) % 64 = 128 * p + l by omega]
  unfold rdz
  rw [show ((i 0).val * 512 + (i 1).val) / 64 % 8 / 2 = p by omega, show ((i 0).val * 512 + (i 1).val) / 64 % 8 % 2 = l / 64 by omega]
  congr 1
  show _ = _ * (f k.val (128 * p + l) * (1 / 8))
  ring

/-- The gradient of the values. -/
theorem dv_at (i : S8192x512.Idx) (hx : ∀ j : S8192x1536.Idx, (x0 j : EReal) = ((f (j 0).val (j 1).val : ℝ) : EReal))
    (hg : ∀ j : S8192x512.Idx, (x1 j : EReal) = ((g (j 0).val (j 1).val : ℝ) : EReal)) (p l : ℕ) (hl : l < 128) (hc : (i 1).val = 128 * p + l) :
    (val_main_v50 (F := Ideal) x0 x1 i : EReal) = ((∑ R ∈ Finset.range 8192, wr (Q f p) (K f p) (T f p) (l / 64) R (i 0).val * D g p R l : ℝ) : EReal) := by
  have h0 : (i 0).val < 8192 := (i 0).isLt; have h1 : (i 1).val < 512 := (i 1).isLt
  rw [val_main_v50_apply, val_main_v31_apply]
  refine (val_main_v30_apply x0 x1 _).trans (esum _ fun k => ?_)
  refine (congrArg₂ (· * ·) (v28_at g hg _) (w_at f hx _)).trans ?_
  rw [← EReal.coe_mul]
  show ((g k.val (64 * (((i 0).val * 512 + (i 1).val) / 64 % 8) + ((i 0).val * 512 + (i 1).val) % 64) * rw' f (((i 0).val * 512 + (i 1).val) / 64 % 8) k.val (((i 0).val * 512 + (i 1).val) / 512) : ℝ) : EReal) = _
  rw [show ((i 0).val * 512 + (i 1).val) / 512 = (i 0).val by omega, show 64 * (((i 0).val * 512 + (i 1).val) / 64 % 8) + ((i 0).val * 512 + (i 1).val) % 64 = 128 * p + l by omega]
  unfold rw'
  rw [show ((i 0).val * 512 + (i 1).val) / 64 % 8 / 2 = p by omega, show ((i 0).val * 512 + (i 1).val) / 64 % 8 % 2 = l / 64 by omega]
  congr 1
  exact mul_comm _ _

end Values

end Cert.SbBwdRefIdeal.Sb

end
-- ==== Proof.SbWin.lean ====
module

public import proofs.«01_k».proof.Proof.SbVal
public import proofs.«01_k».proof.Proof.SbRef
public import proofs.«01_k».proof.Defs

@[expose] public section

set_option maxRecDepth 16384

noncomputable section

open Idealize.ShloMosaic Idealize.ShloMosaic.TcCoe
open Idealize.SL Idealize.SL.Sem
open scoped BigOperators

/-! The attention gradient: its windows, its host code and its run. -/

namespace Cert.SbBwdIdeal.Sb
open Cert.SbBwdIdeal Cert.SbBwdIdeal.Gen Cert.Scalars
open Cert.SbBwdRefIdeal.Read (val_main_v18_0 val_main_v48 val_main_v49 val_main_v50)

theorem idx_val : ∀ t : Fin cfg0.N, win0_0.index t = ![t.val % 16, t.val / 16] ∧ win0_1.index t = ![0, 4 + t.val / 16] ∧ win0_2.index t = ![0, 8 + t.val / 16]
    ∧ win0_3.index t = ![t.val / 16, t.val % 16, 0] ∧ win0_4.index t = ![t.val / 16, t.val % 16, 0] ∧ win0_6.index t = ![t.val % 16, t.val / 16]
    ∧ win0_7.index t = ![t.val % 16, t.val / 16] ∧ win0_8.index t = ![0, t.val / 16] ∧ win0_9.index t = ![0, t.val / 16] :=
  (by decide +kernel : ∀ t : Fin grid0.N, _)

theorem coord_one : ∀ t : Fin cfg0.N, (grid0.coords t 1).val = t.val % 16 :=
  (by decide +kernel : ∀ t : Fin grid0.N, _)

variable (m : (ℓ : Loc nD τ sig) → Buf (Elt Ideal) ℓ)

theorem V_qkv (c : Dev nD) (y : S8192x1536.Idx) : (V m c main_v24 y : EReal) = m ((c : Thread nD τ).loc main_arg0) y := rfl
theorem V_datt (c : Dev nD) (y : S8192x512.Idx) : (V m c main_v29 y : EReal) = m ((c : Thread nD τ).loc main_arg1) y := rfl

/-- The row sums on the host. -/
def rowsum (x : S8192x1536.Idx → EReal) : FVec Ideal S8x8192 .f32 :=
  Host.reduceAdd (F := Ideal) (φ := .f32) (val_main_v18_0 (F := Ideal) x) (constant S_ .f32 0x00000000#32) reducesTo_S8x8192x8192_S8x8192_d2 h_S_

theorem V_tot0 (c : Dev nD) : V m c main_v26 = shapeCast S4x8192x1 (extractStridedSlice S4x1x8192x1 ![0, 0, 0, 0] (shapeCast S4x2x8192x1 (rowsum (m ((c : Thread nD τ).loc main_arg0))) shapeCasts_S8x8192_S4x2x8192x1) slices_S4x2x8192x1_S4x1x8192x1_0_0_0_0) shapeCasts_S4x1x8192x1_S4x8192x1 := rfl
theorem V_tot1 (c : Dev nD) : V m c main_v28 = shapeCast S4x8192x1 (extractStridedSlice S4x1x8192x1 ![0, 1, 0, 0] (shapeCast S4x2x8192x1 (rowsum (m ((c : Thread nD τ).loc main_arg0))) shapeCasts_S8x8192_S4x2x8192x1) slices_S4x2x8192x1_S4x1x8192x1_0_1_0_0) shapeCasts_S4x1x8192x1_S4x8192x1 := rfl

section
variable {x : S8192x1536.Idx → EReal} (f : ℕ → ℕ → ℝ) (hx : ∀ j : S8192x1536.Idx, x j = ((f (j 0).val (j 1).val : ℝ) : EReal))
include hx

theorem rowsum_at (h : Fin 8) (R : Fin 8192) : (rowsum x (ix2 h R) : EReal) = ((T f (h.val / 2) (h.val % 2) R.val : ℝ) : EReal) := by
  have e : (rowsum x (ix2 h R) : EReal) = ∑ s : Fin 8192, (val_main_v18_0 (F := Ideal) x (ix3 h R s) : EReal) := by
    pointwise [rowsum]
  rw [e]
  exact esum (fun s => Cert.SbBwdRefIdeal.Sb.rl f h.val R.val s) fun s => Cert.SbBwdRefIdeal.Sb.l_at f hx (ix3 h R s)
end

section
variable (f g : ℕ → ℕ → ℝ) (c : Dev nD) (hx : ∀ j : S8192x1536.Idx, (m ((c : Thread nD τ).loc main_arg0) j : EReal) = ((f (j 0).val (j 1).val : ℝ) : EReal))
    (hg : ∀ j : S8192x512.Idx, (m ((c : Thread nD τ).loc main_arg1) j : EReal) = ((g (j 0).val (j 1).val : ℝ) : EReal)) (t : Fin cfg0.N)

include hx in
theorem b0 (r : Fin 512) (l : Fin 128) : ((iblk m c 0 t) (ix2 r l) : EReal) = ((f (512 * (grid0.coords t 1).val + r.val) (128 * (t.val / 16) + l.val) : ℝ) : EReal) := by
  refine (V_qkv m c (((cfg0.win 0).blk t).view.emb (ix2 r l))).trans ((hx _).trans (Cert.SbBwdRefIdeal.Sb.coe2 f ?_ ?_))
  · rw [coord_one]; blk_simp [idx_val t]; try omega
  · blk_simp [idx_val t]; try omega

include hx in
theorem b1 (s : Fin 8192) (l : Fin 128) : ((iblk m c 1 t) (ix2 s l) : EReal) = ((K f (t.val / 16) s.val l.val : ℝ) : EReal) := by
  refine (V_qkv m c (((cfg0.win 1).blk t).view.emb (ix2 s l))).trans ((hx _).trans (Cert.SbBwdRefIdeal.Sb.coe2 f ?_ ?_))
  · blk_simp [idx_val t]; try omega
  · blk_simp [idx_val t]; try omega

include hx in
theorem b2 (s : Fin 8192) (l : Fin 128) : ((iblk m c 2 t) (ix2 s l) : EReal) = ((W f (t.val / 16) s.val l.val : ℝ) : EReal) := by
  refine (V_qkv m c (((cfg0.win 2).blk t).view.emb (ix2 s l))).trans ((hx _).trans (Cert.SbBwdRefIdeal.Sb.coe2 f ?_ ?_))
  · blk_simp [idx_val t]; try omega
  · blk_simp [idx_val t]; try omega

include hg in
theorem b6 (r : Fin 512) (l : Fin 128) : ((iblk m c 6 t) (ix2 r l) : EReal) = ((D g (t.val / 16) (512 * (grid0.coords t 1).val + r.val) l.val : ℝ) : EReal) := by
  refine (V_datt m c (((cfg0.win 6).blk t).view.emb (ix2 r l))).trans ((hg _).trans (Cert.SbBwdRefIdeal.Sb.coe2 g ?_ ?_))
  · rw [coord_one]; blk_simp [idx_val t]; try omega
  · blk_simp [idx_val t]; try omega

theorem tot_read (A : FVec Ideal S8x8192 .f32) (p : Fin 4) (b : Fin 2) (R : Fin 8192) (o : Fin 4 → ℕ) (ho : o = ![0, b.val, 0, 0]) (hs : S4x2x8192x1.Slices o S4x1x8192x1) :
    (shapeCast S4x8192x1 (extractStridedSlice S4x1x8192x1 o (shapeCast S4x2x8192x1 A shapeCasts_S8x8192_S4x2x8192x1) hs) shapeCasts_S4x1x8192x1_S4x8192x1 : FVec Ideal S4x8192x1 .f32) (ix3 p R (0 : Fin 1))
      = A (ix2 ⟨2 * p.val + b.val, by omega⟩ R) := by
  subst ho
  fin_vals b with hb
  all_goals
    pointwise
    exact congrArg (fun q => A (ix2 q R)) (Fin.ext (by dsimp only; omega))

include hx in
theorem b3 (r : Fin 512) : ((iblk m c 3 t) (ix3 (0 : Fin 1) r (0 : Fin 1)) : EReal) = ((T f (t.val / 16) 0 (512 * (grid0.coords t 1).val + r.val) : ℝ) : EReal) := by
  have hN := lt_of_lt_of_eq t.isLt N_0
  have hi : (((cfg0.win 3).blk t).view.emb (ix3 (0 : Fin 1) r (0 : Fin 1))) = ix3 (⟨t.val / 16, by omega⟩ : Fin 4) (⟨512 * (t.val % 16) + r.val, by omega⟩ : Fin 8192) (0 : Fin 1) := by blk_ext [idx_val t]
  refine (congrFun (V_tot0 m c) (((cfg0.win 3).blk t).view.emb (ix3 (0 : Fin 1) r (0 : Fin 1)))).trans ((congrArg _ hi).trans ?_)
  refine (tot_read _ _ (0 : Fin 2) _ _ rfl _).trans ((rowsum_at f hx _ _).trans ?_)
  rw [coord_one]
  have e1 : (2 * (t.val / 16) + (0 : Fin 2).val) / 2 = t.val / 16 := by simp
  have e2 : (2 * (t.val / 16) + (0 : Fin 2).val) % 2 = 0 := by simp
  simp only [e1, e2]

include hx in
theorem b4 (r : Fin 512) : ((iblk m c 4 t) (ix3 (0 : Fin 1) r (0 : Fin 1)) : EReal) = ((T f (t.val / 16) 1 (512 * (grid0.coords t 1).val + r.val) : ℝ) : EReal) := by
  have hN := lt_of_lt_of_eq t.isLt N_0
  have hi : (((cfg0.win 4).blk t).view.emb (ix3 (0 : Fin 1) r (0 : Fin 1))) = ix3 (⟨t.val / 16, by omega⟩ : Fin 4) (⟨512 * (t.val % 16) + r.val, by omega⟩ : Fin 8192) (0 : Fin 1) := by blk_ext [idx_val t]
  refine (congrFun (V_tot1 m c) (((cfg0.win 4).blk t).view.emb (ix3 (0 : Fin 1) r (0 : Fin 1)))).trans ((congrArg _ hi).trans ?_)
  refine (tot_read _ _ (1 : Fin 2) _ _ rfl _).trans ((rowsum_at f hx _ _).trans ?_)
  rw [coord_one]
  have e1 : (2 * (t.val / 16) + (1 : Fin 2).val) / 2 = t.val / 16 := by simp; omega
  have e2 : (2 * (t.val / 16) + (1 : Fin 2).val) % 2 = 1 := by simp
  simp only [e1, e2]

theorem b5 : (iblk m c 5 t : Vec Ideal S4x16 .i32) (wix (grid0.coords t)) = BitVec.ofNat 32 (grid0.coords t 1).val * 2#32 := by
  rw [counts_apply, wix_one]

/-- One query block of one pair, from the arrays. -/
def QB (q : ℕ) (p : ℕ) (x7 : S512x128.Idx → EReal) : Prop :=
  ∀ (r : Fin 512) (l : Fin 128), x7 (ix2 r l) = ((dqr (Q f p) (K f p) (W f p) (D g p) (T f p) (512 * q + 512) (512 * q + r.val) l.val * (1 / 8) : ℝ) : EReal)
def kterm (q p s l : ℕ) : ℝ := if s < 512 * q + 512 then ∑ r ∈ Finset.range 512, dzr (Q f p) (K f p) (W f p) (D g p) (T f p) (l / 64) (512 * q + r) s * Q f p (512 * q + r) l else 0
def vterm (q p s l : ℕ) : ℝ := if s < 512 * q + 512 then ∑ r ∈ Finset.range 512, wr (Q f p) (K f p) (T f p) (l / 64) (512 * q + r) s * D g p (512 * q + r) l else 0

include hx hg in
theorem block_A (h : t.val % 16 = 0) :
    QB f g (t.val % 16) (t.val / 16) (outsAt0 m c t.val t.isLt).1
    ∧ (∀ (s : Fin 8192) (l : Fin 128), ((outsAt0 m c t.val t.isLt).2.1 (ix2 s l) : EReal) = (fun _ => (0 : EReal)) (ix2 s l) + ((kterm f g (t.val % 16) (t.val / 16) s.val l.val : ℝ) : EReal))
    ∧ (∀ (s : Fin 8192) (l : Fin 128), ((outsAt0 m c t.val t.isLt).2.2 (ix2 s l) : EReal) = (fun _ => (0 : EReal)) (ix2 s l) + ((vterm f g (t.val % 16) (t.val / 16) s.val l.val : ℝ) : EReal)) := by
  rw [outsAt0_A m c t h]
  have P := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h) (iblk m c 0 t) (iblk m c 1 t) (iblk m c 2 t) (iblk m c 3 t) (iblk m c 4 t) (iblk m c 5 t) (iblk m c 6 t) (hkAt m c t)
    (fun R l => f R (128 * (t.val / 16) + l)) (K f (t.val / 16)) (W f (t.val / 16)) (D g (t.val / 16)) (T f (t.val / 16))
    (b0 m f c hx t) (b1 m f c hx t) (b2 m f c hx t) (b3 m f c hx t) (b4 m f c hx t) (b5 m c t) (b6 m g c hg t)
  rw [coord_one] at P
  exact P

include hx hg in
theorem block_B (h : ¬ t.val % 16 = 0) :
    QB f g (t.val % 16) (t.val / 16) (outsAt0 m c t.val t.isLt).1
    ∧ (∀ (s : Fin 8192) (l : Fin 128), ((outsAt0 m c t.val t.isLt).2.1 (ix2 s l) : EReal) = (outsAt0 m c (t.val - 1) (Nat.lt_of_le_of_lt (Nat.sub_le _ _) t.isLt)).2.1 (ix2 s l) + ((kterm f g (t.val % 16) (t.val / 16) s.val l.val : ℝ) : EReal))
    ∧ (∀ (s : Fin 8192) (l : Fin 128), ((outsAt0 m c t.val t.isLt).2.2 (ix2 s l) : EReal) = (outsAt0 m c (t.val - 1) (Nat.lt_of_le_of_lt (Nat.sub_le _ _) t.isLt)).2.2 (ix2 s l) + ((vterm f g (t.val % 16) (t.val / 16) s.val l.val : ℝ) : EReal)) := by
  rw [outsAt0_B m c t h]
  have P := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hh => h ((hcond0_0 t).mp hh)) (iblk m c 0 t) (iblk m c 1 t) (iblk m c 2 t) (iblk m c 3 t) (iblk m c 4 t) (iblk m c 5 t) (iblk m c 6 t) (hkAt m c t)
    (outsAt0 m c (t.val - 1) (Nat.lt_of_le_of_lt (Nat.sub_le _ _) t.isLt)).2.1 (outsAt0 m c (t.val - 1) (Nat.lt_of_le_of_lt (Nat.sub_le _ _) t.isLt)).2.2
    (fun R l => f R (128 * (t.val / 16) + l)) (K f (t.val / 16)) (W f (t.val / 16)) (D g (t.val / 16)) (T f (t.val / 16))
    (b0 m f c hx t) (b1 m f c hx t) (b2 m f c hx t) (b3 m f c hx t) (b4 m f c hx t) (b5 m c t) (b6 m g c hg t)
  rw [coord_one] at P
  exact P
end

theorem sum_blocks (G : ℕ → ℝ) (n : ℕ) : ∑ q ∈ Finset.range n, ∑ r ∈ Finset.range 512, G (512 * q + r) = ∑ R ∈ Finset.range (512 * n), G R := by
  induction n with
  | zero => rfl
  | succ n ih => rw [Finset.sum_range_succ, ih, Nat.mul_succ, Finset.sum_range_add]

theorem sum_kept (G : ℕ → ℝ) (s : ℕ) (hG : ∀ R, R ≤ s → G R = 0) :
    ∑ q ∈ Finset.range 16, (if s < 512 * q + 512 then ∑ r ∈ Finset.range 512, G (512 * q + r) else 0) = ∑ R ∈ Finset.range 8192, G R := by
  rw [← sum_blocks G 16]
  refine Finset.sum_congr rfl fun q _ => ?_
  split_ifs with h
  · rfl
  · exact (Finset.sum_eq_zero fun r hr => hG _ (by have := Finset.mem_range.mp hr; omega)).symm

theorem kterm_sum (f g : ℕ → ℕ → ℝ) (p s l : ℕ) :
    ∑ q ∈ Finset.range 16, kterm f g q p s l = ∑ R ∈ Finset.range 8192, dzr (Q f p) (K f p) (W f p) (D g p) (T f p) (l / 64) R s * Q f p R l :=
  sum_kept (fun R => dzr (Q f p) (K f p) (W f p) (D g p) (T f p) (l / 64) R s * Q f p R l) s fun R hR => by
    simp only [dzr, if_neg (not_lt.mpr hR), zero_mul]

theorem vterm_sum (f g : ℕ → ℕ → ℝ) (p s l : ℕ) :
    ∑ q ∈ Finset.range 16, vterm f g q p s l = ∑ R ∈ Finset.range 8192, wr (Q f p) (K f p) (T f p) (l / 64) R s * D g p R l :=
  sum_kept (fun R => wr (Q f p) (K f p) (T f p) (l / 64) R s * D g p R l) s fun R hR => by
    simp only [wr, if_neg (not_lt.mpr hR), zero_mul]

section
variable (f g : ℕ → ℕ → ℝ) (c : Dev nD) (hx : ∀ j : S8192x1536.Idx, (m ((c : Thread nD τ).loc main_arg0) j : EReal) = ((f (j 0).val (j 1).val : ℝ) : EReal))
    (hg : ∀ j : S8192x512.Idx, (m ((c : Thread nD τ).loc main_arg1) j : EReal) = ((g (j 0).val (j 1).val : ℝ) : EReal))

include hx hg in
theorem final7 : (dats m 0 c).arrAt 7 cfg0.N = val_main_v48 (F := Ideal) (m ((c : Thread nD τ).loc main_arg0)) (m ((c : Thread nD τ).loc main_arg1)) := by
  refine (dats m 0 c).arrAt_eq_of_covers 7 _ (by decide +kernel) fun t _ y => ?_
  blk_simp
  rw [after0_7]
  have hN := lt_of_lt_of_eq t.isLt N_0
  have hq : QB f g (t.val % 16) (t.val / 16) (outsAt0 m c t.val t.isLt).1 := by
    by_cases h : t.val % 16 = 0
    · exact (block_A m f g c hx hg t h).1
    · exact (block_B m f g c hx hg t h).1
  have e0 : ((((cfg0.win 7).blk t).view.emb y) 0).val = 512 * (t.val % 16) + (y 0).val := by blk_simp [idx_val t]; try omega
  have e1 : ((((cfg0.win 7).blk t).view.emb y) 1).val = 128 * (t.val / 16) + (y 1).val := by blk_simp [idx_val t]; try omega
  have key := hq (y 0) (y 1)
  rw [← eq_ix2 y] at key
  refine key.trans (Eq.trans ?_ (Cert.SbBwdRefIdeal.Sb.dq_at f g (((cfg0.win 7).blk t).view.emb y) hx hg (t.val / 16) (y 1).val (y 1).isLt e1).symm)
  rw [dqr_eight _ _ _ _ _ _ _ _ (by have := (y 0).isLt; change (y 0).val < 512 at this; omega) (by omega), e0]

include hx hg in
theorem final8 : (dats m 0 c).arrAt 8 cfg0.N = val_main_v49 (F := Ideal) (m ((c : Thread nD τ).loc main_arg0)) (m ((c : Thread nD τ).loc main_arg1)) := by
  refine (dats m 0 c).arrAt_eq_of_covers 8 _ (by decide +kernel) fun t hfl y => ?_
  have hN := lt_of_lt_of_eq t.isLt N_0
  blk_simp
  rw [after0_8, Pipeline.eq_sum_fin_of_reset_step_apply_of_flush (fun n h => (outsAt0 m c n h).2.1) 16 (fun _ => (0 : EReal))
    (fun (t : Fin cfg0.N) y => ((kterm f g (t.val % 16) (t.val / 16) (y 0).val (y 1).val : ℝ) : EReal))
    (fun t h j => by
      have key := (block_A m f g c hx hg t h).2.1 (j 0) (j 1)
      rw [← eq_ix2 j] at key
      exact key)
    (fun t h j => by
      have key := (block_B m f g c hx hg t h).2.1 (j 0) (j 1)
      rw [← eq_ix2 j] at key
      exact key)
    t ((flush0_8 t).mp hfl) _, zero_add]
  have e0 : ((((cfg0.win 8).blk t).view.emb y) 0).val = (y 0).val := by blk_simp [idx_val t]
  have e1 : ((((cfg0.win 8).blk t).view.emb y) 1).val = 128 * (t.val / 16) + (y 1).val := by blk_simp [idx_val t]; try omega
  refine Eq.trans ?_ (Cert.SbBwdRefIdeal.Sb.dk_at f g (((cfg0.win 8).blk t).view.emb y) hx hg (t.val / 16) (y 1).val (y 1).isLt e1).symm
  rw [e0, ← kterm_sum]
  refine esum (fun q => kterm f g q (t.val / 16) (y 0).val (y 1).val) fun q => ?_
  have h1 : (16 * (t.val / 16) + q.val) % 16 = q.val := by omega
  have h2 : (16 * (t.val / 16) + q.val) / 16 = t.val / 16 := by omega
  simp only [h1, h2]

include hx hg in
theorem final9 : (dats m 0 c).arrAt 9 cfg0.N = val_main_v50 (F := Ideal) (m ((c : Thread nD τ).loc main_arg0)) (m ((c : Thread nD τ).loc main_arg1)) := by
  refine (dats m 0 c).arrAt_eq_of_covers 9 _ (by decide +kernel) fun t hfl y => ?_
  have hN := lt_of_lt_of_eq t.isLt N_0
  blk_simp
  rw [after0_9, Pipeline.eq_sum_fin_of_reset_step_apply_of_flush (fun n h => (outsAt0 m c n h).2.2) 16 (fun _ => (0 : EReal))
    (fun (t : Fin cfg0.N) y => ((vterm f g (t.val % 16) (t.val / 16) (y 0).val (y 1).val : ℝ) : EReal))
    (fun t h j => by
      have key := (block_A m f g c hx hg t h).2.2 (j 0) (j 1)
      rw [← eq_ix2 j] at key
      exact key)
    (fun t h j => by
      have key := (block_B m f g c hx hg t h).2.2 (j 0) (j 1)
      rw [← eq_ix2 j] at key
      exact key)
    t ((flush0_9 t).mp hfl) _, zero_add]
  have e0 : ((((cfg0.win 9).blk t).view.emb y) 0).val = (y 0).val := by blk_simp [idx_val t]
  have e1 : ((((cfg0.win 9).blk t).view.emb y) 1).val = 128 * (t.val / 16) + (y 1).val := by blk_simp [idx_val t]; try omega
  refine Eq.trans ?_ (Cert.SbBwdRefIdeal.Sb.dv_at f g (((cfg0.win 9).blk t).view.emb y) hx hg (t.val / 16) (y 1).val (y 1).isLt e1).symm
  rw [e0, ← vterm_sum]
  refine esum (fun q => vterm f g q (t.val / 16) (y 0).val (y 1).val) fun q => ?_
  have h1 : (16 * (t.val / 16) + q.val) % 16 = q.val := by omega
  have h2 : (16 * (t.val / 16) + q.val) / 16 = t.val / 16 := by omega
  simp only [h1, h2]
end

end Cert.SbBwdIdeal.Sb

end
-- ==== Proof.Sb.lean ====
module

public import proofs.«01_k».proof.Proof.SbWin
public import proofs.«01_k».proof.Proof.FrameSbBwd
public import proofs.«01_k».proof.Proof.Gen.SbBwdRefIdeal.Run

@[expose] public section

set_option maxRecDepth 16384

noncomputable section

open Idealize.ShloMosaic Idealize.ShloMosaic.TcCoe
open Idealize.SL Idealize.SL.Sem

/-! The attention gradient equals the gradient of the plain attention. -/

namespace Cert.SbBwdIdeal.Value
open Cert.SbBwdIdeal Cert.SbBwdIdeal.Gen Cert.SbBwdIdeal.Sb Cert.Scalars
open Cert.SbBwdRefIdeal.Read (val_main_v48 val_main_v49 val_main_v50)

/-- An array of real numbers, as a function of the numbers of its row and column. -/
theorem reals {a b : ℕ} {x : (⟨2, ![a, b]⟩ : Shape).Idx → EReal} (h : ∀ j, Fin' (x j)) :
    ∃ f : ℕ → ℕ → ℝ, ∀ j : (⟨2, ![a, b]⟩ : Shape).Idx, x j = ((f (j 0).val (j 1).val : ℝ) : EReal) := by
  choose r hr using h
  refine ⟨fun R l => if hh : R < a ∧ l < b then r (ix2 ⟨R, hh.1⟩ ⟨l, hh.2⟩) else 0, fun j => ?_⟩
  have h0 : (j 0).val < a := (j 0).isLt
  have h1 : (j 1).val < b := (j 1).isLt
  dsimp only
  rw [dif_pos ⟨h0, h1⟩, hr j]
  exact congrArg (fun i => ((r i : ℝ) : EReal)) (eq_ix2 j)

/-- The kernel's run with its results named by the reference's terms. -/
theorem run [Cert.Pre_sb_finite.Facts] (m : (ℓ : Loc nD τ sig) → Buf (Elt Ideal) ℓ) (hp : Cert.Pre_SbBwdIdeal_sb_finite m) (ρ : Dev nD → PrngReg) :
    θ_run defs (onTc (τ := τ) (main (F := Ideal))) ⟨m, fun _ => 0, ρ⟩ fun r => ∀ c : Dev nD,
      r.2.mem ((c : Thread nD τ).loc main_v30_0) = val_main_v48 (F := Ideal) (m ((c : Thread nD τ).loc main_arg0)) (m ((c : Thread nD τ).loc main_arg1))
      ∧ r.2.mem ((c : Thread nD τ).loc main_v30_1) = val_main_v49 (F := Ideal) (m ((c : Thread nD τ).loc main_arg0)) (m ((c : Thread nD τ).loc main_arg1))
      ∧ r.2.mem ((c : Thread nD τ).loc main_v30_2) = val_main_v50 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨f, hx⟩ := reals (fun j => fin_of_cmp (congrFun (hp c).1 j))
    obtain ⟨g, hg⟩ := reals (fun j => fin_of_cmp (congrFun (hp c).2 j))
    exact ⟨((h c).1 7).trans (final7 m f g c hx hg), ((h c).1 8).trans (final8 m f g c hx hg), ((h c).1 9).trans (final9 m f g c hx hg),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.SbBwdIdeal.Value

namespace Cert.SbBwdRefIdeal.Read
open Cert.SbBwdRefIdeal Cert.SbBwdRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = val_main_v48 (F := Ideal) (m ((c : Thread nD τ).loc main_arg0)) (m ((c : Thread nD τ).loc main_arg1))
      ∧ r.2.mem ((c.tc : Thread nD τ).loc main_v49) = val_main_v49 (F := Ideal) (m ((c : Thread nD τ).loc main_arg0)) (m ((c : Thread nD τ).loc main_arg1))
      ∧ r.2.mem ((c.tc : Thread nD τ).loc main_v50) = val_main_v50 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨h0, h1, h2, hr⟩ := h c
    exact ⟨h0.trans (val_main_v48_eq _ _), h1.trans (val_main_v49_eq _ _), h2.trans (val_main_v50_eq _ _), hr⟩) (Value.run m ρ)

/-- The reference terminates with its arguments unchanged. -/
theorem frame : Cert.quiescent_SbBwdRefIdeal := fun m ρ _ =>
  (θ_run _ _ _).mono (fun r h => ⟨fun c => (h c).2.2.2, sem_eq_zero_of_no_sems rfl r.2⟩) (run_val m ρ)

end Cert.SbBwdRefIdeal.Read

/-- The attention backward call computes the gradients of the plain attention. -/
theorem Cert.SbBwdIdeal.Value.algebraic [Cert.Pre_sb_finite.Facts] : Cert.algebraic_SbBwdIdeal_SbBwdRefIdeal_pre_sb_finite := by
  intro m g m' g' hp hag
  refine ⟨_, _, _, Cert.SbBwdIdeal.Value.run m hp g, (θ_run _ _ _).mono (fun r h c => ?_) (Cert.SbBwdRefIdeal.Read.run_val m' g')⟩
  obtain ⟨e0, e1⟩ := hag c
  obtain ⟨h0, h1, h2, hr⟩ := h c
  simp only [e0, e1] at h0 h1 h2
  exact ⟨h0, h1, h2, hr⟩

end
-- ==== Proof.Ln.lean ====
/- The gradient of a layer norm, row by row over the extended reals: the centred row, the variance, the
reciprocal standard deviation and the gradient by the row, each as a function of the row and of the
scaled cotangent. -/
module

public import Idealize.ShloMosaic.Lib.Pipeline.ValueKit

@[expose] public section

noncomputable section

open Idealize.ShloMosaic
open scoped BigOperators

namespace Cert.Ln

/-- The length of a row. -/
def len : EReal := Ideal.ofBits FTy.f32 0x44800000#32

/-- An entry less the mean of its row. -/
def xc (x : Fin 1024 → EReal) (l : Fin 1024) : EReal := x l - Ideal.div (∑ k, x k) len

/-- The variance of a row and the small constant. -/
def var (x : Fin 1024 → EReal) : EReal :=
  Ideal.div (∑ k, xc x k * xc x k) len + Ideal.ofBits FTy.f32 0x3727C5AC#32

/-- The reciprocal standard deviation. -/
def rs (x : Fin 1024 → EReal) : EReal := Ideal.rsqrt (var x)

/-- The part of the gradient that passes through the variance. -/
def q (x u : Fin 1024 → EReal) : EReal :=
  Ideal.div ((∑ k, xc x k * u k) * (Ideal.ofBits FTy.f32 0xBF000000#32 * Ideal.div (rs x) (var x))) len

/-- The gradient by the centred row. -/
def dc (x u : Fin 1024 → EReal) (l : Fin 1024) : EReal := u l * rs x + xc x l * q x u + q x u * xc x l

/-- The gradient by the row. -/
def dr (x u : Fin 1024 → EReal) (l : Fin 1024) : EReal := dc x u l + Ideal.div (∑ k, -dc x u k) len

end Cert.Ln

end
-- ==== Proof.FfnLn.lean ====
/- The backward call of the feed-forward norms: every result array of the kernel is the reference's term. -/
module

public import proofs.«01_k».proof.Proof.Gen.FfnLnBwdIdeal.Value
public import proofs.«01_k».proof.Proof.Gen.FfnLnBwdRefIdeal.Read
public import proofs.«01_k».proof.Defs
public import proofs.«01_k».proof.Proof.Ln

@[expose] public section

set_option maxRecDepth 16384

noncomputable section

open Idealize.ShloMosaic Idealize.ShloMosaic.TcCoe Idealize.SL.Sem
open Idealize.ShloMosaic.Pipeline (Dat)
open scoped BigOperators

namespace Cert.FfnLnBwdRefIdeal.Read
open Cert.FfnLnBwdRefIdeal Cert.FfnLnBwdRefIdeal.Gen Cert.Ln

section
variable (x0 x1 x2 x3 : FVec Ideal S8192x1024 .f32) (x4 : FVec Ideal S1x1024 .f32) (R : Fin 8192) (l : Fin 1024)

/-- A row of the sum under the norm. -/
abbrev rowR (k : Fin 1024) : EReal := val_main_v6 (F := Ideal) x2 x3 (ix2 R k)

/-- A row of the cotangent. -/
abbrev dyR (k : Fin 1024) : EReal := x0 (ix2 R k) + x1 (ix2 R k)

/-- A row of the scaled cotangent. -/
abbrev uR (k : Fin 1024) : EReal := (x0 (ix2 R k) + x1 (ix2 R k)) * x4 (ix2 0 k)

theorem s_xc : val_main_v12 (F := Ideal) x2 x3 (ix2 R l) = xc (rowR x2 x3 R) l := by
  pointwise [val_main_cst_1, val_main_v7, val_main_v8, val_main_cst_2, val_main_v9, val_main_v10, val_main_v11, val_main_v12, xc, len]

theorem s_var : val_main_v19 (F := Ideal) x2 x3 (ix2 R (0 : Fin 1)) = var (rowR x2 x3 R) := by
  pointwise [val_main_v13, val_main_cst_3, val_main_v14, val_main_v15, val_main_cst_4, val_main_v16, val_main_v17, val_main_cst_5, val_main_v18, val_main_v19, var, s_xc, len]

theorem s_rs : val_main_v20 (F := Ideal) x2 x3 (ix2 R (0 : Fin 1)) = rs (rowR x2 x3 R) := by
  pointwise [val_main_v20, rs, s_var]

theorem s_u : val_main_v40 (F := Ideal) x0 x1 x4 (ix2 R l) = uR x0 x1 x4 R l := by
  pointwise [val_main_v0, val_main_v32, val_main_v26, val_main_v39, val_main_v40, uR]

theorem s_q : val_main_v49 (F := Ideal) x0 x1 x2 x3 x4 (ix2 R (0 : Fin 1)) = q (rowR x2 x3 R) (uR x0 x1 x4 R) := by
  pointwise [val_main_v21, val_main_cst_6, val_main_v22, val_main_v23, val_main_v42, val_main_cst_11, val_main_cst_12, val_main_v43, val_main_v44, val_main_v47, val_main_v48, val_main_v49, s_xc, s_var, s_rs, s_u, q, len]

/-- The reference's gradient by its row. -/
theorem s_dr : val_main_v63 (F := Ideal) x0 x1 x2 x3 x4 (ix2 R l) = dr (rowR x2 x3 R) (uR x0 x1 x4 R) l := by
  pointwise [val_main_cst_13, val_main_cst_14, val_main_cst_15, val_main_cst_16, val_main_v45, val_main_v46, val_main_v50, val_main_v51, val_main_v52, val_main_v53, val_main_v54, val_main_v55, val_main_v56, val_main_v57, val_main_v58, val_main_v59, val_main_v60, val_main_v61, val_main_v62, val_main_v63, s_xc, s_rs, s_u, s_q, dr, dc, len]
  simp [s_q]

/-- The gradient by the scale is the sum over all rows. -/
theorem s_dg (j : S1x1024.Idx) : val_main_v69 (F := Ideal) x0 x1 x2 x3 j =
    ∑ R : Fin 8192, xc (rowR x2 x3 R) (j 1) * rs (rowR x2 x3 R) * dyR x0 x1 R (j 1) := by
  idx_vars j
  pointwise [val_main_v24, val_main_v25, val_main_v32, val_main_v36, val_main_v37, val_main_v38, val_main_v41, val_main_v69, val_main_cst_9, val_main_cst_10, s_xc, s_rs]
  simp [s_rs]

/-- The gradient by the offset is the sum over all rows. -/
theorem s_db (j : S1x1024.Idx) : val_main_v70 (F := Ideal) x0 x1 j = ∑ R : Fin 8192, dyR x0 x1 R (j 1) := by
  idx_vars j
  pointwise [val_main_v32, val_main_v33, val_main_v34, val_main_v35, val_main_v70, val_main_cst_7, val_main_cst_8]
  simp
end

end Cert.FfnLnBwdRefIdeal.Read

namespace Cert.FfnLnBwdIdeal.Value
open Cert.FfnLnBwdIdeal Cert.FfnLnBwdIdeal.Gen Cert.Ln

/-- The block index of every window at every point. -/
theorem idx_val : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

section
variable (v0 v1 v2 : FVec Ideal S256x1024 .f32) (v4 : FVec Ideal S1x1024 .f32) (r : Fin 256) (l : Fin 1024)

theorem p7 : k0_pay7 (F := Ideal) v2 (ix2 r l) = xc (fun k => v2 (ix2 r k)) l := by
  pointwise [k0_pay7, xc, len]

theorem p8 : k0_pay8 (F := Ideal) v2 (ix2 r (0 : Fin 1)) = var (fun k => v2 (ix2 r k)) := by
  pointwise [k0_pay8, var, len, p7]

theorem p9 : k0_pay9 (F := Ideal) v2 (ix2 r (0 : Fin 1)) = rs (fun k => v2 (ix2 r k)) := by
  pointwise [k0_pay9, rs, p8]

/-- The scaled cotangent's row. -/
abbrev uK (k : Fin 1024) : EReal := (v0 (ix2 r k) + v1 (ix2 r k)) * v4 (ix2 0 k)

theorem p12 : k0_pay12 (F := Ideal) v0 v1 v4 (ix2 r l) = uK v0 v1 v4 r l := by
  pointwise [k0_pay12, k0_pay6, uK]

theorem p13 : k0_pay13 (F := Ideal) v0 v1 v2 v4 (ix2 r l) = uK v0 v1 v4 r l * rs (fun k => v2 (ix2 r k)) := by
  pointwise [k0_pay13, p12, p9]

theorem p14 : k0_pay14 (F := Ideal) v0 v1 v2 v4 (ix2 r (0 : Fin 1)) = q (fun k => v2 (ix2 r k)) (uK v0 v1 v4 r) := by
  pointwise [k0_pay14, p7, p8, p9, p12, q, len]

/-- The kernel's gradient by its row. -/
theorem p1 : k0_pay1 (F := Ideal) (k0_pay7 v2) (k0_pay13 v0 v1 v2 v4) (k0_pay14 v0 v1 v2 v4) (ix2 r l) =
    dr (fun k => v2 (ix2 r k)) (uK v0 v1 v4 r) l := by
  pointwise [k0_pay1, p7, p13, p14, dr, dc, len]
  simp [p14]
end

theorem hsum (x a : FVec Ideal S1x1024 .f32) (j) : k0_pay4 x a j = a j + x j := by pointwise [k0_pay4]

theorem hsum' (x a : FVec Ideal S1x1024 .f32) (j) : k0_pay5 x a j = a j + x j := by pointwise [k0_pay5]

/-- A row of the cotangent's block. -/
abbrev dyB (x0 x1 : FVec Ideal S256x1024 .f32) (r : Fin 256) (k : Fin 1024) : EReal := x0 (ix2 r k) + x1 (ix2 r k)

theorem hdg (x0 x1 x2 : FVec Ideal S256x1024 .f32) (j) : k0_pay11 (F := Ideal) x0 x1 x2 j =
    ∑ r : Fin 256, xc (fun k => x2 (ix2 r k)) (j 1) * rs (fun k => x2 (ix2 r k)) * dyB x0 x1 r (j 1) := by
  idx_vars j
  pointwise [k0_pay11, k0_pay6, p7, p9]

theorem hdb (x0 x1 : FVec Ideal S256x1024 .f32) (j) : k0_pay10 (F := Ideal) x0 x1 j =
    ∑ r : Fin 256, dyB x0 x1 r (j 1) := by
  idx_vars j
  pointwise [k0_pay10, k0_pay6]

variable (m : (ℓ : Loc nD τ sig) → Buf (Elt Ideal) ℓ)

section
open Cert.FfnLnBwdRefIdeal.Read
variable (c : Dev nD) (t : Fin cfg0.N) (r : Fin 256) (R : Fin 8192) (h : R.val = t.val * 256 + r.val) (k : Fin 1024)
include h

/-- A row of the block of the norm's argument is the reference's row. -/
theorem rowK : (iblk m c 2 t : FVec Ideal S256x1024 .f32) (ix2 r k) = rowR (m ((c : Thread nD τ).loc main_arg2)) (m ((c : Thread nD τ).loc main_arg3)) R k := by
  pointwise [val_main_cst, val_main_cst_0, val_main_v2, val_main_v3, val_main_v4, val_main_v5, val_main_v6, rowR]
  blk_point [iblk, V, idx_val t]

/-- A row of the block of the cotangent is the reference's row. -/
theorem dyK : dyB (iblk m c 0 t) (iblk m c 1 t) r k = dyR (m ((c : Thread nD τ).loc main_arg0)) (m ((c : Thread nD τ).loc main_arg1)) R k :=
  congrArg₂ (· + ·) (by blk_point [iblk, V, idx_val t]) (by blk_point [iblk, V, idx_val t])

/-- A row of the scaled cotangent's block is the reference's row. -/
theorem uKR : uK (iblk m c 0 t) (iblk m c 1 t) (iblk m c 3 t) r k = uR (m ((c : Thread nD τ).loc main_arg0)) (m ((c : Thread nD τ).loc main_arg1)) (m ((c : Thread nD τ).loc main_arg4)) R k :=
  congrArg₂ (· * ·) (dyK m c t r R h k) (by blk_point [iblk, V, idx_val t])

/-- A row of the summand of the scale's gradient. -/
theorem coreG : xc (fun k => (iblk m c 2 t : FVec Ideal S256x1024 .f32) (ix2 r k)) k * rs (fun k => (iblk m c 2 t : FVec Ideal S256x1024 .f32) (ix2 r k))
    * dyB (iblk m c 0 t) (iblk m c 1 t) r k = xc (rowR (m ((c : Thread nD τ).loc main_arg2)) (m ((c : Thread nD τ).loc main_arg3)) R) k * rs (rowR (m ((c : Thread nD τ).loc main_arg2)) (m ((c : Thread nD τ).loc main_arg3)) R) * dyR (m ((c : Thread nD τ).loc main_arg0)) (m ((c : Thread nD τ).loc main_arg1)) R k := by
  rw [dyK m c t r R h k, funext fun k => rowK m c t r R h k]

/-- The gradient by the row, read in the block. -/
theorem drK : k0_pay1 (k0_pay7 (iblk m c 2 t)) (k0_pay13 (iblk m c 0 t) (iblk m c 1 t) (iblk m c 2 t) (iblk m c 3 t))
    (k0_pay14 (iblk m c 0 t) (iblk m c 1 t) (iblk m c 2 t) (iblk m c 3 t)) (ix2 r k) =
    val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R k) :=
  (p1 (iblk m c 0 t) (iblk m c 1 t) (iblk m c 2 t) (iblk m c 3 t) r k).trans
    ((congrArg₂ (fun a b => dr a b k) (funext fun k => rowK m c t r R h k) (funext fun k => uKR m c t r R h k)).trans
      (s_dr (m ((c : Thread nD τ).loc main_arg0)) (m ((c : Thread nD τ).loc main_arg1)) (m ((c : Thread nD τ).loc main_arg2)) (m ((c : Thread nD τ).loc main_arg3)) (m ((c : Thread nD τ).loc main_arg4)) R k).symm)
end

section
open Cert.FfnLnBwdRefIdeal.Read

theorem core5 (c : Dev nD) (t : Fin cfg0.N) (r : Fin 256) (l : Fin 1024) (i : S8192x1024.Idx)
    (h0 : (i 0 : ℕ) = t.val * 256 + r.val) (h1 : (i 1 : ℕ) = l.val) :
    k0_pay2 (k0_pay7 (iblk m c 2 t)) (k0_pay13 (iblk m c 0 t) (iblk m c 1 t) (iblk m c 2 t) (iblk m c 3 t))
      (k0_pay14 (iblk m c 0 t) (iblk m c 1 t) (iblk m c 2 t) (iblk m c 3 t)) (ix2 r l) =
    val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  obtain rfl : i 1 = l := Fin.ext h1
  have e := drK m c t r (i 0) h0 (i 1)
  rw [eq_ix2 i]
  pointwise [k0_pay2, val_main_cst_18, val_main_v66, val_main_v67, e]

theorem core6 (c : Dev nD) (t : Fin cfg0.N) (r : Fin 256) (l : Fin 1024) (i : S8192x1024.Idx)
    (h0 : (i 0 : ℕ) = t.val * 256 + r.val) (h1 : (i 1 : ℕ) = l.val) :
    k0_pay3 (k0_pay7 (iblk m c 2 t)) (k0_pay13 (iblk m c 0 t) (iblk m c 1 t) (iblk m c 2 t) (iblk m c 3 t))
      (k0_pay14 (iblk m c 0 t) (iblk m c 1 t) (iblk m c 2 t) (iblk m c 3 t)) (ix2 r l) =
    val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  obtain rfl : i 1 = l := Fin.ext h1
  have e := drK m c t r (i 0) h0 (i 1)
  rw [eq_ix2 i]
  pointwise [k0_pay3, val_main_cst_17, val_main_v64, val_main_v65, val_main_v68, e]

/-- The result array of window 5. -/
theorem final5 (c : Dev nD) : (dats m 0 c).arrAt 5 (cfgs 0).N = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have h32 := lt_of_lt_of_eq t.isLt N_0
  have key := core5 m c t (y 0) (y 1) (((cfg0.win 5).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The result array of window 6. -/
theorem final6 (c : Dev nD) : (dats m 0 c).arrAt 6 (cfgs 0).N = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have h32 := lt_of_lt_of_eq t.isLt N_0
  have key := core6 m c t (y 0) (y 1) (((cfg0.win 6).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The result array of window 7: the sums over the blocks are the sum over all rows. -/
theorem final7 (c : Dev nD) : (dats m 0 c).arrAt 7 (cfgs 0).N = val_main_v69 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7, Pipeline.eq_sum_fin_of_reset_step_apply_of_flush (fun n h => (outsAt0 m c n h).2.2.1) 32 (fun _ => 0) _
    (fun t h j => by rw [outsAt0_A m c t h (by have := lt_of_lt_of_eq t.isLt N_0; omega)]; frame_out; rw [hdg, ← zero_add (Finset.sum _ _)])
    (fun t h j => by rw [outsAt0_B m c t h (by omega)]; frame_out; rw [hsum, hdg])
    t ((flush0_7 t).mp hf) _, zero_add, s_dg]
  have ht := lt_of_lt_of_eq t.isLt N_0
  have hj : (((cfg0.win 7).blk t).view.emb y) 1 = y 1 := Fin.ext (by blk_simp [idx_val t])
  rw [hj]
  refine Fin.sum_mul_add_congr fun s k' hl => ?_
  refine coreG m c _ k' _ ?_ (y 1)
  all_goals (show s.val * 256 + k'.val = (32 * (t.val / 32) + s.val) * 256 + k'.val; omega)

/-- The result array of window 8: the sums over the blocks are the sum over all rows. -/
theorem final8 (c : Dev nD) : (dats m 0 c).arrAt 8 (cfgs 0).N = val_main_v70 (F := Ideal) (m ((c : Thread nD τ).loc main_arg0)) (m ((c : Thread nD τ).loc main_arg1)) := by
  refine (dats m 0 c).arrAt_eq_of_covers 8 _ (by decide +kernel) fun t hf y => ?_
  blk_simp
  rw [after0_8, Pipeline.eq_sum_fin_of_reset_step_apply_of_flush (fun n h => (outsAt0 m c n h).2.2.2) 32 (fun _ => 0) _
    (fun t h j => by rw [outsAt0_A m c t h (by have := lt_of_lt_of_eq t.isLt N_0; omega)]; frame_out; rw [hdb, ← zero_add (Finset.sum _ _)])
    (fun t h j => by rw [outsAt0_B m c t h (by omega)]; frame_out; rw [hsum', hdb])
    t ((flush0_8 t).mp hf) _, zero_add, s_db]
  have ht := lt_of_lt_of_eq t.isLt N_0
  have hj : (((cfg0.win 8).blk t).view.emb y) 1 = y 1 := Fin.ext (by blk_simp [idx_val t])
  rw [hj]
  refine Fin.sum_mul_add_congr fun s k' hl => ?_
  refine dyK m c _ k' _ ?_ (y 1)
  all_goals (show s.val * 256 + k'.val = (32 * (t.val / 32) + s.val) * 256 + k'.val; omega)

end

/-- The kernel's run with every result named by the reference's term. -/
theorem run (ρ : Dev nD → PrngReg) :
    θ_run defs (onTc (τ := τ) (main (F := Ideal))) ⟨m, fun _ => 0, ρ⟩ fun r => ∀ c : Dev nD,
      r.2.mem ((c : Thread nD τ).loc main_v5_0) = Cert.FfnLnBwdRefIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v5_1) = Cert.FfnLnBwdRefIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v5_2) = Cert.FfnLnBwdRefIdeal.Read.val_main_v69 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v5_3) = Cert.FfnLnBwdRefIdeal.Read.val_main_v70 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h5, h6, h7, h8, hr⟩ := h c
    exact ⟨h5.trans (final5 m c), h6.trans (final6 m c), h7.trans (final7 m c), h8.trans (final8 m c), hr⟩) (run_blocks m ρ)

end Cert.FfnLnBwdIdeal.Value

namespace Cert.FfnLnBwdRefIdeal.Read
open Cert.FfnLnBwdRefIdeal Cert.FfnLnBwdRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v68) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v69) = val_main_v69 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v70) = val_main_v70 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h0, h1, h2, h3, hr⟩ := h c
    exact ⟨h0.trans (val_main_v67_eq _ _), h1.trans (val_main_v68_eq _ _), h2.trans (val_main_v69_eq _ _ _ _), h3.trans (val_main_v70_eq _ _), hr⟩) (Value.run m ρ)

/-- The reference terminates with its arguments unchanged. -/
theorem frame : Cert.quiescent_FfnLnBwdRefIdeal := fun m ρ _ =>
  (θ_run _ _ _).mono (fun r h => ⟨fun c => (h c).2.2.2.2, sem_eq_zero_of_no_sems rfl r.2⟩) (run_val m ρ)

end Cert.FfnLnBwdRefIdeal.Read

/-- The backward call of the feed-forward norms computes the gradients of the reference. -/
theorem Cert.FfnLnBwdIdeal.Value.algebraic : Cert.algebraic_FfnLnBwdIdeal_FfnLnBwdRefIdeal := by
  intro m g m' g' _ hag
  refine ⟨_, _, _, _, Cert.FfnLnBwdIdeal.Value.run m g, (θ_run _ _ _).mono (fun r h c => ?_) (Cert.FfnLnBwdRefIdeal.Read.run_val m' g')⟩
  obtain ⟨e0, e1, e2, e3, e4, e5⟩ := hag c
  obtain ⟨h0, h1, h2, h3, hr⟩ := h c
  simp only [e0, e1, e2, e3, e4, e5] at h0 h1 h2 h3
  exact ⟨h0, h1, h2, h3, hr⟩

end
-- ==== Proof.MixLn.lean ====
/- The backward call of the mixer's norm: every result array of the kernel is the reference's term. -/
module

public import proofs.«01_k».proof.Proof.Gen.MixLnBwdIdeal.Value
public import proofs.«01_k».proof.Proof.Gen.MixLnBwdRefIdeal.Read
public import proofs.«01_k».proof.Proof.FfnLn

@[expose] public section

set_option maxRecDepth 16384

noncomputable section

open Idealize.ShloMosaic Idealize.ShloMosaic.TcCoe Idealize.SL.Sem
open Idealize.ShloMosaic.Pipeline (Dat)
open scoped BigOperators

namespace Cert.MixLnBwdRefIdeal.Read
open Cert.MixLnBwdRefIdeal Cert.MixLnBwdRefIdeal.Gen Cert.Ln

section
variable (x0 x1 x2 x3 : FVec Ideal S8192x1024 .f32) (x4 : FVec Ideal S1x1024 .f32) (R : Fin 8192) (l : Fin 1024)

/-- A row of the sum under the norm. -/
abbrev rowR (k : Fin 1024) : EReal := val_main_v4 (F := Ideal) x2 x3 (ix2 R k)

/-- A row of the cotangent. -/
abbrev dyR (k : Fin 1024) : EReal := x0 (ix2 R k) + x1 (ix2 R k)

/-- A row of the scaled cotangent. -/
abbrev uR (k : Fin 1024) : EReal := (x0 (ix2 R k) + x1 (ix2 R k)) * x4 (ix2 0 k)

theorem s_xc : val_main_v10 (F := Ideal) x2 x3 (ix2 R l) = xc (rowR x2 x3 R) l := by
  pointwise [val_main_cst_0, val_main_v5, val_main_v6, val_main_cst_1, val_main_v7, val_main_v8, val_main_v9, val_main_v10, xc, len]

theorem s_var : val_main_v17 (F := Ideal) x2 x3 (ix2 R (0 : Fin 1)) = var (rowR x2 x3 R) := by
  pointwise [val_main_v11, val_main_cst_2, val_main_v12, val_main_v13, val_main_cst_3, val_main_v14, val_main_v15, val_main_cst_4, val_main_v16, val_main_v17, var, s_xc, len]

theorem s_rs : val_main_v18 (F := Ideal) x2 x3 (ix2 R (0 : Fin 1)) = rs (rowR x2 x3 R) := by
  pointwise [val_main_v18, rs, s_var]

theorem s_u : val_main_v38 (F := Ideal) x0 x1 x4 (ix2 R l) = uR x0 x1 x4 R l := by
  pointwise [val_main_v0, val_main_v30, val_main_v24, val_main_v37, val_main_v38, uR]

theorem s_q : val_main_v47 (F := Ideal) x0 x1 x2 x3 x4 (ix2 R (0 : Fin 1)) = q (rowR x2 x3 R) (uR x0 x1 x4 R) := by
  pointwise [val_main_v19, val_main_cst_5, val_main_v20, val_main_v21, val_main_v40, val_main_cst_10, val_main_cst_11, val_main_v41, val_main_v42, val_main_v45, val_main_v46, val_main_v47, s_xc, s_var, s_rs, s_u, q, len]

/-- The reference's gradient by its row. -/
theorem s_dr : val_main_v61 (F := Ideal) x0 x1 x2 x3 x4 (ix2 R l) = dr (rowR x2 x3 R) (uR x0 x1 x4 R) l := by
  pointwise [val_main_cst_12, val_main_cst_13, val_main_cst_14, val_main_cst_15, val_main_v43, val_main_v44, val_main_v48, val_main_v49, val_main_v50, val_main_v51, val_main_v52, val_main_v53, val_main_v54, val_main_v55, val_main_v56, val_main_v57, val_main_v58, val_main_v59, val_main_v60, val_main_v61, s_xc, s_rs, s_u, s_q, dr, dc, len]
  simp [s_q]

/-- The gradient by the scale is the sum over all rows. -/
theorem s_dg (j : S1x1024.Idx) : val_main_v65 (F := Ideal) x0 x1 x2 x3 j =
    ∑ R : Fin 8192, xc (rowR x2 x3 R) (j 1) * rs (rowR x2 x3 R) * dyR x0 x1 R (j 1) := by
  idx_vars j
  pointwise [val_main_v22, val_main_v23, val_main_v30, val_main_v34, val_main_v35, val_main_v36, val_main_v39, val_main_v65, val_main_cst_8, val_main_cst_9, s_xc, s_rs]
  simp [s_rs]

/-- The gradient by the offset is the sum over all rows. -/
theorem s_db (j : S1x1024.Idx) : val_main_v66 (F := Ideal) x0 x1 j = ∑ R : Fin 8192, dyR x0 x1 R (j 1) := by
  idx_vars j
  pointwise [val_main_v30, val_main_v31, val_main_v32, val_main_v33, val_main_v66, val_main_cst_6, val_main_cst_7]
  simp
end

end Cert.MixLnBwdRefIdeal.Read

namespace Cert.MixLnBwdIdeal.Value
open Cert.MixLnBwdIdeal Cert.MixLnBwdIdeal.Gen Cert.Ln

/-- The block index of every window at every point. -/
theorem idx_val : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

section
variable (v0 v1 v2 : FVec Ideal S256x1024 .f32) (v4 : FVec Ideal S1x1024 .f32) (r : Fin 256) (l : Fin 1024)

theorem p7 : k0_pay7 (F := Ideal) v2 (ix2 r l) = xc (fun k => v2 (ix2 r k)) l := Cert.FfnLnBwdIdeal.Value.p7 v2 r l

theorem p9 : k0_pay9 (F := Ideal) v2 (ix2 r (0 : Fin 1)) = rs (fun k => v2 (ix2 r k)) := Cert.FfnLnBwdIdeal.Value.p9 v2 r

/-- The scaled cotangent's row. -/
abbrev uK (k : Fin 1024) : EReal := (v0 (ix2 r k) + v1 (ix2 r k)) * v4 (ix2 0 k)

/-- The kernel's gradient by its row: the payloads are those of the other norm. -/
theorem p1 : k0_pay1 (F := Ideal) (k0_pay7 v2) (k0_pay13 v0 v1 v2 v4) (k0_pay14 v0 v1 v2 v4) (ix2 r l) =
    dr (fun k => v2 (ix2 r k)) (uK v0 v1 v4 r) l := Cert.FfnLnBwdIdeal.Value.p1 v0 v1 v2 v4 r l
end

theorem hsum (x a : FVec Ideal S1x1024 .f32) (j) : k0_pay4 x a j = a j + x j := by pointwise [k0_pay4]

theorem hsum' (x a : FVec Ideal S1x1024 .f32) (j) : k0_pay5 x a j = a j + x j := by pointwise [k0_pay5]

/-- A row of the cotangent's block. -/
abbrev dyB (x0 x1 : FVec Ideal S256x1024 .f32) (r : Fin 256) (k : Fin 1024) : EReal := x0 (ix2 r k) + x1 (ix2 r k)

theorem hdg (x0 x1 x2 : FVec Ideal S256x1024 .f32) (j) : k0_pay11 (F := Ideal) x0 x1 x2 j =
    ∑ r : Fin 256, xc (fun k => x2 (ix2 r k)) (j 1) * rs (fun k => x2 (ix2 r k)) * dyB x0 x1 r (j 1) := by
  idx_vars j
  pointwise [k0_pay11, k0_pay6, p7, p9]

theorem hdb (x0 x1 : FVec Ideal S256x1024 .f32) (j) : k0_pay10 (F := Ideal) x0 x1 j =
    ∑ r : Fin 256, dyB x0 x1 r (j 1) := by
  idx_vars j
  pointwise [k0_pay10, k0_pay6]

variable (m : (ℓ : Loc nD τ sig) → Buf (Elt Ideal) ℓ)

section
open Cert.MixLnBwdRefIdeal.Read
variable (c : Dev nD) (t : Fin cfg0.N) (r : Fin 256) (R : Fin 8192) (h : R.val = t.val * 256 + r.val) (k : Fin 1024)
include h

/-- A row of the block of the norm's argument is the reference's row. -/
theorem rowK : (iblk m c 2 t : FVec Ideal S256x1024 .f32) (ix2 r k) = rowR (m ((c : Thread nD τ).loc main_arg2)) (m ((c : Thread nD τ).loc main_arg3)) R k := by
  pointwise [val_main_cst, val_main_v2, val_main_v3, val_main_v4, rowR]
  blk_point [iblk, V, idx_val t]

/-- A row of the block of the cotangent is the reference's row. -/
theorem dyK : dyB (iblk m c 0 t) (iblk m c 1 t) r k = dyR (m ((c : Thread nD τ).loc main_arg0)) (m ((c : Thread nD τ).loc main_arg1)) R k :=
  congrArg₂ (· + ·) (by blk_point [iblk, V, idx_val t]) (by blk_point [iblk, V, idx_val t])

/-- A row of the scaled cotangent's block is the reference's row. -/
theorem uKR : uK (iblk m c 0 t) (iblk m c 1 t) (iblk m c 3 t) r k = uR (m ((c : Thread nD τ).loc main_arg0)) (m ((c : Thread nD τ).loc main_arg1)) (m ((c : Thread nD τ).loc main_arg4)) R k :=
  congrArg₂ (· * ·) (dyK m c t r R h k) (by blk_point [iblk, V, idx_val t])

/-- A row of the summand of the scale's gradient. -/
theorem coreG : xc (fun k => (iblk m c 2 t : FVec Ideal S256x1024 .f32) (ix2 r k)) k * rs (fun k => (iblk m c 2 t : FVec Ideal S256x1024 .f32) (ix2 r k))
    * dyB (iblk m c 0 t) (iblk m c 1 t) r k = xc (rowR (m ((c : Thread nD τ).loc main_arg2)) (m ((c : Thread nD τ).loc main_arg3)) R) k * rs (rowR (m ((c : Thread nD τ).loc main_arg2)) (m ((c : Thread nD τ).loc main_arg3)) R) * dyR (m ((c : Thread nD τ).loc main_arg0)) (m ((c : Thread nD τ).loc main_arg1)) R k := by
  rw [dyK m c t r R h k, funext fun k => rowK m c t r R h k]

/-- The gradient by the row, read in the block. -/
theorem drK : k0_pay1 (k0_pay7 (iblk m c 2 t)) (k0_pay13 (iblk m c 0 t) (iblk m c 1 t) (iblk m c 2 t) (iblk m c 3 t))
    (k0_pay14 (iblk m c 0 t) (iblk m c 1 t) (iblk m c 2 t) (iblk m c 3 t)) (ix2 r k) =
    val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R k) :=
  (p1 (iblk m c 0 t) (iblk m c 1 t) (iblk m c 2 t) (iblk m c 3 t) r k).trans
    ((congrArg₂ (fun a b => dr a b k) (funext fun k => rowK m c t r R h k) (funext fun k => uKR m c t r R h k)).trans
      (s_dr (m ((c : Thread nD τ).loc main_arg0)) (m ((c : Thread nD τ).loc main_arg1)) (m ((c : Thread nD τ).loc main_arg2)) (m ((c : Thread nD τ).loc main_arg3)) (m ((c : Thread nD τ).loc main_arg4)) R k).symm)
end

section
open Cert.MixLnBwdRefIdeal.Read

theorem core5 (c : Dev nD) (t : Fin cfg0.N) (r : Fin 256) (l : Fin 1024) (i : S8192x1024.Idx)
    (h0 : (i 0 : ℕ) = t.val * 256 + r.val) (h1 : (i 1 : ℕ) = l.val) :
    k0_pay2 (k0_pay7 (iblk m c 2 t)) (k0_pay13 (iblk m c 0 t) (iblk m c 1 t) (iblk m c 2 t) (iblk m c 3 t))
      (k0_pay14 (iblk m c 0 t) (iblk m c 1 t) (iblk m c 2 t) (iblk m c 3 t)) (ix2 r l) =
    val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  obtain rfl : i 1 = l := Fin.ext h1
  have e := drK m c t r (i 0) h0 (i 1)
  rw [eq_ix2 i]
  pointwise [k0_pay2, val_main_cst_16, val_main_v62, val_main_v63, e]

theorem core6 (c : Dev nD) (t : Fin cfg0.N) (r : Fin 256) (l : Fin 1024) (i : S8192x1024.Idx)
    (h0 : (i 0 : ℕ) = t.val * 256 + r.val) (h1 : (i 1 : ℕ) = l.val) :
    k0_pay3 (k0_pay7 (iblk m c 2 t)) (k0_pay13 (iblk m c 0 t) (iblk m c 1 t) (iblk m c 2 t) (iblk m c 3 t))
      (k0_pay14 (iblk m c 0 t) (iblk m c 1 t) (iblk m c 2 t) (iblk m c 3 t)) (ix2 r l) =
    val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  obtain rfl : i 1 = l := Fin.ext h1
  have e := drK m c t r (i 0) h0 (i 1)
  rw [eq_ix2 i]
  pointwise [k0_pay3, val_main_v64, e]

/-- The result array of window 5. -/
theorem final5 (c : Dev nD) : (dats m 0 c).arrAt 5 (cfgs 0).N = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have h32 := lt_of_lt_of_eq t.isLt N_0
  have key := core5 m c t (y 0) (y 1) (((cfg0.win 5).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The result array of window 6. -/
theorem final6 (c : Dev nD) : (dats m 0 c).arrAt 6 (cfgs 0).N = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have h32 := lt_of_lt_of_eq t.isLt N_0
  have key := core6 m c t (y 0) (y 1) (((cfg0.win 6).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The result array of window 7: the sums over the blocks are the sum over all rows. -/
theorem final7 (c : Dev nD) : (dats m 0 c).arrAt 7 (cfgs 0).N = val_main_v65 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7, Pipeline.eq_sum_fin_of_reset_step_apply_of_flush (fun n h => (outsAt0 m c n h).2.2.1) 32 (fun _ => 0) _
    (fun t h j => by rw [outsAt0_A m c t h (by have := lt_of_lt_of_eq t.isLt N_0; omega)]; frame_out; rw [hdg, ← zero_add (Finset.sum _ _)])
    (fun t h j => by rw [outsAt0_B m c t h (by omega)]; frame_out; rw [hsum, hdg])
    t ((flush0_7 t).mp hf) _, zero_add, s_dg]
  have ht := lt_of_lt_of_eq t.isLt N_0
  have hj : (((cfg0.win 7).blk t).view.emb y) 1 = y 1 := Fin.ext (by blk_simp [idx_val t])
  rw [hj]
  refine Fin.sum_mul_add_congr fun s k' hl => ?_
  refine coreG m c _ k' _ ?_ (y 1)
  all_goals (show s.val * 256 + k'.val = (32 * (t.val / 32) + s.val) * 256 + k'.val; omega)

/-- The result array of window 8: the sums over the blocks are the sum over all rows. -/
theorem final8 (c : Dev nD) : (dats m 0 c).arrAt 8 (cfgs 0).N = val_main_v66 (F := Ideal) (m ((c : Thread nD τ).loc main_arg0)) (m ((c : Thread nD τ).loc main_arg1)) := by
  refine (dats m 0 c).arrAt_eq_of_covers 8 _ (by decide +kernel) fun t hf y => ?_
  blk_simp
  rw [after0_8, Pipeline.eq_sum_fin_of_reset_step_apply_of_flush (fun n h => (outsAt0 m c n h).2.2.2) 32 (fun _ => 0) _
    (fun t h j => by rw [outsAt0_A m c t h (by have := lt_of_lt_of_eq t.isLt N_0; omega)]; frame_out; rw [hdb, ← zero_add (Finset.sum _ _)])
    (fun t h j => by rw [outsAt0_B m c t h (by omega)]; frame_out; rw [hsum', hdb])
    t ((flush0_8 t).mp hf) _, zero_add, s_db]
  have ht := lt_of_lt_of_eq t.isLt N_0
  have hj : (((cfg0.win 8).blk t).view.emb y) 1 = y 1 := Fin.ext (by blk_simp [idx_val t])
  rw [hj]
  refine Fin.sum_mul_add_congr fun s k' hl => ?_
  refine dyK m c _ k' _ ?_ (y 1)
  all_goals (show s.val * 256 + k'.val = (32 * (t.val / 32) + s.val) * 256 + k'.val; omega)

end

/-- The kernel's run with every result named by the reference's term. -/
theorem run (ρ : Dev nD → PrngReg) :
    θ_run defs (onTc (τ := τ) (main (F := Ideal))) ⟨m, fun _ => 0, ρ⟩ fun r => ∀ c : Dev nD,
      r.2.mem ((c : Thread nD τ).loc main_v3_0) = Cert.MixLnBwdRefIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v3_1) = Cert.MixLnBwdRefIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v3_2) = Cert.MixLnBwdRefIdeal.Read.val_main_v65 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v3_3) = Cert.MixLnBwdRefIdeal.Read.val_main_v66 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h5, h6, h7, h8, hr⟩ := h c
    exact ⟨h5.trans (final5 m c), h6.trans (final6 m c), h7.trans (final7 m c), h8.trans (final8 m c), hr⟩) (run_blocks m ρ)

end Cert.MixLnBwdIdeal.Value

namespace Cert.MixLnBwdRefIdeal.Read
open Cert.MixLnBwdRefIdeal Cert.MixLnBwdRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v64) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v65) = val_main_v65 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v66) = val_main_v66 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h0, h1, h2, h3, hr⟩ := h c
    exact ⟨h0.trans (val_main_v63_eq _ _), h1.trans (val_main_v64_eq _ _), h2.trans (val_main_v65_eq _ _ _ _), h3.trans (val_main_v66_eq _ _), hr⟩) (Value.run m ρ)

/-- The reference terminates with its arguments unchanged. -/
theorem frame : Cert.quiescent_MixLnBwdRefIdeal := fun m ρ _ =>
  (θ_run _ _ _).mono (fun r h => ⟨fun c => (h c).2.2.2.2, sem_eq_zero_of_no_sems rfl r.2⟩) (run_val m ρ)

end Cert.MixLnBwdRefIdeal.Read

/-- The backward call of the mixer's norm computes the gradients of the reference. -/
theorem Cert.MixLnBwdIdeal.Value.algebraic : Cert.algebraic_MixLnBwdIdeal_MixLnBwdRefIdeal := by
  intro m g m' g' _ hag
  refine ⟨_, _, _, _, Cert.MixLnBwdIdeal.Value.run m g, (θ_run _ _ _).mono (fun r h c => ?_) (Cert.MixLnBwdRefIdeal.Read.run_val m' g')⟩
  obtain ⟨e0, e1, e2, e3, e4, e5⟩ := hag c
  obtain ⟨h0, h1, h2, h3, hr⟩ := h c
  simp only [e0, e1, e2, e3, e4, e5] at h0 h1 h2 h3
  exact ⟨h0, h1, h2, h3, hr⟩

end
-- ==== Proof.Ple.lean ====
/- The backward call of the per-layer embedding's gate, the last norm and the loss: every result array
of the kernel is the reference's term. -/
module

public import proofs.«01_k».proof.Proof.Gen.PleHeadIdeal.Value
public import proofs.«01_k».proof.Proof.Gen.PleHeadRefIdeal.Read
public import proofs.«01_k».proof.Defs
public import proofs.«01_k».proof.Proof.Scalars
public import proofs.«01_k».proof.Proof.Ln

@[expose] public section

set_option maxRecDepth 16384

noncomputable section

open Idealize.ShloMosaic Idealize.ShloMosaic.TcCoe Idealize.SL.Sem
open Idealize.ShloMosaic.Pipeline (Dat)
open scoped BigOperators

namespace Cert.Ple
open Cert.Scalars Cert.Ln

/-- One row of the arguments: the residual, the gate, the gated value, the target, the gate's offset, the
norm's scale and the norm's offset. -/
structure Rows where
  h : Fin 1024 → EReal
  z : Fin 1024 → EReal
  p : Fin 1024 → EReal
  t : Fin 1024 → EReal
  b : Fin 1024 → EReal
  g : Fin 1024 → EReal
  o : Fin 1024 → EReal

namespace Rows
variable (w : Rows) (k : Fin 1024)

/-- The logistic function of the gate. -/
def s : EReal := sg (w.z k + w.b k)

/-- The norm's argument. -/
def x : EReal := Ideal.ofBits FTy.f32 0x3F9837F0#32 * w.h k + w.s k * w.p k

/-- The norm's result less the target. -/
def e : EReal := xc w.x k * rs w.x * w.g k + w.o k - w.t k

/-- The gradient by the norm's result. -/
def y : EReal := w.e k * Ideal.ofBits FTy.f32 0x3A800000#32

/-- The gradient by the norm's argument. -/
def d : EReal := dr w.x (fun k => w.y k * w.g k) k

/-- The gradient by the gate. -/
def dz : EReal := w.d k * w.p k * (w.s k * (1 - w.s k))

/-- The sum of the squared differences. -/
def sq : EReal := ∑ k, w.e k * w.e k
end Rows

theorem half : Ideal.ofBits FTy.f32 0x3F000000#32 = ((1 / 2 : ℝ) : EReal) := by
  simp [Ideal.ofBits, Ideal.ieee]; rw [← EReal.coe_mul]; norm_num

theorem thousandth : Ideal.ofBits FTy.f32 0x3A800000#32 = ((1 / 1024 : ℝ) : EReal) := by
  simp [Ideal.ofBits, Ideal.ieee]; rw [← EReal.coe_mul]; norm_num

theorem thousand : Ideal.ofBits FTy.f32 0x44800000#32 = ((1024 : ℝ) : EReal) := by
  simp [Ideal.ofBits, Ideal.ieee]; rw [← EReal.coe_mul]; norm_num

theorem two : Ideal.ofBits FTy.f32 0x40000000#32 = ((2 : ℝ) : EReal) := by
  simp [Ideal.ofBits, Ideal.ieee]; rw [← EReal.coe_mul]; norm_num

/-- Twice the difference, over twice the length of a row. -/
theorem scale (e : EReal) : Ideal.div (Ideal.ofBits FTy.f32 0x3F000000#32) (Ideal.ofBits FTy.f32 0x44800000#32) *
    (Ideal.ofBits FTy.f32 0x40000000#32 * e) = e * Ideal.ofBits FTy.f32 0x3A800000#32 := by
  rw [half, thousand, two, thousandth, ← mul_assoc, mul_comm e, Ideal.div_coe (by norm_num), ← EReal.coe_mul, ← EReal.coe_mul]
  norm_num

/-- A nonnegative real factor passes into a sum. -/
theorem mul_sum_of_real {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hc) (EReal.coe_ne_top c)]

/-- One row's part of the loss. -/
def Rows.loss (w : Rows) : EReal := ((1 / 2048 : ℝ) : EReal) * w.sq

/-- The loss of several rows, scaled after their sum. -/
theorem loss_after {ι : Type} (s : Finset ι) (f : ι → Rows) :
    Ideal.ofBits FTy.f32 0x3F000000#32 * (∑ i ∈ s, (f i).sq) * Ideal.ofBits FTy.f32 0x3A800000#32 = ∑ i ∈ s, (f i).loss := by
  rw [half, thousandth, mul_comm, ← mul_assoc, ← EReal.coe_mul, mul_sum_of_real s (by norm_num)]
  refine Finset.sum_congr rfl fun i _ => congrArg (· * (f i).sq) ?_
  norm_num

/-- The loss of several rows, each divided by its length. -/
theorem loss_each {ι : Type} (s : Finset ι) (f : ι → Rows) :
    Ideal.ofBits FTy.f32 0x3F000000#32 * (∑ i ∈ s, Ideal.div (f i).sq (Ideal.ofBits FTy.f32 0x44800000#32)) = ∑ i ∈ s, (f i).loss := by
  rw [half, thousand, mul_sum_of_real s (by norm_num)]
  refine Finset.sum_congr rfl fun i _ => ?_
  rw [Ideal.div_coe (by norm_num), mul_comm (f i).sq, ← mul_assoc, ← EReal.coe_mul]
  refine congrArg (· * (f i).sq) ?_
  norm_num

/-- The logistic function's gradient, through the exponential. -/
theorem gate (a z : EReal) : 0 - (0 - a * Ideal.div 1 ((1 + Ideal.exp (-z)) * (1 + Ideal.exp (-z)))) * Ideal.exp (-z) =
    a * (sg z * (1 - sg z)) := by
  induction z with
  | bot =>
    have ht : (1 : EReal) + ⊤ = ⊤ := EReal.add_top_of_ne_bot (EReal.coe_ne_bot 1)
    rw [sg_bot]; simp [Ideal.div, ht]
  | top =>
    rw [sg_top]
    have h : (1 : EReal) - 1 = 0 := by rw [← EReal.coe_one, ← EReal.coe_sub, sub_self, EReal.coe_zero]
    simp [h]
  | coe r =>
    have hp : (0 : ℝ) < 1 + Real.exp (-r) := by positivity
    have he : Ideal.exp (-(r : EReal)) = ((Real.exp (-r) : ℝ) : EReal) := by rw [← EReal.coe_neg]; rfl
    have h1 : (1 : EReal) + ((Real.exp (-r) : ℝ) : EReal) = ((1 + Real.exp (-r) : ℝ) : EReal) := by rw [EReal.coe_add, EReal.coe_one]
    rw [sg_coe, he, h1, ← EReal.coe_mul, Ideal.div_coe (mul_pos hp hp).ne', zero_sub, zero_sub, one_mul, EReal.neg_mul, neg_neg, mul_assoc,
      ← EReal.coe_one, ← EReal.coe_sub, ← EReal.coe_mul, ← EReal.coe_mul]
    congr 2
    field_simp
    ring
end Cert.Ple

namespace Cert.PleHeadIdeal.Value
open Cert.PleHeadIdeal Cert.PleHeadIdeal.Gen Cert.Ln Cert.Ple Cert.Scalars

section
variable (v0 v1 v2 v3 : FVec Ideal S256x1024 .f32) (v4 v5 v6 : FVec Ideal S1x1024 .f32) (r : Fin 256) (l : Fin 1024)

/-- A row of the blocks. -/
def wB : Rows := ⟨fun k => v0 (ix2 r k), fun k => v1 (ix2 r k), fun k => v2 (ix2 r k), fun k => v3 (ix2 r k),
  fun k => v4 (ix2 0 k), fun k => v5 (ix2 0 k), fun k => v6 (ix2 0 k)⟩

theorem p13 : k0_pay13 (F := Ideal) v1 v4 (ix2 r l) = (wB v0 v1 v2 v3 v4 v5 v6 r).s l := by
  pointwise [k0_pay13, k0_pay12, k0_pay11, wB, Rows.s, sg]
  simp only [zero_sub]

theorem p15 : k0_pay15 (F := Ideal) v0 v1 v2 v4 (ix2 r l) = xc (wB v0 v1 v2 v3 v4 v5 v6 r).x l := by
  pointwise [k0_pay15, p13 v0 v1 v2 v3 v4 v5 v6, xc, Rows.x, wB, len]

theorem p18 : k0_pay18 (F := Ideal) (k0_pay16 v0 v1 v2 v4) k0_pay17 (ix2 r (0 : Fin 1)) = var (wB v0 v1 v2 v3 v4 v5 v6 r).x := by
  pointwise [k0_pay18, k0_pay16, k0_pay17, p15 v0 v1 v2 v3 v4 v5 v6, var, len]

theorem p19 : k0_pay19 (F := Ideal) (k0_pay16 v0 v1 v2 v4) k0_pay17 (ix2 r (0 : Fin 1)) = rs (wB v0 v1 v2 v3 v4 v5 v6 r).x := by
  pointwise [k0_pay19, p18 v0 v1 v2 v3 v4 v5 v6, rs]

theorem p20 : k0_pay20 (F := Ideal) (k0_pay15 v0 v1 v2 v4) (k0_pay16 v0 v1 v2 v4) k0_pay17 (ix2 r l) =
    xc (wB v0 v1 v2 v3 v4 v5 v6 r).x l * rs (wB v0 v1 v2 v3 v4 v5 v6 r).x := by
  pointwise [k0_pay20, p15 v0 v1 v2 v3 v4 v5 v6, p19 v0 v1 v2 v3 v4 v5 v6]

theorem p21 : k0_pay21 (F := Ideal) v3 v5 v6 (k0_pay15 v0 v1 v2 v4) (k0_pay16 v0 v1 v2 v4) k0_pay17 (ix2 r l) =
    (wB v0 v1 v2 v3 v4 v5 v6 r).e l := by
  pointwise [k0_pay21, p20 v0 v1 v2 v3 v4 v5 v6, Rows.e]
  rfl

theorem p22 : k0_pay22 (F := Ideal) v3 v5 v6 (k0_pay15 v0 v1 v2 v4) (k0_pay16 v0 v1 v2 v4) k0_pay17 (ix2 r l) =
    (wB v0 v1 v2 v3 v4 v5 v6 r).y l := by
  pointwise [k0_pay22, p21, Rows.y]

theorem p25 : k0_pay25 (F := Ideal) v3 v5 v6 (k0_pay15 v0 v1 v2 v4) (k0_pay16 v0 v1 v2 v4) k0_pay17 (ix2 r l) =
    (wB v0 v1 v2 v3 v4 v5 v6 r).d l := by
  have hg (k) : v5 (ix2 0 k) = (wB v0 v1 v2 v3 v4 v5 v6 r).g k := rfl
  pointwise [k0_pay25, p15 v0 v1 v2 v3 v4 v5 v6, p18 v0 v1 v2 v3 v4 v5 v6, p19 v0 v1 v2 v3 v4 v5 v6, p22, Rows.d, dr, dc, q, len, hg]
  simp [p18 v0 v1 v2 v3 v4 v5 v6, p19 v0 v1 v2 v3 v4 v5 v6, hg]

theorem p1 : k0_pay1 (F := Ideal) (k0_pay11 v1 v4) (k0_pay27 v2 v3 v5 v6 (k0_pay14 v1 v4) (k0_pay15 v0 v1 v2 v4) (k0_pay16 v0 v1 v2 v4) k0_pay17)
    (ix2 r l) = (wB v0 v1 v2 v3 v4 v5 v6 r).dz l := by
  refine Eq.trans ?_ (gate ((wB v0 v1 v2 v3 v4 v5 v6 r).d l * v2 (ix2 r l)) (v1 (ix2 r l) + v4 (ix2 0 l)))
  pointwise [k0_pay1, k0_pay27, k0_pay14, k0_pay12, k0_pay11, p25]
  simp only [zero_sub, mul_one]

theorem p26 : k0_pay26 (F := Ideal) v3 v5 v6 (k0_pay13 v1 v4) (k0_pay15 v0 v1 v2 v4) (k0_pay16 v0 v1 v2 v4) k0_pay17 (ix2 r l) =
    (wB v0 v1 v2 v3 v4 v5 v6 r).s l * (wB v0 v1 v2 v3 v4 v5 v6 r).d l := by
  pointwise [k0_pay26, p13 v0 v1 v2 v3 v4 v5 v6, p25]

theorem hz (j) : k0_pay2 (F := Ideal) (k0_pay11 v1 v4) (k0_pay27 v2 v3 v5 v6 (k0_pay14 v1 v4) (k0_pay15 v0 v1 v2 v4) (k0_pay16 v0 v1 v2 v4) k0_pay17) j = ∑ r : Fin 256, (wB v0 v1 v2 v3 v4 v5 v6 r).dz (j 1) := by
  idx_vars j
  pointwise [k0_pay2, p1]

theorem hg (j) : k0_pay24 (F := Ideal) v3 v5 v6 (k0_pay15 v0 v1 v2 v4) (k0_pay16 v0 v1 v2 v4) k0_pay17 j = ∑ r : Fin 256, xc (wB v0 v1 v2 v3 v4 v5 v6 r).x (j 1) * rs (wB v0 v1 v2 v3 v4 v5 v6 r).x * (wB v0 v1 v2 v3 v4 v5 v6 r).y (j 1) := by
  idx_vars j
  pointwise [k0_pay24, p20 v0 v1 v2 v3 v4 v5 v6, p22]

theorem hb (j) : k0_pay23 (F := Ideal) v3 v5 v6 (k0_pay15 v0 v1 v2 v4) (k0_pay16 v0 v1 v2 v4) k0_pay17 j = ∑ r : Fin 256, (wB v0 v1 v2 v3 v4 v5 v6 r).y (j 1) := by
  idx_vars j
  pointwise [k0_pay23, p22]

theorem hl (j) : k0_pay4 (F := Ideal) (k0_pay21 v3 v5 v6 (k0_pay15 v0 v1 v2 v4) (k0_pay16 v0 v1 v2 v4) k0_pay17) j = ∑ r : Fin 256, (wB v0 v1 v2 v3 v4 v5 v6 r).loss := by
  refine Eq.trans ?_ (loss_after Finset.univ _)
  idx_vars j
  pointwise [k0_pay4, p21, Rows.sq]

theorem ha7 (x : FVec Ideal S256x1024 .f32) (a : FVec Ideal S1x1 .f32) (j) : k0_pay7 (F := Ideal) x a j = a j + k0_pay4 x j := by pointwise [k0_pay7]

theorem ha8 (x y : FVec Ideal S256x1024 .f32) (a : FVec Ideal S1x1024 .f32) (j) : k0_pay8 (F := Ideal) x y a j = a j + k0_pay2 x y j := by pointwise [k0_pay8]

theorem ha9 (x a : FVec Ideal S1x1024 .f32) (j) : k0_pay9 (F := Ideal) x a j = a j + x j := by pointwise [k0_pay9]

theorem ha10 (x a : FVec Ideal S1x1024 .f32) (j) : k0_pay10 (F := Ideal) x a j = a j + x j := by pointwise [k0_pay10]
end
end Cert.PleHeadIdeal.Value

namespace Cert.PleHeadRefIdeal.Read
open Cert.PleHeadRefIdeal Cert.PleHeadRefIdeal.Gen Cert.Ln Cert.Ple Cert.Scalars

section
variable (x0 x1 x2 x3 : FVec Ideal S8192x1024 .f32) (x4 x5 x6 : FVec Ideal S1x1024 .f32) (R : Fin 8192) (l : Fin 1024)

/-- A row of the arguments. -/
def wR : Rows := ⟨fun k => x0 (ix2 R k), fun k => x1 (ix2 R k), fun k => x2 (ix2 R k), fun k => x3 (ix2 R k),
  fun k => x4 (ix2 0 k), fun k => x5 (ix2 0 k), fun k => x6 (ix2 0 k)⟩

theorem s_s : val_main_v11 (F := Ideal) x1 x4 (ix2 R l) = (wR x0 x1 x2 x3 x4 x5 x6 R).s l := by
  pointwise [val_main_v0, val_main_v3, val_main_v4, val_main_v5, val_main_v6, val_main_v7, val_main_cst, val_main_v8, val_main_v9, val_main_cst_0, val_main_v10, val_main_v11, Rows.s, wR, sg]

theorem s_xc : val_main_v24 (F := Ideal) x0 x1 x2 x4 (ix2 R l) = xc (wR x0 x1 x2 x3 x4 x5 x6 R).x l := by
  pointwise [val_main_v15, val_main_cst_2, val_main_v16, val_main_v17, val_main_v18, val_main_cst_3, val_main_v19, val_main_v20, val_main_cst_4, val_main_v21, val_main_v22, val_main_v23, val_main_v24, s_s x0 x1 x2 x3 x4 x5 x6, xc, Rows.x, wR, len]

theorem s_var : val_main_v31 (F := Ideal) x0 x1 x2 x4 (ix2 R (0 : Fin 1)) = var (wR x0 x1 x2 x3 x4 x5 x6 R).x := by
  pointwise [val_main_v25, val_main_cst_5, val_main_v26, val_main_v27, val_main_cst_6, val_main_v28, val_main_v29, val_main_cst_7, val_main_v30, val_main_v31, s_xc x0 x1 x2 x3 x4 x5 x6, var, len]

theorem s_rs : val_main_v32 (F := Ideal) x0 x1 x2 x4 (ix2 R (0 : Fin 1)) = rs (wR x0 x1 x2 x3 x4 x5 x6 R).x := by
  pointwise [val_main_v32, s_var x0 x1 x2 x3 x4 x5 x6, rs]

theorem s_n : val_main_v37 (F := Ideal) x0 x1 x2 x4 (ix2 R l) = xc (wR x0 x1 x2 x3 x4 x5 x6 R).x l * rs (wR x0 x1 x2 x3 x4 x5 x6 R).x := by
  pointwise [val_main_v36, val_main_v37, s_xc x0 x1 x2 x3 x4 x5 x6, s_rs x0 x1 x2 x3 x4 x5 x6]

theorem s_e : val_main_v44 (F := Ideal) x0 x1 x2 x3 x4 x5 x6 (ix2 R l) = (wR x0 x1 x2 x3 x4 x5 x6 R).e l := by
  pointwise [val_main_v1, val_main_v2, val_main_v38, val_main_v39, val_main_v40, val_main_v41, val_main_v42, val_main_v43, val_main_v44, s_n x0 x1 x2 x3 x4 x5 x6, Rows.e]
  rfl

theorem s_y : val_main_v58 (F := Ideal) x0 x1 x2 x3 x4 x5 x6 (ix2 R l) = (wR x0 x1 x2 x3 x4 x5 x6 R).y l := by
  refine Eq.trans ?_ (scale _)
  pointwise [val_main_cst_9, val_main_v46, val_main_v47, val_main_cst_14, val_main_cst_15, val_main_v53, val_main_v54, val_main_cst_16, val_main_v55, val_main_v56, val_main_v57, val_main_v58, s_e]

theorem s_u : val_main_v66 (F := Ideal) x0 x1 x2 x3 x4 x5 x6 (ix2 R l) = (wR x0 x1 x2 x3 x4 x5 x6 R).y l * (wR x0 x1 x2 x3 x4 x5 x6 R).g l := by
  pointwise [val_main_v1, val_main_v38, val_main_v65, val_main_v66, s_y]
  rfl

theorem s_q : val_main_v75 (F := Ideal) x0 x1 x2 x3 x4 x5 x6 (ix2 R (0 : Fin 1)) = q (wR x0 x1 x2 x3 x4 x5 x6 R).x (fun k => (wR x0 x1 x2 x3 x4 x5 x6 R).y k * (wR x0 x1 x2 x3 x4 x5 x6 R).g k) := by
  pointwise [val_main_v33, val_main_cst_8, val_main_v34, val_main_v35, val_main_v68, val_main_cst_21, val_main_v69, val_main_v70, val_main_v73, val_main_cst_22, val_main_v74, val_main_v75, s_xc x0 x1 x2 x3 x4 x5 x6, s_var x0 x1 x2 x3 x4 x5 x6, s_rs x0 x1 x2 x3 x4 x5 x6, s_u, q, len]

theorem s_d : val_main_v89 (F := Ideal) x0 x1 x2 x3 x4 x5 x6 (ix2 R l) = (wR x0 x1 x2 x3 x4 x5 x6 R).d l := by
  pointwise [val_main_v71, val_main_v72, val_main_cst_23, val_main_v76, val_main_v77, val_main_v78, val_main_v79, val_main_v80, val_main_v81, val_main_v82, val_main_cst_24, val_main_v83, val_main_v84, val_main_cst_25, val_main_v85, val_main_v86, val_main_cst_26, val_main_v87, val_main_v88, val_main_v89, s_xc x0 x1 x2 x3 x4 x5 x6, s_rs x0 x1 x2 x3 x4 x5 x6, s_u, s_q, Rows.d, dr, dc, len]
  simp [s_q]

theorem s_dz : val_main_v94 (F := Ideal) x0 x1 x2 x3 x4 x5 x6 (ix2 R l) = (wR x0 x1 x2 x3 x4 x5 x6 R).dz l := by
  pointwise [val_main_cst_1, val_main_v12, val_main_v13, val_main_v14, val_main_v93, val_main_v94, s_s x0 x1 x2 x3 x4 x5 x6, s_d, Rows.dz]
  rfl

theorem s_h (j : S8192x1024.Idx) : val_main_v91 (F := Ideal) x0 x1 x2 x3 x4 x5 x6 j = Ideal.ofBits FTy.f32 0x3F9837F0#32 * (wR x0 x1 x2 x3 x4 x5 x6 (j 0)).d (j 1) := by
  idx_vars j
  pointwise [val_main_cst_27, val_main_v90, val_main_v91, s_d]

theorem s_zb (j : S8192x1024.Idx) : val_main_v98 (F := Ideal) x0 x1 x2 x3 x4 x5 x6 j = (wR x0 x1 x2 x3 x4 x5 x6 (j 0)).dz (j 1) := by
  idx_vars j
  pointwise [val_main_v98, s_dz]

theorem s_p (j : S8192x1024.Idx) : val_main_v99 (F := Ideal) x0 x1 x2 x3 x4 x5 x6 j = (wR x0 x1 x2 x3 x4 x5 x6 (j 0)).s (j 1) * (wR x0 x1 x2 x3 x4 x5 x6 (j 0)).d (j 1) := by
  idx_vars j
  pointwise [val_main_v92, val_main_v99, s_s x0 x1 x2 x3 x4 x5 x6, s_d]

theorem s_loss (j : S1x1.Idx) : val_main_v100 (F := Ideal) x0 x1 x2 x3 x4 x5 x6 j = ∑ R : Fin 8192, (wR x0 x1 x2 x3 x4 x5 x6 R).loss := by
  refine Eq.trans ?_ (loss_each Finset.univ _)
  idx_vars j
  pointwise [val_main_v45, val_main_cst_10, val_main_v48, val_main_cst_11, val_main_v49, val_main_v50, val_main_cst_12, val_main_v51, val_main_cst_13, val_main_v52, val_main_v100, s_e, Rows.sq]

theorem s_db (j : S1x1024.Idx) : val_main_v101 (F := Ideal) x0 x1 x2 x3 x4 x5 x6 j = ∑ R : Fin 8192, (wR x0 x1 x2 x3 x4 x5 x6 R).dz (j 1) := by
  idx_vars j
  pointwise [val_main_cst_28, val_main_v95, val_main_v96, val_main_cst_29, val_main_v97, val_main_v101, s_dz]
  simp

theorem s_g (j : S1x1024.Idx) : val_main_v102 (F := Ideal) x0 x1 x2 x3 x4 x5 x6 j =
    ∑ R : Fin 8192, xc (wR x0 x1 x2 x3 x4 x5 x6 R).x (j 1) * rs (wR x0 x1 x2 x3 x4 x5 x6 R).x * (wR x0 x1 x2 x3 x4 x5 x6 R).y (j 1) := by
  idx_vars j
  pointwise [val_main_v62, val_main_cst_19, val_main_v63, val_main_v64, val_main_cst_20, val_main_v67, val_main_v102, s_n x0 x1 x2 x3 x4 x5 x6, s_y]
  simp

theorem s_o (j : S1x1024.Idx) : val_main_v103 (F := Ideal) x0 x1 x2 x3 x4 x5 x6 j = ∑ R : Fin 8192, (wR x0 x1 x2 x3 x4 x5 x6 R).y (j 1) := by
  idx_vars j
  pointwise [val_main_cst_17, val_main_v59, val_main_v60, val_main_cst_18, val_main_v61, val_main_v103, s_y]
  simp
end
end Cert.PleHeadRefIdeal.Read

namespace Cert.PleHeadIdeal.Value
open Cert.PleHeadIdeal Cert.PleHeadIdeal.Gen Cert.Ln Cert.Ple Cert.Scalars Cert.PleHeadRefIdeal.Read

/-- The block index of every window at every point. -/
theorem idx_val : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![0, 0] ∧ win0_11.index t = ![0, 0] ∧ win0_12.index t = ![0, 0] ∧ win0_13.index t = ![0, 0] :=
  (by decide +kernel : ∀ t : Fin grid0.N, _)

variable (m : (ℓ : Loc nD τ sig) → Buf (Elt Ideal) ℓ)

/-- A row of the blocks is the row of the arguments. -/
theorem rowsB (c : Dev nD) (t : Fin cfg0.N) (r : Fin 256) (R : Fin 8192) (h : R.val = t.val * 256 + r.val) :
    wB (iblk m c 0 t) (iblk m c 1 t) (iblk m c 2 t) (iblk m c 3 t) (iblk m c 4 t) (iblk m c 5 t) (iblk m c 6 t) r = wR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R := by
  unfold wB wR
  congr 1 <;> (funext k; blk_point [iblk, V, idx_val t])

section
variable (c : Dev nD) (t : Fin cfg0.N) (r : Fin 256) (l : Fin 1024) (i : S8192x1024.Idx)
  (h0 : (i 0 : ℕ) = t.val * 256 + r.val) (h1 : (i 1 : ℕ) = l.val)
include h0 h1

theorem core7 : k0_pay3 (k0_pay25 (iblk m c 3 t) (iblk m c 5 t) (iblk m c 6 t) (k0_pay15 (iblk m c 0 t) (iblk m c 1 t) (iblk m c 2 t) (iblk m c 4 t)) (k0_pay16 (iblk m c 0 t) (iblk m c 1 t) (iblk m c 2 t) (iblk m c 4 t)) k0_pay17) (ix2 r l) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  obtain rfl : i 1 = l := Fin.ext h1
  rw [s_h, ← rowsB m c t r (i 0) h0]
  pointwise [k0_pay3, p25]

theorem core8 : k0_pay5 (k0_pay11 (iblk m c 1 t) (iblk m c 4 t)) (k0_pay27 (iblk m c 2 t) (iblk m c 3 t) (iblk m c 5 t) (iblk m c 6 t) (k0_pay14 (iblk m c 1 t) (iblk m c 4 t)) (k0_pay15 (iblk m c 0 t) (iblk m c 1 t) (iblk m c 2 t) (iblk m c 4 t)) (k0_pay16 (iblk m c 0 t) (iblk m c 1 t) (iblk m c 2 t) (iblk m c 4 t)) k0_pay17) (ix2 r l) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  obtain rfl : i 1 = l := Fin.ext h1
  rw [s_zb, ← rowsB m c t r (i 0) h0]
  pointwise [k0_pay5, p1]

theorem core9 : k0_pay6 (k0_pay26 (iblk m c 3 t) (iblk m c 5 t) (iblk m c 6 t) (k0_pay13 (iblk m c 1 t) (iblk m c 4 t)) (k0_pay15 (iblk m c 0 t) (iblk m c 1 t) (iblk m c 2 t) (iblk m c 4 t)) (k0_pay16 (iblk m c 0 t) (iblk m c 1 t) (iblk m c 2 t) (iblk m c 4 t)) k0_pay17) (ix2 r l) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  obtain rfl : i 1 = l := Fin.ext h1
  rw [s_p, ← rowsB m c t r (i 0) h0]
  pointwise [k0_pay6, p26 (iblk m c 0 t) (iblk m c 1 t) (iblk m c 2 t) (iblk m c 3 t) (iblk m c 4 t) (iblk m c 5 t) (iblk m c 6 t)]
end

/-- The result array of window 7. -/
theorem final7 (c : Dev nD) : (dats m 0 c).arrAt 7 (cfgs 0).N = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  have h32 := lt_of_lt_of_eq t.isLt N_0
  have key := core7 m c t (y 0) (y 1) (((cfg0.win 7).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The result array of window 8. -/
theorem final8 (c : Dev nD) : (dats m 0 c).arrAt 8 (cfgs 0).N = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  have h32 := lt_of_lt_of_eq t.isLt N_0
  have key := core8 m c t (y 0) (y 1) (((cfg0.win 8).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The result array of window 9. -/
theorem final9 (c : Dev nD) : (dats m 0 c).arrAt 9 (cfgs 0).N = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  have h32 := lt_of_lt_of_eq t.isLt N_0
  have key := core9 m c t (y 0) (y 1) (((cfg0.win 9).blk t).view.emb y) (by blk_simp [idx_val t]) (by blk_simp [idx_val t])
  rw [← eq_ix2 y] at key
  by_cases h : t.val % 32 = 0
  · rw [outsAt0_A m c t h (by omega)]; frame_out; exact key
  · rw [outsAt0_B m c t h (by omega)]; frame_out; exact key

/-- The result array of window 10: the sums over the blocks are the sum over all rows. -/
theorem final10 (c : Dev nD) : (dats m 0 c).arrAt 10 (cfgs 0).N = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 32 (fun _ => 0) _
    (fun t h j => by rw [outsAt0_A m c t h (by have := lt_of_lt_of_eq t.isLt N_0; omega)]; frame_out; rw [hl, ← zero_add (Finset.sum _ _)])
    (fun t h j => by rw [outsAt0_B m c t h (by omega)]; frame_out; rw [ha7, hl])
    t ((flush0_10 t).mp hf) _, zero_add, s_loss]
  have ht := lt_of_lt_of_eq t.isLt N_0
  refine Fin.sum_mul_add_congr fun s k' hl => ?_
  refine congrArg (fun w => w.loss) (rowsB m c _ k' _ ?_)
  show s.val * 256 + k'.val = (32 * (t.val / 32) + s.val) * 256 + k'.val; omega

/-- The result array of window 11: the sums over the blocks are the sum over all rows. -/
theorem final11 (c : Dev nD) : (dats m 0 c).arrAt 11 (cfgs 0).N = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp
  rw [after0_11, Pipeline.eq_sum_fin_of_reset_step_apply_of_flush (fun n h => (outsAt0 m c n h).2.2.2.2.1) 32 (fun _ => 0) _
    (fun t h j => by rw [outsAt0_A m c t h (by have := lt_of_lt_of_eq t.isLt N_0; omega)]; frame_out; rw [hz, ← zero_add (Finset.sum _ _)])
    (fun t h j => by rw [outsAt0_B m c t h (by omega)]; frame_out; rw [ha8, hz])
    t ((flush0_11 t).mp hf) _, zero_add, s_db]
  have ht := lt_of_lt_of_eq t.isLt N_0
  have hj : (((cfg0.win 11).blk t).view.emb y) 1 = y 1 := Fin.ext (by blk_simp [idx_val t])
  rw [hj]
  refine Fin.sum_mul_add_congr fun s k' hl => ?_
  refine congrArg (fun w => w.dz (y 1)) (rowsB m c _ k' _ ?_)
  show s.val * 256 + k'.val = (32 * (t.val / 32) + s.val) * 256 + k'.val; omega

/-- The result array of window 12: the sums over the blocks are the sum over all rows. -/
theorem final12 (c : Dev nD) : (dats m 0 c).arrAt 12 (cfgs 0).N = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2.1) 32 (fun _ => 0) _
    (fun t h j => by rw [outsAt0_A m c t h (by have := lt_of_lt_of_eq t.isLt N_0; omega)]; frame_out; rw [hg, ← zero_add (Finset.sum _ _)])
    (fun t h j => by rw [outsAt0_B m c t h (by omega)]; frame_out; rw [ha9, hg])
    t ((flush0_12 t).mp hf) _, zero_add, s_g]
  have ht := lt_of_lt_of_eq t.isLt N_0
  have hj : (((cfg0.win 12).blk t).view.emb y) 1 = y 1 := Fin.ext (by blk_simp [idx_val t])
  rw [hj]
  refine Fin.sum_mul_add_congr fun s k' hl => ?_
  refine congrArg (fun w => xc w.x (y 1) * rs w.x * w.y (y 1)) (rowsB m c _ k' _ ?_)
  show s.val * 256 + k'.val = (32 * (t.val / 32) + s.val) * 256 + k'.val; omega

/-- The result array of window 13: the sums over the blocks are the sum over all rows. -/
theorem final13 (c : Dev nD) : (dats m 0 c).arrAt 13 (cfgs 0).N = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.2) 32 (fun _ => 0) _
    (fun t h j => by rw [outsAt0_A m c t h (by have := lt_of_lt_of_eq t.isLt N_0; omega)]; frame_out; rw [hb, ← zero_add (Finset.sum _ _)])
    (fun t h j => by rw [outsAt0_B m c t h (by omega)]; frame_out; rw [ha10, hb])
    t ((flush0_13 t).mp hf) _, zero_add, s_o]
  have ht := lt_of_lt_of_eq t.isLt N_0
  have hj : (((cfg0.win 13).blk t).view.emb y) 1 = y 1 := Fin.ext (by blk_simp [idx_val t])
  rw [hj]
  refine Fin.sum_mul_add_congr fun s k' hl => ?_
  refine congrArg (fun w => w.y (y 1)) (rowsB m c _ k' _ ?_)
  show s.val * 256 + k'.val = (32 * (t.val / 32) + s.val) * 256 + k'.val; omega

/-- The kernel's run with every result named by the reference's term. -/
theorem run (ρ : Dev nD → PrngReg) :
    θ_run defs (onTc (τ := τ) (main (F := Ideal))) ⟨m, fun _ => 0, ρ⟩ fun r => ∀ c : Dev nD,
      r.2.mem ((c : Thread nD τ).loc main_v0_0) = Cert.PleHeadRefIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = Cert.PleHeadRefIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = Cert.PleHeadRefIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_3) = Cert.PleHeadRefIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_4) = Cert.PleHeadRefIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_5) = Cert.PleHeadRefIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_6) = Cert.PleHeadRefIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨h7, h8, h9, h10, h11, h12, h13, hr⟩ := h c
    exact ⟨h7.trans (final7 m c), h8.trans (final8 m c), h9.trans (final9 m c), h10.trans (final10 m c), h11.trans (final11 m c),
      h12.trans (final12 m c), h13.trans (final13 m c), hr⟩) (run_blocks m ρ)

end Cert.PleHeadIdeal.Value

namespace Cert.PleHeadRefIdeal.Read
open Cert.PleHeadRefIdeal Cert.PleHeadRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v98) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v99) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v100) = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v101) = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v102) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v103) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨h0, h1, h2, h3, h4, h5, h6, hr⟩ := h c
    exact ⟨h0.trans (val_main_v91_eq _ _), h1.trans (val_main_v98_eq _ _), h2.trans (val_main_v99_eq _ _), h3.trans (val_main_v100_eq _ _), h4.trans (val_main_v101_eq _ _), h5.trans (val_main_v102_eq _ _), h6.trans (val_main_v103_eq _ _), hr⟩) (Value.run m ρ)

/-- The reference terminates with its arguments unchanged. -/
theorem frame : Cert.quiescent_PleHeadRefIdeal := fun m ρ _ =>
  (θ_run _ _ _).mono (fun r h => ⟨fun c => (h c).2.2.2.2.2.2.2, sem_eq_zero_of_no_sems rfl r.2⟩) (run_val m ρ)

end Cert.PleHeadRefIdeal.Read

/-- The backward call of the embedding's gate, the last norm and the loss computes the reference's loss and gradients. -/
theorem Cert.PleHeadIdeal.Value.algebraic : Cert.algebraic_PleHeadIdeal_PleHeadRefIdeal := by
  intro m g m' g' _ hag
  refine ⟨_, _, _, _, _, _, _, Cert.PleHeadIdeal.Value.run m g, (θ_run _ _ _).mono (fun r h c => ?_) (Cert.PleHeadRefIdeal.Read.run_val m' g')⟩
  obtain ⟨e0, e1, e2, e3, e4, e5, e6⟩ := hag c
  obtain ⟨h0, h1, h2, h3, h4, h5, h6, hr⟩ := h c
  simp only [e0, e1, e2, e3, e4, e5, e6] at h0 h1 h2 h3 h4 h5 h6
  exact ⟨h0, h1, h2, h3, h4, h5, h6, hr⟩

end
-- ==== Proof.SbfWhile.lean ====
module

public import proofs.«01_k».proof.Proof.Gen.SbFwdIdeal.Launch
public import proofs.«01_k».proof.Proof.Gen.SbFwdIdeal.Points
public import proofs.«01_k».proof.Proof.Gen.SbFwdIdeal.Loops
public import Idealize.ShloMosaic.Lib.Pipeline.FrameBody
public import Idealize.ShloMosaic.Lib.Ring
public import Idealize.ShloMosaic.Lib.WordCmp

@[expose] public section

set_option maxRecDepth 16384

noncomputable section

namespace Cert.SbFwdIdeal.Sf

open Cert.SbFwdIdeal Cert.SbFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (choose arbitrary assume consume produce)

variable {F : FTy → Type} [FloatOps F]

local notation "𝕄" => MT nD τ sig Unit (Elt F) ℕ (UR sig nD τ) ℕ

/-! The tiles below the diagonal: the loop that ends early. -/

/-- What the tiles carry: the tile's number, the sum, the two running sums of logarithms and whether a row is still live. -/
abbrev Car (F : FTy → Type) := BitVec 32 × FVec F S512x128 .f32 × FVec F S512x1 .f32 × FVec F S512x1 .f32 × BitVec 1

/-- The loop goes on. -/
abbrev goes (i : grid0.Coords) (s : Car F) : Prop :=
  Scalar.andi (Scalar.cmpi .slt s.1 (Scalar.muli (BitVec.ofNat 32 (i 1).val) 2#32)) s.2.2.2.2 = 1#1

theorem and_one : ∀ a b : BitVec 1, Scalar.andi a b = 1#1 → a = 1#1 := by decide

theorem bound_of_slt : ∀ (i : grid0.Coords) (n : Fin 32), Scalar.cmpi .slt (BitVec.ofNat 32 n.val) (Scalar.muli (BitVec.ofNat 32 (i 1).val) 2#32) = 1#1 ↔ n.val < 2 * (i 1).val := by
  decide +kernel

theorem chk_of_lt : ∀ (i : grid0.Coords) (n : Fin 32), n.val < 2 * (i 1).val → k0_chk1 i (BitVec.ofNat 32 n.val) := by
  decide +kernel

/-- The carried number is one of the tiles' numbers, with at most `n` tiles to go. -/
def Left (i : grid0.Coords) (n : ℕ) (s : Car F) : Prop := ∃ k : ℕ, s.1 = BitVec.ofNat 32 k ∧ k ≤ 2 * (i 1).val ∧ 2 * (i 1).val ≤ k + n

theorem Left.goes_lt {i : grid0.Coords} {n : ℕ} {s : Car F} (h : Left i n s) (hg : goes i s) : ∃ k : ℕ, s.1 = BitVec.ofNat 32 k ∧ k < 2 * (i 1).val ∧ 2 * (i 1).val ≤ k + n := by
  obtain ⟨k, e, h1, h2⟩ := h
  have hi : (i 1).val < 16 := (i 1).isLt
  refine ⟨k, e, ?_, h2⟩
  by_contra hk
  have ek : k = 2 * (i 1).val := by omega
  have h3 := and_one _ _ hg
  rw [e] at h3
  have := (bound_of_slt i ⟨k, by omega⟩).mp h3
  simp only at this; omega

theorem Left.chk {i : grid0.Coords} {n : ℕ} {s : Car F} (h : Left i n s) (hg : goes i s) : k0_chk1 i s.1 := by
  obtain ⟨k, e, h1, h2⟩ := h.goes_lt hg
  have hi : (i 1).val < 16 := (i 1).isLt
  rw [e]; exact chk_of_lt i ⟨k, by omega⟩ h1

/-- One tile of the loop. -/
def wnext (i : grid0.Coords) (arg3 : Memref sig .tc .vmem S8192x128 .bf16) (v135 : IVec S256x128 1) (arg4 : Memref sig .tc .vmem S8192x128 .bf16) (v5 : FVec F S512x128 .bf16) (v132 : FVec F S1024x512 .bf16) (v12 : IVec S512x512 1)
    (X3 : BufTy.Contents (Elt F) arg3.view.ty) (X4 : BufTy.Contents (Elt F) arg4.view.ty) (s : Car F) (h : k0_chk1 i s.1) : Car F :=
  let k : Vec F S256x128 .bf16 := arg3.view.readAt (Elt F) (Rect.unit (s := S8192x128) (k0_off2 i s.1) S256x128.size (k0_off2_inb i s.1 h)).toLoadRect X3
  let v : Vec F S256x128 .bf16 := arg4.view.readAt (Elt F) (Rect.unit (s := S8192x128) (k0_off2 i s.1) S256x128.size (k0_off2_inb i s.1 h)).toLoadRect X4
  (Scalar.addi s.1 1#32, k0_pay12 v132 v12 s.2.1 s.2.2.1 s.2.2.2.1 (k0_pay32 v135 v) (k0_pay35 v135 v5 k) (k0_pay36 v135 v5 k) (k0_pay37 v135 v5 k),
    k0_pay13 s.2.2.1 (k0_pay34 v135 v5 k), k0_pay14 s.2.2.2.1 (k0_pay34 v135 v5 k),
    Scalar.cmpf .ogt (k0_pay15 s.2.2.1 s.2.2.2.1 (k0_pay34 v135 v5 k)) (Scalar.ofBits .f32 0xC2DC0000#32))

open Classical in
/-- The carried values when the loop ends, with at most `n` tiles to go. -/
def wrun (i : grid0.Coords) (arg3 : Memref sig .tc .vmem S8192x128 .bf16) (v135 : IVec S256x128 1) (arg4 : Memref sig .tc .vmem S8192x128 .bf16) (v5 : FVec F S512x128 .bf16) (v132 : FVec F S1024x512 .bf16) (v12 : IVec S512x512 1)
    (X3 : BufTy.Contents (Elt F) arg3.view.ty) (X4 : BufTy.Contents (Elt F) arg4.view.ty) : ℕ → Car F → Car F
  | 0, s => s
  | n + 1, s => if h : goes i s ∧ k0_chk1 i s.1 then wrun i arg3 v135 arg4 v5 v132 v12 X3 X4 n (wnext i arg3 v135 arg4 v5 v132 v12 X3 X4 s h.2) else s

theorem Left.next {i : grid0.Coords} {n : ℕ} {s : Car F} (h : Left i (n + 1) s) (hg : goes i s) (s' : Car F) (e : s'.1 = Scalar.addi s.1 1#32) : Left i n s' := by
  obtain ⟨k, e1, h1, h2⟩ := h.goes_lt hg
  refine ⟨k + 1, ?_, by omega, by omega⟩
  rw [e, e1]; exact (BitVec.ofNat_add ..).symm

/-- What a call of the loop asks and returns. -/
def specW (c : Dev nD) (i : grid0.Coords) (arg3 : Memref sig .tc .vmem S8192x128 .bf16) (harg3 : arg3.IsWhole) (v135 : IVec S256x128 1) (arg4 : Memref sig .tc .vmem S8192x128 .bf16) (harg4 : arg4.IsWhole) (v28 v9 : IVec S512x512 32) (v5 : FVec F S512x128 .bf16) (v132 : FVec F S1024x512 .bf16) (v12 : IVec S512x512 1) (X3 : BufTy.Contents (Elt F) arg3.view.ty) (X4 : BufTy.Contents (Elt F) arg4.view.ty) (n : ℕ) (s : Car F) : sWPT 𝕄 (Car F) := do
  consume (arg3.view.loc (c : Thread nD τ) ↦[arg3.view.set]{fullShare} X3)
  consume (arg4.view.loc (c : Thread nD τ) ↦[arg4.view.set]{fullShare} X4)
  produce iprop((arg3.view.loc (c : Thread nD τ) ↦[arg3.view.set]{fullShare} X3) ∗ (arg4.view.loc (c : Thread nD τ) ↦[arg4.view.set]{fullShare} X4))
  pure (wrun i arg3 v135 arg4 v5 v132 v12 X3 X4 n s)

theorem specW_apply (c : Dev nD) (i : grid0.Coords) (arg3 : Memref sig .tc .vmem S8192x128 .bf16) (harg3 : arg3.IsWhole) (v135 : IVec S256x128 1) (arg4 : Memref sig .tc .vmem S8192x128 .bf16) (harg4 : arg4.IsWhole) (v28 v9 : IVec S512x512 32) (v5 : FVec F S512x128 .bf16) (v132 : FVec F S1024x512 .bf16) (v12 : IVec S512x512 1) (X3 : BufTy.Contents (Elt F) arg3.view.ty) (X4 : BufTy.Contents (Elt F) arg4.view.ty) (n : ℕ) (s : Car F) (K : Car F → sProp 𝕄) :
    specW c i arg3 harg3 v135 arg4 harg4 v28 v9 v5 v132 v12 X3 X4 n s K
      = iprop((arg3.view.loc (c : Thread nD τ) ↦[arg3.view.set]{fullShare} X3) ∗ (arg4.view.loc (c : Thread nD τ) ↦[arg4.view.set]{fullShare} X4)
          ∗ (((arg3.view.loc (c : Thread nD τ) ↦[arg3.view.set]{fullShare} X3) ∗ (arg4.view.loc (c : Thread nD τ) ↦[arg4.view.set]{fullShare} X4)) -∗ K (wrun i arg3 v135 arg4 v5 v132 v12 X3 X4 n s))) := rfl

theorem while_row (i : grid0.Coords) (arg3 : Memref sig .tc .vmem S8192x128 .bf16) (harg3 : arg3.IsWhole) (v135 : IVec S256x128 1) (arg4 : Memref sig .tc .vmem S8192x128 .bf16) (harg4 : arg4.IsWhole) (v28 v9 : IVec S512x512 32) (v5 : FVec F S512x128 .bf16) (v132 : FVec F S1024x512 .bf16) (v12 : IVec S512x512 1) (s : Car F) :
    defs₀ (F := F) .tc (1 : (Λ₀ F).Label) ⟨i, arg3, harg3, v135, arg4, harg4, v28, v9, v5, v132, v12, s.1, s.2.1, s.2.2.1, s.2.2.2.1, s.2.2.2.2⟩
      = cc0_while1 i arg3 harg3 v135 arg4 harg4 v28 v9 v5 v132 v12 s.1 s.2.1 s.2.2.1 s.2.2.2.1 s.2.2.2.2 := by
  unfold defs₀; rw [Defs.onTc_tc]

set_option maxHeartbeats 1600000 in
/-- The loop's body, entered with at most `n` tiles to go, meets what a call of it asks. -/
theorem specW_le (c : Dev nD) (E : Set ℕ) (i : grid0.Coords) (arg3 : Memref sig .tc .vmem S8192x128 .bf16) (harg3 : arg3.IsWhole) (v135 : IVec S256x128 1) (arg4 : Memref sig .tc .vmem S8192x128 .bf16) (harg4 : arg4.IsWhole) (v28 v9 : IVec S512x512 32) (v5 : FVec F S512x128 .bf16) (v132 : FVec F S1024x512 .bf16) (v12 : IVec S512x512 1) (X3 : BufTy.Contents (Elt F) arg3.view.ty) (X4 : BufTy.Contents (Elt F) arg4.view.ty) (n : ℕ) :
    ∀ (s : Car F) (hs : Left i n s) (K : Car F → sProp 𝕄), specW c i arg3 harg3 v135 arg4 harg4 v28 v9 v5 v132 v12 X3 X4 n s K
      ⊢ wp frame (wpE (defs₀ (F := F)) Variants.nat (c : Thread nD τ) (some n)) E (defs₀ .tc (1 : (Λ₀ F).Label) ⟨i, arg3, harg3, v135, arg4, harg4, v28, v9, v5, v132, v12, s.1, s.2.1, s.2.2.1, s.2.2.2.1, s.2.2.2.2⟩) K := by
  induction n with
  | zero =>
    intro s hs K
    have hg : ¬ goes i s := fun hg => by obtain ⟨k, -, h1, h2⟩ := hs.goes_lt hg; omega
    rw [specW_apply, while_row, cc0_while1_eq_skeleton]
    unfold cc0_while1_skel
    dsimp only
    rw [if_neg hg]
    obtain ⟨s0, s1, s2, s3, s4⟩ := s
    rw [show wrun i arg3 v135 arg4 v5 v132 v12 X3 X4 0 (s0, s1, s2, s3, s4) = (s0, s1, s2, s3, s4) from rfl]
    iintro ⟨H3, H4, Hk⟩
    sl_step
    iapply Hk
    isplitl [H3] <;> iassumption
  | succ n ih =>
    intro s hs K
    rw [specW_apply, while_row, cc0_while1_eq_skeleton]
    unfold cc0_while1_skel
    dsimp only
    by_cases hg : goes i s
    · have hc := hs.chk hg
      rw [if_pos hg, k0_part5_eq_skeleton]
      iintro ⟨H3, H4, Hk⟩
      sl_exec (disch := exact hc)
      have e : wrun i arg3 v135 arg4 v5 v132 v12 X3 X4 (n + 1) s = wrun i arg3 v135 arg4 v5 v132 v12 X3 X4 n (wnext i arg3 v135 arg4 v5 v132 v12 X3 X4 s hc) := dif_pos ⟨hg, hc⟩
      rw [e]
      iapply (wp_call_spec Variants.nat (c : Thread nD τ) (some (n + 1)) E
        (specW c i arg3 harg3 v135 arg4 harg4 v28 v9 v5 v132 v12 X3 X4 n (wnext i arg3 v135 arg4 v5 v132 v12 X3 X4 s hc)) n
        (fun u hu => by cases hu; exact Nat.lt_succ_self n) (ih (wnext i arg3 v135 arg4 v5 v132 v12 X3 X4 s hc) (hs.next hg _ rfl)))
      rw [specW_apply]
      isplitl [H3]; · iexact H3
      isplitl [H4]; · iexact H4
      iintro ⟨H3, H4⟩
      sl_step
      iapply Hk
      isplitl [H3] <;> iassumption
    · rw [if_neg hg]
      have e : wrun i arg3 v135 arg4 v5 v132 v12 X3 X4 (n + 1) s = s := dif_neg fun h => hg h.1
      rw [e]
      obtain ⟨s0, s1, s2, s3, s4⟩ := s
      iintro ⟨H3, H4, Hk⟩
      sl_step
      iapply Hk
      isplitl [H3] <;> iassumption

end Cert.SbFwdIdeal.Sf

end
-- ==== Proof.SbfFrame.lean ====
module

public import proofs.«01_k».proof.Proof.SbfWhile
public import Idealize.ShloMosaic.Lib.Pipeline.ValueKit

@[expose] public section

set_option maxRecDepth 16384

noncomputable section

namespace Cert.SbFwdIdeal.Sf

open Cert.SbFwdIdeal Cert.SbFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open sWPT (choose arbitrary assume consume produce)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The arrays as the region finds them. -/
abbrev V (c : Dev nD) (b : Ref sig .tc) : Buf (Elt F) ((c : Thread nD τ).loc b) :=
  StableHlo.after (List.flatten [hostOps0]) (fun b => m (c, b)) b

theorem ops_fresh : (hostOps0 : List (HloOp τ sig (Elt F))).Forall fun op => op.fresh = ∅ := by
  simp only [List.Forall]; repeat' constructor

theorem entry (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact ops_fresh) main_chain

theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.unary_writes, Finset.mem_singleton]
    exact StableHlo.devRef_ne_of_ne (by decide)))

/-- A window's block at a point, of the array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The staging buffers at point `t`. -/
abbrev ms0_0 (t : Fin (cfg0 (F := F)).N) : Memref sig .tc .vmem S512x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S8192x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S8192x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S512x128 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x512x1 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S1x512x1 .f32 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .smem S4x16 .i32 := win0_6.stage ((cfg0 (F := F)).slots t 6)
abbrev hs0_6 (t : Fin (cfg0 (F := F)).N) : (ms0_6 t).IsWhole := hstage0_6 (((cfg0 (F := F)).slots t 6).cast nbuf0_6)
/-- A staging buffer of each output, through which its contents are stated. -/
abbrev VO0_3 : View sig .tc .vmem S512x128 .bf16 := (Memref.whole cc0_stg3_0 : Memref sig .tc .vmem S512x128 .bf16).view
abbrev VO0_4 : View sig .tc .vmem S1x512x1 .f32 := (Memref.whole cc0_stg4_0 : Memref sig .tc .vmem S1x512x1 .f32).view
abbrev VO0_5 : View sig .tc .vmem S1x512x1 .f32 := (Memref.whole cc0_stg5_0 : Memref sig .tc .vmem S1x512x1 .f32).view

/-! ## The body on any staging buffers -/

theorem left_zero (i : grid0.Coords) (s : Car F) (h : s.1 = 0#32) : Left i (2 * (i 1).val) s := ⟨0, h, by omega, by omega⟩

set_option maxHeartbeats 4000000 in
/-- The body at one grid point: what it stores into the three outputs. -/
noncomputable def bodyRun (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (x0 : Vec F S512x128 .bf16) (x1 x2 : Vec F S8192x128 .bf16) :
    Σ' (L3 : List (View.Piece (Elt F) S512x128 .bf16)), Σ' (L4 : List (View.Piece (Elt F) S1x512x1 .f32)), { L5 : List (View.Piece (Elt F) S1x512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ d, owns (c : Thread nD τ) arg8 fullShare d)) -∗ K ⟨⟩))
          ⊢ wp frame (wpE (defs₀ (F := F)) Variants.nat c none) E (cc0_sb_fwd i arg2 harg2 arg3 harg3 arg4 harg4 arg5 harg5 arg6 harg6 arg7 harg7 arg8 harg8) K } := by
  refine ⟨?_, ?_, ?_, fun E K => ?run⟩
  case run =>
    simp only [cc0_sb_fwd_eq_skeleton]; unfold cc0_sb_fwd_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec
    iapply (wp_call_spec Variants.nat (c : Thread nD τ) none E
      (specW c _ _ _ _ _ _ _ _ _ _ _ _ _ (2 * (i 1).val) (_, _, _, _, _)) (2 * (i 1).val)
      (fun u hu => by cases hu) (specW_le c E _ _ _ _ _ _ _ _ _ _ _ _ _ _ _ (left_zero i _ rfl)))
    rw [specW_apply]
    isplitl [H1]; · iexact H1
    isplitl [H2]; · iexact H2
    iintro ⟨H1, H2⟩
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexists _; isplitr
    swap; · iexact H6
    ipureintro; rfl

theorem cover_3 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (x0 : Vec F S512x128 .bf16) (x1 x2 : Vec F S8192x128 .bf16) (y : S512x128.Idx) :
    ∃ pc ∈ (bodyRun c i arg2 harg2 arg3 harg3 arg4 harg4 arg5 harg5 arg6 harg6 arg7 harg7 arg8 harg8 x0 x1 x2).1, y ∈ pc.1.set :=
  View.cover_of_tiledL (bodyRun c i arg2 harg2 arg3 harg3 arg4 harg4 arg5 harg5 arg6 harg6 arg7 harg7 arg8 harg8 x0 x1 x2).1 S512x128.size (by sl_kernel_rfl) y

/-- What the body leaves in output 3. -/
def out_3 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (x0 : Vec F S512x128 .bf16) (x1 x2 : Vec F S8192x128 .bf16) : Vec F S512x128 .bf16 :=
  VO0_3.read (Elt F) (VO0_3.writes (Elt F) VO0_3.junk (bodyRun c i arg2 harg2 arg3 harg3 arg4 harg4 arg5 harg5 arg6 harg6 arg7 harg7 arg8 harg8 x0 x1 x2).1)

theorem cover_4 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (x0 : Vec F S512x128 .bf16) (x1 x2 : Vec F S8192x128 .bf16) (y : S1x512x1.Idx) :
    ∃ pc ∈ (bodyRun c i arg2 harg2 arg3 harg3 arg4 harg4 arg5 harg5 arg6 harg6 arg7 harg7 arg8 harg8 x0 x1 x2).2.1, y ∈ pc.1.set :=
  View.cover_of_tiledL (bodyRun c i arg2 harg2 arg3 harg3 arg4 harg4 arg5 harg5 arg6 harg6 arg7 harg7 arg8 harg8 x0 x1 x2).2.1 S1x512x1.size (by sl_kernel_rfl) y

/-- What the body leaves in output 4. -/
def out_4 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (x0 : Vec F S512x128 .bf16) (x1 x2 : Vec F S8192x128 .bf16) : Vec F S1x512x1 .f32 :=
  VO0_4.read (Elt F) (VO0_4.writes (Elt F) VO0_4.junk (bodyRun c i arg2 harg2 arg3 harg3 arg4 harg4 arg5 harg5 arg6 harg6 arg7 harg7 arg8 harg8 x0 x1 x2).2.1)

theorem cover_5 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (x0 : Vec F S512x128 .bf16) (x1 x2 : Vec F S8192x128 .bf16) (y : S1x512x1.Idx) :
    ∃ pc ∈ (bodyRun c i arg2 harg2 arg3 harg3 arg4 harg4 arg5 harg5 arg6 harg6 arg7 harg7 arg8 harg8 x0 x1 x2).2.2.1, y ∈ pc.1.set :=
  View.cover_of_tiledL (bodyRun c i arg2 harg2 arg3 harg3 arg4 harg4 arg5 harg5 arg6 harg6 arg7 harg7 arg8 harg8 x0 x1 x2).2.2.1 S1x512x1.size (by sl_kernel_rfl) y

/-- What the body leaves in output 5. -/
def out_5 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (x0 : Vec F S512x128 .bf16) (x1 x2 : Vec F S8192x128 .bf16) : Vec F S1x512x1 .f32 :=
  VO0_5.read (Elt F) (VO0_5.writes (Elt F) VO0_5.junk (bodyRun c i arg2 harg2 arg3 harg3 arg4 harg4 arg5 harg5 arg6 harg6 arg7 harg7 arg8 harg8 x0 x1 x2).2.2.1)

attribute [local irreducible] bodyRun

/-! ## The data of the pipeline -/

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)
    | ⟨4, _⟩ => out_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)
    | ⟨5, _⟩ => out_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)
    | ⟨6, _⟩ => iblk m c 6 t
  Φ _ := Pipeline.ΦA spec0 c
  q w := Pipeline.shareOf spec0 w
  owed _ := 0

/-- The counts are not a claimed result. -/
def fgt : Fin (cfg0 (F := F)).W → Bool := ![false, false, false, false, false, false, true]

theorem A_eq (c : Dev nD) (w : Fin (cfg0 (F := F)).W) : (dats m 0 c).A w = V m c (Pipeline.arrRef spec0 w) := by
  dsimp only [dats]
theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = out_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) := by dsimp only [dats]; rfl
theorem after_4 (c : Dev nD) (t : Fin (cfg0 (F := F)).N) : (dats m 0 c).after 4 t = out_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) := by dsimp only [dats]; rfl
theorem after_5 (c : Dev nD) (t : Fin (cfg0 (F := F)).N) : (dats m 0 c).after 5 t = out_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) := by dsimp only [dats]; rfl
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; rfl) t d).trans
    (by unfold Dat.fetched Dat.blockOf iblk; rw [A_eq]; rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; rfl) t d).trans
    (by unfold Dat.fetched Dat.blockOf iblk; rw [A_eq]; rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; rfl) t d).trans
    (by unfold Dat.fetched Dat.blockOf iblk; rw [A_eq]; rfl)

/-! ## The body obligation -/

def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 1600000 in
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold out_3 out_4 out_5
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, ⟨%e3, H3⟩, ⟨%e4, H4⟩, ⟨%e5, H5⟩, ⟨%d7, H6⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t))
  isplitl [H4]
  · unfold owns; iexists _; isplitr
    swap; · iexact H4
    ipureintro; exact View.read_writes_of_cover _ _ _ _ _ (cover_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t))
  isplitl [H5]
  · unfold owns; iexists _; isplitr
    swap; · iexact H5
    ipureintro; exact View.read_writes_of_cover _ _ _ _ _ (cover_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t))
  iexists _; iexact H6

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ fgt := fun t => by
  rw [bigSep_W0, bigSep_W0, defs₀_row]
  exact triple_restated (sound_body m c t) rfl .rfl fun _ => .rfl

/-! ## The run and the frame -/

set_option backward.isDefEq.respectTransparency.types false in
theorem run_quiescent : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget_shared (Q' := _) cfgs (dats m) (0 : Fin 1) launch₀0 defs₀ Variants.nat fgt m ρ main
    (hbody := fun c => (body_obligation m c).loose) (hq := fun _ _ _ => rfl)
    (howed := fun _ _ => rfl) (V := V m) (hmain := entry m Variants.nat) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Pipeline.mem_restRefs_of main_arg0 (by decide) (by decide : ∀ w : Fin 7, (spec0 w).arr.view.ref ≠ main_arg0))).trans (V_arg m c), h.2⟩)
    (run_quiescent m ρ)

end Cert.SbFwdIdeal.Sf

end
-- ==== Proof.FrameSbFwd.lean ====
/- The frames of `sb_fwd`. -/
module

public import proofs.«01_k».proof.Proof.SbfFrame
public import proofs.«01_k».proof.Proof.SbfFrameB
public import proofs.«01_k».proof.Defs
public import proofs.«01_k».proof.Proof.Gen.SbFwd
public import proofs.«01_k».proof.Proof.Gen.SbFwdIdeal

@[expose] public section

namespace Cert.SbFwd.Body

theorem frame : Cert.quiescent_SbFwd (hSbFwd := Cert.SbFwd.Gen.facts) := fun m ρ _ => Cert.SbFwd.Sf.frame m ρ

end Cert.SbFwd.Body

namespace Cert.SbFwdIdeal.Body

theorem frame : Cert.quiescent_SbFwdIdeal (hSbFwdIdeal := Cert.SbFwdIdeal.Gen.facts) := fun m ρ _ => Cert.SbFwdIdeal.Sf.frame m ρ

end Cert.SbFwdIdeal.Body

end
-- ==== Proof.SbfTile.lean ====
module

public import proofs.«01_k».proof.Proof.SbfFrame
public import proofs.«01_k».proof.Proof.SbLoop

@[expose] public section

set_option maxRecDepth 16384

noncomputable section

open Idealize.ShloMosaic Idealize.ShloMosaic.TcCoe
open scoped BigOperators

namespace Cert.SbFwdIdeal.Sf
open Cert.SbFwdIdeal Cert.SbFwdIdeal.Gen Cert.Scalars
open Cert.SbBwdIdeal.Sb (zr lfr lfs plr wr esum coe_ite sel_if pick score_sum lane_sum head_sum cols_sum lfs_coe exp_coe row_words head_eq mdw dvw slt_nat)

/-! The tiles of the stick-breaking forward call, entry by entry. -/

theorem col_lt : ∀ x : Fin 256, ∀ y : Fin 256, IntOp.cmpi .sgt (BitVec.ofNat 32 x.val) (BitVec.ofNat 32 y.val) = if y.val < x.val then 1#1 else 0#1 := by decide +kernel

/-- The triangle of a tile: one where the two columns belong to the same head and the first is after the second. -/
theorem later_at (a : Fin 1024) (c : Fin 512) : (k0_pay31 (F := Ideal) (iota .tc S1024x512 32 [0] iota_S1024x512_d0_w32) (iota .tc S1024x512 32 [1] iota_S1024x512_d1_w32)
      (k0_pay27 (iota .tc S1024x512 32 [0] iota_S1024x512_d0_w32) 256#32 k0_pay25 k0_pay26 (Scalar.extui (Scalar.cmpi .sgt 256#32 0#32)) 0#32)
      (k0_pay28 (iota .tc S1024x512 32 [1] iota_S1024x512_d1_w32)) (k0_pay29 (iota .tc S1024x512 32 [1] iota_S1024x512_d1_w32)) (k0_pay30 (iota .tc S1024x512 32 [1] iota_S1024x512_d1_w32)) (ix2 a c) : EReal)
    = if a.val / 256 % 2 = c.val / 256 ∧ c.val % 256 < a.val % 256 then 1 else 0 := by
  pointwise [k0_pay31, k0_pay30, k0_pay29, k0_pay28, k0_pay27, k0_pay26, k0_pay25]
  show (((((IntOp.andi (IntOp.cmpi .eq (mdw (Scalar.select (Scalar.cmpi .eq 2#32 0#32) 1#32 2#32) (dvw (BitVec.ofNat 32 a.val))) (dvw (BitVec.ofNat 32 c.val)))
    (IntOp.cmpi .sgt (mdw (Scalar.select (Scalar.cmpi .eq 256#32 0#32) 1#32 256#32) (BitVec.ofNat 32 a.val)) (mdw (Scalar.select (Scalar.cmpi .eq 256#32 0#32) 1#32 256#32) (BitVec.ofNat 32 c.val)))).setWidth 32).toInt : ℤ) : ℝ) : EReal) = _
  have hc := row_words ⟨c.val, by omega⟩
  rw [(row_words a).1, (row_words a).2.1, hc.2.1, hc.2.2, head_eq ⟨a.val / 256 % 2, Nat.mod_lt _ (by norm_num)⟩ ⟨c.val / 256, by omega⟩,
    col_lt ⟨a.val % 256, Nat.mod_lt _ (by norm_num)⟩ ⟨c.val % 256, Nat.mod_lt _ (by norm_num)⟩]
  by_cases h : a.val / 256 % 2 = c.val / 256 <;> by_cases h' : c.val % 256 < a.val % 256 <;> simp [h, h', IntOp.andi]

/-- The product with the triangle: the sum over a head's keys after one. -/
theorem later_sum (f : ℕ → ℕ → ℝ) (S0 b e : ℕ) (hb : b < 2) (he : e < 256) :
    (∑ x : Fin 512, ((f (x.val / 256) (S0 + x.val % 256) : ℝ) : EReal) * (if x.val / 256 % 2 = b ∧ e < x.val % 256 then 1 else 0))
      + (∑ x : Fin 512, (((f (x.val / 256) (S0 + x.val % 256) : ℝ) : EReal) - ((f (x.val / 256) (S0 + x.val % 256) : ℝ) : EReal))
          * (if (512 + x.val) / 256 % 2 = b ∧ e < (512 + x.val) % 256 then 1 else 0))
      = ((∑ s ∈ Finset.range (S0 + 256), f b s - ∑ s ∈ Finset.range (S0 + e + 1), f b s : ℝ) : EReal) := by
  have h2 : ∀ x : Fin 512, (((f (x.val / 256) (S0 + x.val % 256) : ℝ) : EReal) - ((f (x.val / 256) (S0 + x.val % 256) : ℝ) : EReal))
          * (if (512 + x.val) / 256 % 2 = b ∧ e < (512 + x.val) % 256 then 1 else 0) = 0 := fun x => by
    rw [← EReal.coe_sub, sub_self, EReal.coe_zero, zero_mul]
  rw [Finset.sum_congr rfl fun x _ => h2 x, Finset.sum_const_zero, add_zero]
  rw [esum (fun x => if x / 256 = b then (if e < x % 256 then f b (S0 + x % 256) else 0) else 0)]
  · rw [head_sum (fun y => if e < y then f b (S0 + y) else 0) b hb, Nat.add_assoc S0, Finset.sum_range_add, Finset.sum_range_add, add_sub_add_left_eq_sub]
    congr 1
    rw [eq_sub_iff_add_eq, show Finset.range (e + 1) = (Finset.range 256).filter (fun y => ¬ e < y) from
      Finset.ext fun y => by simp only [Finset.mem_filter, Finset.mem_range]; omega, Finset.sum_filter, ← Finset.sum_add_distrib]
    refine Finset.sum_congr rfl fun y _ => ?_
    by_cases h : e < y <;> simp [h]
  · intro x
    have : x.val / 256 % 2 = x.val / 256 := by omega
    rw [this]
    by_cases h : x.val / 256 = b
    · by_cases h' : e < x.val % 256
      · rw [if_pos ⟨h, h'⟩, if_pos h, if_pos h', mul_one, h]
      · rw [if_neg (fun k => h' k.2), if_pos h, if_neg h', mul_zero, EReal.coe_zero]
    · rw [if_neg (fun k => h k.1), if_neg h, mul_zero, EReal.coe_zero]

/-- The running results of one block: the output rows and the two heads' sums. -/
abbrev Sums (F : FTy → Type) : Type := FVec F S512x128 .f32 × FVec F S512x1 .f32 × FVec F S512x1 .f32

/-- One tile. -/
def ftile {F : FTy → Type} [FloatOps F] (mask : IVec S512x512 1) (v5 : FVec F S512x128 .bf16) (v135 : IVec S256x128 1) (v12 : IVec S512x512 1) (v132 : FVec F S1024x512 .bf16) (kt vt : Vec F S256x128 .bf16) (a : Sums F) : Sums F :=
  (k0_pay5 v12 v132 a.1 a.2.1 a.2.2 (k0_pay16 v135 vt) mask (k0_pay18 v5 v135 kt) (k0_pay19 v5 v135 kt) k0_pay20,
    k0_pay6 a.2.1 mask (k0_pay19 v5 v135 kt) k0_pay20, k0_pay7 a.2.2 mask (k0_pay19 v5 v135 kt) k0_pay20)

/-- The masked logarithms of one tile. -/
def flf (mask : IVec S512x512 1) (v5 : FVec Ideal S512x128 .bf16) (kt : Vec Ideal S256x128 .bf16) : FVec Ideal S512x512 .f32 :=
  k0_pay4 mask (k0_pay19 v5 Cert.SbBwdIdeal.Gen.k0_pay58 kt) k0_pay20

/-- What a tile is given. -/
structure TileIn (q k v : ℕ → ℕ → ℝ) (R0 S0 : ℕ) (mask : IVec S512x512 1) (v5 : FVec Ideal S512x128 .bf16) (tri : FVec Ideal S1024x512 .bf16) (kt vt : Vec Ideal S256x128 .bf16) : Prop where
  q : ∀ (r : Fin 512) (l : Fin 128), v5 (ix2 r l) = ((q (R0 + r.val) l.val : ℝ) : EReal)
  tri : ∀ (x : Fin 1024) (c : Fin 512), (tri (ix2 x c) : EReal) = if x.val / 256 % 2 = c.val / 256 ∧ c.val % 256 < x.val % 256 then 1 else 0
  mask : ∀ (r : Fin 512) (c : Fin 512), mask (ix2 r c) = if S0 + c.val % 256 < R0 + r.val then 1#1 else 0#1
  k : ∀ (e : Fin 256) (l : Fin 128), kt (ix2 e l) = ((k (S0 + e.val) l.val : ℝ) : EReal)
  v : ∀ (e : Fin 256) (l : Fin 128), vt (ix2 e l) = ((v (S0 + e.val) l.val : ℝ) : EReal)

/-- The sum of the weighted values over the keys before one. -/
def avr (q k v : ℕ → ℕ → ℝ) (tot : ℕ → ℕ → ℝ) (S R l : ℕ) : ℝ := ∑ s ∈ Finset.range S, wr q k tot (l / 64) R s * v s l

/-- What the tiles of the keys from `S0` on leave. -/
structure SumsAt (q k v : ℕ → ℕ → ℝ) (tot : ℕ → ℕ → ℝ) (R0 S0 : ℕ) (a : Sums Ideal) : Prop where
  o : ∀ (r : Fin 512) (l : Fin 128), a.1 (ix2 r l) = ((avr q k v tot 8192 (R0 + r.val) l.val - avr q k v tot S0 (R0 + r.val) l.val : ℝ) : EReal)
  p0 : ∀ (r : Fin 512), a.2.1 (ix2 r (0 : Fin 1)) = ((tot 0 (R0 + r.val) - plr q k 0 (R0 + r.val) S0 : ℝ) : EReal)
  p1 : ∀ (r : Fin 512), a.2.2 (ix2 r (0 : Fin 1)) = ((tot 1 (R0 + r.val) - plr q k 1 (R0 + r.val) S0 : ℝ) : EReal)

section TileValues
variable {q k v : ℕ → ℕ → ℝ} {tot : ℕ → ℕ → ℝ} {R0 S0 : ℕ} {mask : IVec S512x512 1} {v5 : FVec Ideal S512x128 .bf16}
  {tri : FVec Ideal S1024x512 .bf16} {kt vt : Vec Ideal S256x128 .bf16} {a : Sums Ideal}
  (T : TileIn q k v R0 S0 mask v5 tri kt vt)

include T in
theorem f_z (r c : Fin 512) : (k0_pay18 v5 Cert.SbBwdIdeal.Gen.k0_pay58 kt (ix2 r c) : EReal) = ((zr q k (c.val / 256) (R0 + r.val) (S0 + c.val % 256) : ℝ) : EReal) := by
  show (Cert.SbBwdIdeal.Gen.k0_pay32 v5 Cert.SbBwdIdeal.Gen.k0_pay58 kt (ix2 r c) : EReal) = _
  pointwise [Cert.SbBwdIdeal.Gen.k0_pay32]
  exact score_sum q k R0 S0 v5 kt T.q T.k r c

include T in
theorem f_lf0 (r c : Fin 512) : (k0_pay19 v5 Cert.SbBwdIdeal.Gen.k0_pay58 kt (ix2 r c) : EReal) = ((lfs (zr q k (c.val / 256) (R0 + r.val) (S0 + c.val % 256)) : ℝ) : EReal) := by
  pointwise [k0_pay19, f_z T]
  exact lfs_coe _

include T in
theorem f_lf (r c : Fin 512) : (flf mask v5 kt (ix2 r c) : EReal) = ((lfr q k (c.val / 256) (R0 + r.val) (S0 + c.val % 256) : ℝ) : EReal) := by
  pointwise [flf, k0_pay4, k0_pay20, f_lf0 T, T.mask]
  exact (sel_if _ _ _).trans (coe_ite _ _ 0).symm

/-- The weights of one tile. -/
def fwt (mask : IVec S512x512 1) (v12 : IVec S512x512 1) (tri : FVec Ideal S1024x512 .bf16) (z lf : FVec Ideal S512x512 .f32) (sa sb : FVec Ideal S512x1 .f32) : FVec Ideal S512x512 .f32 :=
  select mask (exp (addf (addf (addf z lf)
    (matmul dot_S512x1024_S1024x512_S512x512_1_0_0_1_n_n none (concatenate S512x1024 1 [⟨S512x512, truncf .bf16 lf bitsLt_bf16_f32⟩, ⟨S512x512, truncf .bf16 (subf lf (extf .f32 (truncf .bf16 lf bitsLt_bf16_f32) bitsLt_bf16_f32)) bitsLt_bf16_f32⟩] concatenates_S512x512_S512x512_S512x1024_d1) tri (constant S512x512 .f32 0x00000000#32)))
    (select v12 (broadcastTo S512x512 (shapeCast S512x1 sa shapeCasts_S512x1_S512x1) broadcasts_S512x1_S512x512) (broadcastTo S512x512 (shapeCast S512x1 sb shapeCasts_S512x1_S512x1) broadcasts_S512x1_S512x512))))
    (broadcast S512x512 (Scalar.ofBits .f32 0x00000000#32))

theorem half_at (r c : Fin 512) : (k0_pay23 (ix2 r c) : BitVec 1) = if c.val < 256 then 1#1 else 0#1 := Cert.SbBwdIdeal.Sb.half r c

include T in
theorem f_w (A : SumsAt q k v tot R0 (S0 + 256) a) (r c : Fin 512) :
    (fwt mask k0_pay23 tri (k0_pay18 v5 Cert.SbBwdIdeal.Gen.k0_pay58 kt) (flf mask v5 kt) a.2.1 a.2.2 (ix2 r c) : EReal) = ((wr q k tot (c.val / 256) (R0 + r.val) (S0 + c.val % 256) : ℝ) : EReal) := by
  pointwise [fwt, f_lf T, f_z T, T.mask, half_at, T.tri, A.p0, A.p1]
  refine (sel_if _ _ _).trans ((coe_ite _ _ 0).trans ?_).symm
  rw [EReal.coe_zero]
  refine congrArg (fun y => if S0 + c.val % 256 < R0 + r.val then y else 0) ?_
  rw [later_sum (fun b s => lfr q k b (R0 + r.val) s) S0 _ _ (by omega) (Nat.mod_lt _ (by norm_num)), pick (fun b => tot b (R0 + r.val) - plr q k b (R0 + r.val) (S0 + 256)),
    ← EReal.coe_add, ← EReal.coe_add, ← EReal.coe_add, exp_coe]
  congr 2
  unfold plr
  ring

include T in
/-- The carried values after the tile. -/
theorem tile_sums (A : SumsAt q k v tot R0 (S0 + 256) a) : SumsAt q k v tot R0 S0 (ftile mask v5 Cert.SbBwdIdeal.Gen.k0_pay58 k0_pay23 tri kt vt a) where
  o r l := by
    show (addf a.1 (matmul dot_S512x512_S512x128_S512x128_1_0_0_1_n_n none (truncf .bf16 (fwt mask k0_pay23 tri (k0_pay18 v5 Cert.SbBwdIdeal.Gen.k0_pay58 kt) (flf mask v5 kt) a.2.1 a.2.2) bitsLt_bf16_f32) (Cert.SbBwdIdeal.Gen.k0_pay29 Cert.SbBwdIdeal.Gen.k0_pay58 vt) (constant S512x128 .f32 0x00000000#32)) (ix2 r l) : EReal) = _
    pointwise [f_w T A, A.o]
    refine (congrArg (_ + ·) (lane_sum (fun b s => wr q k tot b (R0 + r.val) s) v S0 vt T.v l)).trans ?_
    rw [← EReal.coe_add]
    congr 1
    unfold avr
    rw [Finset.sum_range_add _ S0]
    ring
  p0 r := by
    show (k0_pay13 a.2.1 (flf mask v5 kt) (ix2 r 0) : EReal) = _
    pointwise [k0_pay13, A.p0]
    refine (congrArg (_ + ·) ((Finset.sum_congr rfl fun x _ => by congr 2; exact Fin.ext (Nat.zero_add _).symm).trans (cols_sum (fun b s => lfr q k b (R0 + r.val) s) S0 0 0 (by norm_num) rfl _ r fun c => f_lf T r c))).trans ?_
    rw [← EReal.coe_add]
    congr 1
    unfold plr
    rw [Finset.sum_range_add _ S0]
    ring
  p1 r := by
    show (k0_pay14 a.2.2 (flf mask v5 kt) (ix2 r 0) : EReal) = _
    pointwise [k0_pay14, A.p1]
    refine (congrArg (_ + ·) (cols_sum (fun b s => lfr q k b (R0 + r.val) s) S0 1 256 (by norm_num) rfl _ r fun c => f_lf T r c)).trans ?_
    rw [← EReal.coe_add]
    congr 1
    unfold plr
    rw [Finset.sum_range_add _ S0]
    ring

end TileValues

/-- The mask of a tile on the diagonal. -/
theorem mask_at (i : grid0.Coords) (n : Fin k0_t1_loop.trips) (r c : Fin 512) :
    k0_pay17 (k0_pay22 i) k0_pay24 (Scalar.muli (BitVec.ofNat 32 (i 1).val) 2#32) 0#32 1#32 n (ix2 r c)
      = if 512 * (i 1).val + 256 * (1 - n.val) + c.val % 256 < 512 * (i 1).val + r.val then 1#1 else 0#1 := by
  have colw : (k0_pay24 (ix2 r c) : BitVec 32) = BitVec.ofNat 32 (c.val % 256) := Cert.SbBwdIdeal.Sb.colw r c
  pointwise [k0_pay17, k0_pay22, colw]
  have hi : (i 1).val < 16 := (i 1).isLt
  have hn : n.val < 2 := n.isLt
  have e1 : Scalar.muli (Scalar.subi (Scalar.subi (Scalar.addi (Scalar.muli (BitVec.ofNat 32 (i 1).val) 2#32) 2#32) 1#32) (Scf.iv 0#32 1#32 n.val)) 256#32 = BitVec.ofNat 32 (512 * (i 1).val + 256 * (1 - n.val)) :=
    (by decide +kernel : ∀ (i : Fin 16) (n : Fin 2), Scalar.muli (Scalar.subi (Scalar.subi (Scalar.addi (Scalar.muli (BitVec.ofNat 32 i.val) 2#32) 2#32) 1#32) (Scf.iv 0#32 1#32 n.val)) 256#32 = BitVec.ofNat 32 (512 * i.val + 256 * (1 - n.val))) (i 1) n
  have e2 : Scalar.muli (BitVec.ofNat 32 (i 1).val) 512#32 = BitVec.ofNat 32 (512 * (i 1).val) :=
    (by decide +kernel : ∀ i : Fin 16, Scalar.muli (BitVec.ofNat 32 i.val) 512#32 = BitVec.ofNat 32 (512 * i.val)) (i 1)
  rw [e1, e2]
  refine (congrArg₂ (IntOp.cmpi .slt) (BitVec.ofNat_add _ _).symm (BitVec.ofNat_add _ _).symm).trans ?_
  rw [slt_nat _ _ (by omega) (by omega), Nat.add_comm (c.val % 256)]

theorem t1_off : ∀ (i : grid0.Coords) (n : Fin k0_t1_loop.trips), k0_off1 i n = ![512 * (i 1).val + 256 * (1 - n.val), 0] := by decide +kernel
theorem w_off : ∀ (i : grid0.Coords) (n : Fin 32), n.val < 2 * (i 1).val → k0_off2 i (BitVec.ofNat 32 n.val) = ![256 * (2 * (i 1).val - 1 - n.val), 0] := by decide +kernel
theorem t1_trips : k0_t1_loop.trips = 2 := by decide +kernel

end Cert.SbFwdIdeal.Sf

end
-- ==== Proof.SbfVal.lean ====
module

public import proofs.«01_k».proof.Proof.SbfTile
public import proofs.«01_k».proof.Proof.Sb

@[expose] public section

set_option maxRecDepth 16384

noncomputable section

open Idealize.ShloMosaic Idealize.ShloMosaic.TcCoe
open scoped BigOperators

namespace Cert.SbFwdIdeal.Sf
open Cert.SbFwdIdeal Cert.SbFwdIdeal.Gen Cert.Scalars
open Cert.SbBwdIdeal.Sb (zr lfr lfs plr wr coe_ite rows_idx read_whole whole2 ofBits_eighth)
variable {F : FTy → Type} [FloatOps F]

/-! What one block of queries leaves in the outputs of the stick-breaking forward call. -/

/-- A trip over a masked tile. -/
theorem t1_trip (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (v5 : FVec F S512x128 .bf16) (v9 : IVec S512x512 32) (v12 : IVec S512x512 1) (v28 : IVec S512x512 32) (v132 : FVec F S1024x512 .bf16) (v133 : IVec S256x128 32) (v138 : BitVec 32) (X3 : BufTy.Contents (Elt F) arg3.view.ty) (X4 : BufTy.Contents (Elt F) arg4.view.ty) (n : Fin k0_t1_loop.trips) (a : Sums F) :
    (trip_k0_t1 (F := F) Variants.nat c none i arg2 harg2 arg3 harg3 arg4 harg4 arg5 harg5 arg6 harg6 arg7 harg7 arg8 harg8 v5 v9 v12 v28 v132 v133 64#32 v138 X3 X4 n).1 a
      = ftile (k0_pay17 v9 v28 v138 0#32 1#32 n) v5 (k0_pay1 v133 64#32) v12 v132 (arg3.view.readAt (Elt F) (Rect.unit (s := S8192x128) (k0_off1 i n) S256x128.size (k0_off1_inb i n)).toLoadRect X3) (arg4.view.readAt (Elt F) (Rect.unit (s := S8192x128) (k0_off1 i n) S256x128.size (k0_off1_inb i n)).toLoadRect X4) a := by
  unfold trip_k0_t1
  exact rfl

/-- A trip over a tile without a mask. -/
theorem wnext_eq (i : grid0.Coords) (arg3 : Memref sig .tc .vmem S8192x128 .bf16) (v135 : IVec S256x128 1) (arg4 : Memref sig .tc .vmem S8192x128 .bf16) (v5 : FVec F S512x128 .bf16) (v132 : FVec F S1024x512 .bf16) (v12 : IVec S512x512 1)
    (X3 : BufTy.Contents (Elt F) arg3.view.ty) (X4 : BufTy.Contents (Elt F) arg4.view.ty) (s : Car F) (h : k0_chk1 i s.1) (a : Sums F)
    (ha : a = ftile (fun _ => 1#1) v5 v135 v12 v132 (arg3.view.readAt (Elt F) (Rect.unit (s := S8192x128) (k0_off2 i s.1) S256x128.size (k0_off2_inb i s.1 h)).toLoadRect X3) (arg4.view.readAt (Elt F) (Rect.unit (s := S8192x128) (k0_off2 i s.1) S256x128.size (k0_off2_inb i s.1 h)).toLoadRect X4) (s.2.1, s.2.2.1, s.2.2.2.1)) :
    wnext i arg3 v135 arg4 v5 v132 v12 X3 X4 s h = (Scalar.addi s.1 1#32, a.1, a.2.1, a.2.2, Scalar.cmpf .ogt (k0_pay8 a.2.1 a.2.2) (Scalar.ofBits .f32 0xC2DC0000#32)) := by
  subst ha
  rfl

theorem row_le_max (x : FVec Ideal S512x1 .f32) (h) (hφ) (ha) (hc) (j : S1.Idx) (r : Fin 512) :
    (x (ix2 r (0 : Fin 1)) : EReal) ≤ multiReduction .maximumf [1, 2] S1 (shapeCast S1x512x1 x hc) 0xFF800000#32 h hφ ha j := by
  rw [multiReduction_maximumf_eq_fold]
  refine (Finset.le_fold_max _).mpr (Or.inr ⟨ix3 (0 : Fin 1) r (0 : Fin 1), ?_, ?_⟩)
  · rw [Finset.mem_filter]
    refine ⟨Finset.mem_univ _, ?_⟩
    funext a
    fin_cases a
    exact Subsingleton.elim (α := Fin 1) _ _
  · refine le_of_eq ?_
    pointwise []

/-- The largest of the two heads' sums exceeds the cutoff when one row's does. -/
theorem alive_of (sa sb : FVec Ideal S512x1 .f32) (r : Fin 512) (h : (Scalar.ofBits (F := Ideal) .f32 0xC2DC0000#32 : EReal) < sa (ix2 r (0 : Fin 1)) ∨ (Scalar.ofBits (F := Ideal) .f32 0xC2DC0000#32 : EReal) < sb (ix2 r (0 : Fin 1))) :
    Scalar.cmpf (F := Ideal) .ogt (k0_pay8 sa sb) (Scalar.ofBits .f32 0xC2DC0000#32) = 1#1 := by
  have ea : (sa (ix2 r (0 : Fin 1)) : EReal) ≤ k0_pay8 sa sb := le_trans (row_le_max sa reduces_S1x512x1_S1 (.inl rfl) rfl shapeCasts_S512x1_S1x512x1 _ r) (le_max_left _ _)
  have eb : (sb (ix2 r (0 : Fin 1)) : EReal) ≤ k0_pay8 sa sb := le_trans (row_le_max sb reduces_S1x512x1_S1 (.inl rfl) rfl shapeCasts_S512x1_S1x512x1 _ r) (le_max_right _ _)
  have h3 := h.elim (fun h => lt_of_lt_of_le h ea) fun h => lt_of_lt_of_le h eb
  show BitVec.ofBool (decide ((Scalar.ofBits (F := Ideal) .f32 0xC2DC0000#32 : EReal) < (k0_pay8 sa sb : EReal))) = 1#1
  rw [decide_eq_true h3]
  rfl

theorem lfs_nonpos (z : ℝ) : lfs z ≤ 0 := by
  unfold lfs
  have h1 : 0 ≤ max z 0 := le_max_right _ _
  have h2 : 0 ≤ Real.log (1 + Real.exp (-|z|)) := Real.log_nonneg (by have := Real.exp_pos (-|z|); linarith)
  linarith

theorem lfr_nonpos (q k : ℕ → ℕ → ℝ) (b R s : ℕ) : lfr q k b R s ≤ 0 := by
  unfold lfr
  split
  · exact lfs_nonpos _
  · exact le_refl _

/-- The sums over the keys from a place on are smaller the earlier the place. -/
theorem plr_anti (q k : ℕ → ℕ → ℝ) (b R : ℕ) : Antitone (plr q k b R) :=
  antitone_nat_of_succ_le fun n => by
    unfold plr
    rw [Finset.sum_range_succ]
    linarith [lfr_nonpos q k b R n]

/-- In the block of queries from `R0` on, some head has a query whose logarithms over the keys after the first tile sum to more than the cutoff. -/
def Goes (q k : ℕ → ℕ → ℝ) (tot : ℕ → ℕ → ℝ) (R0 : ℕ) : Prop :=
  ∃ b r, b < 2 ∧ r < 512 ∧ (Scalar.ofBits (F := Ideal) .f32 0xC2DC0000#32 : EReal) < ((tot b (R0 + r) - plr q k b (R0 + r) 256 : ℝ) : EReal)

/-- Such a block's loop goes on to the first tile. -/
theorem goes_on {q k v : ℕ → ℕ → ℝ} {tot : ℕ → ℕ → ℝ} {R0 S0 : ℕ} {a : Sums Ideal} (A : SumsAt q k v tot R0 S0 a) (hS : 256 ≤ S0) (h : Goes q k tot R0) :
    Scalar.cmpf (F := Ideal) .ogt (k0_pay8 a.2.1 a.2.2) (Scalar.ofBits .f32 0xC2DC0000#32) = 1#1 := by
  obtain ⟨b, r, hb, hr, h⟩ := h
  have hd := plr_anti q k b (R0 + r) hS
  have h2 : (Scalar.ofBits (F := Ideal) .f32 0xC2DC0000#32 : EReal) < ((tot b (R0 + r) - plr q k b (R0 + r) S0 : ℝ) : EReal) := lt_of_lt_of_le h (EReal.coe_le_coe_iff.mpr (by linarith))
  refine alive_of _ _ ⟨r, hr⟩ ?_
  rcases Nat.lt_succ_iff_lt_or_eq.mp hb with h0 | h1
  · obtain rfl : b = 0 := by omega
    exact Or.inl (lt_of_lt_of_eq h2 (A.p0 ⟨r, hr⟩).symm)
  · subst h1
    exact Or.inr (lt_of_lt_of_eq h2 (A.p1 ⟨r, hr⟩).symm)

/-- No key after the row counts. -/
theorem range_tail (f : ℕ → ℝ) (R N : ℕ) (hR : R ≤ N) (hN : N ≤ 8192) (h : ∀ s, ¬ s < R → f s = 0) : ∑ s ∈ Finset.range 8192, f s = ∑ s ∈ Finset.range N, f s :=
  (Finset.sum_subset (fun x hx => Finset.mem_range.mpr (lt_of_lt_of_le (Finset.mem_range.mp hx) hN)) fun x _ hx => h x fun hl => hx (Finset.mem_range.mpr (lt_of_lt_of_le hl hR))).symm

theorem plr_tail (q k : ℕ → ℕ → ℝ) (b R N : ℕ) (hR : R ≤ N) (hN : N ≤ 8192) : plr q k b R 8192 = plr q k b R N :=
  range_tail (lfr q k b R) R N hR hN fun s hs => if_neg hs

theorem avr_tail (q k v : ℕ → ℕ → ℝ) (tot : ℕ → ℕ → ℝ) (R N l : ℕ) (hR : R ≤ N) (hN : N ≤ 8192) : avr q k v tot 8192 R l = avr q k v tot N R l :=
  range_tail (fun s => wr q k tot (l / 64) R s * v s l) R N hR hN fun s hs => by rw [wr, if_neg hs, zero_mul]

/-- Nothing yet. -/
theorem init_sums (q k v : ℕ → ℕ → ℝ) (tot : ℕ → ℕ → ℝ) (R0 : ℕ) (hR : R0 + 512 ≤ 8192) (ht : ∀ b R, b < 2 → R < 8192 → tot b R = plr q k b R 8192) : SumsAt q k v tot R0 (R0 + 512) ((k0_pay3, k0_pay2, k0_pay2) : Sums Ideal) := by
  have z : ∀ r : Fin 512, (k0_pay2 (F := Ideal) (ix2 r (0 : Fin 1)) : EReal) = ((0 : ℝ) : EReal) := fun r => by
    pointwise [k0_pay2]
    exact EReal.coe_zero.symm
  refine ⟨fun r l => ?_, fun r => (z r).trans ?_, fun r => (z r).trans ?_⟩
  · rw [avr_tail q k v tot _ (R0 + 512) _ (by omega) (by omega), sub_self]
    show (k0_pay3 (F := Ideal) (ix2 r l) : EReal) = ((0 : ℝ) : EReal)
    pointwise [k0_pay3]
    exact EReal.coe_zero.symm
  · rw [ht 0 _ (by norm_num) (by omega), plr_tail q k 0 _ (R0 + 512) (by omega) (by omega), sub_self]
  · rw [ht 1 _ (by norm_num) (by omega), plr_tail q k 1 _ (R0 + 512) (by omega) (by omega), sub_self]

/-- The two masked tiles. -/
theorem t1_sums (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (v5 : FVec Ideal S512x128 .bf16) (v132 : FVec Ideal S1024x512 .bf16) (v133 : IVec S256x128 32) (X3 : BufTy.Contents (Elt Ideal) arg3.view.ty) (X4 : BufTy.Contents (Elt Ideal) arg4.view.ty) (hM : k0_pay1 v133 64#32 = Cert.SbBwdIdeal.Gen.k0_pay58) (q k v : ℕ → ℕ → ℝ) (tot : ℕ → ℕ → ℝ)
    (hq : ∀ (r : Fin 512) (l : Fin 128), v5 (ix2 r l) = ((q (512 * (i 1).val + r.val) l.val : ℝ) : EReal))
    (htri : ∀ (x : Fin 1024) (c : Fin 512), (v132 (ix2 x c) : EReal) = if x.val / 256 % 2 = c.val / 256 ∧ c.val % 256 < x.val % 256 then 1 else 0)
    (hk : ∀ (s : Fin 8192) (l : Fin 128), arg3.view.read (Elt Ideal) X3 (ix2 s l) = ((k s.val l.val : ℝ) : EReal))
    (hv : ∀ (s : Fin 8192) (l : Fin 128), arg4.view.read (Elt Ideal) X4 (ix2 s l) = ((v s.val l.val : ℝ) : EReal))
    (ht : ∀ b R, b < 2 → R < 8192 → tot b R = plr q k b R 8192) :
    ∀ n, n ≤ k0_t1_loop.trips → SumsAt q k v tot (512 * (i 1).val) (512 * (i 1).val + 256 * (2 - n)) (st_k0_t1 (F := Ideal) Variants.nat c none i arg2 harg2 arg3 harg3 arg4 harg4 arg5 harg5 arg6 harg6 arg7 harg7 arg8 harg8 v5 (k0_pay22 i) k0_pay23 k0_pay24 v132 v133 64#32 (Scalar.muli (BitVec.ofNat 32 (i 1).val) 2#32) X3 X4 (k0_pay3, k0_pay2, k0_pay2) n) := by
  have hi : (i 1).val < 16 := (i 1).isLt
  have h2 := t1_trips
  intro n
  induction n with
  | zero => exact fun _ => init_sums q k v tot _ (by omega) ht
  | succ n ih =>
    intro hn
    have J := ih (by omega)
    rw [show (st_k0_t1 (F := Ideal) Variants.nat c none i arg2 harg2 arg3 harg3 arg4 harg4 arg5 harg5 arg6 harg6 arg7 harg7 arg8 harg8 v5 (k0_pay22 i) k0_pay23 k0_pay24 v132 v133 64#32 (Scalar.muli (BitVec.ofNat 32 (i 1).val) 2#32) X3 X4 (k0_pay3, k0_pay2, k0_pay2) (n + 1)) = _ from st_k0_t1_succ (F := Ideal) Variants.nat c none i arg2 harg2 arg3 harg3 arg4 harg4 arg5 harg5 arg6 harg6 arg7 harg7 arg8 harg8 v5 (k0_pay22 i) k0_pay23 k0_pay24 v132 v133 64#32 (Scalar.muli (BitVec.ofNat 32 (i 1).val) 2#32) X3 X4 (k0_pay3, k0_pay2, k0_pay2) ⟨n, hn⟩]
    have e := t1_trip c i arg2 harg2 arg3 harg3 arg4 harg4 arg5 harg5 arg6 harg6 arg7 harg7 arg8 harg8 v5 (k0_pay22 i) k0_pay23 k0_pay24 v132 v133 (Scalar.muli (BitVec.ofNat 32 (i 1).val) 2#32) X3 X4 ⟨n, hn⟩ (st_k0_t1 (F := Ideal) Variants.nat c none i arg2 harg2 arg3 harg3 arg4 harg4 arg5 harg5 arg6 harg6 arg7 harg7 arg8 harg8 v5 (k0_pay22 i) k0_pay23 k0_pay24 v132 v133 64#32 (Scalar.muli (BitVec.ofNat 32 (i 1).val) 2#32) X3 X4 (k0_pay3, k0_pay2, k0_pay2) n)
    generalize (st_k0_t1 (F := Ideal) Variants.nat c none i arg2 harg2 arg3 harg3 arg4 harg4 arg5 harg5 arg6 harg6 arg7 harg7 arg8 harg8 v5 (k0_pay22 i) k0_pay23 k0_pay24 v132 v133 64#32 (Scalar.muli (BitVec.ofNat 32 (i 1).val) 2#32) X3 X4 (k0_pay3, k0_pay2, k0_pay2) n) = st at J e ⊢
    refine Eq.mpr (congrArg _ e) ?_
    rw [hM, show 2 - (n + 1) = 1 - n by omega]
    rw [show 512 * (i 1).val + 256 * (2 - n) = 512 * (i 1).val + 256 * (1 - n) + 256 by omega] at J
    exact tile_sums ⟨hq, htri, fun r c => mask_at i ⟨n, hn⟩ r c,
      fun e l => (congrArg (arg3.view.read (Elt Ideal) X3) (rows_idx _ _ _ (t1_off i ⟨n, hn⟩) e l (by dsimp only; omega))).trans (hk _ l),
      fun e l => (congrArg (arg4.view.read (Elt Ideal) X4) (rows_idx _ _ _ (t1_off i ⟨n, hn⟩) e l (by dsimp only; omega))).trans (hv _ l)⟩ J

theorem slt_goes (i : grid0.Coords) (s : Car F) (n : Fin 32) (hs : s.1 = BitVec.ofNat 32 n.val) (hn : n.val < 2 * (i 1).val) (ha : s.2.2.2.2 = 1#1) : goes i s := by
  unfold goes
  rw [hs, ha, (bound_of_slt i n).mpr hn]
  decide

/-- The tiles without a mask: none is left out. -/
theorem wrun_sums (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole)  (v5 : FVec Ideal S512x128 .bf16) (v132 : FVec Ideal S1024x512 .bf16) (X3 : BufTy.Contents (Elt Ideal) arg3.view.ty) (X4 : BufTy.Contents (Elt Ideal) arg4.view.ty) (q k v : ℕ → ℕ → ℝ) (tot : ℕ → ℕ → ℝ)
    (hq : ∀ (r : Fin 512) (l : Fin 128), v5 (ix2 r l) = ((q (512 * (i 1).val + r.val) l.val : ℝ) : EReal))
    (htri : ∀ (x : Fin 1024) (c : Fin 512), (v132 (ix2 x c) : EReal) = if x.val / 256 % 2 = c.val / 256 ∧ c.val % 256 < x.val % 256 then 1 else 0)
    (hk : ∀ (s : Fin 8192) (l : Fin 128), arg3.view.read (Elt Ideal) X3 (ix2 s l) = ((k s.val l.val : ℝ) : EReal))
    (hv : ∀ (s : Fin 8192) (l : Fin 128), arg4.view.read (Elt Ideal) X4 (ix2 s l) = ((v s.val l.val : ℝ) : EReal))
    (halive : Goes q k tot (512 * (i 1).val)) :
    ∀ (n : ℕ) (s : Car Ideal) (j : ℕ), s.1 = BitVec.ofNat 32 j → j + n = 2 * (i 1).val → SumsAt q k v tot (512 * (i 1).val) (256 * n) (s.2.1, s.2.2.1, s.2.2.2.1) → (n ≠ 0 → s.2.2.2.2 = 1#1) →
      SumsAt q k v tot (512 * (i 1).val) 0 ((wrun i arg3 Cert.SbBwdIdeal.Gen.k0_pay58 arg4 v5 v132 k0_pay23 X3 X4 n s).2.1, (wrun i arg3 Cert.SbBwdIdeal.Gen.k0_pay58 arg4 v5 v132 k0_pay23 X3 X4 n s).2.2.1, (wrun i arg3 Cert.SbBwdIdeal.Gen.k0_pay58 arg4 v5 v132 k0_pay23 X3 X4 n s).2.2.2.1) := by
  have hi : (i 1).val < 16 := (i 1).isLt
  intro n
  induction n with
  | zero => exact fun s j _ _ A _ => A
  | succ n ih =>
    intro s j hs hj A ha
    have hc : k0_chk1 i s.1 := by rw [hs]; exact chk_of_lt i ⟨j, by omega⟩ (by dsimp only; omega)
    have hoff : k0_off2 i s.1 = ![256 * n, 0] := by rw [hs, w_off i ⟨j, by omega⟩ (by dsimp only; omega)]; dsimp only; rw [show 2 * (i 1).val - 1 - j = n by omega]
    have B := tile_sums (S0 := 256 * n) (mask := fun _ => 1#1) (v5 := v5) (tri := v132)
      (kt := (arg3.view.readAt (Elt Ideal) (Rect.unit (s := S8192x128) (k0_off2 i s.1) S256x128.size (k0_off2_inb i s.1 hc)).toLoadRect X3)) (vt := (arg4.view.readAt (Elt Ideal) (Rect.unit (s := S8192x128) (k0_off2 i s.1) S256x128.size (k0_off2_inb i s.1 hc)).toLoadRect X4))
      ⟨hq, htri, fun r c => (if_pos (by omega)).symm,
      fun e l => (congrArg (arg3.view.read (Elt Ideal) X3) (rows_idx _ _ _ hoff e l (by omega))).trans (hk _ l),
      fun e l => (congrArg (arg4.view.read (Elt Ideal) X4) (rows_idx _ _ _ hoff e l (by omega))).trans (hv _ l)⟩ (by rw [show 256 * n + 256 = 256 * (n + 1) by omega]; exact A)
    rw [wrun, dif_pos ⟨slt_goes i s ⟨j, by omega⟩ hs (by dsimp only; omega) (ha n.succ_ne_zero), hc⟩, wnext_eq i arg3 Cert.SbBwdIdeal.Gen.k0_pay58 arg4 v5 v132 k0_pay23 X3 X4 s hc _ rfl]
    refine ih _ (j + 1) ?_ (by omega) B ?_
    · dsimp only
      rw [hs]
      exact (BitVec.ofNat_add ..).symm
    · exact fun hn => goes_on B (by omega) halive

end Cert.SbFwdIdeal.Sf

end
-- ==== Proof.SbfOut.lean ====
module

public import proofs.«01_k».proof.Proof.SbfVal

@[expose] public section

set_option maxRecDepth 16384

noncomputable section

open Idealize.ShloMosaic Idealize.ShloMosaic.TcCoe
open scoped BigOperators

namespace Cert.SbFwdIdeal.Sf
open Cert.SbFwdIdeal Cert.SbFwdIdeal.Gen Cert.Scalars
open Cert.SbBwdIdeal.Sb (zr lfr lfs plr wr coe_ite rows_idx whole2 whole3 ofBits_eighth)

/-! What one block of queries leaves in the outputs of the stick-breaking forward call. -/

/-- The running results after the masked tiles. -/
def mid (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (v5 : FVec Ideal S512x128 .bf16) (v132 : FVec Ideal S1024x512 .bf16) (v133 : IVec S256x128 32) (X3 : BufTy.Contents (Elt Ideal) arg3.view.ty) (X4 : BufTy.Contents (Elt Ideal) arg4.view.ty) : Sums Ideal := st_k0_t1 (F := Ideal) Variants.nat c none i arg2 harg2 arg3 harg3 arg4 harg4 arg5 harg5 arg6 harg6 arg7 harg7 arg8 harg8 v5 (k0_pay22 i) k0_pay23 k0_pay24 v132 v133 64#32 (Scalar.muli (BitVec.ofNat 32 (i 1).val) 2#32) X3 X4 (k0_pay3, k0_pay2, k0_pay2) 2

/-- The running results after every tile. -/
def fin (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (v5 : FVec Ideal S512x128 .bf16) (v132 : FVec Ideal S1024x512 .bf16) (v133 : IVec S256x128 32) (X3 : BufTy.Contents (Elt Ideal) arg3.view.ty) (X4 : BufTy.Contents (Elt Ideal) arg4.view.ty) : Car Ideal :=
  wrun i arg3 (k0_pay1 v133 64#32) arg4 v5 v132 k0_pay23 X3 X4 (2 * (i 1).val)
    (0#32, (mid c i arg2 harg2 arg3 harg3 arg4 harg4 arg5 harg5 arg6 harg6 arg7 harg7 arg8 harg8 v5 v132 v133 X3 X4).1, (mid c i arg2 harg2 arg3 harg3 arg4 harg4 arg5 harg5 arg6 harg6 arg7 harg7 arg8 harg8 v5 v132 v133 X3 X4).2.1, (mid c i arg2 harg2 arg3 harg3 arg4 harg4 arg5 harg5 arg6 harg6 arg7 harg7 arg8 harg8 v5 v132 v133 X3 X4).2.2, Scalar.cmpf .ogt (k0_pay8 (mid c i arg2 harg2 arg3 harg3 arg4 harg4 arg5 harg5 arg6 harg6 arg7 harg7 arg8 harg8 v5 v132 v133 X3 X4).2.1 (mid c i arg2 harg2 arg3 harg3 arg4 harg4 arg5 harg5 arg6 harg6 arg7 harg7 arg8 harg8 v5 v132 v133 X3 X4).2.2) (Scalar.ofBits .f32 0xC2DC0000#32))

theorem run_3 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (x0 : Vec Ideal S512x128 .bf16) (x1 x2 : Vec Ideal S8192x128 .bf16) :
    (bodyRun c i arg2 harg2 arg3 harg3 arg4 harg4 arg5 harg5 arg6 harg6 arg7 harg7 arg8 harg8 x0 x1 x2).1 = [⟨Rect.unit (s := S512x128) ![0, 0] S512x128.size inb_S512x128_S512x128_0_0, k0_pay9 (fin c i arg2 harg2 arg3 harg3 arg4 harg4 arg5 harg5 arg6 harg6 arg7 harg7 arg8 harg8 (bodyRun.sl.r c arg2 harg2 x0) bodyRun.sl.r_2 bodyRun.sl.v133 (harg3.unread x1) (harg4.unread x2)).2.1⟩] := by
  unfold bodyRun fin mid
  rfl
theorem run_4 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (x0 : Vec Ideal S512x128 .bf16) (x1 x2 : Vec Ideal S8192x128 .bf16) :
    (bodyRun c i arg2 harg2 arg3 harg3 arg4 harg4 arg5 harg5 arg6 harg6 arg7 harg7 arg8 harg8 x0 x1 x2).2.1 = [⟨Rect.unit (s := S1x512x1) ![0, 0, 0] S1x512x1.size inb_S1x512x1_S1x512x1_0_0_0, k0_pay10 (fin c i arg2 harg2 arg3 harg3 arg4 harg4 arg5 harg5 arg6 harg6 arg7 harg7 arg8 harg8 (bodyRun.sl.r c arg2 harg2 x0) bodyRun.sl.r_2 bodyRun.sl.v133 (harg3.unread x1) (harg4.unread x2)).2.2.1⟩] := by
  unfold bodyRun fin mid
  rfl
theorem run_5 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (x0 : Vec Ideal S512x128 .bf16) (x1 x2 : Vec Ideal S8192x128 .bf16) :
    (bodyRun c i arg2 harg2 arg3 harg3 arg4 harg4 arg5 harg5 arg6 harg6 arg7 harg7 arg8 harg8 x0 x1 x2).2.2.1 = [⟨Rect.unit (s := S1x512x1) ![0, 0, 0] S1x512x1.size inb_S1x512x1_S1x512x1_0_0_0, k0_pay11 (fin c i arg2 harg2 arg3 harg3 arg4 harg4 arg5 harg5 arg6 harg6 arg7 harg7 arg8 harg8 (bodyRun.sl.r c arg2 harg2 x0) bodyRun.sl.r_2 bodyRun.sl.v133 (harg3.unread x1) (harg4.unread x2)).2.2.2.1⟩] := by
  unfold bodyRun fin mid
  rfl

theorem r_q (c : Dev nD) (arg2 : Memref sig .tc .vmem S512x128 .bf16) (harg2 : arg2.IsWhole) (x0 : Vec Ideal S512x128 .bf16) (r : Fin 512) (l : Fin 128) : (bodyRun.sl.r c arg2 harg2 x0) (ix2 r l) = k0_pay21 x0 (ix2 r l) := by
  unfold bodyRun.sl.r
  refine congrFun (congrArg k0_pay21 (funext fun j => ?_)) _
  exact (congrFun (harg2.read_unread x0) _).trans (congrArg x0 (whole2 _ _))
theorem r_tri : bodyRun.sl.r_2 (F := Ideal) = (k0_pay31 (F := Ideal) (iota .tc S1024x512 32 [0] iota_S1024x512_d0_w32) (iota .tc S1024x512 32 [1] iota_S1024x512_d1_w32)
      (k0_pay27 (iota .tc S1024x512 32 [0] iota_S1024x512_d0_w32) 256#32 k0_pay25 k0_pay26 (Scalar.extui (Scalar.cmpi .sgt 256#32 0#32)) 0#32)
      (k0_pay28 (iota .tc S1024x512 32 [1] iota_S1024x512_d1_w32)) (k0_pay29 (iota .tc S1024x512 32 [1] iota_S1024x512_d1_w32)) (k0_pay30 (iota .tc S1024x512 32 [1] iota_S1024x512_d1_w32))) := rfl
theorem r_m : k0_pay1 bodyRun.sl.v133 64#32 = Cert.SbBwdIdeal.Gen.k0_pay58 := rfl

/-- The queries, scaled. -/
theorem q_at (x : Vec Ideal S512x128 .bf16) (qs : ℕ → ℕ → ℝ) (R0 : ℕ) (h : ∀ (r : Fin 512) (l : Fin 128), x (ix2 r l) = ((qs (R0 + r.val) l.val : ℝ) : EReal)) (r : Fin 512) (l : Fin 128) :
    k0_pay21 x (ix2 r l) = ((qs (R0 + r.val) l.val * (1 / 8) : ℝ) : EReal) := by
  pointwise [k0_pay21, h]
  exact (congrArg (_ * ·) ofBits_eighth).trans (EReal.coe_mul _ _).symm

theorem fin_sums (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (v5 : FVec Ideal S512x128 .bf16) (v132 : FVec Ideal S1024x512 .bf16) (v133 : IVec S256x128 32) (X3 : BufTy.Contents (Elt Ideal) arg3.view.ty) (X4 : BufTy.Contents (Elt Ideal) arg4.view.ty) (hM : k0_pay1 v133 64#32 = Cert.SbBwdIdeal.Gen.k0_pay58) (q k v : ℕ → ℕ → ℝ) (tot : ℕ → ℕ → ℝ)
    (hq : ∀ (r : Fin 512) (l : Fin 128), v5 (ix2 r l) = ((q (512 * (i 1).val + r.val) l.val : ℝ) : EReal))
    (htri : ∀ (x : Fin 1024) (c : Fin 512), (v132 (ix2 x c) : EReal) = if x.val / 256 % 2 = c.val / 256 ∧ c.val % 256 < x.val % 256 then 1 else 0)
    (hk : ∀ (s : Fin 8192) (l : Fin 128), arg3.view.read (Elt Ideal) X3 (ix2 s l) = ((k s.val l.val : ℝ) : EReal))
    (hv : ∀ (s : Fin 8192) (l : Fin 128), arg4.view.read (Elt Ideal) X4 (ix2 s l) = ((v s.val l.val : ℝ) : EReal))
    (ht : ∀ b R, b < 2 → R < 8192 → tot b R = plr q k b R 8192)
    (halive : Goes q k tot (512 * (i 1).val)) :
    SumsAt q k v tot (512 * (i 1).val) 0 ((fin c i arg2 harg2 arg3 harg3 arg4 harg4 arg5 harg5 arg6 harg6 arg7 harg7 arg8 harg8 v5 v132 v133 X3 X4).2.1, (fin c i arg2 harg2 arg3 harg3 arg4 harg4 arg5 harg5 arg6 harg6 arg7 harg7 arg8 harg8 v5 v132 v133 X3 X4).2.2.1, (fin c i arg2 harg2 arg3 harg3 arg4 harg4 arg5 harg5 arg6 harg6 arg7 harg7 arg8 harg8 v5 v132 v133 X3 X4).2.2.2.1) := by
  have hi : (i 1).val < 16 := (i 1).isLt
  have A : SumsAt q k v tot (512 * (i 1).val) (512 * (i 1).val + 256 * (2 - 2)) (mid c i arg2 harg2 arg3 harg3 arg4 harg4 arg5 harg5 arg6 harg6 arg7 harg7 arg8 harg8 v5 v132 v133 X3 X4) := t1_sums c i arg2 harg2 arg3 harg3 arg4 harg4 arg5 harg5 arg6 harg6 arg7 harg7 arg8 harg8 v5 v132 v133 X3 X4 hM q k v tot hq htri hk hv ht 2 (by rw [t1_trips])
  unfold fin
  generalize mid c i arg2 harg2 arg3 harg3 arg4 harg4 arg5 harg5 arg6 harg6 arg7 harg7 arg8 harg8 v5 v132 v133 X3 X4 = a at A
  rw [hM]
  refine wrun_sums i arg2 harg2 arg3 harg3 arg4 harg4 v5 v132 X3 X4 q k v tot hq htri hk hv halive (2 * (i 1).val) _ 0 rfl (by omega) ?_ ?_
  · rw [show 256 * (2 * (i 1).val) = 512 * (i 1).val + 256 * (2 - 2) by omega]
    exact A
  · exact fun hn => goes_on A (by omega) halive

theorem o_at (x : FVec Ideal S512x128 .f32) (r : Fin 512) (l : Fin 128) : (k0_pay9 x (ix2 r l) : EReal) = x (ix2 r l) := by
  pointwise [k0_pay9]
theorem ta_at (x : FVec Ideal S512x1 .f32) (r : Fin 512) : (k0_pay10 x (ix3 (0 : Fin 1) r (0 : Fin 1)) : EReal) = x (ix2 r (0 : Fin 1)) := by
  pointwise [k0_pay10]
theorem tb_at (x : FVec Ideal S512x1 .f32) (r : Fin 512) : (k0_pay11 x (ix3 (0 : Fin 1) r (0 : Fin 1)) : EReal) = x (ix2 r (0 : Fin 1)) := by
  pointwise [k0_pay11]

theorem outs (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S1x512x1 .f32) (harg6 : arg6.IsWhole) (arg7 : Memref sig .tc .vmem S1x512x1 .f32) (harg7 : arg7.IsWhole) (arg8 : Memref sig .tc .smem S4x16 .i32) (harg8 : arg8.IsWhole) (x0 : Vec Ideal S512x128 .bf16) (x1 x2 : Vec Ideal S8192x128 .bf16) (qs k v : ℕ → ℕ → ℝ) (tot : ℕ → ℕ → ℝ)
    (h0 : ∀ (r : Fin 512) (l : Fin 128), x0 (ix2 r l) = ((qs (512 * (i 1).val + r.val) l.val : ℝ) : EReal))
    (h1 : ∀ (s : Fin 8192) (l : Fin 128), x1 (ix2 s l) = ((k s.val l.val : ℝ) : EReal))
    (h2 : ∀ (s : Fin 8192) (l : Fin 128), x2 (ix2 s l) = ((v s.val l.val : ℝ) : EReal))
    (ht : ∀ b R, b < 2 → R < 8192 → tot b R = plr (fun R l => qs R l * (1 / 8)) k b R 8192)
    (halive : Goes (fun R l => qs R l * (1 / 8)) k tot (512 * (i 1).val)) :
    (∀ (r : Fin 512) (l : Fin 128), (out_3 c i arg2 harg2 arg3 harg3 arg4 harg4 arg5 harg5 arg6 harg6 arg7 harg7 arg8 harg8 x0 x1 x2 (ix2 r l) : EReal) = ((avr (fun R l => qs R l * (1 / 8)) k v tot 8192 (512 * (i 1).val + r.val) l.val : ℝ) : EReal))
    ∧ (∀ (r : Fin 512), (out_4 c i arg2 harg2 arg3 harg3 arg4 harg4 arg5 harg5 arg6 harg6 arg7 harg7 arg8 harg8 x0 x1 x2 (ix3 (0 : Fin 1) r (0 : Fin 1)) : EReal) = ((tot 0 (512 * (i 1).val + r.val) : ℝ) : EReal))
    ∧ (∀ (r : Fin 512), (out_5 c i arg2 harg2 arg3 harg3 arg4 harg4 arg5 harg5 arg6 harg6 arg7 harg7 arg8 harg8 x0 x1 x2 (ix3 (0 : Fin 1) r (0 : Fin 1)) : EReal) = ((tot 1 (512 * (i 1).val + r.val) : ℝ) : EReal)) := by
  have P := fin_sums c i arg2 harg2 arg3 harg3 arg4 harg4 arg5 harg5 arg6 harg6 arg7 harg7 arg8 harg8 (bodyRun.sl.r c arg2 harg2 x0) bodyRun.sl.r_2 bodyRun.sl.v133 (harg3.unread x1) (harg4.unread x2) r_m (fun R l => qs R l * (1 / 8)) k v tot
    (fun r l => (r_q c arg2 harg2 x0 r l).trans (q_at x0 qs (512 * (i 1).val) h0 r l)) (by rw [r_tri]; exact later_at)
    (fun s l => (congrFun (harg3.read_unread x1) _).trans (h1 s l)) (fun s l => (congrFun (harg4.read_unread x2) _).trans (h2 s l)) ht halive
  generalize hf : fin c i arg2 harg2 arg3 harg3 arg4 harg4 arg5 harg5 arg6 harg6 arg7 harg7 arg8 harg8 (bodyRun.sl.r c arg2 harg2 x0) bodyRun.sl.r_2 bodyRun.sl.v133 (harg3.unread x1) (harg4.unread x2) = f at P
  refine ⟨fun r l => ?_, fun r => ?_, fun r => ?_⟩
  · unfold out_3
    rw [run_3, hf]
    refine (View.read_writes_cons_rows_of_mem VO0_3 VO0_3.junk _ _ [] (ix2 r l) (ix2 r l) rfl (Nat.zero_add _).symm rfl).trans ((o_at _ r l).trans ((P.o r l).trans ?_))
    rw [show avr (fun R l => qs R l * (1 / 8)) k v tot 0 (512 * (i 1).val + r.val) l.val = 0 from rfl, sub_zero]
  · unfold out_4
    rw [run_4, hf]
    refine (View.read_writes_cons_unit_of_mem VO0_4 VO0_4.junk _ _ [] (ix3 (0 : Fin 1) r (0 : Fin 1)) (ix3 (0 : Fin 1) r (0 : Fin 1)) rfl (fun a => by fin_cases a <;> exact (Nat.zero_add _).symm)).trans ((ta_at _ r).trans ((P.p0 r).trans ?_))
    rw [show plr (fun R l => qs R l * (1 / 8)) k 0 (512 * (i 1).val + r.val) 0 = 0 from rfl, sub_zero]
  · unfold out_5
    rw [run_5, hf]
    refine (View.read_writes_cons_unit_of_mem VO0_5 VO0_5.junk _ _ [] (ix3 (0 : Fin 1) r (0 : Fin 1)) (ix3 (0 : Fin 1) r (0 : Fin 1)) rfl (fun a => by fin_cases a <;> exact (Nat.zero_add _).symm)).trans ((tb_at _ r).trans ((P.p1 r).trans ?_))
    rw [show plr (fun R l => qs R l * (1 / 8)) k 1 (512 * (i 1).val + r.val) 0 = 0 from rfl, sub_zero]

end Cert.SbFwdIdeal.Sf

end
-- ==== Proof.SbfRef.lean ====
module

public import proofs.«01_k».proof.Proof.SbfVal
public import proofs.«01_k».proof.Proof.Gen.SbFwdRefIdeal.Read

@[expose] public section

set_option maxRecDepth 16384

noncomputable section

open Idealize.ShloMosaic Idealize.ShloMosaic.TcCoe
open Idealize.SL Idealize.SL.Sem
open scoped BigOperators

/-! The forward attention as the reference computes it, and what its precondition says, on real numbers. -/

namespace Cert.SbFwdRefIdeal.Sb
open Cert.SbFwdRefIdeal Cert.SbFwdRefIdeal.Gen Cert.SbFwdRefIdeal.Read Cert.Scalars
open Cert.SbBwdIdeal.Sb (Q K W T plr wr esum)
open Cert.SbFwdIdeal.Sf (avr Goes)

variable (f : ℕ → ℕ → ℝ) {x0 : (⟨S8192x1536, .f32⟩ : BufTy).Contents (Elt Ideal)}

/-- Both references take the same logarithms, the same weights and the same values of the arrays. -/
theorem same_l : val_main_v18 (F := Ideal) x0 = Cert.SbBwdRefIdeal.Read.val_main_v18_0 (F := Ideal) x0 := rfl
theorem same_w : val_main_v24 (F := Ideal) x0 = Cert.SbBwdRefIdeal.Read.val_main_v24_0 (F := Ideal) x0 := rfl
theorem same_v : val_main_v5 (F := Ideal) x0 = Cert.SbBwdRefIdeal.Read.val_main_v5 (F := Ideal) x0 := rfl
theorem same_s : val_main_v29 (F := Ideal) x0 = Cert.SbBwdIdeal.Sb.rowsum x0 := rfl

variable (hx : ∀ j : S8192x1536.Idx, (x0 j : EReal) = ((f (j 0).val (j 1).val : ℝ) : EReal))
include hx

theorem out_at (i : S8192x512.Idx) (p l : ℕ) (hl : l < 128) (hc : (i 1).val = 128 * p + l) :
    (val_main_v28 (F := Ideal) x0 i : EReal) = ((avr (Q f p) (K f p) (W f p) (T f p) 8192 (i 0).val l : ℝ) : EReal) := by
  have h0 : (i 0).val < 8192 := (i 0).isLt; have h1 : (i 1).val < 512 := (i 1).isLt
  have e : (val_main_v28 (F := Ideal) x0 i : EReal) = val_main_v27 (F := Ideal) x0 i := by
    rw [val_main_v28_apply]; rfl
  refine e.trans ?_
  rw [val_main_v27_apply, val_main_v26_apply]
  unfold avr
  refine (val_main_v25_apply x0 _).trans (esum _ fun s => ?_)
  rw [same_w, same_v]
  refine (congrArg₂ (· * ·) (Cert.SbBwdRefIdeal.Sb.v5_at f hx _) (Cert.SbBwdRefIdeal.Sb.w_at f hx _)).trans ?_
  rw [← EReal.coe_mul]
  show ((f s.val (1024 + (64 * (((i 0).val * 512 + (i 1).val) / 64 % 8) + ((i 0).val * 512 + (i 1).val) % 64)) * Cert.SbBwdRefIdeal.Sb.rw' f (((i 0).val * 512 + (i 1).val) / 64 % 8) (((i 0).val * 512 + (i 1).val) / 512) s.val : ℝ) : EReal) = _
  rw [show ((i 0).val * 512 + (i 1).val) / 512 = (i 0).val by omega, show 1024 + (64 * (((i 0).val * 512 + (i 1).val) / 64 % 8) + ((i 0).val * 512 + (i 1).val) % 64) = 1024 + 128 * p + l by omega]
  unfold Cert.SbBwdRefIdeal.Sb.rw'
  rw [show ((i 0).val * 512 + (i 1).val) / 64 % 8 / 2 = p by omega, show ((i 0).val * 512 + (i 1).val) / 64 % 8 % 2 = l / 64 by omega, mul_comm]
  rfl

theorem sum_at (i : S8x8192.Idx) (p b R : ℕ) (hb : b < 2) (h0 : (i 0).val = 2 * p + b) (h1 : (i 1).val = R) : (val_main_v29 (F := Ideal) x0 i : EReal) = ((T f p b R : ℝ) : EReal) := by
  rw [same_s, eq_ix2 i]
  refine (Cert.SbBwdIdeal.Sb.rowsum_at f hx (i 0) (i 1)).trans ?_
  rw [show (i 0).val / 2 = p by omega, show (i 0).val % 2 = b by omega, h1]

theorem ta_at (i : S4x8192x1.Idx) : (val_main_v32 (F := Ideal) x0 i : EReal) = ((T f (i 0).val 0 (i 1).val : ℝ) : EReal) := by
  have h0 : (i 0).val < 4 := (i 0).isLt; have h1 : (i 1).val < 8192 := (i 1).isLt; have h2 : (i 2).val < 1 := (i 2).isLt
  rw [val_main_v32_apply, val_main_v31_apply, val_main_v30_apply]
  refine sum_at f hx _ (i 0).val 0 (i 1).val (by omega) ?_ ?_
  · show ((((((i 0).val * 8192 + (i 1).val) * 1 + (i 2).val) / 8192 * 2 + 0) * 8192 + (((i 0).val * 8192 + (i 1).val) * 1 + (i 2).val) / 1 % 8192) * 1 + 0) / 8192 = _
    omega
  · show ((((((i 0).val * 8192 + (i 1).val) * 1 + (i 2).val) / 8192 * 2 + 0) * 8192 + (((i 0).val * 8192 + (i 1).val) * 1 + (i 2).val) / 1 % 8192) * 1 + 0) % 8192 = _
    omega

theorem tb_at (i : S4x8192x1.Idx) : (val_main_v34 (F := Ideal) x0 i : EReal) = ((T f (i 0).val 1 (i 1).val : ℝ) : EReal) := by
  have h0 : (i 0).val < 4 := (i 0).isLt; have h1 : (i 1).val < 8192 := (i 1).isLt; have h2 : (i 2).val < 1 := (i 2).isLt
  rw [val_main_v34_apply, val_main_v33_apply, val_main_v30_apply]
  refine sum_at f hx _ (i 0).val 1 (i 1).val (by omega) ?_ ?_
  · show ((((((i 0).val * 8192 + (i 1).val) * 1 + (i 2).val) / 8192 * 2 + (1 + 0)) * 8192 + (((i 0).val * 8192 + (i 1).val) * 1 + (i 2).val) / 1 % 8192) * 1 + 0) / 8192 = _
    omega
  · show ((((((i 0).val * 8192 + (i 1).val) * 1 + (i 2).val) / 8192 * 2 + (1 + 0)) * 8192 + (((i 0).val * 8192 + (i 1).val) * 1 + (i 2).val) / 1 % 8192) * 1 + 0) % 8192 = _
    omega

omit hx in
/-- The comparison that comes out true. -/
theorem gt_of_cmp {a b : EReal} (h : Ideal.cmp .ogt a b = 1#1) : b < a := by
  by_contra hn
  simp [Ideal.cmp, hn] at h

/-- The sums of the logarithms over the keys after the first tile, as the precondition takes them. -/
def seen [Cert.Pre_sb_alive.Facts] (x : (⟨S8192x1536, .f32⟩ : BufTy).Contents (Elt Ideal)) : FVec Ideal S8x8192 .f32 :=
  Host.reduceAdd (extractStridedSlice Cert.Pre_sb_alive.S8x8192x7936 ![0, 0, 256] (val_main_v18 (F := Ideal) x) Cert.Pre_sb_alive.Facts.slices_S8x8192x8192_S8x8192x7936_0_0_256)
    (constant S_ .f32 0x00000000#32) Cert.Pre_sb_alive.Facts.reducesTo_S8x8192x7936_S8x8192_d2 Cert.Pre_sb_alive.Facts.h_S_

omit hx in
/-- A longer sum less a shorter one is the sum of the rest. -/
theorem plr_rest (q k : ℕ → ℕ → ℝ) (b R n l N : ℕ) (h : N = n + l) :
    ∑ s ∈ Finset.range l, Cert.SbBwdIdeal.Sb.lfr q k b R (n + s) = plr q k b R N - plr q k b R n := by
  subst h
  unfold plr
  rw [Finset.sum_range_add, add_sub_cancel_left]

theorem seen_at [Cert.Pre_sb_alive.Facts] (h : Fin 8) (R : Fin 8192) :
    (seen x0 (ix2 h R) : EReal) = ((Cert.SbBwdIdeal.Sb.T f (h.val / 2) (h.val % 2) R.val - plr (Q f (h.val / 2)) (K f (h.val / 2)) (h.val % 2) R.val 256 : ℝ) : EReal) := by
  have e : (seen x0 (ix2 h R) : EReal) = ∑ s : Fin 7936, (val_main_v18 (F := Ideal) x0 (ix3 h R (⟨256 + s.val, by omega⟩ : Fin 8192)) : EReal) := by
    pointwise [seen]
  rw [e]
  refine (esum (fun s => Cert.SbBwdRefIdeal.Sb.rl f h.val R.val (256 + s)) fun s => ?_).trans ?_
  · rw [same_l]
    exact Cert.SbBwdRefIdeal.Sb.l_at f hx (ix3 h R (⟨256 + s.val, by omega⟩ : Fin 8192))
  · exact congrArg _ (plr_rest _ _ _ _ 256 7936 8192 (by omega))

omit hx in
theorem gt_at {S : Shape} {a b : FVec Ideal S .f32} {i : S.Idx} (h : cmpf .ogt a b i = 1#1) : (b i : EReal) < a i := gt_of_cmp h

/-- The largest of them in each block of queries of each pair of heads. -/
def best [Cert.Pre_sb_alive.Facts] (x : (⟨S8192x1536, .f32⟩ : BufTy).Contents (Elt Ideal)) : FVec Ideal Cert.Pre_sb_alive.S4x16 .f32 :=
  Host.reduce FloatOps.maximumf (shapeCast Cert.Pre_sb_alive.S4x2x16x512 (seen x) Cert.Pre_sb_alive.Facts.shapeCasts_S8x8192_S4x2x16x512) (constant S_ .f32 0xFF800000#32)
    Cert.Pre_sb_alive.Facts.reducesTo_S4x2x16x512_S4x16_d1_3 Cert.Pre_sb_alive.Facts.h_S_

omit hx in
theorem pre_best [Cert.Pre_sb_alive.Facts] : (Cert.Pre_sb_alive.fn (F := Ideal) x0).2
    = cmpf .ogt (best x0) (broadcastInDim Cert.Pre_sb_alive.S4x16 ![] Cert.Pre_sb_alive.Facts.bcast_S_S4x16 (constant S_ .f32 0xC2DC0000#32)) := rfl

/-- Where the precondition holds, every block of queries of every pair goes on to the first tile. -/
theorem alive [Cert.Pre_sb_alive.Facts] (h : (Cert.Pre_sb_alive.fn (F := Ideal) x0).2 = (fun _ => 1#1)) (p i : ℕ) (hp : p < 4) (hi : i < 16) :
    Goes (Q f p) (K f p) (Cert.SbBwdIdeal.Sb.T f p) (512 * i) := by
  have hb := congrFun (pre_best.symm.trans h) (ix2 (⟨p, hp⟩ : Fin 4) (⟨i, hi⟩ : Fin 16))
  have h1 : (Scalar.ofBits (F := Ideal) .f32 0xC2DC0000#32 : EReal) < (best x0 (ix2 (⟨p, hp⟩ : Fin 4) (⟨i, hi⟩ : Fin 16)) : EReal) :=
    gt_at hb
  unfold best at h1
  rw [Host.reduce_eq_fold] at h1
  rcases (Finset.lt_fold_max (β := EReal) _).mp h1 with h2 | ⟨y, hy, h2⟩
  · exact absurd (lt_of_lt_of_eq h2 (show Ideal.ofBits .f32 0xFF800000#32 = ⊥ by simp [Ideal.ofBits, Ideal.ieee])) not_lt_bot
  · have hd := (Finset.mem_filter.mp hy).2
    have y0 : (y 0).val = p := by
      have := congrArg Fin.val (congrFun hd 0)
      exact this
    have y2 : (y 2).val = i := by
      have := congrArg Fin.val (congrFun hd 1)
      exact this
    have y1 : (y 1).val < 2 := (y 1).isLt
    have y3 : (y 3).val < 512 := (y 3).isLt
    have e : shapeCast Cert.Pre_sb_alive.S4x2x16x512 (seen x0) Cert.Pre_sb_alive.Facts.shapeCasts_S8x8192_S4x2x16x512 y
        = seen x0 (ix2 (⟨2 * p + (y 1).val, by omega⟩ : Fin 8) (⟨512 * i + (y 3).val, by omega⟩ : Fin 8192)) := by
      refine shapeCast_apply _ _ _ _ ?_
      rw [Shape.rowMajor_val_two, Shape.rowMajor_val_four]
      show (2 * p + (y 1).val) * 8192 + (512 * i + (y 3).val) = (((y 0).val * 2 + (y 1).val) * 16 + (y 2).val) * 512 + (y 3).val
      omega
    refine ⟨(y 1).val, (y 3).val, y1, y3, lt_of_lt_of_eq h2 ?_⟩
    refine (congrArg (fun a : Ideal .f32 => (a : EReal)) e).trans ((seen_at f hx _ _).trans ?_)
    rw [show (2 * p + (y 1).val) / 2 = p by omega, show (2 * p + (y 1).val) % 2 = (y 1).val by omega]

end Cert.SbFwdRefIdeal.Sb

end
-- ==== Proof.Sbf.lean ====
module

public import proofs.«01_k».proof.Proof.SbfOut
public import proofs.«01_k».proof.Proof.SbfRef
public import proofs.«01_k».proof.Proof.FrameSbFwd
public import proofs.«01_k».proof.Proof.Gen.SbFwdRefIdeal.Run

@[expose] public section

set_option maxRecDepth 16384

noncomputable section

open Idealize.ShloMosaic Idealize.ShloMosaic.TcCoe
open Idealize.SL Idealize.SL.Sem
open scoped BigOperators

/-! The forward attention equals the plain attention: its windows and its run. -/

namespace Cert.SbFwdIdeal.Sf
open Cert.SbFwdIdeal Cert.SbFwdIdeal.Gen Cert.Scalars
open Cert.SbBwdIdeal.Sb (Q K W T plr)
open Cert.SbFwdRefIdeal.Read (val_main_v28 val_main_v32 val_main_v34)

theorem idx_val : ∀ t : Fin (cfg0 (F := Ideal)).N, win0_0.index t = ![t.val % 16, t.val / 16] ∧ win0_1.index t = ![0, 4 + t.val / 16] ∧ win0_2.index t = ![0, 8 + t.val / 16]
    ∧ win0_3.index t = ![t.val % 16, t.val / 16] ∧ win0_4.index t = ![t.val / 16, t.val % 16, 0] ∧ win0_5.index t = ![t.val / 16, t.val % 16, 0] :=
  (by decide +kernel : ∀ t : Fin grid0.N, _)

theorem coord_one : ∀ t : Fin (cfg0 (F := Ideal)).N, (grid0.coords t 1).val = t.val % 16 :=
  (by decide +kernel : ∀ t : Fin grid0.N, _)

theorem points (t : Fin (cfg0 (F := Ideal)).N) : t.val < 64 := t.isLt

theorem row_idx (y : S1x512x1.Idx) : y = ix3 (0 : Fin 1) (y 1) (0 : Fin 1) := by
  funext a
  match a with
  | ⟨0, _⟩ => exact Subsingleton.elim (α := Fin 1) _ _
  | ⟨1, _⟩ => rfl
  | ⟨2, _⟩ => exact Subsingleton.elim (α := Fin 1) _ _

variable (m : (ℓ : Loc nD τ sig) → Buf (Elt Ideal) ℓ) (f : ℕ → ℕ → ℝ) (c : Dev nD)

theorem V_qkv (y : S8192x1536.Idx) : (V m c main_v0 y : EReal) = m ((c : Thread nD τ).loc main_arg0) y := rfl

variable (hx : ∀ j : S8192x1536.Idx, (m ((c : Thread nD τ).loc main_arg0) j : EReal) = ((f (j 0).val (j 1).val : ℝ) : EReal))
    (ha : ∀ p i, p < 4 → i < 16 → Goes (Q f p) (K f p) (T f p) (512 * i)) (t : Fin (cfg0 (F := Ideal)).N)

include hx in
theorem b0 (r : Fin 512) (l : Fin 128) : ((iblk m c 0 t) (ix2 r l) : EReal) = ((f (512 * (grid0.coords t 1).val + r.val) (128 * (t.val / 16) + l.val) : ℝ) : EReal) := by
  refine (V_qkv m c ((((cfg0 (F := Ideal)).win 0).blk t).view.emb (ix2 r l))).trans ((hx _).trans (Cert.SbBwdRefIdeal.Sb.coe2 f ?_ ?_))
  · rw [coord_one]; blk_simp [idx_val t]; try omega
  · blk_simp [idx_val t]; try omega

include hx in
theorem b1 (s : Fin 8192) (l : Fin 128) : ((iblk m c 1 t) (ix2 s l) : EReal) = ((K f (t.val / 16) s.val l.val : ℝ) : EReal) := by
  refine (V_qkv m c ((((cfg0 (F := Ideal)).win 1).blk t).view.emb (ix2 s l))).trans ((hx _).trans (Cert.SbBwdRefIdeal.Sb.coe2 f ?_ ?_))
  · blk_simp [idx_val t]; try omega
  · blk_simp [idx_val t]; try omega

include hx in
theorem b2 (s : Fin 8192) (l : Fin 128) : ((iblk m c 2 t) (ix2 s l) : EReal) = ((W f (t.val / 16) s.val l.val : ℝ) : EReal) := by
  refine (V_qkv m c ((((cfg0 (F := Ideal)).win 2).blk t).view.emb (ix2 s l))).trans ((hx _).trans (Cert.SbBwdRefIdeal.Sb.coe2 f ?_ ?_))
  · blk_simp [idx_val t]; try omega
  · blk_simp [idx_val t]; try omega

include hx ha in
/-- What one block leaves, from the arrays. -/
theorem left_at :
    (∀ (r : Fin 512) (l : Fin 128), (out_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (ix2 r l) : EReal) = ((avr (Q f (t.val / 16)) (K f (t.val / 16)) (W f (t.val / 16)) (T f (t.val / 16)) 8192 (512 * (grid0.coords t 1).val + r.val) l.val : ℝ) : EReal))
    ∧ (∀ r : Fin 512, (out_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (ix3 (0 : Fin 1) r (0 : Fin 1)) : EReal) = ((T f (t.val / 16) 0 (512 * (grid0.coords t 1).val + r.val) : ℝ) : EReal))
    ∧ (∀ r : Fin 512, (out_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (ix3 (0 : Fin 1) r (0 : Fin 1)) : EReal) = ((T f (t.val / 16) 1 (512 * (grid0.coords t 1).val + r.val) : ℝ) : EReal)) :=
  outs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)
    (fun R l => f R (128 * (t.val / 16) + l)) (K f (t.val / 16)) (W f (t.val / 16)) (T f (t.val / 16)) (b0 m f c hx t) (b1 m f c hx t) (b2 m f c hx t)
    (fun _ _ _ _ => rfl) (ha _ _ (by have := points t; omega) (grid0.coords t 1).isLt)

include hx ha in
theorem final3 : (dats m 0 c).arrAt 3 (cfg0 (F := Ideal)).N = val_main_v28 (F := Ideal) (m ((c : Thread nD τ).loc main_arg0)) := by
  refine (dats m 0 c).arrAt_eq_of_covers 3 _ (by decide +kernel) fun t _ y => ?_
  blk_simp
  rw [after_3]
  have hN := points t
  have e0 : (((((cfg0 (F := Ideal)).win 3).blk t).view.emb y) 0).val = 512 * (t.val % 16) + (y 0).val := by blk_simp [idx_val t]; try omega
  have e1 : (((((cfg0 (F := Ideal)).win 3).blk t).view.emb y) 1).val = 128 * (t.val / 16) + (y 1).val := by blk_simp [idx_val t]; try omega
  have key := (left_at m f c hx ha t).1 (y 0) (y 1)
  rw [← eq_ix2 y] at key
  refine key.trans (Eq.trans ?_ (Cert.SbFwdRefIdeal.Sb.out_at f hx ((((cfg0 (F := Ideal)).win 3).blk t).view.emb y) (t.val / 16) (y 1).val (y 1).isLt e1).symm)
  rw [coord_one, e0]

include hx ha in
theorem final4 : (dats m 0 c).arrAt 4 (cfg0 (F := Ideal)).N = val_main_v32 (F := Ideal) (m ((c : Thread nD τ).loc main_arg0)) := by
  refine (dats m 0 c).arrAt_eq_of_covers 4 _ (by decide +kernel) fun t _ y => ?_
  blk_simp
  rw [after_4]
  have y0 : (y 0).val < 1 := (y 0).isLt
  have y2 : (y 2).val < 1 := (y 2).isLt
  have e0 : (((((cfg0 (F := Ideal)).win 4).blk t).view.emb y) 0).val = t.val / 16 := by blk_simp [idx_val t]; try omega
  have e1 : (((((cfg0 (F := Ideal)).win 4).blk t).view.emb y) 1).val = 512 * (t.val % 16) + (y 1).val := by blk_simp [idx_val t]; try omega
  have key := (left_at m f c hx ha t).2.1 (y 1)
  refine (congrArg (out_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)) (row_idx y)).trans (key.trans (Eq.trans ?_ (Cert.SbFwdRefIdeal.Sb.ta_at f hx ((((cfg0 (F := Ideal)).win 4).blk t).view.emb y)).symm))
  rw [coord_one, e0, e1]

include hx ha in
theorem final5 : (dats m 0 c).arrAt 5 (cfg0 (F := Ideal)).N = val_main_v34 (F := Ideal) (m ((c : Thread nD τ).loc main_arg0)) := by
  refine (dats m 0 c).arrAt_eq_of_covers 5 _ (by decide +kernel) fun t _ y => ?_
  blk_simp
  rw [after_5]
  have y0 : (y 0).val < 1 := (y 0).isLt
  have y2 : (y 2).val < 1 := (y 2).isLt
  have e0 : (((((cfg0 (F := Ideal)).win 5).blk t).view.emb y) 0).val = t.val / 16 := by blk_simp [idx_val t]; try omega
  have e1 : (((((cfg0 (F := Ideal)).win 5).blk t).view.emb y) 1).val = 512 * (t.val % 16) + (y 1).val := by blk_simp [idx_val t]; try omega
  have key := (left_at m f c hx ha t).2.2 (y 1)
  refine (congrArg (out_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)) (row_idx y)).trans (key.trans (Eq.trans ?_ (Cert.SbFwdRefIdeal.Sb.tb_at f hx ((((cfg0 (F := Ideal)).win 5).blk t).view.emb y)).symm))
  rw [coord_one, e0, e1]

end Cert.SbFwdIdeal.Sf

namespace Cert.SbFwdIdeal.Value
open Cert.SbFwdIdeal Cert.SbFwdIdeal.Gen Cert.SbFwdIdeal.Sf Cert.Scalars
open Cert.SbFwdRefIdeal.Read (val_main_v28 val_main_v32 val_main_v34)

/-- The kernel's run with its results named by the reference's terms. -/
theorem run [Cert.Pre_sb_alive.Facts] (m : (ℓ : Loc nD τ sig) → Buf (Elt Ideal) ℓ) (hp : Cert.Pre_SbFwdIdeal_sb_alive m) (ρ : Dev nD → PrngReg) :
    θ_run defs (onTc (τ := τ) (main (F := Ideal))) ⟨m, fun _ => 0, ρ⟩ fun r => ∀ c : Dev nD,
      r.2.mem ((c : Thread nD τ).loc main_v1_0) = val_main_v28 (F := Ideal) (m ((c : Thread nD τ).loc main_arg0))
      ∧ r.2.mem ((c : Thread nD τ).loc main_v1_1) = val_main_v32 (F := Ideal) (m ((c : Thread nD τ).loc main_arg0))
      ∧ r.2.mem ((c : Thread nD τ).loc main_v1_2) = val_main_v34 (F := Ideal) (m ((c : Thread nD τ).loc main_arg0))
      ∧ r.2.mem ((c : Thread nD τ).loc main_arg0) = m ((c : Thread nD τ).loc main_arg0) :=
  (θ_run defs _ _).mono (fun r h c => by
    obtain ⟨f, hx⟩ := Cert.SbBwdIdeal.Value.reals (fun j => fin_of_cmp (congrFun (hp c).1 j))
    have ha := Cert.SbFwdRefIdeal.Sb.alive f hx (hp c).2
    exact ⟨((Pipeline.Dat.toRForget_arrAt_iff (dats m 0 c) (fgt := fgt) (w := 3) rfl _ _).mp ((h.1 c).1 3)).trans (final3 m f c hx ha),
      ((Pipeline.Dat.toRForget_arrAt_iff (dats m 0 c) (fgt := fgt) (w := 4) rfl _ _).mp ((h.1 c).1 4)).trans (final4 m f c hx ha),
      ((Pipeline.Dat.toRForget_arrAt_iff (dats m 0 c) (fgt := fgt) (w := 5) rfl _ _).mp ((h.1 c).1 5)).trans (final5 m f c hx ha),
      ((h.1 c).2 main_arg0 (Pipeline.mem_restRefs_of main_arg0 (by decide) (by decide : ∀ w : Fin 7, (spec0 w).arr.view.ref ≠ main_arg0))).trans (V_arg m c)⟩) (run_quiescent m ρ)

end Cert.SbFwdIdeal.Value

namespace Cert.SbFwdRefIdeal.Read
open Cert.SbFwdRefIdeal Cert.SbFwdRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = val_main_v28 (F := Ideal) (m ((c : Thread nD τ).loc main_arg0))
      ∧ r.2.mem ((c.tc : Thread nD τ).loc main_v32) = val_main_v32 (F := Ideal) (m ((c : Thread nD τ).loc main_arg0))
      ∧ r.2.mem ((c.tc : Thread nD τ).loc main_v34) = val_main_v34 (F := Ideal) (m ((c : Thread nD τ).loc main_arg0))
      ∧ r.2.mem ((c : Thread nD τ).loc main_arg0) = m ((c : Thread nD τ).loc main_arg0) :=
  (θ_run defs _ _).mono (fun r h c => by
    obtain ⟨h0, h1, h2, hr⟩ := h c
    exact ⟨h0.trans (val_main_v28_eq _ _), h1.trans (val_main_v32_eq _), h2.trans (val_main_v34_eq _), hr⟩) (Value.run m ρ)

/-- The reference terminates with its arguments unchanged. -/
theorem frame : Cert.quiescent_SbFwdRefIdeal := fun m ρ _ =>
  (θ_run _ _ _).mono (fun r h => ⟨fun c => (h c).2.2.2, sem_eq_zero_of_no_sems rfl r.2⟩) (run_val m ρ)

end Cert.SbFwdRefIdeal.Read

/-- The forward attention call computes the plain attention and the sums of its logarithms, where no block of queries leaves the first tile of keys out. -/
theorem Cert.SbFwdIdeal.Value.algebraic [Cert.Pre_sb_alive.Facts] : Cert.algebraic_SbFwdIdeal_SbFwdRefIdeal_pre_sb_alive := by
  intro m g m' g' hp hag
  refine ⟨_, _, _, Cert.SbFwdIdeal.Value.run m hp g, (θ_run _ _ _).mono (fun r h c => ?_) (Cert.SbFwdRefIdeal.Read.run_val m' g')⟩
  have e0 := hag c
  obtain ⟨h0, h1, h2, hr⟩ := h c
  simp only [e0] at h0 h1 h2
  exact ⟨h0, h1, h2, hr⟩

end
-- ==== Proof.MergeF.lean ====
/- The gates' forward call: its result is the reference's term. -/
module

public import proofs.«01_k».proof.Proof.Gen.MergeFwdIdeal.Value
public import proofs.«01_k».proof.Proof.Gen.MergeFwdRefIdeal.Read
public import Idealize.ShloMosaic.Lib.Pipeline.ValueKit
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.MergeFwdIdeal.Value
open Cert.MergeFwdIdeal Cert.MergeFwdIdeal.Gen
open Cert.MergeFwdRefIdeal.Read (val_main_v0 val_main_v1 val_main_v2 val_main_v3 val_main_v4 val_main_v5 val_main_v6 val_main_v7 val_main_v8 val_main_cst val_main_v9 val_main_v10 val_main_cst_0 val_main_v11 val_main_v12 val_main_v13 val_main_v14 val_main_v15 val_main_v16 val_main_v17 val_main_v18 val_main_v19 val_main_cst_1 val_main_v20 val_main_v21 val_main_cst_2 val_main_v22 val_main_v23 val_main_v24 val_main_v25 val_main_v26 val_main_v27)

variable (m : (ℓ : Loc nD τ sig) → Buf (Elt Ideal) ℓ)

/-- The block index of every window at every point. -/
theorem idx_val : ∀ t : Fin cfg0.N, win0_0.index t = ![t.val, 0]
    ∧ win0_1.index t = ![t.val, 1]
    ∧ win0_2.index t = ![t.val, 0]
    ∧ win0_3.index t = ![t.val, 0]
    ∧ win0_4.index t = ![0, 0]
    ∧ win0_5.index t = ![0, 0]
    ∧ win0_6.index t = ![t.val, 0] :=
  (by decide +kernel : ∀ t : Fin grid0.N, _)

/-- Row `r` of block `t`, as stored by window 6, is row `t * 256 + r` of the reference. -/
theorem core6 (c : Dev nD) (t : Fin cfg0.N) (r : Fin 256) (l : Fin 1024) (i : S8192x1024.Idx)
    (h0 : (i 0 : ℕ) = t.val * 256 + r.val) (h1 : (i 1 : ℕ) = l.val) :
    k0_pay1 (iblk m c 0 t) (iblk m c 1 t) (iblk m c 2 t) (iblk m c 3 t) (iblk m c 4 t) (iblk m c 5 t) (ix2 r l) = val_main_v27 (F := Ideal) (m ((c : Thread nD τ).loc main_arg0)) (m ((c : Thread nD τ).loc main_arg1)) (m ((c : Thread nD τ).loc main_arg2)) (m ((c : Thread nD τ).loc main_arg3)) i := by
  pointwise [k0_pay1, val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_v17, val_main_v18, val_main_v19, val_main_cst_1, val_main_v20, val_main_v21, val_main_cst_2, val_main_v22, val_main_v23, val_main_v24, val_main_v25, val_main_v26, val_main_v27]
  simp only [zero_sub]
  blk_point [iblk, V, idx_val t]

/-- The result array of window 6. -/
theorem final6 (c : Dev nD) : (dats m 0 c).arrAt 6 (cfgs 0).N = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  unfold out0_6
  have key := core6 m c t (y 0) (y 1) (((cfg0.win 6).blk t).view.emb y) (by blk_simp [idx_val t]) (by blk_simp [idx_val t])
  rw [← eq_ix2 y] at key
  frame_out
  exact key

/-- The kernel's run with every result named by the reference's term. -/
theorem run (ρ : Dev nD → PrngReg) :
    θ_run defs (onTc (τ := τ) (main (F := Ideal))) ⟨m, fun _ => 0, ρ⟩ fun r => ∀ c : Dev nD,
      r.2.mem ((c : Thread nD τ).loc main_v2) = val_main_v27 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h6, hr⟩ := h c
    exact ⟨h6.trans (final6 m c), hr⟩) (run_blocks m ρ)

end Cert.MergeFwdIdeal.Value

namespace Cert.MergeFwdRefIdeal.Read
open Cert.MergeFwdRefIdeal Cert.MergeFwdRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = val_main_v27 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, hr⟩ := h c
    exact ⟨h0.trans (val_main_v27_eq _ _ _ _), hr⟩) (Value.run m ρ)

/-- The reference terminates with its arguments unchanged. -/
theorem frame : Cert.quiescent_MergeFwdRefIdeal := fun m ρ _ =>
  (θ_run _ _ _).mono (fun r h => ⟨fun c => (h c).2, sem_eq_zero_of_no_sems rfl r.2⟩) (run_val m ρ)

end Cert.MergeFwdRefIdeal.Read

/-- The forward call of the gates computes the gated sum of the reference. -/
theorem Cert.MergeFwdIdeal.Value.algebraic : Cert.algebraic_MergeFwdIdeal_MergeFwdRefIdeal := by
  intro m g m' g' _ hag
  refine ⟨_, Cert.MergeFwdIdeal.Value.run m g, (θ_run _ _ _).mono (fun r h c => ?_) (Cert.MergeFwdRefIdeal.Read.run_val m' g')⟩
  obtain ⟨e0, e1, e2, e3⟩ := hag c
  obtain ⟨h0, hr⟩ := h c
  simp only [e0, e1, e2, e3] at h0
  exact ⟨h0, hr⟩

end
-- ==== Proof.ConvF.lean ====
/- The forward call of the causal convolution: its result is the reference's term. -/
module

public import proofs.«01_k».proof.Proof.Gen.ConvFwdIdeal.Value
public import proofs.«01_k».proof.Proof.Gen.ConvFwdRefIdeal.Read
public import proofs.«01_k».proof.Proof.Conv

@[expose] public section

set_option maxRecDepth 16384

noncomputable section

open Idealize.ShloMosaic Idealize.ShloMosaic.TcCoe Idealize.SL.Sem
open Idealize.ShloMosaic.Pipeline (Dat)
open scoped BigOperators

namespace Cert.ConvFwdRefIdeal.Read
open Cert.ConvFwdRefIdeal Cert.ConvFwdRefIdeal.Gen
open Cert.ConvBwdRefIdeal.Read (Xp Yp)

theorem rv2 (a0 : FVec Ideal Cert.ConvFwdRefIdeal.S8192x2048 .f32) (k : Fin 8195) (l : Fin 1536) :
    val_main_v2 (F := Ideal) a0 (ix2 k l) = Xp a0 (k.val + 5) l := by
  pointwise [val_main_v0, val_main_v1, val_main_cst, val_main_v2, Xp]
  by_cases h : k.val < 3
  · rw [dif_pos h, dif_neg (by omega)]
  · rw [dif_neg h, dif_pos (by omega)]
    congr 3

/-- The reference's result: the activation of the convolution. -/
theorem rv32 (a0 : FVec Ideal Cert.ConvFwdRefIdeal.S8192x2048 .f32) (a1 : FVec Ideal Cert.ConvFwdRefIdeal.S4x1536 .f32) (s : Fin 8192) (l : Fin 1536) :
    val_main_v32 (F := Ideal) a0 a1 (ix2 s l) = Yp a0 a1 (s.val + 8) l * Ideal.div 1 (1 + Ideal.exp (-(Yp a0 a1 (s.val + 8) l))) := by
  pointwise [val_main_cst, val_main_v0, val_main_v1, val_main_v3, val_main_v4, val_main_v5, val_main_v6, val_main_v7, val_main_v8, val_main_cst_0, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_call0_v0, val_main_call0_v1, val_main_call0_cst, val_main_call0_v2, val_main_call0_v3, val_main_call0_cst_0, val_main_call0_v4, val_main_call0_v5, val_main_v32, rv2, Yp]
  rw [show 1 + s.val + 5 = s.val + 8 - 2 by omega, show 2 + s.val + 5 = s.val + 8 - 1 by omega,
    show 3 + s.val + 5 = s.val + 8 by omega, show s.val + 8 - 3 = s.val + 5 by omega]

end Cert.ConvFwdRefIdeal.Read

namespace Cert.ConvFwdIdeal.Value
open Cert.ConvFwdIdeal Cert.ConvFwdIdeal.Gen
open Cert.ConvBwdRefIdeal.Read (Xp Yp)
open Cert.ConvFwdRefIdeal.Read (val_main_v32 rv32)

variable (m : (ℓ : Loc nD τ sig) → Buf (Elt Ideal) ℓ)

/-- The block index of every window at every point. -/
theorem idx_val : ∀ t : Fin cfg0.N, win0_0.index t = ![t.val, 0]
    ∧ win0_1.index t = ![t.val * 32 - 1, 0]
    ∧ win0_2.index t = ![0, 0]
    ∧ win0_3.index t = ![t.val, 0] :=
  (by decide +kernel : ∀ t : Fin grid0.N, _)

/-- The comparison of the grid coordinate. -/
theorem coord_cmp : ∀ t : Fin cfg0.N,
    Scalar.cmpi .sgt (BitVec.ofNat 32 (grid0.coords t 0).val) 0#32 = (if 0 < t.val then 1#1 else 0#1) :=
  (by decide +kernel : ∀ t : Fin grid0.N, _)

theorem X0_at (c : Dev nD) (t : Fin cfg0.N) (r : Fin 256) (l : Fin 1536) :
    X0_0 m c t (ix2 r l) = Xp (m ((c : Thread nD τ).loc main_arg0)) (t.val * 256 + (r.val + 8)) l := by
  have h32 := lt_of_lt_of_eq t.isLt N_0
  unfold X0_0 Pipeline.Window.fill Xp
  rw [dif_pos (moved0_0 t _), dif_pos (by omega)]
  blk_ext [iblk, V, idx_val t]

theorem X1_at (c : Dev nD) (t : Fin cfg0.N) (ht : 0 < t.val) (r : Fin 8) (l : Fin 1536) :
    X0_1 m c t (ix2 r l) = Xp (m ((c : Thread nD τ).loc main_arg0)) (t.val * 256 + r.val) l := by
  have h32 := lt_of_lt_of_eq t.isLt N_0
  unfold X0_1 Pipeline.Window.fill Xp
  rw [dif_pos (moved0_1 t _), dif_pos (by omega)]
  blk_ext [iblk, V, idx_val t]

/-- The signal's rows around block `t`. -/
theorem xe_at (c : Dev nD) (t : Fin cfg0.N) (e : Fin 264) (l : Fin 1536) :
    (if h : e.val < 8 then Scalar.select (Scalar.cmpi .sgt (BitVec.ofNat 32 (grid0.coords t 0).val) 0#32) (X0_1 m c t (ix2 ⟨e.val, h⟩ l)) (0 : EReal)
      else X0_0 m c t (ix2 ⟨e.val - 8, by omega⟩ l)) =
      Xp (m ((c : Thread nD τ).loc main_arg0)) (t.val * 256 + e.val) l := by
  have h32 := lt_of_lt_of_eq t.isLt N_0
  rw [coord_cmp t]
  by_cases e8 : e.val < 8
  · rw [dif_pos e8]
    refine (Cert.ConvBwdIdeal.Value.sel_if _ _ _).trans ?_
    by_cases ht : 0 < t.val
    · rw [if_pos ht, X1_at m c t ht]
    · rw [if_neg ht]; unfold Xp; rw [dif_neg (by omega)]
  · rw [dif_neg e8, X0_at m c t]; congr 1; show t.val * 256 + (e.val - 8 + 8) = _; omega

/-- The four rows of the weight. -/
theorem rows_of (c : Dev nD) (t : Fin cfg0.N) (l : Fin 1536) :
    View.ld (iblk m c 2 t) (Rect.unit ![0, 0] ![1, 1536] inb_S4x1536_S1x1536_0_0) (ix2 0 l) = m ((c : Thread nD τ).loc main_arg1) (ix2 0 l)
    ∧ View.ld (iblk m c 2 t) (Rect.unit ![1, 0] ![1, 1536] inb_S4x1536_S1x1536_1_0) (ix2 0 l) = m ((c : Thread nD τ).loc main_arg1) (ix2 1 l)
    ∧ View.ld (iblk m c 2 t) (Rect.unit ![2, 0] ![1, 1536] inb_S4x1536_S1x1536_2_0) (ix2 0 l) = m ((c : Thread nD τ).loc main_arg1) (ix2 2 l)
    ∧ View.ld (iblk m c 2 t) (Rect.unit ![3, 0] ![1, 1536] inb_S4x1536_S1x1536_3_0) (ix2 0 l) = m ((c : Thread nD τ).loc main_arg1) (ix2 3 l) := by
  refine ⟨?_, ?_, ?_, ?_⟩
  all_goals (pointwise; blk_ext [iblk, V, idx_val t])

/-- Row `r` of block `t` is the reference's row. -/
theorem core3 (c : Dev nD) (t : Fin cfg0.N) (w0 w1 w2 w3 : Vec Ideal S1x1536 .f32) (r : Fin 256) (l : Fin 1536) (i : S8192x1536.Idx)
    (hw : w0 (ix2 0 l) = m ((c : Thread nD τ).loc main_arg1) (ix2 0 l) ∧ w1 (ix2 0 l) = m ((c : Thread nD τ).loc main_arg1) (ix2 1 l)
      ∧ w2 (ix2 0 l) = m ((c : Thread nD τ).loc main_arg1) (ix2 2 l) ∧ w3 (ix2 0 l) = m ((c : Thread nD τ).loc main_arg1) (ix2 3 l))
    (h0 : (i 0 : ℕ) = t.val * 256 + r.val) (h1 : (i 1 : ℕ) = l.val) :
    k0_pay1 (F := Ideal) (grid0.coords t) (X0_1 m c t) (X0_0 m c t) w0 w1 w2 w3 (ix2 r l) = val_main_v32 (F := Ideal) (m ((c : Thread nD τ).loc main_arg0)) (m ((c : Thread nD τ).loc main_arg1)) i := by
  obtain ⟨e0, e1, e2, e3⟩ := hw
  have h32 := lt_of_lt_of_eq t.isLt N_0
  have hi : i = ix2 ⟨t.val * 256 + r.val, by omega⟩ l := by
    refine (eq_ix2 i).trans ?_
    rw [show i 0 = (⟨t.val * 256 + r.val, by omega⟩ : Fin 8192) from Fin.ext h0, show i 1 = l from Fin.ext h1]
  rw [hi]
  refine Eq.trans ?_ (rv32 _ _ _ _).symm
  have x3 := xe_at m c t ⟨(8 + r.val + 264 - 3) % 264, Nat.mod_lt _ (by omega)⟩ l
  have x2 := xe_at m c t ⟨(8 + r.val + 264 - 2) % 264, Nat.mod_lt _ (by omega)⟩ l
  have x1 := xe_at m c t ⟨(8 + r.val + 264 - 1) % 264, Nat.mod_lt _ (by omega)⟩ l
  pointwise [k0_pay1]
  dsimp only at x1 x2 x3
  rw [x1, x2, x3, X0_at m c t, e0, e1, e2, e3, zero_sub]
  unfold Yp
  rw [show t.val * 256 + (8 + r.val + 264 - 3) % 264 = t.val * 256 + r.val + 8 - 3 by omega,
    show t.val * 256 + (8 + r.val + 264 - 2) % 264 = t.val * 256 + r.val + 8 - 2 by omega,
    show t.val * 256 + (8 + r.val + 264 - 1) % 264 = t.val * 256 + r.val + 8 - 1 by omega, ← Nat.add_assoc]

/-- The result array. -/
theorem final3 (c : Dev nD) : (dats m 0 c).arrAt 3 (cfgs 0).N = val_main_v32 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  have key := core3 m c t _ _ _ _ (y 0) (y 1) (((cfg0.win 3).blk t).view.emb y) (rows_of m c t (y 1)) (by blk_simp [idx_val t]) (by blk_simp [idx_val t])
  rw [← eq_ix2 y] at key
  unfold outsAt0
  frame_out
  exact key

/-- The kernel's run with every result named by the reference's term. -/
theorem run (ρ : Dev nD → PrngReg) :
    θ_run defs (onTc (τ := τ) (main (F := Ideal))) ⟨m, fun _ => 0, ρ⟩ fun r => ∀ c : Dev nD,
      r.2.mem ((c : Thread nD τ).loc main_v0) = val_main_v32 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨h3, hr⟩ := h c
    exact ⟨h3.trans (final3 m c), hr⟩) (run_blocks m ρ)

end Cert.ConvFwdIdeal.Value

namespace Cert.ConvFwdRefIdeal.Read
open Cert.ConvFwdRefIdeal Cert.ConvFwdRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = val_main_v32 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨h0, hr⟩ := h c
    exact ⟨h0.trans (val_main_v32_eq _ _), hr⟩) (Value.run m ρ)

/-- The reference terminates with its arguments unchanged. -/
theorem frame : Cert.quiescent_ConvFwdRefIdeal := fun m ρ _ =>
  (θ_run _ _ _).mono (fun r h => ⟨fun c => (h c).2, sem_eq_zero_of_no_sems rfl r.2⟩) (run_val m ρ)

end Cert.ConvFwdRefIdeal.Read

/-- The forward call of the convolution computes the activated convolution of the reference. -/
theorem Cert.ConvFwdIdeal.Value.algebraic : Cert.algebraic_ConvFwdIdeal_ConvFwdRefIdeal := by
  intro m g m' g' _ hag
  refine ⟨_, Cert.ConvFwdIdeal.Value.run m g, (θ_run _ _ _).mono (fun r h c => ?_) (Cert.ConvFwdRefIdeal.Read.run_val m' g')⟩
  obtain ⟨e0, e1⟩ := hag c
  obtain ⟨h0, hr⟩ := h c
  simp only [e0, e1] at h0
  exact ⟨h0, hr⟩

end
-- ==== Proof.FfnLnF.lean ====
/- The forward call of the feed-forward norm: every result is the reference's term. -/
module

public import proofs.«01_k».proof.Proof.Gen.FfnLnFwdIdeal.Value
public import proofs.«01_k».proof.Proof.Gen.FfnLnFwdRefIdeal.Read
public import Idealize.ShloMosaic.Lib.Pipeline.ValueKit
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.FfnLnFwdIdeal.Value
open Cert.FfnLnFwdIdeal Cert.FfnLnFwdIdeal.Gen
open Cert.FfnLnFwdRefIdeal.Read (val_main_cst val_main_v0 val_main_v1 val_main_cst_0 val_main_v2 val_main_v3 val_main_v4 val_main_v5 val_main_v6 val_main_cst_1 val_main_v7 val_main_v8 val_main_cst_2 val_main_v9 val_main_v10 val_main_v11 val_main_v12 val_main_v13 val_main_cst_3 val_main_v14 val_main_v15 val_main_cst_4 val_main_v16 val_main_v17 val_main_cst_5 val_main_v18 val_main_v19 val_main_v20 val_main_v21 val_main_v22 val_main_v23 val_main_v24 val_main_v25 val_main_v26 val_main_v27 val_main_v28 val_main_v29)

variable (m : (ℓ : Loc nD τ sig) → Buf (Elt Ideal) ℓ)

/-- The block index of every window at every point. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![t.val, 0] :=
  (by decide +kernel : ∀ t : Fin grid0.N, _)

/-- Row `r` of block `t`, as stored by window 4, is row `t * 256 + r` of the reference. -/
theorem core4 (c : Dev nD) (t : Fin cfg0.N) (r : Fin 256) (l : Fin 1024) (i : S8192x1024.Idx)
    (h0 : (i 0 : ℕ) = t.val * 256 + r.val) (h1 : (i 1 : ℕ) = l.val) :
    k0_pay1 (iblk m c 0 t) (iblk m c 1 t) (ix2 r l) = val_main_v4 (F := Ideal) (m ((c : Thread nD τ).loc main_arg0)) (m ((c : Thread nD τ).loc main_arg1)) i := by
  pointwise [k0_pay1, k0_pay2, k0_pay3, val_main_cst, val_main_v0, val_main_v1, val_main_cst_0, val_main_v2, val_main_v3, val_main_v4, val_main_v5, val_main_v6, val_main_cst_1, val_main_v7, val_main_v8, val_main_cst_2, val_main_v9, val_main_v10, val_main_v11, val_main_v12, val_main_v13, val_main_cst_3, val_main_v14, val_main_v15, val_main_cst_4, val_main_v16, val_main_v17, val_main_cst_5, val_main_v18, val_main_v19, val_main_v20, val_main_v21, val_main_v22, val_main_v23, val_main_v24, val_main_v25, val_main_v26, val_main_v27, val_main_v28, val_main_v29]
  blk_point [iblk, V, idx_val t]

/-- The result array of window 4. -/
theorem final4 (c : Dev nD) : (dats m 0 c).arrAt 4 (cfgs 0).N = val_main_v4 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  unfold out0_4
  have key := core4 m c t (y 0) (y 1) (((cfg0.win 4).blk t).view.emb y) (by blk_simp [idx_val t]) (by blk_simp [idx_val t])
  rw [← eq_ix2 y] at key
  frame_out
  exact key

/-- Row `r` of block `t`, as stored by window 5, is row `t * 256 + r` of the reference. -/
theorem core5 (c : Dev nD) (t : Fin cfg0.N) (r : Fin 256) (l : Fin 1024) (i : S8192x1024.Idx)
    (h0 : (i 0 : ℕ) = t.val * 256 + r.val) (h1 : (i 1 : ℕ) = l.val) :
    k0_pay2 (iblk m c 0 t) (iblk m c 1 t) (iblk m c 2 t) (iblk m c 3 t) (ix2 r l) = val_main_v28 (F := Ideal) (m ((c : Thread nD τ).loc main_arg0)) (m ((c : Thread nD τ).loc main_arg1)) (m ((c : Thread nD τ).loc main_arg2)) (m ((c : Thread nD τ).loc main_arg3)) i := by
  pointwise [k0_pay1, k0_pay2, k0_pay3, val_main_cst, val_main_v0, val_main_v1, val_main_cst_0, val_main_v2, val_main_v3, val_main_v4, val_main_v5, val_main_v6, val_main_cst_1, val_main_v7, val_main_v8, val_main_cst_2, val_main_v9, val_main_v10, val_main_v11, val_main_v12, val_main_v13, val_main_cst_3, val_main_v14, val_main_v15, val_main_cst_4, val_main_v16, val_main_v17, val_main_cst_5, val_main_v18, val_main_v19, val_main_v20, val_main_v21, val_main_v22, val_main_v23, val_main_v24, val_main_v25, val_main_v26, val_main_v27, val_main_v28, val_main_v29]
  blk_point [iblk, V, idx_val t]

/-- The result array of window 5. -/
theorem final5 (c : Dev nD) : (dats m 0 c).arrAt 5 (cfgs 0).N = val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  have key := core5 m c t (y 0) (y 1) (((cfg0.win 5).blk t).view.emb y) (by blk_simp [idx_val t]) (by blk_simp [idx_val t])
  rw [← eq_ix2 y] at key
  frame_out
  exact key

/-- Row `r` of block `t`, as stored by window 6, is row `t * 256 + r` of the reference. -/
theorem core6 (c : Dev nD) (t : Fin cfg0.N) (r : Fin 256) (l : Fin 1024) (i : S8192x1024.Idx)
    (h0 : (i 0 : ℕ) = t.val * 256 + r.val) (h1 : (i 1 : ℕ) = l.val) :
    k0_pay3 (iblk m c 0 t) (iblk m c 1 t) (iblk m c 2 t) (iblk m c 3 t) (ix2 r l) = val_main_v29 (F := Ideal) (m ((c : Thread nD τ).loc main_arg0)) (m ((c : Thread nD τ).loc main_arg1)) (m ((c : Thread nD τ).loc main_arg2)) (m ((c : Thread nD τ).loc main_arg3)) i := by
  pointwise [k0_pay1, k0_pay2, k0_pay3, val_main_cst, val_main_v0, val_main_v1, val_main_cst_0, val_main_v2, val_main_v3, val_main_v4, val_main_v5, val_main_v6, val_main_cst_1, val_main_v7, val_main_v8, val_main_cst_2, val_main_v9, val_main_v10, val_main_v11, val_main_v12, val_main_v13, val_main_cst_3, val_main_v14, val_main_v15, val_main_cst_4, val_main_v16, val_main_v17, val_main_cst_5, val_main_v18, val_main_v19, val_main_v20, val_main_v21, val_main_v22, val_main_v23, val_main_v24, val_main_v25, val_main_v26, val_main_v27, val_main_v28, val_main_v29]
  blk_point [iblk, V, idx_val t]

/-- The result array of window 6. -/
theorem final6 (c : Dev nD) : (dats m 0 c).arrAt 6 (cfgs 0).N = val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  unfold out0_6
  have key := core6 m c t (y 0) (y 1) (((cfg0.win 6).blk t).view.emb y) (by blk_simp [idx_val t]) (by blk_simp [idx_val t])
  rw [← eq_ix2 y] at key
  frame_out
  exact key

/-- The kernel's run with every result named by the reference's term. -/
theorem run (ρ : Dev nD → PrngReg) :
    θ_run defs (onTc (τ := τ) (main (F := Ideal))) ⟨m, fun _ => 0, ρ⟩ fun r => ∀ c : Dev nD,
      r.2.mem ((c : Thread nD τ).loc main_v0_0) = val_main_v4 (F := Ideal) (m ((c : Thread nD τ).loc main_arg0)) (m ((c : Thread nD τ).loc main_arg1))
      ∧ r.2.mem ((c : Thread nD τ).loc main_v0_1) = val_main_v28 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = val_main_v29 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, hr⟩ := h c
    exact ⟨h4.trans (final4 m c), h5.trans (final5 m c), h6.trans (final6 m c), hr⟩) (run_blocks m ρ)

end Cert.FfnLnFwdIdeal.Value

namespace Cert.FfnLnFwdRefIdeal.Read
open Cert.FfnLnFwdRefIdeal Cert.FfnLnFwdRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = val_main_v4 (F := Ideal) (m ((c : Thread nD τ).loc main_arg0)) (m ((c : Thread nD τ).loc main_arg1))
      ∧ r.2.mem ((c.tc : Thread nD τ).loc main_v28) = val_main_v28 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v29) = val_main_v29 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, h1, h2, hr⟩ := h c
    exact ⟨h0.trans (val_main_v4_eq _ _), h1.trans (val_main_v28_eq _ _ _ _), h2.trans (val_main_v29_eq _ _ _ _), hr⟩) (Value.run m ρ)

/-- The reference terminates with its arguments unchanged. -/
theorem frame : Cert.quiescent_FfnLnFwdRefIdeal := fun m ρ _ =>
  (θ_run _ _ _).mono (fun r h => ⟨fun c => (h c).2.2.2, sem_eq_zero_of_no_sems rfl r.2⟩) (run_val m ρ)

end Cert.FfnLnFwdRefIdeal.Read

/-- The forward call of the feed-forward norm computes the norm of the reference. -/
theorem Cert.FfnLnFwdIdeal.Value.algebraic : Cert.algebraic_FfnLnFwdIdeal_FfnLnFwdRefIdeal := by
  intro m g m' g' _ hag
  refine ⟨_, _, _, Cert.FfnLnFwdIdeal.Value.run m g, (θ_run _ _ _).mono (fun r h c => ?_) (Cert.FfnLnFwdRefIdeal.Read.run_val m' g')⟩
  obtain ⟨e0, e1, e2, e3⟩ := hag c
  obtain ⟨h0, h1, h2, hr⟩ := h c
  simp only [e0, e1, e2, e3] at h0 h1 h2
  exact ⟨h0, h1, h2, hr⟩

end
-- ==== Proof.MixLnF.lean ====
/- The forward call of the mixer's norm: every result is the reference's term. -/
module

public import proofs.«01_k».proof.Proof.Gen.MixLnFwdIdeal.Value
public import proofs.«01_k».proof.Proof.Gen.MixLnFwdRefIdeal.Read
public import Idealize.ShloMosaic.Lib.Pipeline.ValueKit
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.MixLnFwdIdeal.Value
open Cert.MixLnFwdIdeal Cert.MixLnFwdIdeal.Gen
open Cert.MixLnFwdRefIdeal.Read (val_main_cst val_main_v0 val_main_v1 val_main_v2 val_main_v3 val_main_v4 val_main_cst_0 val_main_v5 val_main_v6 val_main_cst_1 val_main_v7 val_main_v8 val_main_v9 val_main_v10 val_main_v11 val_main_cst_2 val_main_v12 val_main_v13 val_main_cst_3 val_main_v14 val_main_v15 val_main_cst_4 val_main_v16 val_main_v17 val_main_v18 val_main_v19 val_main_v20 val_main_v21 val_main_v22 val_main_v23 val_main_v24 val_main_v25 val_main_v26 val_main_v27)

variable (m : (ℓ : Loc nD τ sig) → Buf (Elt Ideal) ℓ)

/-- The block index of every window at every point. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![t.val, 0] :=
  (by decide +kernel : ∀ t : Fin grid0.N, _)

/-- Row `r` of block `t`, as stored by window 4, is row `t * 256 + r` of the reference. -/
theorem core4 (c : Dev nD) (t : Fin cfg0.N) (r : Fin 256) (l : Fin 1024) (i : S8192x1024.Idx)
    (h0 : (i 0 : ℕ) = t.val * 256 + r.val) (h1 : (i 1 : ℕ) = l.val) :
    k0_pay1 (iblk m c 0 t) (iblk m c 1 t) (ix2 r l) = val_main_v2 (F := Ideal) (m ((c : Thread nD τ).loc main_arg0)) (m ((c : Thread nD τ).loc main_arg1)) i := by
  pointwise [k0_pay1, k0_pay2, k0_pay3, val_main_cst, val_main_v0, val_main_v1, val_main_v2, val_main_v3, val_main_v4, val_main_cst_0, val_main_v5, val_main_v6, val_main_cst_1, val_main_v7, val_main_v8, val_main_v9, val_main_v10, val_main_v11, val_main_cst_2, val_main_v12, val_main_v13, val_main_cst_3, val_main_v14, val_main_v15, val_main_cst_4, val_main_v16, val_main_v17, val_main_v18, val_main_v19, val_main_v20, val_main_v21, val_main_v22, val_main_v23, val_main_v24, val_main_v25, val_main_v26, val_main_v27]
  blk_point [iblk, V, idx_val t]

/-- The result array of window 4. -/
theorem final4 (c : Dev nD) : (dats m 0 c).arrAt 4 (cfgs 0).N = val_main_v2 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  unfold out0_4
  have key := core4 m c t (y 0) (y 1) (((cfg0.win 4).blk t).view.emb y) (by blk_simp [idx_val t]) (by blk_simp [idx_val t])
  rw [← eq_ix2 y] at key
  frame_out
  exact key

/-- Row `r` of block `t`, as stored by window 5, is row `t * 256 + r` of the reference. -/
theorem core5 (c : Dev nD) (t : Fin cfg0.N) (r : Fin 256) (l : Fin 1024) (i : S8192x1024.Idx)
    (h0 : (i 0 : ℕ) = t.val * 256 + r.val) (h1 : (i 1 : ℕ) = l.val) :
    k0_pay2 (iblk m c 0 t) (iblk m c 1 t) (iblk m c 2 t) (iblk m c 3 t) (ix2 r l) = val_main_v26 (F := Ideal) (m ((c : Thread nD τ).loc main_arg0)) (m ((c : Thread nD τ).loc main_arg1)) (m ((c : Thread nD τ).loc main_arg2)) (m ((c : Thread nD τ).loc main_arg3)) i := by
  pointwise [k0_pay1, k0_pay2, k0_pay3, val_main_cst, val_main_v0, val_main_v1, val_main_v2, val_main_v3, val_main_v4, val_main_cst_0, val_main_v5, val_main_v6, val_main_cst_1, val_main_v7, val_main_v8, val_main_v9, val_main_v10, val_main_v11, val_main_cst_2, val_main_v12, val_main_v13, val_main_cst_3, val_main_v14, val_main_v15, val_main_cst_4, val_main_v16, val_main_v17, val_main_v18, val_main_v19, val_main_v20, val_main_v21, val_main_v22, val_main_v23, val_main_v24, val_main_v25, val_main_v26, val_main_v27]
  blk_point [iblk, V, idx_val t]

/-- The result array of window 5. -/
theorem final5 (c : Dev nD) : (dats m 0 c).arrAt 5 (cfgs 0).N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  have key := core5 m c t (y 0) (y 1) (((cfg0.win 5).blk t).view.emb y) (by blk_simp [idx_val t]) (by blk_simp [idx_val t])
  rw [← eq_ix2 y] at key
  frame_out
  exact key

/-- Row `r` of block `t`, as stored by window 6, is row `t * 256 + r` of the reference. -/
theorem core6 (c : Dev nD) (t : Fin cfg0.N) (r : Fin 256) (l : Fin 1024) (i : S8192x1024.Idx)
    (h0 : (i 0 : ℕ) = t.val * 256 + r.val) (h1 : (i 1 : ℕ) = l.val) :
    k0_pay3 (iblk m c 0 t) (iblk m c 1 t) (iblk m c 2 t) (iblk m c 3 t) (ix2 r l) = val_main_v27 (F := Ideal) (m ((c : Thread nD τ).loc main_arg0)) (m ((c : Thread nD τ).loc main_arg1)) (m ((c : Thread nD τ).loc main_arg2)) (m ((c : Thread nD τ).loc main_arg3)) i := by
  pointwise [k0_pay1, k0_pay2, k0_pay3, val_main_cst, val_main_v0, val_main_v1, val_main_v2, val_main_v3, val_main_v4, val_main_cst_0, val_main_v5, val_main_v6, val_main_cst_1, val_main_v7, val_main_v8, val_main_v9, val_main_v10, val_main_v11, val_main_cst_2, val_main_v12, val_main_v13, val_main_cst_3, val_main_v14, val_main_v15, val_main_cst_4, val_main_v16, val_main_v17, val_main_v18, val_main_v19, val_main_v20, val_main_v21, val_main_v22, val_main_v23, val_main_v24, val_main_v25, val_main_v26, val_main_v27]
  blk_point [iblk, V, idx_val t]

/-- The result array of window 6. -/
theorem final6 (c : Dev nD) : (dats m 0 c).arrAt 6 (cfgs 0).N = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  unfold out0_6
  have key := core6 m c t (y 0) (y 1) (((cfg0.win 6).blk t).view.emb y) (by blk_simp [idx_val t]) (by blk_simp [idx_val t])
  rw [← eq_ix2 y] at key
  frame_out
  exact key

/-- The kernel's run with every result named by the reference's term. -/
theorem run (ρ : Dev nD → PrngReg) :
    θ_run defs (onTc (τ := τ) (main (F := Ideal))) ⟨m, fun _ => 0, ρ⟩ fun r => ∀ c : Dev nD,
      r.2.mem ((c : Thread nD τ).loc main_v0_0) = val_main_v2 (F := Ideal) (m ((c : Thread nD τ).loc main_arg0)) (m ((c : Thread nD τ).loc main_arg1))
      ∧ r.2.mem ((c : Thread nD τ).loc main_v0_1) = val_main_v26 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = val_main_v27 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, hr⟩ := h c
    exact ⟨h4.trans (final4 m c), h5.trans (final5 m c), h6.trans (final6 m c), hr⟩) (run_blocks m ρ)

end Cert.MixLnFwdIdeal.Value

namespace Cert.MixLnFwdRefIdeal.Read
open Cert.MixLnFwdRefIdeal Cert.MixLnFwdRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = val_main_v2 (F := Ideal) (m ((c : Thread nD τ).loc main_arg0)) (m ((c : Thread nD τ).loc main_arg1))
      ∧ r.2.mem ((c.tc : Thread nD τ).loc main_v26) = val_main_v26 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v27) = val_main_v27 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, h1, h2, hr⟩ := h c
    exact ⟨h0.trans (val_main_v2_eq _ _), h1.trans (val_main_v26_eq _ _ _ _), h2.trans (val_main_v27_eq _ _ _ _), hr⟩) (Value.run m ρ)

/-- The reference terminates with its arguments unchanged. -/
theorem frame : Cert.quiescent_MixLnFwdRefIdeal := fun m ρ _ =>
  (θ_run _ _ _).mono (fun r h => ⟨fun c => (h c).2.2.2, sem_eq_zero_of_no_sems rfl r.2⟩) (run_val m ρ)

end Cert.MixLnFwdRefIdeal.Read

/-- The forward call of the mixer's norm computes the norm of the reference. -/
theorem Cert.MixLnFwdIdeal.Value.algebraic : Cert.algebraic_MixLnFwdIdeal_MixLnFwdRefIdeal := by
  intro m g m' g' _ hag
  refine ⟨_, _, _, Cert.MixLnFwdIdeal.Value.run m g, (θ_run _ _ _).mono (fun r h c => ?_) (Cert.MixLnFwdRefIdeal.Read.run_val m' g')⟩
  obtain ⟨e0, e1, e2, e3⟩ := hag c
  obtain ⟨h0, h1, h2, hr⟩ := h c
  simp only [e0, e1, e2, e3] at h0 h1 h2
  exact ⟨h0, h1, h2, hr⟩

end
-- ==== Proof.UpF.lean ====
/- The forward call of the gated activation: every result is the reference's term.  The kernel multiplies
by the columns of one shard at a time, the reference by all columns at once. -/
module

public import proofs.«01_k».proof.Proof.Gen.FfnUpIdeal.Value
public import proofs.«01_k».proof.Proof.Gen.FfnUpRefIdeal.Read
public import Idealize.ShloMosaic.Lib.Pipeline.ValueKit
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.FfnUpIdeal.Value
open Cert.FfnUpIdeal Cert.FfnUpIdeal.Gen
open Cert.FfnUpRefIdeal.Read (val_main_v0 val_main_v1 val_main_v2 val_main_call0_v0 val_main_call0_v1 val_main_call0_cst val_main_call0_v2 val_main_call0_v3 val_main_call0_cst_0 val_main_call0_v4 val_main_call0_v5 val_main_v3 val_main_v4 val_main_v5 val_main_v6 val_main_v7 val_main_v8 val_main_v9 val_main_v10)

variable (m : (ℓ : Loc nD τ sig) → Buf (Elt Ideal) ℓ)

/-- The block index of every window at every point. -/
theorem idx_val : ∀ t : Fin cfg0.N, win0_0.index t = ![t.val / 4, 0]
    ∧ win0_1.index t = ![t.val % 4, 0, 0]
    ∧ win0_2.index t = ![t.val % 4 + 4, 0, 0]
    ∧ win0_3.index t = ![t.val % 4, t.val / 4, 0]
    ∧ win0_4.index t = ![0, t.val % 4, t.val / 4, 0] :=
  (by decide +kernel : ∀ t : Fin grid0.N, _)

/-- The activated product of shard `t % 4`, row `r`, column `l` of the block. -/
theorem coreA (c : Dev nD) (t : Fin cfg0.N) (r : Fin 1024) (l : Fin 704) (i : S4x8192x704.Idx)
    (h0 : (i 0 : ℕ) = t.val % 4) (h1 : (i 1 : ℕ) = t.val / 4 * 1024 + r.val) (h2 : (i 2 : ℕ) = l.val) :
    k0_pay4 (F := Ideal) (iblk m c 0 t) (iblk m c 1 t) (iblk m c 2 t) (ix3 0 r l) = val_main_v7 (F := Ideal) (m ((c : Thread nD τ).loc main_arg0)) (m ((c : Thread nD τ).loc main_arg1)) i := by
  pointwise [k0_pay1, k0_pay2, k0_pay3, k0_pay4, val_main_v0, val_main_v1, val_main_v2, val_main_call0_v0, val_main_call0_v1, val_main_call0_cst, val_main_call0_v2, val_main_call0_v3, val_main_call0_cst_0, val_main_call0_v4, val_main_call0_v5, val_main_v3, val_main_v4, val_main_v5, val_main_v6, val_main_v7, val_main_v8, val_main_v9, val_main_v10]
  simp only [zero_sub]
  blk_point [iblk, V, idx_val t]

/-- The gate half of the product before the activation. -/
theorem coreG (c : Dev nD) (t : Fin cfg0.N) (r : Fin 1024) (l : Fin 704) (i : S2x4x8192x704.Idx)
    (h0 : (i 0 : ℕ) = 0) (h1 : (i 1 : ℕ) = t.val % 4) (h2 : (i 2 : ℕ) = t.val / 4 * 1024 + r.val) (h3 : (i 3 : ℕ) = l.val) :
    k0_pay5 (F := Ideal) (iblk m c 0 t) (iblk m c 1 t) (ix4 0 0 r l) = val_main_v10 (F := Ideal) (m ((c : Thread nD τ).loc main_arg0)) (m ((c : Thread nD τ).loc main_arg1)) i := by
  pointwise [k0_pay1, k0_pay2, k0_pay5, val_main_v0, val_main_v1, val_main_v2, val_main_call0_v0, val_main_call0_v1, val_main_call0_cst, val_main_call0_v2, val_main_call0_v3, val_main_call0_cst_0, val_main_call0_v4, val_main_call0_v5, val_main_v3, val_main_v4, val_main_v5, val_main_v6, val_main_v7, val_main_v8, val_main_v9, val_main_v10]
  blk_point [iblk, V, idx_val t]

/-- The up half of the product before the activation. -/
theorem coreU (c : Dev nD) (t : Fin cfg0.N) (r : Fin 1024) (l : Fin 704) (i : S2x4x8192x704.Idx)
    (h0 : (i 0 : ℕ) = 1) (h1 : (i 1 : ℕ) = t.val % 4) (h2 : (i 2 : ℕ) = t.val / 4 * 1024 + r.val) (h3 : (i 3 : ℕ) = l.val) :
    k0_pay6 (F := Ideal) (iblk m c 0 t) (iblk m c 2 t) (ix4 0 0 r l) = val_main_v10 (F := Ideal) (m ((c : Thread nD τ).loc main_arg0)) (m ((c : Thread nD τ).loc main_arg1)) i := by
  pointwise [k0_pay1, k0_pay3, k0_pay6, val_main_v0, val_main_v1, val_main_v2, val_main_call0_v0, val_main_call0_v1, val_main_call0_cst, val_main_call0_v2, val_main_call0_v3, val_main_call0_cst_0, val_main_call0_v4, val_main_call0_v5, val_main_v3, val_main_v4, val_main_v5, val_main_v6, val_main_v7, val_main_v8, val_main_v9, val_main_v10]
  blk_point [iblk, V, idx_val t]

/-- The activated product. -/
theorem final3 (c : Dev nD) : (dats m 0 c).arrAt 3 (cfgs 0).N = val_main_v7 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  canon_tiles x h
  frame_out
  idx_vars x
  rw [Fin.fin_one_eq_zero x0]
  refine coreA m c t x1 x2 _ ?_ ?_ ?_
  all_goals try blk_simp [idx_val t]
  all_goals first | omega | (pointwise; blk_ext []) | blk_point []

/-- The product before the activation. -/
theorem final4 (c : Dev nD) : (dats m 0 c).arrAt 4 (cfgs 0).N = val_main_v10 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  unfold out0_4
  canon_tiles x h
  · frame_out
    idx_vars x
    rw [Fin.fin_one_eq_zero x0, Fin.fin_one_eq_zero x1]
    refine coreU m c t x2 x3 _ ?_ ?_ ?_ ?_
    all_goals try blk_simp [idx_val t]
    all_goals first | omega | (pointwise; blk_ext []) | blk_point []
  · frame_out
    idx_vars x
    rw [Fin.fin_one_eq_zero x0, Fin.fin_one_eq_zero x1]
    refine coreG m c t x2 x3 _ ?_ ?_ ?_ ?_
    all_goals try blk_simp [idx_val t]
    all_goals first | omega | (pointwise; blk_ext []) | blk_point []

/-- The kernel's run with every result named by the reference's term. -/
theorem run (ρ : Dev nD → PrngReg) :
    θ_run defs (onTc (τ := τ) (main (F := Ideal))) ⟨m, fun _ => 0, ρ⟩ fun r => ∀ c : Dev nD,
      r.2.mem ((c : Thread nD τ).loc main_v4_0) = val_main_v7 (F := Ideal) (m ((c : Thread nD τ).loc main_arg0)) (m ((c : Thread nD τ).loc main_arg1))
      ∧ r.2.mem ((c : Thread nD τ).loc main_v4_1) = val_main_v10 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨h3, h4, hr⟩ := h c
    exact ⟨h3.trans (final3 m c), h4.trans (final4 m c), hr⟩) (run_blocks m ρ)

end Cert.FfnUpIdeal.Value

namespace Cert.FfnUpRefIdeal.Read
open Cert.FfnUpRefIdeal Cert.FfnUpRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = val_main_v7 (F := Ideal) (m ((c : Thread nD τ).loc main_arg0)) (m ((c : Thread nD τ).loc main_arg1))
      ∧ r.2.mem ((c.tc : Thread nD τ).loc main_v10) = val_main_v10 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨h0, h1, hr⟩ := h c
    exact ⟨h0.trans (val_main_v7_eq _ _), h1.trans (val_main_v10_eq _ _), hr⟩) (Value.run m ρ)

/-- The reference terminates with its arguments unchanged. -/
theorem frame : Cert.quiescent_FfnUpRefIdeal := fun m ρ _ =>
  (θ_run _ _ _).mono (fun r h => ⟨fun c => (h c).2.2, sem_eq_zero_of_no_sems rfl r.2⟩) (run_val m ρ)

end Cert.FfnUpRefIdeal.Read

/-- The forward call of the gated activation computes the activated product and the product of the reference. -/
theorem Cert.FfnUpIdeal.Value.algebraic : Cert.algebraic_FfnUpIdeal_FfnUpRefIdeal := by
  intro m g m' g' _ hag
  refine ⟨_, _, Cert.FfnUpIdeal.Value.run m g, (θ_run _ _ _).mono (fun r h c => ?_) (Cert.FfnUpRefIdeal.Read.run_val m' g')⟩
  obtain ⟨e0, e1⟩ := hag c
  obtain ⟨h0, h1, hr⟩ := h c
  simp only [e0, e1] at h0 h1
  exact ⟨h0, h1, hr⟩

end
-- ==== Proof.Adam.lean ====
/- The optimiser's call: every result is the reference's term.  The kernel adds the four parts of the
gradient one after another, the reference sums them. -/
module

public import proofs.«01_k».proof.Proof.Gen.AdamWIdeal.Value
public import proofs.«01_k».proof.Proof.Gen.AdamWRefIdeal.Read
public import Idealize.ShloMosaic.Lib.Pipeline.ValueKit
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.AdamWIdeal.Value
open Cert.AdamWIdeal Cert.AdamWIdeal.Gen
open Cert.AdamWRefIdeal.Read (val_main_cst val_main_v0 val_main_cst_0 val_main_v1 val_main_v2 val_main_cst_1 val_main_v3 val_main_v4 val_main_v5 val_main_cst_2 val_main_v6 val_main_v7 val_main_v8 val_main_cst_3 val_main_v9 val_main_v10 val_main_v11 val_main_cst_4 val_main_v12 val_main_v13 val_main_cst_5 val_main_v14 val_main_v15 val_main_v16 val_main_cst_6 val_main_v17 val_main_v18 val_main_v19 val_main_cst_7 val_main_v20 val_main_v21 val_main_v22 val_main_cst_8 val_main_v23 val_main_v24 val_main_v0_apply)

variable (m : (ℓ : Loc nD τ sig) → Buf (Elt Ideal) ℓ)

/-- The block index of every window at every point. -/
theorem idx_val : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- Row `r` of block `t`, as stored by window 4, is row `t * 256 + r` of the reference. -/
theorem core4 (c : Dev nD) (t : Fin cfg0.N) (r : Fin 256) (l : Fin 704) (i : S1024x704.Idx)
    (h0 : (i 0 : ℕ) = t.val * 256 + r.val) (h1 : (i 1 : ℕ) = l.val) :
    k0_pay2 (View.ld (iblk m c 0 t) r0_0) (View.ld (iblk m c 0 t) r0_1) (View.ld (iblk m c 0 t) r0_2) (View.ld (iblk m c 0 t) r0_3) (ix2 r l) = val_main_v0 (F := Ideal) (m ((c : Thread nD τ).loc main_arg0)) i := by
  have e : ∀ k : Fin 4, V m c main_v0 ((win0_0.blk t).view.emb (ix3 k r l)) = m ((c : Thread nD τ).loc main_arg0) (Cert.AdamWRefIdeal.Read.idx_main_v0 i k) := by
    intro k
    blk_point [iblk, V, idx_val t]
  rw [val_main_v0_apply, Fin.sum_univ_four]
  pointwise [k0_pay2, iblk, val_main_cst]
  exact congrArg₂ _ (congrArg₂ _ (congrArg₂ _ (e 0) (e 1)) (e 2)) (e 3)

/-- The result array of window 4. -/
theorem final4 (c : Dev nD) : (dats m 0 c).arrAt 4 (cfgs 0).N = val_main_v0 (F := Ideal) (m ((c : Thread nD τ).loc main_arg0)) := by
  refine (dats m 0 c).arrAt_eq_of_covers 4 _ (by decide +kernel) fun t hf y => ?_
  blk_simp
  rw [after0_4]
  unfold out0_4
  have key := core4 m c t (y 0) (y 1) (((cfg0.win 4).blk t).view.emb y) (by blk_simp [idx_val t]) (by blk_simp [idx_val t])
  rw [← eq_ix2 y] at key
  frame_out
  exact key

/-- Row `r` of block `t`, as stored by window 5, is row `t * 256 + r` of the reference. -/
theorem core5 (c : Dev nD) (t : Fin cfg0.N) (r : Fin 256) (l : Fin 704) (i : S1024x704.Idx)
    (h0 : (i 0 : ℕ) = t.val * 256 + r.val) (h1 : (i 1 : ℕ) = l.val) :
    k0_pay1 (k0_pay3 (View.ld (iblk m c 0 t) r0_0) (View.ld (iblk m c 0 t) r0_1) (View.ld (iblk m c 0 t) r0_2) (View.ld (iblk m c 0 t) r0_3) (iblk m c 2 t)) (k0_pay4 (View.ld (iblk m c 0 t) r0_0) (View.ld (iblk m c 0 t) r0_1) (View.ld (iblk m c 0 t) r0_2) (View.ld (iblk m c 0 t) r0_3) (iblk m c 3 t)) (iblk m c 1 t) (ix2 r l) = val_main_v24 (F := Ideal) (m ((c : Thread nD τ).loc main_arg0)) (m ((c : Thread nD τ).loc main_arg1)) (m ((c : Thread nD τ).loc main_arg2)) (m ((c : Thread nD τ).loc main_arg3)) i := by
  have g := core4 m c t r l i h0 h1
  pointwise [k0_pay1, k0_pay3, k0_pay4, val_main_cst, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [g]
  blk_point [iblk, V, idx_val t]

/-- The result array of window 5. -/
theorem final5 (c : Dev nD) : (dats m 0 c).arrAt 5 (cfgs 0).N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5 k0_pay5
  have key := core5 m c t (y 0) (y 1) (((cfg0.win 5).blk t).view.emb y) (by blk_simp [idx_val t]) (by blk_simp [idx_val t])
  rw [← eq_ix2 y] at key
  frame_out
  exact key

/-- Row `r` of block `t`, as stored by window 6, is row `t * 256 + r` of the reference. -/
theorem core6 (c : Dev nD) (t : Fin cfg0.N) (r : Fin 256) (l : Fin 704) (i : S1024x704.Idx)
    (h0 : (i 0 : ℕ) = t.val * 256 + r.val) (h1 : (i 1 : ℕ) = l.val) :
    k0_pay3 (View.ld (iblk m c 0 t) r0_0) (View.ld (iblk m c 0 t) r0_1) (View.ld (iblk m c 0 t) r0_2) (View.ld (iblk m c 0 t) r0_3) (iblk m c 2 t) (ix2 r l) = val_main_v5 (F := Ideal) (m ((c : Thread nD τ).loc main_arg0)) (m ((c : Thread nD τ).loc main_arg2)) i := by
  have g := core4 m c t r l i h0 h1
  pointwise [k0_pay3, k0_pay4, val_main_cst, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [g]
  blk_point [iblk, V, idx_val t]

/-- The result array of window 6. -/
theorem final6 (c : Dev nD) : (dats m 0 c).arrAt 6 (cfgs 0).N = val_main_v5 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  have key := core6 m c t (y 0) (y 1) (((cfg0.win 6).blk t).view.emb y) (by blk_simp [idx_val t]) (by blk_simp [idx_val t])
  rw [← eq_ix2 y] at key
  frame_out
  exact key

/-- Row `r` of block `t`, as stored by window 7, is row `t * 256 + r` of the reference. -/
theorem core7 (c : Dev nD) (t : Fin cfg0.N) (r : Fin 256) (l : Fin 704) (i : S1024x704.Idx)
    (h0 : (i 0 : ℕ) = t.val * 256 + r.val) (h1 : (i 1 : ℕ) = l.val) :
    k0_pay4 (View.ld (iblk m c 0 t) r0_0) (View.ld (iblk m c 0 t) r0_1) (View.ld (iblk m c 0 t) r0_2) (View.ld (iblk m c 0 t) r0_3) (iblk m c 3 t) (ix2 r l) = val_main_v11 (F := Ideal) (m ((c : Thread nD τ).loc main_arg0)) (m ((c : Thread nD τ).loc main_arg3)) i := by
  have g := core4 m c t r l i h0 h1
  pointwise [k0_pay3, k0_pay4, val_main_cst, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [g]
  blk_point [iblk, V, idx_val t]

/-- The result array of window 7. -/
theorem final7 (c : Dev nD) : (dats m 0 c).arrAt 7 (cfgs 0).N = val_main_v11 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  unfold out0_7 k0_pay5
  have key := core7 m c t (y 0) (y 1) (((cfg0.win 7).blk t).view.emb y) (by blk_simp [idx_val t]) (by blk_simp [idx_val t])
  rw [← eq_ix2 y] at key
  frame_out
  exact key

/-- The kernel's run with every result named by the reference's term. -/
theorem run (ρ : Dev nD → PrngReg) :
    θ_run defs (onTc (τ := τ) (main (F := Ideal))) ⟨m, fun _ => 0, ρ⟩ fun r => ∀ c : Dev nD,
      r.2.mem ((c : Thread nD τ).loc main_v1_0) = val_main_v0 (F := Ideal) (m ((c : Thread nD τ).loc main_arg0))
      ∧ r.2.mem ((c : Thread nD τ).loc main_v1_1) = val_main_v24 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v1_2) = val_main_v5 (F := Ideal) (m ((c : Thread nD τ).loc main_arg0)) (m ((c : Thread nD τ).loc main_arg2))
      ∧ r.2.mem ((c : Thread nD τ).loc main_v1_3) = val_main_v11 (F := Ideal) (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, hr⟩ := h c
    exact ⟨h4.trans (final4 m c), h5.trans (final5 m c), h6.trans (final6 m c), h7.trans (final7 m c), hr⟩) (run_blocks m ρ)

end Cert.AdamWIdeal.Value

namespace Cert.AdamWRefIdeal.Read
open Cert.AdamWRefIdeal Cert.AdamWRefIdeal.Gen

/-- The reference's run with every result named by its stage. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = val_main_v0 (F := Ideal) (m ((c : Thread nD τ).loc main_arg0))
      ∧ r.2.mem ((c.tc : Thread nD τ).loc main_v24) = val_main_v24 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v5) = val_main_v5 (F := Ideal) (m ((c : Thread nD τ).loc main_arg0)) (m ((c : Thread nD τ).loc main_arg2))
      ∧ r.2.mem ((c.tc : Thread nD τ).loc main_v11) = val_main_v11 (F := Ideal) (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h0, h1, h2, h3, hr⟩ := h c
    exact ⟨h0.trans (val_main_v0_eq _), h1.trans (val_main_v24_eq _ _ _ _), h2.trans (val_main_v5_eq _ _), h3.trans (val_main_v11_eq _ _), hr⟩) (Value.run m ρ)

/-- The reference terminates with its arguments unchanged. -/
theorem frame : Cert.quiescent_AdamWRefIdeal := fun m ρ _ =>
  (θ_run _ _ _).mono (fun r h => ⟨fun c => (h c).2.2.2.2, sem_eq_zero_of_no_sems rfl r.2⟩) (run_val m ρ)

end Cert.AdamWRefIdeal.Read

/-- The optimiser's call computes the new moments, the step and the summed gradient of the reference. -/
theorem Cert.AdamWIdeal.Value.algebraic : Cert.algebraic_AdamWIdeal_AdamWRefIdeal := by
  intro m g m' g' _ hag
  refine ⟨_, _, _, _, Cert.AdamWIdeal.Value.run m g, (θ_run _ _ _).mono (fun r h c => ?_) (Cert.AdamWRefIdeal.Read.run_val m' g')⟩
  obtain ⟨e0, e1, e2, e3⟩ := hag c
  obtain ⟨h0, h1, h2, h3, hr⟩ := h c
  simp only [e0, e1, e2, e3] at h0 h1 h2 h3
  exact ⟨h0, h1, h2, h3, hr⟩

end
-- ==== Proof.Products.lean ====
/- The plain products: every result is the reference's.  A product whose contraction is walked by several points of
the grid is summed in an accumulator; the reference contracts at once. -/
module

public import proofs.«01_k».proof.Proof.Gen.MixGatesIdeal.Value
public import proofs.«01_k».proof.Proof.Gen.MixGatesRefIdeal.Read
public import proofs.«01_k».proof.Proof.Gen.FfnDownIdeal.Value
public import proofs.«01_k».proof.Proof.Gen.FfnDownRefIdeal.Read
public import proofs.«01_k».proof.Proof.Gen.MixInBwdIdeal.Value
public import proofs.«01_k».proof.Proof.Gen.MixInBwdRefIdeal.Read
public import proofs.«01_k».proof.Proof.Gen.MixDwIdeal.Value
public import proofs.«01_k».proof.Proof.Gen.MixDwRefIdeal.Read
public import proofs.«01_k».proof.Proof.Gen.FfnDwOutIdeal.Value
public import proofs.«01_k».proof.Proof.Gen.FfnDwOutRefIdeal.Read
public import proofs.«01_k».proof.Proof.Gen.FfnDwInIdeal.Value
public import proofs.«01_k».proof.Proof.Gen.FfnDwInRefIdeal.Read
public import proofs.«01_k».proof.Proof.Gen.FfnInBwdIdeal.Value
public import proofs.«01_k».proof.Proof.Gen.FfnInBwdRefIdeal.Read
public import Idealize.ShloMosaic.Lib.Pipeline.ValueKit
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

/-! ## The mixer's forward product, for the gates' columns -/

namespace Cert.MixGatesIdeal.Value
open Cert.MixGatesIdeal Cert.MixGatesIdeal.Gen
open Cert.MixGatesRefIdeal.Read (val_main_v0 val_main_v1)

variable (m : (ℓ : Loc nD τ sig) → Buf (Elt Ideal) ℓ)

/-- The reference's product of the arguments. -/
abbrev ref (c : Dev nD) := val_main_v1 (F := Ideal) (m ((c : Thread nD τ).loc main_arg0)) (m ((c : Thread nD τ).loc main_arg1))

theorem idx_val : ∀ t : Fin cfg0.N, win0_0.index t = ![t.val / 4, 0] ∧ win0_1.index t = ![0, t.val % 4 + 7] ∧ win0_2.index t = ![t.val / 4, t.val % 4] :=
  (by decide +kernel : ∀ t : Fin grid0.N, _)

/-- The block of the weights at a point. -/
theorem w_at (c : Dev nD) (t : Fin cfg0.N) (k : Fin 1024) (l : Fin 512) :
    X0_1 m c t (ix2 k l) = m ((c : Thread nD τ).loc main_arg1) (ix2 k ⟨(t.val % 4 + 7) * 512 + l.val, by omega⟩) := by
  unfold X0_1 Pipeline.Window.fill
  rw [dif_pos (moved0_1 t _)]
  blk_point [iblk, V, idx_val t]

theorem final2 (c : Dev nD) : (dats m 0 c).arrAt 2 (cfgs 0).N = ref m c := by
  refine (dats m 0 c).arrAt_eq_of_covers 2 _ (by decide +kernel) fun t hf y => ?_
  blk_simp
  rw [after0_2]
  unfold outsAt0
  have key (r : Fin 1024) (l : Fin 512) (i : S8192x2048.Idx)
      (h0 : (i 0 : ℕ) = t.val / 4 * 1024 + r.val) (h1 : (i 1 : ℕ) = t.val % 4 * 512 + l.val) :
      k0_pay2 (k0_pay1 (F := Ideal)) (iblk m c 0 t) (X0_1 m c t) (ix2 r l) = ref m c i := by
    pointwise [k0_pay1, k0_pay2, val_main_v0, val_main_v1]
    simp only [zero_add, w_at]
    blk_point [iblk, V, idx_val t]
  have key := key (y 0) (y 1) (((cfg0.win 2).blk t).view.emb y) (by blk_simp [idx_val t]) (by blk_simp [idx_val t])
  rw [← eq_ix2 y] at key
  frame_out
  exact key

theorem run_ref (ρ : Dev nD → PrngReg) :
    θ_run defs (onTc (τ := τ) (main (F := Ideal))) ⟨m, fun _ => 0, ρ⟩ fun r => ∀ c : Dev nD,
      r.2.mem ((c : Thread nD τ).loc main_v2) = ref m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.MixGatesIdeal.Value

theorem Cert.MixGatesRefIdeal.Read.frame : Cert.quiescent_MixGatesRefIdeal := fun m ρ _ =>
  (θ_run _ _ _).mono (fun r h => ⟨fun c => (h c).2, sem_eq_zero_of_no_sems rfl r.2⟩) (Cert.MixGatesRefIdeal.Value.run m ρ)

theorem Cert.MixGatesIdeal.Value.algebraic : Cert.algebraic_MixGatesIdeal_MixGatesRefIdeal := by
  intro m g m' g' _ hag
  refine ⟨_, Cert.MixGatesIdeal.Value.run_ref m g, (θ_run _ _ _).mono (fun r h c => ?_) (Cert.MixGatesRefIdeal.Value.run m' g')⟩
  obtain ⟨e0, e1⟩ := hag c
  have h0 := (h c).1.trans (Cert.MixGatesRefIdeal.Read.val_main_v1_eq _ _)
  simp only [e0, e1] at h0
  exact ⟨h0, (h c).2⟩

/-! ## The down projection -/

namespace Cert.FfnDownIdeal.Value
open Cert.FfnDownIdeal Cert.FfnDownIdeal.Gen
open Cert.FfnDownRefIdeal.Read (val_main_v0)

variable (m : (ℓ : Loc nD τ sig) → Buf (Elt Ideal) ℓ)

/-- The reference's product of the arguments. -/
abbrev ref (c : Dev nD) := val_main_v0 (F := Ideal) (m ((c : Thread nD τ).loc main_arg0)) (m ((c : Thread nD τ).loc main_arg1))

theorem idx_val : ∀ t : Fin cfg0.N, win0_0.index t = ![t.val % 4, t.val / 4, 0] ∧ win0_1.index t = ![t.val % 4, 0, 0] ∧ win0_2.index t = ![t.val / 4, 0] :=
  (by decide +kernel : ∀ t : Fin grid0.N, _)

/-- The product of two blocks. -/
def part (a : Vec Ideal S1x1024x704 .bf16) (b : Vec Ideal S1x704x1024 .bf16) (j : S1024x1024.Idx) : EReal :=
  ∑ k : Fin 704, a (ix3 0 (j 0) k) * b (ix3 0 k (j 1))

/-- The accumulator after a run's last point: the sum over the run's points. -/
theorem acc_eq (c : Dev nD) (t : Fin cfg0.N) (hf : t.val % 4 = 3) (j : S1024x1024.Idx) :
    (outsAt0 m c t.val t.isLt).2 j = ∑ s : Fin 4, (fun p j => part (iblk m c 0 p) (iblk m c 1 p) j)
      ⟨4 * (t.val / 4) + s.val, Pipeline.run_point_lt_of_flush t hf s⟩ j := by
  have hpay (o : Vec Ideal S1024x1024 .f32) (a : Vec Ideal S1x1024x704 .bf16) (b : Vec Ideal S1x704x1024 .bf16) (j : S1024x1024.Idx) :
      k0_pay2 o a b j = o j + part a b j := by
    idx_vars j; pointwise [k0_pay2, part]
  have hzero (j : S1024x1024.Idx) : k0_pay1 (F := Ideal) j = 0 := by pointwise [k0_pay1]
  exact (Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      on_goal 1 => rw [outsAt0_C m c t h h1]
      on_goal 2 => rw [outsAt0_B m c t h h1]
      all_goals frame_out; rw [hpay]; exact congrArg (· + _) (congrFun (Memref.IsWhole.read_unread _ _) j)) t hf j).trans (zero_add _)

theorem final_ref (c : Dev nD) : (dats m 0 c).arrAt 2 (cfgs 0).N = ref m c := by
  refine (dats m 0 c).arrAt_eq_of_covers 2 _ (by decide +kernel) fun t hf y => ?_
  have hm := (flush0_2 t).mp hf
  have ho : (outsAt0 m c t.val t.isLt).1 = (outsAt0 m c t.val t.isLt).2 := by
    rw [outsAt0_C m c t (by omega) hm]; frame_out
  blk_simp
  rw [after0_2, ho]
  show (outsAt0 m c t.val t.isLt).2 y = _
  rw [acc_eq m c t hm]
  unfold part
  pointwise [val_main_v0]
  refine Fin.sum_mul_add_congr fun s k hl => ?_
  blk_point [iblk, V, idx_val t, idx_val ⟨_, Pipeline.run_point_lt_of_flush t hm s⟩]

theorem run_ref (ρ : Dev nD → PrngReg) :
    θ_run defs (onTc (τ := τ) (main (F := Ideal))) ⟨m, fun _ => 0, ρ⟩ fun r => ∀ c : Dev nD,
      r.2.mem ((c : Thread nD τ).loc main_v5) = ref m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final2 m c).symm.trans (final_ref m c)), (h c).2⟩) (run m ρ)

end Cert.FfnDownIdeal.Value

theorem Cert.FfnDownRefIdeal.Read.frame : Cert.quiescent_FfnDownRefIdeal := fun m ρ _ =>
  (θ_run _ _ _).mono (fun r h => ⟨fun c => (h c).2, sem_eq_zero_of_no_sems rfl r.2⟩) (Cert.FfnDownRefIdeal.Value.run m ρ)

theorem Cert.FfnDownIdeal.Value.algebraic : Cert.algebraic_FfnDownIdeal_FfnDownRefIdeal := by
  intro m g m' g' _ hag
  refine ⟨_, Cert.FfnDownIdeal.Value.run_ref m g, (θ_run _ _ _).mono (fun r h c => ?_) (Cert.FfnDownRefIdeal.Value.run m' g')⟩
  obtain ⟨e0, e1⟩ := hag c
  have h0 := (h c).1.trans (Cert.FfnDownRefIdeal.Read.val_main_v0_eq _ _)
  simp only [e0, e1] at h0
  exact ⟨h0, (h c).2⟩

/-! ## The gradient of the mixer's input -/

namespace Cert.MixInBwdIdeal.Value
open Cert.MixInBwdIdeal Cert.MixInBwdIdeal.Gen
open Cert.MixInBwdRefIdeal.Read (val_main_cst val_main_v0 val_main_v1 val_main_v2)

variable (m : (ℓ : Loc nD τ sig) → Buf (Elt Ideal) ℓ)

/-- The reference's product of the arguments. -/
abbrev ref (c : Dev nD) := val_main_v2 (F := Ideal) (m ((c : Thread nD τ).loc main_arg0)) (m ((c : Thread nD τ).loc main_arg1))

theorem idx_val : ∀ t : Fin cfg0.N, win0_0.index t = ![t.val / 5, t.val % 5] ∧ win0_1.index t = ![0, t.val % 5] ∧ win0_2.index t = ![t.val / 5, 0] :=
  (by decide +kernel : ∀ t : Fin grid0.N, _)

/-- The product of two blocks. -/
def part (a : Vec Ideal S1024x1152 .bf16) (b : Vec Ideal S1024x1152 .bf16) (j : S1024x1024.Idx) : EReal :=
  ∑ k : Fin 1152, a (ix2 (j 0) k) * b (ix2 (j 1) k)

/-- The accumulator after a run's last point: the sum over the run's points. -/
theorem acc_eq (c : Dev nD) (t : Fin cfg0.N) (hf : t.val % 5 = 4) (j : S1024x1024.Idx) :
    (outsAt0 m c t.val t.isLt).2 j = ∑ s : Fin 5, (fun p j => part (iblk m c 0 p) (iblk m c 1 p) j)
      ⟨5 * (t.val / 5) + s.val, Pipeline.run_point_lt_of_flush t hf s⟩ j := by
  have hpay (o : Vec Ideal S1024x1024 .f32) (a : Vec Ideal S1024x1152 .bf16) (b : Vec Ideal S1024x1152 .bf16) (j : S1024x1024.Idx) :
      k0_pay2 o a b j = o j + part a b j := by
    idx_vars j; pointwise [k0_pay2, part]
  have hzero (j : S1024x1024.Idx) : k0_pay1 (F := Ideal) j = 0 := by pointwise [k0_pay1]
  exact (Pipeline.eq_sum_fin_of_reset_step_apply_of_flush (fun n h => (outsAt0 m c n h).2) 5 (fun _ => 0) _
    (fun t h j => by rw [outsAt0_A m c t h (by omega)]; frame_out; rw [hpay, hzero])
    (fun t h j => by
      by_cases h1 : t.val % 5 = 4
      on_goal 1 => rw [outsAt0_C m c t h h1]
      on_goal 2 => rw [outsAt0_B m c t h h1]
      all_goals frame_out; rw [hpay]; exact congrArg (· + _) (congrFun (Memref.IsWhole.read_unread _ _) j)) t hf j).trans (zero_add _)

theorem final_ref (c : Dev nD) : (dats m 0 c).arrAt 2 (cfgs 0).N = ref m c := by
  refine (dats m 0 c).arrAt_eq_of_covers 2 _ (by decide +kernel) fun t hf y => ?_
  have hm := (flush0_2 t).mp hf
  have ho : (outsAt0 m c t.val t.isLt).1 = (outsAt0 m c t.val t.isLt).2 := by
    rw [outsAt0_C m c t (by omega) hm]; frame_out
  blk_simp
  rw [after0_2, ho]
  show (outsAt0 m c t.val t.isLt).2 y = _
  rw [acc_eq m c t hm]
  unfold part
  pointwise [val_main_cst, val_main_v0, val_main_v1, val_main_v2]
  refine Fin.sum_mul_add_congr fun s k hl => ?_
  blk_point [iblk, V, idx_val t, idx_val ⟨_, Pipeline.run_point_lt_of_flush t hm s⟩]

theorem run_ref (ρ : Dev nD → PrngReg) :
    θ_run defs (onTc (τ := τ) (main (F := Ideal))) ⟨m, fun _ => 0, ρ⟩ fun r => ∀ c : Dev nD,
      r.2.mem ((c : Thread nD τ).loc main_v2) = ref m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final2 m c).symm.trans (final_ref m c)), (h c).2⟩) (run m ρ)

end Cert.MixInBwdIdeal.Value

theorem Cert.MixInBwdRefIdeal.Read.frame : Cert.quiescent_MixInBwdRefIdeal := fun m ρ _ =>
  (θ_run _ _ _).mono (fun r h => ⟨fun c => (h c).2, sem_eq_zero_of_no_sems rfl r.2⟩) (Cert.MixInBwdRefIdeal.Value.run m ρ)

theorem Cert.MixInBwdIdeal.Value.algebraic : Cert.algebraic_MixInBwdIdeal_MixInBwdRefIdeal := by
  intro m g m' g' _ hag
  refine ⟨_, Cert.MixInBwdIdeal.Value.run_ref m g, (θ_run _ _ _).mono (fun r h c => ?_) (Cert.MixInBwdRefIdeal.Value.run m' g')⟩
  obtain ⟨e0, e1⟩ := hag c
  have h0 := (h c).1.trans (Cert.MixInBwdRefIdeal.Read.val_main_v2_eq _ _)
  simp only [e0, e1] at h0
  exact ⟨h0, (h c).2⟩

/-! ## The gradient of the mixer's weights -/

namespace Cert.MixDwIdeal.Value
open Cert.MixDwIdeal Cert.MixDwIdeal.Gen
open Cert.MixDwRefIdeal.Read (val_main_cst val_main_v0 val_main_v1 val_main_v2 val_main_v3 val_main_v4)

variable (m : (ℓ : Loc nD τ sig) → Buf (Elt Ideal) ℓ)

/-- The reference's product of the arguments. -/
abbrev ref (c : Dev nD) := val_main_v4 (F := Ideal) (m ((c : Thread nD τ).loc main_arg0)) (m ((c : Thread nD τ).loc main_arg1))

theorem idx_val : ∀ t : Fin cfg0.N, win0_0.index t = ![t.val % 8, 0] ∧ win0_1.index t = ![t.val % 8, t.val / 8] ∧ win0_2.index t = ![0, t.val / 8] :=
  (by decide +kernel : ∀ t : Fin grid0.N, _)

/-- The product of two blocks. -/
def part (a : Vec Ideal S1024x1024 .bf16) (b : Vec Ideal S1024x640 .bf16) (j : S1024x640.Idx) : EReal :=
  ∑ k : Fin 1024, a (ix2 k (j 0)) * b (ix2 k (j 1))

/-- The accumulator after a run's last point: the sum over the run's points. -/
theorem acc_eq (c : Dev nD) (t : Fin cfg0.N) (hf : t.val % 8 = 7) (j : S1024x640.Idx) :
    (outsAt0 m c t.val t.isLt).2 j = ∑ s : Fin 8, (fun p j => part (iblk m c 0 p) (iblk m c 1 p) j)
      ⟨8 * (t.val / 8) + s.val, Pipeline.run_point_lt_of_flush t hf s⟩ j := by
  have hpay (o : Vec Ideal S1024x640 .f32) (a : Vec Ideal S1024x1024 .bf16) (b : Vec Ideal S1024x640 .bf16) (j : S1024x640.Idx) :
      k0_pay2 o a b j = o j + part a b j := by
    idx_vars j; pointwise [k0_pay2, part]
  have hzero (j : S1024x640.Idx) : k0_pay1 (F := Ideal) j = 0 := by pointwise [k0_pay1]
  exact (Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      on_goal 1 => rw [outsAt0_C m c t h h1]
      on_goal 2 => rw [outsAt0_B m c t h h1]
      all_goals frame_out; rw [hpay]; exact congrArg (· + _) (congrFun (Memref.IsWhole.read_unread _ _) j)) t hf j).trans (zero_add _)

theorem final_ref (c : Dev nD) : (dats m 0 c).arrAt 2 (cfgs 0).N = ref m c := by
  refine (dats m 0 c).arrAt_eq_of_covers 2 _ (by decide +kernel) fun t hf y => ?_
  have hm := (flush0_2 t).mp hf
  have ho : (outsAt0 m c t.val t.isLt).1 = k0_pay3 (outsAt0 m c t.val t.isLt).2 := by
    rw [outsAt0_C m c t (by omega) hm]; frame_out
  blk_simp
  rw [after0_2, ho]
  idx_vars y
  rw [show ∀ o : Vec Ideal S1024x640 .f32, k0_pay3 o (ix2 y0 y1) = o (ix2 y0 y1) from fun o => by pointwise [k0_pay3], acc_eq m c t hm]
  unfold part
  pointwise [val_main_cst, val_main_v0, val_main_v1, val_main_v2, val_main_v3, val_main_v4]
  refine Fin.sum_mul_add_congr fun s k hl => ?_
  show (_ * _ : EReal) = _
  rw [mul_comm]
  blk_point [iblk, V, idx_val t, idx_val ⟨_, Pipeline.run_point_lt_of_flush t hm s⟩]

theorem run_ref (ρ : Dev nD → PrngReg) :
    θ_run defs (onTc (τ := τ) (main (F := Ideal))) ⟨m, fun _ => 0, ρ⟩ fun r => ∀ c : Dev nD,
      r.2.mem ((c : Thread nD τ).loc main_v2) = ref m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final2 m c).symm.trans (final_ref m c)), (h c).2⟩) (run m ρ)

end Cert.MixDwIdeal.Value

theorem Cert.MixDwRefIdeal.Read.frame : Cert.quiescent_MixDwRefIdeal := fun m ρ _ =>
  (θ_run _ _ _).mono (fun r h => ⟨fun c => (h c).2, sem_eq_zero_of_no_sems rfl r.2⟩) (Cert.MixDwRefIdeal.Value.run m ρ)

theorem Cert.MixDwIdeal.Value.algebraic : Cert.algebraic_MixDwIdeal_MixDwRefIdeal := by
  intro m g m' g' _ hag
  refine ⟨_, Cert.MixDwIdeal.Value.run_ref m g, (θ_run _ _ _).mono (fun r h c => ?_) (Cert.MixDwRefIdeal.Value.run m' g')⟩
  obtain ⟨e0, e1⟩ := hag c
  have h0 := (h c).1.trans (Cert.MixDwRefIdeal.Read.val_main_v4_eq _ _)
  simp only [e0, e1] at h0
  exact ⟨h0, (h c).2⟩

/-! ## The gradient of the down projection's weights -/

namespace Cert.FfnDwOutIdeal.Value
open Cert.FfnDwOutIdeal Cert.FfnDwOutIdeal.Gen
open Cert.FfnDwOutRefIdeal.Read (val_main_cst val_main_v0 val_main_v1 val_main_v2 val_main_v3 val_main_v4 val_main_v5)

variable (m : (ℓ : Loc nD τ sig) → Buf (Elt Ideal) ℓ)

/-- The reference's product of the arguments. -/
abbrev ref (c : Dev nD) := val_main_v5 (F := Ideal) (m ((c : Thread nD τ).loc main_arg0)) (m ((c : Thread nD τ).loc main_arg1))

theorem idx_val : ∀ t : Fin cfg0.N, win0_0.index t = ![t.val / 8, t.val % 8, 0] ∧ win0_1.index t = ![t.val % 8, 0] ∧ win0_2.index t = ![t.val / 8, 0, 0] :=
  (by decide +kernel : ∀ t : Fin grid0.N, _)

/-- The product of two blocks. -/
def part (a : Vec Ideal S1x1024x704 .bf16) (b : Vec Ideal S1024x1024 .bf16) (j : S704x1024.Idx) : EReal :=
  ∑ k : Fin 1024, a (ix3 0 k (j 0)) * b (ix2 k (j 1))

/-- The accumulator after a run's last point: the sum over the run's points. -/
theorem acc_eq (c : Dev nD) (t : Fin cfg0.N) (hf : t.val % 8 = 7) (j : S704x1024.Idx) :
    (outsAt0 m c t.val t.isLt).2 j = ∑ s : Fin 8, (fun p j => part (iblk m c 0 p) (iblk m c 1 p) j)
      ⟨8 * (t.val / 8) + s.val, Pipeline.run_point_lt_of_flush t hf s⟩ j := by
  have hpay (o : Vec Ideal S704x1024 .f32) (a : Vec Ideal S1x1024x704 .bf16) (b : Vec Ideal S1024x1024 .bf16) (j : S704x1024.Idx) :
      k0_pay2 o a b j = o j + part a b j := by
    idx_vars j; pointwise [k0_pay2, part]
  have hzero (j : S704x1024.Idx) : k0_pay1 (F := Ideal) j = 0 := by pointwise [k0_pay1]
  exact (Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      on_goal 1 => rw [outsAt0_C m c t h h1]
      on_goal 2 => rw [outsAt0_B m c t h h1]
      all_goals frame_out; rw [hpay]; exact congrArg (· + _) (congrFun (Memref.IsWhole.read_unread _ _) j)) t hf j).trans (zero_add _)

theorem final_ref (c : Dev nD) : (dats m 0 c).arrAt 2 (cfgs 0).N = ref m c := by
  refine (dats m 0 c).arrAt_eq_of_covers 2 _ (by decide +kernel) fun t hf y => ?_
  have hm := (flush0_2 t).mp hf
  have ho : (outsAt0 m c t.val t.isLt).1 = k0_pay3 (outsAt0 m c t.val t.isLt).2 := by
    rw [outsAt0_C m c t (by omega) hm]; frame_out
  blk_simp
  rw [after0_2, ho]
  idx_vars y
  rw [Fin.fin_one_eq_zero y0, show ∀ o : Vec Ideal S704x1024 .f32, k0_pay3 o (ix3 0 y1 y2) = o (ix2 y1 y2) from fun o => by pointwise [k0_pay3],
    acc_eq m c t hm]
  unfold part
  pointwise [val_main_cst, val_main_v0, val_main_v1, val_main_v2, val_main_v3, val_main_v4, val_main_v5]
  refine Fin.sum_mul_add_congr fun s k hl => ?_
  show (_ * _ : EReal) = _
  rw [mul_comm]
  blk_point [iblk, V, idx_val t, idx_val ⟨_, Pipeline.run_point_lt_of_flush t hm s⟩]

theorem run_ref (ρ : Dev nD → PrngReg) :
    θ_run defs (onTc (τ := τ) (main (F := Ideal))) ⟨m, fun _ => 0, ρ⟩ fun r => ∀ c : Dev nD,
      r.2.mem ((c : Thread nD τ).loc main_v4) = ref m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final2 m c).symm.trans (final_ref m c)), (h c).2⟩) (run m ρ)

end Cert.FfnDwOutIdeal.Value

theorem Cert.FfnDwOutRefIdeal.Read.frame : Cert.quiescent_FfnDwOutRefIdeal := fun m ρ _ =>
  (θ_run _ _ _).mono (fun r h => ⟨fun c => (h c).2, sem_eq_zero_of_no_sems rfl r.2⟩) (Cert.FfnDwOutRefIdeal.Value.run m ρ)

theorem Cert.FfnDwOutIdeal.Value.algebraic : Cert.algebraic_FfnDwOutIdeal_FfnDwOutRefIdeal := by
  intro m g m' g' _ hag
  refine ⟨_, Cert.FfnDwOutIdeal.Value.run_ref m g, (θ_run _ _ _).mono (fun r h c => ?_) (Cert.FfnDwOutRefIdeal.Value.run m' g')⟩
  obtain ⟨e0, e1⟩ := hag c
  have h0 := (h c).1.trans (Cert.FfnDwOutRefIdeal.Read.val_main_v5_eq _ _)
  simp only [e0, e1] at h0
  exact ⟨h0, (h c).2⟩

/-! ## The gradient of the up projection's weights -/

namespace Cert.FfnDwInIdeal.Value
open Cert.FfnDwInIdeal Cert.FfnDwInIdeal.Gen
open Cert.FfnDwInRefIdeal.Read (val_main_cst val_main_v0 val_main_v1 val_main_v2 val_main_v3 val_main_v4 val_main_v5 val_main_v6)

variable (m : (ℓ : Loc nD τ sig) → Buf (Elt Ideal) ℓ)

/-- The reference's product of the arguments. -/
abbrev ref (c : Dev nD) := val_main_v6 (F := Ideal) (m ((c : Thread nD τ).loc main_arg0)) (m ((c : Thread nD τ).loc main_arg1))

theorem idx_val : ∀ t : Fin cfg0.N, win0_0.index t = ![t.val % 8, 0] ∧ win0_1.index t = ![t.val / 8, t.val % 8, 0] ∧ win0_2.index t = ![t.val / 8, 0, 0] :=
  (by decide +kernel : ∀ t : Fin grid0.N, _)

/-- The product of two blocks. -/
def part (a : Vec Ideal S1024x1024 .bf16) (b : Vec Ideal S1x1024x704 .bf16) (j : S1024x704.Idx) : EReal :=
  ∑ k : Fin 1024, a (ix2 k (j 0)) * b (ix3 0 k (j 1))

/-- The accumulator after a run's last point: the sum over the run's points. -/
theorem acc_eq (c : Dev nD) (t : Fin cfg0.N) (hf : t.val % 8 = 7) (j : S1024x704.Idx) :
    (outsAt0 m c t.val t.isLt).2 j = ∑ s : Fin 8, (fun p j => part (iblk m c 0 p) (iblk m c 1 p) j)
      ⟨8 * (t.val / 8) + s.val, Pipeline.run_point_lt_of_flush t hf s⟩ j := by
  have hpay (o : Vec Ideal S1024x704 .f32) (a : Vec Ideal S1024x1024 .bf16) (b : Vec Ideal S1x1024x704 .bf16) (j : S1024x704.Idx) :
      k0_pay2 o a b j = o j + part a b j := by
    idx_vars j; pointwise [k0_pay2, part]
  have hzero (j : S1024x704.Idx) : k0_pay1 (F := Ideal) j = 0 := by pointwise [k0_pay1]
  exact (Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      on_goal 1 => rw [outsAt0_C m c t h h1]
      on_goal 2 => rw [outsAt0_B m c t h h1]
      all_goals frame_out; rw [hpay]; exact congrArg (· + _) (congrFun (Memref.IsWhole.read_unread _ _) j)) t hf j).trans (zero_add _)

theorem final_ref (c : Dev nD) : (dats m 0 c).arrAt 2 (cfgs 0).N = ref m c := by
  refine (dats m 0 c).arrAt_eq_of_covers 2 _ (by decide +kernel) fun t hf y => ?_
  have hm := (flush0_2 t).mp hf
  have ho : (outsAt0 m c t.val t.isLt).1 = k0_pay3 (outsAt0 m c t.val t.isLt).2 := by
    rw [outsAt0_C m c t (by omega) hm]; frame_out
  blk_simp
  rw [after0_2, ho]
  idx_vars y
  rw [Fin.fin_one_eq_zero y0, show ∀ o : Vec Ideal S1024x704 .f32, k0_pay3 o (ix3 0 y1 y2) = o (ix2 y1 y2) from fun o => by pointwise [k0_pay3],
    acc_eq m c t hm]
  unfold part
  pointwise [val_main_cst, val_main_v0, val_main_v1, val_main_v2, val_main_v3, val_main_v4, val_main_v5, val_main_v6]
  refine Fin.sum_mul_add_congr fun s k hl => ?_
  show (_ * _ : EReal) = _
  rw [mul_comm]
  blk_point [iblk, V, idx_val t, idx_val ⟨_, Pipeline.run_point_lt_of_flush t hm s⟩]

theorem run_ref (ρ : Dev nD → PrngReg) :
    θ_run defs (onTc (τ := τ) (main (F := Ideal))) ⟨m, fun _ => 0, ρ⟩ fun r => ∀ c : Dev nD,
      r.2.mem ((c : Thread nD τ).loc main_v4) = ref m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final2 m c).symm.trans (final_ref m c)), (h c).2⟩) (run m ρ)

end Cert.FfnDwInIdeal.Value

theorem Cert.FfnDwInRefIdeal.Read.frame : Cert.quiescent_FfnDwInRefIdeal := fun m ρ _ =>
  (θ_run _ _ _).mono (fun r h => ⟨fun c => (h c).2, sem_eq_zero_of_no_sems rfl r.2⟩) (Cert.FfnDwInRefIdeal.Value.run m ρ)

theorem Cert.FfnDwInIdeal.Value.algebraic : Cert.algebraic_FfnDwInIdeal_FfnDwInRefIdeal := by
  intro m g m' g' _ hag
  refine ⟨_, Cert.FfnDwInIdeal.Value.run_ref m g, (θ_run _ _ _).mono (fun r h c => ?_) (Cert.FfnDwInRefIdeal.Value.run m' g')⟩
  obtain ⟨e0, e1⟩ := hag c
  have h0 := (h c).1.trans (Cert.FfnDwInRefIdeal.Read.val_main_v6_eq _ _)
  simp only [e0, e1] at h0
  exact ⟨h0, (h c).2⟩

/-! ## The gradient of the up projection's input -/

namespace Cert.FfnInBwdIdeal.Value
open Cert.FfnInBwdIdeal Cert.FfnInBwdIdeal.Gen
open Cert.FfnInBwdRefIdeal.Read (val_main_cst val_main_v0 val_main_v1 val_main_v2)

variable (m : (ℓ : Loc nD τ sig) → Buf (Elt Ideal) ℓ)

/-- The reference's product of the arguments. -/
abbrev ref (c : Dev nD) := val_main_v2 (F := Ideal) (m ((c : Thread nD τ).loc main_arg0)) (m ((c : Thread nD τ).loc main_arg1))

theorem idx_val : ∀ t : Fin cfg0.N, win0_0.index t = ![t.val % 8, t.val / 8, 0] ∧ win0_1.index t = ![t.val % 8, 0, 0] ∧ win0_2.index t = ![t.val / 8, 0] :=
  (by decide +kernel : ∀ t : Fin grid0.N, _)

/-- The product of two blocks. -/
def part (a : Vec Ideal S1x1024x704 .bf16) (b : Vec Ideal S1x1024x704 .bf16) (j : S1024x1024.Idx) : EReal :=
  ∑ k : Fin 704, a (ix3 0 (j 0) k) * b (ix3 0 (j 1) k)

/-- The accumulator after a run's last point: the sum over the run's points. -/
theorem acc_eq (c : Dev nD) (t : Fin cfg0.N) (hf : t.val % 8 = 7) (j : S1024x1024.Idx) :
    (outsAt0 m c t.val t.isLt).2 j = ∑ s : Fin 8, (fun p j => part (iblk m c 0 p) (iblk m c 1 p) j)
      ⟨8 * (t.val / 8) + s.val, Pipeline.run_point_lt_of_flush t hf s⟩ j := by
  have hpay (o : Vec Ideal S1024x1024 .f32) (a : Vec Ideal S1x1024x704 .bf16) (b : Vec Ideal S1x1024x704 .bf16) (j : S1024x1024.Idx) :
      k0_pay2 o a b j = o j + part a b j := by
    idx_vars j; pointwise [k0_pay2, part]
  have hzero (j : S1024x1024.Idx) : k0_pay1 (F := Ideal) j = 0 := by pointwise [k0_pay1]
  exact (Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      on_goal 1 => rw [outsAt0_C m c t h h1]
      on_goal 2 => rw [outsAt0_B m c t h h1]
      all_goals frame_out; rw [hpay]; exact congrArg (· + _) (congrFun (Memref.IsWhole.read_unread _ _) j)) t hf j).trans (zero_add _)

theorem final_ref (c : Dev nD) : (dats m 0 c).arrAt 2 (cfgs 0).N = ref m c := by
  refine (dats m 0 c).arrAt_eq_of_covers 2 _ (by decide +kernel) fun t hf y => ?_
  have hm := (flush0_2 t).mp hf
  have ho : (outsAt0 m c t.val t.isLt).1 = (outsAt0 m c t.val t.isLt).2 := by
    rw [outsAt0_C m c t (by omega) hm]; frame_out
  blk_simp
  rw [after0_2, ho]
  show (outsAt0 m c t.val t.isLt).2 y = _
  rw [acc_eq m c t hm]
  unfold part
  pointwise [val_main_cst, val_main_v0, val_main_v1, val_main_v2]
  refine Fin.sum_mul_add_congr fun s k hl => ?_
  blk_point [iblk, V, idx_val t, idx_val ⟨_, Pipeline.run_point_lt_of_flush t hm s⟩]

theorem run_ref (ρ : Dev nD → PrngReg) :
    θ_run defs (onTc (τ := τ) (main (F := Ideal))) ⟨m, fun _ => 0, ρ⟩ fun r => ∀ c : Dev nD,
      r.2.mem ((c : Thread nD τ).loc main_v6) = ref m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final2 m c).symm.trans (final_ref m c)), (h c).2⟩) (run m ρ)

end Cert.FfnInBwdIdeal.Value

theorem Cert.FfnInBwdRefIdeal.Read.frame : Cert.quiescent_FfnInBwdRefIdeal := fun m ρ _ =>
  (θ_run _ _ _).mono (fun r h => ⟨fun c => (h c).2, sem_eq_zero_of_no_sems rfl r.2⟩) (Cert.FfnInBwdRefIdeal.Value.run m ρ)

theorem Cert.FfnInBwdIdeal.Value.algebraic : Cert.algebraic_FfnInBwdIdeal_FfnInBwdRefIdeal := by
  intro m g m' g' _ hag
  refine ⟨_, Cert.FfnInBwdIdeal.Value.run_ref m g, (θ_run _ _ _).mono (fun r h c => ?_) (Cert.FfnInBwdRefIdeal.Value.run m' g')⟩
  obtain ⟨e0, e1⟩ := hag c
  have h0 := (h c).1.trans (Cert.FfnInBwdRefIdeal.Read.val_main_v2_eq _ _)
  simp only [e0, e1] at h0
  exact ⟨h0, (h c).2⟩

end
-- ==== Proof.Pair.lean ====
/- The sum of a core's and its sibling's gradients: the core's number picks one half of the core's blocks, so that under
the precondition every block is inside its array, and the result is the reference's. -/
module

public import proofs.«01_k».proof.Proof.Gen.PairAdd.Frame
public import proofs.«01_k».proof.Proof.Gen.PairAddIdeal.Frame
public import proofs.«01_k».proof.Proof.Gen.PairAddRefIdeal.Read
public import proofs.«01_k».proof.Proof.Gen.Pre_core_index
public import Idealize.ShloMosaic.Lib.Pipeline.ValueKit
public import proofs.«01_k».proof.Defs

@[expose] public section

set_option maxRecDepth 16384

noncomputable section

open Idealize.ShloMosaic Idealize.ShloMosaic.TcCoe Idealize.SL.Sem
open Idealize.ShloMosaic.Pipeline (Dat)

/-- What the predicate says of the core's number. -/
theorem Cert.Pre_core_index.word {F : FTy → Type} [FloatOps F] {w : IVec S1 32} {x : FVec F S8x1024x704 .f32} {y : FVec F S4x1024x704 .f32}
    (h : fn (F := F) w x y = fun _ => 1#1) : ∃ b : Fin 2, ∀ j : S1.Idx, w j = BitVec.ofNat 32 b.val := by
  have e := congrFun h (ix1 0)
  have ho : ∀ p q : Bool, IntOp.ori (BitVec.ofBool p) (BitVec.ofBool q) = 1#1 ↔ p = true ∨ q = true := by decide
  simp only [fn, ori, cmpi, broadcastInDim, constantI, IntOp.cmpi, ho, beq_iff_eq] at e
  have hj (j : S1.Idx) : j = ix1 0 := (eq_ix1 j).trans (congrArg ix1 (Subsingleton.elim (α := Fin 1) _ _))
  exact e.elim (fun e => ⟨0, fun j => hj j ▸ e⟩) fun e => ⟨1, fun j => hj j ▸ e⟩

namespace Cert.PairAdd.Gen
open Cert.PairAdd

/-- The core's number picks the half of a block. -/
theorem half_index {F : FTy → Type} [FloatOps F] (pf : pre0.Contents (Elt F)) (b : Fin 2) (hb : ∀ j : S1.Idx, pf 0 j = BitVec.ofNat 32 b.val) (i : grid0.Coords) :
    cc0_transform_0 inb_S1_S1_0 numel1_S1 pf i = ![(i 0).val, b.val, (i 1).val, 0] := by
  have e4 (n : Fin 4) : (BitVec.ofNat 32 n.val).toNat = n.val := by revert n; decide
  have e2 (n : Fin 2) : (BitVec.ofNat 32 n.val).toNat = n.val := by revert n; decide
  unfold cc0_transform_0
  simp only [show Pipeline.Prefetch.Contents.at pf 0 (Rect.unit (s := S1) ![0] S1.size inb_S1_S1_0) numel1_S1 = BitVec.ofNat 32 b.val from hb _]
  funext a
  fin_cases a
  · exact e4 (i 0)
  · exact e2 b
  · exact e4 (i 1)
  · rfl

theorem ok_of_pre (m : (ℓ : Loc nD τ sig) → Buf (Elt Bits) ℓ) (h : Cert.Pre_PairAdd m) : Ok m := fun i => by
  obtain ⟨b, hb⟩ := Cert.Pre_core_index.word (h 0)
  rw [half_index (tbl m) b hb i]
  exact ⟨(by decide +kernel : ∀ (b : Fin 2) (i : grid0.Coords) (a : Fin 4), ((![(i 0).val, b.val, (i 1).val, 0] : Fin 4 → ℕ) a + 1) * S1x1x256x704.size a ≤ S4x2x1024x704.size a) b i,
    .inr (Affine.block_words_dvd (of_decide_eq_true rfl) (by decide))⟩

end Cert.PairAdd.Gen

namespace Cert.PairAddIdeal.Gen
open Cert.PairAddIdeal

/-- The core's number picks the half of a block. -/
theorem half_index {F : FTy → Type} [FloatOps F] (pf : pre0.Contents (Elt F)) (b : Fin 2) (hb : ∀ j : S1.Idx, pf 0 j = BitVec.ofNat 32 b.val) (i : grid0.Coords) :
    cc0_transform_0 inb_S1_S1_0 numel1_S1 pf i = ![(i 0).val, b.val, (i 1).val, 0] := by
  have e4 (n : Fin 4) : (BitVec.ofNat 32 n.val).toNat = n.val := by revert n; decide
  have e2 (n : Fin 2) : (BitVec.ofNat 32 n.val).toNat = n.val := by revert n; decide
  unfold cc0_transform_0
  simp only [show Pipeline.Prefetch.Contents.at pf 0 (Rect.unit (s := S1) ![0] S1.size inb_S1_S1_0) numel1_S1 = BitVec.ofNat 32 b.val from hb _]
  funext a
  fin_cases a
  · exact e4 (i 0)
  · exact e2 b
  · exact e4 (i 1)
  · rfl

theorem ok_of_pre (m : (ℓ : Loc nD τ sig) → Buf (Elt Ideal) ℓ) (h : Cert.Pre_PairAddIdeal m) : Ok m := fun i => by
  obtain ⟨b, hb⟩ := Cert.Pre_core_index.word (h 0)
  rw [half_index (tbl m) b hb i]
  exact ⟨(by decide +kernel : ∀ (b : Fin 2) (i : grid0.Coords) (a : Fin 4), ((![(i 0).val, b.val, (i 1).val, 0] : Fin 4 → ℕ) a + 1) * S1x1x256x704.size a ≤ S4x2x1024x704.size a) b i,
    .inr (Affine.block_words_dvd (of_decide_eq_true rfl) (by decide))⟩

open Cert.PairAddRefIdeal.Read (val_main_v0 val_main_v1 val_main_c val_main_v2 val_main_v3 val_main_v4 val_main_v5 val_main_v6 val_main_v7 val_main_v8 val_main_v9)

variable (m : (ℓ : Loc nD τ sig) → Buf (Elt Ideal) ℓ) (hO : Ok m)

/-- The reference's result of the arguments. -/
abbrev ref (c : Dev nD) := val_main_v9 (F := Ideal) (m ((c : Thread nD τ).loc main_arg0)) (m ((c : Thread nD τ).loc main_arg1)) (m ((c : Thread nD τ).loc main_arg2))

/-- The grid's two coordinates. -/
theorem coords_val : ∀ t : Fin grid0.N, (grid0.coords t 0).val = t.val / 4 ∧ (grid0.coords t 1).val = t.val % 4 := by decide +kernel

theorem idx_val (t : Fin (cfgM m hO).N) : ((cfgM m hO).win 1).index t = ![t.val / 4, t.val % 4, 0] ∧ ((cfgM m hO).win 2).index t = ![t.val / 4, t.val % 4, 0] :=
  (by decide +kernel : ∀ t : Fin grid0.N, cc0_transform_1 (grid0.coords t) = ![t.val / 4, t.val % 4, 0] ∧ cc0_transform_2 (grid0.coords t) = ![t.val / 4, t.val % 4, 0]) t

/-- The results' blocks cover the result. -/
theorem covers : Pipeline.Window.Covers ((cfgM m hO).win 2) :=
  ⟨(by decide : ∀ a : Fin 3, 0 < S1x256x704.size a), fun β => by
    have b0 : (β (0 : Fin 3)).val < 4 :=
      lt_of_lt_of_eq (β (0 : Fin 3)).isLt (show (S4x1024x704.size 0 + S1x256x704.size 0 - 1) / S1x256x704.size 0 = 4 by decide)
    have b1 : (β (1 : Fin 3)).val < 4 :=
      lt_of_lt_of_eq (β (1 : Fin 3)).isLt (show (S4x1024x704.size 1 + S1x256x704.size 1 - 1) / S1x256x704.size 1 = 4 by decide)
    have b2 : (β (2 : Fin 3)).val < 1 :=
      lt_of_lt_of_eq (β (2 : Fin 3)).isLt (show (S4x1024x704.size 2 + S1x256x704.size 2 - 1) / S1x256x704.size 2 = 1 by decide)
    refine ⟨⟨(β (0 : Fin 3)).val * 4 + (β (1 : Fin 3)).val, show _ < 16 by omega⟩, flush0_2 _ _, fun (a : Fin 3) => ⟨?_, .inl rfl⟩⟩
    refine (congrFun (idx_val m hO _).2 a).trans ?_
    fin_cases a
    · show ((β (0 : Fin 3)).val * 4 + (β (1 : Fin 3)).val) / 4 = (β (0 : Fin 3)).val; omega
    · show ((β (0 : Fin 3)).val * 4 + (β (1 : Fin 3)).val) % 4 = (β (1 : Fin 3)).val; omega
    · show 0 = (β (2 : Fin 3)).val; omega⟩

/-- A block of the sum. -/
theorem pay (a : Vec Ideal S1x1x256x704 .bf16) (b : Vec Ideal S1x256x704 .bf16) (r : Fin 256) (l : Fin 704) :
    k0_pay1 a b (ix3 0 r l) = (a (ix4 0 0 r l) : EReal) + b (ix3 0 r l) := by
  pointwise [k0_pay1]

section
variable (c : Dev nD) (t : Fin (cfgM m hO).N) (r : Fin 256) (l : Fin 704) (i : S4x1024x704.Idx)
  (h0 : (i 0).val = t.val / 4) (h1 : (i 1).val = t.val % 4 * 256 + r.val) (h2 : (i 2).val = l.val)
include h0 h1 h2

theorem got_at : (iblk m hO c 1 t (ix3 0 r l) : EReal) = m ((c : Thread nD τ).loc main_arg2) i := by
  have e : ((((cfgM m hO).win 1).blk t).view.emb (ix3 0 r l) : S4x1024x704.Idx) = i := funext fun a => Fin.ext <|
    (((cfgM m hO).win 1).rect_emb_val t (ix3 0 r l) a).trans <| (congrArg (fun f => f a * S1x256x704.size a + (ix3 (0 : Fin 1) r l a).val) (idx_val m hO t).1).trans <| by
      fin_cases a
      · show t.val / 4 * 1 + 0 = (i 0).val; omega
      · show t.val % 4 * 256 + r.val = (i 1).val; omega
      · show 0 * 704 + l.val = (i 2).val; omega
  exact congrArg (V m c main_v1) e

theorem mine_at (b : Fin 2) (hb : ∀ j : S1.Idx, tbl m 0 j = BitVec.ofNat 32 b.val) :
    (iblk m hO c 0 t (ix4 0 0 r l) : EReal) = m ((c : Thread nD τ).loc main_arg1) (ix3 ⟨(i 0).val * 2 + b.val, by have := (i 0).isLt; have := b.isLt; show _ < 8; have : (i 0).val < 4 := (i 0).isLt; omega⟩ (i 1) (i 2)) := by
  have e : ((((cfgM m hO).win 0).blk t).view.emb (ix4 0 0 r l) : S4x2x1024x704.Idx) = ix4 (i 0) b (i 1) (i 2) := funext fun a => Fin.ext <|
    (((cfgM m hO).win 0).rect_emb_val t (ix4 0 0 r l) a).trans <| (congrArg (fun f => f a * S1x1x256x704.size a + (ix4 (0 : Fin 1) (0 : Fin 1) r l a).val) (half_index (tbl m) b hb (grid0.coords t))).trans <| by
      have := coords_val t
      fin_cases a
      · show (grid0.coords t 0).val * 1 + 0 = (i 0).val; omega
      · show b.val * 1 + 0 = b.val; omega
      · show (grid0.coords t 1).val * 256 + r.val = (i 1).val; omega
      · show 0 * 704 + l.val = (i 2).val; omega
  refine (congrArg (V m c main_v2) e).trans ?_
  refine shapeCast_apply (m ((c : Thread nD τ).loc main_arg1)) shapeCasts_S8x1024x704_S4x2x1024x704 _ _ ?_
  exact (Shape.rowMajor_val_three _).trans (Shape.rowMajor_val_four (ix4 (i 0) b (i 1) (i 2))).symm

end

/-- The result array. -/
theorem final2 (c : Dev nD) (b : Fin 2) (hb : ∀ j : S1.Idx, tbl m 0 j = BitVec.ofNat 32 b.val) : (dats m hO 0 c).arrAt 2 (cfgM m hO).N = ref m c := by
  refine (dats m hO 0 c).arrAt_eq_of_covers 2 _ (covers m hO) fun t hf y => ?_
  blk_simp
  rw [after0_2]
  unfold outsAt0
  frame_out
  refine (congrFun (congrArg₂ k0_pay1 (Memref.IsWhole.read_unread _ _) (Memref.IsWhole.read_unread _ _)) y).trans ?_
  have key (r : Fin 256) (l : Fin 704) (i : S4x1024x704.Idx) (h0 : (i 0).val = t.val / 4) (h1 : (i 1).val = t.val % 4 * 256 + r.val) (h2 : (i 2).val = l.val) :
      k0_pay1 (iblk m hO c 0 t) (iblk m hO c 1 t) (ix3 0 r l) = ref m c i := by
    refine (pay _ _ r l).trans ?_
    pointwise [val_main_v0, val_main_v1, val_main_c, val_main_v2, val_main_v3, val_main_v4, val_main_v5, val_main_v6, val_main_v7, val_main_v8, val_main_v9]
    rw [got_at m hO c t r l i h0 h1 h2, mine_at m hO c t r l i h0 h1 h2 b hb]
    obtain rfl : c = 0 := Subsingleton.elim _ _
    rw [show m (((0 : Dev nD) : Thread nD τ).loc main_arg0) (ix1 0) = BitVec.ofNat 32 b.val from hb _]
    fin_cases b
    · rfl
    · rfl
  have e := idx_val m hO t
  have v (a : Fin 3) : ((((cfgM m hO).win 2).rect t).emb y a : ℕ) = ((cfgM m hO).win 2).index t a * S1x256x704.size a + (y a : ℕ) := ((cfgM m hO).win 2).rect_emb_val t y a
  rw [e.2] at v
  have y0 : (y (0 : Fin 3)).val < 1 := (y (0 : Fin 3)).isLt
  refine (congrArg _ ?_).trans (key (y (1 : Fin 3)) (y (2 : Fin 3)) (((cfgM m hO).win 2).rect t |>.emb y) ?_ ?_ ?_)
  · funext a; fin_cases a
    · exact Fin.ext (show (y (0 : Fin 3)).val = 0 by omega)
    · rfl
    · rfl
  · refine (v 0).trans ?_
    show t.val / 4 * 1 + (y (0 : Fin 3)).val = _; omega
  · exact v 1
  · refine (v 2).trans ?_
    show 0 * 704 + _ = _; omega

/-- The kernel's run, with the result named by the reference's term. -/
theorem run_ref (ρ : Dev nD → PrngReg) (h' : Cert.Pre_PairAddIdeal m) :
    θ_run defs (onTc (τ := τ) (main (F := Ideal))) ⟨m, fun _ => 0, ρ⟩ fun r => ∀ c : Dev nD,
      r.2.mem ((c : Thread nD τ).loc main_v3) = ref m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  obtain ⟨b, hb⟩ := Cert.Pre_core_index.word (h' 0)
  have hO := ok_of_pre m h'
  exact (θ_run defs _ _).mono (fun r h c => ⟨((h.1 c).1 2).trans (final2 m hO c b hb), h.2 c⟩) (θ_run_and (run_main m ρ hO) (unchanged m ρ hO))

end Cert.PairAddIdeal.Gen

theorem Cert.PairAddRefIdeal.Read.frame : Cert.quiescent_PairAddRefIdeal := fun m ρ _ =>
  (θ_run _ _ _).mono (fun r h => ⟨fun c => (h c).2, sem_eq_zero_of_no_sems rfl r.2⟩) (Cert.PairAddRefIdeal.Value.run m ρ)

theorem Cert.PairAddIdeal.Value.algebraic : Cert.algebraic_PairAddIdeal_PairAddRefIdeal := by
  intro m g m' g' hpre hag
  refine ⟨_, Cert.PairAddIdeal.Gen.run_ref m g hpre, (θ_run _ _ _).mono (fun r h c => ?_) (Cert.PairAddRefIdeal.Value.run m' g')⟩
  obtain ⟨e0, e1, e2⟩ := hag c
  have h0 := (h c).1.trans (Cert.PairAddRefIdeal.Read.val_main_v9_eq _ _ _)
  simp only [e0, e1, e2] at h0
  exact ⟨h0, (h c).2⟩

end
-- ==== Proof.lean ====
/- The claims of `Cert.Claim`: the frames of every program, and for every pair the value of each result. -/
module

public import proofs.«01_k».proof.Defs
public import proofs.«01_k».proof.Proof.Gen.MergeBwd
public import proofs.«01_k».proof.Proof.Gen.MergeBwdIdeal
public import proofs.«01_k».proof.Proof.Gen.MergeBwdRefIdeal
public import proofs.«01_k».proof.Proof.Gen.MergeBwd.Frame
public import proofs.«01_k».proof.Proof.Gen.MergeBwdIdeal.Frame
public import proofs.«01_k».proof.Proof.Gen.ActBwd
public import proofs.«01_k».proof.Proof.Gen.ActBwdIdeal
public import proofs.«01_k».proof.Proof.Gen.ActBwdRefIdeal
public import proofs.«01_k».proof.Proof.Gen.ActBwd.Frame
public import proofs.«01_k».proof.Proof.Gen.ActBwdIdeal.Frame
public import proofs.«01_k».proof.Proof.Gen.Pre_act_finite
public import proofs.«01_k».proof.Proof.Gen.ConvBwd
public import proofs.«01_k».proof.Proof.Gen.ConvBwdIdeal
public import proofs.«01_k».proof.Proof.Gen.ConvBwdRefIdeal
public import proofs.«01_k».proof.Proof.Gen.ConvBwd.Frame
public import proofs.«01_k».proof.Proof.Gen.ConvBwdIdeal.Frame
public import proofs.«01_k».proof.Proof.Gen.Pre_conv_finite
public import proofs.«01_k».proof.Proof.Gen.SbBwd
public import proofs.«01_k».proof.Proof.Gen.SbBwdIdeal
public import proofs.«01_k».proof.Proof.Gen.SbBwdRefIdeal
public import proofs.«01_k».proof.Proof.Gen.Pre_sb_finite
public import proofs.«01_k».proof.Proof.Gen.FfnLnBwd
public import proofs.«01_k».proof.Proof.Gen.FfnLnBwdIdeal
public import proofs.«01_k».proof.Proof.Gen.FfnLnBwdRefIdeal
public import proofs.«01_k».proof.Proof.Gen.FfnLnBwd.Frame
public import proofs.«01_k».proof.Proof.Gen.FfnLnBwdIdeal.Frame
public import proofs.«01_k».proof.Proof.Gen.MixLnBwd
public import proofs.«01_k».proof.Proof.Gen.MixLnBwdIdeal
public import proofs.«01_k».proof.Proof.Gen.MixLnBwdRefIdeal
public import proofs.«01_k».proof.Proof.Gen.MixLnBwd.Frame
public import proofs.«01_k».proof.Proof.Gen.MixLnBwdIdeal.Frame
public import proofs.«01_k».proof.Proof.Gen.PleHead
public import proofs.«01_k».proof.Proof.Gen.PleHeadIdeal
public import proofs.«01_k».proof.Proof.Gen.PleHeadRefIdeal
public import proofs.«01_k».proof.Proof.Gen.PleHead.Frame
public import proofs.«01_k».proof.Proof.Gen.PleHeadIdeal.Frame
public import proofs.«01_k».proof.Proof.Gen.GdnFwdCall
public import proofs.«01_k».proof.Proof.Gen.GdnFwdCallIdeal
public import proofs.«01_k».proof.Proof.Gen.GdnFwdCall.Frame
public import proofs.«01_k».proof.Proof.Gen.GdnFwdCallIdeal.Frame
public import proofs.«01_k».proof.Proof.Gen.GdnBwdCall
public import proofs.«01_k».proof.Proof.Gen.GdnBwdCallIdeal
public import proofs.«01_k».proof.Proof.Gen.GdnBwdCall.Frame
public import proofs.«01_k».proof.Proof.Gen.GdnBwdCallIdeal.Frame
public import proofs.«01_k».proof.Proof.Gen.SbFwd
public import proofs.«01_k».proof.Proof.Gen.SbFwdIdeal
public import proofs.«01_k».proof.Proof.Gen.SbFwdRefIdeal
public import proofs.«01_k».proof.Proof.Gen.Pre_sb_alive
public import proofs.«01_k».proof.Proof.Gen.MergeFwd
public import proofs.«01_k».proof.Proof.Gen.MergeFwdIdeal
public import proofs.«01_k».proof.Proof.Gen.MergeFwdRefIdeal
public import proofs.«01_k».proof.Proof.Gen.MergeFwd.Frame
public import proofs.«01_k».proof.Proof.Gen.MergeFwdIdeal.Frame
public import proofs.«01_k».proof.Proof.Gen.ConvFwd
public import proofs.«01_k».proof.Proof.Gen.ConvFwdIdeal
public import proofs.«01_k».proof.Proof.Gen.ConvFwdRefIdeal
public import proofs.«01_k».proof.Proof.Gen.ConvFwd.Frame
public import proofs.«01_k».proof.Proof.Gen.ConvFwdIdeal.Frame
public import proofs.«01_k».proof.Proof.Gen.FfnLnFwd
public import proofs.«01_k».proof.Proof.Gen.FfnLnFwdIdeal
public import proofs.«01_k».proof.Proof.Gen.FfnLnFwdRefIdeal
public import proofs.«01_k».proof.Proof.Gen.FfnLnFwd.Frame
public import proofs.«01_k».proof.Proof.Gen.FfnLnFwdIdeal.Frame
public import proofs.«01_k».proof.Proof.Gen.MixLnFwd
public import proofs.«01_k».proof.Proof.Gen.MixLnFwdIdeal
public import proofs.«01_k».proof.Proof.Gen.MixLnFwdRefIdeal
public import proofs.«01_k».proof.Proof.Gen.MixLnFwd.Frame
public import proofs.«01_k».proof.Proof.Gen.MixLnFwdIdeal.Frame
public import proofs.«01_k».proof.Proof.Gen.FfnUp
public import proofs.«01_k».proof.Proof.Gen.FfnUpIdeal
public import proofs.«01_k».proof.Proof.Gen.FfnUpRefIdeal
public import proofs.«01_k».proof.Proof.Gen.FfnUp.Frame
public import proofs.«01_k».proof.Proof.Gen.FfnUpIdeal.Frame
public import proofs.«01_k».proof.Proof.Gen.AdamW
public import proofs.«01_k».proof.Proof.Gen.AdamWIdeal
public import proofs.«01_k».proof.Proof.Gen.AdamWRefIdeal
public import proofs.«01_k».proof.Proof.Gen.AdamW.Frame
public import proofs.«01_k».proof.Proof.Gen.AdamWIdeal.Frame
public import proofs.«01_k».proof.Proof.Gen.MixGates
public import proofs.«01_k».proof.Proof.Gen.MixGatesIdeal
public import proofs.«01_k».proof.Proof.Gen.MixGatesRefIdeal
public import proofs.«01_k».proof.Proof.Gen.MixGates.Frame
public import proofs.«01_k».proof.Proof.Gen.MixGatesIdeal.Frame
public import proofs.«01_k».proof.Proof.Gen.MixInBwd
public import proofs.«01_k».proof.Proof.Gen.MixInBwdIdeal
public import proofs.«01_k».proof.Proof.Gen.MixInBwdRefIdeal
public import proofs.«01_k».proof.Proof.Gen.MixInBwd.Frame
public import proofs.«01_k».proof.Proof.Gen.MixInBwdIdeal.Frame
public import proofs.«01_k».proof.Proof.Gen.MixDw
public import proofs.«01_k».proof.Proof.Gen.MixDwIdeal
public import proofs.«01_k».proof.Proof.Gen.MixDwRefIdeal
public import proofs.«01_k».proof.Proof.Gen.MixDw.Frame
public import proofs.«01_k».proof.Proof.Gen.MixDwIdeal.Frame
public import proofs.«01_k».proof.Proof.Gen.FfnDown
public import proofs.«01_k».proof.Proof.Gen.FfnDownIdeal
public import proofs.«01_k».proof.Proof.Gen.FfnDownRefIdeal
public import proofs.«01_k».proof.Proof.Gen.FfnDown.Frame
public import proofs.«01_k».proof.Proof.Gen.FfnDownIdeal.Frame
public import proofs.«01_k».proof.Proof.Gen.FfnDwOut
public import proofs.«01_k».proof.Proof.Gen.FfnDwOutIdeal
public import proofs.«01_k».proof.Proof.Gen.FfnDwOutRefIdeal
public import proofs.«01_k».proof.Proof.Gen.FfnDwOut.Frame
public import proofs.«01_k».proof.Proof.Gen.FfnDwOutIdeal.Frame
public import proofs.«01_k».proof.Proof.Gen.FfnDwIn
public import proofs.«01_k».proof.Proof.Gen.FfnDwInIdeal
public import proofs.«01_k».proof.Proof.Gen.FfnDwInRefIdeal
public import proofs.«01_k».proof.Proof.Gen.FfnDwIn.Frame
public import proofs.«01_k».proof.Proof.Gen.FfnDwInIdeal.Frame
public import proofs.«01_k».proof.Proof.Gen.FfnInBwd
public import proofs.«01_k».proof.Proof.Gen.FfnInBwdIdeal
public import proofs.«01_k».proof.Proof.Gen.FfnInBwdRefIdeal
public import proofs.«01_k».proof.Proof.Gen.FfnInBwd.Frame
public import proofs.«01_k».proof.Proof.Gen.FfnInBwdIdeal.Frame
public import proofs.«01_k».proof.Proof.Gen.PairAdd
public import proofs.«01_k».proof.Proof.Gen.PairAddIdeal
public import proofs.«01_k».proof.Proof.Gen.PairAddRefIdeal
public import proofs.«01_k».proof.Proof.Gen.PairAdd.Frame
public import proofs.«01_k».proof.Proof.Gen.PairAddIdeal.Frame
public import proofs.«01_k».proof.Proof.Gen.Pre_core_index
public import proofs.«01_k».proof.Proof.Merge
public import proofs.«01_k».proof.Proof.Act
public import proofs.«01_k».proof.Proof.Conv
public import proofs.«01_k».proof.Proof.FrameSbBwd
public import proofs.«01_k».proof.Proof.Sb
public import proofs.«01_k».proof.Proof.FfnLn
public import proofs.«01_k».proof.Proof.MixLn
public import proofs.«01_k».proof.Proof.Ple
public import proofs.«01_k».proof.Proof.FrameSbFwd
public import proofs.«01_k».proof.Proof.Sbf
public import proofs.«01_k».proof.Proof.MergeF
public import proofs.«01_k».proof.Proof.ConvF
public import proofs.«01_k».proof.Proof.FfnLnF
public import proofs.«01_k».proof.Proof.MixLnF
public import proofs.«01_k».proof.Proof.UpF
public import proofs.«01_k».proof.Proof.Adam
public import proofs.«01_k».proof.Proof.Products
public import proofs.«01_k».proof.Proof.Pair
public import Idealize.ShloMosaic.Adequacy
public import Idealize.ShloMosaic.Init

@[expose] public section

noncomputable section

namespace Cert.Proof

open Idealize.ShloMosaic Idealize.SL.Sem

theorem claim : Cert.Claim :=
  ⟨Cert.MergeBwd.Gen.facts,
    Cert.MergeBwdIdeal.Gen.facts,
    Cert.MergeBwdRefIdeal.Gen.facts,
    Cert.ActBwd.Gen.facts,
    Cert.ActBwdIdeal.Gen.facts,
    Cert.ActBwdRefIdeal.Gen.facts,
    Cert.ConvBwd.Gen.facts,
    Cert.ConvBwdIdeal.Gen.facts,
    Cert.ConvBwdRefIdeal.Gen.facts,
    Cert.SbBwd.Gen.facts,
    Cert.SbBwdIdeal.Gen.facts,
    Cert.SbBwdRefIdeal.Gen.facts,
    Cert.FfnLnBwd.Gen.facts,
    Cert.FfnLnBwdIdeal.Gen.facts,
    Cert.FfnLnBwdRefIdeal.Gen.facts,
    Cert.MixLnBwd.Gen.facts,
    Cert.MixLnBwdIdeal.Gen.facts,
    Cert.MixLnBwdRefIdeal.Gen.facts,
    Cert.PleHead.Gen.facts,
    Cert.PleHeadIdeal.Gen.facts,
    Cert.PleHeadRefIdeal.Gen.facts,
    Cert.GdnFwdCall.Gen.facts,
    Cert.GdnFwdCallIdeal.Gen.facts,
    Cert.GdnBwdCall.Gen.facts,
    Cert.GdnBwdCallIdeal.Gen.facts,
    Cert.SbFwd.Gen.facts,
    Cert.SbFwdIdeal.Gen.facts,
    Cert.SbFwdRefIdeal.Gen.facts,
    Cert.MergeFwd.Gen.facts,
    Cert.MergeFwdIdeal.Gen.facts,
    Cert.MergeFwdRefIdeal.Gen.facts,
    Cert.ConvFwd.Gen.facts,
    Cert.ConvFwdIdeal.Gen.facts,
    Cert.ConvFwdRefIdeal.Gen.facts,
    Cert.FfnLnFwd.Gen.facts,
    Cert.FfnLnFwdIdeal.Gen.facts,
    Cert.FfnLnFwdRefIdeal.Gen.facts,
    Cert.MixLnFwd.Gen.facts,
    Cert.MixLnFwdIdeal.Gen.facts,
    Cert.MixLnFwdRefIdeal.Gen.facts,
    Cert.FfnUp.Gen.facts,
    Cert.FfnUpIdeal.Gen.facts,
    Cert.FfnUpRefIdeal.Gen.facts,
    Cert.AdamW.Gen.facts,
    Cert.AdamWIdeal.Gen.facts,
    Cert.AdamWRefIdeal.Gen.facts,
    Cert.MixGates.Gen.facts,
    Cert.MixGatesIdeal.Gen.facts,
    Cert.MixGatesRefIdeal.Gen.facts,
    Cert.MixInBwd.Gen.facts,
    Cert.MixInBwdIdeal.Gen.facts,
    Cert.MixInBwdRefIdeal.Gen.facts,
    Cert.MixDw.Gen.facts,
    Cert.MixDwIdeal.Gen.facts,
    Cert.MixDwRefIdeal.Gen.facts,
    Cert.FfnDown.Gen.facts,
    Cert.FfnDownIdeal.Gen.facts,
    Cert.FfnDownRefIdeal.Gen.facts,
    Cert.FfnDwOut.Gen.facts,
    Cert.FfnDwOutIdeal.Gen.facts,
    Cert.FfnDwOutRefIdeal.Gen.facts,
    Cert.FfnDwIn.Gen.facts,
    Cert.FfnDwInIdeal.Gen.facts,
    Cert.FfnDwInRefIdeal.Gen.facts,
    Cert.FfnInBwd.Gen.facts,
    Cert.FfnInBwdIdeal.Gen.facts,
    Cert.FfnInBwdRefIdeal.Gen.facts,
    Cert.PairAdd.Gen.facts,
    Cert.PairAddIdeal.Gen.facts,
    Cert.PairAddRefIdeal.Gen.facts,
    Cert.Pre_act_finite.Gen.facts,
    Cert.Pre_conv_finite.Gen.facts,
    Cert.Pre_sb_finite.Gen.facts,
    Cert.Pre_sb_alive.Gen.facts,
    Cert.Pre_core_index.Gen.facts,
    fun m ρ _ => Cert.MergeBwd.Gen.frame m ρ,
    fun m ρ _ => Cert.MergeBwdIdeal.Gen.frame m ρ,
    Cert.MergeBwdRefIdeal.Read.frame,
    fun m ρ _ => Cert.ActBwd.Gen.frame m ρ,
    fun m ρ _ => Cert.ActBwdIdeal.Gen.frame m ρ,
    fun m ρ _ => Cert.ActBwdIdeal.Gen.frame m ρ,
    Cert.ActBwdRefIdeal.Read.frame,
    fun m ρ _ => Cert.ActBwdRefIdeal.Read.frame m ρ trivial,
    fun m ρ _ => Cert.ConvBwd.Gen.frame m ρ,
    fun m ρ _ => Cert.ConvBwdIdeal.Gen.frame m ρ,
    fun m ρ _ => Cert.ConvBwdIdeal.Gen.frame m ρ,
    Cert.ConvBwdRefIdeal.Read.frame,
    fun m ρ _ => Cert.ConvBwdRefIdeal.Read.frame m ρ trivial,
    Cert.SbBwd.Body.frame,
    Cert.SbBwdIdeal.Body.frame,
    fun m ρ _ => Cert.SbBwdIdeal.Body.frame m ρ trivial,
    Cert.SbBwdRefIdeal.Read.frame,
    fun m ρ _ => Cert.SbBwdRefIdeal.Read.frame m ρ trivial,
    fun m ρ _ => Cert.FfnLnBwd.Gen.frame m ρ,
    fun m ρ _ => Cert.FfnLnBwdIdeal.Gen.frame m ρ,
    Cert.FfnLnBwdRefIdeal.Read.frame,
    fun m ρ _ => Cert.MixLnBwd.Gen.frame m ρ,
    fun m ρ _ => Cert.MixLnBwdIdeal.Gen.frame m ρ,
    Cert.MixLnBwdRefIdeal.Read.frame,
    fun m ρ _ => Cert.PleHead.Gen.frame m ρ,
    fun m ρ _ => Cert.PleHeadIdeal.Gen.frame m ρ,
    Cert.PleHeadRefIdeal.Read.frame,
    fun m ρ _ => Cert.GdnFwdCall.Gen.frame m ρ,
    fun m ρ _ => Cert.GdnFwdCallIdeal.Gen.frame m ρ,
    fun m ρ _ => Cert.GdnBwdCall.Gen.frame m ρ,
    fun m ρ _ => Cert.GdnBwdCallIdeal.Gen.frame m ρ,
    Cert.SbFwd.Body.frame,
    Cert.SbFwdIdeal.Body.frame,
    fun m ρ _ => Cert.SbFwdIdeal.Body.frame m ρ trivial,
    Cert.SbFwdRefIdeal.Read.frame,
    fun m ρ _ => Cert.SbFwdRefIdeal.Read.frame m ρ trivial,
    fun m ρ _ => Cert.MergeFwd.Gen.frame m ρ,
    fun m ρ _ => Cert.MergeFwdIdeal.Gen.frame m ρ,
    Cert.MergeFwdRefIdeal.Read.frame,
    fun m ρ _ => Cert.ConvFwd.Gen.frame m ρ,
    fun m ρ _ => Cert.ConvFwdIdeal.Gen.frame m ρ,
    Cert.ConvFwdRefIdeal.Read.frame,
    fun m ρ _ => Cert.FfnLnFwd.Gen.frame m ρ,
    fun m ρ _ => Cert.FfnLnFwdIdeal.Gen.frame m ρ,
    Cert.FfnLnFwdRefIdeal.Read.frame,
    fun m ρ _ => Cert.MixLnFwd.Gen.frame m ρ,
    fun m ρ _ => Cert.MixLnFwdIdeal.Gen.frame m ρ,
    Cert.MixLnFwdRefIdeal.Read.frame,
    fun m ρ _ => Cert.FfnUp.Gen.frame m ρ,
    fun m ρ _ => Cert.FfnUpIdeal.Gen.frame m ρ,
    Cert.FfnUpRefIdeal.Read.frame,
    fun m ρ _ => Cert.AdamW.Gen.frame m ρ,
    fun m ρ _ => Cert.AdamWIdeal.Gen.frame m ρ,
    Cert.AdamWRefIdeal.Read.frame,
    fun m ρ _ => Cert.MixGates.Gen.frame m ρ,
    fun m ρ _ => Cert.MixGatesIdeal.Gen.frame m ρ,
    Cert.MixGatesRefIdeal.Read.frame,
    fun m ρ _ => Cert.MixInBwd.Gen.frame m ρ,
    fun m ρ _ => Cert.MixInBwdIdeal.Gen.frame m ρ,
    Cert.MixInBwdRefIdeal.Read.frame,
    fun m ρ _ => Cert.MixDw.Gen.frame m ρ,
    fun m ρ _ => Cert.MixDwIdeal.Gen.frame m ρ,
    Cert.MixDwRefIdeal.Read.frame,
    fun m ρ _ => Cert.FfnDown.Gen.frame m ρ,
    fun m ρ _ => Cert.FfnDownIdeal.Gen.frame m ρ,
    Cert.FfnDownRefIdeal.Read.frame,
    fun m ρ _ => Cert.FfnDwOut.Gen.frame m ρ,
    fun m ρ _ => Cert.FfnDwOutIdeal.Gen.frame m ρ,
    Cert.FfnDwOutRefIdeal.Read.frame,
    fun m ρ _ => Cert.FfnDwIn.Gen.frame m ρ,
    fun m ρ _ => Cert.FfnDwInIdeal.Gen.frame m ρ,
    Cert.FfnDwInRefIdeal.Read.frame,
    fun m ρ _ => Cert.FfnInBwd.Gen.frame m ρ,
    fun m ρ _ => Cert.FfnInBwdIdeal.Gen.frame m ρ,
    Cert.FfnInBwdRefIdeal.Read.frame,
    fun m ρ h => Cert.PairAdd.Gen.frame m ρ (Cert.PairAdd.Gen.ok_of_pre m h),
    fun m ρ h => Cert.PairAddIdeal.Gen.frame m ρ (Cert.PairAddIdeal.Gen.ok_of_pre m h),
    Cert.PairAddRefIdeal.Read.frame,
    fun m ρ _ => Cert.PairAddRefIdeal.Read.frame m ρ trivial,
    trivial,
    Cert.MergeBwdIdeal.Value.algebraic,
    trivial,
    Cert.ActBwdIdeal.Value.algebraic,
    trivial,
    Cert.ConvBwdIdeal.Value.algebraic,
    trivial,
    Cert.SbBwdIdeal.Value.algebraic,
    trivial,
    Cert.FfnLnBwdIdeal.Value.algebraic,
    trivial,
    Cert.MixLnBwdIdeal.Value.algebraic,
    trivial,
    Cert.PleHeadIdeal.Value.algebraic,
    trivial,
    trivial,
    trivial,
    Cert.SbFwdIdeal.Value.algebraic,
    trivial,
    Cert.MergeFwdIdeal.Value.algebraic,
    trivial,
    Cert.ConvFwdIdeal.Value.algebraic,
    trivial,
    Cert.FfnLnFwdIdeal.Value.algebraic,
    trivial,
    Cert.MixLnFwdIdeal.Value.algebraic,
    trivial,
    Cert.FfnUpIdeal.Value.algebraic,
    trivial,
    Cert.AdamWIdeal.Value.algebraic,
    trivial,
    Cert.MixGatesIdeal.Value.algebraic,
    trivial,
    Cert.MixInBwdIdeal.Value.algebraic,
    trivial,
    Cert.MixDwIdeal.Value.algebraic,
    trivial,
    Cert.FfnDownIdeal.Value.algebraic,
    trivial,
    Cert.FfnDwOutIdeal.Value.algebraic,
    trivial,
    Cert.FfnDwInIdeal.Value.algebraic,
    trivial,
    Cert.FfnInBwdIdeal.Value.algebraic,
    trivial,
    Cert.PairAddIdeal.Value.algebraic⟩

end Cert.Proof

end
